-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_tables : Cert.Pre_tables.Facts] (m : (ℓ : Loc Cert.Kernel8.nD Cert.Kernel8.τ Cert.Kernel8.sig) → Buf (Elt Bits) ℓ) : Prop :=
  ∀ c : Dev Cert.Kernel8.nD,
    (Cert.Pre_tables.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6))) = (fun _ => 1#1)

def Pre_Kernel8Ideal [hPre_tables : Cert.Pre_tables.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_tables.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal [hPre_tables : Cert.Pre_tables.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_tables.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def Pre_Kernel9 [hPre_tables : Cert.Pre_tables.Facts] (m : (ℓ : Loc Cert.Kernel9.nD Cert.Kernel9.τ Cert.Kernel9.sig) → Buf (Elt Bits) ℓ) : Prop :=
  ∀ c : Dev Cert.Kernel9.nD,
    (Cert.Pre_tables.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6))) = (fun _ => 1#1)

def Pre_Kernel9Ideal [hPre_tables : Cert.Pre_tables.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_tables.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal [hPre_tables : Cert.Pre_tables.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_tables.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 [hPre_tables : Cert.Pre_tables.Facts] (m : (ℓ : Loc Cert.Kernel10.nD Cert.Kernel10.τ Cert.Kernel10.sig) → Buf (Elt Bits) ℓ) : Prop :=
  ∀ c : Dev Cert.Kernel10.nD,
    (Cert.Pre_tables.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5)) (m ((c.tc : Thread Cert.Kernel10.nD Cert.Kernel10.τ).loc Cert.Kernel10.main_arg6))) = (fun _ => 1#1)

def Pre_Kernel10Ideal [hPre_tables : Cert.Pre_tables.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_tables.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal [hPre_tables : Cert.Pre_tables.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_tables.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def Pre_Kernel11 [hPre_tables : Cert.Pre_tables.Facts] (m : (ℓ : Loc Cert.Kernel11.nD Cert.Kernel11.τ Cert.Kernel11.sig) → Buf (Elt Bits) ℓ) : Prop :=
  ∀ c : Dev Cert.Kernel11.nD,
    (Cert.Pre_tables.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6))) = (fun _ => 1#1)

def Pre_Kernel11Ideal [hPre_tables : Cert.Pre_tables.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_tables.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))) = (fun _ => 1#1)

def Pre_Reference11Ideal [hPre_tables : Cert.Pre_tables.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_tables.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 [hPre_context_tables : Cert.Pre_context_tables.Facts] (m : (ℓ : Loc Cert.Kernel14.nD Cert.Kernel14.τ Cert.Kernel14.sig) → Buf (Elt Bits) ℓ) : Prop :=
  ∀ c : Dev Cert.Kernel14.nD,
    (Cert.Pre_context_tables.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5)) (m ((c.tc : Thread Cert.Kernel14.nD Cert.Kernel14.τ).loc Cert.Kernel14.main_arg6))) = (fun _ => 1#1)

def Pre_Kernel14Ideal [hPre_context_tables : Cert.Pre_context_tables.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_context_tables.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6))) = (fun _ => 1#1)

def Pre_Reference14Ideal [hPre_context_tables : Cert.Pre_context_tables.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_context_tables.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6))) = (fun _ => 1#1)

def Pre_Kernel15 [hPre_context_tables : Cert.Pre_context_tables.Facts] (m : (ℓ : Loc Cert.Kernel15.nD Cert.Kernel15.τ Cert.Kernel15.sig) → Buf (Elt Bits) ℓ) : Prop :=
  ∀ c : Dev Cert.Kernel15.nD,
    (Cert.Pre_context_tables.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5)) (m ((c.tc : Thread Cert.Kernel15.nD Cert.Kernel15.τ).loc Cert.Kernel15.main_arg6))) = (fun _ => 1#1)

def Pre_Kernel15Ideal [hPre_context_tables : Cert.Pre_context_tables.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_context_tables.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6))) = (fun _ => 1#1)

def Pre_Reference15Ideal [hPre_context_tables : Cert.Pre_context_tables.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_context_tables.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] [hPre_tables : Cert.Pre_tables.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] [hPre_tables : Cert.Pre_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] [hPre_tables : Cert.Pre_tables.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] [hPre_tables : Cert.Pre_tables.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] [hPre_tables : Cert.Pre_tables.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] [hPre_tables : Cert.Pre_tables.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] [hPre_tables : Cert.Pre_tables.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] [hPre_tables : Cert.Pre_tables.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] [hPre_tables : Cert.Pre_tables.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] [hPre_tables : Cert.Pre_tables.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] [hPre_tables : Cert.Pre_tables.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] [hPre_tables : Cert.Pre_tables.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] [hPre_context_tables : Cert.Pre_context_tables.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] [hPre_context_tables : Cert.Pre_context_tables.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] [hPre_context_tables : Cert.Pre_context_tables.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] [hPre_context_tables : Cert.Pre_context_tables.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] [hPre_context_tables : Cert.Pre_context_tables.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] [hPre_context_tables : Cert.Pre_context_tables.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] [hPre_tables : Cert.Pre_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] [hPre_tables : Cert.Pre_tables.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v60) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] [hPre_tables : Cert.Pre_tables.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v60) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] [hPre_tables : Cert.Pre_tables.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v73) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v99) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_context_tables : Cert.Pre_context_tables.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v60) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] [hPre_context_tables : Cert.Pre_context_tables.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v60) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v39) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_tables : Cert.Pre_tables.Facts) (hPre_context_tables : Cert.Pre_context_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_tables := hPre_tables)
    ∧ quiescent_Kernel8Ideal (hKernel8Ideal := hKernel8Ideal) (hPre_tables := hPre_tables)
    ∧ quiescent_Reference8Ideal (hReference8Ideal := hReference8Ideal) (hPre_tables := hPre_tables)
    ∧ quiescent_Kernel9 (hKernel9 := hKernel9) (hPre_tables := hPre_tables)
    ∧ quiescent_Kernel9Ideal (hKernel9Ideal := hKernel9Ideal) (hPre_tables := hPre_tables)
    ∧ quiescent_Reference9Ideal (hReference9Ideal := hReference9Ideal) (hPre_tables := hPre_tables)
    ∧ quiescent_Kernel10 (hKernel10 := hKernel10) (hPre_tables := hPre_tables)
    ∧ quiescent_Kernel10Ideal (hKernel10Ideal := hKernel10Ideal) (hPre_tables := hPre_tables)
    ∧ quiescent_Reference10Ideal (hReference10Ideal := hReference10Ideal) (hPre_tables := hPre_tables)
    ∧ quiescent_Kernel11 (hKernel11 := hKernel11) (hPre_tables := hPre_tables)
    ∧ quiescent_Kernel11Ideal (hKernel11Ideal := hKernel11Ideal) (hPre_tables := hPre_tables)
    ∧ quiescent_Reference11Ideal (hReference11Ideal := hReference11Ideal) (hPre_tables := hPre_tables)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14) (hPre_context_tables := hPre_context_tables)
    ∧ quiescent_Kernel14Ideal (hKernel14Ideal := hKernel14Ideal) (hPre_context_tables := hPre_context_tables)
    ∧ quiescent_Reference14Ideal (hReference14Ideal := hReference14Ideal) (hPre_context_tables := hPre_context_tables)
    ∧ quiescent_Kernel15 (hKernel15 := hKernel15) (hPre_context_tables := hPre_context_tables)
    ∧ quiescent_Kernel15Ideal (hKernel15Ideal := hKernel15Ideal) (hPre_context_tables := hPre_context_tables)
    ∧ quiescent_Reference15Ideal (hReference15Ideal := hReference15Ideal) (hPre_context_tables := hPre_context_tables)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_tables := hPre_tables)
    ∧ preserves_Kernel9_Kernel9Ideal
    ∧ algebraic_Kernel9Ideal_Reference9Ideal (hKernel9Ideal := hKernel9Ideal) (hReference9Ideal := hReference9Ideal) (hPre_tables := hPre_tables)
    ∧ preserves_Kernel10_Kernel10Ideal
    ∧ algebraic_Kernel10Ideal_Reference10Ideal (hKernel10Ideal := hKernel10Ideal) (hReference10Ideal := hReference10Ideal) (hPre_tables := hPre_tables)
    ∧ preserves_Kernel11_Kernel11Ideal
    ∧ algebraic_Kernel11Ideal_Reference11Ideal (hKernel11Ideal := hKernel11Ideal) (hReference11Ideal := hReference11Ideal) (hPre_tables := hPre_tables)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal) (hPre_context_tables := hPre_context_tables)
    ∧ preserves_Kernel15_Kernel15Ideal
    ∧ algebraic_Kernel15Ideal_Reference15Ideal (hKernel15Ideal := hKernel15Ideal) (hReference15Ideal := hReference15Ideal) (hPre_context_tables := hPre_context_tables)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_context_tables.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩

class Facts : Prop where
  bcast_S_S48 : S_.BroadcastsInDim S48 (![] : Fin 0 → Fin S48.rank)
  reducesTo_S48_S_d0 : S48.ReducesTo [0] S_
  h_S_ : 0 < S_.numel

variable [Facts]

def fn {F : FTy → Type} [FloatOps F] (main_arg0 : IVec S48 32) (main_arg1 : IVec S48 32) (main_arg2 : IVec S12288x2048 32) (main_arg3 : FVec F S4x32x4096x512 .f32) (main_arg4 : FVec F S4x32x512 .f32) (main_arg5 : FVec F S4x32x256x4096 .f32) (main_arg6 : FVec F S4x32x4096 .f32) : IVec S_ 1 :=
  let main_c : IVec S_ 32 := constantI S_ 32 0#32
  let main_v0 : IVec S48 32 := broadcastInDim S48 ![] bcast_S_S48 main_c
  let main_v1 : IVec S48 1 := cmpi .sge main_arg0 main_v0
  let main_c_0 : IVec S_ 32 := constantI S_ 32 32#32
  let main_v2 : IVec S48 32 := broadcastInDim S48 ![] bcast_S_S48 main_c_0
  let main_v3 : IVec S48 1 := cmpi .slt main_arg0 main_v2
  let main_v4 : IVec S48 1 := andi main_v1 main_v3
  let main_c_1 : IVec S_ 32 := constantI S_ 32 0#32
  let main_v5 : IVec S48 32 := broadcastInDim S48 ![] bcast_S_S48 main_c_1
  let main_v6 : IVec S48 1 := cmpi .sge main_arg1 main_v5
  let main_v7 : IVec S48 1 := andi main_v4 main_v6
  let main_c_2 : IVec S_ 1 := constantI S_ 1 1#1
  let main_v8 : IVec S_ 1 := (fun x v => Host.reduce IntOp.andi x v reducesTo_S48_S_d0 h_S_) main_v7 main_c_2
  main_v8
-- ==== Pre_tables.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S288 32) (main_arg2 : IVec S73728x2048 32) (main_arg3 : FVec F S4x32x4096x512 .f32) (main_arg4 : FVec F S4x32x512 .f32) (main_arg5 : FVec F S4x32x256x4096 .f32) (main_arg6 : FVec F S4x32x4096 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 0#32
  let main_v5 : IVec S288 32 := broadcastInDim S288 ![] bcast_S_S288 main_c_1
  let main_v6 : IVec S288 1 := cmpi .sge main_arg1 main_v5
  let main_v7 : IVec S288 1 := andi main_v4 main_v6
  let main_c_2 : IVec S_ 1 := constantI S_ 1 1#1
  let main_v8 : IVec S_ 1 := (fun x v => Host.reduce IntOp.andi x v reducesTo_S288_S_d0 h_S_) main_v7 main_c_2
  main_v8
-- ==== Kernel.lean ====
abbrev S4x128 : Shape := ⟨2, ![4, 128]⟩
abbrev S256 : Shape := ⟨1, ![256]⟩
abbrev S4x256x12288 : Shape := ⟨3, ![4, 256, 12288]⟩
abbrev S4x4096x12288 : Shape := ⟨3, ![4, 4096, 12288]⟩
abbrev S1x256 : Shape := ⟨2, ![1, 256]⟩
abbrev S4x4096x4096 : Shape := ⟨3, ![4, 4096, 4096]⟩
abbrev S1x4096x256 : Shape := ⟨3, ![1, 4096, 256]⟩
abbrev S1x256x256 : Shape := ⟨3, ![1, 256, 256]⟩
abbrev S4352x256 : Shape := ⟨2, ![4352, 256]⟩
abbrev S256x256 : Shape := ⟨2, ![256, 256]⟩
abbrev S4096x256 : Shape := ⟨2, ![4096, 256]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S4352x128 : Shape := ⟨2, ![4352, 128]⟩
abbrev S256x4352 : Shape := ⟨2, ![256, 4352]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S4x128, .f32⟩
  | .hbm, ⟨1, _⟩ => ⟨S256, .f32⟩
  | .hbm, ⟨2, _⟩ => ⟨S4x256x12288, .bf16⟩
  | .hbm, ⟨3, _⟩ => ⟨S4x4096x12288, .bf16⟩
  | .hbm, ⟨4, _⟩ => ⟨S1x256, .f32⟩
  | .hbm, ⟨5, _⟩ => ⟨S4x4096x4096, .bf16⟩
  | .local _ .vmem, ⟨0, _⟩ => ⟨S4x128, .f32⟩
  | .local _ .vmem, ⟨1, _⟩ => ⟨S1x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S4352x256, .bf16⟩
  | .local _ .vmem, ⟨15, _⟩ => ⟨S4352x256, .bf16⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c16_i32 : BitVec 32 := 16#32
  let v36 : BitVec 32 := Scalar.addi c0_i32 c16_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  v37
def k0_off1 (k0_t1 : Fin k0_t1_loop.trips) : Fin 3 → Nat :=
  let c0_23 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let v39 : Index := Scalar.indexCast v38
  let c0_24 : Index := 0#32
  ![0, v39.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
abbrev S4x128 : Shape := ⟨2, ![4, 128]⟩
abbrev S256 : Shape := ⟨1, ![256]⟩
abbrev S4x256x12288 : Shape := ⟨3, ![4, 256, 12288]⟩
abbrev S4x4096x12288 : Shape := ⟨3, ![4, 4096, 12288]⟩
abbrev S1x256 : Shape := ⟨2, ![1, 256]⟩
abbrev S4x4096x4096 : Shape := ⟨3, ![4, 4096, 4096]⟩
abbrev S1x4096x256 : Shape := ⟨3, ![1, 4096, 256]⟩
abbrev S1x256x256 : Shape := ⟨3, ![1, 256, 256]⟩
abbrev S4352x256 : Shape := ⟨2, ![4352, 256]⟩
abbrev S256x256 : Shape := ⟨2, ![256, 256]⟩
abbrev S4096x256 : Shape := ⟨2, ![4096, 256]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S4352x128 : Shape := ⟨2, ![4352, 128]⟩
abbrev S256x4352 : Shape := ⟨2, ![256, 4352]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S4x128, .f32⟩
  | .hbm, ⟨1, _⟩ => ⟨S256, .f32⟩
  | .hbm, ⟨2, _⟩ => ⟨S4x256x12288, .bf16⟩
  | .hbm, ⟨3, _⟩ => ⟨S4x4096x12288, .bf16⟩
  | .hbm, ⟨4, _⟩ => ⟨S1x256, .f32⟩
  | .hbm, ⟨5, _⟩ => ⟨S4x4096x4096, .bf16⟩
  | .local _ .vmem, ⟨0, _⟩ => ⟨S4x128, .f32⟩
  | .local _ .vmem, ⟨1, _⟩ => ⟨S1x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S4352x256, .bf16⟩
  | .local _ .vmem, ⟨15, _⟩ => ⟨S4352x256, .bf16⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c16_i32 : BitVec 32 := 16#32
  let v36 : BitVec 32 := Scalar.addi c0_i32 c16_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  v37
def k0_off1 (k0_t1 : Fin k0_t1_loop.trips) : Fin 3 → Nat :=
  let c0_23 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let v39 : Index := Scalar.indexCast v38
  let c0_24 : Index := 0#32
  ![0, v39.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x128 : Shape := ⟨2, ![4, 128]⟩
abbrev S256 : Shape := ⟨1, ![256]⟩
abbrev S4x256x12288 : Shape := ⟨3, ![4, 256, 12288]⟩
abbrev S4x4096x12288 : Shape := ⟨3, ![4, 4096, 12288]⟩
abbrev S4x4096x4096 : Shape := ⟨3, ![4, 4096, 4096]⟩
abbrev S4x4096x16x2x128 : Shape := ⟨5, ![4, 4096, 16, 2, 128]⟩
abbrev S4x4096x16x256 : Shape := ⟨4, ![4, 4096, 16, 256]⟩
abbrev S4x256x4096 : Shape := ⟨3, ![4, 256, 4096]⟩
abbrev S4x256x16x2x128 : Shape := ⟨5, ![4, 256, 16, 2, 128]⟩
abbrev S4x256x16x256 : Shape := ⟨4, ![4, 256, 16, 256]⟩
abbrev S1x128 : Shape := ⟨2, ![1, 128]⟩
abbrev S128 : Shape := ⟨1, ![128]⟩
abbrev S_ : Shape := ⟨0, ![]⟩
abbrev S4x4352x16x2x128 : Shape := ⟨5, ![4, 4352, 16, 2, 128]⟩
abbrev S4x4352x16x256 : Shape := ⟨4, ![4, 4352, 16, 256]⟩
abbrev S4x16x2x4096x4352 : Shape := ⟨5, ![4, 16, 2, 4096, 4352]⟩
abbrev S4x16x2x4096 : Shape := ⟨4, ![4, 16, 2, 4096]⟩
abbrev S4x16x2x4096x1 : Shape := ⟨5, ![4, 16, 2, 4096, 1]⟩
abbrev S4x16x1x4096x4352 : Shape := ⟨5, ![4, 16, 1, 4096, 4352]⟩
abbrev S4x16x4096x4352 : Shape := ⟨4, ![4, 16, 4096, 4352]⟩
abbrev S4x16x256x4096 : Shape := ⟨4, ![4, 16, 256, 4096]⟩
abbrev S4x4096x16 : Shape := ⟨3, ![4, 4096, 16]⟩
abbrev S4x4096x16x1 : Shape := ⟨4, ![4, 4096, 16, 1]⟩
abbrev S1x1x1x256 : Shape := ⟨4, ![1, 1, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S256, .f32⟩
  | .hbm, ⟨2, _⟩ => ⟨S4x256x12288, .bf16⟩
  | .hbm, ⟨3, _⟩ => ⟨S4x4096x12288, .bf16⟩
  | .hbm, ⟨4, _⟩ => ⟨S4x4096x12288, .f32⟩
  | .hbm, ⟨5, _⟩ => ⟨S4x4096x4096, .f32⟩
  | .hbm, ⟨6, _⟩ => ⟨S4x4096x16x2x128, .f32⟩
  | .hbm, ⟨7, _⟩ => ⟨S4x4096x4096, .f32⟩
  | .hbm, ⟨8, _⟩ => ⟨S4x4096x16x2x128, .f32⟩
  | .hbm, ⟨9, _⟩ => ⟨S4x4096x4096, .f32⟩
  | .hbm, ⟨10, _⟩ => ⟨S4x4096x16x256, .f32⟩
  | .hbm, ⟨11, _⟩ => ⟨S4x256x12288, .f32⟩
  | .hbm, ⟨12, _⟩ => ⟨S4x256x4096, .f32⟩
  | .hbm, ⟨13, _⟩ => ⟨S4x256x16x2x128, .f32⟩
  | .hbm, ⟨14, _⟩ => ⟨S4x256x4096, .f32⟩
  | .hbm, ⟨15, _⟩ => ⟨S4x256x16x2x128, .f32⟩
  | .hbm, ⟨16, _⟩ => ⟨S4x256x4096, .f32⟩
  | .hbm, ⟨17, _⟩ => ⟨S4x256x16x256, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x4352x16x2x128, .f32⟩
  | .hbm, ⟨38, _⟩ => ⟨S4x4352x16x256, .f32⟩
  | .hbm, ⟨39, _⟩ => ⟨S_, .f32⟩
  | .hbm, ⟨40, _⟩ => ⟨S_, .f32⟩
  | .hbm, ⟨41, _⟩ => ⟨S4x4096x16x2x128, .f32⟩
  | .hbm, ⟨42, _⟩ => ⟨S4x4096x16x2x128, .f32⟩
  | .hbm, ⟨43, _⟩ => ⟨S4x16x2x4096x4352, .f32⟩
  | .hbm, ⟨44, _⟩ => ⟨S_, .f32⟩
  | .hbm, ⟨45, _⟩ => ⟨S4x16x2x4096, .f32⟩
  | .hbm, ⟨46, _⟩ => ⟨S4x16x2x4096x1, .f32⟩
  | .hbm, ⟨47, _⟩ => ⟨S4x16x2x4096x4352, .f32⟩
  | .hbm, ⟨48, _⟩ => ⟨S4x16x2x4096x4352, .f32⟩
  | .hbm, ⟨49, _⟩ => ⟨S4x16x2x4096x4352, .f32⟩
  | .hbm, ⟨50, _⟩ => ⟨S_, .f32⟩
  | .hbm, ⟨51, _⟩ => ⟨S4x16x2x4096, .f32⟩
  | .hbm, ⟨52, _⟩ => ⟨S4x16x2x4096x1, .f32⟩
  | .hbm, ⟨53, _⟩ => ⟨S_, .f32⟩
  | .hbm, ⟨54, _⟩ => ⟨S4x16x2x4096x1, .f32⟩
  | .hbm, ⟨55, _⟩ => ⟨S4x16x2x4096x1, .f32⟩
  | .hbm, ⟨56, _⟩ => ⟨S4x16x2x4096x4352, .f32⟩
  | .hbm, ⟨57, _⟩ => ⟨S4x16x2x4096x4352, .f32⟩
  | .hbm, ⟨58, _⟩ => ⟨S4x16x1x4096x4352, .f32⟩
  | .hbm, ⟨59, _⟩ => ⟨S4x16x4096x4352, .f32⟩
  | .hbm, ⟨60, _⟩ => ⟨S4x16x1x4096x4352, .f32⟩
  | .hbm, ⟨61, _⟩ => ⟨S4x16x4096x4352, .f32⟩
  | .hbm, ⟨62, _⟩ => ⟨S4x16x4096x4352, .f32⟩
  | .hbm, ⟨63, _⟩ => ⟨S4x16x4096x4352, .f32⟩
  | .hbm, ⟨64, _⟩ => ⟨S4x16x4096x4352, .f32⟩
  | .hbm, ⟨65, _⟩ => ⟨S4x16x256x4096, .f32⟩
  | .hbm, ⟨66, _⟩ => ⟨S4x4096x16x256, .f32⟩
  | .hbm, ⟨67, _⟩ => ⟨S4x4096x16x256, .f32⟩
  | .hbm, ⟨68, _⟩ => ⟨S_, .f32⟩
  | .hbm, ⟨69, _⟩ => ⟨S4x4096x16, .f32⟩
  | .hbm, ⟨70, _⟩ => ⟨S4x4096x16x1, .f32⟩
  | .hbm, ⟨71, _⟩ => ⟨S_, .f32⟩
  | .hbm, ⟨72, _⟩ => ⟨S4x4096x16x1, .f32⟩
  | .hbm, ⟨73, _⟩ => ⟨S4x4096x16x1, .f32⟩
  | .hbm, ⟨74, _⟩ => ⟨S_, .f32⟩
  | .hbm, ⟨75, _⟩ => ⟨S4x4096x16x1, .f32⟩
  | .hbm, ⟨76, _⟩ => ⟨S4x4096x16x1, .f32⟩
  | .hbm, ⟨77, _⟩ => ⟨S4x4096x16x1, .f32⟩
  | .hbm, ⟨78, _⟩ => ⟨S4x4096x16x256, .f32⟩
  | .hbm, ⟨79, _⟩ => ⟨S4x4096x16x256, .f32⟩
  | .hbm, ⟨80, _⟩ => ⟨S1x1x1x256, .f32⟩
  | .hbm, ⟨81, _⟩ => ⟨S4x4096x16x256, .f32⟩
  | .hbm, ⟨82, _⟩ => ⟨S4x4096x16x256, .f32⟩
  | .hbm, ⟨83, _⟩ => ⟨S_, .f32⟩
  | .hbm, ⟨84, _⟩ => ⟨S4x4096x16x256, .f32⟩
  | .hbm, ⟨85, _⟩ => ⟨S4x4096x16x256, .f32⟩
  | .hbm, ⟨86, _⟩ => ⟨S4x4096x4096, .f32⟩
  | .hbm, ⟨87, _⟩ => ⟨S4x4096x4096, .bf16⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Kernel2.lean ====
abbrev S4x256x6144 : Shape := ⟨3, ![4, 256, 6144]⟩
abbrev S4x4096x6144 : Shape := ⟨3, ![4, 4096, 6144]⟩
abbrev S4x4096x4096 : Shape := ⟨3, ![4, 4096, 4096]⟩
abbrev S1x4096x512 : Shape := ⟨3, ![1, 4096, 512]⟩
abbrev S1x256x128 : Shape := ⟨3, ![1, 256, 128]⟩
abbrev S1x4096x128 : Shape := ⟨3, ![1, 4096, 128]⟩
abbrev S4352x128 : Shape := ⟨2, ![4352, 128]⟩
abbrev S256x128 : Shape := ⟨2, ![256, 128]⟩
abbrev S4096x128 : Shape := ⟨2, ![4096, 128]⟩
abbrev S256x4352 : Shape := ⟨2, ![256, 4352]⟩
abbrev S256 : Shape := ⟨1, ![256]⟩
abbrev S256x1 : Shape := ⟨2, ![256, 1]⟩

abbrev nBuf : Space → Nat
  | .hbm => 3
  | .vmem => 14
  | .smem => 0
  | _ => 0

abbrev bufTy : (tb : Table) → Fin (tcTables nBuf tb) → BufTy
  | .hbm, ⟨0, _⟩ => ⟨S4x256x6144, .bf16⟩
  | .hbm, ⟨1, _⟩ => ⟨S4x4096x6144, .bf16⟩
  | .hbm, ⟨2, _⟩ => ⟨S4x4096x4096, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x512, .bf16⟩
  | .local _ .vmem, ⟨11, _⟩ => ⟨S1x4096x512, .bf16⟩
  | .local _ .vmem, ⟨12, _⟩ => ⟨S4352x128, .bf16⟩
  | .local _ .vmem, ⟨13, _⟩ => ⟨S4352x128, .bf16⟩
  | _, _ => ⟨S4x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  v21
def k0_off1 (k0_t1 : Fin k0_t1_loop.trips) : Fin 3 → Nat :=
  let c0_19 : Index := 0#32
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  let v22 : BitVec 32 := v21
  let v23 : Index := Scalar.indexCast v22
  let c0_20 : Index := 0#32
  ![0, v23.toNat, 0]
def k0_off2 (k0_t1 : Fin k0_t1_loop.trips) : Fin 3 → Nat :=
  let c0_31 : Index := 0#32
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  let v22 : BitVec 32 := v21
  let v47 : Index := Scalar.indexCast v22
  let c128 : Index := 128#32
  ![0, v47.toNat, 128]
def k0_off3 (k0_t1 : Fin k0_t1_loop.trips) : Fin 3 → Nat :=
  let c0_43 : Index := 0#32
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  let v22 : BitVec 32 := v21
  let v71 : Index := Scalar.indexCast v22
  let c256_44 : Index := 256#32
  ![0, v71.toNat, 256]
def k0_off4 (k0_t1 : Fin k0_t1_loop.trips) : Fin 3 → Nat :=
  let c0_56 : Index := 0#32
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  let v22 : BitVec 32 := v21
  let v95 : Index := Scalar.indexCast v22
  let c384 : Index := 384#32
  ![0, v95.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x256x6144 : Shape := ⟨3, ![4, 256, 6144]⟩
abbrev S4x4096x6144 : Shape := ⟨3, ![4, 4096, 6144]⟩
abbrev S4x4096x4096 : Shape := ⟨3, ![4, 4096, 4096]⟩
abbrev S4x4096x8x4x128 : Shape := ⟨5, ![4, 4096, 8, 4, 128]⟩
abbrev S4x4096x1024 : Shape := ⟨3, ![4, 4096, 1024]⟩
abbrev S4x4096x8x128 : Shape := ⟨4, ![4, 4096, 8, 128]⟩
abbrev S4x256x4096 : Shape := ⟨3, ![4, 256, 4096]⟩
abbrev S4x256x8x4x128 : Shape := ⟨5, ![4, 256, 8, 4, 128]⟩
abbrev S4x256x1024 : Shape := ⟨3, ![4, 256, 1024]⟩
abbrev S4x256x8x128 : Shape := ⟨4, ![4, 256, 8, 128]⟩
abbrev S4x4352x8x128 : Shape := ⟨4, ![4, 4352, 8, 128]⟩
abbrev S_ : Shape := ⟨0, ![]⟩
abbrev S4x8x4352x4096x4 : Shape := ⟨5, ![4, 8, 4352, 4096, 4]⟩
abbrev S4x8x4x4096x4352 : Shape := ⟨5, ![4, 8, 4, 4096, 4352]⟩
abbrev S4x8x4x4096 : Shape := ⟨4, ![4, 8, 4, 4096]⟩
abbrev S4x8x4x4096x1 : Shape := ⟨5, ![4, 8, 4, 4096, 1]⟩
abbrev S4x8x128x4x4096 : Shape := ⟨5, ![4, 8, 128, 4, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x256x6144, .bf16⟩
  | .hbm, ⟨1, _⟩ => ⟨S4x4096x6144, .bf16⟩
  | .hbm, ⟨2, _⟩ => ⟨S4x4096x6144, .f32⟩
  | .hbm, ⟨3, _⟩ => ⟨S4x4096x4096, .f32⟩
  | .hbm, ⟨4, _⟩ => ⟨S4x4096x8x4x128, .f32⟩
  | .hbm, ⟨5, _⟩ => ⟨S4x4096x1024, .f32⟩
  | .hbm, ⟨6, _⟩ => ⟨S4x4096x8x128, .f32⟩
  | .hbm, ⟨7, _⟩ => ⟨S4x4096x1024, .f32⟩
  | .hbm, ⟨8, _⟩ => ⟨S4x4096x8x128, .f32⟩
  | .hbm, ⟨9, _⟩ => ⟨S4x256x6144, .f32⟩
  | .hbm, ⟨10, _⟩ => ⟨S4x256x4096, .f32⟩
  | .hbm, ⟨11, _⟩ => ⟨S4x256x8x4x128, .f32⟩
  | .hbm, ⟨12, _⟩ => ⟨S4x256x1024, .f32⟩
  | .hbm, ⟨13, _⟩ => ⟨S4x256x8x128, .f32⟩
  | .hbm, ⟨14, _⟩ => ⟨S4x256x1024, .f32⟩
  | .hbm, ⟨15, _⟩ => ⟨S4x256x8x128, .f32⟩
  | .hbm, ⟨16, _⟩ => ⟨S4x4352x8x128, .f32⟩
  | .hbm, ⟨17, _⟩ => ⟨S4x4352x8x128, .f32⟩
  | .hbm, ⟨18, _⟩ => ⟨S_, .f32⟩
  | .hbm, ⟨19, _⟩ => ⟨S_, .f32⟩
  | .hbm, ⟨20, _⟩ => ⟨S4x4096x8x4x128, .f32⟩
  | .hbm, ⟨21, _⟩ => ⟨S4x4096x8x4x128, .f32⟩
  | .hbm, ⟨22, _⟩ => ⟨S4x8x4352x4096x4, .f32⟩
  | .hbm, ⟨23, _⟩ => ⟨S4x8x4x4096x4352, .f32⟩
  | .hbm, ⟨24, _⟩ => ⟨S_, .f32⟩
  | .hbm, ⟨25, _⟩ => ⟨S4x8x4x4096, .f32⟩
  | .hbm, ⟨26, _⟩ => ⟨S4x8x4x4096x1, .f32⟩
  | .hbm, ⟨27, _⟩ => ⟨S4x8x4x4096x4352, .f32⟩
  | .hbm, ⟨28, _⟩ => ⟨S4x8x4x4096x4352, .f32⟩
  | .hbm, ⟨29, _⟩ => ⟨S4x8x4x4096x4352, .f32⟩
  | .hbm, ⟨30, _⟩ => ⟨S_, .f32⟩
  | .hbm, ⟨31, _⟩ => ⟨S4x8x4x4096, .f32⟩
  | .hbm, ⟨32, _⟩ => ⟨S4x8x4x4096x1, .f32⟩
  | .hbm, ⟨33, _⟩ => ⟨S_, .f32⟩
  | .hbm, ⟨34, _⟩ => ⟨S4x8x4x4096x1, .f32⟩
  | .hbm, ⟨35, _⟩ => ⟨S4x8x4x4096x1, .f32⟩
  | .hbm, ⟨36, _⟩ => ⟨S4x8x4x4096x4352, .f32⟩
  | .hbm, ⟨37, _⟩ => ⟨S4x8x4x4096x4352, .f32⟩
  | .hbm, ⟨38, _⟩ => ⟨S4x8x128x4x4096, .f32⟩
  | .hbm, ⟨39, _⟩ => ⟨S4x4096x8x4x128, .f32⟩
  | .hbm, ⟨40, _⟩ => ⟨S4x4096x4096, .f32⟩
  | .hbm, ⟨41, _⟩ => ⟨S4x4096x4096, .bf16⟩
  | _, _ => ⟨S4x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel3.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S4x1x1x4096 : Shape := ⟨4, ![4, 1, 1, 4096]⟩
abbrev S4x1x4096 : Shape := ⟨3, ![4, 1, 4096]⟩
abbrev S1x4096x4096 : Shape := ⟨3, ![1, 4096, 4096]⟩
abbrev S4096x4096 : Shape := ⟨2, ![4096, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S4x1x1x4096, .f32⟩
  | .hbm, ⟨6, _⟩ => ⟨S4x1x4096, .f32⟩
  | .hbm, ⟨7, _⟩ => ⟨S4x4096x4096, .f32⟩
  | .hbm, ⟨8, _⟩ => ⟨S1x4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel4Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S4x1x1x4096 : Shape := ⟨4, ![4, 1, 1, 4096]⟩
abbrev S4x1x4096 : Shape := ⟨3, ![4, 1, 4096]⟩
abbrev S1x4096x4096 : Shape := ⟨3, ![1, 4096, 4096]⟩
abbrev S4096x4096 : Shape := ⟨2, ![4096, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S4x1x1x4096, .f32⟩
  | .hbm, ⟨6, _⟩ => ⟨S4x1x4096, .f32⟩
  | .hbm, ⟨7, _⟩ => ⟨S4x4096x4096, .f32⟩
  | .hbm, ⟨8, _⟩ => ⟨S1x4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel5Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S4x1x1x4096 : Shape := ⟨4, ![4, 1, 1, 4096]⟩
abbrev S4x1x4096 : Shape := ⟨3, ![4, 1, 4096]⟩
abbrev S1x4096x4096 : Shape := ⟨3, ![1, 4096, 4096]⟩
abbrev S4096x4096 : Shape := ⟨2, ![4096, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S4x1x1x4096, .f32⟩
  | .hbm, ⟨6, _⟩ => ⟨S4x1x4096, .f32⟩
  | .hbm, ⟨7, _⟩ => ⟨S4x4096x4096, .f32⟩
  | .hbm, ⟨8, _⟩ => ⟨S1x4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel6Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x1024x4096 : Shape := ⟨3, ![1, 1024, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S1x4096, .f32⟩
  | .hbm, ⟨6, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference6Ideal.lean ====
abbrev S4x4096x4096 : Shape := ⟨3, ![4, 4096, 4096]⟩
abbrev S4096 : Shape := ⟨1, ![4096]⟩
abbrev S8x6x1x4096 : Shape := ⟨4, ![8, 6, 1, 4096]⟩
abbrev S4x1x1x4096 : Shape := ⟨4, ![4, 1, 1, 4096]⟩
abbrev S4x1x4096 : Shape := ⟨3, ![4, 1, 4096]⟩
abbrev S1x4096x4096 : Shape := ⟨3, ![1, 4096, 4096]⟩
abbrev S4096x4096 : Shape := ⟨2, ![4096, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S8x6x1x4096, .f32⟩
  | .hbm, ⟨5, _⟩ => ⟨S4x1x1x4096, .f32⟩
  | .hbm, ⟨6, _⟩ => ⟨S4x1x4096, .f32⟩
  | .hbm, ⟨7, _⟩ => ⟨S4x4096x4096, .f32⟩
  | .hbm, ⟨8, _⟩ => ⟨S1x4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel7.lean ====
abbrev S16384x4096 : Shape := ⟨2, ![16384, 4096]⟩
abbrev S1x4096x8192 : Shape := ⟨3, ![1, 4096, 8192]⟩
abbrev S8192 : Shape := ⟨1, ![8192]⟩
abbrev S1x8192 : Shape := ⟨2, ![1, 8192]⟩
abbrev S1024x4096 : Shape := ⟨2, ![1024, 4096]⟩
abbrev S1x4096x256 : Shape := ⟨3, ![1, 4096, 256]⟩
abbrev S1x256 : Shape := ⟨2, ![1, 256]⟩
abbrev S1024x256 : Shape := ⟨2, ![1024, 256]⟩
abbrev S4096x256 : Shape := ⟨2, ![4096, 256]⟩

abbrev nBuf : Space → Nat
  | .hbm => 5
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S8192, .f32⟩
  | .hbm, ⟨3, _⟩ => ⟨S1x8192, .f32⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16384x4096 : Shape := ⟨2, ![16384, 4096]⟩
abbrev S1x4096x8192 : Shape := ⟨3, ![1, 4096, 8192]⟩
abbrev S8192 : Shape := ⟨1, ![8192]⟩
abbrev S4096x8192 : Shape := ⟨2, ![4096, 8192]⟩
abbrev S16384x8192 : Shape := ⟨2, ![16384, 8192]⟩
abbrev S1x8192 : Shape := ⟨2, ![1, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S8192, .f32⟩
  | .hbm, ⟨3, _⟩ => ⟨S16384x4096, .f32⟩
  | .hbm, ⟨4, _⟩ => ⟨S4096x8192, .f32⟩
  | .hbm, ⟨5, _⟩ => ⟨S16384x8192, .f32⟩
  | .hbm, ⟨6, _⟩ => ⟨S1x8192, .f32⟩
  | .hbm, ⟨7, _⟩ => ⟨S16384x8192, .f32⟩
  | .hbm, ⟨8, _⟩ => ⟨S16384x8192, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel8Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩
abbrev S73728x4096 : Shape := ⟨2, ![73728, 4096]⟩
abbrev S288x1 : Shape := ⟨2, ![288, 1]⟩
abbrev S288x256 : Shape := ⟨2, ![288, 256]⟩
abbrev S73728 : Shape := ⟨1, ![73728]⟩
abbrev S73728x1 : Shape := ⟨2, ![73728, 1]⟩
abbrev S32 : Shape := ⟨1, ![32]⟩
abbrev S1x32 : Shape := ⟨2, ![1, 32]⟩
abbrev S73728x32 : Shape := ⟨2, ![73728, 32]⟩
abbrev S1x32x4096x512 : Shape := ⟨4, ![1, 32, 4096, 512]⟩
abbrev S32x4096x512 : Shape := ⟨3, ![32, 4096, 512]⟩
abbrev S32x512x73728 : Shape := ⟨3, ![32, 512, 73728]⟩
abbrev S32x73728x512 : Shape := ⟨3, ![32, 73728, 512]⟩
abbrev S1x32x512 : Shape := ⟨3, ![1, 32, 512]⟩
abbrev S32x512 : Shape := ⟨2, ![32, 512]⟩
abbrev S32x1x512 : Shape := ⟨3, ![32, 1, 512]⟩
abbrev S32x73728x256 : Shape := ⟨3, ![32, 73728, 256]⟩
abbrev S1x32x256x4096 : Shape := ⟨4, ![1, 32, 256, 4096]⟩
abbrev S32x256x4096 : Shape := ⟨3, ![32, 256, 4096]⟩
abbrev S32x73728x4096 : Shape := ⟨3, ![32, 73728, 4096]⟩
abbrev S1x32x4096 : Shape := ⟨3, ![1, 32, 4096]⟩
abbrev S32x4096 : Shape := ⟨2, ![32, 4096]⟩
abbrev S32x1x4096 : Shape := ⟨3, ![32, 1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S73728x2048, .i32⟩
  | .hbm, ⟨3, _⟩ => ⟨S4x32x4096x512, .f32⟩
  | .hbm, ⟨4, _⟩ => ⟨S4x32x512, .f32⟩
  | .hbm, ⟨5, _⟩ => ⟨S4x32x256x4096, .f32⟩
  | .hbm, ⟨6, _⟩ => ⟨S4x32x4096, .f32⟩
  | .hbm, ⟨7, _⟩ => ⟨S_, .i32⟩
  | .hbm, ⟨8, _⟩ => ⟨S73728x2048, .i32⟩
  | .hbm, ⟨9, _⟩ => ⟨S73728x2048, .i32⟩
  | .hbm, ⟨10, _⟩ => ⟨S73728x2048, .f32⟩
  | .hbm, ⟨11, _⟩ => ⟨S_, .i32⟩
  | .hbm, ⟨12, _⟩ => ⟨S73728x2048, .i32⟩
  | .hbm, ⟨13, _⟩ => ⟨S73728x2048, .i32⟩
  | .hbm, ⟨14, _⟩ => ⟨S73728x2048, .f32⟩
  | .hbm, ⟨15, _⟩ => ⟨S73728x4096, .f32⟩
  | .hbm, ⟨16, _⟩ => ⟨S288x1, .i32⟩
  | .hbm, ⟨17, _⟩ => ⟨S288x256, .i32⟩
  | .hbm, ⟨18, _⟩ => ⟨S73728, .i32⟩
  | .hbm, ⟨19, _⟩ => ⟨S73728x1, .i32⟩
  | .hbm, ⟨20, _⟩ => ⟨S32, .i32⟩
  | .hbm, ⟨21, _⟩ => ⟨S1x32, .i32⟩
  | .hbm, ⟨22, _⟩ => ⟨S73728x32, .i32⟩
  | .hbm, ⟨23, _⟩ => ⟨S73728x32, .i32⟩
  | .hbm, ⟨24, _⟩ => ⟨S73728x32, .i1⟩
  | .hbm, ⟨25, _⟩ => ⟨S288x1, .i32⟩
  | .hbm, ⟨26, _⟩ => ⟨S288x256, .i32⟩
  | .hbm, ⟨27, _⟩ => ⟨S73728, .i32⟩
  | .hbm, ⟨28, _⟩ => ⟨S_, .i32⟩
  | .hbm, ⟨29, _⟩ => ⟨S73728, .i32⟩
  | .hbm, ⟨30, _⟩ => ⟨S73728, .i1⟩
  | .hbm, ⟨31, _⟩ => ⟨S73728x1, .i1⟩
  | .hbm, ⟨32, _⟩ => ⟨S73728x32, .i1⟩
  | .hbm, ⟨33, _⟩ => ⟨S73728x32, .i1⟩
  | .hbm, ⟨34, _⟩ => ⟨S_, .f32⟩
  | .hbm, ⟨35, _⟩ => ⟨S_, .f32⟩
  | .hbm, ⟨36, _⟩ => ⟨S73728x32, .f32⟩
  | .hbm, ⟨37, _⟩ => ⟨S73728x32, .f32⟩
  | .hbm, ⟨38, _⟩ => ⟨S73728x32, .f32⟩
  | .hbm, ⟨39, _⟩ => ⟨S1x32x4096x512, .f32⟩
  | .hbm, ⟨40, _⟩ => ⟨S32x4096x512, .f32⟩
  | .hbm, ⟨41, _⟩ => ⟨S32x512x73728, .f32⟩
  | .hbm, ⟨42, _⟩ => ⟨S32x73728x512, .f32⟩
  | .hbm, ⟨43, _⟩ => ⟨S1x32x512, .f32⟩
  | .hbm, ⟨44, _⟩ => ⟨S32x512, .f32⟩
  | .hbm, ⟨45, _⟩ => ⟨S32x1x512, .f32⟩
  | .hbm, ⟨46, _⟩ => ⟨S32x73728x512, .f32⟩
  | .hbm, ⟨47, _⟩ => ⟨S32x73728x512, .f32⟩
  | .hbm, ⟨48, _⟩ => ⟨S32x73728x256, .f32⟩
  | .hbm, ⟨49, _⟩ => ⟨S_, .f32⟩
  | .hbm, ⟨50, _⟩ => ⟨S32x73728x256, .f32⟩
  | .hbm, ⟨51, _⟩ => ⟨S32x73728x256, .f32⟩
  | .hbm, ⟨52, _⟩ => ⟨S32x73728x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x73728x256, .f32⟩
  | .hbm, ⟨57, _⟩ => ⟨S32x73728x256, .f32⟩
  | .hbm, ⟨58, _⟩ => ⟨S_, .f32⟩
  | .hbm, ⟨59, _⟩ => ⟨S32x73728x256, .f32⟩
  | .hbm, ⟨60, _⟩ => ⟨S32x73728x256, .f32⟩
  | .hbm, ⟨61, _⟩ => ⟨S_, .f32⟩
  | .hbm, ⟨62, _⟩ => ⟨S32x73728x256, .f32⟩
  | .hbm, ⟨63, _⟩ => ⟨S32x73728x256, .f32⟩
  | .hbm, ⟨64, _⟩ => ⟨S32x73728x256, .f32⟩
  | .hbm, ⟨65, _⟩ => ⟨S32x73728x256, .f32⟩
  | .hbm, ⟨66, _⟩ => ⟨S_, .f32⟩
  | .hbm, ⟨67, _⟩ => ⟨S32x73728x256, .f32⟩
  | .hbm, ⟨68, _⟩ => ⟨S32x73728x256, .f32⟩
  | .hbm, ⟨69, _⟩ => ⟨S_, .f32⟩
  | .hbm, ⟨70, _⟩ => ⟨S32x73728x256, .f32⟩
  | .hbm, ⟨71, _⟩ => ⟨S32x73728x256, .f32⟩
  | .hbm, ⟨72, _⟩ => ⟨S32x73728x256, .f32⟩
  | .hbm, ⟨73, _⟩ => ⟨S_, .f32⟩
  | .hbm, ⟨74, _⟩ => ⟨S32x73728x256, .f32⟩
  | .hbm, ⟨75, _⟩ => ⟨S32x73728x256, .f32⟩
  | .hbm, ⟨76, _⟩ => ⟨S32x73728x256, .f32⟩
  | .hbm, ⟨77, _⟩ => ⟨S1x32x256x4096, .f32⟩
  | .hbm, ⟨78, _⟩ => ⟨S32x256x4096, .f32⟩
  | .hbm, ⟨79, _⟩ => ⟨S32x73728x4096, .f32⟩
  | .hbm, ⟨80, _⟩ => ⟨S1x32x4096, .f32⟩
  | .hbm, ⟨81, _⟩ => ⟨S32x4096, .f32⟩
  | .hbm, ⟨82, _⟩ => ⟨S32x1x4096, .f32⟩
  | .hbm, ⟨83, _⟩ => ⟨S32x73728x4096, .f32⟩
  | .hbm, ⟨84, _⟩ => ⟨S32x73728x4096, .f32⟩
  | .hbm, ⟨85, _⟩ => ⟨S73728x4096, .f32⟩
  | .hbm, ⟨86, _⟩ => ⟨S73728x4096, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel9.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel9Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩
abbrev S73728x4096 : Shape := ⟨2, ![73728, 4096]⟩
abbrev S288x1 : Shape := ⟨2, ![288, 1]⟩
abbrev S288x256 : Shape := ⟨2, ![288, 256]⟩
abbrev S73728 : Shape := ⟨1, ![73728]⟩
abbrev S73728x1 : Shape := ⟨2, ![73728, 1]⟩
abbrev S32 : Shape := ⟨1, ![32]⟩
abbrev S1x32 : Shape := ⟨2, ![1, 32]⟩
abbrev S73728x32 : Shape := ⟨2, ![73728, 32]⟩
abbrev S1x32x4096x512 : Shape := ⟨4, ![1, 32, 4096, 512]⟩
abbrev S32x4096x512 : Shape := ⟨3, ![32, 4096, 512]⟩
abbrev S32x512x73728 : Shape := ⟨3, ![32, 512, 73728]⟩
abbrev S32x73728x512 : Shape := ⟨3, ![32, 73728, 512]⟩
abbrev S1x32x512 : Shape := ⟨3, ![1, 32, 512]⟩
abbrev S32x512 : Shape := ⟨2, ![32, 512]⟩
abbrev S32x1x512 : Shape := ⟨3, ![32, 1, 512]⟩
abbrev S32x73728x256 : Shape := ⟨3, ![32, 73728, 256]⟩
abbrev S1x32x256x4096 : Shape := ⟨4, ![1, 32, 256, 4096]⟩
abbrev S32x256x4096 : Shape := ⟨3, ![32, 256, 4096]⟩
abbrev S32x73728x4096 : Shape := ⟨3, ![32, 73728, 4096]⟩
abbrev S1x32x4096 : Shape := ⟨3, ![1, 32, 4096]⟩
abbrev S32x4096 : Shape := ⟨2, ![32, 4096]⟩
abbrev S32x1x4096 : Shape := ⟨3, ![32, 1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S73728x2048, .i32⟩
  | .hbm, ⟨3, _⟩ => ⟨S4x32x4096x512, .f32⟩
  | .hbm, ⟨4, _⟩ => ⟨S4x32x512, .f32⟩
  | .hbm, ⟨5, _⟩ => ⟨S4x32x256x4096, .f32⟩
  | .hbm, ⟨6, _⟩ => ⟨S4x32x4096, .f32⟩
  | .hbm, ⟨7, _⟩ => ⟨S_, .i32⟩
  | .hbm, ⟨8, _⟩ => ⟨S73728x2048, .i32⟩
  | .hbm, ⟨9, _⟩ => ⟨S73728x2048, .i32⟩
  | .hbm, ⟨10, _⟩ => ⟨S73728x2048, .f32⟩
  | .hbm, ⟨11, _⟩ => ⟨S_, .i32⟩
  | .hbm, ⟨12, _⟩ => ⟨S73728x2048, .i32⟩
  | .hbm, ⟨13, _⟩ => ⟨S73728x2048, .i32⟩
  | .hbm, ⟨14, _⟩ => ⟨S73728x2048, .f32⟩
  | .hbm, ⟨15, _⟩ => ⟨S73728x4096, .f32⟩
  | .hbm, ⟨16, _⟩ => ⟨S288x1, .i32⟩
  | .hbm, ⟨17, _⟩ => ⟨S288x256, .i32⟩
  | .hbm, ⟨18, _⟩ => ⟨S73728, .i32⟩
  | .hbm, ⟨19, _⟩ => ⟨S73728x1, .i32⟩
  | .hbm, ⟨20, _⟩ => ⟨S32, .i32⟩
  | .hbm, ⟨21, _⟩ => ⟨S1x32, .i32⟩
  | .hbm, ⟨22, _⟩ => ⟨S73728x32, .i32⟩
  | .hbm, ⟨23, _⟩ => ⟨S73728x32, .i32⟩
  | .hbm, ⟨24, _⟩ => ⟨S73728x32, .i1⟩
  | .hbm, ⟨25, _⟩ => ⟨S288x1, .i32⟩
  | .hbm, ⟨26, _⟩ => ⟨S288x256, .i32⟩
  | .hbm, ⟨27, _⟩ => ⟨S73728, .i32⟩
  | .hbm, ⟨28, _⟩ => ⟨S_, .i32⟩
  | .hbm, ⟨29, _⟩ => ⟨S73728, .i32⟩
  | .hbm, ⟨30, _⟩ => ⟨S73728, .i1⟩
  | .hbm, ⟨31, _⟩ => ⟨S73728x1, .i1⟩
  | .hbm, ⟨32, _⟩ => ⟨S73728x32, .i1⟩
  | .hbm, ⟨33, _⟩ => ⟨S73728x32, .i1⟩
  | .hbm, ⟨34, _⟩ => ⟨S_, .f32⟩
  | .hbm, ⟨35, _⟩ => ⟨S_, .f32⟩
  | .hbm, ⟨36, _⟩ => ⟨S73728x32, .f32⟩
  | .hbm, ⟨37, _⟩ => ⟨S73728x32, .f32⟩
  | .hbm, ⟨38, _⟩ => ⟨S73728x32, .f32⟩
  | .hbm, ⟨39, _⟩ => ⟨S1x32x4096x512, .f32⟩
  | .hbm, ⟨40, _⟩ => ⟨S32x4096x512, .f32⟩
  | .hbm, ⟨41, _⟩ => ⟨S32x512x73728, .f32⟩
  | .hbm, ⟨42, _⟩ => ⟨S32x73728x512, .f32⟩
  | .hbm, ⟨43, _⟩ => ⟨S1x32x512, .f32⟩
  | .hbm, ⟨44, _⟩ => ⟨S32x512, .f32⟩
  | .hbm, ⟨45, _⟩ => ⟨S32x1x512, .f32⟩
  | .hbm, ⟨46, _⟩ => ⟨S32x73728x512, .f32⟩
  | .hbm, ⟨47, _⟩ => ⟨S32x73728x512, .f32⟩
  | .hbm, ⟨48, _⟩ => ⟨S32x73728x256, .f32⟩
  | .hbm, ⟨49, _⟩ => ⟨S_, .f32⟩
  | .hbm, ⟨50, _⟩ => ⟨S32x73728x256, .f32⟩
  | .hbm, ⟨51, _⟩ => ⟨S32x73728x256, .f32⟩
  | .hbm, ⟨52, _⟩ => ⟨S32x73728x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x73728x256, .f32⟩
  | .hbm, ⟨57, _⟩ => ⟨S32x73728x256, .f32⟩
  | .hbm, ⟨58, _⟩ => ⟨S_, .f32⟩
  | .hbm, ⟨59, _⟩ => ⟨S32x73728x256, .f32⟩
  | .hbm, ⟨60, _⟩ => ⟨S32x73728x256, .f32⟩
  | .hbm, ⟨61, _⟩ => ⟨S_, .f32⟩
  | .hbm, ⟨62, _⟩ => ⟨S32x73728x256, .f32⟩
  | .hbm, ⟨63, _⟩ => ⟨S32x73728x256, .f32⟩
  | .hbm, ⟨64, _⟩ => ⟨S32x73728x256, .f32⟩
  | .hbm, ⟨65, _⟩ => ⟨S32x73728x256, .f32⟩
  | .hbm, ⟨66, _⟩ => ⟨S_, .f32⟩
  | .hbm, ⟨67, _⟩ => ⟨S32x73728x256, .f32⟩
  | .hbm, ⟨68, _⟩ => ⟨S32x73728x256, .f32⟩
  | .hbm, ⟨69, _⟩ => ⟨S_, .f32⟩
  | .hbm, ⟨70, _⟩ => ⟨S32x73728x256, .f32⟩
  | .hbm, ⟨71, _⟩ => ⟨S32x73728x256, .f32⟩
  | .hbm, ⟨72, _⟩ => ⟨S32x73728x256, .f32⟩
  | .hbm, ⟨73, _⟩ => ⟨S_, .f32⟩
  | .hbm, ⟨74, _⟩ => ⟨S32x73728x256, .f32⟩
  | .hbm, ⟨75, _⟩ => ⟨S32x73728x256, .f32⟩
  | .hbm, ⟨76, _⟩ => ⟨S32x73728x256, .f32⟩
  | .hbm, ⟨77, _⟩ => ⟨S1x32x256x4096, .f32⟩
  | .hbm, ⟨78, _⟩ => ⟨S32x256x4096, .f32⟩
  | .hbm, ⟨79, _⟩ => ⟨S32x73728x4096, .f32⟩
  | .hbm, ⟨80, _⟩ => ⟨S1x32x4096, .f32⟩
  | .hbm, ⟨81, _⟩ => ⟨S32x4096, .f32⟩
  | .hbm, ⟨82, _⟩ => ⟨S32x1x4096, .f32⟩
  | .hbm, ⟨83, _⟩ => ⟨S32x73728x4096, .f32⟩
  | .hbm, ⟨84, _⟩ => ⟨S32x73728x4096, .f32⟩
  | .hbm, ⟨85, _⟩ => ⟨S73728x4096, .f32⟩
  | .hbm, ⟨86, _⟩ => ⟨S73728x4096, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel10.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel10Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩
abbrev S73728x4096 : Shape := ⟨2, ![73728, 4096]⟩
abbrev S288x1 : Shape := ⟨2, ![288, 1]⟩
abbrev S288x256 : Shape := ⟨2, ![288, 256]⟩
abbrev S73728 : Shape := ⟨1, ![73728]⟩
abbrev S73728x1 : Shape := ⟨2, ![73728, 1]⟩
abbrev S32 : Shape := ⟨1, ![32]⟩
abbrev S1x32 : Shape := ⟨2, ![1, 32]⟩
abbrev S73728x32 : Shape := ⟨2, ![73728, 32]⟩
abbrev S1x32x4096x512 : Shape := ⟨4, ![1, 32, 4096, 512]⟩
abbrev S32x4096x512 : Shape := ⟨3, ![32, 4096, 512]⟩
abbrev S32x512x73728 : Shape := ⟨3, ![32, 512, 73728]⟩
abbrev S32x73728x512 : Shape := ⟨3, ![32, 73728, 512]⟩
abbrev S1x32x512 : Shape := ⟨3, ![1, 32, 512]⟩
abbrev S32x512 : Shape := ⟨2, ![32, 512]⟩
abbrev S32x1x512 : Shape := ⟨3, ![32, 1, 512]⟩
abbrev S32x73728x256 : Shape := ⟨3, ![32, 73728, 256]⟩
abbrev S1x32x256x4096 : Shape := ⟨4, ![1, 32, 256, 4096]⟩
abbrev S32x256x4096 : Shape := ⟨3, ![32, 256, 4096]⟩
abbrev S32x73728x4096 : Shape := ⟨3, ![32, 73728, 4096]⟩
abbrev S1x32x4096 : Shape := ⟨3, ![1, 32, 4096]⟩
abbrev S32x4096 : Shape := ⟨2, ![32, 4096]⟩
abbrev S32x1x4096 : Shape := ⟨3, ![32, 1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S73728x2048, .i32⟩
  | .hbm, ⟨3, _⟩ => ⟨S4x32x4096x512, .f32⟩
  | .hbm, ⟨4, _⟩ => ⟨S4x32x512, .f32⟩
  | .hbm, ⟨5, _⟩ => ⟨S4x32x256x4096, .f32⟩
  | .hbm, ⟨6, _⟩ => ⟨S4x32x4096, .f32⟩
  | .hbm, ⟨7, _⟩ => ⟨S_, .i32⟩
  | .hbm, ⟨8, _⟩ => ⟨S73728x2048, .i32⟩
  | .hbm, ⟨9, _⟩ => ⟨S73728x2048, .i32⟩
  | .hbm, ⟨10, _⟩ => ⟨S73728x2048, .f32⟩
  | .hbm, ⟨11, _⟩ => ⟨S_, .i32⟩
  | .hbm, ⟨12, _⟩ => ⟨S73728x2048, .i32⟩
  | .hbm, ⟨13, _⟩ => ⟨S73728x2048, .i32⟩
  | .hbm, ⟨14, _⟩ => ⟨S73728x2048, .f32⟩
  | .hbm, ⟨15, _⟩ => ⟨S73728x4096, .f32⟩
  | .hbm, ⟨16, _⟩ => ⟨S288x1, .i32⟩
  | .hbm, ⟨17, _⟩ => ⟨S288x256, .i32⟩
  | .hbm, ⟨18, _⟩ => ⟨S73728, .i32⟩
  | .hbm, ⟨19, _⟩ => ⟨S73728x1, .i32⟩
  | .hbm, ⟨20, _⟩ => ⟨S32, .i32⟩
  | .hbm, ⟨21, _⟩ => ⟨S1x32, .i32⟩
  | .hbm, ⟨22, _⟩ => ⟨S73728x32, .i32⟩
  | .hbm, ⟨23, _⟩ => ⟨S73728x32, .i32⟩
  | .hbm, ⟨24, _⟩ => ⟨S73728x32, .i1⟩
  | .hbm, ⟨25, _⟩ => ⟨S288x1, .i32⟩
  | .hbm, ⟨26, _⟩ => ⟨S288x256, .i32⟩
  | .hbm, ⟨27, _⟩ => ⟨S73728, .i32⟩
  | .hbm, ⟨28, _⟩ => ⟨S_, .i32⟩
  | .hbm, ⟨29, _⟩ => ⟨S73728, .i32⟩
  | .hbm, ⟨30, _⟩ => ⟨S73728, .i1⟩
  | .hbm, ⟨31, _⟩ => ⟨S73728x1, .i1⟩
  | .hbm, ⟨32, _⟩ => ⟨S73728x32, .i1⟩
  | .hbm, ⟨33, _⟩ => ⟨S73728x32, .i1⟩
  | .hbm, ⟨34, _⟩ => ⟨S_, .f32⟩
  | .hbm, ⟨35, _⟩ => ⟨S_, .f32⟩
  | .hbm, ⟨36, _⟩ => ⟨S73728x32, .f32⟩
  | .hbm, ⟨37, _⟩ => ⟨S73728x32, .f32⟩
  | .hbm, ⟨38, _⟩ => ⟨S73728x32, .f32⟩
  | .hbm, ⟨39, _⟩ => ⟨S1x32x4096x512, .f32⟩
  | .hbm, ⟨40, _⟩ => ⟨S32x4096x512, .f32⟩
  | .hbm, ⟨41, _⟩ => ⟨S32x512x73728, .f32⟩
  | .hbm, ⟨42, _⟩ => ⟨S32x73728x512, .f32⟩
  | .hbm, ⟨43, _⟩ => ⟨S1x32x512, .f32⟩
  | .hbm, ⟨44, _⟩ => ⟨S32x512, .f32⟩
  | .hbm, ⟨45, _⟩ => ⟨S32x1x512, .f32⟩
  | .hbm, ⟨46, _⟩ => ⟨S32x73728x512, .f32⟩
  | .hbm, ⟨47, _⟩ => ⟨S32x73728x512, .f32⟩
  | .hbm, ⟨48, _⟩ => ⟨S32x73728x256, .f32⟩
  | .hbm, ⟨49, _⟩ => ⟨S_, .f32⟩
  | .hbm, ⟨50, _⟩ => ⟨S32x73728x256, .f32⟩
  | .hbm, ⟨51, _⟩ => ⟨S32x73728x256, .f32⟩
  | .hbm, ⟨52, _⟩ => ⟨S32x73728x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x73728x256, .f32⟩
  | .hbm, ⟨57, _⟩ => ⟨S32x73728x256, .f32⟩
  | .hbm, ⟨58, _⟩ => ⟨S_, .f32⟩
  | .hbm, ⟨59, _⟩ => ⟨S32x73728x256, .f32⟩
  | .hbm, ⟨60, _⟩ => ⟨S32x73728x256, .f32⟩
  | .hbm, ⟨61, _⟩ => ⟨S_, .f32⟩
  | .hbm, ⟨62, _⟩ => ⟨S32x73728x256, .f32⟩
  | .hbm, ⟨63, _⟩ => ⟨S32x73728x256, .f32⟩
  | .hbm, ⟨64, _⟩ => ⟨S32x73728x256, .f32⟩
  | .hbm, ⟨65, _⟩ => ⟨S32x73728x256, .f32⟩
  | .hbm, ⟨66, _⟩ => ⟨S_, .f32⟩
  | .hbm, ⟨67, _⟩ => ⟨S32x73728x256, .f32⟩
  | .hbm, ⟨68, _⟩ => ⟨S32x73728x256, .f32⟩
  | .hbm, ⟨69, _⟩ => ⟨S_, .f32⟩
  | .hbm, ⟨70, _⟩ => ⟨S32x73728x256, .f32⟩
  | .hbm, ⟨71, _⟩ => ⟨S32x73728x256, .f32⟩
  | .hbm, ⟨72, _⟩ => ⟨S32x73728x256, .f32⟩
  | .hbm, ⟨73, _⟩ => ⟨S_, .f32⟩
  | .hbm, ⟨74, _⟩ => ⟨S32x73728x256, .f32⟩
  | .hbm, ⟨75, _⟩ => ⟨S32x73728x256, .f32⟩
  | .hbm, ⟨76, _⟩ => ⟨S32x73728x256, .f32⟩
  | .hbm, ⟨77, _⟩ => ⟨S1x32x256x4096, .f32⟩
  | .hbm, ⟨78, _⟩ => ⟨S32x256x4096, .f32⟩
  | .hbm, ⟨79, _⟩ => ⟨S32x73728x4096, .f32⟩
  | .hbm, ⟨80, _⟩ => ⟨S1x32x4096, .f32⟩
  | .hbm, ⟨81, _⟩ => ⟨S32x4096, .f32⟩
  | .hbm, ⟨82, _⟩ => ⟨S32x1x4096, .f32⟩
  | .hbm, ⟨83, _⟩ => ⟨S32x73728x4096, .f32⟩
  | .hbm, ⟨84, _⟩ => ⟨S32x73728x4096, .f32⟩
  | .hbm, ⟨85, _⟩ => ⟨S73728x4096, .f32⟩
  | .hbm, ⟨86, _⟩ => ⟨S73728x4096, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel11.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel11Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S73728x4096 : Shape := ⟨2, ![73728, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S73728x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S73728x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S288, .i32⟩
  | .local _ .smem, ⟨1, _⟩ => ⟨S288, .i32⟩
  | _, _ => ⟨S73728x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S288 : Shape := ⟨1, ![288]⟩
abbrev S73728x2048 : Shape := ⟨2, ![73728, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩
abbrev S73728x4096 : Shape := ⟨2, ![73728, 4096]⟩
abbrev S288x1 : Shape := ⟨2, ![288, 1]⟩
abbrev S288x256 : Shape := ⟨2, ![288, 256]⟩
abbrev S73728 : Shape := ⟨1, ![73728]⟩
abbrev S73728x1 : Shape := ⟨2, ![73728, 1]⟩
abbrev S32 : Shape := ⟨1, ![32]⟩
abbrev S1x32 : Shape := ⟨2, ![1, 32]⟩
abbrev S73728x32 : Shape := ⟨2, ![73728, 32]⟩
abbrev S1x32x4096x512 : Shape := ⟨4, ![1, 32, 4096, 512]⟩
abbrev S32x4096x512 : Shape := ⟨3, ![32, 4096, 512]⟩
abbrev S32x512x73728 : Shape := ⟨3, ![32, 512, 73728]⟩
abbrev S32x73728x512 : Shape := ⟨3, ![32, 73728, 512]⟩
abbrev S1x32x512 : Shape := ⟨3, ![1, 32, 512]⟩
abbrev S32x512 : Shape := ⟨2, ![32, 512]⟩
abbrev S32x1x512 : Shape := ⟨3, ![32, 1, 512]⟩
abbrev S32x73728x256 : Shape := ⟨3, ![32, 73728, 256]⟩
abbrev S1x32x256x4096 : Shape := ⟨4, ![1, 32, 256, 4096]⟩
abbrev S32x256x4096 : Shape := ⟨3, ![32, 256, 4096]⟩
abbrev S32x73728x4096 : Shape := ⟨3, ![32, 73728, 4096]⟩
abbrev S1x32x4096 : Shape := ⟨3, ![1, 32, 4096]⟩
abbrev S32x4096 : Shape := ⟨2, ![32, 4096]⟩
abbrev S32x1x4096 : Shape := ⟨3, ![32, 1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S73728x2048, .i32⟩
  | .hbm, ⟨3, _⟩ => ⟨S4x32x4096x512, .f32⟩
  | .hbm, ⟨4, _⟩ => ⟨S4x32x512, .f32⟩
  | .hbm, ⟨5, _⟩ => ⟨S4x32x256x4096, .f32⟩
  | .hbm, ⟨6, _⟩ => ⟨S4x32x4096, .f32⟩
  | .hbm, ⟨7, _⟩ => ⟨S_, .i32⟩
  | .hbm, ⟨8, _⟩ => ⟨S73728x2048, .i32⟩
  | .hbm, ⟨9, _⟩ => ⟨S73728x2048, .i32⟩
  | .hbm, ⟨10, _⟩ => ⟨S73728x2048, .f32⟩
  | .hbm, ⟨11, _⟩ => ⟨S_, .i32⟩
  | .hbm, ⟨12, _⟩ => ⟨S73728x2048, .i32⟩
  | .hbm, ⟨13, _⟩ => ⟨S73728x2048, .i32⟩
  | .hbm, ⟨14, _⟩ => ⟨S73728x2048, .f32⟩
  | .hbm, ⟨15, _⟩ => ⟨S73728x4096, .f32⟩
  | .hbm, ⟨16, _⟩ => ⟨S288x1, .i32⟩
  | .hbm, ⟨17, _⟩ => ⟨S288x256, .i32⟩
  | .hbm, ⟨18, _⟩ => ⟨S73728, .i32⟩
  | .hbm, ⟨19, _⟩ => ⟨S73728x1, .i32⟩
  | .hbm, ⟨20, _⟩ => ⟨S32, .i32⟩
  | .hbm, ⟨21, _⟩ => ⟨S1x32, .i32⟩
  | .hbm, ⟨22, _⟩ => ⟨S73728x32, .i32⟩
  | .hbm, ⟨23, _⟩ => ⟨S73728x32, .i32⟩
  | .hbm, ⟨24, _⟩ => ⟨S73728x32, .i1⟩
  | .hbm, ⟨25, _⟩ => ⟨S288x1, .i32⟩
  | .hbm, ⟨26, _⟩ => ⟨S288x256, .i32⟩
  | .hbm, ⟨27, _⟩ => ⟨S73728, .i32⟩
  | .hbm, ⟨28, _⟩ => ⟨S_, .i32⟩
  | .hbm, ⟨29, _⟩ => ⟨S73728, .i32⟩
  | .hbm, ⟨30, _⟩ => ⟨S73728, .i1⟩
  | .hbm, ⟨31, _⟩ => ⟨S73728x1, .i1⟩
  | .hbm, ⟨32, _⟩ => ⟨S73728x32, .i1⟩
  | .hbm, ⟨33, _⟩ => ⟨S73728x32, .i1⟩
  | .hbm, ⟨34, _⟩ => ⟨S_, .f32⟩
  | .hbm, ⟨35, _⟩ => ⟨S_, .f32⟩
  | .hbm, ⟨36, _⟩ => ⟨S73728x32, .f32⟩
  | .hbm, ⟨37, _⟩ => ⟨S73728x32, .f32⟩
  | .hbm, ⟨38, _⟩ => ⟨S73728x32, .f32⟩
  | .hbm, ⟨39, _⟩ => ⟨S1x32x4096x512, .f32⟩
  | .hbm, ⟨40, _⟩ => ⟨S32x4096x512, .f32⟩
  | .hbm, ⟨41, _⟩ => ⟨S32x512x73728, .f32⟩
  | .hbm, ⟨42, _⟩ => ⟨S32x73728x512, .f32⟩
  | .hbm, ⟨43, _⟩ => ⟨S1x32x512, .f32⟩
  | .hbm, ⟨44, _⟩ => ⟨S32x512, .f32⟩
  | .hbm, ⟨45, _⟩ => ⟨S32x1x512, .f32⟩
  | .hbm, ⟨46, _⟩ => ⟨S32x73728x512, .f32⟩
  | .hbm, ⟨47, _⟩ => ⟨S32x73728x512, .f32⟩
  | .hbm, ⟨48, _⟩ => ⟨S32x73728x256, .f32⟩
  | .hbm, ⟨49, _⟩ => ⟨S_, .f32⟩
  | .hbm, ⟨50, _⟩ => ⟨S32x73728x256, .f32⟩
  | .hbm, ⟨51, _⟩ => ⟨S32x73728x256, .f32⟩
  | .hbm, ⟨52, _⟩ => ⟨S32x73728x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x73728x256, .f32⟩
  | .hbm, ⟨57, _⟩ => ⟨S32x73728x256, .f32⟩
  | .hbm, ⟨58, _⟩ => ⟨S_, .f32⟩
  | .hbm, ⟨59, _⟩ => ⟨S32x73728x256, .f32⟩
  | .hbm, ⟨60, _⟩ => ⟨S32x73728x256, .f32⟩
  | .hbm, ⟨61, _⟩ => ⟨S_, .f32⟩
  | .hbm, ⟨62, _⟩ => ⟨S32x73728x256, .f32⟩
  | .hbm, ⟨63, _⟩ => ⟨S32x73728x256, .f32⟩
  | .hbm, ⟨64, _⟩ => ⟨S32x73728x256, .f32⟩
  | .hbm, ⟨65, _⟩ => ⟨S32x73728x256, .f32⟩
  | .hbm, ⟨66, _⟩ => ⟨S_, .f32⟩
  | .hbm, ⟨67, _⟩ => ⟨S32x73728x256, .f32⟩
  | .hbm, ⟨68, _⟩ => ⟨S32x73728x256, .f32⟩
  | .hbm, ⟨69, _⟩ => ⟨S_, .f32⟩
  | .hbm, ⟨70, _⟩ => ⟨S32x73728x256, .f32⟩
  | .hbm, ⟨71, _⟩ => ⟨S32x73728x256, .f32⟩
  | .hbm, ⟨72, _⟩ => ⟨S32x73728x256, .f32⟩
  | .hbm, ⟨73, _⟩ => ⟨S_, .f32⟩
  | .hbm, ⟨74, _⟩ => ⟨S32x73728x256, .f32⟩
  | .hbm, ⟨75, _⟩ => ⟨S32x73728x256, .f32⟩
  | .hbm, ⟨76, _⟩ => ⟨S32x73728x256, .f32⟩
  | .hbm, ⟨77, _⟩ => ⟨S1x32x256x4096, .f32⟩
  | .hbm, ⟨78, _⟩ => ⟨S32x256x4096, .f32⟩
  | .hbm, ⟨79, _⟩ => ⟨S32x73728x4096, .f32⟩
  | .hbm, ⟨80, _⟩ => ⟨S1x32x4096, .f32⟩
  | .hbm, ⟨81, _⟩ => ⟨S32x4096, .f32⟩
  | .hbm, ⟨82, _⟩ => ⟨S32x1x4096, .f32⟩
  | .hbm, ⟨83, _⟩ => ⟨S32x73728x4096, .f32⟩
  | .hbm, ⟨84, _⟩ => ⟨S32x73728x4096, .f32⟩
  | .hbm, ⟨85, _⟩ => ⟨S73728x4096, .f32⟩
  | .hbm, ⟨86, _⟩ => ⟨S73728x4096, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel12.lean ====
abbrev S16384x4096 : Shape := ⟨2, ![16384, 4096]⟩
abbrev S1x4096x12288 : Shape := ⟨3, ![1, 4096, 12288]⟩
abbrev S4096x128 : Shape := ⟨2, ![4096, 128]⟩
abbrev S16384x12288 : Shape := ⟨2, ![16384, 12288]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S4096x128, .f32⟩
  | .hbm, ⟨3, _⟩ => ⟨S4096x128, .f32⟩
  | .hbm, ⟨4, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 24], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_4 : BitVec 32 := 8#32
  let v8 : BitVec 1 := Scalar.cmpi .sge arg1 c8_i32_4
  let c16_i32 : BitVec 32 := 16#32
  let v9 : BitVec 1 := Scalar.cmpi .slt arg1 c16_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c16_i32_6 : BitVec 32 := 16#32
  let v13 : BitVec 1 := Scalar.cmpi .sge arg1 c16_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S16384x4096 : Shape := ⟨2, ![16384, 4096]⟩
abbrev S1x4096x12288 : Shape := ⟨3, ![1, 4096, 12288]⟩
abbrev S4096x128 : Shape := ⟨2, ![4096, 128]⟩
abbrev S4096x12288 : Shape := ⟨2, ![4096, 12288]⟩
abbrev S16384x12288 : Shape := ⟨2, ![16384, 12288]⟩
abbrev S4x4096x12288 : Shape := ⟨3, ![4, 4096, 12288]⟩
abbrev S4x4096x4096 : Shape := ⟨3, ![4, 4096, 4096]⟩
abbrev S4x4096x32x128 : Shape := ⟨4, ![4, 4096, 32, 128]⟩
abbrev S4x4096x32x2x2x32 : Shape := ⟨6, ![4, 4096, 32, 2, 2, 32]⟩
abbrev S1x4096x1x2x2x32 : Shape := ⟨6, ![1, 4096, 1, 2, 2, 32]⟩
abbrev S4x4096x32x2x1x32 : Shape := ⟨6, ![4, 4096, 32, 2, 1, 32]⟩
abbrev S4x4096x32x2x32 : Shape := ⟨5, ![4, 4096, 32, 2, 32]⟩
abbrev S1x4096x1x2x1x32 : Shape := ⟨6, ![1, 4096, 1, 2, 1, 32]⟩
abbrev S1x4096x1x2x32 : Shape := ⟨5, ![1, 4096, 1, 2, 32]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S4096x128, .f32⟩
  | .hbm, ⟨3, _⟩ => ⟨S4096x128, .f32⟩
  | .hbm, ⟨4, _⟩ => ⟨S16384x4096, .f32⟩
  | .hbm, ⟨5, _⟩ => ⟨S4096x12288, .f32⟩
  | .hbm, ⟨6, _⟩ => ⟨S16384x12288, .f32⟩
  | .hbm, ⟨7, _⟩ => ⟨S4x4096x12288, .f32⟩
  | .hbm, ⟨8, _⟩ => ⟨S4x4096x4096, .f32⟩
  | .hbm, ⟨9, _⟩ => ⟨S4x4096x32x128, .f32⟩
  | .hbm, ⟨10, _⟩ => ⟨S4x4096x32x2x2x32, .f32⟩
  | .hbm, ⟨11, _⟩ => ⟨S1x4096x1x2x2x32, .f32⟩
  | .hbm, ⟨12, _⟩ => ⟨S1x4096x1x2x2x32, .f32⟩
  | .hbm, ⟨13, _⟩ => ⟨S4x4096x32x2x1x32, .f32⟩
  | .hbm, ⟨14, _⟩ => ⟨S4x4096x32x2x32, .f32⟩
  | .hbm, ⟨15, _⟩ => ⟨S4x4096x32x2x1x32, .f32⟩
  | .hbm, ⟨16, _⟩ => ⟨S4x4096x32x2x32, .f32⟩
  | .hbm, ⟨17, _⟩ => ⟨S1x4096x1x2x1x32, .f32⟩
  | .hbm, ⟨18, _⟩ => ⟨S1x4096x1x2x32, .f32⟩
  | .hbm, ⟨19, _⟩ => ⟨S4x4096x32x2x32, .f32⟩
  | .hbm, ⟨20, _⟩ => ⟨S4x4096x32x2x32, .f32⟩
  | .hbm, ⟨21, _⟩ => ⟨S1x4096x1x2x1x32, .f32⟩
  | .hbm, ⟨22, _⟩ => ⟨S1x4096x1x2x32, .f32⟩
  | .hbm, ⟨23, _⟩ => ⟨S4x4096x32x2x32, .f32⟩
  | .hbm, ⟨24, _⟩ => ⟨S4x4096x32x2x32, .f32⟩
  | .hbm, ⟨25, _⟩ => ⟨S4x4096x32x2x32, .f32⟩
  | .hbm, ⟨26, _⟩ => ⟨S1x4096x1x2x1x32, .f32⟩
  | .hbm, ⟨27, _⟩ => ⟨S1x4096x1x2x32, .f32⟩
  | .hbm, ⟨28, _⟩ => ⟨S4x4096x32x2x32, .f32⟩
  | .hbm, ⟨29, _⟩ => ⟨S4x4096x32x2x32, .f32⟩
  | .hbm, ⟨30, _⟩ => ⟨S1x4096x1x2x1x32, .f32⟩
  | .hbm, ⟨31, _⟩ => ⟨S1x4096x1x2x32, .f32⟩
  | .hbm, ⟨32, _⟩ => ⟨S4x4096x32x2x32, .f32⟩
  | .hbm, ⟨33, _⟩ => ⟨S4x4096x32x2x32, .f32⟩
  | .hbm, ⟨34, _⟩ => ⟨S4x4096x32x2x32, .f32⟩
  | .hbm, ⟨35, _⟩ => ⟨S4x4096x32x2x1x32, .f32⟩
  | .hbm, ⟨36, _⟩ => ⟨S4x4096x32x2x1x32, .f32⟩
  | .hbm, ⟨37, _⟩ => ⟨S4x4096x32x2x2x32, .f32⟩
  | .hbm, ⟨38, _⟩ => ⟨S4x4096x32x128, .f32⟩
  | .hbm, ⟨39, _⟩ => ⟨S4x4096x4096, .f32⟩
  | .hbm, ⟨40, _⟩ => ⟨S4x4096x32x128, .f32⟩
  | .hbm, ⟨41, _⟩ => ⟨S4x4096x32x2x2x32, .f32⟩
  | .hbm, ⟨42, _⟩ => ⟨S1x4096x1x2x2x32, .f32⟩
  | .hbm, ⟨43, _⟩ => ⟨S1x4096x1x2x2x32, .f32⟩
  | .hbm, ⟨44, _⟩ => ⟨S4x4096x32x2x1x32, .f32⟩
  | .hbm, ⟨45, _⟩ => ⟨S4x4096x32x2x32, .f32⟩
  | .hbm, ⟨46, _⟩ => ⟨S4x4096x32x2x1x32, .f32⟩
  | .hbm, ⟨47, _⟩ => ⟨S4x4096x32x2x32, .f32⟩
  | .hbm, ⟨48, _⟩ => ⟨S1x4096x1x2x1x32, .f32⟩
  | .hbm, ⟨49, _⟩ => ⟨S1x4096x1x2x32, .f32⟩
  | .hbm, ⟨50, _⟩ => ⟨S4x4096x32x2x32, .f32⟩
  | .hbm, ⟨51, _⟩ => ⟨S4x4096x32x2x32, .f32⟩
  | .hbm, ⟨52, _⟩ => ⟨S1x4096x1x2x1x32, .f32⟩
  | .hbm, ⟨53, _⟩ => ⟨S1x4096x1x2x32, .f32⟩
  | .hbm, ⟨54, _⟩ => ⟨S4x4096x32x2x32, .f32⟩
  | .hbm, ⟨55, _⟩ => ⟨S4x4096x32x2x32, .f32⟩
  | .hbm, ⟨56, _⟩ => ⟨S4x4096x32x2x32, .f32⟩
  | .hbm, ⟨57, _⟩ => ⟨S1x4096x1x2x1x32, .f32⟩
  | .hbm, ⟨58, _⟩ => ⟨S1x4096x1x2x32, .f32⟩
  | .hbm, ⟨59, _⟩ => ⟨S4x4096x32x2x32, .f32⟩
  | .hbm, ⟨60, _⟩ => ⟨S4x4096x32x2x32, .f32⟩
  | .hbm, ⟨61, _⟩ => ⟨S1x4096x1x2x1x32, .f32⟩
  | .hbm, ⟨62, _⟩ => ⟨S1x4096x1x2x32, .f32⟩
  | .hbm, ⟨63, _⟩ => ⟨S4x4096x32x2x32, .f32⟩
  | .hbm, ⟨64, _⟩ => ⟨S4x4096x32x2x32, .f32⟩
  | .hbm, ⟨65, _⟩ => ⟨S4x4096x32x2x32, .f32⟩
  | .hbm, ⟨66, _⟩ => ⟨S4x4096x32x2x1x32, .f32⟩
  | .hbm, ⟨67, _⟩ => ⟨S4x4096x32x2x1x32, .f32⟩
  | .hbm, ⟨68, _⟩ => ⟨S4x4096x32x2x2x32, .f32⟩
  | .hbm, ⟨69, _⟩ => ⟨S4x4096x32x128, .f32⟩
  | .hbm, ⟨70, _⟩ => ⟨S_, .f32⟩
  | .hbm, ⟨71, _⟩ => ⟨S4x4096x32x128, .f32⟩
  | .hbm, ⟨72, _⟩ => ⟨S4x4096x32x128, .f32⟩
  | .hbm, ⟨73, _⟩ => ⟨S4x4096x4096, .f32⟩
  | .hbm, ⟨74, _⟩ => ⟨S4x4096x4096, .f32⟩
  | .hbm, ⟨75, _⟩ => ⟨S4x4096x4096, .f32⟩
  | .hbm, ⟨76, _⟩ => ⟨S4x4096x12288, .f32⟩
  | .hbm, ⟨77, _⟩ => ⟨S16384x12288, .f32⟩
  | .hbm, ⟨78, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_cst : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩

abbrev nD : Nat := 1
abbrev τ : Topo := Topo.v7x

variable {F : FTy → Type} [FloatOps F]
-- ==== Kernel13.lean ====
abbrev S16384x4096 : Shape := ⟨2, ![16384, 4096]⟩
abbrev S1x4096x6144 : Shape := ⟨3, ![1, 4096, 6144]⟩
abbrev S4096x128 : Shape := ⟨2, ![4096, 128]⟩
abbrev S128 : Shape := ⟨1, ![128]⟩
abbrev S1x128 : Shape := ⟨2, ![1, 128]⟩
abbrev S16384x6144 : Shape := ⟨2, ![16384, 6144]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x6144, .f32⟩
  | .hbm, ⟨2, _⟩ => ⟨S4096x128, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_4 : BitVec 32 := 8#32
  let v8 : BitVec 1 := Scalar.cmpi .sge arg1 c8_i32_4
  let c10_i32 : BitVec 32 := 10#32
  let v9 : BitVec 1 := Scalar.cmpi .slt arg1 c10_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c10_i32_6 : BitVec 32 := 10#32
  let v13 : BitVec 1 := Scalar.cmpi .sge arg1 c10_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S16384x4096 : Shape := ⟨2, ![16384, 4096]⟩
abbrev S1x4096x6144 : Shape := ⟨3, ![1, 4096, 6144]⟩
abbrev S4096x128 : Shape := ⟨2, ![4096, 128]⟩
abbrev S128 : Shape := ⟨1, ![128]⟩
abbrev S4096x6144 : Shape := ⟨2, ![4096, 6144]⟩
abbrev S16384x6144 : Shape := ⟨2, ![16384, 6144]⟩
abbrev S4x4096x6144 : Shape := ⟨3, ![4, 4096, 6144]⟩
abbrev S4x4096x4096 : Shape := ⟨3, ![4, 4096, 4096]⟩
abbrev S4x4096x32x128 : Shape := ⟨4, ![4, 4096, 32, 128]⟩
abbrev S_ : Shape := ⟨0, ![]⟩
abbrev S4x4096x32 : Shape := ⟨3, ![4, 4096, 32]⟩
abbrev S4x4096x32x1 : Shape := ⟨4, ![4, 4096, 32, 1]⟩
abbrev S1x1x1x128 : Shape := ⟨4, ![1, 1, 1, 128]⟩
abbrev S4x4096x32x2x2x32 : Shape := ⟨6, ![4, 4096, 32, 2, 2, 32]⟩
abbrev S1x4096x1x2x2x32 : Shape := ⟨6, ![1, 4096, 1, 2, 2, 32]⟩
abbrev S4x4096x32x2x1x32 : Shape := ⟨6, ![4, 4096, 32, 2, 1, 32]⟩
abbrev S4x4096x32x2x32 : Shape := ⟨5, ![4, 4096, 32, 2, 32]⟩
abbrev S1x4096x1x2x1x32 : Shape := ⟨6, ![1, 4096, 1, 2, 1, 32]⟩
abbrev S1x4096x1x2x32 : Shape := ⟨5, ![1, 4096, 1, 2, 32]⟩
abbrev S4x4096x1024 : Shape := ⟨3, ![4, 4096, 1024]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S4x4096x8x2x2x32 : Shape := ⟨6, ![4, 4096, 8, 2, 2, 32]⟩
abbrev S4x4096x8x2x1x32 : Shape := ⟨6, ![4, 4096, 8, 2, 1, 32]⟩
abbrev S4x4096x8x2x32 : Shape := ⟨5, ![4, 4096, 8, 2, 32]⟩

abbrev nBuf : Space → Nat
  | .hbm => 113
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x6144, .f32⟩
  | .hbm, ⟨2, _⟩ => ⟨S4096x128, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S16384x4096, .f32⟩
  | .hbm, ⟨7, _⟩ => ⟨S4096x6144, .f32⟩
  | .hbm, ⟨8, _⟩ => ⟨S16384x6144, .f32⟩
  | .hbm, ⟨9, _⟩ => ⟨S4x4096x6144, .f32⟩
  | .hbm, ⟨10, _⟩ => ⟨S4x4096x4096, .f32⟩
  | .hbm, ⟨11, _⟩ => ⟨S4x4096x32x128, .f32⟩
  | .hbm, ⟨12, _⟩ => ⟨S4x4096x32x128, .f32⟩
  | .hbm, ⟨13, _⟩ => ⟨S_, .f32⟩
  | .hbm, ⟨14, _⟩ => ⟨S4x4096x32, .f32⟩
  | .hbm, ⟨15, _⟩ => ⟨S4x4096x32x1, .f32⟩
  | .hbm, ⟨16, _⟩ => ⟨S_, .f32⟩
  | .hbm, ⟨17, _⟩ => ⟨S4x4096x32x1, .f32⟩
  | .hbm, ⟨18, _⟩ => ⟨S4x4096x32x1, .f32⟩
  | .hbm, ⟨19, _⟩ => ⟨S_, .f32⟩
  | .hbm, ⟨20, _⟩ => ⟨S4x4096x32x1, .f32⟩
  | .hbm, ⟨21, _⟩ => ⟨S4x4096x32x1, .f32⟩
  | .hbm, ⟨22, _⟩ => ⟨S4x4096x32x1, .f32⟩
  | .hbm, ⟨23, _⟩ => ⟨S4x4096x32x128, .f32⟩
  | .hbm, ⟨24, _⟩ => ⟨S4x4096x32x128, .f32⟩
  | .hbm, ⟨25, _⟩ => ⟨S1x1x1x128, .f32⟩
  | .hbm, ⟨26, _⟩ => ⟨S4x4096x32x128, .f32⟩
  | .hbm, ⟨27, _⟩ => ⟨S4x4096x32x128, .f32⟩
  | .hbm, ⟨28, _⟩ => ⟨S4x4096x32x2x2x32, .f32⟩
  | .hbm, ⟨29, _⟩ => ⟨S1x4096x1x2x2x32, .f32⟩
  | .hbm, ⟨30, _⟩ => ⟨S1x4096x1x2x2x32, .f32⟩
  | .hbm, ⟨31, _⟩ => ⟨S4x4096x32x2x1x32, .f32⟩
  | .hbm, ⟨32, _⟩ => ⟨S4x4096x32x2x32, .f32⟩
  | .hbm, ⟨33, _⟩ => ⟨S4x4096x32x2x1x32, .f32⟩
  | .hbm, ⟨34, _⟩ => ⟨S4x4096x32x2x32, .f32⟩
  | .hbm, ⟨35, _⟩ => ⟨S1x4096x1x2x1x32, .f32⟩
  | .hbm, ⟨36, _⟩ => ⟨S1x4096x1x2x32, .f32⟩
  | .hbm, ⟨37, _⟩ => ⟨S4x4096x32x2x32, .f32⟩
  | .hbm, ⟨38, _⟩ => ⟨S4x4096x32x2x32, .f32⟩
  | .hbm, ⟨39, _⟩ => ⟨S1x4096x1x2x1x32, .f32⟩
  | .hbm, ⟨40, _⟩ => ⟨S1x4096x1x2x32, .f32⟩
  | .hbm, ⟨41, _⟩ => ⟨S4x4096x32x2x32, .f32⟩
  | .hbm, ⟨42, _⟩ => ⟨S4x4096x32x2x32, .f32⟩
  | .hbm, ⟨43, _⟩ => ⟨S4x4096x32x2x32, .f32⟩
  | .hbm, ⟨44, _⟩ => ⟨S1x4096x1x2x1x32, .f32⟩
  | .hbm, ⟨45, _⟩ => ⟨S1x4096x1x2x32, .f32⟩
  | .hbm, ⟨46, _⟩ => ⟨S4x4096x32x2x32, .f32⟩
  | .hbm, ⟨47, _⟩ => ⟨S4x4096x32x2x32, .f32⟩
  | .hbm, ⟨48, _⟩ => ⟨S1x4096x1x2x1x32, .f32⟩
  | .hbm, ⟨49, _⟩ => ⟨S1x4096x1x2x32, .f32⟩
  | .hbm, ⟨50, _⟩ => ⟨S4x4096x32x2x32, .f32⟩
  | .hbm, ⟨51, _⟩ => ⟨S4x4096x32x2x32, .f32⟩
  | .hbm, ⟨52, _⟩ => ⟨S4x4096x32x2x32, .f32⟩
  | .hbm, ⟨53, _⟩ => ⟨S4x4096x32x2x1x32, .f32⟩
  | .hbm, ⟨54, _⟩ => ⟨S4x4096x32x2x1x32, .f32⟩
  | .hbm, ⟨55, _⟩ => ⟨S4x4096x32x2x2x32, .f32⟩
  | .hbm, ⟨56, _⟩ => ⟨S4x4096x32x128, .f32⟩
  | .hbm, ⟨57, _⟩ => ⟨S4x4096x1024, .f32⟩
  | .hbm, ⟨58, _⟩ => ⟨S4x4096x8x128, .f32⟩
  | .hbm, ⟨59, _⟩ => ⟨S4x4096x8x128, .f32⟩
  | .hbm, ⟨60, _⟩ => ⟨S_, .f32⟩
  | .hbm, ⟨61, _⟩ => ⟨S4x4096x8, .f32⟩
  | .hbm, ⟨62, _⟩ => ⟨S4x4096x8x1, .f32⟩
  | .hbm, ⟨63, _⟩ => ⟨S_, .f32⟩
  | .hbm, ⟨64, _⟩ => ⟨S4x4096x8x1, .f32⟩
  | .hbm, ⟨65, _⟩ => ⟨S4x4096x8x1, .f32⟩
  | .hbm, ⟨66, _⟩ => ⟨S_, .f32⟩
  | .hbm, ⟨67, _⟩ => ⟨S4x4096x8x1, .f32⟩
  | .hbm, ⟨68, _⟩ => ⟨S4x4096x8x1, .f32⟩
  | .hbm, ⟨69, _⟩ => ⟨S4x4096x8x1, .f32⟩
  | .hbm, ⟨70, _⟩ => ⟨S4x4096x8x128, .f32⟩
  | .hbm, ⟨71, _⟩ => ⟨S4x4096x8x128, .f32⟩
  | .hbm, ⟨72, _⟩ => ⟨S1x1x1x128, .f32⟩
  | .hbm, ⟨73, _⟩ => ⟨S4x4096x8x128, .f32⟩
  | .hbm, ⟨74, _⟩ => ⟨S4x4096x8x128, .f32⟩
  | .hbm, ⟨75, _⟩ => ⟨S4x4096x8x2x2x32, .f32⟩
  | .hbm, ⟨76, _⟩ => ⟨S1x4096x1x2x2x32, .f32⟩
  | .hbm, ⟨77, _⟩ => ⟨S1x4096x1x2x2x32, .f32⟩
  | .hbm, ⟨78, _⟩ => ⟨S4x4096x8x2x1x32, .f32⟩
  | .hbm, ⟨79, _⟩ => ⟨S4x4096x8x2x32, .f32⟩
  | .hbm, ⟨80, _⟩ => ⟨S4x4096x8x2x1x32, .f32⟩
  | .hbm, ⟨81, _⟩ => ⟨S4x4096x8x2x32, .f32⟩
  | .hbm, ⟨82, _⟩ => ⟨S1x4096x1x2x1x32, .f32⟩
  | .hbm, ⟨83, _⟩ => ⟨S1x4096x1x2x32, .f32⟩
  | .hbm, ⟨84, _⟩ => ⟨S4x4096x8x2x32, .f32⟩
  | .hbm, ⟨85, _⟩ => ⟨S4x4096x8x2x32, .f32⟩
  | .hbm, ⟨86, _⟩ => ⟨S1x4096x1x2x1x32, .f32⟩
  | .hbm, ⟨87, _⟩ => ⟨S1x4096x1x2x32, .f32⟩
  | .hbm, ⟨88, _⟩ => ⟨S4x4096x8x2x32, .f32⟩
  | .hbm, ⟨89, _⟩ => ⟨S4x4096x8x2x32, .f32⟩
  | .hbm, ⟨90, _⟩ => ⟨S4x4096x8x2x32, .f32⟩
  | .hbm, ⟨91, _⟩ => ⟨S1x4096x1x2x1x32, .f32⟩
  | .hbm, ⟨92, _⟩ => ⟨S1x4096x1x2x32, .f32⟩
  | .hbm, ⟨93, _⟩ => ⟨S4x4096x8x2x32, .f32⟩
  | .hbm, ⟨94, _⟩ => ⟨S4x4096x8x2x32, .f32⟩
  | .hbm, ⟨95, _⟩ => ⟨S1x4096x1x2x1x32, .f32⟩
  | .hbm, ⟨96, _⟩ => ⟨S1x4096x1x2x32, .f32⟩
  | .hbm, ⟨97, _⟩ => ⟨S4x4096x8x2x32, .f32⟩
  | .hbm, ⟨98, _⟩ => ⟨S4x4096x8x2x32, .f32⟩
  | .hbm, ⟨99, _⟩ => ⟨S4x4096x8x2x32, .f32⟩
  | .hbm, ⟨100, _⟩ => ⟨S4x4096x8x2x1x32, .f32⟩
  | .hbm, ⟨101, _⟩ => ⟨S4x4096x8x2x1x32, .f32⟩
  | .hbm, ⟨102, _⟩ => ⟨S4x4096x8x2x2x32, .f32⟩
  | .hbm, ⟨103, _⟩ => ⟨S4x4096x8x128, .f32⟩
  | .hbm, ⟨104, _⟩ => ⟨S_, .f32⟩
  | .hbm, ⟨105, _⟩ => ⟨S4x4096x32x128, .f32⟩
  | .hbm, ⟨106, _⟩ => ⟨S4x4096x32x128, .f32⟩
  | .hbm, ⟨107, _⟩ => ⟨S4x4096x4096, .f32⟩
  | .hbm, ⟨108, _⟩ => ⟨S4x4096x1024, .f32⟩
  | .hbm, ⟨109, _⟩ => ⟨S4x4096x1024, .f32⟩
  | .hbm, ⟨110, _⟩ => ⟨S4x4096x6144, .f32⟩
  | .hbm, ⟨111, _⟩ => ⟨S16384x6144, .f32⟩
  | .hbm, ⟨112, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_2 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_5 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩

abbrev nD : Nat := 1
abbrev τ : Topo := Topo.v7x

variable {F : FTy → Type} [FloatOps F]
-- ==== Kernel14.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S12288x4096 : Shape := ⟨2, ![12288, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S12288x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S12288x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S48, .i32⟩
  | .local _ .smem, ⟨1, _⟩ => ⟨S48, .i32⟩
  | _, _ => ⟨S12288x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel14Ideal.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S12288x4096 : Shape := ⟨2, ![12288, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S12288x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S12288x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S48, .i32⟩
  | .local _ .smem, ⟨1, _⟩ => ⟨S48, .i32⟩
  | _, _ => ⟨S12288x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩
abbrev S12288x4096 : Shape := ⟨2, ![12288, 4096]⟩
abbrev S48x1 : Shape := ⟨2, ![48, 1]⟩
abbrev S48x256 : Shape := ⟨2, ![48, 256]⟩
abbrev S12288 : Shape := ⟨1, ![12288]⟩
abbrev S12288x1 : Shape := ⟨2, ![12288, 1]⟩
abbrev S32 : Shape := ⟨1, ![32]⟩
abbrev S1x32 : Shape := ⟨2, ![1, 32]⟩
abbrev S12288x32 : Shape := ⟨2, ![12288, 32]⟩
abbrev S1x32x4096x512 : Shape := ⟨4, ![1, 32, 4096, 512]⟩
abbrev S32x4096x512 : Shape := ⟨3, ![32, 4096, 512]⟩
abbrev S32x512x12288 : Shape := ⟨3, ![32, 512, 12288]⟩
abbrev S32x12288x512 : Shape := ⟨3, ![32, 12288, 512]⟩
abbrev S1x32x512 : Shape := ⟨3, ![1, 32, 512]⟩
abbrev S32x512 : Shape := ⟨2, ![32, 512]⟩
abbrev S32x1x512 : Shape := ⟨3, ![32, 1, 512]⟩
abbrev S32x12288x256 : Shape := ⟨3, ![32, 12288, 256]⟩
abbrev S1x32x256x4096 : Shape := ⟨4, ![1, 32, 256, 4096]⟩
abbrev S32x256x4096 : Shape := ⟨3, ![32, 256, 4096]⟩
abbrev S32x12288x4096 : Shape := ⟨3, ![32, 12288, 4096]⟩
abbrev S1x32x4096 : Shape := ⟨3, ![1, 32, 4096]⟩
abbrev S32x4096 : Shape := ⟨2, ![32, 4096]⟩
abbrev S32x1x4096 : Shape := ⟨3, ![32, 1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S48, .i32⟩
  | .hbm, ⟨1, _⟩ => ⟨S48, .i32⟩
  | .hbm, ⟨2, _⟩ => ⟨S12288x2048, .i32⟩
  | .hbm, ⟨3, _⟩ => ⟨S4x32x4096x512, .f32⟩
  | .hbm, ⟨4, _⟩ => ⟨S4x32x512, .f32⟩
  | .hbm, ⟨5, _⟩ => ⟨S4x32x256x4096, .f32⟩
  | .hbm, ⟨6, _⟩ => ⟨S4x32x4096, .f32⟩
  | .hbm, ⟨7, _⟩ => ⟨S_, .i32⟩
  | .hbm, ⟨8, _⟩ => ⟨S12288x2048, .i32⟩
  | .hbm, ⟨9, _⟩ => ⟨S12288x2048, .i32⟩
  | .hbm, ⟨10, _⟩ => ⟨S12288x2048, .f32⟩
  | .hbm, ⟨11, _⟩ => ⟨S_, .i32⟩
  | .hbm, ⟨12, _⟩ => ⟨S12288x2048, .i32⟩
  | .hbm, ⟨13, _⟩ => ⟨S12288x2048, .i32⟩
  | .hbm, ⟨14, _⟩ => ⟨S12288x2048, .f32⟩
  | .hbm, ⟨15, _⟩ => ⟨S12288x4096, .f32⟩
  | .hbm, ⟨16, _⟩ => ⟨S48x1, .i32⟩
  | .hbm, ⟨17, _⟩ => ⟨S48x256, .i32⟩
  | .hbm, ⟨18, _⟩ => ⟨S12288, .i32⟩
  | .hbm, ⟨19, _⟩ => ⟨S12288x1, .i32⟩
  | .hbm, ⟨20, _⟩ => ⟨S32, .i32⟩
  | .hbm, ⟨21, _⟩ => ⟨S1x32, .i32⟩
  | .hbm, ⟨22, _⟩ => ⟨S12288x32, .i32⟩
  | .hbm, ⟨23, _⟩ => ⟨S12288x32, .i32⟩
  | .hbm, ⟨24, _⟩ => ⟨S12288x32, .i1⟩
  | .hbm, ⟨25, _⟩ => ⟨S48x1, .i32⟩
  | .hbm, ⟨26, _⟩ => ⟨S48x256, .i32⟩
  | .hbm, ⟨27, _⟩ => ⟨S12288, .i32⟩
  | .hbm, ⟨28, _⟩ => ⟨S_, .i32⟩
  | .hbm, ⟨29, _⟩ => ⟨S12288, .i32⟩
  | .hbm, ⟨30, _⟩ => ⟨S12288, .i1⟩
  | .hbm, ⟨31, _⟩ => ⟨S12288x1, .i1⟩
  | .hbm, ⟨32, _⟩ => ⟨S12288x32, .i1⟩
  | .hbm, ⟨33, _⟩ => ⟨S12288x32, .i1⟩
  | .hbm, ⟨34, _⟩ => ⟨S_, .f32⟩
  | .hbm, ⟨35, _⟩ => ⟨S_, .f32⟩
  | .hbm, ⟨36, _⟩ => ⟨S12288x32, .f32⟩
  | .hbm, ⟨37, _⟩ => ⟨S12288x32, .f32⟩
  | .hbm, ⟨38, _⟩ => ⟨S12288x32, .f32⟩
  | .hbm, ⟨39, _⟩ => ⟨S1x32x4096x512, .f32⟩
  | .hbm, ⟨40, _⟩ => ⟨S32x4096x512, .f32⟩
  | .hbm, ⟨41, _⟩ => ⟨S32x512x12288, .f32⟩
  | .hbm, ⟨42, _⟩ => ⟨S32x12288x512, .f32⟩
  | .hbm, ⟨43, _⟩ => ⟨S1x32x512, .f32⟩
  | .hbm, ⟨44, _⟩ => ⟨S32x512, .f32⟩
  | .hbm, ⟨45, _⟩ => ⟨S32x1x512, .f32⟩
  | .hbm, ⟨46, _⟩ => ⟨S32x12288x512, .f32⟩
  | .hbm, ⟨47, _⟩ => ⟨S32x12288x512, .f32⟩
  | .hbm, ⟨48, _⟩ => ⟨S32x12288x256, .f32⟩
  | .hbm, ⟨49, _⟩ => ⟨S_, .f32⟩
  | .hbm, ⟨50, _⟩ => ⟨S32x12288x256, .f32⟩
  | .hbm, ⟨51, _⟩ => ⟨S32x12288x256, .f32⟩
  | .hbm, ⟨52, _⟩ => ⟨S32x12288x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x12288x256, .f32⟩
  | .hbm, ⟨57, _⟩ => ⟨S32x12288x256, .f32⟩
  | .hbm, ⟨58, _⟩ => ⟨S_, .f32⟩
  | .hbm, ⟨59, _⟩ => ⟨S32x12288x256, .f32⟩
  | .hbm, ⟨60, _⟩ => ⟨S32x12288x256, .f32⟩
  | .hbm, ⟨61, _⟩ => ⟨S_, .f32⟩
  | .hbm, ⟨62, _⟩ => ⟨S32x12288x256, .f32⟩
  | .hbm, ⟨63, _⟩ => ⟨S32x12288x256, .f32⟩
  | .hbm, ⟨64, _⟩ => ⟨S32x12288x256, .f32⟩
  | .hbm, ⟨65, _⟩ => ⟨S32x12288x256, .f32⟩
  | .hbm, ⟨66, _⟩ => ⟨S_, .f32⟩
  | .hbm, ⟨67, _⟩ => ⟨S32x12288x256, .f32⟩
  | .hbm, ⟨68, _⟩ => ⟨S32x12288x256, .f32⟩
  | .hbm, ⟨69, _⟩ => ⟨S_, .f32⟩
  | .hbm, ⟨70, _⟩ => ⟨S32x12288x256, .f32⟩
  | .hbm, ⟨71, _⟩ => ⟨S32x12288x256, .f32⟩
  | .hbm, ⟨72, _⟩ => ⟨S32x12288x256, .f32⟩
  | .hbm, ⟨73, _⟩ => ⟨S_, .f32⟩
  | .hbm, ⟨74, _⟩ => ⟨S32x12288x256, .f32⟩
  | .hbm, ⟨75, _⟩ => ⟨S32x12288x256, .f32⟩
  | .hbm, ⟨76, _⟩ => ⟨S32x12288x256, .f32⟩
  | .hbm, ⟨77, _⟩ => ⟨S1x32x256x4096, .f32⟩
  | .hbm, ⟨78, _⟩ => ⟨S32x256x4096, .f32⟩
  | .hbm, ⟨79, _⟩ => ⟨S32x12288x4096, .f32⟩
  | .hbm, ⟨80, _⟩ => ⟨S1x32x4096, .f32⟩
  | .hbm, ⟨81, _⟩ => ⟨S32x4096, .f32⟩
  | .hbm, ⟨82, _⟩ => ⟨S32x1x4096, .f32⟩
  | .hbm, ⟨83, _⟩ => ⟨S32x12288x4096, .f32⟩
  | .hbm, ⟨84, _⟩ => ⟨S32x12288x4096, .f32⟩
  | .hbm, ⟨85, _⟩ => ⟨S12288x4096, .f32⟩
  | .hbm, ⟨86, _⟩ => ⟨S12288x4096, .bf16⟩
  | _, _ => ⟨S48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel15.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S12288x4096 : Shape := ⟨2, ![12288, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S12288x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S12288x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S48, .i32⟩
  | .local _ .smem, ⟨1, _⟩ => ⟨S48, .i32⟩
  | _, _ => ⟨S12288x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel15Ideal.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S128x1x512 : Shape := ⟨3, ![128, 1, 512]⟩
abbrev S128x1x4096 : Shape := ⟨3, ![128, 1, 4096]⟩
abbrev S12288x4096 : Shape := ⟨2, ![12288, 4096]⟩
abbrev S256x2048 : Shape := ⟨2, ![256, 2048]⟩
abbrev S1x1x4096x512 : Shape := ⟨4, ![1, 1, 4096, 512]⟩
abbrev S1 : Shape := ⟨1, ![1]⟩
abbrev S1x1x512 : Shape := ⟨3, ![1, 1, 512]⟩
abbrev S1x1x256x4096 : Shape := ⟨4, ![1, 1, 256, 4096]⟩
abbrev S1x1x4096 : Shape := ⟨3, ![1, 1, 4096]⟩
abbrev S256x4096 : Shape := ⟨2, ![256, 4096]⟩
abbrev S4096x512 : Shape := ⟨2, ![4096, 512]⟩
abbrev S2048x512 : Shape := ⟨2, ![2048, 512]⟩
abbrev S256x512 : Shape := ⟨2, ![256, 512]⟩
abbrev S1x512 : Shape := ⟨2, ![1, 512]⟩
abbrev S256x256 : Shape := ⟨2, ![256, 256]⟩
abbrev S1x1x2048 : Shape := ⟨3, ![1, 1, 2048]⟩
abbrev S1x2048 : Shape := ⟨2, ![1, 2048]⟩

abbrev nBuf : Space → Nat
  | .hbm => 8
  | .vmem => 14
  | .smem => 2
  | _ => 0

abbrev bufTy : (tb : Table) → Fin (tcTables nBuf tb) → BufTy
  | .hbm, ⟨0, _⟩ => ⟨S12288x2048, .i32⟩
  | .hbm, ⟨1, _⟩ => ⟨S4x32x4096x512, .f32⟩
  | .hbm, ⟨2, _⟩ => ⟨S4x32x512, .f32⟩
  | .hbm, ⟨3, _⟩ => ⟨S4x32x256x4096, .f32⟩
  | .hbm, ⟨4, _⟩ => ⟨S4x32x4096, .f32⟩
  | .hbm, ⟨5, _⟩ => ⟨S128x1x512, .f32⟩
  | .hbm, ⟨6, _⟩ => ⟨S128x1x4096, .f32⟩
  | .hbm, ⟨7, _⟩ => ⟨S12288x4096, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x1x256x4096, .f32⟩
  | .local _ .vmem, ⟨7, _⟩ => ⟨S1x1x256x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .bf16⟩
  | .local _ .vmem, ⟨11, _⟩ => ⟨S256x4096, .bf16⟩
  | .local _ .vmem, ⟨12, _⟩ => ⟨S4096x512, .bf16⟩
  | .local _ .vmem, ⟨13, _⟩ => ⟨S256x4096, .bf16⟩
  | .local _ .smem, ⟨0, _⟩ => ⟨S48, .i32⟩
  | .local _ .smem, ⟨1, _⟩ => ⟨S48, .i32⟩
  | _, _ => ⟨S12288x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S48 : Shape := ⟨1, ![48]⟩
abbrev S12288x2048 : Shape := ⟨2, ![12288, 2048]⟩
abbrev S4x32x4096x512 : Shape := ⟨4, ![4, 32, 4096, 512]⟩
abbrev S4x32x512 : Shape := ⟨3, ![4, 32, 512]⟩
abbrev S4x32x256x4096 : Shape := ⟨4, ![4, 32, 256, 4096]⟩
abbrev S4x32x4096 : Shape := ⟨3, ![4, 32, 4096]⟩
abbrev S_ : Shape := ⟨0, ![]⟩
abbrev S12288x4096 : Shape := ⟨2, ![12288, 4096]⟩
abbrev S48x1 : Shape := ⟨2, ![48, 1]⟩
abbrev S48x256 : Shape := ⟨2, ![48, 256]⟩
abbrev S12288 : Shape := ⟨1, ![12288]⟩
abbrev S12288x1 : Shape := ⟨2, ![12288, 1]⟩
abbrev S32 : Shape := ⟨1, ![32]⟩
abbrev S1x32 : Shape := ⟨2, ![1, 32]⟩
abbrev S12288x32 : Shape := ⟨2, ![12288, 32]⟩
abbrev S1x32x4096x512 : Shape := ⟨4, ![1, 32, 4096, 512]⟩
abbrev S32x4096x512 : Shape := ⟨3, ![32, 4096, 512]⟩
abbrev S32x512x12288 : Shape := ⟨3, ![32, 512, 12288]⟩
abbrev S32x12288x512 : Shape := ⟨3, ![32, 12288, 512]⟩
abbrev S1x32x512 : Shape := ⟨3, ![1, 32, 512]⟩
abbrev S32x512 : Shape := ⟨2, ![32, 512]⟩
abbrev S32x1x512 : Shape := ⟨3, ![32, 1, 512]⟩
abbrev S32x12288x256 : Shape := ⟨3, ![32, 12288, 256]⟩
abbrev S1x32x256x4096 : Shape := ⟨4, ![1, 32, 256, 4096]⟩
abbrev S32x256x4096 : Shape := ⟨3, ![32, 256, 4096]⟩
abbrev S32x12288x4096 : Shape := ⟨3, ![32, 12288, 4096]⟩
abbrev S1x32x4096 : Shape := ⟨3, ![1, 32, 4096]⟩
abbrev S32x4096 : Shape := ⟨2, ![32, 4096]⟩
abbrev S32x1x4096 : Shape := ⟨3, ![32, 1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S48, .i32⟩
  | .hbm, ⟨1, _⟩ => ⟨S48, .i32⟩
  | .hbm, ⟨2, _⟩ => ⟨S12288x2048, .i32⟩
  | .hbm, ⟨3, _⟩ => ⟨S4x32x4096x512, .f32⟩
  | .hbm, ⟨4, _⟩ => ⟨S4x32x512, .f32⟩
  | .hbm, ⟨5, _⟩ => ⟨S4x32x256x4096, .f32⟩
  | .hbm, ⟨6, _⟩ => ⟨S4x32x4096, .f32⟩
  | .hbm, ⟨7, _⟩ => ⟨S_, .i32⟩
  | .hbm, ⟨8, _⟩ => ⟨S12288x2048, .i32⟩
  | .hbm, ⟨9, _⟩ => ⟨S12288x2048, .i32⟩
  | .hbm, ⟨10, _⟩ => ⟨S12288x2048, .f32⟩
  | .hbm, ⟨11, _⟩ => ⟨S_, .i32⟩
  | .hbm, ⟨12, _⟩ => ⟨S12288x2048, .i32⟩
  | .hbm, ⟨13, _⟩ => ⟨S12288x2048, .i32⟩
  | .hbm, ⟨14, _⟩ => ⟨S12288x2048, .f32⟩
  | .hbm, ⟨15, _⟩ => ⟨S12288x4096, .f32⟩
  | .hbm, ⟨16, _⟩ => ⟨S48x1, .i32⟩
  | .hbm, ⟨17, _⟩ => ⟨S48x256, .i32⟩
  | .hbm, ⟨18, _⟩ => ⟨S12288, .i32⟩
  | .hbm, ⟨19, _⟩ => ⟨S12288x1, .i32⟩
  | .hbm, ⟨20, _⟩ => ⟨S32, .i32⟩
  | .hbm, ⟨21, _⟩ => ⟨S1x32, .i32⟩
  | .hbm, ⟨22, _⟩ => ⟨S12288x32, .i32⟩
  | .hbm, ⟨23, _⟩ => ⟨S12288x32, .i32⟩
  | .hbm, ⟨24, _⟩ => ⟨S12288x32, .i1⟩
  | .hbm, ⟨25, _⟩ => ⟨S48x1, .i32⟩
  | .hbm, ⟨26, _⟩ => ⟨S48x256, .i32⟩
  | .hbm, ⟨27, _⟩ => ⟨S12288, .i32⟩
  | .hbm, ⟨28, _⟩ => ⟨S_, .i32⟩
  | .hbm, ⟨29, _⟩ => ⟨S12288, .i32⟩
  | .hbm, ⟨30, _⟩ => ⟨S12288, .i1⟩
  | .hbm, ⟨31, _⟩ => ⟨S12288x1, .i1⟩
  | .hbm, ⟨32, _⟩ => ⟨S12288x32, .i1⟩
  | .hbm, ⟨33, _⟩ => ⟨S12288x32, .i1⟩
  | .hbm, ⟨34, _⟩ => ⟨S_, .f32⟩
  | .hbm, ⟨35, _⟩ => ⟨S_, .f32⟩
  | .hbm, ⟨36, _⟩ => ⟨S12288x32, .f32⟩
  | .hbm, ⟨37, _⟩ => ⟨S12288x32, .f32⟩
  | .hbm, ⟨38, _⟩ => ⟨S12288x32, .f32⟩
  | .hbm, ⟨39, _⟩ => ⟨S1x32x4096x512, .f32⟩
  | .hbm, ⟨40, _⟩ => ⟨S32x4096x512, .f32⟩
  | .hbm, ⟨41, _⟩ => ⟨S32x512x12288, .f32⟩
  | .hbm, ⟨42, _⟩ => ⟨S32x12288x512, .f32⟩
  | .hbm, ⟨43, _⟩ => ⟨S1x32x512, .f32⟩
  | .hbm, ⟨44, _⟩ => ⟨S32x512, .f32⟩
  | .hbm, ⟨45, _⟩ => ⟨S32x1x512, .f32⟩
  | .hbm, ⟨46, _⟩ => ⟨S32x12288x512, .f32⟩
  | .hbm, ⟨47, _⟩ => ⟨S32x12288x512, .f32⟩
  | .hbm, ⟨48, _⟩ => ⟨S32x12288x256, .f32⟩
  | .hbm, ⟨49, _⟩ => ⟨S_, .f32⟩
  | .hbm, ⟨50, _⟩ => ⟨S32x12288x256, .f32⟩
  | .hbm, ⟨51, _⟩ => ⟨S32x12288x256, .f32⟩
  | .hbm, ⟨52, _⟩ => ⟨S32x12288x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x12288x256, .f32⟩
  | .hbm, ⟨57, _⟩ => ⟨S32x12288x256, .f32⟩
  | .hbm, ⟨58, _⟩ => ⟨S_, .f32⟩
  | .hbm, ⟨59, _⟩ => ⟨S32x12288x256, .f32⟩
  | .hbm, ⟨60, _⟩ => ⟨S32x12288x256, .f32⟩
  | .hbm, ⟨61, _⟩ => ⟨S_, .f32⟩
  | .hbm, ⟨62, _⟩ => ⟨S32x12288x256, .f32⟩
  | .hbm, ⟨63, _⟩ => ⟨S32x12288x256, .f32⟩
  | .hbm, ⟨64, _⟩ => ⟨S32x12288x256, .f32⟩
  | .hbm, ⟨65, _⟩ => ⟨S32x12288x256, .f32⟩
  | .hbm, ⟨66, _⟩ => ⟨S_, .f32⟩
  | .hbm, ⟨67, _⟩ => ⟨S32x12288x256, .f32⟩
  | .hbm, ⟨68, _⟩ => ⟨S32x12288x256, .f32⟩
  | .hbm, ⟨69, _⟩ => ⟨S_, .f32⟩
  | .hbm, ⟨70, _⟩ => ⟨S32x12288x256, .f32⟩
  | .hbm, ⟨71, _⟩ => ⟨S32x12288x256, .f32⟩
  | .hbm, ⟨72, _⟩ => ⟨S32x12288x256, .f32⟩
  | .hbm, ⟨73, _⟩ => ⟨S_, .f32⟩
  | .hbm, ⟨74, _⟩ => ⟨S32x12288x256, .f32⟩
  | .hbm, ⟨75, _⟩ => ⟨S32x12288x256, .f32⟩
  | .hbm, ⟨76, _⟩ => ⟨S32x12288x256, .f32⟩
  | .hbm, ⟨77, _⟩ => ⟨S1x32x256x4096, .f32⟩
  | .hbm, ⟨78, _⟩ => ⟨S32x256x4096, .f32⟩
  | .hbm, ⟨79, _⟩ => ⟨S32x12288x4096, .f32⟩
  | .hbm, ⟨80, _⟩ => ⟨S1x32x4096, .f32⟩
  | .hbm, ⟨81, _⟩ => ⟨S32x4096, .f32⟩
  | .hbm, ⟨82, _⟩ => ⟨S32x1x4096, .f32⟩
  | .hbm, ⟨83, _⟩ => ⟨S32x12288x4096, .f32⟩
  | .hbm, ⟨84, _⟩ => ⟨S32x12288x4096, .f32⟩
  | .hbm, ⟨85, _⟩ => ⟨S12288x4096, .f32⟩
  | .hbm, ⟨86, _⟩ => ⟨S12288x4096, .bf16⟩
  | _, _ => ⟨S48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel16.lean ====
abbrev S4x256x4096 : Shape := ⟨3, ![4, 256, 4096]⟩
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x256x4096 : Shape := ⟨3, ![1, 256, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x256x512 : Shape := ⟨3, ![1, 256, 512]⟩
abbrev S256x4096 : Shape := ⟨2, ![256, 4096]⟩
abbrev S4096x512 : Shape := ⟨2, ![4096, 512]⟩
abbrev S256x512 : Shape := ⟨2, ![256, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x256x4096, .bf16⟩
  | .hbm, ⟨1, _⟩ => ⟨S4x4096x4096, .f32⟩
  | .hbm, ⟨2, _⟩ => ⟨S4096, .f32⟩
  | .hbm, ⟨3, _⟩ => ⟨S4x256x4096, .f32⟩
  | .hbm, ⟨4, _⟩ => ⟨S8x6x1x4096, .f32⟩
  | .hbm, ⟨5, _⟩ => ⟨S1x4096, .f32⟩
  | .hbm, ⟨6, _⟩ => ⟨S4x256x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c2_i32 : BitVec 32 := 2#32
  let c0_i32 : BitVec 32 := 0#32
  let c0_i32_0 : BitVec 32 := 0#32
  ![c4_i32.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel16Ideal.lean ====
  let c0_i32_1 : BitVec 32 := 0#32
  ![c0_i32.toNat, c0_i32_0.toNat, arg2.toNat]
-- ==== Reference16Ideal.lean ====
abbrev S4x256x4096 : Shape := ⟨3, ![4, 256, 4096]⟩
abbrev S4x4096x4096 : Shape := ⟨3, ![4, 4096, 4096]⟩
abbrev S4096 : Shape := ⟨1, ![4096]⟩
abbrev S8x6x1x4096 : Shape := ⟨4, ![8, 6, 1, 4096]⟩
abbrev S1x1x1x4096 : Shape := ⟨4, ![1, 1, 1, 4096]⟩
abbrev S1x4096 : Shape := ⟨2, ![1, 4096]⟩
abbrev S1x4096x4096 : Shape := ⟨3, ![1, 4096, 4096]⟩
abbrev S4096x4096 : Shape := ⟨2, ![4096, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4x4096x4096, .f32⟩
  | .hbm, ⟨2, _⟩ => ⟨S4096, .f32⟩
  | .hbm, ⟨3, _⟩ => ⟨S4x256x4096, .f32⟩
  | .hbm, ⟨4, _⟩ => ⟨S8x6x1x4096, .f32⟩
  | .hbm, ⟨5, _⟩ => ⟨S1x1x1x4096, .f32⟩
  | .hbm, ⟨6, _⟩ => ⟨S1x4096, .f32⟩
  | .hbm, ⟨7, _⟩ => ⟨S4x256x4096, .f32⟩
  | .hbm, ⟨8, _⟩ => ⟨S1x4096x4096, .f32⟩
  | .hbm, ⟨9, _⟩ => ⟨S4096x4096, .f32⟩
  | .hbm, ⟨10, _⟩ => ⟨S4x256x4096, .f32⟩
  | .hbm, ⟨11, _⟩ => ⟨S1x1x4096, .f32⟩
  | .hbm, ⟨12, _⟩ => ⟨S4x256x4096, .f32⟩
  | .hbm, ⟨13, _⟩ => ⟨S4x256x4096, .f32⟩
  | .hbm, ⟨14, _⟩ => ⟨S1x1x4096, .f32⟩
  | .hbm, ⟨15, _⟩ => ⟨S4x256x4096, .f32⟩
  | .hbm, ⟨16, _⟩ => ⟨S4x256x4096, .f32⟩
  | .hbm, ⟨17, _⟩ => ⟨S4x256x4096, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S4x256x4096 : Shape := ⟨3, ![4, 256, 4096]⟩
abbrev S4x4096x4096 : Shape := ⟨3, ![4, 4096, 4096]⟩
abbrev S4096 : Shape := ⟨1, ![4096]⟩
abbrev S8x6x1x4096 : Shape := ⟨4, ![8, 6, 1, 4096]⟩
abbrev S1x4096 : Shape := ⟨2, ![1, 4096]⟩
abbrev S1x256x4096 : Shape := ⟨3, ![1, 256, 4096]⟩
abbrev S1x4096x512 : Shape := ⟨3, ![1, 4096, 512]⟩
abbrev S1x512 : Shape := ⟨2, ![1, 512]⟩
abbrev S1x1x1x512 : Shape := ⟨4, ![1, 1, 1, 512]⟩
abbrev S1x256x512 : Shape := ⟨3, ![1, 256, 512]⟩
abbrev S256x4096 : Shape := ⟨2, ![256, 4096]⟩
abbrev S4096x512 : Shape := ⟨2, ![4096, 512]⟩
abbrev S256x512 : Shape := ⟨2, ![256, 512]⟩

abbrev nBuf : Space → Nat
  | .hbm => 7
  | .vmem => 12
  | .smem => 0
  | _ => 0

abbrev bufTy : (tb : Table) → Fin (tcTables nBuf tb) → BufTy
  | .hbm, ⟨0, _⟩ => ⟨S4x256x4096, .bf16⟩
  | .hbm, ⟨1, _⟩ => ⟨S4x4096x4096, .f32⟩
  | .hbm, ⟨2, _⟩ => ⟨S4096, .f32⟩
  | .hbm, ⟨3, _⟩ => ⟨S4x256x4096, .f32⟩
  | .hbm, ⟨4, _⟩ => ⟨S8x6x1x4096, .f32⟩
  | .hbm, ⟨5, _⟩ => ⟨S1x4096, .f32⟩
  | .hbm, ⟨6, _⟩ => ⟨S4x256x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c2_i32 : BitVec 32 := 2#32
  let c0_i32 : BitVec 32 := 0#32
  let c0_i32_0 : BitVec 32 := 0#32
  ![c4_i32.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference17Ideal.lean ====
abbrev S4x256x4096 : Shape := ⟨3, ![4, 256, 4096]⟩
abbrev S4x4096x4096 : Shape := ⟨3, ![4, 4096, 4096]⟩
abbrev S4096 : Shape := ⟨1, ![4096]⟩
abbrev S8x6x1x4096 : Shape := ⟨4, ![8, 6, 1, 4096]⟩
abbrev S1x1x1x4096 : Shape := ⟨4, ![1, 1, 1, 4096]⟩
abbrev S1x4096 : Shape := ⟨2, ![1, 4096]⟩
abbrev S1x4096x4096 : Shape := ⟨3, ![1, 4096, 4096]⟩
abbrev S4096x4096 : Shape := ⟨2, ![4096, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4x4096x4096, .f32⟩
  | .hbm, ⟨2, _⟩ => ⟨S4096, .f32⟩
  | .hbm, ⟨3, _⟩ => ⟨S4x256x4096, .f32⟩
  | .hbm, ⟨4, _⟩ => ⟨S8x6x1x4096, .f32⟩
  | .hbm, ⟨5, _⟩ => ⟨S1x1x1x4096, .f32⟩
  | .hbm, ⟨6, _⟩ => ⟨S1x4096, .f32⟩
  | .hbm, ⟨7, _⟩ => ⟨S4x256x4096, .f32⟩
  | .hbm, ⟨8, _⟩ => ⟨S1x4096x4096, .f32⟩
  | .hbm, ⟨9, _⟩ => ⟨S4096x4096, .f32⟩
  | .hbm, ⟨10, _⟩ => ⟨S4x256x4096, .f32⟩
  | .hbm, ⟨11, _⟩ => ⟨S1x1x4096, .f32⟩
  | .hbm, ⟨12, _⟩ => ⟨S4x256x4096, .f32⟩
  | .hbm, ⟨13, _⟩ => ⟨S4x256x4096, .f32⟩
  | .hbm, ⟨14, _⟩ => ⟨S1x1x4096, .f32⟩
  | .hbm, ⟨15, _⟩ => ⟨S4x256x4096, .f32⟩
  | .hbm, ⟨16, _⟩ => ⟨S4x256x4096, .f32⟩
  | .hbm, ⟨17, _⟩ => ⟨S4x256x4096, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S1024x4096 : Shape := ⟨2, ![1024, 4096]⟩
abbrev S1x4096x12288 : Shape := ⟨3, ![1, 4096, 12288]⟩
abbrev S4096x128 : Shape := ⟨2, ![4096, 128]⟩
abbrev S1024x12288 : Shape := ⟨2, ![1024, 12288]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S1x4096x12288, .f32⟩
  | .hbm, ⟨2, _⟩ => ⟨S4096x128, .f32⟩
  | .hbm, ⟨3, _⟩ => ⟨S4096x128, .f32⟩
  | .hbm, ⟨4, _⟩ => ⟨S1024x12288, .bf16⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x128, .f32⟩
  | .local _ .vmem, ⟨4, _⟩ => ⟨S1024x128, .f32⟩
  | .local _ .vmem, ⟨5, _⟩ => ⟨S1024x512, .bf16⟩
  | .local _ .vmem, ⟨6, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 24], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_4 : BitVec 32 := 8#32
  let v8 : BitVec 1 := Scalar.cmpi .sge arg1 c8_i32_4
  let c16_i32 : BitVec 32 := 16#32
  let v9 : BitVec 1 := Scalar.cmpi .slt arg1 c16_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c16_i32_6 : BitVec 32 := 16#32
  let v13 : BitVec 1 := Scalar.cmpi .sge arg1 c16_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S1024x4096 : Shape := ⟨2, ![1024, 4096]⟩
abbrev S1x4096x12288 : Shape := ⟨3, ![1, 4096, 12288]⟩
abbrev S4096x128 : Shape := ⟨2, ![4096, 128]⟩
abbrev S4096x12288 : Shape := ⟨2, ![4096, 12288]⟩
abbrev S1024x12288 : Shape := ⟨2, ![1024, 12288]⟩
abbrev S_ : Shape := ⟨0, ![]⟩
abbrev S1024x8192 : Shape := ⟨2, ![1024, 8192]⟩

abbrev nBuf : Space → Nat
  | .hbm => 14
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x12288, .f32⟩
  | .hbm, ⟨2, _⟩ => ⟨S4096x128, .f32⟩
  | .hbm, ⟨3, _⟩ => ⟨S4096x128, .f32⟩
  | .hbm, ⟨4, _⟩ => ⟨S1024x4096, .f32⟩
  | .hbm, ⟨5, _⟩ => ⟨S4096x12288, .f32⟩
  | .hbm, ⟨6, _⟩ => ⟨S1024x12288, .f32⟩
  | .hbm, ⟨7, _⟩ => ⟨S1024x4096, .f32⟩
  | .hbm, ⟨8, _⟩ => ⟨S_, .f32⟩
  | .hbm, ⟨9, _⟩ => ⟨S1024x4096, .f32⟩
  | .hbm, ⟨10, _⟩ => ⟨S1024x4096, .f32⟩
  | .hbm, ⟨11, _⟩ => ⟨S1024x8192, .f32⟩
  | .hbm, ⟨12, _⟩ => ⟨S1024x12288, .f32⟩
  | .hbm, ⟨13, _⟩ => ⟨S1024x12288, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel19.lean ====
abbrev S1024x4096 : Shape := ⟨2, ![1024, 4096]⟩
abbrev S1x4096x6144 : Shape := ⟨3, ![1, 4096, 6144]⟩
abbrev S4096x128 : Shape := ⟨2, ![4096, 128]⟩
abbrev S128 : Shape := ⟨1, ![128]⟩
abbrev S1x128 : Shape := ⟨2, ![1, 128]⟩
abbrev S1024x6144 : Shape := ⟨2, ![1024, 6144]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩
abbrev S1024 : Shape := ⟨1, ![1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x4096, .bf16⟩
  | .hbm, ⟨1, _⟩ => ⟨S1x4096x6144, .f32⟩
  | .hbm, ⟨2, _⟩ => ⟨S4096x128, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1024x6144, .bf16⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x128, .f32⟩
  | .local _ .vmem, ⟨4, _⟩ => ⟨S1024x128, .f32⟩
  | .local _ .vmem, ⟨5, _⟩ => ⟨S1x128, .f32⟩
  | .local _ .vmem, ⟨6, _⟩ => ⟨S1x128, .f32⟩
  | .local _ .vmem, ⟨7, _⟩ => ⟨S1024x512, .bf16⟩
  | .local _ .vmem, ⟨8, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 12], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_4 : BitVec 32 := 8#32
  let v8 : BitVec 1 := Scalar.cmpi .sge arg1 c8_i32_4
  let c10_i32 : BitVec 32 := 10#32
  let v9 : BitVec 1 := Scalar.cmpi .slt arg1 c10_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c10_i32_6 : BitVec 32 := 10#32
  let v13 : BitVec 1 := Scalar.cmpi .sge arg1 c10_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S1024x4096 : Shape := ⟨2, ![1024, 4096]⟩
abbrev S1x4096x6144 : Shape := ⟨3, ![1, 4096, 6144]⟩
abbrev S4096x128 : Shape := ⟨2, ![4096, 128]⟩
abbrev S128 : Shape := ⟨1, ![128]⟩
abbrev S4096x6144 : Shape := ⟨2, ![4096, 6144]⟩
abbrev S1024x6144 : Shape := ⟨2, ![1024, 6144]⟩
abbrev S1024x32x128 : Shape := ⟨3, ![1024, 32, 128]⟩
abbrev S_ : Shape := ⟨0, ![]⟩
abbrev S1024x32 : Shape := ⟨2, ![1024, 32]⟩
abbrev S1024x32x1 : Shape := ⟨3, ![1024, 32, 1]⟩
abbrev S1x1x128 : Shape := ⟨3, ![1, 1, 128]⟩
abbrev S1024x1024 : Shape := ⟨2, ![1024, 1024]⟩
abbrev S1024x8x128 : Shape := ⟨3, ![1024, 8, 128]⟩
abbrev S1024x8 : Shape := ⟨2, ![1024, 8]⟩
abbrev S1024x8x1 : Shape := ⟨3, ![1024, 8, 1]⟩

abbrev nBuf : Space → Nat
  | .hbm => 53
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x6144, .f32⟩
  | .hbm, ⟨2, _⟩ => ⟨S4096x128, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S1024x4096, .f32⟩
  | .hbm, ⟨7, _⟩ => ⟨S4096x6144, .f32⟩
  | .hbm, ⟨8, _⟩ => ⟨S1024x6144, .f32⟩
  | .hbm, ⟨9, _⟩ => ⟨S1024x4096, .f32⟩
  | .hbm, ⟨10, _⟩ => ⟨S1024x32x128, .f32⟩
  | .hbm, ⟨11, _⟩ => ⟨S1024x32x128, .f32⟩
  | .hbm, ⟨12, _⟩ => ⟨S_, .f32⟩
  | .hbm, ⟨13, _⟩ => ⟨S1024x32, .f32⟩
  | .hbm, ⟨14, _⟩ => ⟨S1024x32x1, .f32⟩
  | .hbm, ⟨15, _⟩ => ⟨S_, .f32⟩
  | .hbm, ⟨16, _⟩ => ⟨S1024x32x1, .f32⟩
  | .hbm, ⟨17, _⟩ => ⟨S1024x32x1, .f32⟩
  | .hbm, ⟨18, _⟩ => ⟨S_, .f32⟩
  | .hbm, ⟨19, _⟩ => ⟨S1024x32x1, .f32⟩
  | .hbm, ⟨20, _⟩ => ⟨S1024x32x1, .f32⟩
  | .hbm, ⟨21, _⟩ => ⟨S1024x32x1, .f32⟩
  | .hbm, ⟨22, _⟩ => ⟨S1024x32x128, .f32⟩
  | .hbm, ⟨23, _⟩ => ⟨S1024x32x128, .f32⟩
  | .hbm, ⟨24, _⟩ => ⟨S1x1x128, .f32⟩
  | .hbm, ⟨25, _⟩ => ⟨S1024x32x128, .f32⟩
  | .hbm, ⟨26, _⟩ => ⟨S1024x32x128, .f32⟩
  | .hbm, ⟨27, _⟩ => ⟨S1024x1024, .f32⟩
  | .hbm, ⟨28, _⟩ => ⟨S1024x8x128, .f32⟩
  | .hbm, ⟨29, _⟩ => ⟨S1024x8x128, .f32⟩
  | .hbm, ⟨30, _⟩ => ⟨S_, .f32⟩
  | .hbm, ⟨31, _⟩ => ⟨S1024x8, .f32⟩
  | .hbm, ⟨32, _⟩ => ⟨S1024x8x1, .f32⟩
  | .hbm, ⟨33, _⟩ => ⟨S_, .f32⟩
  | .hbm, ⟨34, _⟩ => ⟨S1024x8x1, .f32⟩
  | .hbm, ⟨35, _⟩ => ⟨S1024x8x1, .f32⟩
  | .hbm, ⟨36, _⟩ => ⟨S_, .f32⟩
  | .hbm, ⟨37, _⟩ => ⟨S1024x8x1, .f32⟩
  | .hbm, ⟨38, _⟩ => ⟨S1024x8x1, .f32⟩
  | .hbm, ⟨39, _⟩ => ⟨S1024x8x1, .f32⟩
  | .hbm, ⟨40, _⟩ => ⟨S1024x8x128, .f32⟩
  | .hbm, ⟨41, _⟩ => ⟨S1024x8x128, .f32⟩
  | .hbm, ⟨42, _⟩ => ⟨S1x1x128, .f32⟩
  | .hbm, ⟨43, _⟩ => ⟨S1024x8x128, .f32⟩
  | .hbm, ⟨44, _⟩ => ⟨S1024x8x128, .f32⟩
  | .hbm, ⟨45, _⟩ => ⟨S_, .f32⟩
  | .hbm, ⟨46, _⟩ => ⟨S1024x32x128, .f32⟩
  | .hbm, ⟨47, _⟩ => ⟨S1024x32x128, .f32⟩
  | .hbm, ⟨48, _⟩ => ⟨S1024x4096, .f32⟩
  | .hbm, ⟨49, _⟩ => ⟨S1024x1024, .f32⟩
  | .hbm, ⟨50, _⟩ => ⟨S1024x1024, .f32⟩
  | .hbm, ⟨51, _⟩ => ⟨S1024x6144, .f32⟩
  | .hbm, ⟨52, _⟩ => ⟨S1024x6144, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Softmax.lean ====
/- The scalar algebra of a row of attention over the extended reals: a softmax taken to base 2 of scores that already
   carry the factor `1 / ln 2`, against the same softmax to base `e` of the scores with that factor taken off again. -/
module

public import Idealize.ShloMosaic.PureOps.Ideal
public import Idealize.ShloMosaic.Lib.Pointwise

@[expose] public section

noncomputable section

namespace Cert.Attn

open Idealize.ShloMosaic

/-- The natural logarithm of two, as an extended real. -/
abbrev ln2 : EReal := ((Real.log 2 : ℝ) : EReal)

theorem ln2_pos : (0 : ℝ) < Real.log 2 := Real.log_pos (by norm_num)

/-- A positive real factor distributes over any sum of two extended reals. -/
theorem coe_mul_add {c : ℝ} (hc : 0 < c) (x y : EReal) : (c : EReal) * (x + y) = c * x + c * y :=
  EReal.left_distrib_of_nonneg_of_ne_top (by exact_mod_cast hc.le) (EReal.coe_ne_top c) x y

/-- A positive real factor distributes over any difference of two extended reals. -/
theorem coe_mul_sub {c : ℝ} (hc : 0 < c) (x y : EReal) : (c : EReal) * (x - y) = c * x - c * y := by
  rw [sub_eq_add_neg, coe_mul_add hc, sub_eq_add_neg, mul_neg]

/-- A positive real factor distributes over any finite sum of extended reals. -/
theorem coe_mul_sum {ι : Type*} {c : ℝ} (hc : 0 < c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- A positive real factor commutes with the running maximum that starts at the bottom. -/
theorem coe_mul_foldMax {ι : Type*} {c : ℝ} (hc : 0 < c) (s : Finset ι) (f : ι → EReal) :
    s.fold max ⊥ (fun i => (c : EReal) * f i) = c * s.fold max ⊥ f := by
  classical
  have hm : Monotone (fun x : EReal => (c : EReal) * x) := fun x y h =>
    mul_le_mul_of_nonneg_left h (by exact_mod_cast hc.le)
  have := Finset.fold_hom (op := (max : EReal → EReal → EReal)) (op' := (max : EReal → EReal → EReal)) (m := fun x : EReal => (c : EReal) * x) (b := ⊥) (s := s) (f := f)
    (fun x y => hm.map_max)
  rw [← this, EReal.coe_mul_bot_of_pos hc]

/-- The exponential of `ln 2` times `x` is two to the power `x`, at the infinities as well. -/
theorem exp_ln2_mul (x : EReal) : Ideal.exp (ln2 * x) = Ideal.exp2 x := by
  induction x using EReal.rec with
  | bot => rw [EReal.coe_mul_bot_of_pos ln2_pos]; rfl
  | top => rw [EReal.coe_mul_top_of_pos ln2_pos]; rfl
  | coe r =>
    rw [← EReal.coe_mul]
    show ((Real.exp (Real.log 2 * r) : ℝ) : EReal) = ((Real.rpow 2 r : ℝ) : EReal)
    rw [Real.rpow_eq_pow, Real.rpow_def_of_pos (by norm_num)]

/-- Powers of two are not negative. -/
theorem exp2_nonneg (x : EReal) : 0 ≤ Ideal.exp2 x := by
  induction x using EReal.rec with
  | bot => exact le_refl _
  | top => exact le_top
  | coe r =>
    show (0 : EReal) ≤ ((Real.rpow 2 r : ℝ) : EReal)
    exact_mod_cast Real.rpow_nonneg (by norm_num) r

/-- One row's weights before normalisation, to base 2: two to the score less the row's greatest score. -/
def pow2Row {n : ℕ} (s : Fin n → EReal) (l : Fin n) : EReal :=
  Ideal.exp2 (s l - Finset.univ.fold max ⊥ s)

/-- One row's weights before normalisation, to base `e`. -/
def expRow {n : ℕ} (s : Fin n → EReal) (l : Fin n) : EReal :=
  Ideal.exp (s l - Finset.univ.fold max ⊥ s)

/-- The weights to base `e` of scores scaled by `ln 2` are the weights to base 2 of the scores. -/
theorem expRow_scale {n : ℕ} (s : Fin n → EReal) (l : Fin n) :
    expRow (fun l => ln2 * s l) l = pow2Row s l := by
  unfold expRow pow2Row
  rw [coe_mul_foldMax ln2_pos, ← coe_mul_sub ln2_pos, exp_ln2_mul]

theorem pow2Row_nonneg {n : ℕ} (s : Fin n → EReal) (l : Fin n) : 0 ≤ pow2Row s l := exp2_nonneg _

/-- A factor pulled out of a quotient by a sum that the weight is one term of: where the sum is zero the weight is zero,
    so the quotient's value there does not matter. -/
theorem weight_div {n : ℕ} (e : Fin n → EReal) (he : ∀ l, 0 ≤ e l) (lam : EReal) (l : Fin n) :
    e l * Ideal.div lam (∑ k, e k) = lam * (e l * Ideal.div 1 (∑ k, e k)) := by
  by_cases h : ∑ k, e k = 0
  · have h0 : e l = 0 := (Finset.sum_eq_zero_iff_of_nonneg fun k _ => he k).mp h l (Finset.mem_univ l)
    rw [h0]; simp
  · unfold Ideal.div
    rw [if_neg h, if_neg h, one_mul, mul_left_comm]

/-- A row of scores with `ln 2` put on the query is `ln 2` times the row of scores. -/
theorem score_scale {d : ℕ} (q k : Fin d → EReal) :
    ∑ x, q x * ln2 * k x = ln2 * ∑ x, q x * k x := by
  rw [coe_mul_sum ln2_pos]
  exact Finset.sum_congr rfl fun x _ => by rw [mul_right_comm, mul_comm]

/-- The logarithm of two, as the host computes it. -/
theorem log_two : Ideal.log (2 : ℝ) = ln2 := if_neg (by norm_num)

/-- Minus infinity, as the maximum's starting value is written. -/
theorem ofBits_ninf : Ideal.ofBits FTy.f32 0xFF800000#32 = ⊥ := by
  simp [Ideal.ofBits, Ideal.ieee]

/-- The number two, as it is written in the reference. -/
theorem ofBits_two : Ideal.ofBits FTy.f32 0x40000000#32 = ((2:ℝ) : EReal) := by
  simp [Ideal.ofBits, Ideal.ieee]
  rw [← EReal.coe_mul]
  norm_num

/-- A weighted sum divided by the sum of its weights, taken term by term. -/
theorem sum_mul_div {n : ℕ} (e v : Fin n → EReal) (he : ∀ l, 0 ≤ e l) :
    (∑ l, e l * v l) * Ideal.div 1 (∑ k, e k) = ∑ l, e l * Ideal.div 1 (∑ k, e k) * v l := by
  have hS : 0 ≤ ∑ k, e k := Finset.sum_nonneg fun k _ => he k
  by_cases h : ∑ k, e k = 0
  · have h0 : ∀ l, e l = 0 := fun l => (Finset.sum_eq_zero_iff_of_nonneg fun k _ => he k).mp h l (Finset.mem_univ l)
    simp [h0]
  · unfold Ideal.div
    rw [if_neg h, one_mul]
    generalize ∑ k, e k = S at hS h
    induction S using EReal.rec with
    | bot => exact absurd hS (by simp)
    | top => simp
    | coe r =>
      have hr : 0 < r := lt_of_le_of_ne (by exact_mod_cast hS) (fun h' => h (by rw [← h']; rfl))
      rw [← EReal.coe_inv, mul_comm, coe_mul_sum (inv_pos.mpr hr)]
      exact Finset.sum_congr rfl fun l _ => by rw [← mul_assoc, mul_comm (e l)]

end Cert.Attn

end
-- ==== Proof.Diff.lean ====
/- The differential attention of one row, as the kernel computes it from the blocks it is given. -/
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

/-- The lower half of a query or key row: the first map's half. -/
abbrev lo (d : Fin 128) : Fin 256 := ⟨d.val, by omega⟩
/-- The upper half of a query or key row: the second map's half. -/
abbrev hi (d : Fin 128) : Fin 256 := ⟨128 + d.val, by omega⟩

/-- One row of the difference of the two attention maps applied to one column of the values. -/
def diffOut (lam : EReal) (s1 s2 : Fin 4352 → EReal) (v : Fin 4352 → EReal) : EReal :=
  ∑ l, (pow2Row s1 l * Ideal.div 1 (∑ k, pow2Row s1 k) - pow2Row s2 l * Ideal.div lam (∑ k, pow2Row s2 k)) * v l

/-- A row normalised by its root mean square, with its gain and the layer's constant factor. -/
def normOut (o g : Fin 256 → EReal) (e : Fin 256) : EReal :=
  o e * Ideal.rsqrt (Ideal.div (∑ x, o x * o x) (Ideal.ofBits FTy.f32 0x43800000#32) + Ideal.ofBits FTy.f32 0x358637BD#32) * g e
    * Ideal.ofBits FTy.f32 0x3F24FD5C#32

/-- The difference's weight, from the four rows of its parameters. -/
def lamOf (p : Fin 4 → Fin 128 → EReal) : EReal :=
  Ideal.exp (∑ x, p 0 x * p 1 x) - Ideal.exp (∑ x, p 2 x * p 3 x) + Ideal.ofBits FTy.f32 0x3EB60549#32

/-- One row of differential attention with its normalisation: query row `q`, keys `k`, values `v`, gain `g`. -/
def rowOut (lam : EReal) (q : Fin 256 → EReal) (k v : Fin 4352 → Fin 256 → EReal) (g : Fin 256 → EReal) : Fin 256 → EReal :=
  normOut (fun e => diffOut lam (fun l => ∑ d, q (lo d) * k l (lo d)) (fun l => ∑ d, q (hi d) * k l (hi d)) (fun l => v l e)) g

/-- The kernel's two softmaxes, their difference and the product with the values, at an index. -/
theorem pay3_apply (v35 : FVec Ideal S1x1 .f32) (v40 : Vec Ideal S1x256x256 .bf16) (v43 v53 : Vec Ideal S4352x128 .bf16)
    (v72 : Vec Ideal S4352x256 .bf16) (r e : Fin 256) :
    k0_pay3 v35 v40 v43 v53 v72 (ix2 r e)
      = diffOut (v35 (ix2 0 0)) (fun l => ∑ d, v40 (ix3 0 r (lo d)) * v43 (ix2 l d))
          (fun l => ∑ d, v40 (ix3 0 r (hi d)) * v53 (ix2 l d)) (fun l => v72 (ix2 l e)) := by
  pointwise [k0_pay3]
  rw [ofBits_ninf]
  rfl

/-- The kernel's row normalisation, at an index. -/
theorem pay2_apply (v35 : FVec Ideal S1x1 .f32) (v40 : Vec Ideal S1x256x256 .bf16) (v43 v53 : Vec Ideal S4352x128 .bf16)
    (v72 : Vec Ideal S4352x256 .bf16) (g : Vec Ideal S1x256 .f32) (z : Fin 1) (r e : Fin 256) :
    k0_pay2 (k0_pay3 v35 v40 v43 v53 v72) (k0_pay4 v35 v40 v43 v53 v72) (FloatOps.ofBits FTy.f32 0x43800000#32) g (ix3 z r e)
      = normOut (fun e => diffOut (v35 (ix2 0 0)) (fun l => ∑ d, v40 (ix3 0 r (lo d)) * v43 (ix2 l d))
          (fun l => ∑ d, v40 (ix3 0 r (hi d)) * v53 (ix2 l d)) (fun l => v72 (ix2 l e))) (fun e => g (ix2 0 e)) e := by
  unfold k0_pay4
  generalize hO : k0_pay3 v35 v40 v43 v53 v72 = O
  have hO' : ∀ r e, O (ix2 r e) = diffOut (v35 (ix2 0 0)) (fun l => ∑ d, v40 (ix3 0 r (lo d)) * v43 (ix2 l d))
          (fun l => ∑ d, v40 (ix3 0 r (hi d)) * v53 (ix2 l d)) (fun l => v72 (ix2 l e)) := fun r e => by
    rw [← hO]; exact pay3_apply _ _ _ _ _ r e
  unfold normOut
  simp only [← hO']
  pointwise [k0_pay2]

/-- The kernel's weight of the difference. -/
theorem lam_apply (x0 : Vec Ideal S4x128 .f32) :
    k0_pay1 (k0_pay9 x0) (k0_pay10 x0) (ix2 0 0) = lamOf (fun i d => x0 (ix2 i d)) := by
  pointwise [k0_pay1, k0_pay9, k0_pay10]
  rfl

end Cert.Attn
-- ==== Proof.Block.lean ====
/- What one grid point of the differential attention leaves in its output block. -/
module

public import proofs.«01_k».proof.Proof.Diff

@[expose] public section

set_option maxRecDepth 16384

noncomputable section

namespace Cert.Attn

open Idealize.ShloMosaic Idealize.ShloMosaic.TcCoe Idealize.SL.Sem
open Cert.KernelIdeal Cert.KernelIdeal.Gen

section Trip

variable (𝒱 : Variants) (c : Dev nD) (bd : Option 𝒱.V) (i : grid0.Coords) (arg2 : Memref sig .tc .vmem S4x128 .f32) (harg2 : arg2.IsWhole) (arg3 : Memref sig .tc .vmem S1x256 .f32) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S4352x256 .bf16) (harg10 : arg10.IsWhole) (arg11 : Memref sig .tc .vmem S4352x256 .bf16) (harg11 : arg11.IsWhole) (v26 : FVec Ideal S1x1 .f32) (v29 : FVec Ideal S1x128 .f32) (X3 : BufTy.Contents (Elt Ideal) arg3.view.ty) (X4 : BufTy.Contents (Elt Ideal) arg4.view.ty) (X10 : BufTy.Contents (Elt Ideal) arg10.view.ty) (X11 : BufTy.Contents (Elt Ideal) arg11.view.ty)

/-- The output block as a function of its index: row attention of the query block's rows over the key and value buffers. -/
def blockOut (lam : EReal) (g : S1x256.Idx → EReal) (q : S1x4096x256.Idx → EReal) (kf vf : S4352x256.Idx → EReal) (y : S1x4096x256.Idx) : EReal :=
  rowOut lam (fun d => q (ix3 0 (y 1) d)) (fun l d => kf (ix2 l d)) (fun l e => vf (ix2 l e)) (fun e => g (ix2 0 e)) (y 2)

/-- A tile of 256 query rows, read from the block where the tile lies, gives that tile of `blockOut`. -/
theorem tile_apply (lam : EReal) (g : S1x256.Idx → EReal) (q : S1x4096x256.Idx → EReal) (kf vf : S4352x256.Idx → EReal)
    (off : Fin 3 → ℕ) (k : ℕ) (inb : ∀ a, off a + S1x256x256.size a ≤ S1x4096x256.size a) (hoff : off = ![0, 256 * k, 0])
    (x0 : Fin 1) (x1 x2 : Fin 256) :
    normOut (fun e => diffOut lam
        (fun l => ∑ d, View.ld (Val := Elt Ideal) (e' := .bf16) q (Rect.unit (s := S1x4096x256) off S1x256x256.size inb) (ix3 0 x1 (lo d))
          * View.ld (Val := Elt Ideal) (e' := .bf16) kf (Rect.unit (s := S4352x256) ![0, 0] S4352x128.size inb_S4352x256_S4352x128_0_0) (ix2 l d))
        (fun l => ∑ d, View.ld (Val := Elt Ideal) (e' := .bf16) q (Rect.unit (s := S1x4096x256) off S1x256x256.size inb) (ix3 0 x1 (hi d))
          * View.ld (Val := Elt Ideal) (e' := .bf16) kf (Rect.unit (s := S4352x256) ![0, 128] S4352x128.size inb_S4352x256_S4352x128_0_128) (ix2 l d))
        (fun l => View.ld (Val := Elt Ideal) (e' := .bf16) vf (Rect.unit (s := S4352x256) ![0, 0] S4352x256.size inb_S4352x256_S4352x256_0_0) (ix2 l e)))
      (fun e => View.ld (Val := Elt Ideal) (e' := .f32) g (Rect.unit (s := S1x256) ![0, 0] S1x256.size inb_S1x256_S1x256_0_0) (ix2 0 e)) x2
      = blockOut lam g q kf vf ((Rect.unit (s := S1x4096x256) off S1x256x256.size inb).emb (ix3 x0 x1 x2)) := by
  subst hoff
  unfold blockOut rowOut
  have e1 : (Rect.unit (s := S1x4096x256) ![0, 256 * k, 0] S1x256x256.size inb).emb (ix3 x0 x1 x2)
      = ix3 0 ⟨256 * k + x1.val, by have := inb 1; change 256 * k + 256 ≤ 4096 at this; omega⟩ x2 := by
    funext a; apply Fin.ext; rw [Rect.emb_apply]
    match a with
    | ⟨0, _⟩ => show 0 + 1 * x0.val = 0; omega
    | ⟨1, _⟩ => show 256 * k + 1 * x1.val = 256 * k + x1.val; omega
    | ⟨2, _⟩ => show 0 + 1 * x2.val = x2.val; omega
  rw [e1]
  pointwise

/-- Every store of one trip of the loop over query tiles puts a tile of `blockOut`. -/
theorem trip_pieces (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 v26 v29 X3 X4 X10 X11 k,
      ∀ x : p.1.shape.Idx, p.2 x = blockOut (k0_pay1 v26 v29 (ix2 0 0)) (arg3.view.read (Elt Ideal) X3) (arg4.view.read (Elt Ideal) X4)
        (arg10.view.read (Elt Ideal) X10) (arg11.view.read (Elt Ideal) X11) (p.1.emb x) := by
  unfold tripL_k0_t1 trip_k0_t1
  dsimp only
  intro p hp
  obtain rfl := List.mem_singleton.mp hp
  intro x
  change S1x256x256.Idx at x
  dsimp only
  sl_unfold_words
  simp only [View.readAt_eq_ld]
  idx_vars x
  refine (pay2_apply _ _ _ _ _ _ _ _ _).trans ?_
  exact tile_apply _ _ _ _ _ (k0_off1 k) k.val (k0_off1_inb k) (k0_off1_eq k) x0 x1 x2

/-- So does every store of the trips before the `n`-th. -/
theorem loop_pieces (n : ℕ) :
    ∀ p ∈ pb_k0_t1 (F := Ideal) 𝒱 c bd i arg2 harg2 arg3 harg3 arg4 harg4 arg5 harg5 arg6 harg6 arg7 harg7 arg8 harg8 arg9 harg9 arg10 harg10 arg11 harg11 v26 v29 X3 X4 X10 X11 n,
      ∀ x : p.1.shape.Idx, p.2 x = blockOut (k0_pay1 v26 v29 (ix2 0 0)) (arg3.view.read (Elt Ideal) X3) (arg4.view.read (Elt Ideal) X4)
        (arg10.view.read (Elt Ideal) X10) (arg11.view.read (Elt Ideal) X11) (p.1.emb x) := by
  induction n with
  | zero => intro p hp; rw [pb_k0_t1.eq_1] at hp; exact absurd hp List.not_mem_nil
  | succ n ih =>
    intro p hp
    by_cases h : n < k0_t1_loop.trips
    · have := pb_k0_t1_succ (F := Ideal) 𝒱 c bd i arg2 harg2 arg3 harg3 arg4 harg4 arg5 harg5 arg6 harg6 arg7 harg7 arg8 harg8 arg9 harg9 arg10 harg10 arg11 harg11 v26 v29 X3 X4 X10 X11 ⟨n, h⟩
      rw [this] at hp
      rcases List.mem_append.mp hp with hp | hp
      · exact trip_pieces 𝒱 c bd i arg2 harg2 arg3 harg3 arg4 harg4 arg5 harg5 arg6 harg6 arg7 harg7 arg8 harg8 arg9 harg9 arg10 harg10 arg11 harg11 v26 v29 X3 X4 X10 X11 ⟨n, h⟩ p hp
      · exact ih p hp
    · rw [pb_k0_t1.eq_2] at hp; unfold pb_k0_t1Step at hp; rw [dif_neg h] at hp
      exact ih p hp

end Trip

/-- A buffer of keys or values: the 256 context rows, then the 4096 latent rows. -/
def joined (xc : S1x256x256.Idx → EReal) (xl : S1x4096x256.Idx → EReal) (l : Fin 4352) (d : Fin 256) : EReal :=
  if h : l.val < 256 then xc (ix3 0 ⟨l.val, h⟩ d) else xl (ix3 0 ⟨l.val - 256, by omega⟩ d)

/-- What the two copies into a key or value buffer leave there. -/
theorem joined_apply (p1 : S4096x256.Idx → Elt Ideal .bf16) (p2 : S256x256.Idx → Elt Ideal .bf16) (l : Fin 4352) (d : Fin 256) :
    View.canon (Val := Elt Ideal) (e := .bf16) [⟨Rect.unit (s := S4352x256) ![256, 0] S4096x256.size inb_S4352x256_S4096x256_256_0, p1⟩,
      ⟨Rect.unit (s := S4352x256) ![0, 0] S256x256.size inb_S4352x256_S256x256_0_0, p2⟩] (ix2 l d)
      = if h : l.val < 256 then p2 (ix2 ⟨l.val, h⟩ d) else p1 (ix2 ⟨l.val - 256, by omega⟩ d) := by
  refine View.canon_eq_of_allAt _ _ _ ?_ ?_
  · by_cases h : l.val < 256
    · refine ⟨_, List.mem_cons_of_mem _ List.mem_cons_self, ?_⟩
      refine (Rect.mem_set_unit (inb := inb_S4352x256_S256x256_0_0)).mpr fun a => ?_
      match a with
      | ⟨0, _⟩ => show 0 ≤ l.val ∧ l.val < 0 + 256; omega
      | ⟨1, _⟩ => show 0 ≤ d.val ∧ d.val < 0 + 256; omega
    · refine ⟨_, List.mem_cons_self, ?_⟩
      refine (Rect.mem_set_unit (inb := inb_S4352x256_S4096x256_256_0)).mpr fun a => ?_
      match a with
      | ⟨0, _⟩ => show 256 ≤ l.val ∧ l.val < 256 + 4096; omega
      | ⟨1, _⟩ => show 0 ≤ d.val ∧ d.val < 0 + 256; omega
  · refine View.allAt_cons_unit _ _ _ _ _ (fun x hx => ?_) (View.allAt_cons_unit _ _ _ _ _ (fun x hx => ?_) (View.allAt_nil _ _))
    · change S4096x256.Idx at x
      idx_vars x
      have h0 : l.val = 256 + x0.val := hx 0
      have h1 : d.val = 0 + x1.val := hx 1
      rw [dif_neg (by omega)]
      congr 1
      exact congrArg₂ ix2 (Fin.ext (by show x0.val = l.val - 256; omega)) (Fin.ext (by omega))
    · change S256x256.Idx at x
      idx_vars x
      have h0 : l.val = 0 + x0.val := hx 0
      have h1 : d.val = 0 + x1.val := hx 1
      rw [dif_pos (by omega)]
      congr 1
      exact congrArg₂ ix2 (Fin.ext (by show x0.val = l.val; omega)) (Fin.ext (by omega))

/-- The two copies into a key or value buffer join the context rows and the latent rows. -/
theorem joined_eq (p1 : S4096x256.Idx → Elt Ideal .bf16) (p2 : S256x256.Idx → Elt Ideal .bf16) (xc : S1x256x256.Idx → EReal) (xl : S1x4096x256.Idx → EReal)
    (h1 : ∀ l d, p1 (ix2 l d) = xl (ix3 0 l d)) (h2 : ∀ l d, p2 (ix2 l d) = xc (ix3 0 l d)) :
    View.canon (Val := Elt Ideal) (e := .bf16) [⟨Rect.unit (s := S4352x256) ![256, 0] S4096x256.size inb_S4352x256_S4096x256_256_0, p1⟩,
      ⟨Rect.unit (s := S4352x256) ![0, 0] S256x256.size inb_S4352x256_S256x256_0_0, p2⟩] = fun j => joined xc xl (j 0) (j 1) := by
  funext j
  idx_vars j
  refine (joined_apply p1 p2 j0 j1).trans ?_
  show _ = joined xc xl j0 j1
  unfold joined
  simp only [h1, h2]

theorem pay5_apply (x : Vec Ideal S1x256x256 .bf16) (l d : Fin 256) : k0_pay5 (View.ld x (Rect.unit (s := S1x256x256) ![0, 0, 0] S1x256x256.size inb_S1x256x256_S1x256x256_0_0_0)) (ix2 l d) = x (ix3 0 l d) := by
  pointwise [k0_pay5]
theorem pay6_apply (x : Vec Ideal S1x256x256 .bf16) (l d : Fin 256) : k0_pay6 (View.ld x (Rect.unit (s := S1x256x256) ![0, 0, 0] S1x256x256.size inb_S1x256x256_S1x256x256_0_0_0)) (ix2 l d) = x (ix3 0 l d) := by
  pointwise [k0_pay6]
theorem pay7_apply (x : Vec Ideal S1x4096x256 .bf16) (l : Fin 4096) (d : Fin 256) : k0_pay7 (View.ld x (Rect.unit (s := S1x4096x256) ![0, 0, 0] S1x4096x256.size inb_S1x4096x256_S1x4096x256_0_0_0)) (ix2 l d) = x (ix3 0 l d) := by
  pointwise [k0_pay7]
theorem pay8_apply (x : Vec Ideal S1x4096x256 .bf16) (l : Fin 4096) (d : Fin 256) : k0_pay8 (View.ld x (Rect.unit (s := S1x4096x256) ![0, 0, 0] S1x4096x256.size inb_S1x4096x256_S1x4096x256_0_0_0)) (ix2 l d) = x (ix3 0 l d) := by
  pointwise [k0_pay8]

/-- The weight of the difference, from the parameters' whole block. -/
theorem lam_ld (x : Vec Ideal S4x128 .f32) :
    k0_pay1 (k0_pay9 (View.ld x (Rect.unit (s := S4x128) ![0, 0] S4x128.size inb_S4x128_S4x128_0_0)))
      (k0_pay10 (View.ld x (Rect.unit (s := S4x128) ![0, 0] S4x128.size inb_S4x128_S4x128_0_0))) (ix2 0 0) = lamOf fun i d => x (ix2 i d) := by
  rw [lam_apply]
  pointwise

variable (m : (ℓ : Loc nD τ sig) → Buf (Elt Ideal) ℓ)

/-- What one grid point leaves in its output block, from the blocks it is given. -/
theorem outs_apply (c : Dev nD) (t : Fin cfg0.N) :
    outsAt0 m c t = blockOut (lamOf fun i d => iblk m c 0 t (ix2 i d)) (iblk m c 1 t) (iblk m c 2 t)
      (fun j => joined (iblk m c 3 t) (iblk m c 5 t) (j 0) (j 1)) (fun j => joined (iblk m c 4 t) (iblk m c 6 t) (j 0) (j 1)) := by
  funext y
  unfold outsAt0 out0_A_7
  rw [View.read_writes_junk_eq_canon]
  refine View.canon_apply_of_pieces _ _ ?_ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) y)
  unfold kernelRun0_A
  dsimp only
  intro p hp x
  refine (loop_pieces _ _ _ _ _ _ _ _ _ _ _ _ _ _ _ _ _ _ _ _ _ _ _ _ _ _ _ _ _ _ _ p hp x).trans ?_
  sl_unfold_words
  simp only [View.readAt_eq_ld, Memref.IsWhole.read_unread, View.read_writes_junk_eq_canon]
  refine congrFun ?_ _
  refine (congrArg (fun lam => blockOut lam _ _ _ _) (lam_ld (iblk m c 0 t))).trans ?_
  exact congrArg₂ (blockOut _ _ _) (joined_eq _ _ _ _ (pay7_apply _) (pay5_apply _)) (joined_eq _ _ _ _ (pay8_apply _) (pay6_apply _))

end Cert.Attn

end
-- ==== Proof.Kernel.lean ====
/- The array that the differential attention's call leaves, as one function of the call's arguments. -/
module

public import proofs.«01_k».proof.Proof.Block

@[expose] public section

set_option maxRecDepth 16384

noncomputable section

namespace Cert.Attn

open Idealize.ShloMosaic Idealize.ShloMosaic.TcCoe Idealize.SL.Sem
open Cert.KernelIdeal Cert.KernelIdeal.Gen

/-- Column `d` of the head that column `c` of the result belongs to, in the part of the projection that starts at `off`. -/
def headCol (off : ℕ) (hoff : off ≤ 8192) (c : Fin 4096) (d : Fin 256) : Fin 12288 := ⟨off + c.val / 256 * 256 + d.val, by omega⟩

/-- The context rows, then the latent rows, of batch `b` at column `j` of the projection. -/
def rowsOf (xc : S4x256x12288.Idx → EReal) (xl : S4x4096x12288.Idx → EReal) (b : Fin 4) (l : Fin 4352) (j : Fin 12288) : EReal :=
  if h : l.val < 256 then xc (ix3 b ⟨l.val, h⟩ j) else xl (ix3 b ⟨l.val - 256, by omega⟩ j)

/-- The differential attention of every row and head, as one function of the call's four arguments. -/
def attnOut (lp : S4x128.Idx → EReal) (g : S256.Idx → EReal) (xc : S4x256x12288.Idx → EReal) (xl : S4x4096x12288.Idx → EReal)
    (b : Fin 4) (r : Fin 4096) (c : Fin 4096) : EReal :=
  rowOut (lamOf fun i d => lp (ix2 i d)) (fun d => xl (ix3 b r (headCol 0 (by omega) c d)))
    (fun l d => rowsOf xc xl b l (headCol 4096 (by omega) c d)) (fun l e => rowsOf xc xl b l (headCol 8192 (by omega) c e))
    (fun e => g (ix1 e)) ⟨c.val % 256, by omega⟩

variable (m : (ℓ : Loc nD τ sig) → Buf (Elt Ideal) ℓ)

theorem idx (t : Fin cfg0.N) : win0_0.index t 0 = 0 ∧ win0_0.index t 1 = 0 ∧ win0_1.index t 0 = 0 ∧ win0_1.index t 1 = 0
    ∧ (win0_2.index t 0 = win0_7.index t 0 ∧ win0_2.index t 1 = 0 ∧ win0_2.index t 2 = win0_7.index t 2)
    ∧ (win0_3.index t 0 = win0_7.index t 0 ∧ win0_3.index t 1 = 0 ∧ win0_3.index t 2 = 16 + win0_7.index t 2)
    ∧ (win0_4.index t 0 = win0_7.index t 0 ∧ win0_4.index t 1 = 0 ∧ win0_4.index t 2 = 32 + win0_7.index t 2)
    ∧ (win0_5.index t 0 = win0_7.index t 0 ∧ win0_5.index t 1 = 0 ∧ win0_5.index t 2 = 16 + win0_7.index t 2)
    ∧ (win0_6.index t 0 = win0_7.index t 0 ∧ win0_6.index t 1 = 0 ∧ win0_6.index t 2 = 32 + win0_7.index t 2)
    ∧ win0_7.index t 1 = 0 :=
  (by decide +kernel : ∀ t : Fin grid0.N, win0_0.index t 0 = 0 ∧ win0_0.index t 1 = 0 ∧ win0_1.index t 0 = 0 ∧ win0_1.index t 1 = 0
    ∧ (win0_2.index t 0 = win0_7.index t 0 ∧ win0_2.index t 1 = 0 ∧ win0_2.index t 2 = win0_7.index t 2)
    ∧ (win0_3.index t 0 = win0_7.index t 0 ∧ win0_3.index t 1 = 0 ∧ win0_3.index t 2 = 16 + win0_7.index t 2)
    ∧ (win0_4.index t 0 = win0_7.index t 0 ∧ win0_4.index t 1 = 0 ∧ win0_4.index t 2 = 32 + win0_7.index t 2)
    ∧ (win0_5.index t 0 = win0_7.index t 0 ∧ win0_5.index t 1 = 0 ∧ win0_5.index t 2 = 16 + win0_7.index t 2)
    ∧ (win0_6.index t 0 = win0_7.index t 0 ∧ win0_6.index t 1 = 0 ∧ win0_6.index t 2 = 32 + win0_7.index t 2)
    ∧ win0_7.index t 1 = 0) t

/-- After the run, the result array is the differential attention of the arguments. -/
theorem final (c : Dev nD) :
    (dats m 0 c).arrAt 7 cfg0.N = fun i => attnOut (m ((c : Thread nD τ).loc main_arg0)) (m ((c : Thread nD τ).loc main_arg1))
      (m ((c : Thread nD τ).loc main_arg2)) (m ((c : Thread nD τ).loc main_arg3)) (i 0) (i 1) (i 2) := by
  refine (dats m 0 c).arrAt_eq_of_covers 7 _ (by decide +kernel) fun t hf y => ?_
  blk_simp
  rw [after0_7, outs_apply]
  change S1x4096x256.Idx at y
  idx_vars y
  obtain ⟨h00, h01, h10, h11, ⟨h20, h21, h22⟩, ⟨h30, h31, h32⟩, ⟨h40, h41, h42⟩, ⟨h50, h51, h52⟩, ⟨h60, h61, h62⟩, h71⟩ := idx t
  generalize hi : (win0_7.blk t).view.emb (ix3 y0 y1 y2) = i
  have i0 : (i 0).val = win0_7.index t 0 := by rw [← hi]; blk_simp
  have i1 : (i 1).val = y1 := by rw [← hi]; blk_simp; omega
  have i2 : (i 2).val = win0_7.index t 2 * 256 + y2 := by rw [← hi]; blk_simp
  have e0 : ∀ a d, iblk m c 0 t (ix2 a d) = m ((c : Thread nD τ).loc main_arg0) (ix2 a d) := by
    intro a d
    blk_ext! [iblk, V, h00, h01]
  have e1 : ∀ d, iblk m c 1 t (ix2 0 d) = m ((c : Thread nD τ).loc main_arg1) (ix1 d) := by
    intro d
    blk_ext! [iblk, V, h10, h11]
  have e2 : ∀ r d, iblk m c 2 t (ix3 0 r d) = m ((c : Thread nD τ).loc main_arg3) (ix3 (i 0) r (headCol 0 (by omega) (i 2) d)) := by
    intro r d
    have : (headCol 0 (by omega) (i 2) d).val = 0 + (i 2).val / 256 * 256 + d.val := rfl
    blk_ext! [iblk, V, h20, h21, h22, i0, i1, i2]
  have c1 : ∀ d, (headCol 4096 (by omega) (i 2) d).val = 4096 + (i 2).val / 256 * 256 + d.val := fun _ => rfl
  have c2 : ∀ d, (headCol 8192 (by omega) (i 2) d).val = 8192 + (i 2).val / 256 * 256 + d.val := fun _ => rfl
  have e3 : ∀ l d, iblk m c 3 t (ix3 0 l d) = m ((c : Thread nD τ).loc main_arg2) (ix3 (i 0) l (headCol 4096 (by omega) (i 2) d)) := by
    intro l d
    have := c1 d
    blk_ext! [iblk, V, h30, h31, h32, i0, i1, i2]
  have e4 : ∀ l d, iblk m c 4 t (ix3 0 l d) = m ((c : Thread nD τ).loc main_arg2) (ix3 (i 0) l (headCol 8192 (by omega) (i 2) d)) := by
    intro l d
    have := c2 d
    blk_ext! [iblk, V, h40, h41, h42, i0, i1, i2]
  have e5 : ∀ l d, iblk m c 5 t (ix3 0 l d) = m ((c : Thread nD τ).loc main_arg3) (ix3 (i 0) l (headCol 4096 (by omega) (i 2) d)) := by
    intro l d
    have := c1 d
    blk_ext! [iblk, V, h50, h51, h52, i0, i1, i2]
  have e6 : ∀ l d, iblk m c 6 t (ix3 0 l d) = m ((c : Thread nD τ).loc main_arg3) (ix3 (i 0) l (headCol 8192 (by omega) (i 2) d)) := by
    intro l d
    have := c2 d
    blk_ext! [iblk, V, h60, h61, h62, i0, i1, i2]
  have j1 : i 1 = y1 := Fin.ext i1
  have j2 : (⟨(i 2).val % 256, by omega⟩ : Fin 256) = y2 := Fin.ext (by show (i 2).val % 256 = y2.val; omega)
  unfold attnOut blockOut
  rw [j2]
  show rowOut _ (fun d => iblk m c 2 t (ix3 0 y1 d)) (fun l d => joined (iblk m c 3 t) (iblk m c 5 t) l d)
    (fun l e => joined (iblk m c 4 t) (iblk m c 6 t) l e) (fun e => iblk m c 1 t (ix2 0 e)) y2 = _
  unfold joined rowsOf
  simp only [e0, e1, e2, e3, e4, e5, e6, j1]

end Cert.Attn

end
-- ==== Proof.Ref.lean ====
/- The reference's stages of the differential attention, read at an index. -/
module

public import proofs.«01_k».proof.Proof.Kernel
public import proofs.«01_k».proof.Proof.Gen.ReferenceIdeal.Read

@[expose] public section

set_option maxRecDepth 16384

noncomputable section

namespace Cert.Attn

open Idealize.ShloMosaic Idealize.ShloMosaic.TcCoe Idealize.SL.Sem
open Cert.ReferenceIdeal Cert.ReferenceIdeal.Gen Cert.ReferenceIdeal.Read

variable (x0 : S4x128.Idx → EReal) (x1 : S256.Idx → EReal) (x2 : S4x256x12288.Idx → EReal) (x3 : S4x4096x12288.Idx → EReal)

/-- Column `d` of half `w` of head `h` in the part of the projection that starts at `off`. -/
def halfCol (off : ℕ) (hoff : off ≤ 8192) (h : Fin 16) (w : Fin 2) (d : Fin 128) : Fin 12288 := ⟨off + h.val * 256 + w.val * 128 + d.val, by omega⟩
/-- Column `e` of head `h` in the part of the projection that starts at `off`. -/
def fullCol (off : ℕ) (hoff : off ≤ 8192) (h : Fin 16) (e : Fin 256) : Fin 12288 := ⟨off + h.val * 256 + e.val, by omega⟩

/-- The reference's scaled queries. -/
theorem ref_q (b : Fin 4) (r : Fin 4096) (h : Fin 16) (w : Fin 2) (d : Fin 128) :
    val_main_v34 (F := Ideal) x3 (ix5 b r h w d) = x3 (ix3 b r (halfCol 0 (by omega) h w d)) * Ideal.log (2:ℝ) := by
  pointwise [val_main_v34, val_main_v33, val_main_v32, val_main_cst_2, val_main_v2, val_main_v1, val_main_v0]
  rw [ofBits_two]
  congr 3
  exact Fin.ext (by show h.val * 256 + w.val * 128 + d.val = 0 + h.val * 256 + w.val * 128 + d.val; omega)

/-- The reference's keys: context rows, then latent rows. -/
theorem ref_k (b : Fin 4) (l : Fin 4352) (h : Fin 16) (w : Fin 2) (d : Fin 128) :
    val_main_v30 (F := Ideal) x2 x3 (ix5 b l h w d) = rowsOf x2 x3 b l (halfCol 4096 (by omega) h w d) := by
  pointwise [val_main_v30, val_main_v9, val_main_v4, val_main_v3, val_main_v0, val_main_v11, val_main_v10, val_main_v7]
  unfold rowsOf
  have e : (⟨4096 + (h.val * 256 + w.val * 128 + d.val), by omega⟩ : Fin 12288) = halfCol 4096 (by omega) h w d :=
    Fin.ext (by show 4096 + (h.val * 256 + w.val * 128 + d.val) = 4096 + h.val * 256 + w.val * 128 + d.val; omega)
  simp only [e]

/-- The reference's values: context rows, then latent rows. -/
theorem ref_v (b : Fin 4) (l : Fin 4352) (h : Fin 16) (e : Fin 256) :
    val_main_v31 (F := Ideal) x2 x3 (ix4 b l h e) = rowsOf x2 x3 b l (fullCol 8192 (by omega) h e) := by
  pointwise [val_main_v31, val_main_v6, val_main_v5, val_main_v0, val_main_v13, val_main_v12, val_main_v7]
  unfold rowsOf
  have e : (⟨8192 + (h.val * 256 + e.val), by omega⟩ : Fin 12288) = fullCol 8192 (by omega) h e :=
    Fin.ext (by show 8192 + (h.val * 256 + e.val) = 8192 + h.val * 256 + e.val; omega)
  simp only [e]

/-- The reference's scores. -/
theorem ref_s (b : Fin 4) (r : Fin 4096) (h : Fin 16) (w : Fin 2) (l : Fin 4352) :
    val_main_v35 (F := Ideal) x2 x3 (ix5 b h w r l) = ∑ d : Fin 128, val_main_v34 (F := Ideal) x3 (ix5 b r h w d) * val_main_v30 (F := Ideal) x2 x3 (ix5 b l h w d) := by
  pointwise [val_main_v35]

/-- The reference's softmax along a row of scores. -/
theorem ref_p (b : Fin 4) (r : Fin 4096) (h : Fin 16) (w : Fin 2) (l : Fin 4352) :
    val_main_v46 (F := Ideal) x2 x3 (ix5 b h w r l) = expRow (fun l => val_main_v35 (F := Ideal) x2 x3 (ix5 b h w r l)) l
      * Ideal.div 1 (∑ k, expRow (fun l => val_main_v35 (F := Ideal) x2 x3 (ix5 b h w r l)) k) := by
  pointwise [val_main_v46, val_main_v45, val_main_v44, val_main_v43, val_main_cst_5, val_main_v42, val_main_v41, val_main_v40, val_main_v39, val_main_v38, val_main_v37, val_main_v36, val_main_cst_3, val_main_cst_4]
  rw [ofBits_ninf]
  rfl

/-- The reference's weight of the difference. -/
theorem ref_lam : val_main_v29 (F := Ideal) x0 ix0 = lamOf fun i d => x0 (ix2 i d) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst, val_main_cst_0, val_main_cst_1]
  rfl

/-- The reference's difference of the two maps, applied to the values. -/
theorem ref_o (b : Fin 4) (r : Fin 4096) (h : Fin 16) (e : Fin 256) :
    val_main_v55 (F := Ideal) x0 x2 x3 (ix4 b r h e) = ∑ l : Fin 4352, (val_main_v46 (F := Ideal) x2 x3 (ix5 b h 0 r l) - val_main_v29 (F := Ideal) x0 ix0 * val_main_v46 (F := Ideal) x2 x3 (ix5 b h 1 r l)) * val_main_v31 (F := Ideal) x2 x3 (ix4 b l h e) := by
  pointwise [val_main_v55, val_main_v54, val_main_v53, val_main_v52, val_main_v51, val_main_v50, val_main_v49, val_main_v48, val_main_v47]
  exact Finset.sum_congr rfl fun _ _ => mul_comm _ _

/-- The reference's normalisation of a row. -/
theorem ref_y (b : Fin 4) (r : Fin 4096) (h : Fin 16) (e : Fin 256) :
    val_main_v70 (F := Ideal) x0 x1 x2 x3 (ix4 b r h e) = normOut (fun e => val_main_v55 (F := Ideal) x0 x2 x3 (ix4 b r h e)) (fun e => x1 (ix1 e)) e := by
  pointwise [val_main_v70, val_main_v69, val_main_v68, val_main_v67, val_main_v66, val_main_v65, val_main_v64, val_main_v63, val_main_v62, val_main_v61, val_main_v60, val_main_v59, val_main_v58, val_main_v57, val_main_v56, val_main_cst_6, val_main_cst_7, val_main_cst_8, val_main_cst_9]
  rfl

/-- The reference's result, by head and column of the head. -/
theorem ref_out (b : Fin 4) (r : Fin 4096) (c : Fin 4096) :
    val_main_v72 (F := Ideal) x0 x1 x2 x3 (ix3 b r c) = val_main_v70 (F := Ideal) x0 x1 x2 x3 (ix4 b r ⟨c.val / 256, by omega⟩ ⟨c.val % 256, by omega⟩) := by
  pointwise [val_main_v72, val_main_v71]

/-- The reference's result is the same function of the arguments that the kernel's call computes. -/
theorem ref_final (b : Fin 4) (r : Fin 4096) (c : Fin 4096) :
    val_main_v72 (F := Ideal) x0 x1 x2 x3 (ix3 b r c) = attnOut x0 x1 x2 x3 b r c := by
  rw [ref_out, ref_y]
  unfold attnOut rowOut
  refine congrArg (fun o => normOut o _ _) (funext fun e => ?_)
  have hq : ∀ (w : Fin 2) (d : Fin 128) (d' : Fin 256), d'.val = w.val * 128 + d.val → ∀ off hoff,
      halfCol off hoff ⟨c.val / 256, by omega⟩ w d = headCol off hoff c d' := fun w d d' h off hoff =>
    Fin.ext (by show off + c.val / 256 * 256 + w.val * 128 + d.val = off + c.val / 256 * 256 + d'.val; omega)
  have hs : ∀ (w : Fin 2) (f : Fin 128 → Fin 256), (∀ d, (f d).val = w.val * 128 + d.val) → ∀ l,
      val_main_v35 (F := Ideal) x2 x3 (ix5 b ⟨c.val / 256, by omega⟩ w r l)
        = ln2 * ∑ d, x3 (ix3 b r (headCol 0 (by omega) c (f d))) * rowsOf x2 x3 b l (headCol 4096 (by omega) c (f d)) := by
    intro w f hf l
    rw [ref_s, ← score_scale]
    refine Finset.sum_congr rfl fun d _ => ?_
    rw [ref_q, ref_k, log_two, hq w d (f d) (hf d), hq w d (f d) (hf d)]
  have hp : ∀ (w : Fin 2) (f : Fin 128 → Fin 256), (∀ d, (f d).val = w.val * 128 + d.val) → ∀ l,
      expRow (fun l => val_main_v35 (F := Ideal) x2 x3 (ix5 b ⟨c.val / 256, by omega⟩ w r l)) l
        = pow2Row (fun l => ∑ d, x3 (ix3 b r (headCol 0 (by omega) c (f d))) * rowsOf x2 x3 b l (headCol 4096 (by omega) c (f d))) l := by
    intro w f hf l
    rw [← expRow_scale]
    exact congrArg (fun s => expRow s l) (funext fun l => hs w f hf l)
  have h0 := hp 0 lo (fun d => by show d.val = 0 * 128 + d.val; omega)
  have h1 := hp 1 hi (fun d => by show 128 + d.val = 1 * 128 + d.val; omega)
  rw [ref_o, ref_lam]
  unfold diffOut
  refine Finset.sum_congr rfl fun l _ => ?_
  rw [ref_p, ref_p, ref_v]
  simp only [h0, h1]
  rw [← weight_div _ (fun k => pow2Row_nonneg _ k) (lamOf _)]
  rfl

end Cert.Attn

end
-- ==== Proof.GqaBlock.lean ====
/- What one grid point of the grouped-query attention leaves in its output block. -/
module

public import proofs.«01_k».proof.Proof.Gen.Kernel2Ideal.Value
public import proofs.«01_k».proof.Proof.Softmax
public import Idealize.ShloMosaic.Lib.Pipeline.ValueKit
public import Idealize.ShloMosaic.Lib.Pointwise

@[expose] public section

set_option maxRecDepth 16384

noncomputable section

namespace Cert.Gqa

open Idealize.ShloMosaic Idealize.ShloMosaic.TcCoe Idealize.SL.Sem Cert.Attn
open Cert.Kernel2Ideal Cert.Kernel2Ideal.Gen

/-- One row of attention applied to one column of the values: the weighted sum, divided by the sum of the weights. -/
def attnRow (s v : Fin 4352 → EReal) : EReal := (∑ l, pow2Row s l * v l) * Ideal.div 1 (∑ k, pow2Row s k)

/-- The first head's stored value, at an index. -/
theorem pay6_apply (q : Vec Ideal S1x256x128 .bf16) (kb vb : Vec Ideal S4352x128 .bf16) (z : Fin 1) (r : Fin 256) (e : Fin 128) :
    k0_pay6 q kb vb (ix3 z r e) = attnRow (fun l => ∑ d, q (ix3 0 r d) * kb (ix2 l d)) (fun l => vb (ix2 l e)) := by
  pointwise [k0_pay6]
  rw [ofBits_ninf]
  rfl

/-- The second head's stored value, at an index. -/
theorem pay9_apply (q : Vec Ideal S1x256x128 .bf16) (kb vb : Vec Ideal S4352x128 .bf16) (z : Fin 1) (r : Fin 256) (e : Fin 128) :
    k0_pay9 (k0_pay7 q kb) (k0_pay8 q kb) vb (ix3 z r e) = attnRow (fun l => ∑ d, q (ix3 0 r d) * kb (ix2 l d)) (fun l => vb (ix2 l e)) := by
  pointwise [k0_pay9, k0_pay7, k0_pay8]
  rw [ofBits_ninf]
  rfl

/-- The third head's stored value, at an index. -/
theorem pay10_apply (q : Vec Ideal S1x256x128 .bf16) (kb vb : Vec Ideal S4352x128 .bf16) (z : Fin 1) (r : Fin 256) (e : Fin 128) :
    k0_pay10 q kb vb (ix3 z r e) = attnRow (fun l => ∑ d, q (ix3 0 r d) * kb (ix2 l d)) (fun l => vb (ix2 l e)) := by
  pointwise [k0_pay10]
  rw [ofBits_ninf]
  rfl

/-- The fourth head's stored value, at an index. -/
theorem pay5_apply (q : Vec Ideal S1x256x128 .bf16) (kb vb : Vec Ideal S4352x128 .bf16) (z : Fin 1) (r : Fin 256) (e : Fin 128) :
    k0_pay5 q kb vb (ix3 z r e) = attnRow (fun l => ∑ d, q (ix3 0 r d) * kb (ix2 l d)) (fun l => vb (ix2 l e)) := by
  pointwise [k0_pay5]
  rw [ofBits_ninf]
  rfl

/-- The output block as a function of its index: row attention of the query block's rows, head by head, over the key and value buffers. -/
def blockOut (q : S1x4096x512.Idx → EReal) (kf vf : S4352x128.Idx → EReal) (y : S1x4096x512.Idx) : EReal :=
  attnRow (fun l => ∑ d : Fin 128, q (ix3 0 (y 1) ⟨(y 2).val / 128 * 128 + d.val, by have h : (y 2).val < 512 := (y 2).isLt; omega⟩) * kf (ix2 l d))
    (fun l => vf (ix2 l ⟨(y 2).val % 128, Nat.mod_lt _ (by decide)⟩))

/-- A tile of 256 query rows of one head, read from the block where the tile lies, gives that tile of `blockOut`. -/
theorem tile_apply (q : S1x4096x512.Idx → EReal) (kf vf : S4352x128.Idx → EReal)
    (off : Fin 3 → ℕ) (k h : ℕ) (inb : ∀ a, off a + S1x256x128.size a ≤ S1x4096x512.size a) (hoff : off = ![0, 256 * k, 128 * h])
    (x0 : Fin 1) (x1 : Fin 256) (x2 : Fin 128) :
    attnRow (fun l => ∑ d, View.ld (Val := Elt Ideal) (e' := .bf16) q (Rect.unit (s := S1x4096x512) off S1x256x128.size inb) (ix3 0 x1 d)
          * View.ld (Val := Elt Ideal) (e' := .bf16) kf (Rect.unit (s := S4352x128) ![0, 0] S4352x128.size inb_S4352x128_S4352x128_0_0) (ix2 l d))
        (fun l => View.ld (Val := Elt Ideal) (e' := .bf16) vf (Rect.unit (s := S4352x128) ![0, 0] S4352x128.size inb_S4352x128_S4352x128_0_0) (ix2 l x2))
      = blockOut q kf vf ((Rect.unit (s := S1x4096x512) off S1x256x128.size inb).emb (ix3 x0 x1 x2)) := by
  subst hoff
  unfold blockOut
  have b1 := inb 1
  have b2 := inb 2
  change 256 * k + 256 ≤ 4096 at b1
  change 128 * h + 128 ≤ 512 at b2
  have e1 : (Rect.unit (s := S1x4096x512) ![0, 256 * k, 128 * h] S1x256x128.size inb).emb (ix3 x0 x1 x2)
      = ix3 0 ⟨256 * k + x1.val, by omega⟩ ⟨128 * h + x2.val, by omega⟩ := by
    funext a; apply Fin.ext; rw [Rect.emb_apply]
    match a with
    | ⟨0, _⟩ => show 0 + 1 * x0.val = 0; omega
    | ⟨1, _⟩ => show 256 * k + 1 * x1.val = 256 * k + x1.val; omega
    | ⟨2, _⟩ => show 128 * h + 1 * x2.val = 128 * h + x2.val; omega
  rw [e1]
  have e2 : ∀ d : Fin 128, (⟨(128 * h + x2.val) / 128 * 128 + d.val, by omega⟩ : Fin 512) = ⟨128 * h + d.val, by omega⟩ := fun d => Fin.ext (by show (128 * h + x2.val) / 128 * 128 + d.val = 128 * h + d.val; omega)
  have e3 : (⟨(128 * h + x2.val) % 128, Nat.mod_lt _ (by decide)⟩ : Fin 128) = x2 := Fin.ext (by show (128 * h + x2.val) % 128 = x2.val; omega)
  show _ = attnRow (fun l => ∑ d : Fin 128, q (ix3 0 ⟨256 * k + x1.val, by omega⟩ ⟨(128 * h + x2.val) / 128 * 128 + d.val, by omega⟩) * kf (ix2 l d))
    (fun l => vf (ix2 l ⟨(128 * h + x2.val) % 128, Nat.mod_lt _ (by decide)⟩))
  simp only [e2, e3]
  pointwise

section Trip

variable (𝒱 : Variants) (c : Dev nD) (bd : Option 𝒱.V) (i : grid0.Coords) (arg2 : Memref sig .tc .vmem S1x4096x512 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x512 .bf16) (harg7 : arg7.IsWhole) (arg8 : Memref sig .tc .vmem S4352x128 .bf16) (harg8 : arg8.IsWhole) (arg9 : Memref sig .tc .vmem S4352x128 .bf16) (harg9 : arg9.IsWhole) (X2 : BufTy.Contents (Elt Ideal) arg2.view.ty) (X8 : BufTy.Contents (Elt Ideal) arg8.view.ty) (X9 : BufTy.Contents (Elt Ideal) arg9.view.ty)

/-- Every store of one trip of the loop over query tiles puts a tile of `blockOut`. -/
theorem trip_pieces (k : Fin k0_t1_loop.trips) :
    ∀ p ∈ tripL_k0_t1 (F := Ideal) 𝒱 c bd i arg2 harg2 arg3 harg3 arg4 harg4 arg5 harg5 arg6 harg6 arg7 harg7 arg8 harg8 arg9 harg9 X2 X8 X9 k,
      ∀ x : p.1.shape.Idx, p.2 x = blockOut (arg2.view.read (Elt Ideal) X2) (arg8.view.read (Elt Ideal) X8) (arg9.view.read (Elt Ideal) X9) (p.1.emb x) := by
  unfold tripL_k0_t1 trip_k0_t1
  dsimp only
  intro p hp
  simp only [List.mem_cons, List.not_mem_nil, or_false] at hp
  rcases hp with rfl | rfl | rfl | rfl
  · intro x
    change S1x256x128.Idx at x
    dsimp only
    sl_unfold_words
    simp only [View.readAt_eq_ld]
    idx_vars x
    refine (pay5_apply _ _ _ _ _ _).trans ?_
    exact tile_apply _ _ _ (k0_off4 k) k.val 3 (k0_off4_inb k) (k0_off4_eq k) x0 x1 x2
  · intro x
    change S1x256x128.Idx at x
    dsimp only
    sl_unfold_words
    simp only [View.readAt_eq_ld]
    idx_vars x
    refine (pay10_apply _ _ _ _ _ _).trans ?_
    exact tile_apply _ _ _ (k0_off3 k) k.val 2 (k0_off3_inb k) (k0_off3_eq k) x0 x1 x2
  · intro x
    change S1x256x128.Idx at x
    dsimp only
    sl_unfold_words
    simp only [View.readAt_eq_ld]
    idx_vars x
    refine (pay9_apply _ _ _ _ _ _).trans ?_
    exact tile_apply _ _ _ (k0_off2 k) k.val 1 (k0_off2_inb k) (k0_off2_eq k) x0 x1 x2
  · intro x
    change S1x256x128.Idx at x
    dsimp only
    sl_unfold_words
    simp only [View.readAt_eq_ld]
    idx_vars x
    refine (pay6_apply _ _ _ _ _ _).trans ?_
    exact tile_apply _ _ _ (k0_off1 k) k.val 0 (k0_off1_inb k) (k0_off1_eq k) x0 x1 x2

/-- So does every store of the trips before the `n`-th. -/
theorem loop_pieces (n : ℕ) :
    ∀ p ∈ pb_k0_t1 (F := Ideal) 𝒱 c bd i arg2 harg2 arg3 harg3 arg4 harg4 arg5 harg5 arg6 harg6 arg7 harg7 arg8 harg8 arg9 harg9 X2 X8 X9 n,
      ∀ x : p.1.shape.Idx, p.2 x = blockOut (arg2.view.read (Elt Ideal) X2) (arg8.view.read (Elt Ideal) X8) (arg9.view.read (Elt Ideal) X9) (p.1.emb x) := by
  induction n with
  | zero => intro p hp; rw [pb_k0_t1.eq_1] at hp; exact absurd hp List.not_mem_nil
  | succ n ih =>
    intro p hp
    by_cases h : n < k0_t1_loop.trips
    · have := pb_k0_t1_succ (F := Ideal) 𝒱 c bd i arg2 harg2 arg3 harg3 arg4 harg4 arg5 harg5 arg6 harg6 arg7 harg7 arg8 harg8 arg9 harg9 X2 X8 X9 ⟨n, h⟩
      rw [this] at hp
      rcases List.mem_append.mp hp with hp | hp
      · exact trip_pieces 𝒱 c bd i arg2 harg2 arg3 harg3 arg4 harg4 arg5 harg5 arg6 harg6 arg7 harg7 arg8 harg8 arg9 harg9 X2 X8 X9 ⟨n, h⟩ p hp
      · exact ih p hp
    · rw [pb_k0_t1.eq_2] at hp; unfold pb_k0_t1Step at hp; rw [dif_neg h] at hp
      exact ih p hp

end Trip

/-- A buffer of keys or values: the 256 context rows, then the 4096 latent rows. -/
def joined (xc : S1x256x128.Idx → EReal) (xl : S1x4096x128.Idx → EReal) (l : Fin 4352) (d : Fin 128) : EReal :=
  if h : l.val < 256 then xc (ix3 0 ⟨l.val, h⟩ d) else xl (ix3 0 ⟨l.val - 256, by omega⟩ d)

/-- What the two copies into a key or value buffer leave there. -/
theorem joined_apply (p1 : S4096x128.Idx → Elt Ideal .bf16) (p2 : S256x128.Idx → Elt Ideal .bf16) (l : Fin 4352) (d : Fin 128) :
    View.canon (Val := Elt Ideal) (e := .bf16) [⟨Rect.unit (s := S4352x128) ![256, 0] S4096x128.size inb_S4352x128_S4096x128_256_0, p1⟩,
      ⟨Rect.unit (s := S4352x128) ![0, 0] S256x128.size inb_S4352x128_S256x128_0_0, p2⟩] (ix2 l d)
      = if h : l.val < 256 then p2 (ix2 ⟨l.val, h⟩ d) else p1 (ix2 ⟨l.val - 256, by omega⟩ d) := by
  refine View.canon_eq_of_allAt _ _ _ ?_ ?_
  · by_cases h : l.val < 256
    · refine ⟨_, List.mem_cons_of_mem _ List.mem_cons_self, ?_⟩
      refine (Rect.mem_set_unit (inb := inb_S4352x128_S256x128_0_0)).mpr fun a => ?_
      match a with
      | ⟨0, _⟩ => show 0 ≤ l.val ∧ l.val < 0 + 256; omega
      | ⟨1, _⟩ => show 0 ≤ d.val ∧ d.val < 0 + 128; omega
    · refine ⟨_, List.mem_cons_self, ?_⟩
      refine (Rect.mem_set_unit (inb := inb_S4352x128_S4096x128_256_0)).mpr fun a => ?_
      match a with
      | ⟨0, _⟩ => show 256 ≤ l.val ∧ l.val < 256 + 4096; omega
      | ⟨1, _⟩ => show 0 ≤ d.val ∧ d.val < 0 + 128; omega
  · refine View.allAt_cons_unit _ _ _ _ _ (fun x hx => ?_) (View.allAt_cons_unit _ _ _ _ _ (fun x hx => ?_) (View.allAt_nil _ _))
    · change S4096x128.Idx at x
      idx_vars x
      have h0 : l.val = 256 + x0.val := hx 0
      have h1 : d.val = 0 + x1.val := hx 1
      rw [dif_neg (by omega)]
      congr 1
      exact congrArg₂ ix2 (Fin.ext (by show x0.val = l.val - 256; omega)) (Fin.ext (by omega))
    · change S256x128.Idx at x
      idx_vars x
      have h0 : l.val = 0 + x0.val := hx 0
      have h1 : d.val = 0 + x1.val := hx 1
      rw [dif_pos (by omega)]
      congr 1
      exact congrArg₂ ix2 (Fin.ext (by show x0.val = l.val; omega)) (Fin.ext (by omega))

/-- The two copies into a key or value buffer join the context rows and the latent rows. -/
theorem joined_eq (p1 : S4096x128.Idx → Elt Ideal .bf16) (p2 : S256x128.Idx → Elt Ideal .bf16) (xc : S1x256x128.Idx → EReal) (xl : S1x4096x128.Idx → EReal)
    (h1 : ∀ l d, p1 (ix2 l d) = xl (ix3 0 l d)) (h2 : ∀ l d, p2 (ix2 l d) = xc (ix3 0 l d)) :
    View.canon (Val := Elt Ideal) (e := .bf16) [⟨Rect.unit (s := S4352x128) ![256, 0] S4096x128.size inb_S4352x128_S4096x128_256_0, p1⟩,
      ⟨Rect.unit (s := S4352x128) ![0, 0] S256x128.size inb_S4352x128_S256x128_0_0, p2⟩] = fun j => joined xc xl (j 0) (j 1) := by
  funext j
  idx_vars j
  refine (joined_apply p1 p2 j0 j1).trans ?_
  show _ = joined xc xl j0 j1
  unfold joined
  simp only [h1, h2]

theorem pay1_apply (x : Vec Ideal S1x256x128 .bf16) (l : Fin 256) (d : Fin 128) : k0_pay1 (View.ld x (Rect.unit (s := S1x256x128) ![0, 0, 0] S1x256x128.size inb_S1x256x128_S1x256x128_0_0_0)) (ix2 l d) = x (ix3 0 l d) := by
  pointwise [k0_pay1]
theorem pay2_apply (x : Vec Ideal S1x256x128 .bf16) (l : Fin 256) (d : Fin 128) : k0_pay2 (View.ld x (Rect.unit (s := S1x256x128) ![0, 0, 0] S1x256x128.size inb_S1x256x128_S1x256x128_0_0_0)) (ix2 l d) = x (ix3 0 l d) := by
  pointwise [k0_pay2]
theorem pay3_apply (x : Vec Ideal S1x4096x128 .bf16) (l : Fin 4096) (d : Fin 128) : k0_pay3 (View.ld x (Rect.unit (s := S1x4096x128) ![0, 0, 0] S1x4096x128.size inb_S1x4096x128_S1x4096x128_0_0_0)) (ix2 l d) = x (ix3 0 l d) := by
  pointwise [k0_pay3]
theorem pay4_apply (x : Vec Ideal S1x4096x128 .bf16) (l : Fin 4096) (d : Fin 128) : k0_pay4 (View.ld x (Rect.unit (s := S1x4096x128) ![0, 0, 0] S1x4096x128.size inb_S1x4096x128_S1x4096x128_0_0_0)) (ix2 l d) = x (ix3 0 l d) := by
  pointwise [k0_pay4]

variable (m : (ℓ : Loc nD τ sig) → Buf (Elt Ideal) ℓ)

/-- What one grid point leaves in its output block, from the blocks it is given. -/
theorem outs_apply (c : Dev nD) (t : Fin cfg0.N) :
    outsAt0 m c t = blockOut (iblk m c 0 t) (fun j => joined (iblk m c 1 t) (iblk m c 3 t) (j 0) (j 1))
      (fun j => joined (iblk m c 2 t) (iblk m c 4 t) (j 0) (j 1)) := by
  funext y
  unfold outsAt0 out0_A_5
  rw [View.read_writes_junk_eq_canon]
  refine View.canon_apply_of_pieces _ _ ?_ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) y)
  unfold kernelRun0_A
  dsimp only
  intro p hp x
  refine (loop_pieces _ _ _ _ _ _ _ _ _ _ _ _ _ _ _ _ _ _ _ _ _ _ _ _ p hp x).trans ?_
  sl_unfold_words
  simp only [View.readAt_eq_ld, Memref.IsWhole.read_unread, View.read_writes_junk_eq_canon]
  refine congrFun ?_ _
  exact congrArg₂ (blockOut _) (joined_eq _ _ _ _ (pay3_apply _) (pay1_apply _)) (joined_eq _ _ _ _ (pay4_apply _) (pay2_apply _))

end Cert.Gqa

end
-- ==== Proof.GqaKernel.lean ====
/- The array that the grouped-query attention's call leaves, as one function of the call's arguments. -/
module

public import proofs.«01_k».proof.Proof.GqaBlock

@[expose] public section

set_option maxRecDepth 16384

noncomputable section

namespace Cert.Gqa

open Idealize.ShloMosaic Idealize.ShloMosaic.TcCoe Idealize.SL.Sem Cert.Attn
open Cert.Kernel2Ideal Cert.Kernel2Ideal.Gen

/-- Column `d` of the query head that column `c` of the result belongs to. -/
def qCol (c : Fin 4096) (d : Fin 128) : Fin 6144 := ⟨c.val / 128 * 128 + d.val, by omega⟩
/-- Column `d` of the key or value head that serves column `c` of the result, in the part of the projection that starts at `off`. -/
def kvCol (off : ℕ) (hoff : off ≤ 5120) (c : Fin 4096) (d : Fin 128) : Fin 6144 := ⟨off + c.val / 512 * 128 + d.val, by omega⟩

/-- The context rows, then the latent rows, of batch `b` at column `j` of the projection. -/
def rowsOf (xc : S4x256x6144.Idx → EReal) (xl : S4x4096x6144.Idx → EReal) (b : Fin 4) (l : Fin 4352) (j : Fin 6144) : EReal :=
  if h : l.val < 256 then xc (ix3 b ⟨l.val, h⟩ j) else xl (ix3 b ⟨l.val - 256, by omega⟩ j)

/-- The grouped-query attention of every row and head, as one function of the call's two arguments. -/
def attnOut (xc : S4x256x6144.Idx → EReal) (xl : S4x4096x6144.Idx → EReal) (b : Fin 4) (r : Fin 4096) (c : Fin 4096) : EReal :=
  attnRow (fun l => ∑ d, xl (ix3 b r (qCol c d)) * rowsOf xc xl b l (kvCol 4096 (by omega) c d))
    (fun l => rowsOf xc xl b l (kvCol 5120 (by omega) c ⟨c.val % 128, Nat.mod_lt _ (by decide)⟩))

/-- An entry of a block of the result, with its keys and values as context rows, then latent rows. -/
theorem blockOut_joined (q : S1x4096x512.Idx → EReal) (kc vc : S1x256x128.Idx → EReal) (kl vl : S1x4096x128.Idx → EReal)
    (y0 : Fin 1) (y1 : Fin 4096) (y2 : Fin 512) :
    blockOut q (fun j => joined kc kl (j 0) (j 1)) (fun j => joined vc vl (j 0) (j 1)) (ix3 y0 y1 y2)
      = attnRow (fun l => ∑ d : Fin 128, q (ix3 0 y1 ⟨y2.val / 128 * 128 + d.val, by omega⟩) * joined kc kl l d)
        (fun l => joined vc vl l ⟨y2.val % 128, Nat.mod_lt _ (by decide)⟩) := rfl

variable (m : (ℓ : Loc nD τ sig) → Buf (Elt Ideal) ℓ)

/-- The block indices of the inputs against the output's, at every grid point. -/
theorem idx (t : Fin cfg0.N) : (win0_0.index t 0 = win0_5.index t 0 ∧ win0_0.index t 1 = 0 ∧ win0_0.index t 2 = win0_5.index t 2)
    ∧ (win0_1.index t 0 = win0_5.index t 0 ∧ win0_1.index t 1 = 0 ∧ win0_1.index t 2 = 32 + win0_5.index t 2)
    ∧ (win0_2.index t 0 = win0_5.index t 0 ∧ win0_2.index t 1 = 0 ∧ win0_2.index t 2 = 40 + win0_5.index t 2)
    ∧ (win0_3.index t 0 = win0_5.index t 0 ∧ win0_3.index t 1 = 0 ∧ win0_3.index t 2 = 32 + win0_5.index t 2)
    ∧ (win0_4.index t 0 = win0_5.index t 0 ∧ win0_4.index t 1 = 0 ∧ win0_4.index t 2 = 40 + win0_5.index t 2)
    ∧ win0_5.index t 1 = 0 :=
  (by decide +kernel : ∀ t : Fin grid0.N, (win0_0.index t 0 = win0_5.index t 0 ∧ win0_0.index t 1 = 0 ∧ win0_0.index t 2 = win0_5.index t 2)
    ∧ (win0_1.index t 0 = win0_5.index t 0 ∧ win0_1.index t 1 = 0 ∧ win0_1.index t 2 = 32 + win0_5.index t 2)
    ∧ (win0_2.index t 0 = win0_5.index t 0 ∧ win0_2.index t 1 = 0 ∧ win0_2.index t 2 = 40 + win0_5.index t 2)
    ∧ (win0_3.index t 0 = win0_5.index t 0 ∧ win0_3.index t 1 = 0 ∧ win0_3.index t 2 = 32 + win0_5.index t 2)
    ∧ (win0_4.index t 0 = win0_5.index t 0 ∧ win0_4.index t 1 = 0 ∧ win0_4.index t 2 = 40 + win0_5.index t 2)
    ∧ win0_5.index t 1 = 0) t

/-- After the run, the result array is the grouped-query attention of the arguments. -/
theorem final (c : Dev nD) :
    (dats m 0 c).arrAt 5 cfg0.N = fun i => attnOut (m ((c : Thread nD τ).loc main_arg0)) (m ((c : Thread nD τ).loc main_arg1)) (i 0) (i 1) (i 2) := by
  refine (dats m 0 c).arrAt_eq_of_covers 5 _ (by decide +kernel) fun t hf y => ?_
  blk_simp
  rw [after0_5, outs_apply]
  change S1x4096x512.Idx at y
  idx_vars y
  obtain ⟨⟨h00, h01, h02⟩, ⟨h10, h11, h12⟩, ⟨h20, h21, h22⟩, ⟨h30, h31, h32⟩, ⟨h40, h41, h42⟩, h51⟩ := idx t
  generalize hi : (win0_5.blk t).view.emb (ix3 y0 y1 y2) = i
  have i0 : (i 0).val = win0_5.index t 0 := by rw [← hi]; blk_simp
  have i1 : (i 1).val = y1 := by rw [← hi]; blk_simp; omega
  have i2 : (i 2).val = win0_5.index t 2 * 512 + y2 := by rw [← hi]; blk_simp
  have e0 : ∀ r (d : Fin 128), iblk m c 0 t (ix3 0 r ⟨y2.val / 128 * 128 + d.val, by omega⟩) = m ((c : Thread nD τ).loc main_arg1) (ix3 (i 0) r (qCol (i 2) d)) := by
    intro r d
    have : (qCol (i 2) d).val = (i 2).val / 128 * 128 + d.val := rfl
    blk_ext! [iblk, V, h00, h01, h02, i0, i1, i2]
  have c1 : ∀ d, (kvCol 4096 (by omega) (i 2) d).val = 4096 + (i 2).val / 512 * 128 + d.val := fun _ => rfl
  have c2 : ∀ d, (kvCol 5120 (by omega) (i 2) d).val = 5120 + (i 2).val / 512 * 128 + d.val := fun _ => rfl
  have e1 : ∀ l d, iblk m c 1 t (ix3 0 l d) = m ((c : Thread nD τ).loc main_arg0) (ix3 (i 0) l (kvCol 4096 (by omega) (i 2) d)) := by
    intro l d
    have := c1 d
    blk_ext! [iblk, V, h10, h11, h12, i0, i1, i2]
  have e2 : ∀ l d, iblk m c 2 t (ix3 0 l d) = m ((c : Thread nD τ).loc main_arg0) (ix3 (i 0) l (kvCol 5120 (by omega) (i 2) d)) := by
    intro l d
    have := c2 d
    blk_ext! [iblk, V, h20, h21, h22, i0, i1, i2]
  have e3 : ∀ l d, iblk m c 3 t (ix3 0 l d) = m ((c : Thread nD τ).loc main_arg1) (ix3 (i 0) l (kvCol 4096 (by omega) (i 2) d)) := by
    intro l d
    have := c1 d
    blk_ext! [iblk, V, h30, h31, h32, i0, i1, i2]
  have e4 : ∀ l d, iblk m c 4 t (ix3 0 l d) = m ((c : Thread nD τ).loc main_arg1) (ix3 (i 0) l (kvCol 5120 (by omega) (i 2) d)) := by
    intro l d
    have := c2 d
    blk_ext! [iblk, V, h40, h41, h42, i0, i1, i2]
  have j1 : i 1 = y1 := Fin.ext i1
  have j2 : (⟨(i 2).val % 128, Nat.mod_lt _ (by decide)⟩ : Fin 128) = ⟨y2.val % 128, Nat.mod_lt _ (by decide)⟩ := Fin.ext (by show (i 2).val % 128 = y2.val % 128; omega)
  unfold attnOut
  rw [j2]
  refine (blockOut_joined _ _ _ _ _ y0 y1 y2).trans ?_
  unfold joined rowsOf
  simp only [e0, e1, e2, e3, e4, j1]

end Cert.Gqa

end
-- ==== Proof.GqaRef.lean ====
/- The grouped-query attention's plain formula, and that it is what the call computes. -/
module

public import proofs.«01_k».proof.Proof.GqaKernel
public import proofs.«01_k».proof.Proof.Gen.Reference2Ideal.Read

@[expose] public section

set_option maxRecDepth 16384

noncomputable section

namespace Cert.Gqa

open Idealize.ShloMosaic Idealize.ShloMosaic.TcCoe Idealize.SL.Sem Cert.Attn
open Cert.Reference2Ideal Cert.Reference2Ideal.Gen Cert.Reference2Ideal.Read

variable (x0 : S4x256x6144.Idx → EReal) (x1 : S4x4096x6144.Idx → EReal)

/-- Column `d` of query head `w` of group `g`. -/
def qHead (g : Fin 8) (w : Fin 4) (d : Fin 128) : Fin 6144 := ⟨g.val * 512 + w.val * 128 + d.val, by omega⟩
/-- Column `d` of the key or value head of group `g`, in the part of the projection that starts at `off`. -/
def kvHead (off : ℕ) (hoff : off ≤ 5120) (g : Fin 8) (d : Fin 128) : Fin 6144 := ⟨off + (g.val * 128 + d.val), by omega⟩

/-- The reference's scaled queries. -/
theorem ref_q (b : Fin 4) (r : Fin 4096) (g : Fin 8) (w : Fin 4) (d : Fin 128) :
    val_main_v18 (F := Ideal) x1 (ix5 b r g w d) = x1 (ix3 b r (qHead g w d)) * Ideal.log (2:ℝ) := by
  pointwise [val_main_v18, val_main_v17, val_main_v16, val_main_cst, val_main_v2, val_main_v1, val_main_v0]
  rw [ofBits_two]
  rfl

/-- The reference's keys: context rows, then latent rows. -/
theorem ref_k (b : Fin 4) (l : Fin 4352) (g : Fin 8) (d : Fin 128) :
    val_main_v14 (F := Ideal) x0 x1 (ix4 b l g d) = rowsOf x0 x1 b l (kvHead 4096 (by omega) g d) := by
  pointwise [val_main_v14, val_main_v11, val_main_v10, val_main_v7, val_main_v4, val_main_v3, val_main_v0]
  rfl

/-- The reference's values: context rows, then latent rows. -/
theorem ref_v (b : Fin 4) (l : Fin 4352) (g : Fin 8) (d : Fin 128) :
    val_main_v15 (F := Ideal) x0 x1 (ix4 b l g d) = rowsOf x0 x1 b l (kvHead 5120 (by omega) g d) := by
  pointwise [val_main_v15, val_main_v13, val_main_v12, val_main_v7, val_main_v6, val_main_v5, val_main_v0]
  rfl

/-- The reference's scores. -/
theorem ref_s (b : Fin 4) (r : Fin 4096) (g : Fin 8) (w : Fin 4) (l : Fin 4352) :
    val_main_v20 (F := Ideal) x0 x1 (ix5 b g w r l) = ∑ d : Fin 128, val_main_v18 (F := Ideal) x1 (ix5 b r g w d) * val_main_v14 (F := Ideal) x0 x1 (ix4 b l g d) := by
  pointwise [val_main_v20, val_main_v19]
  exact Finset.sum_congr rfl fun _ _ => mul_comm _ _

/-- The reference's softmax along a row of scores. -/
theorem ref_p (b : Fin 4) (r : Fin 4096) (g : Fin 8) (w : Fin 4) (l : Fin 4352) :
    val_main_v31 (F := Ideal) x0 x1 (ix5 b g w r l) = expRow (fun l => val_main_v20 (F := Ideal) x0 x1 (ix5 b g w r l)) l
      * Ideal.div 1 (∑ k, expRow (fun l => val_main_v20 (F := Ideal) x0 x1 (ix5 b g w r l)) k) := by
  pointwise [val_main_v31, val_main_v30, val_main_v29, val_main_v28, val_main_cst_2, val_main_v27, val_main_v26, val_main_cst_1, val_main_v25, val_main_v24, val_main_v23, val_main_v22, val_main_v21, val_main_cst_0]
  rw [ofBits_ninf]
  rfl

/-- The reference's result, by group, head and column of the head. -/
theorem ref_o (b : Fin 4) (r : Fin 4096) (c : Fin 4096) :
    val_main_v35 (F := Ideal) x0 x1 (ix3 b r c) = ∑ l : Fin 4352, val_main_v31 (F := Ideal) x0 x1 (ix5 b ⟨c.val / 512, by omega⟩ ⟨c.val / 128 % 4, by omega⟩ r l)
      * val_main_v15 (F := Ideal) x0 x1 (ix4 b l ⟨c.val / 512, by omega⟩ ⟨c.val % 128, by omega⟩) := by
  pointwise [val_main_v35, val_main_v34, val_main_v33, val_main_v32]
  exact Finset.sum_congr rfl fun _ _ => mul_comm _ _

/-- The reference's result is the same function of the arguments that the kernel's call computes. -/
theorem ref_final (b : Fin 4) (r : Fin 4096) (c : Fin 4096) :
    val_main_v35 (F := Ideal) x0 x1 (ix3 b r c) = attnOut x0 x1 b r c := by
  rw [ref_o]
  unfold attnOut attnRow
  have hq : ∀ d, qHead ⟨c.val / 512, by omega⟩ ⟨c.val / 128 % 4, by omega⟩ d = qCol c d := fun d =>
    Fin.ext (by show c.val / 512 * 512 + c.val / 128 % 4 * 128 + d.val = c.val / 128 * 128 + d.val; omega)
  have hk : ∀ off hoff d, kvHead off hoff ⟨c.val / 512, by omega⟩ d = kvCol off hoff c d := fun off hoff d =>
    Fin.ext (by show off + (c.val / 512 * 128 + d.val) = off + c.val / 512 * 128 + d.val; omega)
  have hs : ∀ l, val_main_v20 (F := Ideal) x0 x1 (ix5 b ⟨c.val / 512, by omega⟩ ⟨c.val / 128 % 4, by omega⟩ r l)
        = ln2 * ∑ d, x1 (ix3 b r (qCol c d)) * rowsOf x0 x1 b l (kvCol 4096 (by omega) c d) := by
    intro l
    rw [ref_s, ← score_scale]
    refine Finset.sum_congr rfl fun d _ => ?_
    rw [ref_q, ref_k, log_two, hq, hk]
  have hp : ∀ l, expRow (fun l => val_main_v20 (F := Ideal) x0 x1 (ix5 b ⟨c.val / 512, by omega⟩ ⟨c.val / 128 % 4, by omega⟩ r l)) l
        = pow2Row (fun l => ∑ d, x1 (ix3 b r (qCol c d)) * rowsOf x0 x1 b l (kvCol 4096 (by omega) c d)) l := by
    intro l
    rw [← expRow_scale]
    exact congrArg (fun s => expRow s l) (funext hs)
  rw [sum_mul_div _ _ fun l => pow2Row_nonneg _ l]
  refine Finset.sum_congr rfl fun l _ => ?_
  rw [ref_p, ref_v, hk]
  simp only [hp]

end Cert.Gqa

end
-- ==== Proof.Linear.lean ====
/- The plain projections, as functions of one entry. -/
module

public import Idealize.ShloMosaic.Lib.IdealHost
public import Idealize.ShloMosaic.Lib.Pipeline.ValueKit
public import Idealize.ShloMosaic.Lib.Pointwise

@[expose] public section

noncomputable section

namespace Cert.Linear

open Idealize.ShloMosaic

/-- One entry of the residual stream after the output projection of layer `l`: the old entry plus the gate times the projected row with its bias. -/
def residual (l : Fin 4) (o w : (⟨3, ![4, 4096, 4096]⟩ : Shape).Idx → EReal) (bias : (⟨1, ![4096]⟩ : Shape).Idx → EReal)
    (h : (⟨3, ![4, 4096, 4096]⟩ : Shape).Idx → EReal) (ml : (⟨4, ![8, 6, 1, 4096]⟩ : Shape).Idx → EReal) (b : Fin 4) (r c : Fin 4096) : EReal :=
  h (ix3 b r c) + ml (ix4 (Fin.castLE (show 4 ≤ 8 by decide) b) 2 0 c) * ((∑ k : Fin 4096, o (ix3 b r k) * w (ix3 l k c)) + bias (ix1 c))

/-- The same over the 256 context rows of a batch entry, whose gate is the fifth row's. -/
def residualCtx (l : Fin 4) (o : (⟨3, ![4, 256, 4096]⟩ : Shape).Idx → EReal) (w : (⟨3, ![4, 4096, 4096]⟩ : Shape).Idx → EReal) (bias : (⟨1, ![4096]⟩ : Shape).Idx → EReal)
    (h : (⟨3, ![4, 256, 4096]⟩ : Shape).Idx → EReal) (ml : (⟨4, ![8, 6, 1, 4096]⟩ : Shape).Idx → EReal) (b : Fin 4) (r : Fin 256) (c : Fin 4096) : EReal :=
  h (ix3 b r c) + ml (ix4 4 2 0 c) * ((∑ k : Fin 4096, o (ix3 b r k) * w (ix3 l k c)) + bias (ix1 c))

/-- A row of `u` times column `j` of the weight, with its bias. -/
def proj (u : (⟨2, ![16384, 4096]⟩ : Shape).Idx → EReal) (w : (⟨3, ![1, 4096, 8192]⟩ : Shape).Idx → EReal) (bias : (⟨1, ![8192]⟩ : Shape).Idx → EReal)
    (r : Fin 16384) (j : Fin 8192) : EReal :=
  (∑ k : Fin 4096, u (ix2 r k) * w (ix3 0 k j)) + bias (ix1 j)

/-- One entry of the gated projection: the first half of the columns times the logistic of the second half. -/
def gated (u : (⟨2, ![16384, 4096]⟩ : Shape).Idx → EReal) (w : (⟨3, ![1, 4096, 8192]⟩ : Shape).Idx → EReal) (bias : (⟨1, ![8192]⟩ : Shape).Idx → EReal)
    (r : Fin 16384) (c : Fin 4096) : EReal :=
  proj u w bias r (Fin.castLE (show 4096 ≤ 8192 by decide) c) * Ideal.div 1 (1 + Ideal.exp (-proj u w bias r (Fin.natAdd 4096 c)))

end Cert.Linear

end
-- ==== Proof.Out0.lean ====
/- The output projection of layer 0: what its call leaves, and the plain formula. -/
module

public import proofs.«01_k».proof.Proof.Linear
public import proofs.«01_k».proof.Proof.Gen.Kernel3Ideal.Value
public import proofs.«01_k».proof.Proof.Gen.Reference3Ideal.Read

@[expose] public section

set_option maxRecDepth 16384

noncomputable section

namespace Cert.Out0

open Idealize.ShloMosaic Idealize.ShloMosaic.TcCoe Idealize.SL.Sem
open Cert.Kernel3Ideal Cert.Kernel3Ideal.Gen

/-- The value stored at an entry of the output block, from the five input blocks. -/
theorem out_apply (x0 : Vec Ideal S1x1024x4096 .bf16) (x1 : Vec Ideal S1x4096x512 .f32) (x2 : Vec Ideal S1x512 .f32) (x3 : Vec Ideal S1x1x1x512 .f32)
    (x4 : Vec Ideal S1x1024x512 .f32) (r : Fin 1024) (c : Fin 512) :
    out0_5 x0 x1 x2 x3 x4 (ix3 0 r c) = x4 (ix3 0 r c) + x3 (ix4 0 0 0 c) * ((∑ k : Fin 4096, x0 (ix3 0 r k) * x1 (ix3 0 k c)) + x2 (ix2 0 c)) := by
  unfold out0_5
  rw [View.canon_unit_zero (by funext a; fin_cases a <;> rfl)]
  pointwise [k0_pay1]

variable (m : (ℓ : Loc nD τ sig) → Buf (Elt Ideal) ℓ)

/-- The block indices of the inputs against the output's, at every grid point. -/
theorem idx (t : Fin cfg0.N) : (win0_0.index t 0 = win0_5.index t 0 ∧ win0_0.index t 1 = win0_5.index t 1 ∧ win0_0.index t 2 = 0)
    ∧ (win0_1.index t 0 = 0 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2) :=
  (by decide +kernel : ∀ t : Fin grid0.N, (win0_0.index t 0 = win0_5.index t 0 ∧ win0_0.index t 1 = win0_5.index t 1 ∧ win0_0.index t 2 = 0)
    ∧ (win0_1.index t 0 = 0 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2)) t

/-- After the run, the result array is the residual plus the gated projection of the attention's output. -/
theorem final (c : Dev nD) :
    (dats m 0 c).arrAt 5 cfg0.N = fun i => Linear.residual 0 (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  change S1x1024x512.Idx at y
  idx_vars y
  obtain rfl : y0 = 0 := Subsingleton.elim _ _
  rw [out_apply]
  obtain ⟨⟨h00, h01, h02⟩, ⟨h10, h11, h12⟩, ⟨h20, h21⟩, ⟨h30, h31, h32, h33⟩, ⟨h40, h41, h42⟩⟩ := idx t
  generalize hi : (win0_5.blk t).view.emb (ix3 0 y1 y2) = i
  have i0 : (i 0).val = win0_5.index t 0 := by rw [← hi]; blk_simp; rfl
  have i1 : (i 1).val = win0_5.index t 1 * 1024 + y1 := by rw [← hi]; blk_simp
  have i2 : (i 2).val = win0_5.index t 2 * 512 + y2 := by rw [← hi]; blk_simp
  have e0 : ∀ k, iblk m c 0 t (ix3 0 y1 k) = m ((c : Thread nD τ).loc main_arg0) (ix3 (i 0) (i 1) k) := by
    intro k
    blk_ext! [iblk, V, h00, h01, h02, i0, i1]
  have e1 : ∀ k, iblk m c 1 t (ix3 0 k y2) = m ((c : Thread nD τ).loc main_arg1) (ix3 0 k (i 2)) := by
    intro k
    blk_ext! [iblk, V, h10, h11, h12, i2]
  have e2 : iblk m c 2 t (ix2 0 y2) = m ((c : Thread nD τ).loc main_arg2) (ix1 (i 2)) := by
    blk_ext! [iblk, V, h20, h21, i2]
  have e3 : iblk m c 3 t (ix4 0 0 0 y2) = m ((c : Thread nD τ).loc main_arg4) (ix4 (Fin.castLE (show 4 ≤ 8 by decide) (i 0)) 2 0 (i 2)) := by
    blk_ext! [iblk, V, h30, h31, h32, h33, i0, i2]
    show _ = (i 0).val
    omega
  have e4 : iblk m c 4 t (ix3 0 y1 y2) = m ((c : Thread nD τ).loc main_arg3) (ix3 (i 0) (i 1) (i 2)) := by
    blk_ext! [iblk, V, h40, h41, h42, i0, i1, i2]
  rw [e2, e3, e4]
  simp only [e0, e1]
  rfl

/-- The plain formula's last stage is the same function. -/
theorem ref_final (x0 : Cert.Reference3Ideal.S4x4096x4096.Idx → EReal) (x1 : Cert.Reference3Ideal.S4x4096x4096.Idx → EReal) (x2 : Cert.Reference3Ideal.S4096.Idx → EReal)
    (x3 : Cert.Reference3Ideal.S4x4096x4096.Idx → EReal) (x4 : Cert.Reference3Ideal.S8x6x1x4096.Idx → EReal) (b : Fin 4) (r c : Fin 4096) :
    Cert.Reference3Ideal.Read.val_main_v11 (F := Ideal) x0 x1 x2 x3 x4 (ix3 b r c) = Linear.residual 0 x0 x1 x2 x3 x4 b r c := by
  pointwise [Cert.Reference3Ideal.Read.val_main_v11, Cert.Reference3Ideal.Read.val_main_v10, Cert.Reference3Ideal.Read.val_main_v9, Cert.Reference3Ideal.Read.val_main_v8,
    Cert.Reference3Ideal.Read.val_main_v7, Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1, Cert.Reference3Ideal.Read.val_main_v0]
  rfl

end Cert.Out0

end
-- ==== Proof.Out1.lean ====
/- The output projection of layer 1: what its call leaves, and the plain formula. -/
module

public import proofs.«01_k».proof.Proof.Linear
public import proofs.«01_k».proof.Proof.Gen.Kernel4Ideal.Value
public import proofs.«01_k».proof.Proof.Gen.Reference4Ideal.Read

@[expose] public section

set_option maxRecDepth 16384

noncomputable section

namespace Cert.Out1

open Idealize.ShloMosaic Idealize.ShloMosaic.TcCoe Idealize.SL.Sem
open Cert.Kernel4Ideal Cert.Kernel4Ideal.Gen

/-- The value stored at an entry of the output block, from the five input blocks. -/
theorem out_apply (x0 : Vec Ideal S1x1024x4096 .bf16) (x1 : Vec Ideal S1x4096x512 .f32) (x2 : Vec Ideal S1x512 .f32) (x3 : Vec Ideal S1x1x1x512 .f32)
    (x4 : Vec Ideal S1x1024x512 .f32) (r : Fin 1024) (c : Fin 512) :
    out0_5 x0 x1 x2 x3 x4 (ix3 0 r c) = x4 (ix3 0 r c) + x3 (ix4 0 0 0 c) * ((∑ k : Fin 4096, x0 (ix3 0 r k) * x1 (ix3 0 k c)) + x2 (ix2 0 c)) := by
  unfold out0_5
  rw [View.canon_unit_zero (by funext a; fin_cases a <;> rfl)]
  pointwise [k0_pay1]

variable (m : (ℓ : Loc nD τ sig) → Buf (Elt Ideal) ℓ)

/-- The block indices of the inputs against the output's, at every grid point. -/
theorem idx (t : Fin cfg0.N) : (win0_0.index t 0 = win0_5.index t 0 ∧ win0_0.index t 1 = win0_5.index t 1 ∧ win0_0.index t 2 = 0)
    ∧ (win0_1.index t 0 = 1 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2) :=
  (by decide +kernel : ∀ t : Fin grid0.N, (win0_0.index t 0 = win0_5.index t 0 ∧ win0_0.index t 1 = win0_5.index t 1 ∧ win0_0.index t 2 = 0)
    ∧ (win0_1.index t 0 = 1 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2)) t

/-- After the run, the result array is the residual plus the gated projection of the attention's output. -/
theorem final (c : Dev nD) :
    (dats m 0 c).arrAt 5 cfg0.N = fun i => Linear.residual 1 (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  change S1x1024x512.Idx at y
  idx_vars y
  obtain rfl : y0 = 0 := Subsingleton.elim _ _
  rw [out_apply]
  obtain ⟨⟨h00, h01, h02⟩, ⟨h10, h11, h12⟩, ⟨h20, h21⟩, ⟨h30, h31, h32, h33⟩, ⟨h40, h41, h42⟩⟩ := idx t
  generalize hi : (win0_5.blk t).view.emb (ix3 0 y1 y2) = i
  have i0 : (i 0).val = win0_5.index t 0 := by rw [← hi]; blk_simp; rfl
  have i1 : (i 1).val = win0_5.index t 1 * 1024 + y1 := by rw [← hi]; blk_simp
  have i2 : (i 2).val = win0_5.index t 2 * 512 + y2 := by rw [← hi]; blk_simp
  have e0 : ∀ k, iblk m c 0 t (ix3 0 y1 k) = m ((c : Thread nD τ).loc main_arg0) (ix3 (i 0) (i 1) k) := by
    intro k
    blk_ext! [iblk, V, h00, h01, h02, i0, i1]
  have e1 : ∀ k, iblk m c 1 t (ix3 0 k y2) = m ((c : Thread nD τ).loc main_arg1) (ix3 1 k (i 2)) := by
    intro k
    blk_ext! [iblk, V, h10, h11, h12, i2]
  have e2 : iblk m c 2 t (ix2 0 y2) = m ((c : Thread nD τ).loc main_arg2) (ix1 (i 2)) := by
    blk_ext! [iblk, V, h20, h21, i2]
  have e3 : iblk m c 3 t (ix4 0 0 0 y2) = m ((c : Thread nD τ).loc main_arg4) (ix4 (Fin.castLE (show 4 ≤ 8 by decide) (i 0)) 2 0 (i 2)) := by
    blk_ext! [iblk, V, h30, h31, h32, h33, i0, i2]
    show _ = (i 0).val
    omega
  have e4 : iblk m c 4 t (ix3 0 y1 y2) = m ((c : Thread nD τ).loc main_arg3) (ix3 (i 0) (i 1) (i 2)) := by
    blk_ext! [iblk, V, h40, h41, h42, i0, i1, i2]
  rw [e2, e3, e4]
  simp only [e0, e1]
  rfl

/-- The plain formula's last stage is the same function. -/
theorem ref_final (x0 : Cert.Reference4Ideal.S4x4096x4096.Idx → EReal) (x1 : Cert.Reference4Ideal.S4x4096x4096.Idx → EReal) (x2 : Cert.Reference4Ideal.S4096.Idx → EReal)
    (x3 : Cert.Reference4Ideal.S4x4096x4096.Idx → EReal) (x4 : Cert.Reference4Ideal.S8x6x1x4096.Idx → EReal) (b : Fin 4) (r c : Fin 4096) :
    Cert.Reference4Ideal.Read.val_main_v11 (F := Ideal) x0 x1 x2 x3 x4 (ix3 b r c) = Linear.residual 1 x0 x1 x2 x3 x4 b r c := by
  pointwise [Cert.Reference4Ideal.Read.val_main_v11, Cert.Reference4Ideal.Read.val_main_v10, Cert.Reference4Ideal.Read.val_main_v9, Cert.Reference4Ideal.Read.val_main_v8,
    Cert.Reference4Ideal.Read.val_main_v7, Cert.Reference4Ideal.Read.val_main_v6, Cert.Reference4Ideal.Read.val_main_v5, Cert.Reference4Ideal.Read.val_main_v4,
    Cert.Reference4Ideal.Read.val_main_v3, Cert.Reference4Ideal.Read.val_main_v2, Cert.Reference4Ideal.Read.val_main_v1, Cert.Reference4Ideal.Read.val_main_v0]
  rfl

end Cert.Out1

end
-- ==== Proof.Out2.lean ====
/- The output projection of layer 2: what its call leaves, and the plain formula. -/
module

public import proofs.«01_k».proof.Proof.Linear
public import proofs.«01_k».proof.Proof.Gen.Kernel5Ideal.Value
public import proofs.«01_k».proof.Proof.Gen.Reference5Ideal.Read

@[expose] public section

set_option maxRecDepth 16384

noncomputable section

namespace Cert.Out2

open Idealize.ShloMosaic Idealize.ShloMosaic.TcCoe Idealize.SL.Sem
open Cert.Kernel5Ideal Cert.Kernel5Ideal.Gen

/-- The value stored at an entry of the output block, from the five input blocks. -/
theorem out_apply (x0 : Vec Ideal S1x1024x4096 .bf16) (x1 : Vec Ideal S1x4096x512 .f32) (x2 : Vec Ideal S1x512 .f32) (x3 : Vec Ideal S1x1x1x512 .f32)
    (x4 : Vec Ideal S1x1024x512 .f32) (r : Fin 1024) (c : Fin 512) :
    out0_5 x0 x1 x2 x3 x4 (ix3 0 r c) = x4 (ix3 0 r c) + x3 (ix4 0 0 0 c) * ((∑ k : Fin 4096, x0 (ix3 0 r k) * x1 (ix3 0 k c)) + x2 (ix2 0 c)) := by
  unfold out0_5
  rw [View.canon_unit_zero (by funext a; fin_cases a <;> rfl)]
  pointwise [k0_pay1]

variable (m : (ℓ : Loc nD τ sig) → Buf (Elt Ideal) ℓ)

/-- The block indices of the inputs against the output's, at every grid point. -/
theorem idx (t : Fin cfg0.N) : (win0_0.index t 0 = win0_5.index t 0 ∧ win0_0.index t 1 = win0_5.index t 1 ∧ win0_0.index t 2 = 0)
    ∧ (win0_1.index t 0 = 2 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2) :=
  (by decide +kernel : ∀ t : Fin grid0.N, (win0_0.index t 0 = win0_5.index t 0 ∧ win0_0.index t 1 = win0_5.index t 1 ∧ win0_0.index t 2 = 0)
    ∧ (win0_1.index t 0 = 2 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2)) t

/-- After the run, the result array is the residual plus the gated projection of the attention's output. -/
theorem final (c : Dev nD) :
    (dats m 0 c).arrAt 5 cfg0.N = fun i => Linear.residual 2 (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  change S1x1024x512.Idx at y
  idx_vars y
  obtain rfl : y0 = 0 := Subsingleton.elim _ _
  rw [out_apply]
  obtain ⟨⟨h00, h01, h02⟩, ⟨h10, h11, h12⟩, ⟨h20, h21⟩, ⟨h30, h31, h32, h33⟩, ⟨h40, h41, h42⟩⟩ := idx t
  generalize hi : (win0_5.blk t).view.emb (ix3 0 y1 y2) = i
  have i0 : (i 0).val = win0_5.index t 0 := by rw [← hi]; blk_simp; rfl
  have i1 : (i 1).val = win0_5.index t 1 * 1024 + y1 := by rw [← hi]; blk_simp
  have i2 : (i 2).val = win0_5.index t 2 * 512 + y2 := by rw [← hi]; blk_simp
  have e0 : ∀ k, iblk m c 0 t (ix3 0 y1 k) = m ((c : Thread nD τ).loc main_arg0) (ix3 (i 0) (i 1) k) := by
    intro k
    blk_ext! [iblk, V, h00, h01, h02, i0, i1]
  have e1 : ∀ k, iblk m c 1 t (ix3 0 k y2) = m ((c : Thread nD τ).loc main_arg1) (ix3 2 k (i 2)) := by
    intro k
    blk_ext! [iblk, V, h10, h11, h12, i2]
  have e2 : iblk m c 2 t (ix2 0 y2) = m ((c : Thread nD τ).loc main_arg2) (ix1 (i 2)) := by
    blk_ext! [iblk, V, h20, h21, i2]
  have e3 : iblk m c 3 t (ix4 0 0 0 y2) = m ((c : Thread nD τ).loc main_arg4) (ix4 (Fin.castLE (show 4 ≤ 8 by decide) (i 0)) 2 0 (i 2)) := by
    blk_ext! [iblk, V, h30, h31, h32, h33, i0, i2]
    show _ = (i 0).val
    omega
  have e4 : iblk m c 4 t (ix3 0 y1 y2) = m ((c : Thread nD τ).loc main_arg3) (ix3 (i 0) (i 1) (i 2)) := by
    blk_ext! [iblk, V, h40, h41, h42, i0, i1, i2]
  rw [e2, e3, e4]
  simp only [e0, e1]
  rfl

/-- The plain formula's last stage is the same function. -/
theorem ref_final (x0 : Cert.Reference5Ideal.S4x4096x4096.Idx → EReal) (x1 : Cert.Reference5Ideal.S4x4096x4096.Idx → EReal) (x2 : Cert.Reference5Ideal.S4096.Idx → EReal)
    (x3 : Cert.Reference5Ideal.S4x4096x4096.Idx → EReal) (x4 : Cert.Reference5Ideal.S8x6x1x4096.Idx → EReal) (b : Fin 4) (r c : Fin 4096) :
    Cert.Reference5Ideal.Read.val_main_v11 (F := Ideal) x0 x1 x2 x3 x4 (ix3 b r c) = Linear.residual 2 x0 x1 x2 x3 x4 b r c := by
  pointwise [Cert.Reference5Ideal.Read.val_main_v11, Cert.Reference5Ideal.Read.val_main_v10, Cert.Reference5Ideal.Read.val_main_v9, Cert.Reference5Ideal.Read.val_main_v8,
    Cert.Reference5Ideal.Read.val_main_v7, Cert.Reference5Ideal.Read.val_main_v6, Cert.Reference5Ideal.Read.val_main_v5, Cert.Reference5Ideal.Read.val_main_v4,
    Cert.Reference5Ideal.Read.val_main_v3, Cert.Reference5Ideal.Read.val_main_v2, Cert.Reference5Ideal.Read.val_main_v1, Cert.Reference5Ideal.Read.val_main_v0]
  rfl

end Cert.Out2

end
-- ==== Proof.Out3.lean ====
/- The output projection of layer 3: what its call leaves, and the plain formula. -/
module

public import proofs.«01_k».proof.Proof.Linear
public import proofs.«01_k».proof.Proof.Gen.Kernel6Ideal.Value
public import proofs.«01_k».proof.Proof.Gen.Reference6Ideal.Read

@[expose] public section

set_option maxRecDepth 16384

noncomputable section

namespace Cert.Out3

open Idealize.ShloMosaic Idealize.ShloMosaic.TcCoe Idealize.SL.Sem
open Cert.Kernel6Ideal Cert.Kernel6Ideal.Gen

/-- The value stored at an entry of the output block, from the five input blocks. -/
theorem out_apply (x0 : Vec Ideal S1x1024x4096 .bf16) (x1 : Vec Ideal S1x4096x512 .f32) (x2 : Vec Ideal S1x512 .f32) (x3 : Vec Ideal S1x1x1x512 .f32)
    (x4 : Vec Ideal S1x1024x512 .f32) (r : Fin 1024) (c : Fin 512) :
    out0_5 x0 x1 x2 x3 x4 (ix3 0 r c) = x4 (ix3 0 r c) + x3 (ix4 0 0 0 c) * ((∑ k : Fin 4096, x0 (ix3 0 r k) * x1 (ix3 0 k c)) + x2 (ix2 0 c)) := by
  unfold out0_5
  rw [View.canon_unit_zero (by funext a; fin_cases a <;> rfl)]
  pointwise [k0_pay1]

variable (m : (ℓ : Loc nD τ sig) → Buf (Elt Ideal) ℓ)

/-- The block indices of the inputs against the output's, at every grid point. -/
theorem idx (t : Fin cfg0.N) : (win0_0.index t 0 = win0_5.index t 0 ∧ win0_0.index t 1 = win0_5.index t 1 ∧ win0_0.index t 2 = 0)
    ∧ (win0_1.index t 0 = 3 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2) :=
  (by decide +kernel : ∀ t : Fin grid0.N, (win0_0.index t 0 = win0_5.index t 0 ∧ win0_0.index t 1 = win0_5.index t 1 ∧ win0_0.index t 2 = 0)
    ∧ (win0_1.index t 0 = 3 ∧ win0_1.index t 1 = 0 ∧ win0_1.index t 2 = win0_5.index t 2)
    ∧ (win0_2.index t 0 = 0 ∧ win0_2.index t 1 = win0_5.index t 2)
    ∧ (win0_3.index t 0 = win0_5.index t 0 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2)) t

/-- After the run, the result array is the residual plus the gated projection of the attention's output. -/
theorem final (c : Dev nD) :
    (dats m 0 c).arrAt 5 cfg0.N = fun i => Linear.residual 3 (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  change S1x1024x512.Idx at y
  idx_vars y
  obtain rfl : y0 = 0 := Subsingleton.elim _ _
  rw [out_apply]
  obtain ⟨⟨h00, h01, h02⟩, ⟨h10, h11, h12⟩, ⟨h20, h21⟩, ⟨h30, h31, h32, h33⟩, ⟨h40, h41, h42⟩⟩ := idx t
  generalize hi : (win0_5.blk t).view.emb (ix3 0 y1 y2) = i
  have i0 : (i 0).val = win0_5.index t 0 := by rw [← hi]; blk_simp; rfl
  have i1 : (i 1).val = win0_5.index t 1 * 1024 + y1 := by rw [← hi]; blk_simp
  have i2 : (i 2).val = win0_5.index t 2 * 512 + y2 := by rw [← hi]; blk_simp
  have e0 : ∀ k, iblk m c 0 t (ix3 0 y1 k) = m ((c : Thread nD τ).loc main_arg0) (ix3 (i 0) (i 1) k) := by
    intro k
    blk_ext! [iblk, V, h00, h01, h02, i0, i1]
  have e1 : ∀ k, iblk m c 1 t (ix3 0 k y2) = m ((c : Thread nD τ).loc main_arg1) (ix3 3 k (i 2)) := by
    intro k
    blk_ext! [iblk, V, h10, h11, h12, i2]
  have e2 : iblk m c 2 t (ix2 0 y2) = m ((c : Thread nD τ).loc main_arg2) (ix1 (i 2)) := by
    blk_ext! [iblk, V, h20, h21, i2]
  have e3 : iblk m c 3 t (ix4 0 0 0 y2) = m ((c : Thread nD τ).loc main_arg4) (ix4 (Fin.castLE (show 4 ≤ 8 by decide) (i 0)) 2 0 (i 2)) := by
    blk_ext! [iblk, V, h30, h31, h32, h33, i0, i2]
    show _ = (i 0).val
    omega
  have e4 : iblk m c 4 t (ix3 0 y1 y2) = m ((c : Thread nD τ).loc main_arg3) (ix3 (i 0) (i 1) (i 2)) := by
    blk_ext! [iblk, V, h40, h41, h42, i0, i1, i2]
  rw [e2, e3, e4]
  simp only [e0, e1]
  rfl

/-- The plain formula's last stage is the same function. -/
theorem ref_final (x0 : Cert.Reference6Ideal.S4x4096x4096.Idx → EReal) (x1 : Cert.Reference6Ideal.S4x4096x4096.Idx → EReal) (x2 : Cert.Reference6Ideal.S4096.Idx → EReal)
    (x3 : Cert.Reference6Ideal.S4x4096x4096.Idx → EReal) (x4 : Cert.Reference6Ideal.S8x6x1x4096.Idx → EReal) (b : Fin 4) (r c : Fin 4096) :
    Cert.Reference6Ideal.Read.val_main_v11 (F := Ideal) x0 x1 x2 x3 x4 (ix3 b r c) = Linear.residual 3 x0 x1 x2 x3 x4 b r c := by
  pointwise [Cert.Reference6Ideal.Read.val_main_v11, Cert.Reference6Ideal.Read.val_main_v10, Cert.Reference6Ideal.Read.val_main_v9, Cert.Reference6Ideal.Read.val_main_v8,
    Cert.Reference6Ideal.Read.val_main_v7, Cert.Reference6Ideal.Read.val_main_v6, Cert.Reference6Ideal.Read.val_main_v5, Cert.Reference6Ideal.Read.val_main_v4,
    Cert.Reference6Ideal.Read.val_main_v3, Cert.Reference6Ideal.Read.val_main_v2, Cert.Reference6Ideal.Read.val_main_v1, Cert.Reference6Ideal.Read.val_main_v0]
  rfl

end Cert.Out3

end
-- ==== Proof.Glu.lean ====
/- The convolution's gated projection: what its call leaves, and the plain formula. -/
module

public import proofs.«01_k».proof.Proof.Linear
public import proofs.«01_k».proof.Proof.Gen.Kernel7Ideal.Value
public import proofs.«01_k».proof.Proof.Gen.Reference7Ideal.Read

@[expose] public section

set_option maxRecDepth 16384

noncomputable section

namespace Cert.Glu

open Idealize.ShloMosaic Idealize.ShloMosaic.TcCoe Idealize.SL.Sem
open Cert.Kernel7Ideal Cert.Kernel7Ideal.Gen

/-- The value stored at an entry of the output block, from the five input blocks. -/
theorem out_apply (x0 : Vec Ideal S1024x4096 .bf16) (x1 x2 : Vec Ideal S1x4096x256 .f32) (x3 x4 : Vec Ideal S1x256 .f32) (r : Fin 1024) (c : Fin 256) :
    out0_5 x0 x1 x2 x3 x4 (ix2 r c) = ((∑ k : Fin 4096, x0 (ix2 r k) * x1 (ix3 0 k c)) + x3 (ix2 0 c))
      * Ideal.div 1 (1 + Ideal.exp (-((∑ k : Fin 4096, x0 (ix2 r k) * x2 (ix3 0 k c)) + x4 (ix2 0 c)))) := by
  unfold out0_5
  rw [View.canon_unit_zero (by funext a; fin_cases a <;> rfl)]
  pointwise [k0_pay1]
  rfl

variable (m : (ℓ : Loc nD τ sig) → Buf (Elt Ideal) ℓ)

/-- The block indices of the inputs against the output's, at every grid point. -/
theorem idx (t : Fin cfg0.N) : (win0_0.index t 0 = win0_5.index t 0 ∧ win0_0.index t 1 = 0)
    ∧ (win0_1.index t 0 = 0 ∧ win0_1.index t 1 = 0 ∧ win0_1.index t 2 = win0_5.index t 1)
    ∧ (win0_2.index t 0 = 0 ∧ win0_2.index t 1 = 0 ∧ win0_2.index t 2 = 16 + win0_5.index t 1)
    ∧ (win0_3.index t 0 = 0 ∧ win0_3.index t 1 = win0_5.index t 1)
    ∧ (win0_4.index t 0 = 0 ∧ win0_4.index t 1 = 16 + win0_5.index t 1) :=
  (by decide +kernel : ∀ t : Fin grid0.N, (win0_0.index t 0 = win0_5.index t 0 ∧ win0_0.index t 1 = 0)
    ∧ (win0_1.index t 0 = 0 ∧ win0_1.index t 1 = 0 ∧ win0_1.index t 2 = win0_5.index t 1)
    ∧ (win0_2.index t 0 = 0 ∧ win0_2.index t 1 = 0 ∧ win0_2.index t 2 = 16 + win0_5.index t 1)
    ∧ (win0_3.index t 0 = 0 ∧ win0_3.index t 1 = win0_5.index t 1)
    ∧ (win0_4.index t 0 = 0 ∧ win0_4.index t 1 = 16 + win0_5.index t 1)) t

/-- After the run, the result array is the gated projection of the arguments. -/
theorem final (c : Dev nD) :
    (dats m 0 c).arrAt 5 cfg0.N = fun i => Linear.gated (m ((c : Thread nD τ).loc main_arg0)) (m ((c : Thread nD τ).loc main_arg1))
      (m ((c : Thread nD τ).loc main_arg2)) (i 0) (i 1) := by
  refine (dats m 0 c).arrAt_eq_of_covers 5 _ (by decide +kernel) fun t hf y => ?_
  blk_simp
  rw [after0_5]
  change S1024x256.Idx at y
  idx_vars y
  rw [out_apply]
  obtain ⟨⟨h00, h01⟩, ⟨h10, h11, h12⟩, ⟨h20, h21, h22⟩, ⟨h30, h31⟩, ⟨h40, h41⟩⟩ := idx t
  generalize hi : (win0_5.blk t).view.emb (ix2 y0 y1) = i
  have i0 : (i 0).val = win0_5.index t 0 * 1024 + y0 := by rw [← hi]; blk_simp
  have i1 : (i 1).val = win0_5.index t 1 * 256 + y1 := by rw [← hi]; blk_simp
  generalize hl : (Fin.castLE (show 4096 ≤ 8192 by decide) (i 1) : Fin 8192) = jl
  generalize hh : (Fin.natAdd 4096 (i 1) : Fin 8192) = jh
  have vl : jl.val = win0_5.index t 1 * 256 + y1 := by rw [← hl]; exact i1
  have vh : jh.val = 4096 + (win0_5.index t 1 * 256 + y1) := by rw [← hh, ← i1]; rfl
  have e0 : ∀ k, iblk m c 0 t (ix2 y0 k) = m ((c : Thread nD τ).loc main_arg0) (ix2 (i 0) k) := by
    intro k
    blk_ext! [iblk, V, h00, h01, i0]
  have e1 : ∀ k, iblk m c 1 t (ix3 0 k y1) = m ((c : Thread nD τ).loc main_arg1) (ix3 0 k jl) := by
    intro k
    blk_ext! [iblk, V, h10, h11, h12, vl]
  have e2 : ∀ k, iblk m c 2 t (ix3 0 k y1) = m ((c : Thread nD τ).loc main_arg1) (ix3 0 k jh) := by
    intro k
    blk_ext! [iblk, V, h20, h21, h22, vh]
  have e3 : iblk m c 3 t (ix2 0 y1) = m ((c : Thread nD τ).loc main_arg2) (ix1 jl) := by
    blk_ext! [iblk, V, h30, h31, vl]
  have e4 : iblk m c 4 t (ix2 0 y1) = m ((c : Thread nD τ).loc main_arg2) (ix1 jh) := by
    blk_ext! [iblk, V, h40, h41, vh]
  rw [e3, e4]
  simp only [e0, e1, e2]
  rw [← hl, ← hh]
  rfl

/-- The plain formula's last stage is the same function. -/
theorem ref_final (x0 : Cert.Reference7Ideal.S16384x4096.Idx → EReal) (x1 : Cert.Reference7Ideal.S1x4096x8192.Idx → EReal) (x2 : Cert.Reference7Ideal.S8192.Idx → EReal)
    (r : Fin 16384) (c : Fin 4096) :
    Cert.Reference7Ideal.Read.val_main_v15 (F := Ideal) x0 x1 x2 (ix2 r c) = Linear.gated x0 x1 x2 r c := by
  pointwise [Cert.Reference7Ideal.Read.val_main_v15, Cert.Reference7Ideal.Read.val_main_v14, Cert.Reference7Ideal.Read.val_main_v13, Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst, Cert.Reference7Ideal.Read.val_main_cst_0]
  rfl

end Cert.Glu

end
-- ==== Proof.Rope.lean ====
/- Rotary position embedding of one head's 128 lanes. -/
module

public import Idealize.ShloMosaic.Lib.Pipeline.ValueKit
public import Idealize.ShloMosaic.Lib.Pointwise

@[expose] public section

noncomputable section

namespace Cert.Rope

open Idealize.ShloMosaic

/-- A product with a constant given by its bits. -/
theorem mul_bits (x : EReal) (w : BitVec 32) : FloatOps.mulf (F := Ideal) (φ := .f32) x (FloatOps.ofBits (F := Ideal) .f32 w) = x * Ideal.ofBits .f32 w := rfl

/-- The lane a lane is paired with: 32 up in the first half of its 64, 32 down in the second. -/
def pair (d : Fin 128) : Fin 128 := if d.val % 64 < 32 then ⟨(d.val + 32) % 128, by omega⟩ else ⟨(d.val + 96) % 128, by omega⟩

/-- The rotation: each lane by its cosine, plus the paired lane by the lane's signed sine. -/
def turn (x c s : Fin 128 → EReal) (d : Fin 128) : EReal := x d * c d + x (pair d) * s d

/-- Whether a lane lies in the first half of its 64, as computed on 32-bit lane numbers. -/
def first (d : Fin 128) : BitVec 1 :=
  let n : BitVec 32 := Scalar.select (Scalar.cmpi .eq 64#32 0#32) 1#32 64#32
  let m := IntOp.remsi ArithUnit.vector (BitVec.ofNat 32 d.val) n
  IntOp.cmpi .slt (Scalar.select (IntOp.andi (IntOp.xori (IntOp.cmpi .slt m 0#32) (Scalar.cmpi .slt n 0#32)) (IntOp.cmpi .ne m 0#32)) (IntOp.addi m n) m) 32#32

theorem first_eq : ∀ d : Fin 128, first d = if d.val % 64 < 32 then 1#1 else 0#1 := by decide +kernel

/-- Choosing between the two rotated rows is reading the paired lane. -/
theorem turn_of (x c s : Fin 128 → EReal) (d : Fin 128) :
    x d * c d + Scalar.select (first d) (x ⟨(d.val + 128 - 96) % 128, by omega⟩) (x ⟨(d.val + 128 - 32) % 128, by omega⟩) * s d = turn x c s d := by
  unfold turn pair
  rw [first_eq]
  by_cases h : d.val % 64 < 32
  · simp only [if_pos h]; rfl
  · simp only [if_neg h]; rfl

/-- The rotation written half by half. -/
theorem turn_halves (x c s : Fin 128 → EReal) (d : Fin 128) :
    (if _ : d.val / 32 % 2 < 1 then
      x ⟨d.val / 64 * 64 + d.val % 32, by omega⟩ * c ⟨d.val / 64 * 64 + d.val % 32, by omega⟩
        + x ⟨d.val / 64 * 64 + 32 + d.val % 32, by omega⟩ * s ⟨d.val / 64 * 64 + d.val % 32, by omega⟩
    else x ⟨d.val / 64 * 64 + 32 + d.val % 32, by omega⟩ * c ⟨d.val / 64 * 64 + 32 + d.val % 32, by omega⟩
        + x ⟨d.val / 64 * 64 + d.val % 32, by omega⟩ * s ⟨d.val / 64 * 64 + 32 + d.val % 32, by omega⟩) = turn x c s d := by
  unfold turn pair
  by_cases h : d.val / 32 % 2 < 1
  · have e : (⟨d.val / 64 * 64 + d.val % 32, by omega⟩ : Fin 128) = d := Fin.ext (by show d.val / 64 * 64 + d.val % 32 = d.val; omega)
    have e' : (⟨d.val / 64 * 64 + 32 + d.val % 32, by omega⟩ : Fin 128) = ⟨(d.val + 32) % 128, by omega⟩ := Fin.ext (by show d.val / 64 * 64 + 32 + d.val % 32 = (d.val + 32) % 128; omega)
    rw [dif_pos h, if_pos (by omega), e, e']
  · have e : (⟨d.val / 64 * 64 + d.val % 32, by omega⟩ : Fin 128) = ⟨(d.val + 96) % 128, by omega⟩ := Fin.ext (by show d.val / 64 * 64 + d.val % 32 = (d.val + 96) % 128; omega)
    have e' : (⟨d.val / 64 * 64 + 32 + d.val % 32, by omega⟩ : Fin 128) = d := Fin.ext (by show d.val / 64 * 64 + 32 + d.val % 32 = d.val; omega)
    rw [dif_neg h, if_neg (by omega), e, e']

/-- A head's row divided by its root mean square and scaled by the gains. -/
def norm (g x : Fin 128 → EReal) (d : Fin 128) : EReal :=
  x d * Ideal.rsqrt (Ideal.div (∑ e, x e * x e) (Ideal.ofBits .f32 0x43000000#32) + Ideal.ofBits .f32 0x358637BD#32) * g d

/-- A block of four heads: every head's row, after `f`, rotated and scaled by `k`. -/
def block (f : (Fin 128 → EReal) → Fin 128 → EReal) (a : (⟨2, ![1024, 512]⟩ : Shape).Idx → EReal) (c s : (⟨2, ![1024, 128]⟩ : Shape).Idx → EReal) (k : EReal)
    (y : (⟨2, ![1024, 512]⟩ : Shape).Idx) : EReal :=
  turn (f fun e => a (ix2 (y 0) ⟨(y 1).val / 128 * 128 + e.val, by have h : (y 1).val < 512 := (y 1).isLt; omega⟩)) (fun e => c (ix2 (y 0) e))
    (fun e => s (ix2 (y 0) e)) ⟨(y 1).val % 128, Nat.mod_lt _ (by decide)⟩ * k

/-- The block at an entry of the `h`-th head's tile. -/
theorem block_tile (f : (Fin 128 → EReal) → Fin 128 → EReal) (a : (⟨2, ![1024, 512]⟩ : Shape).Idx → EReal) (c s : (⟨2, ![1024, 128]⟩ : Shape).Idx → EReal) (k : EReal)
    (h : ℕ) (inb : ∀ i, (![0, 128 * h] : Fin 2 → ℕ) i + (⟨2, ![1024, 128]⟩ : Shape).size i ≤ (⟨2, ![1024, 512]⟩ : Shape).size i) (r : Fin 1024) (d : Fin 128) :
    block f a c s k ((Rect.unit (s := ⟨2, ![1024, 512]⟩) ![0, 128 * h] (⟨2, ![1024, 128]⟩ : Shape).size inb).emb (ix2 r d))
      = turn (f fun e => a (ix2 r ⟨128 * h + e.val, by have b := inb 1; change 128 * h + 128 ≤ 512 at b; omega⟩)) (fun e => c (ix2 r e)) (fun e => s (ix2 r e)) d * k := by
  have b := inb 1
  change 128 * h + 128 ≤ 512 at b
  have e1 : (Rect.unit (s := ⟨2, ![1024, 512]⟩) ![0, 128 * h] (⟨2, ![1024, 128]⟩ : Shape).size inb).emb (ix2 r d) = ix2 r ⟨128 * h + d.val, by omega⟩ := by
    funext i; apply Fin.ext; rw [Rect.emb_apply]
    match i with
    | ⟨0, _⟩ => show 0 + 1 * r.val = r.val; omega
    | ⟨1, _⟩ => show 128 * h + 1 * d.val = 128 * h + d.val; omega
  rw [e1]
  have e2 : ∀ e : Fin 128, (⟨(128 * h + d.val) / 128 * 128 + e.val, by omega⟩ : Fin 512) = ⟨128 * h + e.val, by omega⟩ := fun e => Fin.ext (by show (128 * h + d.val) / 128 * 128 + e.val = 128 * h + e.val; omega)
  have e3 : (⟨(128 * h + d.val) % 128, Nat.mod_lt _ (by decide)⟩ : Fin 128) = d := Fin.ext (by show (128 * h + d.val) % 128 = d.val; omega)
  show turn (f fun e => a (ix2 r ⟨(128 * h + d.val) / 128 * 128 + e.val, by omega⟩)) (fun e => c (ix2 r e)) (fun e => s (ix2 r e)) ⟨(128 * h + d.val) % 128, Nat.mod_lt _ (by decide)⟩ * k = _
  simp only [e2, e3]

/-- One entry of the activations times the weight. -/
def lin {p n : ℕ} (u : (⟨2, ![p, 4096]⟩ : Shape).Idx → EReal) (w : (⟨3, ![1, 4096, n]⟩ : Shape).Idx → EReal) (r : Fin p) (j : Fin n) : EReal :=
  ∑ k : Fin 4096, u (ix2 r k) * w (ix3 0 k j)

/-- The head's row that column `j` lies in, after `f`, rotated at position `r % 4096`, at column `j`. -/
def turned {n : ℕ} (hn : n % 128 = 0) (f : (Fin 128 → EReal) → Fin 128 → EReal) (u : (⟨2, ![16384, 4096]⟩ : Shape).Idx → EReal) (w : (⟨3, ![1, 4096, n]⟩ : Shape).Idx → EReal)
    (c s : (⟨2, ![4096, 128]⟩ : Shape).Idx → EReal) (r : Fin 16384) (j : Fin n) : EReal :=
  turn (f fun e => lin u w r ⟨j.val / 128 * 128 + e.val, by omega⟩) (fun e => c (ix2 ⟨r.val % 4096, by omega⟩ e)) (fun e => s (ix2 ⟨r.val % 4096, by omega⟩ e))
    ⟨j.val % 128, by omega⟩

/-- A block whose entries are those of the product and whose tables' rows are those of the row's position holds the rotated rows, scaled. -/
theorem block_turned {n : ℕ} (hn : n % 128 = 0) (f : (Fin 128 → EReal) → Fin 128 → EReal) (u : (⟨2, ![16384, 4096]⟩ : Shape).Idx → EReal) (w : (⟨3, ![1, 4096, n]⟩ : Shape).Idx → EReal)
    (c s : (⟨2, ![4096, 128]⟩ : Shape).Idx → EReal) (r : Fin 16384) (j : Fin n)
    (a : (⟨2, ![1024, 512]⟩ : Shape).Idx → EReal) (c' s' : (⟨2, ![1024, 128]⟩ : Shape).Idx → EReal) (k : EReal) (y0 : Fin 1024) (y1 : Fin 512) (q : ℕ) (hj : j.val = q * 512 + y1.val)
    (el : ∀ (d : Fin 512) (j : Fin n), j.val = q * 512 + d.val → a (ix2 y0 d) = lin u w r j)
    (ec : ∀ e, c' (ix2 y0 e) = c (ix2 ⟨r.val % 4096, by omega⟩ e)) (es : ∀ e, s' (ix2 y0 e) = s (ix2 ⟨r.val % 4096, by omega⟩ e)) :
    block f a c' s' k (ix2 y0 y1) = turned hn f u w c s r j * k := by
  unfold block turned
  have hr : (fun e : Fin 128 => a (ix2 y0 ⟨y1.val / 128 * 128 + e.val, by omega⟩)) = fun e : Fin 128 => lin u w r ⟨j.val / 128 * 128 + e.val, by omega⟩ :=
    funext fun e => el _ _ (by show j.val / 128 * 128 + e.val = q * 512 + (y1.val / 128 * 128 + e.val); omega)
  have hd : (⟨y1.val % 128, by omega⟩ : Fin 128) = ⟨j.val % 128, by omega⟩ := Fin.ext (by show y1.val % 128 = j.val % 128; omega)
  show turn (f fun e : Fin 128 => a (ix2 y0 ⟨y1.val / 128 * 128 + e.val, by omega⟩)) (fun e => c' (ix2 y0 e)) (fun e => s' (ix2 y0 e)) ⟨y1.val % 128, by omega⟩ * k = _
  rw [hr, hd, funext ec, funext es]

/-- The projections of the queries (up to column `a`), rotated and scaled, of the keys (up to column `b`), rotated, and of the values. -/
def qkv {n : ℕ} (hn : n % 128 = 0) (a b : ℕ) (fq fk : (Fin 128 → EReal) → Fin 128 → EReal) (u : (⟨2, ![16384, 4096]⟩ : Shape).Idx → EReal) (w : (⟨3, ![1, 4096, n]⟩ : Shape).Idx → EReal)
    (c s : (⟨2, ![4096, 128]⟩ : Shape).Idx → EReal) (r : Fin 16384) (j : Fin n) : EReal :=
  if j.val < a then turned hn fq u w c s r j * Ideal.ofBits .f32 0x3E0293EE#32 else if j.val < b then turned hn fk u w c s r j else lin u w r j

end Cert.Rope

end
-- ==== Proof.Qkv.lean ====
/- The differential layer's projections: what their call leaves, and the plain formula. -/
module

public import proofs.«01_k».proof.Proof.Rope
public import proofs.«01_k».proof.Proof.Gen.Kernel12Ideal.Value
public import proofs.«01_k».proof.Proof.Gen.Reference12Ideal.Read

@[expose] public section

set_option maxRecDepth 16384

noncomputable section

namespace Cert.Qkv

open Idealize.ShloMosaic Idealize.ShloMosaic.TcCoe Idealize.SL.Sem

section Kernel

open Cert.Kernel12Ideal Cert.Kernel12Ideal.Gen

variable (m : (ℓ : Loc nD τ sig) → Buf (Elt Ideal) ℓ) (c : Dev nD) (t : Fin cfg0.N)

/-- The product of the activations' block and the weight's. -/
theorem pay1_apply (x0 : Vec Ideal S1024x4096 .bf16) (x1 : Vec Ideal S1x4096x512 .f32) (r : Fin 1024) (d : Fin 512) :
    k0_pay1 x0 x1 (ix2 r d) = ∑ k : Fin 4096, x0 (ix2 r k) * x1 (ix3 0 k d) := by
  pointwise [k0_pay1]

/-- Loads of whole blocks. -/
theorem ld0 (w0 : Vec Ideal S1024x4096 .bf16) (inb) : View.ld (Val := Elt Ideal) (e' := .bf16) w0 (Rect.unit (s := S1024x4096) ![0, 0] ![1024, 4096] inb) = w0 :=
  View.ld_unit_zero (by funext a; fin_cases a <;> rfl) inb w0

theorem ld1 (w1 : Vec Ideal S1x4096x512 .f32) (inb) : View.ld (Val := Elt Ideal) (e' := .f32) w1 (Rect.unit (s := S1x4096x512) ![0, 0, 0] ![1, 4096, 512] inb) = w1 :=
  View.ld_unit_zero (by funext a; fin_cases a <;> rfl) inb w1

/-- The block left at a point of the queries. -/
theorem outA (h0 : t.val % 24 ≤ 7) (h1 : ¬(8 ≤ t.val % 24 ∧ t.val % 24 ≤ 15)) (h2 : ¬16 ≤ t.val % 24) :
    outsAt0 m c t.val t.isLt = Rope.block id (k0_pay1 (iblk m c 0 t) (iblk m c 1 t)) (iblk m c 2 t) (iblk m c 3 t) (Ideal.ofBits .f32 0x3E0293EE#32) := by
  rw [outsAt0_A m c t h0 h1 h2]
  unfold out0_A_4
  rw [View.read_writes_junk_eq_canon]
  funext y
  refine View.canon_apply_of_pieces (Val := Elt Ideal) (S := S1024x512) _ _ ?_ y (cover0_A_4 c _ _ _ _ _ _ _ _ _ _ _ _ _ _ (iblk m c 0 t) (iblk m c 1 t) (iblk m c 2 t) (iblk m c 3 t) y)
  unfold kernelRun0_A
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    generalize k0_pay1 (iblk m c 0 t) (iblk m c 1 t) = a
    idx_vars x
  · refine Eq.trans ?_ (Rope.block_tile id a (iblk m c 2 t) (iblk m c 3 t) _ 3 _ x0 x1).symm
    pointwise [k0_pay2, k0_pay13, k0_pay14]
    exact congrArg (· * _) (Rope.turn_of (fun e => a (ix2 x0 ⟨128 * 3 + e.val, by omega⟩)) (fun e => iblk m c 2 t (ix2 x0 e)) (fun e => iblk m c 3 t (ix2 x0 e)) x1)
  · refine Eq.trans ?_ (Rope.block_tile id a (iblk m c 2 t) (iblk m c 3 t) _ 2 _ x0 x1).symm
    pointwise [k0_pay12, k0_pay8, k0_pay9, k0_pay10, k0_pay11]
    exact congrArg (· * _) (Rope.turn_of (fun e => a (ix2 x0 ⟨128 * 2 + e.val, by omega⟩)) (fun e => iblk m c 2 t (ix2 x0 e)) (fun e => iblk m c 3 t (ix2 x0 e)) x1)
  · refine Eq.trans ?_ (Rope.block_tile id a (iblk m c 2 t) (iblk m c 3 t) _ 1 _ x0 x1).symm
    pointwise [k0_pay7, k0_pay6]
    exact congrArg (· * _) (Rope.turn_of (fun e => a (ix2 x0 ⟨128 * 1 + e.val, by omega⟩)) (fun e => iblk m c 2 t (ix2 x0 e)) (fun e => iblk m c 3 t (ix2 x0 e)) x1)
  · refine Eq.trans ?_ (Rope.block_tile id a (iblk m c 2 t) (iblk m c 3 t) _ 0 _ x0 x1).symm
    pointwise [k0_pay5]
    exact congrArg (· * _) (Rope.turn_of (fun e => a (ix2 x0 ⟨e.val, by omega⟩)) (fun e => iblk m c 2 t (ix2 x0 e)) (fun e => iblk m c 3 t (ix2 x0 e)) x1)

/-- The block left at a point of the keys. -/
theorem outB (h0 : ¬t.val % 24 ≤ 7) (h1 : 8 ≤ t.val % 24 ∧ t.val % 24 ≤ 15) (h2 : ¬16 ≤ t.val % 24) :
    outsAt0 m c t.val t.isLt = Rope.block id (k0_pay1 (iblk m c 0 t) (iblk m c 1 t)) (iblk m c 2 t) (iblk m c 3 t) (1) := by
  rw [outsAt0_B m c t h0 h1 h2]
  unfold out0_B_4
  rw [View.read_writes_junk_eq_canon]
  funext y
  refine View.canon_apply_of_pieces (Val := Elt Ideal) (S := S1024x512) _ _ ?_ y (cover0_B_4 c _ _ _ _ _ _ _ _ _ _ _ _ _ _ (iblk m c 0 t) (iblk m c 1 t) (iblk m c 2 t) (iblk m c 3 t) y)
  unfold kernelRun0_B
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    generalize k0_pay1 (iblk m c 0 t) (iblk m c 1 t) = a
    idx_vars x
  · refine Eq.trans ?_ (Rope.block_tile id a (iblk m c 2 t) (iblk m c 3 t) _ 3 _ x0 x1).symm
    pointwise [k0_pay3, k0_pay23, k0_pay24]
    exact Rope.turn_of (fun e => a (ix2 x0 ⟨128 * 3 + e.val, by omega⟩)) (fun e => iblk m c 2 t (ix2 x0 e)) (fun e => iblk m c 3 t (ix2 x0 e)) x1
  · refine Eq.trans ?_ (Rope.block_tile id a (iblk m c 2 t) (iblk m c 3 t) _ 2 _ x0 x1).symm
    pointwise [k0_pay22, k0_pay18, k0_pay19, k0_pay20, k0_pay21]
    exact Rope.turn_of (fun e => a (ix2 x0 ⟨128 * 2 + e.val, by omega⟩)) (fun e => iblk m c 2 t (ix2 x0 e)) (fun e => iblk m c 3 t (ix2 x0 e)) x1
  · refine Eq.trans ?_ (Rope.block_tile id a (iblk m c 2 t) (iblk m c 3 t) _ 1 _ x0 x1).symm
    pointwise [k0_pay17, k0_pay16]
    exact Rope.turn_of (fun e => a (ix2 x0 ⟨128 * 1 + e.val, by omega⟩)) (fun e => iblk m c 2 t (ix2 x0 e)) (fun e => iblk m c 3 t (ix2 x0 e)) x1
  · refine Eq.trans ?_ (Rope.block_tile id a (iblk m c 2 t) (iblk m c 3 t) _ 0 _ x0 x1).symm
    pointwise [k0_pay15]
    exact Rope.turn_of (fun e => a (ix2 x0 ⟨e.val, by omega⟩)) (fun e => iblk m c 2 t (ix2 x0 e)) (fun e => iblk m c 3 t (ix2 x0 e)) x1

/-- The block left at a point of the values. -/
theorem outC (h0 : ¬t.val % 24 ≤ 7) (h1 : ¬(8 ≤ t.val % 24 ∧ t.val % 24 ≤ 15)) (h2 : 16 ≤ t.val % 24) :
    outsAt0 m c t.val t.isLt = k0_pay1 (iblk m c 0 t) (iblk m c 1 t) := by
  rw [outsAt0_C m c t h0 h1 h2]
  unfold out0_C_4
  rw [View.read_writes_junk_eq_canon]
  unfold kernelRun0_C
  dsimp only
  sl_unfold_words
  simp only [View.readAt_eq_ld, Memref.IsWhole.read_unread, ld0, ld1]
  exact View.canon_unit_zero (S := S1024x512) (by funext a; fin_cases a <;> rfl) _ _

/-- The block indices of the windows, at every grid point. -/
theorem idx : (win0_0.index t 0 = t.val / 24 ∧ win0_0.index t 1 = 0)
    ∧ (win0_1.index t 0 = 0 ∧ win0_1.index t 1 = 0 ∧ win0_1.index t 2 = t.val % 24)
    ∧ (win0_2.index t 0 = t.val / 24 % 4 ∧ win0_2.index t 1 = 0) ∧ (win0_3.index t 0 = t.val / 24 % 4 ∧ win0_3.index t 1 = 0)
    ∧ (win0_4.index t 0 = t.val / 24 ∧ win0_4.index t 1 = t.val % 24) :=
  (by decide +kernel : ∀ t : Fin grid0.N, (win0_0.index t 0 = t.val / 24 ∧ win0_0.index t 1 = 0)
    ∧ (win0_1.index t 0 = 0 ∧ win0_1.index t 1 = 0 ∧ win0_1.index t 2 = t.val % 24)
    ∧ (win0_2.index t 0 = t.val / 24 % 4 ∧ win0_2.index t 1 = 0) ∧ (win0_3.index t 0 = t.val / 24 % 4 ∧ win0_3.index t 1 = 0)
    ∧ (win0_4.index t 0 = t.val / 24 ∧ win0_4.index t 1 = t.val % 24)) t

/-- After the run, the result array is the rotated and scaled projections of the arguments. -/
theorem final :
    (dats m 0 c).arrAt 4 cfg0.N = fun i => Rope.qkv (n := 12288) (by decide) 4096 8192 id id (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  change S1024x512.Idx at y
  idx_vars y
  obtain ⟨⟨h00, h01⟩, ⟨h10, h11, h12⟩, ⟨h20, h21⟩, ⟨h30, h31⟩, ⟨h40, h41⟩⟩ := idx t
  generalize hi : (win0_4.blk t).view.emb (ix2 y0 y1) = i
  have i0 : (i 0).val = t.val / 24 * 1024 + y0 := by rw [← hi, ← h40]; blk_simp
  have i1 : (i 1).val = t.val % 24 * 512 + y1 := by rw [← hi, ← h41]; blk_simp
  have ip : (i 0).val % 4096 = t.val / 24 % 4 * 1024 + y0 := by omega
  have e0 : ∀ k, iblk m c 0 t (ix2 y0 k) = m ((c : Thread nD τ).loc main_arg0) (ix2 (i 0) k) := by
    intro k
    blk_ext! [iblk, V, h00, h01, i0]
  have e1 : ∀ (k : Fin 4096) (d : Fin 512) (j : Fin 12288), j.val = t.val % 24 * 512 + d.val → iblk m c 1 t (ix3 0 k d) = m ((c : Thread nD τ).loc main_arg1) (ix3 0 k j) := by
    intro k d j hj
    blk_ext! [iblk, V, h10, h11, h12, hj]
  have e2 : ∀ e, iblk m c 2 t (ix2 y0 e) = m ((c : Thread nD τ).loc main_arg2) (ix2 ⟨(i 0).val % 4096, Nat.mod_lt _ (by decide)⟩ e) := by
    intro e
    blk_ext! [iblk, V, h20, h21, ip]
  have e3 : ∀ e, iblk m c 3 t (ix2 y0 e) = m ((c : Thread nD τ).loc main_arg3) (ix2 ⟨(i 0).val % 4096, Nat.mod_lt _ (by decide)⟩ e) := by
    intro e
    blk_ext! [iblk, V, h30, h31, ip]
  have el : ∀ (d : Fin 512) (j : Fin 12288), j.val = t.val % 24 * 512 + d.val → k0_pay1 (iblk m c 0 t) (iblk m c 1 t) (ix2 y0 d) = Rope.lin (m ((c : Thread nD τ).loc main_arg0)) (m ((c : Thread nD τ).loc main_arg1)) (i 0) j := by
    intro d j hj
    rw [pay1_apply]
    exact Finset.sum_congr rfl fun k _ => congrArg₂ _ (e0 k) (e1 k d j hj)
  have ht := fun f k => Rope.block_turned (n := 12288) (by decide) f (m ((c : Thread nD τ).loc main_arg0)) (m ((c : Thread nD τ).loc main_arg1)) (m ((c : Thread nD τ).loc main_arg2)) (m ((c : Thread nD τ).loc main_arg3)) (i 0) (i 1) (k0_pay1 (iblk m c 0 t) (iblk m c 1 t)) (iblk m c 2 t) (iblk m c 3 t) k y0 y1 _ i1 el e2 e3
  have hm : t.val % 24 < 24 := Nat.mod_lt _ (by decide)
  unfold Rope.qkv
  by_cases h0 : t.val % 24 ≤ 7
  · rw [outA m c t h0 (by omega) (by omega), if_pos (by omega)]
    exact ht _ _
  · by_cases h1 : 8 ≤ t.val % 24 ∧ t.val % 24 ≤ 15
    · rw [outB m c t h0 h1 (by omega), if_neg (by omega), if_pos (by omega)]
      exact (ht _ 1).trans (mul_one _)
    · rw [outC m c t h0 h1 (by omega), if_neg (by omega), if_neg (by omega)]
      exact el y1 (i 1) i1

end Kernel

section Reference

open Cert.Reference12Ideal Cert.Reference12Ideal.Read

variable (x0 : S16384x4096.Idx → EReal) (x1 : S1x4096x12288.Idx → EReal) (x2 x3 : S4096x128.Idx → EReal)

/-- The product, at an entry. -/
theorem lin_apply (b : Fin 4) (l : Fin 4096) (j : Fin 12288) :
    val_main_v3 (F := Ideal) x0 x1 (ix3 b l j) = Rope.lin x0 x1 ⟨b.val * 4096 + l.val, by omega⟩ j := by
  pointwise [val_main_v3, val_main_v2, val_main_v1, val_main_v0]
  rfl

/-- The queries after the rotation, at an entry. -/
theorem queries_apply (b : Fin 4) (l : Fin 4096) (h : Fin 32) (d : Fin 128) :
    val_main_v34 (F := Ideal) x0 x1 x2 x3 (ix4 b l h d) = Rope.turn (fun e => Rope.lin x0 x1 ⟨b.val * 4096 + l.val, by omega⟩ ⟨h.val * 128 + e.val, by omega⟩) (fun e => x2 (ix2 l e)) (fun e => x3 (ix2 l e)) d := by
  refine Eq.trans ?_ ((Rope.turn_halves (fun e => val_main_v5 (F := Ideal) x0 x1 (ix4 b l h e)) (fun e => x2 (ix2 l e)) (fun e => x3 (ix2 l e)) d).trans ?_)
  · pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6]
  · congr 1
    funext e
    pointwise [val_main_v5, val_main_v4, lin_apply]

/-- The keys after the rotation, at an entry. -/
theorem keys_apply (b : Fin 4) (l : Fin 4096) (h : Fin 32) (d : Fin 128) :
    val_main_v65 (F := Ideal) x0 x1 x2 x3 (ix4 b l h d) = Rope.turn (fun e => Rope.lin x0 x1 ⟨b.val * 4096 + l.val, by omega⟩ ⟨4096 + (h.val * 128 + e.val), by omega⟩) (fun e => x2 (ix2 l e)) (fun e => x3 (ix2 l e)) d := by
  refine Eq.trans ?_ ((Rope.turn_halves (fun e => val_main_v36 (F := Ideal) x0 x1 (ix4 b l h e)) (fun e => x2 (ix2 l e)) (fun e => x3 (ix2 l e)) d).trans ?_)
  · pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37]
  · congr 1
    funext e
    pointwise [val_main_v36, val_main_v35, lin_apply]

/-- The scaled queries, at an entry. -/
theorem scaled_apply (b : Fin 4) (l : Fin 4096) (h : Fin 32) (d : Fin 128) :
    val_main_v67 (F := Ideal) x0 x1 x2 x3 (ix4 b l h d) = val_main_v34 (F := Ideal) x0 x1 x2 x3 (ix4 b l h d) * Ideal.ofBits .f32 0x3E0293EE#32 := by
  rw [val_main_v67_apply, val_main_v66_apply, val_main_cst_apply]
  exact Rope.mul_bits _ _

/-- The last stage, at an entry, in its three parts. -/
theorem parts_apply (r : Fin 16384) (j : Fin 12288) :
    val_main_v73 (F := Ideal) x0 x1 x2 x3 (ix2 r j) = if h : j.val < 4096
      then val_main_v67 (F := Ideal) x0 x1 x2 x3 (ix4 ⟨r.val / 4096, by omega⟩ ⟨r.val % 4096, by omega⟩ ⟨j.val / 128, by omega⟩ ⟨j.val % 128, by omega⟩)
      else if h' : j.val - 4096 < 4096 then val_main_v65 (F := Ideal) x0 x1 x2 x3 (ix4 ⟨r.val / 4096, by omega⟩ ⟨r.val % 4096, by omega⟩ ⟨(j.val - 4096) / 128, by omega⟩ ⟨(j.val - 4096) % 128, by omega⟩)
      else val_main_v3 (F := Ideal) x0 x1 (ix3 ⟨r.val / 4096, by omega⟩ ⟨r.val % 4096, by omega⟩ ⟨8192 + (j.val - 4096 - 4096), by omega⟩) := by
  pointwise [val_main_v73, val_main_v72, val_main_v71, val_main_v70, val_main_v69, val_main_v68]

/-- The plain formula's last stage is the same function. -/
theorem ref_final (r : Fin 16384) (j : Fin 12288) :
    val_main_v73 (F := Ideal) x0 x1 x2 x3 (ix2 r j) = Rope.qkv (n := 12288) (by decide) 4096 8192 id id x0 x1 x2 x3 r j := by
  have er : (⟨r.val / 4096 * 4096 + r.val % 4096, by omega⟩ : Fin 16384) = r := Fin.ext (by show r.val / 4096 * 4096 + r.val % 4096 = r.val; omega)
  unfold Rope.qkv Rope.turned
  rw [parts_apply]
  by_cases h : j.val < 4096
  · rw [dif_pos h, if_pos h, scaled_apply, queries_apply]
    simp only [er]
    rfl
  · by_cases h' : j.val < 8192
    · rw [dif_neg h, dif_pos (by omega), if_neg h, if_pos h', keys_apply]
      have e1 : ∀ e : Fin 128, (⟨4096 + ((j.val - 4096) / 128 * 128 + e.val), by omega⟩ : Fin 12288) = ⟨j.val / 128 * 128 + e.val, by omega⟩ :=
        fun e => Fin.ext (by show 4096 + ((j.val - 4096) / 128 * 128 + e.val) = j.val / 128 * 128 + e.val; omega)
      have e2 : (⟨(j.val - 4096) % 128, by omega⟩ : Fin 128) = ⟨j.val % 128, by omega⟩ := Fin.ext (by show (j.val - 4096) % 128 = j.val % 128; omega)
      simp only [er, e1, e2]
      rfl
    · rw [dif_neg h, dif_neg (by omega), if_neg h, if_neg h', lin_apply]
      simp only [er]
      exact congrArg _ (Fin.ext (by show 8192 + (j.val - 4096 - 4096) = j.val; omega))

end Reference

end Cert.Qkv

end
-- ==== Proof.GqaQkv.lean ====
/- The grouped-query layer's projections: what their call leaves, and the plain formula. -/
module

public import proofs.«01_k».proof.Proof.Rope
public import proofs.«01_k».proof.Proof.Gen.Kernel13Ideal.Value
public import proofs.«01_k».proof.Proof.Gen.Reference13Ideal.Read

@[expose] public section

set_option maxRecDepth 16384

noncomputable section

namespace Cert.GqaQkv

open Idealize.ShloMosaic Idealize.ShloMosaic.TcCoe Idealize.SL.Sem

section Kernel

open Cert.Kernel13Ideal Cert.Kernel13Ideal.Gen

variable (m : (ℓ : Loc nD τ sig) → Buf (Elt Ideal) ℓ) (c : Dev nD) (t : Fin cfg0.N)

/-- The product of the activations' block and the weight's. -/
theorem pay1_apply (x0 : Vec Ideal S1024x4096 .bf16) (x1 : Vec Ideal S1x4096x512 .f32) (r : Fin 1024) (d : Fin 512) :
    k0_pay1 x0 x1 (ix2 r d) = ∑ k : Fin 4096, x0 (ix2 r k) * x1 (ix3 0 k d) := by
  pointwise [k0_pay1]

/-- Loads of whole blocks. -/
theorem ld0 (w0 : Vec Ideal S1024x4096 .bf16) (inb) : View.ld (Val := Elt Ideal) (e' := .bf16) w0 (Rect.unit (s := S1024x4096) ![0, 0] ![1024, 4096] inb) = w0 :=
  View.ld_unit_zero (by funext a; fin_cases a <;> rfl) inb w0

theorem ld1 (w1 : Vec Ideal S1x4096x512 .f32) (inb) : View.ld (Val := Elt Ideal) (e' := .f32) w1 (Rect.unit (s := S1x4096x512) ![0, 0, 0] ![1, 4096, 512] inb) = w1 :=
  View.ld_unit_zero (by funext a; fin_cases a <;> rfl) inb w1

/-- The block left at a point of the queries. -/
theorem outA (h0 : t.val % 12 ≤ 7) (h1 : ¬(8 ≤ t.val % 12 ∧ t.val % 12 ≤ 9)) (h2 : ¬10 ≤ t.val % 12) :
    outsAt0 m c t.val t.isLt = Rope.block (Rope.norm fun e => iblk m c 4 t (ix2 0 e)) (k0_pay1 (iblk m c 0 t) (iblk m c 1 t)) (iblk m c 2 t) (iblk m c 3 t) (Ideal.ofBits .f32 0x3E0293EE#32) := by
  rw [outsAt0_A m c t h0 h1 h2]
  unfold out0_A_6
  rw [View.read_writes_junk_eq_canon]
  funext y
  refine View.canon_apply_of_pieces (Val := Elt Ideal) (S := S1024x512) _ _ ?_ y (cover0_A_6 c _ _ _ _ _ _ _ _ _ _ _ _ _ _ _ _ _ _ (iblk m c 0 t) (iblk m c 1 t) (iblk m c 2 t) (iblk m c 3 t) (iblk m c 4 t) (iblk m c 5 t) y)
  unfold kernelRun0_A
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    generalize k0_pay1 (iblk m c 0 t) (iblk m c 1 t) = a
    idx_vars x
  · refine Eq.trans ?_ (Rope.block_tile (Rope.norm fun e => iblk m c 4 t (ix2 0 e)) a (iblk m c 2 t) (iblk m c 3 t) _ 3 _ x0 x1).symm
    pointwise [k0_pay2, k0_pay16, k0_pay17, k0_pay18]
    exact congrArg (· * _) (Rope.turn_of (Rope.norm (fun e => iblk m c 4 t (ix2 0 e)) (fun e => a (ix2 x0 ⟨128 * 3 + e.val, by omega⟩))) (fun e => iblk m c 2 t (ix2 x0 e)) (fun e => iblk m c 3 t (ix2 x0 e)) x1)
  · refine Eq.trans ?_ (Rope.block_tile (Rope.norm fun e => iblk m c 4 t (ix2 0 e)) a (iblk m c 2 t) (iblk m c 3 t) _ 2 _ x0 x1).symm
    pointwise [k0_pay15, k0_pay10, k0_pay11, k0_pay12, k0_pay13, k0_pay14]
    exact congrArg (· * _) (Rope.turn_of (Rope.norm (fun e => iblk m c 4 t (ix2 0 e)) (fun e => a (ix2 x0 ⟨128 * 2 + e.val, by omega⟩))) (fun e => iblk m c 2 t (ix2 x0 e)) (fun e => iblk m c 3 t (ix2 x0 e)) x1)
  · refine Eq.trans ?_ (Rope.block_tile (Rope.norm fun e => iblk m c 4 t (ix2 0 e)) a (iblk m c 2 t) (iblk m c 3 t) _ 1 _ x0 x1).symm
    pointwise [k0_pay9, k0_pay7, k0_pay8]
    exact congrArg (· * _) (Rope.turn_of (Rope.norm (fun e => iblk m c 4 t (ix2 0 e)) (fun e => a (ix2 x0 ⟨128 * 1 + e.val, by omega⟩))) (fun e => iblk m c 2 t (ix2 x0 e)) (fun e => iblk m c 3 t (ix2 x0 e)) x1)
  · refine Eq.trans ?_ (Rope.block_tile (Rope.norm fun e => iblk m c 4 t (ix2 0 e)) a (iblk m c 2 t) (iblk m c 3 t) _ 0 _ x0 x1).symm
    pointwise [k0_pay6, k0_pay5]
    exact congrArg (· * _) (Rope.turn_of (Rope.norm (fun e => iblk m c 4 t (ix2 0 e)) (fun e => a (ix2 x0 ⟨e.val, by omega⟩))) (fun e => iblk m c 2 t (ix2 x0 e)) (fun e => iblk m c 3 t (ix2 x0 e)) x1)

/-- The block left at a point of the keys. -/
theorem outB (h0 : ¬t.val % 12 ≤ 7) (h1 : 8 ≤ t.val % 12 ∧ t.val % 12 ≤ 9) (h2 : ¬10 ≤ t.val % 12) :
    outsAt0 m c t.val t.isLt = Rope.block (Rope.norm fun e => iblk m c 5 t (ix2 0 e)) (k0_pay1 (iblk m c 0 t) (iblk m c 1 t)) (iblk m c 2 t) (iblk m c 3 t) (1) := by
  rw [outsAt0_B m c t h0 h1 h2]
  unfold out0_B_6
  rw [View.read_writes_junk_eq_canon]
  funext y
  refine View.canon_apply_of_pieces (Val := Elt Ideal) (S := S1024x512) _ _ ?_ y (cover0_B_6 c _ _ _ _ _ _ _ _ _ _ _ _ _ _ _ _ _ _ (iblk m c 0 t) (iblk m c 1 t) (iblk m c 2 t) (iblk m c 3 t) (iblk m c 4 t) (iblk m c 5 t) y)
  unfold kernelRun0_B
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    generalize k0_pay1 (iblk m c 0 t) (iblk m c 1 t) = a
    idx_vars x
  · refine Eq.trans ?_ (Rope.block_tile (Rope.norm fun e => iblk m c 5 t (ix2 0 e)) a (iblk m c 2 t) (iblk m c 3 t) _ 3 _ x0 x1).symm
    pointwise [k0_pay3, k0_pay30, k0_pay31, k0_pay32]
    exact Rope.turn_of (Rope.norm (fun e => iblk m c 5 t (ix2 0 e)) (fun e => a (ix2 x0 ⟨128 * 3 + e.val, by omega⟩))) (fun e => iblk m c 2 t (ix2 x0 e)) (fun e => iblk m c 3 t (ix2 x0 e)) x1
  · refine Eq.trans ?_ (Rope.block_tile (Rope.norm fun e => iblk m c 5 t (ix2 0 e)) a (iblk m c 2 t) (iblk m c 3 t) _ 2 _ x0 x1).symm
    pointwise [k0_pay29, k0_pay24, k0_pay25, k0_pay26, k0_pay27, k0_pay28]
    exact Rope.turn_of (Rope.norm (fun e => iblk m c 5 t (ix2 0 e)) (fun e => a (ix2 x0 ⟨128 * 2 + e.val, by omega⟩))) (fun e => iblk m c 2 t (ix2 x0 e)) (fun e => iblk m c 3 t (ix2 x0 e)) x1
  · refine Eq.trans ?_ (Rope.block_tile (Rope.norm fun e => iblk m c 5 t (ix2 0 e)) a (iblk m c 2 t) (iblk m c 3 t) _ 1 _ x0 x1).symm
    pointwise [k0_pay23, k0_pay21, k0_pay22]
    exact Rope.turn_of (Rope.norm (fun e => iblk m c 5 t (ix2 0 e)) (fun e => a (ix2 x0 ⟨128 * 1 + e.val, by omega⟩))) (fun e => iblk m c 2 t (ix2 x0 e)) (fun e => iblk m c 3 t (ix2 x0 e)) x1
  · refine Eq.trans ?_ (Rope.block_tile (Rope.norm fun e => iblk m c 5 t (ix2 0 e)) a (iblk m c 2 t) (iblk m c 3 t) _ 0 _ x0 x1).symm
    pointwise [k0_pay20, k0_pay19]
    exact Rope.turn_of (Rope.norm (fun e => iblk m c 5 t (ix2 0 e)) (fun e => a (ix2 x0 ⟨e.val, by omega⟩))) (fun e => iblk m c 2 t (ix2 x0 e)) (fun e => iblk m c 3 t (ix2 x0 e)) x1

/-- The block left at a point of the values. -/
theorem outC (h0 : ¬t.val % 12 ≤ 7) (h1 : ¬(8 ≤ t.val % 12 ∧ t.val % 12 ≤ 9)) (h2 : 10 ≤ t.val % 12) :
    outsAt0 m c t.val t.isLt = k0_pay1 (iblk m c 0 t) (iblk m c 1 t) := by
  rw [outsAt0_C m c t h0 h1 h2]
  unfold out0_C_6
  rw [View.read_writes_junk_eq_canon]
  unfold kernelRun0_C
  dsimp only
  sl_unfold_words
  simp only [View.readAt_eq_ld, Memref.IsWhole.read_unread, ld0, ld1]
  exact View.canon_unit_zero (S := S1024x512) (by funext a; fin_cases a <;> rfl) _ _

/-- The block indices of the windows, at every grid point. -/
theorem idx : (win0_0.index t 0 = t.val / 12 ∧ win0_0.index t 1 = 0)
    ∧ (win0_1.index t 0 = 0 ∧ win0_1.index t 1 = 0 ∧ win0_1.index t 2 = t.val % 12)
    ∧ (win0_2.index t 0 = t.val / 12 % 4 ∧ win0_2.index t 1 = 0) ∧ (win0_3.index t 0 = t.val / 12 % 4 ∧ win0_3.index t 1 = 0)
    ∧ (win0_6.index t 0 = t.val / 12 ∧ win0_6.index t 1 = t.val % 12) ∧ (win0_4.index t 0 = 0 ∧ win0_4.index t 1 = 0) ∧ (win0_5.index t 0 = 0 ∧ win0_5.index t 1 = 0) :=
  (by decide +kernel : ∀ t : Fin grid0.N, (win0_0.index t 0 = t.val / 12 ∧ win0_0.index t 1 = 0)
    ∧ (win0_1.index t 0 = 0 ∧ win0_1.index t 1 = 0 ∧ win0_1.index t 2 = t.val % 12)
    ∧ (win0_2.index t 0 = t.val / 12 % 4 ∧ win0_2.index t 1 = 0) ∧ (win0_3.index t 0 = t.val / 12 % 4 ∧ win0_3.index t 1 = 0)
    ∧ (win0_6.index t 0 = t.val / 12 ∧ win0_6.index t 1 = t.val % 12) ∧ (win0_4.index t 0 = 0 ∧ win0_4.index t 1 = 0) ∧ (win0_5.index t 0 = 0 ∧ win0_5.index t 1 = 0)) t

/-- After the run, the result array is the rotated and scaled projections of the arguments. -/
theorem final :
    (dats m 0 c).arrAt 6 cfg0.N = fun i => Rope.qkv (n := 6144) (by decide) 4096 5120 (Rope.norm fun e => m ((c : Thread nD τ).loc main_arg4) (ix1 e)) (Rope.norm fun e => m ((c : Thread nD τ).loc main_arg5) (ix1 e)) (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 6 _ (by decide +kernel) fun t hf y => ?_
  blk_simp
  rw [after0_6]
  change S1024x512.Idx at y
  idx_vars y
  obtain ⟨⟨h00, h01⟩, ⟨h10, h11, h12⟩, ⟨h20, h21⟩, ⟨h30, h31⟩, ⟨h40, h41⟩, ⟨g40, g41⟩, ⟨g50, g51⟩⟩ := idx t
  generalize hi : (win0_6.blk t).view.emb (ix2 y0 y1) = i
  have i0 : (i 0).val = t.val / 12 * 1024 + y0 := by rw [← hi, ← h40]; blk_simp
  have i1 : (i 1).val = t.val % 12 * 512 + y1 := by rw [← hi, ← h41]; blk_simp
  have ip : (i 0).val % 4096 = t.val / 12 % 4 * 1024 + y0 := by omega
  have e0 : ∀ k, iblk m c 0 t (ix2 y0 k) = m ((c : Thread nD τ).loc main_arg0) (ix2 (i 0) k) := by
    intro k
    blk_ext! [iblk, V, h00, h01, i0]
  have e1 : ∀ (k : Fin 4096) (d : Fin 512) (j : Fin 6144), j.val = t.val % 12 * 512 + d.val → iblk m c 1 t (ix3 0 k d) = m ((c : Thread nD τ).loc main_arg1) (ix3 0 k j) := by
    intro k d j hj
    blk_ext! [iblk, V, h10, h11, h12, hj]
  have e2 : ∀ e, iblk m c 2 t (ix2 y0 e) = m ((c : Thread nD τ).loc main_arg2) (ix2 ⟨(i 0).val % 4096, Nat.mod_lt _ (by decide)⟩ e) := by
    intro e
    blk_ext! [iblk, V, h20, h21, ip]
  have e3 : ∀ e, iblk m c 3 t (ix2 y0 e) = m ((c : Thread nD τ).loc main_arg3) (ix2 ⟨(i 0).val % 4096, Nat.mod_lt _ (by decide)⟩ e) := by
    intro e
    blk_ext! [iblk, V, h30, h31, ip]
  have e4 : (fun e => iblk m c 4 t (ix2 0 e)) = fun e => m ((c : Thread nD τ).loc main_arg4) (ix1 e) := by
    funext e
    blk_ext! [iblk, V, g40, g41]
  have e5 : (fun e => iblk m c 5 t (ix2 0 e)) = fun e => m ((c : Thread nD τ).loc main_arg5) (ix1 e) := by
    funext e
    blk_ext! [iblk, V, g50, g51]
  have el : ∀ (d : Fin 512) (j : Fin 6144), j.val = t.val % 12 * 512 + d.val → k0_pay1 (iblk m c 0 t) (iblk m c 1 t) (ix2 y0 d) = Rope.lin (m ((c : Thread nD τ).loc main_arg0)) (m ((c : Thread nD τ).loc main_arg1)) (i 0) j := by
    intro d j hj
    rw [pay1_apply]
    exact Finset.sum_congr rfl fun k _ => congrArg₂ _ (e0 k) (e1 k d j hj)
  have ht := fun f k => Rope.block_turned (n := 6144) (by decide) f (m ((c : Thread nD τ).loc main_arg0)) (m ((c : Thread nD τ).loc main_arg1)) (m ((c : Thread nD τ).loc main_arg2)) (m ((c : Thread nD τ).loc main_arg3)) (i 0) (i 1) (k0_pay1 (iblk m c 0 t) (iblk m c 1 t)) (iblk m c 2 t) (iblk m c 3 t) k y0 y1 _ i1 el e2 e3
  have hm : t.val % 12 < 12 := Nat.mod_lt _ (by decide)
  unfold Rope.qkv
  by_cases h0 : t.val % 12 ≤ 7
  · rw [outA m c t h0 (by omega) (by omega), e4, if_pos (by omega)]
    exact ht _ _
  · by_cases h1 : 8 ≤ t.val % 12 ∧ t.val % 12 ≤ 9
    · rw [outB m c t h0 h1 (by omega), e5, if_neg (by omega), if_pos (by omega)]
      exact (ht _ 1).trans (mul_one _)
    · rw [outC m c t h0 h1 (by omega), if_neg (by omega), if_neg (by omega)]
      exact el y1 (i 1) i1

end Kernel

section Reference

open Cert.Reference13Ideal Cert.Reference13Ideal.Read

variable (x0 : S16384x4096.Idx → EReal) (x1 : S1x4096x6144.Idx → EReal) (x2 x3 : S4096x128.Idx → EReal)
variable (x4 x5 : S128.Idx → EReal)

/-- The product, at an entry. -/
theorem lin_apply (b : Fin 4) (l : Fin 4096) (j : Fin 6144) :
    val_main_v3 (F := Ideal) x0 x1 (ix3 b l j) = Rope.lin x0 x1 ⟨b.val * 4096 + l.val, by omega⟩ j := by
  pointwise [val_main_v3, val_main_v2, val_main_v1, val_main_v0]
  rfl

/-- The queries before the rotation, at an entry. -/
theorem queries_norm (b : Fin 4) (l : Fin 4096) (h : Fin 32) (d : Fin 128) :
    val_main_v18 (F := Ideal) x0 x1 x4 (ix4 b l h d) = Rope.norm (fun e => x4 (ix1 e)) (fun e => Rope.lin x0 x1 ⟨b.val * 4096 + l.val, by omega⟩ ⟨h.val * 128 + e.val, by omega⟩) d := by
  have e : ∀ e, val_main_v5 (F := Ideal) x0 x1 (ix4 b l h e) = Rope.lin x0 x1 ⟨b.val * 4096 + l.val, by omega⟩ ⟨h.val * 128 + e.val, by omega⟩ := by
    intro e
    pointwise [val_main_v5, val_main_v4, lin_apply]
  unfold Rope.norm
  simp only [← e]
  pointwise [val_main_v18, val_main_v17, val_main_v16, val_main_v15, val_main_v14, val_main_v13, val_main_v12, val_main_v11, val_main_v10, val_main_v9, val_main_v8, val_main_v7, val_main_v6, val_main_cst, val_main_cst_0, val_main_cst_1]

/-- The queries after the rotation, at an entry. -/
theorem queries_apply (b : Fin 4) (l : Fin 4096) (h : Fin 32) (d : Fin 128) :
    val_main_v47 (F := Ideal) x0 x1 x2 x3 x4 (ix4 b l h d) = Rope.turn (Rope.norm (fun e => x4 (ix1 e)) (fun e => Rope.lin x0 x1 ⟨b.val * 4096 + l.val, by omega⟩ ⟨h.val * 128 + e.val, by omega⟩)) (fun e => x2 (ix2 l e)) (fun e => x3 (ix2 l e)) d := by
  refine Eq.trans ?_ ((Rope.turn_halves (fun e => val_main_v18 (F := Ideal) x0 x1 x4 (ix4 b l h e)) (fun e => x2 (ix2 l e)) (fun e => x3 (ix2 l e)) d).trans ?_)
  · pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19]
  · congr 1
    funext e
    exact queries_norm x0 x1 x4 b l h e

/-- The keys before the rotation, at an entry. -/
theorem keys_norm (b : Fin 4) (l : Fin 4096) (h : Fin 8) (d : Fin 128) :
    val_main_v62 (F := Ideal) x0 x1 x5 (ix4 b l h d) = Rope.norm (fun e => x5 (ix1 e)) (fun e => Rope.lin x0 x1 ⟨b.val * 4096 + l.val, by omega⟩ ⟨4096 + (h.val * 128 + e.val), by omega⟩) d := by
  have e : ∀ e, val_main_v49 (F := Ideal) x0 x1 (ix4 b l h e) = Rope.lin x0 x1 ⟨b.val * 4096 + l.val, by omega⟩ ⟨4096 + (h.val * 128 + e.val), by omega⟩ := by
    intro e
    pointwise [val_main_v49, val_main_v48, lin_apply]
  unfold Rope.norm
  simp only [← e]
  pointwise [val_main_v62, val_main_v61, val_main_v60, val_main_v59, val_main_v58, val_main_v57, val_main_v56, val_main_v55, val_main_v54, val_main_v53, val_main_v52, val_main_v51, val_main_v50, val_main_cst_2, val_main_cst_3, val_main_cst_4]

/-- The keys after the rotation, at an entry. -/
theorem keys_apply (b : Fin 4) (l : Fin 4096) (h : Fin 8) (d : Fin 128) :
    val_main_v91 (F := Ideal) x0 x1 x2 x3 x5 (ix4 b l h d) = Rope.turn (Rope.norm (fun e => x5 (ix1 e)) (fun e => Rope.lin x0 x1 ⟨b.val * 4096 + l.val, by omega⟩ ⟨4096 + (h.val * 128 + e.val), by omega⟩)) (fun e => x2 (ix2 l e)) (fun e => x3 (ix2 l e)) d := by
  refine Eq.trans ?_ ((Rope.turn_halves (fun e => val_main_v62 (F := Ideal) x0 x1 x5 (ix4 b l h e)) (fun e => x2 (ix2 l e)) (fun e => x3 (ix2 l e)) d).trans ?_)
  · pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63]
  · congr 1
    funext e
    exact keys_norm x0 x1 x5 b l h e

/-- The scaled queries, at an entry. -/
theorem scaled_apply (b : Fin 4) (l : Fin 4096) (h : Fin 32) (d : Fin 128) :
    val_main_v93 (F := Ideal) x0 x1 x2 x3 x4 (ix4 b l h d) = val_main_v47 (F := Ideal) x0 x1 x2 x3 x4 (ix4 b l h d) * Ideal.ofBits .f32 0x3E0293EE#32 := by
  rw [val_main_v93_apply, val_main_v92_apply, val_main_cst_5_apply]
  exact Rope.mul_bits _ _

/-- The last stage, at an entry, in its three parts. -/
theorem parts_apply (r : Fin 16384) (j : Fin 6144) :
    val_main_v99 (F := Ideal) x0 x1 x2 x3 x4 x5 (ix2 r j) = if h : j.val < 4096
      then val_main_v93 (F := Ideal) x0 x1 x2 x3 x4 (ix4 ⟨r.val / 4096, by omega⟩ ⟨r.val % 4096, by omega⟩ ⟨j.val / 128, by omega⟩ ⟨j.val % 128, by omega⟩)
      else if h' : j.val - 4096 < 1024 then val_main_v91 (F := Ideal) x0 x1 x2 x3 x5 (ix4 ⟨r.val / 4096, by omega⟩ ⟨r.val % 4096, by omega⟩ ⟨(j.val - 4096) / 128, by omega⟩ ⟨(j.val - 4096) % 128, by omega⟩)
      else val_main_v3 (F := Ideal) x0 x1 (ix3 ⟨r.val / 4096, by omega⟩ ⟨r.val % 4096, by omega⟩ ⟨5120 + (j.val - 4096 - 1024), by omega⟩) := by
  pointwise [val_main_v99, val_main_v98, val_main_v97, val_main_v96, val_main_v95, val_main_v94]

/-- The plain formula's last stage is the same function. -/
theorem ref_final (r : Fin 16384) (j : Fin 6144) :
    val_main_v99 (F := Ideal) x0 x1 x2 x3 x4 x5 (ix2 r j) = Rope.qkv (n := 6144) (by decide) 4096 5120 (Rope.norm fun e => x4 (ix1 e)) (Rope.norm fun e => x5 (ix1 e)) x0 x1 x2 x3 r j := by
  have er : (⟨r.val / 4096 * 4096 + r.val % 4096, by omega⟩ : Fin 16384) = r := Fin.ext (by show r.val / 4096 * 4096 + r.val % 4096 = r.val; omega)
  unfold Rope.qkv Rope.turned
  rw [parts_apply]
  by_cases h : j.val < 4096
  · rw [dif_pos h, if_pos h, scaled_apply, queries_apply]
    simp only [er]
  · by_cases h' : j.val < 5120
    · rw [dif_neg h, dif_pos (by omega), if_neg h, if_pos h', keys_apply]
      have e1 : ∀ e : Fin 128, (⟨4096 + ((j.val - 4096) / 128 * 128 + e.val), by omega⟩ : Fin 6144) = ⟨j.val / 128 * 128 + e.val, by omega⟩ :=
        fun e => Fin.ext (by show 4096 + ((j.val - 4096) / 128 * 128 + e.val) = j.val / 128 * 128 + e.val; omega)
      have e2 : (⟨(j.val - 4096) % 128, by omega⟩ : Fin 128) = ⟨j.val % 128, by omega⟩ := Fin.ext (by show (j.val - 4096) % 128 = j.val % 128; omega)
      simp only [er, e1, e2]
    · rw [dif_neg h, dif_neg (by omega), if_neg h, if_neg h', lin_apply]
      simp only [er]
      exact congrArg _ (Fin.ext (by show 5120 + (j.val - 4096 - 1024) = j.val; omega))

end Reference

/-- The call's result from its arguments in their order: rows, weight, the two tables, and the gains of the queries and of the keys. -/
abbrev out (u : (⟨2, ![16384, 4096]⟩ : Shape).Idx → EReal) (w : (⟨3, ![1, 4096, 6144]⟩ : Shape).Idx → EReal) (c s : (⟨2, ![4096, 128]⟩ : Shape).Idx → EReal)
    (gq gk : (⟨1, ![128]⟩ : Shape).Idx → EReal) : Fin 16384 → Fin 6144 → EReal :=
  Rope.qkv (n := 6144) (by decide) 4096 5120 (Rope.norm fun e => gq (ix1 e)) (Rope.norm fun e => gk (ix1 e)) u w c s

end Cert.GqaQkv

end
-- ==== Proof.OutCtx0.lean ====
/- The output projection of layer 0 over the context rows: what its call leaves, and the plain formula. -/
module

public import proofs.«01_k».proof.Proof.Linear
public import proofs.«01_k».proof.Proof.Gen.Kernel16Ideal.Value
public import proofs.«01_k».proof.Proof.Gen.Reference16Ideal.Read

@[expose] public section

set_option maxRecDepth 16384

noncomputable section

namespace Cert.OutCtx0

open Idealize.ShloMosaic Idealize.ShloMosaic.TcCoe Idealize.SL.Sem
open Cert.Kernel16Ideal Cert.Kernel16Ideal.Gen

/-- The value stored at an entry of the output block, from the five input blocks. -/
theorem out_apply (x0 : Vec Ideal S1x256x4096 .bf16) (x1 : Vec Ideal S1x4096x512 .f32) (x2 : Vec Ideal S1x512 .f32) (x3 : Vec Ideal S1x1x1x512 .f32)
    (x4 : Vec Ideal S1x256x512 .f32) (r : Fin 256) (c : Fin 512) :
    out0_5 x0 x1 x2 x3 x4 (ix3 0 r c) = x4 (ix3 0 r c) + x3 (ix4 0 0 0 c) * ((∑ k : Fin 4096, x0 (ix3 0 r k) * x1 (ix3 0 k c)) + x2 (ix2 0 c)) := by
  unfold out0_5
  rw [View.canon_unit_zero (by funext a; fin_cases a <;> rfl)]
  pointwise [k0_pay1]

variable (m : (ℓ : Loc nD τ sig) → Buf (Elt Ideal) ℓ)

/-- The block indices of the inputs against the output's, at every grid point. -/
theorem idx (t : Fin cfg0.N) : (win0_0.index t 0 = win0_5.index t 0 ∧ win0_0.index t 1 = win0_5.index t 1 ∧ win0_0.index t 2 = 0)
    ∧ (win0_1.index t 0 = 0 ∧ win0_1.index t 1 = 0 ∧ win0_1.index t 2 = win0_5.index t 2)
    ∧ (win0_2.index t 0 = 0 ∧ win0_2.index t 1 = win0_5.index t 2)
    ∧ (win0_3.index t 0 = 4 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2) :=
  (by decide +kernel : ∀ t : Fin grid0.N, (win0_0.index t 0 = win0_5.index t 0 ∧ win0_0.index t 1 = win0_5.index t 1 ∧ win0_0.index t 2 = 0)
    ∧ (win0_1.index t 0 = 0 ∧ win0_1.index t 1 = 0 ∧ win0_1.index t 2 = win0_5.index t 2)
    ∧ (win0_2.index t 0 = 0 ∧ win0_2.index t 1 = win0_5.index t 2)
    ∧ (win0_3.index t 0 = 4 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2)) t

/-- After the run, the result array is the residual plus the gated projection of the attention's output. -/
theorem final (c : Dev nD) :
    (dats m 0 c).arrAt 5 cfg0.N = fun i => Linear.residualCtx 0 (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  change S1x256x512.Idx at y
  idx_vars y
  obtain rfl : y0 = 0 := Subsingleton.elim _ _
  rw [out_apply]
  obtain ⟨⟨h00, h01, h02⟩, ⟨h10, h11, h12⟩, ⟨h20, h21⟩, ⟨h30, h31, h32, h33⟩, ⟨h40, h41, h42⟩⟩ := idx t
  generalize hi : (win0_5.blk t).view.emb (ix3 0 y1 y2) = i
  have i0 : (i 0).val = win0_5.index t 0 := by rw [← hi]; blk_simp; rfl
  have i1 : (i 1).val = win0_5.index t 1 * 256 + y1 := by rw [← hi]; blk_simp
  have i2 : (i 2).val = win0_5.index t 2 * 512 + y2 := by rw [← hi]; blk_simp
  have e0 : ∀ k, iblk m c 0 t (ix3 0 y1 k) = m ((c : Thread nD τ).loc main_arg0) (ix3 (i 0) (i 1) k) := by
    intro k
    blk_ext! [iblk, V, h00, h01, h02, i0, i1]
  have e1 : ∀ k, iblk m c 1 t (ix3 0 k y2) = m ((c : Thread nD τ).loc main_arg1) (ix3 0 k (i 2)) := by
    intro k
    blk_ext! [iblk, V, h10, h11, h12, i2]
  have e2 : iblk m c 2 t (ix2 0 y2) = m ((c : Thread nD τ).loc main_arg2) (ix1 (i 2)) := by
    blk_ext! [iblk, V, h20, h21, i2]
  have e3 : iblk m c 3 t (ix4 0 0 0 y2) = m ((c : Thread nD τ).loc main_arg4) (ix4 4 2 0 (i 2)) := by
    blk_ext! [iblk, V, h30, h31, h32, h33, i2]
  have e4 : iblk m c 4 t (ix3 0 y1 y2) = m ((c : Thread nD τ).loc main_arg3) (ix3 (i 0) (i 1) (i 2)) := by
    blk_ext! [iblk, V, h40, h41, h42, i0, i1, i2]
  rw [e2, e3, e4]
  simp only [e0, e1]
  rfl

/-- The plain formula's last stage is the same function. -/
theorem ref_final (x0 : Cert.Reference16Ideal.S4x256x4096.Idx → EReal) (x1 : Cert.Reference16Ideal.S4x4096x4096.Idx → EReal) (x2 : Cert.Reference16Ideal.S4096.Idx → EReal)
    (x3 : Cert.Reference16Ideal.S4x256x4096.Idx → EReal) (x4 : Cert.Reference16Ideal.S8x6x1x4096.Idx → EReal) (b : Fin 4) (r : Fin 256) (c : Fin 4096) :
    Cert.Reference16Ideal.Read.val_main_v12 (F := Ideal) x0 x1 x2 x3 x4 (ix3 b r c) = Linear.residualCtx 0 x0 x1 x2 x3 x4 b r c := by
  pointwise [Cert.Reference16Ideal.Read.val_main_v12, Cert.Reference16Ideal.Read.val_main_v11, Cert.Reference16Ideal.Read.val_main_v10, Cert.Reference16Ideal.Read.val_main_v9, Cert.Reference16Ideal.Read.val_main_v8,
    Cert.Reference16Ideal.Read.val_main_v7, Cert.Reference16Ideal.Read.val_main_v6, Cert.Reference16Ideal.Read.val_main_v5, Cert.Reference16Ideal.Read.val_main_v4,
    Cert.Reference16Ideal.Read.val_main_v3, Cert.Reference16Ideal.Read.val_main_v2, Cert.Reference16Ideal.Read.val_main_v1, Cert.Reference16Ideal.Read.val_main_v0]
  rfl

end Cert.OutCtx0

end
-- ==== Proof.OutCtx1.lean ====
/- The output projection of layer 1 over the context rows: what its call leaves, and the plain formula. -/
module

public import proofs.«01_k».proof.Proof.Linear
public import proofs.«01_k».proof.Proof.Gen.Kernel17Ideal.Value
public import proofs.«01_k».proof.Proof.Gen.Reference17Ideal.Read

@[expose] public section

set_option maxRecDepth 16384

noncomputable section

namespace Cert.OutCtx1

open Idealize.ShloMosaic Idealize.ShloMosaic.TcCoe Idealize.SL.Sem
open Cert.Kernel17Ideal Cert.Kernel17Ideal.Gen

/-- The value stored at an entry of the output block, from the five input blocks. -/
theorem out_apply (x0 : Vec Ideal S1x256x4096 .bf16) (x1 : Vec Ideal S1x4096x512 .f32) (x2 : Vec Ideal S1x512 .f32) (x3 : Vec Ideal S1x1x1x512 .f32)
    (x4 : Vec Ideal S1x256x512 .f32) (r : Fin 256) (c : Fin 512) :
    out0_5 x0 x1 x2 x3 x4 (ix3 0 r c) = x4 (ix3 0 r c) + x3 (ix4 0 0 0 c) * ((∑ k : Fin 4096, x0 (ix3 0 r k) * x1 (ix3 0 k c)) + x2 (ix2 0 c)) := by
  unfold out0_5
  rw [View.canon_unit_zero (by funext a; fin_cases a <;> rfl)]
  pointwise [k0_pay1]

variable (m : (ℓ : Loc nD τ sig) → Buf (Elt Ideal) ℓ)

/-- The block indices of the inputs against the output's, at every grid point. -/
theorem idx (t : Fin cfg0.N) : (win0_0.index t 0 = win0_5.index t 0 ∧ win0_0.index t 1 = win0_5.index t 1 ∧ win0_0.index t 2 = 0)
    ∧ (win0_1.index t 0 = 1 ∧ win0_1.index t 1 = 0 ∧ win0_1.index t 2 = win0_5.index t 2)
    ∧ (win0_2.index t 0 = 0 ∧ win0_2.index t 1 = win0_5.index t 2)
    ∧ (win0_3.index t 0 = 4 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2) :=
  (by decide +kernel : ∀ t : Fin grid0.N, (win0_0.index t 0 = win0_5.index t 0 ∧ win0_0.index t 1 = win0_5.index t 1 ∧ win0_0.index t 2 = 0)
    ∧ (win0_1.index t 0 = 1 ∧ win0_1.index t 1 = 0 ∧ win0_1.index t 2 = win0_5.index t 2)
    ∧ (win0_2.index t 0 = 0 ∧ win0_2.index t 1 = win0_5.index t 2)
    ∧ (win0_3.index t 0 = 4 ∧ win0_3.index t 1 = 2 ∧ win0_3.index t 2 = 0 ∧ win0_3.index t 3 = win0_5.index t 2)
    ∧ (win0_4.index t 0 = win0_5.index t 0 ∧ win0_4.index t 1 = win0_5.index t 1 ∧ win0_4.index t 2 = win0_5.index t 2)) t

/-- After the run, the result array is the residual plus the gated projection of the attention's output. -/
theorem final (c : Dev nD) :
    (dats m 0 c).arrAt 5 cfg0.N = fun i => Linear.residualCtx 1 (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  change S1x256x512.Idx at y
  idx_vars y
  obtain rfl : y0 = 0 := Subsingleton.elim _ _
  rw [out_apply]
  obtain ⟨⟨h00, h01, h02⟩, ⟨h10, h11, h12⟩, ⟨h20, h21⟩, ⟨h30, h31, h32, h33⟩, ⟨h40, h41, h42⟩⟩ := idx t
  generalize hi : (win0_5.blk t).view.emb (ix3 0 y1 y2) = i
  have i0 : (i 0).val = win0_5.index t 0 := by rw [← hi]; blk_simp; rfl
  have i1 : (i 1).val = win0_5.index t 1 * 256 + y1 := by rw [← hi]; blk_simp
  have i2 : (i 2).val = win0_5.index t 2 * 512 + y2 := by rw [← hi]; blk_simp
  have e0 : ∀ k, iblk m c 0 t (ix3 0 y1 k) = m ((c : Thread nD τ).loc main_arg0) (ix3 (i 0) (i 1) k) := by
    intro k
    blk_ext! [iblk, V, h00, h01, h02, i0, i1]
  have e1 : ∀ k, iblk m c 1 t (ix3 0 k y2) = m ((c : Thread nD τ).loc main_arg1) (ix3 1 k (i 2)) := by
    intro k
    blk_ext! [iblk, V, h10, h11, h12, i2]
  have e2 : iblk m c 2 t (ix2 0 y2) = m ((c : Thread nD τ).loc main_arg2) (ix1 (i 2)) := by
    blk_ext! [iblk, V, h20, h21, i2]
  have e3 : iblk m c 3 t (ix4 0 0 0 y2) = m ((c : Thread nD τ).loc main_arg4) (ix4 4 2 0 (i 2)) := by
    blk_ext! [iblk, V, h30, h31, h32, h33, i2]
  have e4 : iblk m c 4 t (ix3 0 y1 y2) = m ((c : Thread nD τ).loc main_arg3) (ix3 (i 0) (i 1) (i 2)) := by
    blk_ext! [iblk, V, h40, h41, h42, i0, i1, i2]
  rw [e2, e3, e4]
  simp only [e0, e1]
  rfl

/-- The plain formula's last stage is the same function. -/
theorem ref_final (x0 : Cert.Reference17Ideal.S4x256x4096.Idx → EReal) (x1 : Cert.Reference17Ideal.S4x4096x4096.Idx → EReal) (x2 : Cert.Reference17Ideal.S4096.Idx → EReal)
    (x3 : Cert.Reference17Ideal.S4x256x4096.Idx → EReal) (x4 : Cert.Reference17Ideal.S8x6x1x4096.Idx → EReal) (b : Fin 4) (r : Fin 256) (c : Fin 4096) :
    Cert.Reference17Ideal.Read.val_main_v12 (F := Ideal) x0 x1 x2 x3 x4 (ix3 b r c) = Linear.residualCtx 1 x0 x1 x2 x3 x4 b r c := by
  pointwise [Cert.Reference17Ideal.Read.val_main_v12, Cert.Reference17Ideal.Read.val_main_v11, Cert.Reference17Ideal.Read.val_main_v10, Cert.Reference17Ideal.Read.val_main_v9, Cert.Reference17Ideal.Read.val_main_v8,
    Cert.Reference17Ideal.Read.val_main_v7, Cert.Reference17Ideal.Read.val_main_v6, Cert.Reference17Ideal.Read.val_main_v5, Cert.Reference17Ideal.Read.val_main_v4,
    Cert.Reference17Ideal.Read.val_main_v3, Cert.Reference17Ideal.Read.val_main_v2, Cert.Reference17Ideal.Read.val_main_v1, Cert.Reference17Ideal.Read.val_main_v0]
  rfl

end Cert.OutCtx1

end
-- ==== Proof.Heads.lean ====
/- The projections of rows that have no position: heads that are scaled but not rotated. -/
module

public import proofs.«01_k».proof.Proof.Rope

@[expose] public section

noncomputable section

namespace Cert.Heads

open Idealize.ShloMosaic

/-- A block of four heads: every head's row, after `f`, scaled by `k`. -/
def block (f : (Fin 128 → EReal) → Fin 128 → EReal) (a : (⟨2, ![1024, 512]⟩ : Shape).Idx → EReal) (k : EReal) (y : (⟨2, ![1024, 512]⟩ : Shape).Idx) : EReal :=
  f (fun e => a (ix2 (y 0) ⟨(y 1).val / 128 * 128 + e.val, by have h : (y 1).val < 512 := (y 1).isLt; omega⟩)) ⟨(y 1).val % 128, Nat.mod_lt _ (by decide)⟩ * k

/-- The block at an entry of the `h`-th head's tile. -/
theorem block_tile (f : (Fin 128 → EReal) → Fin 128 → EReal) (a : (⟨2, ![1024, 512]⟩ : Shape).Idx → EReal) (k : EReal)
    (h : ℕ) (inb : ∀ i, (![0, 128 * h] : Fin 2 → ℕ) i + (⟨2, ![1024, 128]⟩ : Shape).size i ≤ (⟨2, ![1024, 512]⟩ : Shape).size i) (r : Fin 1024) (d : Fin 128) :
    block f a k ((Rect.unit (s := ⟨2, ![1024, 512]⟩) ![0, 128 * h] (⟨2, ![1024, 128]⟩ : Shape).size inb).emb (ix2 r d))
      = f (fun e => a (ix2 r ⟨128 * h + e.val, by have b := inb 1; change 128 * h + 128 ≤ 512 at b; omega⟩)) d * k := by
  have b := inb 1
  change 128 * h + 128 ≤ 512 at b
  have e1 : (Rect.unit (s := ⟨2, ![1024, 512]⟩) ![0, 128 * h] (⟨2, ![1024, 128]⟩ : Shape).size inb).emb (ix2 r d) = ix2 r ⟨128 * h + d.val, by omega⟩ := by
    funext i; apply Fin.ext; rw [Rect.emb_apply]
    match i with
    | ⟨0, _⟩ => show 0 + 1 * r.val = r.val; omega
    | ⟨1, _⟩ => show 128 * h + 1 * d.val = 128 * h + d.val; omega
  rw [e1]
  have e2 : ∀ e : Fin 128, (⟨(128 * h + d.val) / 128 * 128 + e.val, by omega⟩ : Fin 512) = ⟨128 * h + e.val, by omega⟩ := fun e => Fin.ext (by show (128 * h + d.val) / 128 * 128 + e.val = 128 * h + e.val; omega)
  have e3 : (⟨(128 * h + d.val) % 128, Nat.mod_lt _ (by decide)⟩ : Fin 128) = d := Fin.ext (by show (128 * h + d.val) % 128 = d.val; omega)
  show f (fun e => a (ix2 r ⟨(128 * h + d.val) / 128 * 128 + e.val, by omega⟩)) ⟨(128 * h + d.val) % 128, Nat.mod_lt _ (by decide)⟩ * k = _
  simp only [e2, e3]

/-- The head's row that column `j` lies in, after `f`, at column `j`. -/
def head {n : ℕ} (hn : n % 128 = 0) (f : (Fin 128 → EReal) → Fin 128 → EReal) (u : (⟨2, ![1024, 4096]⟩ : Shape).Idx → EReal) (w : (⟨3, ![1, 4096, n]⟩ : Shape).Idx → EReal)
    (r : Fin 1024) (j : Fin n) : EReal :=
  f (fun e => Rope.lin u w r ⟨j.val / 128 * 128 + e.val, by omega⟩) ⟨j.val % 128, by omega⟩

/-- A block whose entries are those of the product holds the heads' rows, scaled. -/
theorem block_head {n : ℕ} (hn : n % 128 = 0) (f : (Fin 128 → EReal) → Fin 128 → EReal) (u : (⟨2, ![1024, 4096]⟩ : Shape).Idx → EReal) (w : (⟨3, ![1, 4096, n]⟩ : Shape).Idx → EReal)
    (r : Fin 1024) (j : Fin n) (a : (⟨2, ![1024, 512]⟩ : Shape).Idx → EReal) (k : EReal) (y0 : Fin 1024) (y1 : Fin 512) (q : ℕ) (hj : j.val = q * 512 + y1.val)
    (el : ∀ (d : Fin 512) (j : Fin n), j.val = q * 512 + d.val → a (ix2 y0 d) = Rope.lin u w r j) : block f a k (ix2 y0 y1) = head hn f u w r j * k := by
  unfold block head
  have hr : (fun e : Fin 128 => a (ix2 y0 ⟨y1.val / 128 * 128 + e.val, by omega⟩)) = fun e : Fin 128 => Rope.lin u w r ⟨j.val / 128 * 128 + e.val, by omega⟩ :=
    funext fun e => el _ _ (by show j.val / 128 * 128 + e.val = q * 512 + (y1.val / 128 * 128 + e.val); omega)
  have hd : (⟨y1.val % 128, by omega⟩ : Fin 128) = ⟨j.val % 128, by omega⟩ := Fin.ext (by show y1.val % 128 = j.val % 128; omega)
  show f (fun e : Fin 128 => a (ix2 y0 ⟨y1.val / 128 * 128 + e.val, by omega⟩)) ⟨y1.val % 128, by omega⟩ * k = _
  rw [hr, hd]

/-- The projections of the queries (up to column `a`), scaled, of the keys (up to column `b`), and of the values. -/
def qkv {n : ℕ} (hn : n % 128 = 0) (a b : ℕ) (fq fk : (Fin 128 → EReal) → Fin 128 → EReal) (u : (⟨2, ![1024, 4096]⟩ : Shape).Idx → EReal) (w : (⟨3, ![1, 4096, n]⟩ : Shape).Idx → EReal)
    (r : Fin 1024) (j : Fin n) : EReal :=
  if j.val < a then head hn fq u w r j * Ideal.ofBits .f32 0x3E0293EE#32 else if j.val < b then head hn fk u w r j else Rope.lin u w r j

end Cert.Heads

end
-- ==== Proof.QkvCtx.lean ====
/- The differential layer's projections of the context rows: what their call leaves, and the plain formula. -/
module

public import proofs.«01_k».proof.Proof.Heads
public import proofs.«01_k».proof.Proof.Gen.Kernel18Ideal.Value
public import proofs.«01_k».proof.Proof.Gen.Reference18Ideal.Read

@[expose] public section

set_option maxRecDepth 16384

noncomputable section

namespace Cert.QkvCtx

open Idealize.ShloMosaic Idealize.ShloMosaic.TcCoe Idealize.SL.Sem

section Kernel

open Cert.Kernel18Ideal Cert.Kernel18Ideal.Gen

variable (m : (ℓ : Loc nD τ sig) → Buf (Elt Ideal) ℓ) (c : Dev nD) (t : Fin cfg0.N)

/-- The product of the activations' block and the weight's. -/
theorem pay1_apply (x0 : Vec Ideal S1024x4096 .bf16) (x1 : Vec Ideal S1x4096x512 .f32) (r : Fin 1024) (d : Fin 512) :
    k0_pay1 x0 x1 (ix2 r d) = ∑ k : Fin 4096, x0 (ix2 r k) * x1 (ix3 0 k d) := by
  pointwise [k0_pay1]

/-- Loads of whole blocks. -/
theorem ld0 (w0 : Vec Ideal S1024x4096 .bf16) (inb) : View.ld (Val := Elt Ideal) (e' := .bf16) w0 (Rect.unit (s := S1024x4096) ![0, 0] ![1024, 4096] inb) = w0 :=
  View.ld_unit_zero (by funext a; fin_cases a <;> rfl) inb w0

theorem ld1 (w1 : Vec Ideal S1x4096x512 .f32) (inb) : View.ld (Val := Elt Ideal) (e' := .f32) w1 (Rect.unit (s := S1x4096x512) ![0, 0, 0] ![1, 4096, 512] inb) = w1 :=
  View.ld_unit_zero (by funext a; fin_cases a <;> rfl) inb w1

/-- The block left at a point of the queries. -/
theorem outA (h0 : t.val < 8) (h1 : ¬(8 ≤ t.val % 24 ∧ t.val % 24 ≤ 15)) (h2 : ¬16 ≤ t.val) :
    outsAt0 m c t.val t.isLt = Heads.block id (k0_pay1 (iblk m c 0 t) (iblk m c 1 t)) (Ideal.ofBits .f32 0x3E0293EE#32) := by
  rw [outsAt0_A m c t h0 h1 h2]
  unfold out0_A_4
  rw [View.read_writes_junk_eq_canon]
  funext y
  refine View.canon_apply_of_pieces (Val := Elt Ideal) (S := S1024x512) _ _ ?_ y (cover0_A_4 c _ _ _ _ _ _ _ _ _ _ _ _ _ _ (iblk m c 0 t) (iblk m c 1 t) (iblk m c 2 t) (iblk m c 3 t) y)
  unfold kernelRun0_A
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    idx_vars x
  · refine Eq.trans ?_ (Heads.block_tile id _ _ 3 _ x0 x1).symm
    pointwise [k0_pay2, k0_pay3, k0_pay4, k0_pay5]
    rfl
  · refine Eq.trans ?_ (Heads.block_tile id _ _ 2 _ x0 x1).symm
    pointwise [k0_pay2, k0_pay3, k0_pay4, k0_pay5]
    rfl
  · refine Eq.trans ?_ (Heads.block_tile id _ _ 1 _ x0 x1).symm
    pointwise [k0_pay2, k0_pay3, k0_pay4, k0_pay5]
    rfl
  · refine Eq.trans ?_ (Heads.block_tile id _ _ 0 _ x0 x1).symm
    pointwise [k0_pay2, k0_pay3, k0_pay4, k0_pay5]
    rfl

/-- The block left at a point of the keys. -/
theorem outB (h0 : ¬t.val < 8) (h1 : 8 ≤ t.val % 24 ∧ t.val % 24 ≤ 15) (h2 : ¬16 ≤ t.val) :
    outsAt0 m c t.val t.isLt = Heads.block id (k0_pay1 (iblk m c 0 t) (iblk m c 1 t)) (1) := by
  rw [outsAt0_B m c t h0 h1 h2]
  unfold out0_B_4
  rw [View.read_writes_junk_eq_canon]
  funext y
  refine View.canon_apply_of_pieces (Val := Elt Ideal) (S := S1024x512) _ _ ?_ y (cover0_B_4 c _ _ _ _ _ _ _ _ _ _ _ _ _ _ (iblk m c 0 t) (iblk m c 1 t) (iblk m c 2 t) (iblk m c 3 t) y)
  unfold kernelRun0_B
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    idx_vars x
  · refine Eq.trans ?_ (Heads.block_tile id _ _ 3 _ x0 x1).symm
    pointwise [k0_pay6, k0_pay7, k0_pay8, k0_pay9]
    rfl
  · refine Eq.trans ?_ (Heads.block_tile id _ _ 2 _ x0 x1).symm
    pointwise [k0_pay6, k0_pay7, k0_pay8, k0_pay9]
    rfl
  · refine Eq.trans ?_ (Heads.block_tile id _ _ 1 _ x0 x1).symm
    pointwise [k0_pay6, k0_pay7, k0_pay8, k0_pay9]
    rfl
  · refine Eq.trans ?_ (Heads.block_tile id _ _ 0 _ x0 x1).symm
    pointwise [k0_pay6, k0_pay7, k0_pay8, k0_pay9]
    rfl

/-- The block left at a point of the values. -/
theorem outC (h0 : ¬t.val < 8) (h1 : ¬(8 ≤ t.val % 24 ∧ t.val % 24 ≤ 15)) (h2 : 16 ≤ t.val) :
    outsAt0 m c t.val t.isLt = k0_pay1 (iblk m c 0 t) (iblk m c 1 t) := by
  rw [outsAt0_C m c t h0 h1 h2]
  unfold out0_C_4
  rw [View.read_writes_junk_eq_canon]
  unfold kernelRun0_C
  dsimp only
  sl_unfold_words
  simp only [View.readAt_eq_ld, Memref.IsWhole.read_unread, ld0, ld1]
  exact View.canon_unit_zero (S := S1024x512) (by funext a; fin_cases a <;> rfl) _ _

/-- The block indices of the windows, at every grid point. -/
theorem idx : (win0_0.index t 0 = 0 ∧ win0_0.index t 1 = 0) ∧ (win0_1.index t 0 = 0 ∧ win0_1.index t 1 = 0 ∧ win0_1.index t 2 = t.val)
    ∧ (win0_4.index t 0 = 0 ∧ win0_4.index t 1 = t.val) :=
  (by decide +kernel : ∀ t : Fin grid0.N, (win0_0.index t 0 = 0 ∧ win0_0.index t 1 = 0) ∧ (win0_1.index t 0 = 0 ∧ win0_1.index t 1 = 0 ∧ win0_1.index t 2 = t.val)
    ∧ (win0_4.index t 0 = 0 ∧ win0_4.index t 1 = t.val)) t

/-- After the run, the result array is the scaled projections of the arguments. -/
theorem final :
    (dats m 0 c).arrAt 4 cfg0.N = fun i => Heads.qkv (n := 12288) (by decide) 4096 8192 id id (m ((c : Thread nD τ).loc main_arg0)) (m ((c : Thread nD τ).loc main_arg1)) (i 0) (i 1) := by
  refine (dats m 0 c).arrAt_eq_of_covers 4 _ (by decide +kernel) fun t hf y => ?_
  blk_simp
  rw [after0_4]
  change S1024x512.Idx at y
  idx_vars y
  obtain ⟨⟨h00, h01⟩, ⟨h10, h11, h12⟩, ⟨h40, h41⟩⟩ := idx t
  generalize hi : (win0_4.blk t).view.emb (ix2 y0 y1) = i
  have i0 : (i 0).val = y0 := by
    have : (i 0).val = win0_4.index t 0 * 1024 + y0 := by rw [← hi]; blk_simp
    omega
  have i1 : (i 1).val = t.val * 512 + y1 := by rw [← hi, ← h41]; blk_simp
  have e0 : ∀ k, iblk m c 0 t (ix2 y0 k) = m ((c : Thread nD τ).loc main_arg0) (ix2 (i 0) k) := by
    intro k
    blk_ext! [iblk, V, h00, h01, i0]
  have e1 : ∀ (k : Fin 4096) (d : Fin 512) (j : Fin 12288), j.val = t.val * 512 + d.val → iblk m c 1 t (ix3 0 k d) = m ((c : Thread nD τ).loc main_arg1) (ix3 0 k j) := by
    intro k d j hj
    blk_ext! [iblk, V, h10, h11, h12, hj]
  have el : ∀ (d : Fin 512) (j : Fin 12288), j.val = t.val * 512 + d.val → k0_pay1 (iblk m c 0 t) (iblk m c 1 t) (ix2 y0 d) = Rope.lin (m ((c : Thread nD τ).loc main_arg0)) (m ((c : Thread nD τ).loc main_arg1)) (i 0) j := by
    intro d j hj
    rw [pay1_apply]
    exact Finset.sum_congr rfl fun k _ => congrArg₂ _ (e0 k) (e1 k d j hj)
  have ht := fun f k => Heads.block_head (n := 12288) (by decide) f (m ((c : Thread nD τ).loc main_arg0)) (m ((c : Thread nD τ).loc main_arg1)) (i 0) (i 1) (k0_pay1 (iblk m c 0 t) (iblk m c 1 t)) k y0 y1 _ i1 el
  have hm : t.val < 24 := t.isLt
  unfold Heads.qkv
  by_cases h0 : t.val < 8
  · rw [outA m c t h0 (by omega) (by omega), if_pos (by omega)]
    exact ht _ _
  · by_cases h1 : 8 ≤ t.val % 24 ∧ t.val % 24 ≤ 15
    · rw [outB m c t h0 h1 (by omega), if_neg (by omega), if_pos (by omega)]
      exact (ht _ 1).trans (mul_one _)
    · rw [outC m c t h0 h1 (by omega), if_neg (by omega), if_neg (by omega)]
      exact el y1 (i 1) i1

end Kernel

section Reference

open Cert.Reference18Ideal Cert.Reference18Ideal.Read

/-- The call's result from its arguments in their order; the two tables are not read. -/
abbrev out (u : (⟨2, ![1024, 4096]⟩ : Shape).Idx → EReal) (w : (⟨3, ![1, 4096, 12288]⟩ : Shape).Idx → EReal) (_c _s : (⟨2, ![4096, 128]⟩ : Shape).Idx → EReal) :
    Fin 1024 → Fin 12288 → EReal :=
  Heads.qkv (n := 12288) (by decide) 4096 8192 id id u w

variable (x0 : S1024x4096.Idx → EReal) (x1 : S1x4096x12288.Idx → EReal)

/-- The product, at an entry. -/
theorem lin_apply (r : Fin 1024) (j : Fin 12288) : val_main_v2 (F := Ideal) x0 x1 (ix2 r j) = Rope.lin x0 x1 r j := by
  pointwise [val_main_v2, val_main_v1, val_main_v0]
  rfl

/-- The last stage, at an entry, in its two parts. -/
theorem parts_apply (r : Fin 1024) (j : Fin 12288) :
    val_main_v8 (F := Ideal) x0 x1 (ix2 r j) = if h : j.val < 4096
      then val_main_v2 (F := Ideal) x0 x1 (ix2 r ⟨j.val, by omega⟩) * Ideal.ofBits .f32 0x3E0293EE#32
      else val_main_v2 (F := Ideal) x0 x1 (ix2 r ⟨4096 + (j.val - 4096), by omega⟩) := by
  pointwise [val_main_v8, val_main_v7, val_main_v6, val_main_v5, val_main_v4, val_main_v3, val_main_cst]

/-- The plain formula's last stage is the same function. -/
theorem ref_final (x2 x3 : S4096x128.Idx → EReal) (r : Fin 1024) (j : Fin 12288) :
    val_main_v8 (F := Ideal) x0 x1 (ix2 r j) = out x0 x1 x2 x3 r j := by
  show _ = Heads.qkv (n := 12288) (by decide) 4096 8192 id id x0 x1 r j
  have ej : (⟨j.val / 128 * 128 + j.val % 128, by omega⟩ : Fin 12288) = j := Fin.ext (by show j.val / 128 * 128 + j.val % 128 = j.val; omega)
  unfold Heads.qkv Heads.head
  rw [parts_apply]
  by_cases h : j.val < 4096
  · rw [dif_pos h, if_pos h, lin_apply]
    show _ = Rope.lin x0 x1 r ⟨j.val / 128 * 128 + j.val % 128, by omega⟩ * _
    rw [ej]
  · have e : (⟨4096 + (j.val - 4096), by omega⟩ : Fin 12288) = j := Fin.ext (by show 4096 + (j.val - 4096) = j.val; omega)
    rw [dif_neg h, if_neg h, lin_apply, e]
    by_cases h' : j.val < 8192
    · rw [if_pos h']
      show _ = Rope.lin x0 x1 r ⟨j.val / 128 * 128 + j.val % 128, by omega⟩
      rw [ej]
    · rw [if_neg h']

end Reference

end Cert.QkvCtx

end
-- ==== Proof.GqaQkvCtx.lean ====
/- The grouped-query layer's projections of the context rows: what their call leaves, and the plain formula. -/
module

public import proofs.«01_k».proof.Proof.Heads
public import proofs.«01_k».proof.Proof.Gen.Kernel19Ideal.Value
public import proofs.«01_k».proof.Proof.Gen.Reference19Ideal.Read

@[expose] public section

set_option maxRecDepth 16384

noncomputable section

namespace Cert.GqaQkvCtx

open Idealize.ShloMosaic Idealize.ShloMosaic.TcCoe Idealize.SL.Sem

section Kernel

open Cert.Kernel19Ideal Cert.Kernel19Ideal.Gen

variable (m : (ℓ : Loc nD τ sig) → Buf (Elt Ideal) ℓ) (c : Dev nD) (t : Fin cfg0.N)

/-- The product of the activations' block and the weight's. -/
theorem pay1_apply (x0 : Vec Ideal S1024x4096 .bf16) (x1 : Vec Ideal S1x4096x512 .f32) (r : Fin 1024) (d : Fin 512) :
    k0_pay1 x0 x1 (ix2 r d) = ∑ k : Fin 4096, x0 (ix2 r k) * x1 (ix3 0 k d) := by
  pointwise [k0_pay1]

/-- Loads of whole blocks. -/
theorem ld0 (w0 : Vec Ideal S1024x4096 .bf16) (inb) : View.ld (Val := Elt Ideal) (e' := .bf16) w0 (Rect.unit (s := S1024x4096) ![0, 0] ![1024, 4096] inb) = w0 :=
  View.ld_unit_zero (by funext a; fin_cases a <;> rfl) inb w0

theorem ld1 (w1 : Vec Ideal S1x4096x512 .f32) (inb) : View.ld (Val := Elt Ideal) (e' := .f32) w1 (Rect.unit (s := S1x4096x512) ![0, 0, 0] ![1, 4096, 512] inb) = w1 :=
  View.ld_unit_zero (by funext a; fin_cases a <;> rfl) inb w1

/-- The block left at a point of the queries. -/
theorem outA (h0 : t.val < 8) (h1 : ¬(8 ≤ t.val % 12 ∧ t.val % 12 ≤ 9)) (h2 : ¬10 ≤ t.val) :
    outsAt0 m c t.val t.isLt = Heads.block (Rope.norm fun e => iblk m c 4 t (ix2 0 e)) (k0_pay1 (iblk m c 0 t) (iblk m c 1 t)) (Ideal.ofBits .f32 0x3E0293EE#32) := by
  rw [outsAt0_A m c t h0 h1 h2]
  unfold out0_A_6
  rw [View.read_writes_junk_eq_canon]
  funext y
  refine View.canon_apply_of_pieces (Val := Elt Ideal) (S := S1024x512) _ _ ?_ y (cover0_A_6 c _ _ _ _ _ _ _ _ _ _ _ _ _ _ _ _ _ _ (iblk m c 0 t) (iblk m c 1 t) (iblk m c 2 t) (iblk m c 3 t) (iblk m c 4 t) (iblk m c 5 t) y)
  unfold kernelRun0_A
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    idx_vars x
  · refine Eq.trans ?_ (Heads.block_tile (Rope.norm fun e => iblk m c 4 t (ix2 0 e)) _ _ 3 _ x0 x1).symm
    pointwise [k0_pay2, k0_pay3, k0_pay4, k0_pay5, k0_pay6, k0_pay7, k0_pay8, k0_pay9, k0_pay10, k0_pay11, k0_pay12, k0_pay13, k0_pay14]
    rfl
  · refine Eq.trans ?_ (Heads.block_tile (Rope.norm fun e => iblk m c 4 t (ix2 0 e)) _ _ 2 _ x0 x1).symm
    pointwise [k0_pay2, k0_pay3, k0_pay4, k0_pay5, k0_pay6, k0_pay7, k0_pay8, k0_pay9, k0_pay10, k0_pay11, k0_pay12, k0_pay13, k0_pay14]
    rfl
  · refine Eq.trans ?_ (Heads.block_tile (Rope.norm fun e => iblk m c 4 t (ix2 0 e)) _ _ 1 _ x0 x1).symm
    pointwise [k0_pay2, k0_pay3, k0_pay4, k0_pay5, k0_pay6, k0_pay7, k0_pay8, k0_pay9, k0_pay10, k0_pay11, k0_pay12, k0_pay13, k0_pay14]
    rfl
  · refine Eq.trans ?_ (Heads.block_tile (Rope.norm fun e => iblk m c 4 t (ix2 0 e)) _ _ 0 _ x0 x1).symm
    pointwise [k0_pay2, k0_pay3, k0_pay4, k0_pay5, k0_pay6, k0_pay7, k0_pay8, k0_pay9, k0_pay10, k0_pay11, k0_pay12, k0_pay13, k0_pay14]
    rfl

/-- The block left at a point of the keys. -/
theorem outB (h0 : ¬t.val < 8) (h1 : 8 ≤ t.val % 12 ∧ t.val % 12 ≤ 9) (h2 : ¬10 ≤ t.val) :
    outsAt0 m c t.val t.isLt = Heads.block (Rope.norm fun e => iblk m c 5 t (ix2 0 e)) (k0_pay1 (iblk m c 0 t) (iblk m c 1 t)) (1) := by
  rw [outsAt0_B m c t h0 h1 h2]
  unfold out0_B_6
  rw [View.read_writes_junk_eq_canon]
  funext y
  refine View.canon_apply_of_pieces (Val := Elt Ideal) (S := S1024x512) _ _ ?_ y (cover0_B_6 c _ _ _ _ _ _ _ _ _ _ _ _ _ _ _ _ _ _ (iblk m c 0 t) (iblk m c 1 t) (iblk m c 2 t) (iblk m c 3 t) (iblk m c 4 t) (iblk m c 5 t) y)
  unfold kernelRun0_B
  dsimp only
  intro p hp
  simp only [List.mem_cons, List.not_mem_nil, or_false] at hp
  rcases hp with rfl | rfl | rfl | rfl
  all_goals
    intro x
    change S1024x128.Idx at x
    dsimp only
    sl_unfold_words
    simp only [View.readAt_eq_ld, Memref.IsWhole.read_unread, ld0, ld1]
    idx_vars x
  · refine Eq.trans ?_ (Heads.block_tile (Rope.norm fun e => iblk m c 5 t (ix2 0 e)) _ _ 3 _ x0 x1).symm
    pointwise [k0_pay2, k0_pay3, k0_pay4, k0_pay5, k0_pay6, k0_pay7, k0_pay8, k0_pay9, k0_pay10, k0_pay11, k0_pay12, k0_pay13, k0_pay14]
    rfl
  · refine Eq.trans ?_ (Heads.block_tile (Rope.norm fun e => iblk m c 5 t (ix2 0 e)) _ _ 2 _ x0 x1).symm
    pointwise [k0_pay2, k0_pay3, k0_pay4, k0_pay5, k0_pay6, k0_pay7, k0_pay8, k0_pay9, k0_pay10, k0_pay11, k0_pay12, k0_pay13, k0_pay14]
    rfl
  · refine Eq.trans ?_ (Heads.block_tile (Rope.norm fun e => iblk m c 5 t (ix2 0 e)) _ _ 1 _ x0 x1).symm
    pointwise [k0_pay2, k0_pay3, k0_pay4, k0_pay5, k0_pay6, k0_pay7, k0_pay8, k0_pay9, k0_pay10, k0_pay11, k0_pay12, k0_pay13, k0_pay14]
    rfl
  · refine Eq.trans ?_ (Heads.block_tile (Rope.norm fun e => iblk m c 5 t (ix2 0 e)) _ _ 0 _ x0 x1).symm
    pointwise [k0_pay2, k0_pay3, k0_pay4, k0_pay5, k0_pay6, k0_pay7, k0_pay8, k0_pay9, k0_pay10, k0_pay11, k0_pay12, k0_pay13, k0_pay14]
    rfl

/-- The block left at a point of the values. -/
theorem outC (h0 : ¬t.val < 8) (h1 : ¬(8 ≤ t.val % 12 ∧ t.val % 12 ≤ 9)) (h2 : 10 ≤ t.val) :
    outsAt0 m c t.val t.isLt = k0_pay1 (iblk m c 0 t) (iblk m c 1 t) := by
  rw [outsAt0_C m c t h0 h1 h2]
  unfold out0_C_6
  rw [View.read_writes_junk_eq_canon]
  unfold kernelRun0_C
  dsimp only
  sl_unfold_words
  simp only [View.readAt_eq_ld, Memref.IsWhole.read_unread, ld0, ld1]
  exact View.canon_unit_zero (S := S1024x512) (by funext a; fin_cases a <;> rfl) _ _

/-- The block indices of the windows, at every grid point. -/
theorem idx : (win0_0.index t 0 = 0 ∧ win0_0.index t 1 = 0) ∧ (win0_1.index t 0 = 0 ∧ win0_1.index t 1 = 0 ∧ win0_1.index t 2 = t.val)
    ∧ (win0_6.index t 0 = 0 ∧ win0_6.index t 1 = t.val) ∧ (win0_4.index t 0 = 0 ∧ win0_4.index t 1 = 0) ∧ (win0_5.index t 0 = 0 ∧ win0_5.index t 1 = 0) :=
  (by decide +kernel : ∀ t : Fin grid0.N, (win0_0.index t 0 = 0 ∧ win0_0.index t 1 = 0) ∧ (win0_1.index t 0 = 0 ∧ win0_1.index t 1 = 0 ∧ win0_1.index t 2 = t.val)
    ∧ (win0_6.index t 0 = 0 ∧ win0_6.index t 1 = t.val) ∧ (win0_4.index t 0 = 0 ∧ win0_4.index t 1 = 0) ∧ (win0_5.index t 0 = 0 ∧ win0_5.index t 1 = 0)) t

/-- After the run, the result array is the scaled projections of the arguments. -/
theorem final :
    (dats m 0 c).arrAt 6 cfg0.N = fun i => Heads.qkv (n := 6144) (by decide) 4096 5120 (Rope.norm fun e => m ((c : Thread nD τ).loc main_arg4) (ix1 e)) (Rope.norm fun e => m ((c : Thread nD τ).loc main_arg5) (ix1 e)) (m ((c : Thread nD τ).loc main_arg0)) (m ((c : Thread nD τ).loc main_arg1)) (i 0) (i 1) := by
  refine (dats m 0 c).arrAt_eq_of_covers 6 _ (by decide +kernel) fun t hf y => ?_
  blk_simp
  rw [after0_6]
  change S1024x512.Idx at y
  idx_vars y
  obtain ⟨⟨h00, h01⟩, ⟨h10, h11, h12⟩, ⟨h40, h41⟩, ⟨g40, g41⟩, ⟨g50, g51⟩⟩ := idx t
  generalize hi : (win0_6.blk t).view.emb (ix2 y0 y1) = i
  have i0 : (i 0).val = y0 := by
    have : (i 0).val = win0_6.index t 0 * 1024 + y0 := by rw [← hi]; blk_simp
    omega
  have i1 : (i 1).val = t.val * 512 + y1 := by rw [← hi, ← h41]; blk_simp
  have e0 : ∀ k, iblk m c 0 t (ix2 y0 k) = m ((c : Thread nD τ).loc main_arg0) (ix2 (i 0) k) := by
    intro k
    blk_ext! [iblk, V, h00, h01, i0]
  have e1 : ∀ (k : Fin 4096) (d : Fin 512) (j : Fin 6144), j.val = t.val * 512 + d.val → iblk m c 1 t (ix3 0 k d) = m ((c : Thread nD τ).loc main_arg1) (ix3 0 k j) := by
    intro k d j hj
    blk_ext! [iblk, V, h10, h11, h12, hj]
  have e4 : (fun e => iblk m c 4 t (ix2 0 e)) = fun e => m ((c : Thread nD τ).loc main_arg4) (ix1 e) := by
    funext e
    blk_ext! [iblk, V, g40, g41]
  have e5 : (fun e => iblk m c 5 t (ix2 0 e)) = fun e => m ((c : Thread nD τ).loc main_arg5) (ix1 e) := by
    funext e
    blk_ext! [iblk, V, g50, g51]
  have el : ∀ (d : Fin 512) (j : Fin 6144), j.val = t.val * 512 + d.val → k0_pay1 (iblk m c 0 t) (iblk m c 1 t) (ix2 y0 d) = Rope.lin (m ((c : Thread nD τ).loc main_arg0)) (m ((c : Thread nD τ).loc main_arg1)) (i 0) j := by
    intro d j hj
    rw [pay1_apply]
    exact Finset.sum_congr rfl fun k _ => congrArg₂ _ (e0 k) (e1 k d j hj)
  have ht := fun f k => Heads.block_head (n := 6144) (by decide) f (m ((c : Thread nD τ).loc main_arg0)) (m ((c : Thread nD τ).loc main_arg1)) (i 0) (i 1) (k0_pay1 (iblk m c 0 t) (iblk m c 1 t)) k y0 y1 _ i1 el
  have hm : t.val < 12 := t.isLt
  unfold Heads.qkv
  by_cases h0 : t.val < 8
  · rw [outA m c t h0 (by omega) (by omega), e4, if_pos (by omega)]
    exact ht _ _
  · by_cases h1 : 8 ≤ t.val % 12 ∧ t.val % 12 ≤ 9
    · rw [outB m c t h0 h1 (by omega), e5, if_neg (by omega), if_pos (by omega)]
      exact (ht _ 1).trans (mul_one _)
    · rw [outC m c t h0 h1 (by omega), if_neg (by omega), if_neg (by omega)]
      exact el y1 (i 1) i1

end Kernel

section Reference

open Cert.Reference19Ideal Cert.Reference19Ideal.Read

/-- The call's result from its arguments in their order: rows, weight, the two tables, which are not read, and the gains of the queries and of the keys. -/
abbrev out (u : (⟨2, ![1024, 4096]⟩ : Shape).Idx → EReal) (w : (⟨3, ![1, 4096, 6144]⟩ : Shape).Idx → EReal) (_c _s : (⟨2, ![4096, 128]⟩ : Shape).Idx → EReal)
    (gq gk : (⟨1, ![128]⟩ : Shape).Idx → EReal) : Fin 1024 → Fin 6144 → EReal :=
  Heads.qkv (n := 6144) (by decide) 4096 5120 (Rope.norm fun e => gq (ix1 e)) (Rope.norm fun e => gk (ix1 e)) u w

variable (x0 : S1024x4096.Idx → EReal) (x1 : S1x4096x6144.Idx → EReal)
variable (x4 x5 : S128.Idx → EReal)

/-- The product, at an entry. -/
theorem lin_apply (r : Fin 1024) (j : Fin 6144) : val_main_v2 (F := Ideal) x0 x1 (ix2 r j) = Rope.lin x0 x1 r j := by
  pointwise [val_main_v2, val_main_v1, val_main_v0]
  rfl

/-- The normalised queries, at an entry. -/
theorem queries_apply (r : Fin 1024) (h : Fin 32) (d : Fin 128) :
    val_main_v17 (F := Ideal) x0 x1 x4 (ix3 r h d) = Rope.norm (fun e => x4 (ix1 e)) (fun e => Rope.lin x0 x1 r ⟨h.val * 128 + e.val, by omega⟩) d := by
  have e : ∀ e, val_main_v4 (F := Ideal) x0 x1 (ix3 r h e) = Rope.lin x0 x1 r ⟨h.val * 128 + e.val, by omega⟩ := by
    intro e
    pointwise [val_main_v4, val_main_v3, lin_apply]
  unfold Rope.norm
  simp only [← e]
  pointwise [val_main_v17, val_main_v16, val_main_v15, val_main_v14, val_main_v13, val_main_v12, val_main_v11, val_main_v10, val_main_v9, val_main_v8, val_main_v7, val_main_v6, val_main_v5, val_main_cst, val_main_cst_0, val_main_cst_1]

/-- The normalised keys, at an entry. -/
theorem keys_apply (r : Fin 1024) (h : Fin 8) (d : Fin 128) :
    val_main_v32 (F := Ideal) x0 x1 x5 (ix3 r h d) = Rope.norm (fun e => x5 (ix1 e)) (fun e => Rope.lin x0 x1 r ⟨4096 + (h.val * 128 + e.val), by omega⟩) d := by
  have e : ∀ e, val_main_v19 (F := Ideal) x0 x1 (ix3 r h e) = Rope.lin x0 x1 r ⟨4096 + (h.val * 128 + e.val), by omega⟩ := by
    intro e
    pointwise [val_main_v19, val_main_v18, lin_apply]
  unfold Rope.norm
  simp only [← e]
  pointwise [val_main_v32, val_main_v31, val_main_v30, val_main_v29, val_main_v28, val_main_v27, val_main_v26, val_main_v25, val_main_v24, val_main_v23, val_main_v22, val_main_v21, val_main_v20, val_main_cst_2, val_main_cst_3, val_main_cst_4]

/-- The scaled queries, at an entry. -/
theorem scaled_apply (r : Fin 1024) (h : Fin 32) (d : Fin 128) :
    val_main_v34 (F := Ideal) x0 x1 x4 (ix3 r h d) = val_main_v17 (F := Ideal) x0 x1 x4 (ix3 r h d) * Ideal.ofBits .f32 0x3E0293EE#32 := by
  rw [val_main_v34_apply, val_main_v33_apply, val_main_cst_5_apply]
  exact Rope.mul_bits _ _

/-- The last stage, at an entry, in its three parts. -/
theorem parts_apply (r : Fin 1024) (j : Fin 6144) :
    val_main_v39 (F := Ideal) x0 x1 x4 x5 (ix2 r j) = if h : j.val < 4096
      then val_main_v34 (F := Ideal) x0 x1 x4 (ix3 r ⟨j.val / 128, by omega⟩ ⟨j.val % 128, by omega⟩)
      else if h' : j.val - 4096 < 1024 then val_main_v32 (F := Ideal) x0 x1 x5 (ix3 r ⟨(j.val - 4096) / 128, by omega⟩ ⟨(j.val - 4096) % 128, by omega⟩)
      else val_main_v2 (F := Ideal) x0 x1 (ix2 r ⟨5120 + (j.val - 4096 - 1024), by omega⟩) := by
  pointwise [val_main_v39, val_main_v38, val_main_v37, val_main_v36, val_main_v35]

/-- The plain formula's last stage is the same function. -/
theorem ref_final (x2 x3 : S4096x128.Idx → EReal) (r : Fin 1024) (j : Fin 6144) :
    val_main_v39 (F := Ideal) x0 x1 x4 x5 (ix2 r j) = out x0 x1 x2 x3 x4 x5 r j := by
  show _ = Heads.qkv (n := 6144) (by decide) 4096 5120 (Rope.norm fun e => x4 (ix1 e)) (Rope.norm fun e => x5 (ix1 e)) x0 x1 r j
  unfold Heads.qkv Heads.head
  rw [parts_apply]
  by_cases h : j.val < 4096
  · rw [dif_pos h, if_pos h, scaled_apply, queries_apply]
  · by_cases h' : j.val < 5120
    · rw [dif_neg h, dif_pos (by omega), if_neg h, if_pos h', keys_apply]
      have e1 : ∀ e : Fin 128, (⟨4096 + ((j.val - 4096) / 128 * 128 + e.val), by omega⟩ : Fin 6144) = ⟨j.val / 128 * 128 + e.val, by omega⟩ :=
        fun e => Fin.ext (by show 4096 + ((j.val - 4096) / 128 * 128 + e.val) = j.val / 128 * 128 + e.val; omega)
      have e2 : (⟨(j.val - 4096) % 128, by omega⟩ : Fin 128) = ⟨j.val % 128, by omega⟩ := Fin.ext (by show (j.val - 4096) % 128 = j.val % 128; omega)
      simp only [e1, e2]
    · rw [dif_neg h, dif_neg (by omega), if_neg h, if_neg h', lin_apply]
      exact congrArg _ (Fin.ext (by show 5120 + (j.val - 4096 - 1024) = j.val; omega))

end Reference

end Cert.GqaQkvCtx

end
-- ==== Proof.E8Same.lean ====
/- The idealized program of layer 0's experts is the program itself. -/
module

public import proofs.«01_k».proof.Proof.Gen.Kernel8
public import proofs.«01_k».proof.Proof.Gen.Kernel8Ideal

@[expose] public section

set_option maxRecDepth 16384

noncomputable section

namespace Cert.Kernel8Ideal.Experts

open Idealize.ShloMosaic Idealize.ShloMosaic.TcCoe Idealize.SL.Sem

variable {F : FTy → Type} [FloatOps F]

set_option maxHeartbeats 1000000 in
/-- The two programs' bodies are one. -/
theorem bodies : Cert.Kernel8.defs₀ (F := F) = Cert.Kernel8Ideal.defs₀ := by
  refine congrArg Defs.onTc (funext fun l => funext fun a => ?_)
  match l, a with
  | 0, (t, s) => rfl

set_option maxHeartbeats 1000000 in
/-- What a run of the program does, a run of the idealized program does. -/
theorem transfer (s) (Q : _ → Prop) (h : θ_run Cert.Kernel8.defs (onTc (τ := Cert.Kernel8.τ) (Cert.Kernel8.main (F := F))) s Q) :
    θ_run Cert.Kernel8Ideal.defs (onTc (τ := Cert.Kernel8Ideal.τ) (Cert.Kernel8Ideal.main (F := F))) s Q := by
  rw [← show Cert.Kernel8.defs (F := F) = Cert.Kernel8Ideal.defs from congrArg (Pipeline.defs (Cert.Kernel8.pcfgs (F := F))) bodies]
  exact h

end Cert.Kernel8Ideal.Experts

end
-- ==== Proof.Expert.lean ====
/- One expert of the mixture, as functions of one entry. -/
module

public import Idealize.ShloMosaic.Lib.IdealHost
public import Idealize.ShloMosaic.Lib.Pipeline.ValueKit
public import Idealize.ShloMosaic.Lib.Pointwise

@[expose] public section

noncomputable section

namespace Cert.Expert

open Idealize.ShloMosaic

/-- The first number of a packed word. -/
def lo (w : BitVec 32) : EReal := Ideal.ofBits .f32 (IntOp.shli .host w 16#32)
/-- The second number of a packed word. -/
def hi (w : BitVec 32) : EReal := Ideal.ofBits .f32 (IntOp.andi w 4294901760#32)

/-- A row of packed words times a column of the weight: the first numbers meet the column's first half, the second numbers its second half. -/
def feature (x : Fin 2048 → BitVec 32) (w : Fin 4096 → EReal) (b : EReal) : EReal :=
  ((∑ k : Fin 2048, lo (x k) * w (Fin.castLE (show 2048 ≤ 4096 by decide) k)) + ∑ k : Fin 2048, hi (x k) * w (Fin.natAdd 2048 k)) + b

/-- The clamped, gated activation of a gate and an up value. -/
def act (g up : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) up) + 1)

/-- One entry of an expert's output on a row: the activations times a column of the down weight, with its bias. -/
def expert (x : Fin 2048 → BitVec 32) (wgu : Fin 4096 → Fin 512 → EReal) (bgu : Fin 512 → EReal) (wdn : Fin 256 → EReal) (bdn : EReal) : EReal :=
  (∑ f : Fin 256, act (feature x (fun k => wgu k (Fin.castLE (show 256 ≤ 512 by decide) f)) (bgu (Fin.castLE (show 256 ≤ 512 by decide) f)))
    (feature x (fun k => wgu k (Fin.natAdd 256 f)) (bgu (Fin.natAdd 256 f))) * wdn f) + bdn

/-- The expert a table entry names. -/
def pick (w : BitVec 32) : Fin 32 := ⟨w.toNat % 32, Nat.mod_lt _ (by decide)⟩

/-- The tile a row belongs to. -/
def tileOfRow {N M : ℕ} (hM : M = N * 256) (r : Fin M) : Fin N := ⟨r.val / 256, by omega⟩

/-- One entry of layer `l`'s result: the output of the expert the row's tile names, or zero where the tile has no rows. -/
def result {N M : ℕ} (hM : M = N * 256) (l : Fin 4) (te tv : (⟨1, ![N]⟩ : Shape).Idx → BitVec 32) (xs : (⟨2, ![M, 2048]⟩ : Shape).Idx → BitVec 32)
    (wgu : (⟨4, ![4, 32, 4096, 512]⟩ : Shape).Idx → EReal) (bgu : (⟨3, ![4, 32, 512]⟩ : Shape).Idx → EReal)
    (wdn : (⟨4, ![4, 32, 256, 4096]⟩ : Shape).Idx → EReal) (bdn : (⟨3, ![4, 32, 4096]⟩ : Shape).Idx → EReal) (r : Fin M) (d : Fin 4096) : EReal :=
  if tv (ix1 (tileOfRow hM r)) = 0#32 then 0 else
    expert (fun k => xs (ix2 r k)) (fun k f => wgu (ix4 l (pick (te (ix1 (tileOfRow hM r)))) k f)) (fun f => bgu (ix3 l (pick (te (ix1 (tileOfRow hM r)))) f))
      (fun f => wdn (ix4 l (pick (te (ix1 (tileOfRow hM r)))) f d)) (bdn (ix3 l (pick (te (ix1 (tileOfRow hM r)))) d))

/-- The row of the bias table a name means. -/
theorem base_add (b : ℕ) (hb : b ≤ 96) (w : BitVec 32) (h : w.toNat < 32) : (Scalar.addi (BitVec.ofNat 32 b) w).toNat = b + w.toNat := by
  show (BitVec.ofNat 32 b + w).toNat = _
  rw [BitVec.toNat_add, BitVec.toNat_ofNat]
  omega

/-- A word below 32 is an expert's number exactly when it names that expert. -/
theorem named (w : BitVec 32) (e : Fin 32) (h : w.toNat < 32) : w = BitVec.ofNat 32 e.val ↔ e = pick w := by
  have hp : (pick w).val = w.toNat := Nat.mod_eq_of_lt h
  constructor
  · intro he
    refine Fin.ext (Eq.trans ?_ hp.symm)
    rw [he, BitVec.toNat_ofNat]
    have := e.isLt
    omega
  · rintro rfl
    refine BitVec.eq_of_toNat_eq ?_
    rw [BitVec.toNat_ofNat, hp]
    omega

end Cert.Expert

end
-- ==== Proof.Known.lean ====
/- Reading buffers of known contents. -/
module

public import Idealize.ShloMosaic.Lib.VecWindow
public import Idealize.ShloMosaic.Lib.Pipeline.ValueKit

@[expose] public section

namespace Cert.Known

open Idealize.ShloMosaic

variable {F : FTy → Type} [FloatOps F] {sig : RefSig}

/-- What a buffer reads after a guarded store of its whole contents. -/
theorem read_guarded {κ : Kind} {sp : Space} {s : Shape} {e : EltTy} (v : View sig κ sp s e)
    (p : Prop) [Decidable p] (f : v.ty.Contents (Elt F)) {off : Fin s.rank → ℕ} (inb : ∀ a, off a + s.size a ≤ s.size a)
    (w : s.Idx → Elt F e) :
    v.read (Elt F) (if hc : p then v.writes (Elt F) f [⟨Rect.unit off s.size inb, w⟩] else f)
      = if p then w else v.read (Elt F) f := by
  by_cases h : p
  · rw [dif_pos h, if_pos h]; exact View.read_writes_full v f inb w []
  · rw [dif_neg h, if_neg h]

/-- What a load of all of a buffer of known contents reads. -/
theorem readAt_known {κ : Kind} {sp : Space} {s : Shape} {e : EltTy} {M : Memref sig κ sp s e} (hM : M.IsWhole)
    (x : s.Idx → Elt F e) {off : Fin s.rank → ℕ} (inb : ∀ a, off a + s.size a ≤ s.size a) :
    View.readAt (Elt F) M.view (Rect.unit off s.size inb).toLoadRect (hM.unread x) = x := by
  rw [View.readAt_full, hM.read_unread]

/-- What a load of a part of a buffer of known contents reads. -/
theorem readAt_part {κ : Kind} {sp : Space} {s : Shape} {e : EltTy} (v : View sig κ sp s e) (f : v.ty.Contents (Elt F))
    (x : s.Idx → Elt F e) (h : v.read (Elt F) f = x) (r : Rect s) :
    View.readAt (Elt F) v r.toLoadRect f = View.ld x r := by
  subst h; rfl

end Cert.Known

end
-- ==== Proof.E8Kit.lean ====
module

public import proofs.«01_k».proof.Proof.Gen.Kernel8.Launch
public import proofs.«01_k».proof.Proof.Gen.Kernel8.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel8.Experts

open Cert.Kernel8 Cert.Kernel8.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host part -/

/-- What each buffer holds when the call begins. -/
abbrev V (c : Dev nD) (b : Ref sig .tc) : Buf (Elt F) ((c : Thread nD τ).loc b) := StableHlo.after hostOps0 (fun b => m (c, b)) b

/-- The reshapes on the host make no buffer of their own. -/
theorem hostOps0_fresh : (hostOps0 : List (HloOp τ sig (Elt F))).Forall fun op => op.fresh = ∅ := by
  simp only [List.Forall]; repeat' constructor

/-- The host part of the program leads up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is found by the call as it was at launch. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The two tables, as the call finds them. -/
def tbl : pre0.Contents (Elt F) := fun j => V m (0 : Dev nD) (pre0.ref j)
/-- They are those of the only device. -/
theorem V_pre (c : Dev nD) (j : Fin 2) : V m c (pre0.ref j) = tbl m j := by
  obtain rfl : c = 0 := Subsingleton.elim _ _; rfl
/-- Every block the tables ask for lies inside its array. -/
abbrev Ok : Prop := ok0 (F := F) (tbl m)
/-- The tables as ones the pipeline may run on, -/
abbrev adm (hO : Ok m) : (pcfg0 (F := F)).Adm := ⟨tbl m, hO⟩
/-- and the pipeline on them. -/
abbrev cfgM (hO : Ok m) : Pipeline.Cfg sig Λ₀ := cfg0 (adm m hO)

/-- The tables as the body is handed them. -/
abbrev tbM0_0 : Memref sig .tc .smem S288 .i32 := Memref.whole main_arg0
abbrev htbM0_0 : tbM0_0.IsWhole := Memref.isWhole_whole _
abbrev tbM0_1 : Memref sig .tc .smem S288 .i32 := Memref.whole main_arg1
abbrev htbM0_1 : tbM0_1.IsWhole := Memref.isWhole_whole _

/-- A table's contents, -/
abbrev TbBuf0 (c : Dev nD) {S : Shape} {e : EltTy} (M : Memref sig .tc .smem S e) : Type := Buf (Elt F) (M.view.loc (c : Thread nD τ))
/-- and half of the right to read it. -/
abbrev tbPt0 (c : Dev nD) {S : Shape} {e : EltTy} (M : Memref sig .tc .smem S e) (f : TbBuf0 (F := F) c M) : sProp 𝕄 :=
  M.view.loc (c : Thread nD τ) ↦{fullShare.right} f

/-- What the body holds of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The arguments -/

/-- Every argument ends as it was. -/
abbrev Kept (mem : (ℓ : Loc nD τ sig) → Buf (Elt F) ℓ) : Prop := ∀ c : Dev nD,
      mem (c.tc.loc main_arg0) = m (c.tc.loc main_arg0)
      ∧ mem (c.tc.loc main_arg1) = m (c.tc.loc main_arg1)
      ∧ mem (c.tc.loc main_arg2) = m (c.tc.loc main_arg2)
      ∧ mem (c.tc.loc main_arg3) = m (c.tc.loc main_arg3)
      ∧ mem (c.tc.loc main_arg4) = m (c.tc.loc main_arg4)
      ∧ mem (c.tc.loc main_arg5) = m (c.tc.loc main_arg5)
      ∧ mem (c.tc.loc main_arg6) = m (c.tc.loc main_arg6)

/-- A run that leaves the arrays as the proof data say leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => Kept m r.2.mem) :=
  (θ_run defs _ _).mono (fun _ h c => ⟨((h c).2 _ (by decide : main_arg0 ∈ Pipeline.restRefs sig spec0)).trans (V_kept m c _ (by decide) (by decide)),
      ((h c).2 _ (by decide : main_arg1 ∈ Pipeline.restRefs sig spec0)).trans (V_kept m c _ (by decide) (by decide)),
      ((h c).1 0).trans (((dats 0 c).arrAt_in 0 rfl _).trans ((hA c 0).trans (V_kept m c main_arg2 (by decide) (by decide)))),
      ((h c).1 1).trans (((dats 0 c).arrAt_in 1 rfl _).trans ((hA c 1).trans (V_kept m c main_arg3 (by decide) (by decide)))),
      ((h c).2 _ (by decide : main_arg4 ∈ Pipeline.restRefs sig spec0)).trans (V_kept m c _ (by decide) (by decide)),
      ((h c).1 3).trans (((dats 0 c).arrAt_in 3 rfl _).trans ((hA c 3).trans (V_kept m c main_arg5 (by decide) (by decide)))),
      ((h c).2 _ (by decide : main_arg6 ∈ Pipeline.restRefs sig spec0)).trans (V_kept m c _ (by decide) (by decide))⟩) h

/-! ## The buffers -/

/-- The two copies of the weights. -/
abbrev scM0_0 : Memref sig .tc .vmem S4096x512 .bf16 := Memref.whole cc0_scratch0
abbrev scM0_1 : Memref sig .tc .vmem S256x4096 .bf16 := Memref.whole cc0_scratch1

/-- What the call owns beside the windows: the copies and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel8.Experts

end
-- ==== Proof.E8Run.lean ====
module

public import proofs.«01_k».proof.Proof.Known
public import proofs.«01_k».proof.Proof.E8Kit
public import Idealize.ShloMosaic.Lib.VecWindow
public import Idealize.ShloMosaic.Lib.Pipeline.ValueKit

@[expose] public section

set_option maxRecDepth 16384

noncomputable section

namespace Cert.Kernel8.Experts

open Cert.Known Cert.Kernel8 Cert.Kernel8.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one tile of tokens computes -/

/-- The expert number the body reads for its own tile. -/
def here (c : Dev nD) (i : grid0.Coords) (xt0 : TbBuf0 (F := F) c tbM0_0) : BitVec 32 :=
  View.readAt (Elt F) tbM0_0.view (Rect.unit (s := S288) (k0_off1 i) S1.size (k0_off1_inb i)).toLoadRect xt0
    (Shape.Idx.first (numel1_S1 ▸ Nat.one_pos))
/-- The expert number the body reads for the tile before. -/
def prev (c : Dev nD) (i : grid0.Coords) (xt0 : TbBuf0 (F := F) c tbM0_0) : BitVec 32 :=
  View.readAt (Elt F) tbM0_0.view (Rect.unit (s := S288) (k0_off2 i) S1.size (k0_off2_inb i)).toLoadRect xt0
    (Shape.Idx.first (numel1_S1 ▸ Nat.one_pos))
/-- The number of valid rows of the tile, as the first guard reads it. -/
def rows (c : Dev nD) (i : grid0.Coords) (xt1 : TbBuf0 (F := F) c tbM0_1) : BitVec 32 :=
  View.readAt (Elt F) tbM0_1.view (Rect.unit (s := S288) (k0_off3 i) S1.size (k0_off3_inb i)).toLoadRect xt1
    (Shape.Idx.first (numel1_S1 ▸ Nat.one_pos))
/-- The number of valid rows of the tile, as the second guard reads it. -/
def rows' (c : Dev nD) (i : grid0.Coords) (xt1 : TbBuf0 (F := F) c tbM0_1) : BitVec 32 :=
  View.readAt (Elt F) tbM0_1.view (Rect.unit (s := S288) (k0_off4 i) S1.size (k0_off4_inb i)).toLoadRect xt1
    (Shape.Idx.first (numel1_S1 ▸ Nat.one_pos))

/-- The body copies the weights anew: at the first tile, and where the expert is not that of the tile before. -/
abbrev Anew (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two halves of the copies and of the bias a tile is worked out of. -/
abbrev upper : Rect S4096x512 := Rect.unit ![0, 0] S2048x512.size inb_S4096x512_S2048x512_0_0
abbrev lower : Rect S4096x512 := Rect.unit ![2048, 0] S2048x512.size inb_S4096x512_S2048x512_2048_0
abbrev left : Rect S256x4096 := Rect.unit ![0, 0] S256x2048.size inb_S256x4096_S256x2048_0_0
abbrev right : Rect S256x4096 := Rect.unit ![0, 2048] S256x2048.size inb_S256x4096_S256x2048_0_2048

/-- What the body stores for a tile that has rows: the left half of the columns, then the right half, out of the
    tile's words `x0`, the two copied weights `w0`, `w1` and the two biases `x2`, `x4`. -/
def halves (x0 : Vec F S256x2048 .i32) (w0 : Vec F S4096x512 .bf16) (x2 : Vec F S1x1x512 .f32)
    (w1 : Vec F S256x4096 .bf16) (x4 : Vec F S1x1x4096 .f32) : List (View.Piece (Elt F) S256x4096 .bf16) :=
  [⟨Rect.unit (s := S256x4096) ![0, 2048] S256x2048.size inb_S256x4096_S256x2048_0_2048,
      k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048))⟩,
   ⟨Rect.unit (s := S256x4096) ![0, 0] S256x2048.size inb_S256x4096_S256x2048_0_0,
      k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0))⟩]

/-- The two halves fill the tile. -/
theorem halves_cover (x0 : Vec F S256x2048 .i32) (w0 : Vec F S4096x512 .bf16) (x2 : Vec F S1x1x512 .f32)
    (w1 : Vec F S256x4096 .bf16) (x4 : Vec F S1x1x4096 .f32) (y : S256x4096.Idx) :
    ∃ pc ∈ halves x0 w0 x2 w1 x4, y ∈ pc.1.set :=
  View.cover_of_tiledL (halves x0 w0 x2 w1 x4) S256x2048.size (by sl_kernel_rfl) y

/-- The tile the body leaves: zeros where the tile has no rows, else the two halves. -/
def tile (r : BitVec 32) (x0 : Vec F S256x2048 .i32) (w0 : Vec F S4096x512 .bf16) (x2 : Vec F S1x1x512 .f32)
    (w1 : Vec F S256x4096 .bf16) (x4 : Vec F S1x1x4096 .f32) : Vec F S256x4096 .bf16 :=
  if k0_cond3 r = 1#1 then k0_pay5 (F := F) else View.canon (halves x0 w0 x2 w1 x4)

set_option maxHeartbeats 2000000 in
/-- One tile's body, on any buffers: the inputs stay, the two copies hold the tile's expert's weights if they are made
    anew and stay otherwise, and the output buffer ends at the tile. -/
theorem run (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x512 .f32) (harg5 : arg5.IsWhole) (arg6 : Memref sig .tc .vmem S1x1x256x4096 .f32) (harg6 : arg6.IsWhole) (arg7 : Memref sig .tc .vmem S1x1x4096 .f32) (harg7 : arg7.IsWhole) (arg8 : Memref sig .tc .vmem S256x4096 .bf16) (harg8 : arg8.IsWhole) (arg9 : Memref sig .tc .vmem S4096x512 .bf16) (harg9 : arg9.IsWhole) (arg10 : Memref sig .tc .vmem S256x4096 .bf16) (harg10 : arg10.IsWhole)
    (x0 : Vec F S256x2048 .i32) (x1 : Vec F S1x1x4096x512 .f32) (x2 : Vec F S1x1x512 .f32) (x3 : Vec F S1x1x256x4096 .f32) (x4 : Vec F S1x1x4096 .f32) (s0 : Vec F S4096x512 .bf16) (s1 : Vec F S256x4096 .bf16)
    (xt0 : TbBuf0 (F := F) c tbM0_0) (xt1 : TbBuf0 (F := F) c tbM0_1)
    (w0 : Vec F S4096x512 .bf16) (w1 : Vec F S256x4096 .bf16)
    (hw0 : (if Anew i (here c i xt0) (prev c i xt0) then k0_pay1 x1 else s0) = w0)
    (hw1 : (if Anew i (here c i xt0) (prev c i xt0) then k0_pay2 x3 else s1) = w1)
    (hr : k0_cond3 (rows' c i xt1) = 1#1 ∨ k0_cond2 (rows c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile (rows' c i xt1) x0 w0 x2 w1 x4) ∗ owns (c : Thread nD τ) arg9 fullShare w0 ∗ owns (c : Thread nD τ) arg10 fullShare w1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  have e0 : arg9.view.read (Elt F) (if hc : Anew i (here c i xt0) (prev c i xt0) then
      arg9.view.writes (Elt F) fs0 [⟨Rect.unit ![0, 0] ![4096, 512] inb_S4096x512_S4096x512_0_0, k0_pay1 (run.sl.v21 c arg4 harg4 x1)⟩]
      else fs0) = w0 := by
    refine (read_guarded arg9.view _ fs0 inb_S4096x512_S4096x512_0_0 _).trans ?_
    rw [hfs0, show run.sl.v21 c arg4 harg4 x1 = x1 from readAt_known harg4 x1 _]
    exact hw0
  have e1 : arg10.view.read (Elt F) (if hc : Anew i (here c i xt0) (prev c i xt0) then
      arg10.view.writes (Elt F) fs1 [⟨Rect.unit ![0, 0] ![256, 4096] inb_S256x4096_S256x4096_0_0, k0_pay2 (run.sl.v27 c arg6 harg6 x3)⟩]
      else fs1) = w1 := by
    refine (read_guarded arg10.view _ fs1 inb_S256x4096_S256x4096_0_0 _).trans ?_
    rw [hfs1, show run.sl.v27 c arg6 harg6 x3 = x3 from readAt_known harg6 x3 _]
    exact hw1
  have e29 : run.sl.v29 c i arg4 harg4 arg9 x1 xt0 fs0 = View.ld w0 upper :=
    readAt_part arg9.view _ w0 e0 _
  have e32 : run.sl.v32 c i arg4 harg4 arg9 x1 xt0 fs0 = View.ld w0 lower :=
    readAt_part arg9.view _ w0 e0 _
  have e55 : run.sl.v55 c i arg6 harg6 arg10 x3 xt0 fs1 = View.ld w1 left :=
    readAt_part arg10.view _ w1 e1 _
  have e61 : run.sl.v61 c i arg6 harg6 arg10 x3 xt0 fs1 = View.ld w1 right :=
    readAt_part arg10.view _ w1 e1 _
  have e3 : run.sl.r_3 c i arg3 harg3 arg4 harg4 arg5 harg5 arg9 x0 x1 x2 xt0 fs0
      = k0_pay6 x0 (View.ld w0 upper)
          (View.ld w0 lower) x2 := by
    unfold run.sl.r_3
    rw [e29, e32, readAt_known harg3 x0, readAt_known harg5 x2]
  have e4 : run.sl.r_4 c i arg3 harg3 arg4 harg4 arg5 harg5 arg6 harg6 arg9 arg10 x0 x1 x2 x3 xt0 fs0 fs1
      = k0_pay7 x0 (View.ld w0 upper)
          (View.ld w0 lower) x2
          (View.ld w1 left) := by
    unfold run.sl.r_4
    rw [e29, e32, e55, readAt_known harg3 x0, readAt_known harg5 x2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    unfold tile
    rw [show run.sl.r_5 c i xt1 = rows' c i xt1 from rfl, show run.sl.r_2 c i xt1 = rows c i xt1 from rfl]
    by_cases h3 : k0_cond3 (rows' c i xt1) = 1#1
    · rw [if_pos h3, dif_pos h3]
      exact View.read_writes_full arg8.view _ _ _ _
    · rw [if_neg h3, dif_neg h3]
      have h2 : k0_cond2 (rows c i xt1) = 1#1 := hr.resolve_left h3
      rw [dif_pos h2, e3, e4, e61,
        readAt_part arg7.view _ x4 (harg7.read_unread x4) (Rect.unit (s := S1x1x4096) ![0, 0, 2048] S1x1x2048.size inb_S1x1x4096_S1x1x2048_0_0_2048),
        readAt_part arg7.view _ x4 (harg7.read_unread x4) (Rect.unit (s := S1x1x4096) ![0, 0, 0] S1x1x2048.size inb_S1x1x4096_S1x1x2048_0_0_0)]
      exact View.read_writes_eq_canon _ _ _ (halves_cover x0 w0 x2 w1 x4)
  isplitl [HS0]
  · iexists _; isplitr
    swap; · iexact HS0
    ipureintro; exact e0
  isplitl [HS1]
  · iexists _; isplitr
    swap; · iexact HS1
    ipureintro; exact e1
  isplitl [HT0]; · iexact HT0
  iexact HT1

end Cert.Kernel8.Experts

end
-- ==== Proof.Tables.lean ====
/- What the precondition says of the two tables. -/
module

public import proofs.«01_k».proof.Proof.Gen.Pre_tables
public import Idealize.ShloMosaic.Lib.ReduceAll
public import Idealize.ShloMosaic.Lib.StableHlo.Predicate
public import Idealize.ShloMosaic.Lib.Pointwise

@[expose] public section

namespace Cert.Tables

open Idealize.ShloMosaic Cert.Pre_tables

/-- Where the precondition holds, each word of the first table names one of the 32 experts and each word of the second is not negative. -/
theorem words {F : FTy → Type} [FloatOps F] [Facts] (x0 x1 : IVec S288 32) (x2 : IVec S73728x2048 32) (x3 : FVec F S4x32x4096x512 .f32) (x4 : FVec F S4x32x512 .f32)
    (x5 : FVec F S4x32x256x4096 .f32) (x6 : FVec F S4x32x4096 .f32) (h : fn x0 x1 x2 x3 x4 x5 x6 = fun _ => 1#1) (n : Fin 288) :
    (x0 (ix1 n)).toNat < 32 ∧ (x1 (ix1 n)).toNat < 2 ^ 31 := by
  have one : Subsingleton S_.Idx := ⟨fun a b => funext fun i => i.elim0⟩
  have e := congrFun h (fun a => a.elim0)
  unfold fn at e
  have k := Host.reduce_andi_all _ _ _ _ _ e (ix1 n)
  obtain ⟨k01, k2⟩ := IntOp.andi_eq_one.1 k
  obtain ⟨k0, k1⟩ := IntOp.andi_eq_one.1 k01
  have a0 : (0#32).toInt ≤ (x0 (ix1 n)).toInt := IntOp.cmpi_sge.1 k0
  have a1 : (x0 (ix1 n)).toInt < (32#32).toInt := IntOp.cmpi_slt.1 k1
  have a2 : (0#32).toInt ≤ (x1 (ix1 n)).toInt := IntOp.cmpi_sge.1 k2
  have l0 := (x0 (ix1 n)).isLt
  have l1 := (x1 (ix1 n)).isLt
  have z : (0#32).toInt = 0 := by decide
  have z32 : (32#32).toInt = 32 := by decide
  rw [z, BitVec.toInt_eq_toNat_cond] at a0 a2
  rw [z32, BitVec.toInt_eq_toNat_cond] at a1
  constructor
  · split at a0 <;> omega
  · split at a2 <;> omega

/-- A word that is not negative is zero or greater than zero. -/
theorem sgt_zero (w : BitVec 32) (h : w.toNat < 2 ^ 31) : IntOp.cmpi .sgt w 0#32 = 1#1 ↔ w ≠ 0#32 := by
  rw [StableHlo.Predicate.sgt_iff_toNat h (by decide)]
  constructor
  · rintro h' rfl
    exact absurd h' (by decide)
  · intro h'
    exact Nat.pos_of_ne_zero fun e => h' (BitVec.eq_of_toNat_eq e)

/-- A tile's number as an index. -/
theorem cast_eq {N : ℕ} (hN : N ≤ 288) (n : Fin N) : (Scalar.indexCast (BitVec.ofNat 32 n.val) : Index).toNat = n.val :=
  (by decide +kernel : ∀ n : Fin 288, (Scalar.indexCast (BitVec.ofNat 32 n.val) : Index).toNat = n.val) (n.castLE hN)
/-- The number of the tile before as an index. -/
theorem cast_pred {N : ℕ} (hN : N ≤ 288) (n : Fin N) :
    (Scalar.indexCast (Scalar.maxsi (Scalar.subi (BitVec.ofNat 32 n.val) 1#32) 0#32) : Index).toNat = n.val - 1 :=
  (by decide +kernel : ∀ n : Fin 288,
    (Scalar.indexCast (Scalar.maxsi (Scalar.subi (BitVec.ofNat 32 n.val) 1#32) 0#32) : Index).toNat = n.val - 1) (n.castLE hN)

/-- Two truth values whose disjunction, as a word, is not one are both false. -/
theorem both_false : ∀ p q : Bool, Scalar.cmpi .ne (Scalar.extui (Scalar.ori (BitVec.ofBool p) (BitVec.ofBool q)) : BitVec 32) 0#32 ≠ 1#1
    → p = false ∧ q = false := by decide

/-- A truth value widened to a word and tested again is the same truth value. -/
theorem as_bool : ∀ p : Bool, Scalar.cmpi .ne (Scalar.extui (BitVec.ofBool p) : BitVec 32) 0#32 = 1#1 ↔ p = true := by decide

end Cert.Tables

end
-- ==== Proof.E8Words.lean ====
module

public import proofs.«01_k».proof.Proof.E8Run
public import proofs.«01_k».proof.Proof.Tables

@[expose] public section

set_option maxRecDepth 16384

noncomputable section

namespace Cert.Kernel8.Experts

open Cert.Kernel8 Cert.Kernel8.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## The words of the two tables -/

/-- The tile a grid point works on. -/
abbrev tileOf (i : grid0.Coords) : Fin 288 := i 0

/-- The tile before, the first tile's being itself. -/
def before (n : Fin 288) : Fin 288 := ⟨n.val - 1, by omega⟩

theorem here_eq (c : Dev nD) (i : grid0.Coords) (x : TbBuf0 (F := F) c tbM0_0) : here c i x = x (ix1 (tileOf i)) :=
  congrArg x (funext fun a => Fin.ext (by fin_cases a; exact Tables.cast_eq (N := 288) (by decide) (i 0)))
theorem prev_eq (c : Dev nD) (i : grid0.Coords) (x : TbBuf0 (F := F) c tbM0_0) : prev c i x = x (ix1 (before (tileOf i))) :=
  congrArg x (funext fun a => Fin.ext (by fin_cases a; exact Tables.cast_pred (N := 288) (by decide) (i 0)))
theorem rows_eq (c : Dev nD) (i : grid0.Coords) (x : TbBuf0 (F := F) c tbM0_1) : rows c i x = x (ix1 (tileOf i)) :=
  congrArg x (funext fun a => Fin.ext (by fin_cases a; exact Tables.cast_eq (N := 288) (by decide) (i 0)))
theorem rows'_eq (c : Dev nD) (i : grid0.Coords) (x : TbBuf0 (F := F) c tbM0_1) : rows' c i x = x (ix1 (tileOf i)) :=
  congrArg x (funext fun a => Fin.ext (by fin_cases a; exact Tables.cast_eq (N := 288) (by decide) (i 0)))

/-- A table's word at a tile, as the index maps read it. -/
theorem at_eq (pf : pre0.Contents (Elt F)) (i : grid0.Coords) :
    pf.at 0 (Rect.unit (s := S288) (k0_off1 i) S1.size (k0_off1_inb i)) numel1_S1 = pf 0 (ix1 (tileOf i)) := by
  refine congrArg (pf 0) (funext fun a => Fin.ext ?_)
  fin_cases a
  exact Tables.cast_eq (N := 288) (by decide) (i 0)

/-- The four maps that follow the expert name the tile's expert's blocks. -/
theorem map1_eq (pf : pre0.Contents (Elt F)) (i : grid0.Coords) :
    cc0_transform_1 k0_off1_inb numel1_S1 pf i = ![0, (pf 0 (ix1 (tileOf i)) : BitVec 32).toNat, 0, 0] := by
  exact congrArg (fun w : BitVec 32 => (![0, w.toNat, 0, 0] : Fin 4 → ℕ)) (at_eq pf i)
theorem map3_eq (pf : pre0.Contents (Elt F)) (i : grid0.Coords) :
    cc0_transform_3 k0_off1_inb numel1_S1 pf i = ![0, (pf 0 (ix1 (tileOf i)) : BitVec 32).toNat, 0, 0] := by
  exact congrArg (fun w : BitVec 32 => (![0, w.toNat, 0, 0] : Fin 4 → ℕ)) (at_eq pf i)
theorem map2_eq (pf : pre0.Contents (Elt F)) (i : grid0.Coords) :
    cc0_transform_2 k0_off1_inb numel1_S1 pf i
      = ![(Scalar.addi 0#32 (pf 0 (ix1 (tileOf i)) : BitVec 32)).toNat, 0, 0] := by
  exact congrArg (fun w : BitVec 32 => (![(Scalar.addi 0#32 w).toNat, 0, 0] : Fin 3 → ℕ)) (at_eq pf i)
theorem map4_eq (pf : pre0.Contents (Elt F)) (i : grid0.Coords) :
    cc0_transform_4 k0_off1_inb numel1_S1 pf i
      = ![(Scalar.addi 0#32 (pf 0 (ix1 (tileOf i)) : BitVec 32)).toNat, 0, 0] := by
  exact congrArg (fun w : BitVec 32 => (![(Scalar.addi 0#32 w).toNat, 0, 0] : Fin 3 → ℕ)) (at_eq pf i)

/-- Where the weights are not copied anew the tile is not the first and its expert is the one of the tile before. -/
theorem not_anew {i : grid0.Coords} {a b : BitVec 32} (h : ¬ Anew i a b) : (i 0).val ≠ 0 ∧ a = b := by
  have h' := Tables.both_false (BitVec.ofNat 32 (i 0).val == 0#32) (a != b) h
  refine ⟨fun h0 => ?_, ?_⟩
  · rw [h0] at h'; exact absurd h'.1 (by decide)
  · have := h'.2
    simpa using this

/-- The tables say no tile has a negative number of rows. -/
abbrev Full : Prop := ∀ n : Fin 288, k0_cond3 (tbl m 1 (ix1 n) : BitVec 32) = 1#1 ∨ k0_cond2 (tbl m 1 (ix1 n) : BitVec 32) = 1#1

/-- Then every tile is written. -/
theorem not_idle (hF : Full m) (i : grid0.Coords) : idle0 (tbl m) 5 i = false := by
  have e : ∀ (off : Fin 1 → ℕ), off 0 = (i 0).val → ((tbl m).atD 1 off : BitVec 32) = tbl m 1 (ix1 (tileOf i)) := by
    intro off h
    have hb : ∀ a : Fin (pre0.ref 1).ty.shape.rank, off a + 1 ≤ (pre0.ref 1).ty.shape.size a := by
      intro a; fin_cases a
      show off 0 + 1 ≤ 288
      have := (i 0).isLt
      have hlt : (i 0).val < 288 := this
      omega
    refine (dif_pos hb).trans ?_
    refine congrArg (tbl m 1) (funext fun a => Fin.ext ?_)
    fin_cases a
    exact h
  show (!(k0_cond2 ((tbl m).atD 1 (k0_off3 i)) == 1#1) && !(k0_cond3 ((tbl m).atD 1 (k0_off4 i)) == 1#1)) = false
  rw [e _ (Tables.cast_eq (N := 288) (by decide) (i 0)), e _ (Tables.cast_eq (N := 288) (by decide) (i 0))]
  rcases hF (i 0) with h | h <;> rw [h] <;> simp

end Cert.Kernel8.Experts

end
-- ==== Proof.E8Frame.lean ====
module

public import proofs.«01_k».proof.Proof.E8Words
public import Idealize.ShloMosaic.Lib.Claim
public import Idealize.ShloMosaic.Lib.Pipeline.Kit

@[expose] public section

set_option maxRecDepth 16384

noncomputable section

namespace Cert.Kernel8.Experts

open Cert.Kernel8 Cert.Kernel8.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back after every tile. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body on the buffers of tile `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tile of a grid point is its number. -/
theorem tile_val (t : Fin grid0.N) : (tileOf (grid0.coords t)).val = t.val :=
  (by decide +kernel : ∀ t : Fin grid0.N, (tileOf (grid0.coords t)).val = t.val) t

variable (hO : Ok m) (hF : Full m) (c : Dev nD) (t : Fin (cfgM m hO).N)

/-! ## The contents of the buffers, tile by tile -/

/-- The gate-and-up weights of a tile's expert, as the copy holds them. -/
def copy0 : Vec F S4096x512 .bf16 := k0_pay1 (iblk m hO c 1 t)
/-- The down weights of a tile's expert, as the copy holds them. -/
def copy1 : Vec F S256x4096 .bf16 := k0_pay2 (iblk m hO c 3 t)
/-- The tile of the result that the body leaves. -/
def outAt : Vec F S256x4096 .bf16 :=
  tile (rows' c (grid0.coords t) (tbl m 1)) (iblk m hO c 0 t) (copy0 m hO c t) (iblk m hO c 2 t) (copy1 m hO c t) (iblk m hO c 4 t)

/-- Between two tiles the copies hold the weights of the tile just done. -/
def held (n : ℕ) : sProp 𝕄 :=
  iprop(∃ s0 : Vec F S4096x512 .bf16, ∃ s1 : Vec F S256x4096 .bf16,
    ⌜∀ t : Fin (cfgM m hO).N, t.val + 1 = n → s0 = copy0 m hO c t ∧ s1 = copy1 m hO c t⌝
      ∗ owns (c : Thread nD τ) scM0_0 fullShare s0 ∗ owns (c : Thread nD τ) scM0_1 fullShare s1)

/-- The proof data: every input buffer keeps its block, the output buffer ends at the tile, the copies are tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ n := iprop(held m hO c n.val ∗ (∃ r, prngReg c r) ∗ Pipeline.ΦT pre0 (tbl m) c)
  q _ := fullShare
  owed _ := 0

/-- The arrays are those the call finds. -/
theorem A_eq (w : Fin (cfgM m hO).W) : (dats m hO 0 c).A w = V m c (Pipeline.arrRef spec0 w) := by
  dsimp only [dats]

/-- The output buffer ends at the tile. -/

theorem after0_5 : (dats m hO 0 c).after 5 t = outAt m hO c t := by dsimp only [dats]; try rfl

/-- Each input's buffer holds its block at every point, before the body and after it. -/
theorem input (w : Fin (cfgM m hO).W) (h : w.val < 5) : (∀ d, (dats m hO 0 c).before w t d = iblk m hO c w t) ∧ (dats m hO 0 c).after w t = iblk m hO c w t := by
  change Fin 6 at w
  match w, h with
  | ⟨0, _⟩, _ | ⟨1, _⟩, _ | ⟨2, _⟩, _ | ⟨3, _⟩, _ | ⟨4, _⟩, _ =>
    exact ⟨fun d => ((dats m hO 0 c).before_in_eq_fetched _ rfl (fun _ => rfl) (fun _ _ _ => rfl) (fun _ => rfl) t d).trans rfl, rfl⟩

/-- Two tiles of one expert have one gate-and-up block and one down block. -/
theorem same_block (t' : Fin (cfgM m hO).N)
    (h : (tbl m 0 (ix1 (tileOf (grid0.coords t))) : BitVec 32) = tbl m 0 (ix1 (tileOf (grid0.coords t')))) :
    copy0 m hO c t = copy0 m hO c t' ∧ copy1 m hO c t = copy1 m hO c t' := by
  have i1 : ((cfgM m hO).win 1).index t = ((cfgM m hO).win 1).index t' := by
    show cc0_transform_1 k0_off1_inb numel1_S1 (tbl m) (grid0.coords t) = cc0_transform_1 k0_off1_inb numel1_S1 (tbl m) (grid0.coords t')
    rw [map1_eq, map1_eq, h]
  have i3 : ((cfgM m hO).win 3).index t = ((cfgM m hO).win 3).index t' := by
    show cc0_transform_3 k0_off1_inb numel1_S1 (tbl m) (grid0.coords t) = cc0_transform_3 k0_off1_inb numel1_S1 (tbl m) (grid0.coords t')
    rw [map3_eq, map3_eq, h]
  have e1 : iblk m hO c 1 t = iblk m hO c 1 t' := (dats m hO 0 c).fetched_congr 1 i1 rfl (iblk m hO c 1 t)
  have e3 : iblk m hO c 3 t = iblk m hO c 3 t' := (dats m hO 0 c).fetched_congr 3 i3 rfl (iblk m hO c 3 t)
  unfold copy0 copy1
  exact ⟨congrArg k0_pay1 e1, congrArg k0_pay2 e3⟩

/-! ## The body obligation, at a generic point -/

/-- What the body finds at a tile, -/
def bodyPre : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

include hF in
set_option maxHeartbeats 800000 in
/-- The body at any tile: its inputs are their blocks and its copies those of the tile before, so it ends with the tile
    written and with its own expert's copies. -/
theorem sound_body :
    bodyPre m hO c t ⊢ wp frame (wpE (defs₀ (F := F)) Variants.none c none) Set.univ (bodyAt0 (adm m hO) t) (fun _ => bodyPost m hO c t) := by
  unfold bodyPre bodyPost bodyAt0
  obtain ⟨b0, a0⟩ := input m hO c t 0 (show (0 : ℕ) < 5 by decide)
  obtain ⟨b1, a1⟩ := input m hO c t 1 (show (1 : ℕ) < 5 by decide)
  obtain ⟨b2, a2⟩ := input m hO c t 2 (show (2 : ℕ) < 5 by decide)
  obtain ⟨b3, a3⟩ := input m hO c t 3 (show (3 : ℕ) < 5 by decide)
  obtain ⟨b4, a4⟩ := input m hO c t 4 (show (4 : ℕ) < 5 by decide)
  simp only [b0, b1, b2, b3, b4]
  rw [show (dats m hO 0 c).owesAt () t.succ = (dats m hO 0 c).owesAt () t.castSucc from rfl,
    a0, a1, a2, a3, a4, after0_5]
  rw [show (dats m hO 0 c).Φ t.succ = iprop(held m hO c (t.val + 1) ∗ (∃ r, prngReg c r) ∗ Pipeline.ΦT pre0 (tbl m) c) from rfl,
    show (dats m hO 0 c).Φ t.castSucc = iprop(held m hO c t.val ∗ (∃ r, prngReg c r) ∗ Pipeline.ΦT pre0 (tbl m) c) from rfl, PhiT0_eq]
  unfold held outAt
  iintro ⟨⟨⟨%s0, %s1, %hs, HS0, HS1⟩, Hg, ⟨HT0, HT1⟩⟩, Ho, ⟨%d0, H0⟩, ⟨%d1, H1⟩, ⟨%d2, H2⟩, ⟨%d3, H3⟩, ⟨%d4, H4⟩, ⟨%d5, H5⟩⟩
  have hcopy : ¬ Anew (grid0.coords t) (here c (grid0.coords t) (tbl m 0)) (prev c (grid0.coords t) (tbl m 0)) →
      s0 = copy0 m hO c t ∧ s1 = copy1 m hO c t := by
    intro hn
    obtain ⟨h0, hab⟩ := not_anew hn
    have ht : (tileOf (grid0.coords t)).val = t.val := tile_val t
    have h0' : t.val ≠ 0 := fun h => h0 (ht.trans h)
    have hlt : t.val < (cfgM m hO).N := t.isLt
    let t' : Fin (cfgM m hO).N := ⟨t.val - 1, by omega⟩
    have ht' : (tileOf (grid0.coords t')).val = t.val - 1 := tile_val t'
    have hb : before (tileOf (grid0.coords t)) = tileOf (grid0.coords t') := Fin.ext (by
      show (tileOf (grid0.coords t)).val - 1 = _; rw [ht, ht'])
    have hab' := (here_eq c (grid0.coords t) (tbl m 0)).symm.trans (hab.trans (prev_eq c (grid0.coords t) (tbl m 0)))
    rw [hb] at hab'
    obtain ⟨e0, e1⟩ := same_block m hO c t t' hab'
    obtain ⟨q0, q1⟩ := hs t' (by show t.val - 1 + 1 = t.val; omega)
    exact ⟨q0.trans e0.symm, q1.trans e1.symm⟩
  have hrow : k0_cond3 (rows' c (grid0.coords t) (tbl m 1)) = 1#1 ∨ k0_cond2 (rows c (grid0.coords t) (tbl m 1)) = 1#1 := by
    exact (hF (tileOf (grid0.coords t))).imp (fun h => (congrArg k0_cond3 (rows'_eq c (grid0.coords t) (tbl m 1))).trans h)
      fun h => (congrArg k0_cond2 (rows_eq c (grid0.coords t) (tbl m 1))).trans h
  iapply (run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1)
    (copy0 m hO c t) (copy1 m hO c t)
    (by by_cases h : Anew (grid0.coords t) (here c (grid0.coords t) (tbl m 0)) (prev c (grid0.coords t) (tbl m 0))
        · rw [if_pos h]; rfl
        · rw [if_neg h]; exact (hcopy h).1)
    (by by_cases h : Anew (grid0.coords t) (here c (grid0.coords t) (tbl m 0)) (prev c (grid0.coords t) (tbl m 0))
        · rw [if_pos h]; rfl
        · rw [if_neg h]; exact (hcopy h).2)
    hrow Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr
      swap
      · isplitl [HS0]; · iexact HS0
        iexact HS1
      ipureintro
      intro t' h
      obtain rfl : t' = t := Fin.ext (by omega)
      exact ⟨rfl, rfl⟩
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body at a grid point is the body on that tile's buffers. -/
theorem defs₀_row :
    defs₀ (F := F) .tc (cfgM m hO).body ((cfgM m hO).bodyArgs t ((cfgM m hO).slots t)) = bodyAt0 (adm m hO) t := by
  unfold defs₀; rw [Defs.onTc_tc]

include hF in
/-- The body meets what the pipeline asks of it at every tile. -/
theorem body_obligation : BodyObligation (dats (F := F) m hO 0 c) (defs₀ (F := F)) Variants.none () Set.univ := fun t => by
  rw [bigSep_W0, bigSep_W0, defs₀_row m hO]
  have i5 : idle0 (tbl m) 5 (((pcfg0 (F := F)).gridAt (tbl m)).coords t) = false := not_idle m hF _
  simp only
  rw [i5]
  exact triple_restated (sound_body m hO hF c t) rfl .rfl fun _ => .rfl

/-! ## The run and the frame -/

include hO hF

set_option backward.isDefEq.respectTransparency.types false in
/-- The program runs to its end, with every array as the proof data say and all counters at zero. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop(held m hO c 0 ∗ (∃ r, prngReg c r) ∗ Pipeline.ΦT pre0 (tbl m) c)
      rw [PhiA0_eq]
      unfold held
      iintro ⟨⟨⟨⟨%d0, HS0⟩, ⟨%d1, HS1⟩⟩, Hg⟩, HT⟩
      isplitl [HS0 HS1]
      · iexists d0; iexists d1
        isplitr
        swap
        · isplitl [HS0]; · iexact HS0
          iexact HS1
        ipureintro
        intro t h
        omega
      isplitl [Hg]; · iexact Hg
      iexact HT)
    (hout := fun c => by
      show iprop(held m hO c _ ∗ (∃ r, prngReg c r) ∗ Pipeline.ΦT pre0 (tbl m) c) ⊢ Pipeline.ΦA spec0 c
      rw [PhiA0_eq]
      unfold held
      iintro ⟨⟨%d0, %d1, %hd, HS0, HS1⟩, Hg, -⟩
      isplitl [HS0 HS1]
      · isplitl [HS0]
        · iexists _; iexact HS0
        iexists _; iexact HS1
      iexact Hg)

/-- The run without the counters. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- Every argument ends as it was. -/
theorem unchanged : θ_run defs (onTc (τ := τ) (main (F := F))) ⟨m, fun _ => 0, ρ⟩ (fun r => Kept m r.2.mem) :=
  frame_of m ρ hO (dats m hO) (A_eq m hO) (run_main m ρ hO hF)

/-- The frame: every argument ends as it was and every counter at zero. -/
theorem frame : θ_run defs (onTc (τ := τ) (main (F := F))) ⟨m, fun _ => 0, ρ⟩ (fun r => Kept m r.2.mem
      ∧ r.2.sem = fun _ => 0) :=
  θ_run_and (unchanged m ρ hO hF) ((θ_run defs _ _).mono (fun _ h => h.2) (run_main_quiescent m ρ hO hF))

end Cert.Kernel8.Experts

end
-- ==== Proof.E8Pre.lean ====
/- Layer 0's experts: the tables a run may be launched on. -/
module

public import proofs.«01_k».proof.Proof.Expert
public import proofs.«01_k».proof.Proof.E8Frame

@[expose] public section

set_option maxRecDepth 16384

noncomputable section

namespace Cert.Kernel8.Experts

open Cert.Kernel8 Cert.Kernel8.Gen Idealize.ShloMosaic Idealize.ShloMosaic.TcCoe Idealize.SL.Sem

variable {F : FTy → Type} [FloatOps F] (m : (ℓ : Loc nD τ sig) → Buf (Elt F) ℓ)

/-- Where each name is one of the 32 experts, every block lies inside its array. -/
theorem inside (h : ∀ n : Fin 288, (tbl m 0 (ix1 n) : BitVec 32).toNat < 32) : Ok m := by
  have b (i : grid0.Coords) : (Scalar.addi 0#32 (tbl m 0 (ix1 (tileOf i)) : BitVec 32)).toNat < 128 :=
    lt_of_eq_of_lt (Expert.base_add 0 (by decide) _ (h (tileOf i))) (Nat.lt_of_lt_of_le (Nat.add_lt_add_left (h (tileOf i)) 0) (by decide))
  refine ⟨fun i => ⟨fun a => ?_, .inl rfl⟩, fun i => ⟨fun a => ?_, .inl rfl⟩, fun i => ⟨fun a => ?_, .inl rfl⟩, fun i => ⟨fun a => ?_, .inl rfl⟩⟩
  · have e := congrFun (map1_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (0 + 1) * 1 ≤ 4)
    | ⟨1, _⟩ => exact n
    | ⟨2, _⟩ => exact (by decide : (0 + 1) * 4096 ≤ 4096)
    | ⟨3, _⟩ => exact (by decide : (0 + 1) * 512 ≤ 512)
  · have e := congrFun (map2_eq (tbl m) i) a
    have n : ((Scalar.addi 0#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 512 ≤ 512)
  · have e := congrFun (map3_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (0 + 1) * 1 ≤ 4)
    | ⟨1, _⟩ => exact n
    | ⟨2, _⟩ => exact (by decide : (0 + 1) * 256 ≤ 256)
    | ⟨3, _⟩ => exact (by decide : (0 + 1) * 4096 ≤ 4096)
  · have e := congrFun (map4_eq (tbl m) i) a
    have n : ((Scalar.addi 0#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 4096 ≤ 4096)

/-- A count that is not negative is zero or positive, as the call tests it. -/
theorem zero_or_more (w : BitVec 32) (h : w.toNat < 2 ^ 31) : k0_cond3 w = 1#1 ∨ k0_cond2 w = 1#1 := by
  by_cases z : w = 0#32
  · exact .inl ((Tables.as_bool (w == 0#32)).mpr (beq_iff_eq.mpr z))
  · exact .inr ((Tables.as_bool (BitVec.slt 0#32 w)).mpr ((StableHlo.Predicate.ofBool_eq_one_iff _).mp ((Tables.sgt_zero w h).mpr z)))

/-- Where no count is negative, every tile's result is written. -/
theorem written (h : ∀ n : Fin 288, (tbl m 1 (ix1 n) : BitVec 32).toNat < 2 ^ 31) : Full m := fun n => zero_or_more _ (h n)

/-- What the arguments say of the tables. -/
theorem of_words (h : ∀ n : Fin 288, (m ((0 : Dev nD).tc.loc main_arg0) (ix1 n) : BitVec 32).toNat < 32
      ∧ (m ((0 : Dev nD).tc.loc main_arg1) (ix1 n) : BitVec 32).toNat < 2 ^ 31) :
    (∀ n : Fin 288, (tbl m 0 (ix1 n) : BitVec 32).toNat < 32) ∧ Ok m ∧ Full m := by
  have t0 : (tbl m 0 : S288.Idx → BitVec 32) = m ((0 : Dev nD).tc.loc main_arg0) := V_kept m 0 main_arg0 (by decide) (by decide)
  have t1 : (tbl m 1 : S288.Idx → BitVec 32) = m ((0 : Dev nD).tc.loc main_arg1) := V_kept m 0 main_arg1 (by decide) (by decide)
  have h0 (n : Fin 288) : (tbl m 0 (ix1 n) : BitVec 32).toNat < 32 := lt_of_eq_of_lt (congrArg BitVec.toNat (congrFun t0 (ix1 n))) (h n).1
  have h1 (n : Fin 288) : (tbl m 1 (ix1 n) : BitVec 32).toNat < 2 ^ 31 := lt_of_eq_of_lt (congrArg BitVec.toNat (congrFun t1 (ix1 n))) (h n).2
  exact ⟨h0, inside m h0, written m h1⟩

end Cert.Kernel8.Experts

end
-- ==== Proof.E8Value.lean ====
/- Layer 0's experts: what the call leaves in its result. -/
module

public import proofs.«01_k».proof.Proof.Expert
public import proofs.«01_k».proof.Proof.E8Pre

@[expose] public section

set_option maxRecDepth 16384

noncomputable section

namespace Cert.Kernel8.Experts

open Cert.Kernel8 Cert.Kernel8.Gen Idealize.ShloMosaic Idealize.ShloMosaic.TcCoe Idealize.SL.Sem

/-- The activations of a tile, entry by entry. -/
theorem act_apply (x0 : Vec Ideal S256x2048 .i32) (w0 : Vec Ideal S4096x512 .bf16) (x2 : Vec Ideal S1x1x512 .f32) (a f : Fin 256) :
    k0_pay6 x0 (View.ld w0 upper)
          (View.ld w0 lower) x2 (ix2 a f)
      = Expert.act (Expert.feature (fun k => x0 (ix2 a k)) (fun k => w0 (ix2 k (Fin.castLE (show 256 ≤ 512 by decide) f))) (x2 (ix3 0 0 (Fin.castLE (show 256 ≤ 512 by decide) f))))
        (Expert.feature (fun k => x0 (ix2 a k)) (fun k => w0 (ix2 k (Fin.natAdd 256 f))) (x2 (ix3 0 0 (Fin.natAdd 256 f)))) := by
  pointwise [k0_pay6]
  unfold Expert.act Expert.feature Expert.lo Expert.hi
  have hs : ∀ w : BitVec 32, IntOp.shli .vector w 16#32 = IntOp.shli .host w 16#32 := fun _ => rfl
  simp only [hs]
  rfl

/-- The left half of a tile, entry by entry. -/
theorem left_apply (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) (e : Fin 2048) (h : d.val = e.val) :
    k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0)) (ix2 a e)
      = Expert.expert (fun k => x0 (ix2 a k)) (fun k f => w0 (ix2 k f)) (fun f => x2 (ix3 0 0 f)) (fun f => w1 (ix2 f d)) (x4 (ix3 0 0 d)) := by
  obtain rfl : d = Fin.castLE (show 2048 ≤ 4096 by decide) e := Fin.ext h
  pointwise [k0_pay3, k0_pay7]
  simp only [act_apply]
  rfl

/-- The right half of a tile, entry by entry. -/
theorem right_apply (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) (e : Fin 2048) (h : d.val = 2048 + e.val) :
    k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048)) (ix2 a e)
      = Expert.expert (fun k => x0 (ix2 a k)) (fun k f => w0 (ix2 k f)) (fun f => x2 (ix3 0 0 f)) (fun f => w1 (ix2 f d)) (x4 (ix3 0 0 d)) := by
  obtain rfl : d = Fin.natAdd 2048 e := Fin.ext h
  pointwise [k0_pay4]
  simp only [act_apply]
  rfl

/-- A tile, entry by entry: zero where it has no rows, else the expert's output. -/
theorem tile_apply (r : BitVec 32) (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) :
    tile r x0 w0 x2 w1 x4 (ix2 a d) = if r = 0#32 then (0 : EReal) else
      Expert.expert (fun k => x0 (ix2 a k)) (fun k f => w0 (ix2 k f)) (fun f => x2 (ix3 0 0 f)) (fun f => w1 (ix2 f d)) (x4 (ix3 0 0 d)) := by
  have hc : k0_cond3 r = 1#1 ↔ r = 0#32 := by
    exact (Tables.as_bool (r == 0#32)).trans (by simp)
  unfold tile
  by_cases h : r = 0#32
  · rw [if_pos (hc.mpr h), if_pos h]
    pointwise [k0_pay5]
  · rw [if_neg (fun h' => h (hc.mp h')), if_neg h]
    refine View.canon_eq_of_allAt _ _ _ ?_ ?_
    · exact halves_cover x0 w0 x2 w1 x4 _
    · unfold halves
      refine View.allAt_cons_unit _ _ _ _ _ (fun z hz => ?_) (View.allAt_cons_unit _ _ _ _ _ (fun z hz => ?_) (View.allAt_nil _ _))
      · change S256x2048.Idx at z
        idx_vars z
        have h0 : a.val = 0 + z0.val := hz 0
        have h1 : d.val = 2048 + z1.val := hz 1
        obtain rfl : a = z0 := Fin.ext (by omega)
        exact (right_apply x0 w0 x2 w1 x4 a d z1 h1)
      · change S256x2048.Idx at z
        idx_vars z
        have h0 : a.val = 0 + z0.val := hz 0
        have h1 : d.val = 0 + z1.val := hz 1
        obtain rfl : a = z0 := Fin.ext (by omega)
        exact (left_apply x0 w0 x2 w1 x4 a d z1 (by omega))

variable (m : (ℓ : Loc nD τ sig) → Buf (Elt Ideal) ℓ)

/-- The expert a table names is one of the 32. -/
def Named : Prop := ∀ n : Fin 288, (tbl m 0 (ix1 n) : BitVec 32).toNat < 32

/-- The reshaped gate-and-up biases, read off their argument. -/
theorem bias_gu (c : Dev nD) (n : Fin 128) (l : Fin 4) (e : Fin 32) (h : n.val = l.val * 32 + e.val) (f : Fin 512) :
    V m c main_v0 (ix3 n 0 f) = m (c.tc.loc main_arg4) (ix3 l e f) := by
  have : V m c main_v0 = shapeCast S128x1x512 (m (c.tc.loc main_arg4)) shapeCasts_S4x32x512_S128x1x512 := by
    unfold V hostOps0
    after_results
    try rfl
  rw [this]
  refine Idealize.ShloMosaic.shapeCast_apply _ _ _ _ ?_
  show (S4x32x512.rowMajor (ix3 l e f)).val = (S128x1x512.rowMajor (ix3 n 0 f)).val
  rw [Shape.rowMajor_val_three, Shape.rowMajor_val_three]
  show (l.val * 32 + e.val) * 512 + f.val = (n.val * 1 + 0) * 512 + f.val
  omega

/-- The reshaped down biases, read off their argument. -/
theorem bias_dn (c : Dev nD) (n : Fin 128) (l : Fin 4) (e : Fin 32) (h : n.val = l.val * 32 + e.val) (d : Fin 4096) :
    V m c main_v1 (ix3 n 0 d) = m (c.tc.loc main_arg6) (ix3 l e d) := by
  have : V m c main_v1 = shapeCast S128x1x4096 (m (c.tc.loc main_arg6)) shapeCasts_S4x32x4096_S128x1x4096 := by
    unfold V hostOps0
    after_results
    try rfl
  rw [this]
  refine Idealize.ShloMosaic.shapeCast_apply _ _ _ _ ?_
  show (S4x32x4096.rowMajor (ix3 l e d)).val = (S128x1x4096.rowMajor (ix3 n 0 d)).val
  rw [Shape.rowMajor_val_three, Shape.rowMajor_val_three]
  show (l.val * 32 + e.val) * 4096 + d.val = (n.val * 1 + 0) * 4096 + d.val
  omega

/-- The result's window at tile `t` names the `t`-th block of rows. -/
theorem index5 (hO : Ok m) (t : Fin (cfgM m hO).N) : ((pcfg0 (F := Ideal)).win (adm m hO) 5).index t (0 : Fin 2) = t.val ∧ ((pcfg0 (F := Ideal)).win (adm m hO) 5).index t (1 : Fin 2) = 0 :=
  (by decide +kernel : ∀ t : Fin grid0.N, cc0_transform_5 (grid0.coords t) 0 = t.val ∧ cc0_transform_5 (grid0.coords t) 1 = 0) t
/-- The rows' window names the same block. -/
theorem index0 (hO : Ok m) (t : Fin (cfgM m hO).N) : ((pcfg0 (F := Ideal)).win (adm m hO) 0).index t (0 : Fin 2) = t.val ∧ ((pcfg0 (F := Ideal)).win (adm m hO) 0).index t (1 : Fin 2) = 0 :=
  (by decide +kernel : ∀ t : Fin grid0.N, cc0_transform_0 (grid0.coords t) 0 = t.val ∧ cc0_transform_0 (grid0.coords t) 1 = 0) t

/-- The tiles fill the result. -/
theorem covers5 (hO : Ok m) : ((cfgM m hO).win 5).Covers := by
  refine ⟨(by decide : ∀ a : Fin 2, 0 < (![256, 4096] : Fin 2 → ℕ) a), fun β => ?_⟩
  have n0 : ((cfgM m hO).win 5).nblk (0 : Fin 2) = 288 := by unfold Pipeline.Window.nblk; show (73728 + 256 - 1) / 256 = 288; rfl
  have n1 : ((cfgM m hO).win 5).nblk (1 : Fin 2) = 1 := by unfold Pipeline.Window.nblk; show (4096 + 4096 - 1) / 4096 = 1; rfl
  have h0 : (β (0 : Fin 2)).val < 288 := lt_of_lt_of_eq (β (0 : Fin 2)).isLt n0
  have h1 : (β (1 : Fin 2)).val < 1 := lt_of_lt_of_eq (β (1 : Fin 2)).isLt n1
  refine ⟨⟨(β (0 : Fin 2)).val, h0⟩, flush0_5 (adm m hO) _, fun a => ⟨?_, .inl rfl⟩⟩
  obtain ⟨i0, i1⟩ := index5 m hO ⟨(β (0 : Fin 2)).val, h0⟩
  change Fin 2 at a
  match a with
  | ⟨0, _⟩ => exact i0
  | ⟨1, _⟩ => exact i1.trans (by show 0 = (β (1 : Fin 2)).val; omega)

/-- The words of a tile, read off the packed rows. -/
theorem words_apply (hO : Ok m) (c : Dev nD) (t : Fin (cfgM m hO).N) (a : Fin 256) (r : Fin 73728) (h : r.val = t.val * 256 + a.val) (k : Fin 2048) :
    iblk m hO c 0 t (ix2 a k) = m (c.tc.loc main_arg2) (ix2 r k) := by
  obtain ⟨i0, i1⟩ := index0 m hO t
  blk_ext! [iblk, V, h]
  · exact congrArg (· * 256 + a.val) i0
  · exact (congrArg (· * 2048 + k.val) i1).trans (by omega)

/-- The word a tile's expert is named by, as a number. -/
abbrev nameAt (t : Fin grid0.N) : ℕ := (tbl m 0 (ix1 (tileOf (grid0.coords t))) : BitVec 32).toNat

/-- The gate-and-up copy of a tile holds its expert's weights. -/
theorem gu_apply (hO : Ok m) (c : Dev nD) (t : Fin (cfgM m hO).N) (e : Fin 32) (h : e.val = nameAt m t) (k : Fin 4096) (f : Fin 512) :
    copy0 m hO c t (ix2 k f) = m (c.tc.loc main_arg3) (ix4 0 e k f) := by
  have i (a : Fin 4) : ((pcfg0 (F := Ideal)).win (adm m hO) 1).index t a = (![0, nameAt m t, 0, 0] : Fin 4 → ℕ) a :=
    congrFun (map1_eq (tbl m) (grid0.coords t)) a
  unfold copy0
  pointwise [k0_pay1]
  blk_ext! [iblk, V]
  · exact congrArg (· * 1 + 0) (i 0)
  · exact (i 1).trans (by show nameAt m t = _; omega)
  · exact (congrArg (· * 4096 + k.val) (i 2)).trans (by show 0 * 4096 + k.val = k.val; omega)
  · exact (congrArg (· * 512 + f.val) (i 3)).trans (by show 0 * 512 + f.val = f.val; omega)

/-- The down copy of a tile holds its expert's weights. -/
theorem dn_apply (hO : Ok m) (c : Dev nD) (t : Fin (cfgM m hO).N) (e : Fin 32) (h : e.val = nameAt m t) (f : Fin 256) (d : Fin 4096) :
    copy1 m hO c t (ix2 f d) = m (c.tc.loc main_arg5) (ix4 0 e f d) := by
  have i (a : Fin 4) : ((pcfg0 (F := Ideal)).win (adm m hO) 3).index t a = (![0, nameAt m t, 0, 0] : Fin 4 → ℕ) a :=
    congrFun (map3_eq (tbl m) (grid0.coords t)) a
  unfold copy1
  pointwise [k0_pay2]
  blk_ext! [iblk, V]
  · exact congrArg (· * 1 + 0) (i 0)
  · exact (i 1).trans (by show nameAt m t = _; omega)
  · exact (congrArg (· * 256 + f.val) (i 2)).trans (by show 0 * 256 + f.val = f.val; omega)
  · exact (congrArg (· * 4096 + d.val) (i 3)).trans (by show 0 * 4096 + d.val = d.val; omega)

/-- The gate-and-up bias of a tile is its expert's. -/
theorem gub_apply (hO : Ok m) (c : Dev nD) (t : Fin (cfgM m hO).N) (e : Fin 32) (h : e.val = nameAt m t) (f : Fin 512) :
    iblk m hO c 2 t (ix3 0 0 f) = m (c.tc.loc main_arg4) (ix3 0 e f) := by
  have i (a : Fin 3) : ((pcfg0 (F := Ideal)).win (adm m hO) 2).index t a = (![0 + nameAt m t, 0, 0] : Fin 3 → ℕ) a := by
    refine (congrFun (map2_eq (tbl m) (grid0.coords t)) a).trans (congrArg (fun n : ℕ => (![n, 0, 0] : Fin 3 → ℕ) a) ?_)
    exact Expert.base_add 0 (by decide) _ (show nameAt m t < 32 by omega)
  have j : iblk m hO c 2 t (ix3 0 0 f) = V m c main_v0 (ix3 ⟨0 + e.val, by omega⟩ 0 f) := by
    refine congrArg (V m c main_v0) (show ((spec0 2).arr.view.slice (((pcfg0 (F := Ideal)).win (adm m hO) 2).rect t)).emb (ix3 0 0 f) = ix3 ⟨0 + e.val, by omega⟩ 0 f from ?_)
    refine funext fun a => Fin.ext ?_
    change Fin 3 at a
    match a with
    | ⟨0, _⟩ => exact Eq.trans (by blk_simp; rfl) ((i 0).trans (show 0 + nameAt m t = 0 + e.val by omega))
    | ⟨1, _⟩ => exact Eq.trans (by blk_simp; rfl) (i 1)
    | ⟨2, _⟩ => exact Eq.trans (by blk_simp) ((congrArg (· * 512 + f.val) (i 2)).trans (by show 0 * 512 + f.val = f.val; omega))
  exact j.trans (bias_gu m c _ 0 e rfl f)

/-- The down bias of a tile is its expert's. -/
theorem dnb_apply (hO : Ok m) (c : Dev nD) (t : Fin (cfgM m hO).N) (e : Fin 32) (h : e.val = nameAt m t) (d : Fin 4096) :
    iblk m hO c 4 t (ix3 0 0 d) = m (c.tc.loc main_arg6) (ix3 0 e d) := by
  have i (a : Fin 3) : ((pcfg0 (F := Ideal)).win (adm m hO) 4).index t a = (![0 + nameAt m t, 0, 0] : Fin 3 → ℕ) a := by
    refine (congrFun (map4_eq (tbl m) (grid0.coords t)) a).trans (congrArg (fun n : ℕ => (![n, 0, 0] : Fin 3 → ℕ) a) ?_)
    exact Expert.base_add 0 (by decide) _ (show nameAt m t < 32 by omega)
  have j : iblk m hO c 4 t (ix3 0 0 d) = V m c main_v1 (ix3 ⟨0 + e.val, by omega⟩ 0 d) := by
    refine congrArg (V m c main_v1) (show ((spec0 4).arr.view.slice (((pcfg0 (F := Ideal)).win (adm m hO) 4).rect t)).emb (ix3 0 0 d) = ix3 ⟨0 + e.val, by omega⟩ 0 d from ?_)
    refine funext fun a => Fin.ext ?_
    change Fin 3 at a
    match a with
    | ⟨0, _⟩ => exact Eq.trans (by blk_simp; rfl) ((i 0).trans (show 0 + nameAt m t = 0 + e.val by omega))
    | ⟨1, _⟩ => exact Eq.trans (by blk_simp; rfl) (i 1)
    | ⟨2, _⟩ => exact Eq.trans (by blk_simp) ((congrArg (· * 4096 + d.val) (i 2)).trans (by show 0 * 4096 + d.val = d.val; omega))
  exact j.trans (bias_dn m c _ 0 e rfl d)

/-- The experts' outputs, out of the arguments the call finds. -/
abbrev outputs (c : Dev nD) : Fin 73728 → Fin 4096 → EReal :=
  Expert.result (N := 288) (M := 73728) rfl 0 (m (c.tc.loc main_arg0)) (m (c.tc.loc main_arg1)) (m (c.tc.loc main_arg2)) (m (c.tc.loc main_arg3)) (m (c.tc.loc main_arg4)) (m (c.tc.loc main_arg5)) (m (c.tc.loc main_arg6))

/-- A row of a tile, as the arguments have it. -/
theorem row_eq (hO : Ok m) (hN : Named m) (c : Dev nD) (t : Fin (cfgM m hO).N) (a : Fin 256) (r : Fin 73728) (h : r.val = t.val * 256 + a.val) (d : Fin 4096) :
    (if rows' c (grid0.coords t) (tbl m 1) = 0#32 then (0 : EReal) else
      Expert.expert (fun k => iblk m hO c 0 t (ix2 a k)) (fun k f => copy0 m hO c t (ix2 k f)) (fun f => iblk m hO c 2 t (ix3 0 0 f))
        (fun f => copy1 m hO c t (ix2 f d)) (iblk m hO c 4 t (ix3 0 0 d)))
    = outputs m c r d := by
  have hn : tileOf (grid0.coords t) = Expert.tileOfRow (N := 288) rfl r := Fin.ext (by rw [tile_val t]; show t.val = r.val / 256; omega)
  have t0 : (tbl m 0 : S288.Idx → BitVec 32) = m (c.tc.loc main_arg0) := by
    obtain rfl : c = 0 := Subsingleton.elim _ _
    exact V_kept m 0 main_arg0 (by decide) (by decide)
  have t1 : (tbl m 1 : S288.Idx → BitVec 32) = m (c.tc.loc main_arg1) := by
    obtain rfl : c = 0 := Subsingleton.elim _ _
    exact V_kept m 0 main_arg1 (by decide) (by decide)
  have w1 : rows' c (grid0.coords t) (tbl m 1) = m (c.tc.loc main_arg1) (ix1 (Expert.tileOfRow (N := 288) rfl r)) :=
    (rows'_eq c (grid0.coords t) _).trans ((congrFun t1 _).trans (by rw [hn]))
  have w0 : (tbl m 0 (ix1 (tileOf (grid0.coords t))) : BitVec 32) = m (c.tc.loc main_arg0) (ix1 (Expert.tileOfRow (N := 288) rfl r)) :=
    (congrFun t0 _).trans (by rw [hn])
  have he : (Expert.pick (m (c.tc.loc main_arg0) (ix1 (Expert.tileOfRow (N := 288) rfl r)))).val = nameAt m t := by
    show BitVec.toNat _ % 32 = BitVec.toNat _
    rw [← w0]
    exact Nat.mod_eq_of_lt (hN _)
  unfold outputs Expert.result
  rw [w1]
  refine if_congr Iff.rfl rfl ?_
  congr 1
  · exact funext fun k => words_apply m hO c t a r h k
  · exact funext fun k => funext fun f => gu_apply m hO c t _ he k f
  · exact funext fun f => gub_apply m hO c t _ he f
  · exact funext fun f => dn_apply m hO c t _ he f d
  · exact dnb_apply m hO c t _ he d

/-- After the run, the result array is the experts' outputs row by row. -/
theorem final (hO : Ok m) (hN : Named m) (c : Dev nD) :
    (dats m hO 0 c).arrAt 5 (cfgM m hO).N = fun i : S73728x4096.Idx => outputs m c (i 0) (i 1) := by
  refine (dats m hO 0 c).arrAt_eq_of_covers 5 _ (covers5 m hO) fun t hf y => ?_
  blk_simp
  rw [after0_5]
  change S256x4096.Idx at y
  idx_vars y
  unfold outAt
  refine (tile_apply _ _ _ _ _ _ y0 y1).trans ?_
  obtain ⟨i0, i1⟩ := index5 m hO t
  have r0 : (((spec0 5).arr.view.slice (((pcfg0 (F := Ideal)).win (adm m hO) 5).rect t)).emb (ix2 y0 y1) (0 : Fin 2)).val = t.val * 256 + y0.val := by
    refine Eq.trans ?_ (congrArg (· * 256 + y0.val) i0)
    blk_simp
  have r1 : ((spec0 5).arr.view.slice (((pcfg0 (F := Ideal)).win (adm m hO) 5).rect t)).emb (ix2 y0 y1) (1 : Fin 2) = y1 := by
    refine Fin.ext ?_
    refine Eq.trans ?_ ((congrArg (· * 4096 + y1.val) i1).trans (by show 0 * 4096 + y1.val = y1.val; omega))
    blk_simp
  exact (row_eq m hO hN c t y0 _ r0 y1).trans (congrArg (fun z => outputs m c _ z) r1.symm)

/-- The call runs, leaves the experts' outputs in its result, and leaves its arguments as they were. -/
theorem value (ρ : Dev nD → PrngReg) (hO : Ok m) (hF : Full m) (hN : Named m) : θ_run defs (onTc (τ := τ) (main (F := Ideal))) ⟨m, fun _ => 0, ρ⟩ (fun r => ∀ c : Dev nD,
      r.2.mem ((c.tc : Thread nD τ).loc main_v2) = (fun i : S73728x4096.Idx => outputs m c (i 0) (i 1))
      ∧ Kept m r.2.mem) :=
  (θ_run defs _ _).mono (fun _ h c => ⟨((h.1 c).1 5).trans (final m hO hN c), h.2⟩) (θ_run_and (run_main m ρ hO hF) (unchanged m ρ hO hF))

end Cert.Kernel8.Experts

end
-- ==== Proof.E8Ref.lean ====
/- Layer 0's experts: the plain formula, entry by entry. -/
module

public import proofs.«01_k».proof.Proof.Expert
public import proofs.«01_k».proof.Proof.Tables
public import proofs.«01_k».proof.Proof.Gen.Reference8Ideal.Read

@[expose] public section

set_option maxRecDepth 16384

noncomputable section

namespace Cert.Reference8Ideal.Experts

open Idealize.ShloMosaic Idealize.ShloMosaic.TcCoe Idealize.SL.Sem
open Cert.Reference8Ideal Cert.Reference8Ideal.Gen Cert.Reference8Ideal.Read

variable (x0 x1 : S288.Idx → BitVec 32) (x2 : S73728x2048.Idx → BitVec 32) (x3 : S4x32x4096x512.Idx → EReal) (x4 : S4x32x512.Idx → EReal)
  (x5 : S4x32x256x4096.Idx → EReal) (x6 : S4x32x4096.Idx → EReal)

/-- The unpacked rows: the first numbers of the words, then the second. -/
theorem ref_rows_lo (r : Fin 73728) (k : Fin 2048) :
    val_main_v6 (F := Ideal) x2 (ix2 r (Fin.castLE (show 2048 ≤ 4096 by decide) k)) = Expert.lo (x2 (ix2 r k)) := by
  pointwise [val_main_v6, val_main_v5, val_main_v4, val_main_v3, val_main_c_0, val_main_v2, val_main_v1, val_main_v0, val_main_c]
  exact dif_pos k.isLt

theorem ref_rows_hi (r : Fin 73728) (k : Fin 2048) :
    val_main_v6 (F := Ideal) x2 (ix2 r (Fin.natAdd 2048 k)) = Expert.hi (x2 (ix2 r k)) := by
  pointwise [val_main_v6, val_main_v5, val_main_v4, val_main_v3, val_main_c_0, val_main_v2, val_main_v1, val_main_v0, val_main_c]
  rw [dif_neg (by show ¬ 2048 + k.val < 2048; omega)]
  have e : (⟨(Fin.natAdd 2048 k : Fin 4096).val - 2048, by have := k.isLt; show 2048 + k.val - 2048 < 2048; omega⟩ : Fin 2048) = k := Fin.ext (by show 2048 + k.val - 2048 = k.val; omega)
  exact congrArg (fun k => Expert.hi (x2 (ix2 r k))) e

/-- The gate-and-up features of a row under an expert. -/
theorem ref_feature (e : Fin 32) (r : Fin 73728) (f : Fin 512) :
    val_main_v33 (F := Ideal) x2 x3 x4 (ix3 e r f) = Expert.feature (fun k => x2 (ix2 r k)) (fun k => x3 (ix4 0 e k f)) (x4 (ix3 0 e f)) := by
  pointwise [val_main_v33, val_main_v32, val_main_v31, val_main_v30, val_main_v29, val_main_v28, val_main_v27, val_main_v26, val_main_v25]
  unfold Expert.feature
  refine congrArg (· + x4 (ix3 0 e f)) ?_
  refine (Fin.sum_univ_add (a := 2048) (b := 2048) fun k : Fin 4096 => x3 (ix4 0 e k f) * val_main_v6 (F := Ideal) x2 (ix2 r k)).trans ?_
  refine congrArg₂ (· + ·) (Finset.sum_congr rfl fun k _ => ?_) (Finset.sum_congr rfl fun k _ => ?_)
  · exact (mul_comm _ _).trans (congrArg (· * _) (ref_rows_lo x2 r k))
  · exact (mul_comm _ _).trans (congrArg (· * _) (ref_rows_hi x2 r k))

/-- The activations. -/
theorem ref_act (e : Fin 32) (r : Fin 73728) (f : Fin 256) :
    val_main_v50 (F := Ideal) x2 x3 x4 (ix3 e r f) = Expert.act (val_main_v33 (F := Ideal) x2 x3 x4 (ix3 e r (Fin.castLE (show 256 ≤ 512 by decide) f)))
      (val_main_v33 (F := Ideal) x2 x3 x4 (ix3 e r (Fin.natAdd 256 f))) := by
  pointwise [val_main_v50, val_main_v49, val_main_v48, val_main_cst_9, val_main_v47, val_main_v46, val_main_v45, val_main_cst_8, val_main_v44, val_main_v43, val_main_cst_7,
    val_main_v42, val_main_v41, val_main_v40, val_main_v39, val_main_cst_6, val_main_v38, val_main_v37, val_main_v36, val_main_v35, val_main_cst_3, val_main_v34, val_main_call1_v0, val_main_cst_4, val_main_call1_v1, val_main_call1_v2, val_main_call1_v3, val_main_cst_5, val_main_call1_v4]
  rfl

/-- An expert's output on a row. -/
theorem ref_out (e : Fin 32) (r : Fin 73728) (d : Fin 4096) :
    val_main_v58 (F := Ideal) x2 x3 x4 x5 x6 (ix3 e r d) = (∑ f : Fin 256, val_main_v50 (F := Ideal) x2 x3 x4 (ix3 e r f) * x5 (ix4 0 e f d)) + x6 (ix3 0 e d) := by
  pointwise [val_main_v58, val_main_v57, val_main_v56, val_main_v55, val_main_v54, val_main_v53, val_main_v52, val_main_v51]

/-- The gate of an expert on a row. -/
theorem ref_gate (r : Fin 73728) (e : Fin 32) :
    val_main_v24 (F := Ideal) x0 x1 (ix2 r e) = if x0 (ix1 (Expert.tileOfRow (N := 288) rfl r)) = BitVec.ofNat 32 e.val ∧ IntOp.cmpi .sgt (x1 (ix1 (Expert.tileOfRow (N := 288) rfl r))) 0#32 = 1#1 then 1 else 0 := by
  pointwise [val_main_v24, val_main_v23, val_main_v22, val_main_v21, val_main_v20, val_main_v19, val_main_c_1, val_main_v18, val_main_v17, val_main_v16, val_main_v15,
    val_main_v14, val_main_v13, val_main_v12, val_main_v11, val_main_v10, val_main_v9, val_main_v8, val_main_v7, val_main_call0_v0, val_main_call0_v1, val_main_cst, val_main_cst_2]
  refine (?_ : _ = _).trans (if_congr (IntOp.andi_eq_one.trans (and_congr_left' StableHlo.Predicate.cmpi_eq_iff)) rfl rfl)
  rfl

/-- The gated sum over the experts. -/
theorem ref_sum (r : Fin 73728) (d : Fin 4096) :
    val_main_v60 (F := Ideal) x0 x1 x2 x3 x4 x5 x6 (ix2 r d) = ∑ e : Fin 32, val_main_v24 (F := Ideal) x0 x1 (ix2 r e) * val_main_v58 (F := Ideal) x2 x3 x4 x5 x6 (ix3 e r d) := by
  pointwise [val_main_v60, val_main_v59]

/-- The plain formula's result, given tables of names and counts. -/
theorem ref_final (h : ∀ n : Fin 288, (x0 (ix1 n)).toNat < 32 ∧ (x1 (ix1 n)).toNat < 2 ^ 31) (r : Fin 73728) (d : Fin 4096) :
    val_main_v60 (F := Ideal) x0 x1 x2 x3 x4 x5 x6 (ix2 r d) = Expert.result (N := 288) (M := 73728) rfl 0 x0 x1 x2 x3 x4 x5 x6 r d := by
  obtain ⟨h0, h1⟩ := h (Expert.tileOfRow (N := 288) rfl r)
  have named (e : Fin 32) := Expert.named _ e h0
  rw [ref_sum]
  unfold Expert.result
  by_cases z : x1 (ix1 (Expert.tileOfRow (N := 288) rfl r)) = 0#32
  · rw [if_pos z]
    refine Finset.sum_eq_zero fun e _ => ?_
    rw [ref_gate, if_neg (fun k => (Tables.sgt_zero _ h1).mp k.2 z), zero_mul]
  · rw [if_neg z, Finset.sum_eq_single (Expert.pick (x0 (ix1 (Expert.tileOfRow (N := 288) rfl r))))]
    · rw [ref_gate, if_pos ⟨(named _).mpr rfl, (Tables.sgt_zero _ h1).mpr z⟩, one_mul, ref_out]
      unfold Expert.expert
      refine congrArg (· + _) (Finset.sum_congr rfl fun f _ => ?_)
      rw [ref_act, ref_feature, ref_feature]
    · intro e _ he
      rw [ref_gate, if_neg (fun k => he ((named e).mp k.1)), zero_mul]
    · exact fun k => absurd (Finset.mem_univ _) k

end Cert.Reference8Ideal.Experts

end
-- ==== Proof.E9Same.lean ====
/- The idealized program of layer 1's experts is the program itself. -/
module

public import proofs.«01_k».proof.Proof.Gen.Kernel9
public import proofs.«01_k».proof.Proof.Gen.Kernel9Ideal

@[expose] public section

set_option maxRecDepth 16384

noncomputable section

namespace Cert.Kernel9Ideal.Experts

open Idealize.ShloMosaic Idealize.ShloMosaic.TcCoe Idealize.SL.Sem

variable {F : FTy → Type} [FloatOps F]

set_option maxHeartbeats 1000000 in
/-- The two programs' bodies are one. -/
theorem bodies : Cert.Kernel9.defs₀ (F := F) = Cert.Kernel9Ideal.defs₀ := by
  refine congrArg Defs.onTc (funext fun l => funext fun a => ?_)
  match l, a with
  | 0, (t, s) => rfl

set_option maxHeartbeats 1000000 in
/-- What a run of the program does, a run of the idealized program does. -/
theorem transfer (s) (Q : _ → Prop) (h : θ_run Cert.Kernel9.defs (onTc (τ := Cert.Kernel9.τ) (Cert.Kernel9.main (F := F))) s Q) :
    θ_run Cert.Kernel9Ideal.defs (onTc (τ := Cert.Kernel9Ideal.τ) (Cert.Kernel9Ideal.main (F := F))) s Q := by
  rw [← show Cert.Kernel9.defs (F := F) = Cert.Kernel9Ideal.defs from congrArg (Pipeline.defs (Cert.Kernel9.pcfgs (F := F))) bodies]
  exact h

end Cert.Kernel9Ideal.Experts

end
-- ==== Proof.E9Kit.lean ====
module

public import proofs.«01_k».proof.Proof.Gen.Kernel9.Launch
public import proofs.«01_k».proof.Proof.Gen.Kernel9.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel9.Experts

open Cert.Kernel9 Cert.Kernel9.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host part -/

/-- What each buffer holds when the call begins. -/
abbrev V (c : Dev nD) (b : Ref sig .tc) : Buf (Elt F) ((c : Thread nD τ).loc b) := StableHlo.after hostOps0 (fun b => m (c, b)) b

/-- The reshapes on the host make no buffer of their own. -/
theorem hostOps0_fresh : (hostOps0 : List (HloOp τ sig (Elt F))).Forall fun op => op.fresh = ∅ := by
  simp only [List.Forall]; repeat' constructor

/-- The host part of the program leads up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is found by the call as it was at launch. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The two tables, as the call finds them. -/
def tbl : pre0.Contents (Elt F) := fun j => V m (0 : Dev nD) (pre0.ref j)
/-- They are those of the only device. -/
theorem V_pre (c : Dev nD) (j : Fin 2) : V m c (pre0.ref j) = tbl m j := by
  obtain rfl : c = 0 := Subsingleton.elim _ _; rfl
/-- Every block the tables ask for lies inside its array. -/
abbrev Ok : Prop := ok0 (F := F) (tbl m)
/-- The tables as ones the pipeline may run on, -/
abbrev adm (hO : Ok m) : (pcfg0 (F := F)).Adm := ⟨tbl m, hO⟩
/-- and the pipeline on them. -/
abbrev cfgM (hO : Ok m) : Pipeline.Cfg sig Λ₀ := cfg0 (adm m hO)

/-- The tables as the body is handed them. -/
abbrev tbM0_0 : Memref sig .tc .smem S288 .i32 := Memref.whole main_arg0
abbrev htbM0_0 : tbM0_0.IsWhole := Memref.isWhole_whole _
abbrev tbM0_1 : Memref sig .tc .smem S288 .i32 := Memref.whole main_arg1
abbrev htbM0_1 : tbM0_1.IsWhole := Memref.isWhole_whole _

/-- A table's contents, -/
abbrev TbBuf0 (c : Dev nD) {S : Shape} {e : EltTy} (M : Memref sig .tc .smem S e) : Type := Buf (Elt F) (M.view.loc (c : Thread nD τ))
/-- and half of the right to read it. -/
abbrev tbPt0 (c : Dev nD) {S : Shape} {e : EltTy} (M : Memref sig .tc .smem S e) (f : TbBuf0 (F := F) c M) : sProp 𝕄 :=
  M.view.loc (c : Thread nD τ) ↦{fullShare.right} f

/-- What the body holds of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The arguments -/

/-- Every argument ends as it was. -/
abbrev Kept (mem : (ℓ : Loc nD τ sig) → Buf (Elt F) ℓ) : Prop := ∀ c : Dev nD,
      mem (c.tc.loc main_arg0) = m (c.tc.loc main_arg0)
      ∧ mem (c.tc.loc main_arg1) = m (c.tc.loc main_arg1)
      ∧ mem (c.tc.loc main_arg2) = m (c.tc.loc main_arg2)
      ∧ mem (c.tc.loc main_arg3) = m (c.tc.loc main_arg3)
      ∧ mem (c.tc.loc main_arg4) = m (c.tc.loc main_arg4)
      ∧ mem (c.tc.loc main_arg5) = m (c.tc.loc main_arg5)
      ∧ mem (c.tc.loc main_arg6) = m (c.tc.loc main_arg6)

/-- A run that leaves the arrays as the proof data say leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => Kept m r.2.mem) :=
  (θ_run defs _ _).mono (fun _ h c => ⟨((h c).2 _ (by decide : main_arg0 ∈ Pipeline.restRefs sig spec0)).trans (V_kept m c _ (by decide) (by decide)),
      ((h c).2 _ (by decide : main_arg1 ∈ Pipeline.restRefs sig spec0)).trans (V_kept m c _ (by decide) (by decide)),
      ((h c).1 0).trans (((dats 0 c).arrAt_in 0 rfl _).trans ((hA c 0).trans (V_kept m c main_arg2 (by decide) (by decide)))),
      ((h c).1 1).trans (((dats 0 c).arrAt_in 1 rfl _).trans ((hA c 1).trans (V_kept m c main_arg3 (by decide) (by decide)))),
      ((h c).2 _ (by decide : main_arg4 ∈ Pipeline.restRefs sig spec0)).trans (V_kept m c _ (by decide) (by decide)),
      ((h c).1 3).trans (((dats 0 c).arrAt_in 3 rfl _).trans ((hA c 3).trans (V_kept m c main_arg5 (by decide) (by decide)))),
      ((h c).2 _ (by decide : main_arg6 ∈ Pipeline.restRefs sig spec0)).trans (V_kept m c _ (by decide) (by decide))⟩) h

/-! ## The buffers -/

/-- The two copies of the weights. -/
abbrev scM0_0 : Memref sig .tc .vmem S4096x512 .bf16 := Memref.whole cc0_scratch0
abbrev scM0_1 : Memref sig .tc .vmem S256x4096 .bf16 := Memref.whole cc0_scratch1

/-- What the call owns beside the windows: the copies and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel9.Experts

end
-- ==== Proof.E9Run.lean ====
module

public import proofs.«01_k».proof.Proof.Known
public import proofs.«01_k».proof.Proof.E9Kit
public import proofs.«01_k».proof.Proof.E8Run
public import Idealize.ShloMosaic.Lib.VecWindow
public import Idealize.ShloMosaic.Lib.Pipeline.ValueKit

@[expose] public section

set_option maxRecDepth 16384

noncomputable section

namespace Cert.Kernel9.Experts

open Cert.Known Cert.Kernel9 Cert.Kernel9.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one tile of tokens computes -/

/-- The expert number the body reads for its own tile. -/
def here (c : Dev nD) (i : grid0.Coords) (xt0 : TbBuf0 (F := F) c tbM0_0) : BitVec 32 :=
  View.readAt (Elt F) tbM0_0.view (Rect.unit (s := S288) (k0_off1 i) S1.size (k0_off1_inb i)).toLoadRect xt0
    (Shape.Idx.first (numel1_S1 ▸ Nat.one_pos))
/-- The expert number the body reads for the tile before. -/
def prev (c : Dev nD) (i : grid0.Coords) (xt0 : TbBuf0 (F := F) c tbM0_0) : BitVec 32 :=
  View.readAt (Elt F) tbM0_0.view (Rect.unit (s := S288) (k0_off2 i) S1.size (k0_off2_inb i)).toLoadRect xt0
    (Shape.Idx.first (numel1_S1 ▸ Nat.one_pos))
/-- The number of valid rows of the tile, as the first guard reads it. -/
def rows (c : Dev nD) (i : grid0.Coords) (xt1 : TbBuf0 (F := F) c tbM0_1) : BitVec 32 :=
  View.readAt (Elt F) tbM0_1.view (Rect.unit (s := S288) (k0_off3 i) S1.size (k0_off3_inb i)).toLoadRect xt1
    (Shape.Idx.first (numel1_S1 ▸ Nat.one_pos))
/-- The number of valid rows of the tile, as the second guard reads it. -/
def rows' (c : Dev nD) (i : grid0.Coords) (xt1 : TbBuf0 (F := F) c tbM0_1) : BitVec 32 :=
  View.readAt (Elt F) tbM0_1.view (Rect.unit (s := S288) (k0_off4 i) S1.size (k0_off4_inb i)).toLoadRect xt1
    (Shape.Idx.first (numel1_S1 ▸ Nat.one_pos))

/-- The body copies the weights anew: at the first tile, and where the expert is not that of the tile before. -/
abbrev Anew (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two halves of the copies and of the bias a tile is worked out of. -/
abbrev upper : Rect S4096x512 := Rect.unit ![0, 0] S2048x512.size inb_S4096x512_S2048x512_0_0
abbrev lower : Rect S4096x512 := Rect.unit ![2048, 0] S2048x512.size inb_S4096x512_S2048x512_2048_0
abbrev left : Rect S256x4096 := Rect.unit ![0, 0] S256x2048.size inb_S256x4096_S256x2048_0_0
abbrev right : Rect S256x4096 := Rect.unit ![0, 2048] S256x2048.size inb_S256x4096_S256x2048_0_2048

/-- What the body stores for a tile that has rows: the left half of the columns, then the right half, out of the
    tile's words `x0`, the two copied weights `w0`, `w1` and the two biases `x2`, `x4`. -/
def halves (x0 : Vec F S256x2048 .i32) (w0 : Vec F S4096x512 .bf16) (x2 : Vec F S1x1x512 .f32)
    (w1 : Vec F S256x4096 .bf16) (x4 : Vec F S1x1x4096 .f32) : List (View.Piece (Elt F) S256x4096 .bf16) :=
  [⟨Rect.unit (s := S256x4096) ![0, 2048] S256x2048.size inb_S256x4096_S256x2048_0_2048,
      k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048))⟩,
   ⟨Rect.unit (s := S256x4096) ![0, 0] S256x2048.size inb_S256x4096_S256x2048_0_0,
      k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0))⟩]

/-- The two halves fill the tile. -/
theorem halves_cover (x0 : Vec F S256x2048 .i32) (w0 : Vec F S4096x512 .bf16) (x2 : Vec F S1x1x512 .f32)
    (w1 : Vec F S256x4096 .bf16) (x4 : Vec F S1x1x4096 .f32) (y : S256x4096.Idx) :
    ∃ pc ∈ halves x0 w0 x2 w1 x4, y ∈ pc.1.set :=
  View.cover_of_tiledL (halves x0 w0 x2 w1 x4) S256x2048.size (by sl_kernel_rfl) y

/-- The tile the body leaves: zeros where the tile has no rows, else the two halves. -/
def tile (r : BitVec 32) (x0 : Vec F S256x2048 .i32) (w0 : Vec F S4096x512 .bf16) (x2 : Vec F S1x1x512 .f32)
    (w1 : Vec F S256x4096 .bf16) (x4 : Vec F S1x1x4096 .f32) : Vec F S256x4096 .bf16 :=
  if k0_cond3 r = 1#1 then k0_pay5 (F := F) else View.canon (halves x0 w0 x2 w1 x4)

set_option maxHeartbeats 1000000 in
/-- The body is the one of the call it is shared with. -/
theorem bodies : Cert.Kernel8.defs₀ (F := F) = defs₀ := by
  refine congrArg Defs.onTc (funext fun l => funext fun a => ?_)
  match l, a with
  | 0, (t, s) => rfl

set_option maxHeartbeats 2000000 in
/-- One tile's body, on any buffers: the inputs stay, the two copies hold the tile's expert's weights if they are made
    anew and stay otherwise, and the output buffer ends at the tile. -/
theorem run (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x512 .f32) (harg5 : arg5.IsWhole) (arg6 : Memref sig .tc .vmem S1x1x256x4096 .f32) (harg6 : arg6.IsWhole) (arg7 : Memref sig .tc .vmem S1x1x4096 .f32) (harg7 : arg7.IsWhole) (arg8 : Memref sig .tc .vmem S256x4096 .bf16) (harg8 : arg8.IsWhole) (arg9 : Memref sig .tc .vmem S4096x512 .bf16) (harg9 : arg9.IsWhole) (arg10 : Memref sig .tc .vmem S256x4096 .bf16) (harg10 : arg10.IsWhole)
    (x0 : Vec F S256x2048 .i32) (x1 : Vec F S1x1x4096x512 .f32) (x2 : Vec F S1x1x512 .f32) (x3 : Vec F S1x1x256x4096 .f32) (x4 : Vec F S1x1x4096 .f32) (s0 : Vec F S4096x512 .bf16) (s1 : Vec F S256x4096 .bf16)
    (xt0 : TbBuf0 (F := F) c tbM0_0) (xt1 : TbBuf0 (F := F) c tbM0_1)
    (w0 : Vec F S4096x512 .bf16) (w1 : Vec F S256x4096 .bf16)
    (hw0 : (if Anew i (here c i xt0) (prev c i xt0) then k0_pay1 x1 else s0) = w0)
    (hw1 : (if Anew i (here c i xt0) (prev c i xt0) then k0_pay2 x3 else s1) = w1)
    (hr : k0_cond3 (rows' c i xt1) = 1#1 ∨ k0_cond2 (rows c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile (rows' c i xt1) x0 w0 x2 w1 x4) ∗ owns (c : Thread nD τ) arg9 fullShare w0 ∗ owns (c : Thread nD τ) arg10 fullShare w1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  have h := Cert.Kernel8.Experts.run c i arg3 harg3 arg4 harg4 arg5 harg5 arg6 harg6 arg7 harg7 arg8 harg8 arg9 harg9 arg10 harg10 x0 x1 x2 x3 x4 s0 s1 xt0 xt1 w0 w1 hw0 hw1 hr E K
  rw [bodies] at h
  exact h

end Cert.Kernel9.Experts

end
-- ==== Proof.E9Words.lean ====
module

public import proofs.«01_k».proof.Proof.E9Run
public import proofs.«01_k».proof.Proof.Tables

@[expose] public section

set_option maxRecDepth 16384

noncomputable section

namespace Cert.Kernel9.Experts

open Cert.Kernel9 Cert.Kernel9.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## The words of the two tables -/

/-- The tile a grid point works on. -/
abbrev tileOf (i : grid0.Coords) : Fin 288 := i 0

/-- The tile before, the first tile's being itself. -/
def before (n : Fin 288) : Fin 288 := ⟨n.val - 1, by omega⟩

theorem here_eq (c : Dev nD) (i : grid0.Coords) (x : TbBuf0 (F := F) c tbM0_0) : here c i x = x (ix1 (tileOf i)) :=
  congrArg x (funext fun a => Fin.ext (by fin_cases a; exact Tables.cast_eq (N := 288) (by decide) (i 0)))
theorem prev_eq (c : Dev nD) (i : grid0.Coords) (x : TbBuf0 (F := F) c tbM0_0) : prev c i x = x (ix1 (before (tileOf i))) :=
  congrArg x (funext fun a => Fin.ext (by fin_cases a; exact Tables.cast_pred (N := 288) (by decide) (i 0)))
theorem rows_eq (c : Dev nD) (i : grid0.Coords) (x : TbBuf0 (F := F) c tbM0_1) : rows c i x = x (ix1 (tileOf i)) :=
  congrArg x (funext fun a => Fin.ext (by fin_cases a; exact Tables.cast_eq (N := 288) (by decide) (i 0)))
theorem rows'_eq (c : Dev nD) (i : grid0.Coords) (x : TbBuf0 (F := F) c tbM0_1) : rows' c i x = x (ix1 (tileOf i)) :=
  congrArg x (funext fun a => Fin.ext (by fin_cases a; exact Tables.cast_eq (N := 288) (by decide) (i 0)))

/-- A table's word at a tile, as the index maps read it. -/
theorem at_eq (pf : pre0.Contents (Elt F)) (i : grid0.Coords) :
    pf.at 0 (Rect.unit (s := S288) (k0_off1 i) S1.size (k0_off1_inb i)) numel1_S1 = pf 0 (ix1 (tileOf i)) := by
  refine congrArg (pf 0) (funext fun a => Fin.ext ?_)
  fin_cases a
  exact Tables.cast_eq (N := 288) (by decide) (i 0)

/-- The four maps that follow the expert name the tile's expert's blocks. -/
theorem map1_eq (pf : pre0.Contents (Elt F)) (i : grid0.Coords) :
    cc0_transform_1 k0_off1_inb numel1_S1 pf i = ![1, (pf 0 (ix1 (tileOf i)) : BitVec 32).toNat, 0, 0] := by
  exact congrArg (fun w : BitVec 32 => (![1, w.toNat, 0, 0] : Fin 4 → ℕ)) (at_eq pf i)
theorem map3_eq (pf : pre0.Contents (Elt F)) (i : grid0.Coords) :
    cc0_transform_3 k0_off1_inb numel1_S1 pf i = ![1, (pf 0 (ix1 (tileOf i)) : BitVec 32).toNat, 0, 0] := by
  exact congrArg (fun w : BitVec 32 => (![1, w.toNat, 0, 0] : Fin 4 → ℕ)) (at_eq pf i)
theorem map2_eq (pf : pre0.Contents (Elt F)) (i : grid0.Coords) :
    cc0_transform_2 k0_off1_inb numel1_S1 pf i
      = ![(Scalar.addi 32#32 (pf 0 (ix1 (tileOf i)) : BitVec 32)).toNat, 0, 0] := by
  exact congrArg (fun w : BitVec 32 => (![(Scalar.addi 32#32 w).toNat, 0, 0] : Fin 3 → ℕ)) (at_eq pf i)
theorem map4_eq (pf : pre0.Contents (Elt F)) (i : grid0.Coords) :
    cc0_transform_4 k0_off1_inb numel1_S1 pf i
      = ![(Scalar.addi 32#32 (pf 0 (ix1 (tileOf i)) : BitVec 32)).toNat, 0, 0] := by
  exact congrArg (fun w : BitVec 32 => (![(Scalar.addi 32#32 w).toNat, 0, 0] : Fin 3 → ℕ)) (at_eq pf i)

/-- Where the weights are not copied anew the tile is not the first and its expert is the one of the tile before. -/
theorem not_anew {i : grid0.Coords} {a b : BitVec 32} (h : ¬ Anew i a b) : (i 0).val ≠ 0 ∧ a = b := by
  have h' := Tables.both_false (BitVec.ofNat 32 (i 0).val == 0#32) (a != b) h
  refine ⟨fun h0 => ?_, ?_⟩
  · rw [h0] at h'; exact absurd h'.1 (by decide)
  · have := h'.2
    simpa using this

/-- The tables say no tile has a negative number of rows. -/
abbrev Full : Prop := ∀ n : Fin 288, k0_cond3 (tbl m 1 (ix1 n) : BitVec 32) = 1#1 ∨ k0_cond2 (tbl m 1 (ix1 n) : BitVec 32) = 1#1

/-- Then every tile is written. -/
theorem not_idle (hF : Full m) (i : grid0.Coords) : idle0 (tbl m) 5 i = false := by
  have e : ∀ (off : Fin 1 → ℕ), off 0 = (i 0).val → ((tbl m).atD 1 off : BitVec 32) = tbl m 1 (ix1 (tileOf i)) := by
    intro off h
    have hb : ∀ a : Fin (pre0.ref 1).ty.shape.rank, off a + 1 ≤ (pre0.ref 1).ty.shape.size a := by
      intro a; fin_cases a
      show off 0 + 1 ≤ 288
      have := (i 0).isLt
      have hlt : (i 0).val < 288 := this
      omega
    refine (dif_pos hb).trans ?_
    refine congrArg (tbl m 1) (funext fun a => Fin.ext ?_)
    fin_cases a
    exact h
  show (!(k0_cond2 ((tbl m).atD 1 (k0_off3 i)) == 1#1) && !(k0_cond3 ((tbl m).atD 1 (k0_off4 i)) == 1#1)) = false
  rw [e _ (Tables.cast_eq (N := 288) (by decide) (i 0)), e _ (Tables.cast_eq (N := 288) (by decide) (i 0))]
  rcases hF (i 0) with h | h <;> rw [h] <;> simp

end Cert.Kernel9.Experts

end
-- ==== Proof.E9Frame.lean ====
module

public import proofs.«01_k».proof.Proof.E9Words
public import Idealize.ShloMosaic.Lib.Claim
public import Idealize.ShloMosaic.Lib.Pipeline.Kit

@[expose] public section

set_option maxRecDepth 16384

noncomputable section

namespace Cert.Kernel9.Experts

open Cert.Kernel9 Cert.Kernel9.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back after every tile. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body on the buffers of tile `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tile of a grid point is its number. -/
theorem tile_val (t : Fin grid0.N) : (tileOf (grid0.coords t)).val = t.val :=
  (by decide +kernel : ∀ t : Fin grid0.N, (tileOf (grid0.coords t)).val = t.val) t

variable (hO : Ok m) (hF : Full m) (c : Dev nD) (t : Fin (cfgM m hO).N)

/-! ## The contents of the buffers, tile by tile -/

/-- The gate-and-up weights of a tile's expert, as the copy holds them. -/
def copy0 : Vec F S4096x512 .bf16 := k0_pay1 (iblk m hO c 1 t)
/-- The down weights of a tile's expert, as the copy holds them. -/
def copy1 : Vec F S256x4096 .bf16 := k0_pay2 (iblk m hO c 3 t)
/-- The tile of the result that the body leaves. -/
def outAt : Vec F S256x4096 .bf16 :=
  tile (rows' c (grid0.coords t) (tbl m 1)) (iblk m hO c 0 t) (copy0 m hO c t) (iblk m hO c 2 t) (copy1 m hO c t) (iblk m hO c 4 t)

/-- Between two tiles the copies hold the weights of the tile just done. -/
def held (n : ℕ) : sProp 𝕄 :=
  iprop(∃ s0 : Vec F S4096x512 .bf16, ∃ s1 : Vec F S256x4096 .bf16,
    ⌜∀ t : Fin (cfgM m hO).N, t.val + 1 = n → s0 = copy0 m hO c t ∧ s1 = copy1 m hO c t⌝
      ∗ owns (c : Thread nD τ) scM0_0 fullShare s0 ∗ owns (c : Thread nD τ) scM0_1 fullShare s1)

/-- The proof data: every input buffer keeps its block, the output buffer ends at the tile, the copies are tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ n := iprop(held m hO c n.val ∗ (∃ r, prngReg c r) ∗ Pipeline.ΦT pre0 (tbl m) c)
  q _ := fullShare
  owed _ := 0

/-- The arrays are those the call finds. -/
theorem A_eq (w : Fin (cfgM m hO).W) : (dats m hO 0 c).A w = V m c (Pipeline.arrRef spec0 w) := by
  dsimp only [dats]

/-- The output buffer ends at the tile. -/

theorem after0_5 : (dats m hO 0 c).after 5 t = outAt m hO c t := by dsimp only [dats]; try rfl

/-- Each input's buffer holds its block at every point, before the body and after it. -/
theorem input (w : Fin (cfgM m hO).W) (h : w.val < 5) : (∀ d, (dats m hO 0 c).before w t d = iblk m hO c w t) ∧ (dats m hO 0 c).after w t = iblk m hO c w t := by
  change Fin 6 at w
  match w, h with
  | ⟨0, _⟩, _ | ⟨1, _⟩, _ | ⟨2, _⟩, _ | ⟨3, _⟩, _ | ⟨4, _⟩, _ =>
    exact ⟨fun d => ((dats m hO 0 c).before_in_eq_fetched _ rfl (fun _ => rfl) (fun _ _ _ => rfl) (fun _ => rfl) t d).trans rfl, rfl⟩

/-- Two tiles of one expert have one gate-and-up block and one down block. -/
theorem same_block (t' : Fin (cfgM m hO).N)
    (h : (tbl m 0 (ix1 (tileOf (grid0.coords t))) : BitVec 32) = tbl m 0 (ix1 (tileOf (grid0.coords t')))) :
    copy0 m hO c t = copy0 m hO c t' ∧ copy1 m hO c t = copy1 m hO c t' := by
  have i1 : ((cfgM m hO).win 1).index t = ((cfgM m hO).win 1).index t' := by
    show cc0_transform_1 k0_off1_inb numel1_S1 (tbl m) (grid0.coords t) = cc0_transform_1 k0_off1_inb numel1_S1 (tbl m) (grid0.coords t')
    rw [map1_eq, map1_eq, h]
  have i3 : ((cfgM m hO).win 3).index t = ((cfgM m hO).win 3).index t' := by
    show cc0_transform_3 k0_off1_inb numel1_S1 (tbl m) (grid0.coords t) = cc0_transform_3 k0_off1_inb numel1_S1 (tbl m) (grid0.coords t')
    rw [map3_eq, map3_eq, h]
  have e1 : iblk m hO c 1 t = iblk m hO c 1 t' := (dats m hO 0 c).fetched_congr 1 i1 rfl (iblk m hO c 1 t)
  have e3 : iblk m hO c 3 t = iblk m hO c 3 t' := (dats m hO 0 c).fetched_congr 3 i3 rfl (iblk m hO c 3 t)
  unfold copy0 copy1
  exact ⟨congrArg k0_pay1 e1, congrArg k0_pay2 e3⟩

/-! ## The body obligation, at a generic point -/

/-- What the body finds at a tile, -/
def bodyPre : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

include hF in
set_option maxHeartbeats 800000 in
/-- The body at any tile: its inputs are their blocks and its copies those of the tile before, so it ends with the tile
    written and with its own expert's copies. -/
theorem sound_body :
    bodyPre m hO c t ⊢ wp frame (wpE (defs₀ (F := F)) Variants.none c none) Set.univ (bodyAt0 (adm m hO) t) (fun _ => bodyPost m hO c t) := by
  unfold bodyPre bodyPost bodyAt0
  obtain ⟨b0, a0⟩ := input m hO c t 0 (show (0 : ℕ) < 5 by decide)
  obtain ⟨b1, a1⟩ := input m hO c t 1 (show (1 : ℕ) < 5 by decide)
  obtain ⟨b2, a2⟩ := input m hO c t 2 (show (2 : ℕ) < 5 by decide)
  obtain ⟨b3, a3⟩ := input m hO c t 3 (show (3 : ℕ) < 5 by decide)
  obtain ⟨b4, a4⟩ := input m hO c t 4 (show (4 : ℕ) < 5 by decide)
  simp only [b0, b1, b2, b3, b4]
  rw [show (dats m hO 0 c).owesAt () t.succ = (dats m hO 0 c).owesAt () t.castSucc from rfl,
    a0, a1, a2, a3, a4, after0_5]
  rw [show (dats m hO 0 c).Φ t.succ = iprop(held m hO c (t.val + 1) ∗ (∃ r, prngReg c r) ∗ Pipeline.ΦT pre0 (tbl m) c) from rfl,
    show (dats m hO 0 c).Φ t.castSucc = iprop(held m hO c t.val ∗ (∃ r, prngReg c r) ∗ Pipeline.ΦT pre0 (tbl m) c) from rfl, PhiT0_eq]
  unfold held outAt
  iintro ⟨⟨⟨%s0, %s1, %hs, HS0, HS1⟩, Hg, ⟨HT0, HT1⟩⟩, Ho, ⟨%d0, H0⟩, ⟨%d1, H1⟩, ⟨%d2, H2⟩, ⟨%d3, H3⟩, ⟨%d4, H4⟩, ⟨%d5, H5⟩⟩
  have hcopy : ¬ Anew (grid0.coords t) (here c (grid0.coords t) (tbl m 0)) (prev c (grid0.coords t) (tbl m 0)) →
      s0 = copy0 m hO c t ∧ s1 = copy1 m hO c t := by
    intro hn
    obtain ⟨h0, hab⟩ := not_anew hn
    have ht : (tileOf (grid0.coords t)).val = t.val := tile_val t
    have h0' : t.val ≠ 0 := fun h => h0 (ht.trans h)
    have hlt : t.val < (cfgM m hO).N := t.isLt
    let t' : Fin (cfgM m hO).N := ⟨t.val - 1, by omega⟩
    have ht' : (tileOf (grid0.coords t')).val = t.val - 1 := tile_val t'
    have hb : before (tileOf (grid0.coords t)) = tileOf (grid0.coords t') := Fin.ext (by
      show (tileOf (grid0.coords t)).val - 1 = _; rw [ht, ht'])
    have hab' := (here_eq c (grid0.coords t) (tbl m 0)).symm.trans (hab.trans (prev_eq c (grid0.coords t) (tbl m 0)))
    rw [hb] at hab'
    obtain ⟨e0, e1⟩ := same_block m hO c t t' hab'
    obtain ⟨q0, q1⟩ := hs t' (by show t.val - 1 + 1 = t.val; omega)
    exact ⟨q0.trans e0.symm, q1.trans e1.symm⟩
  have hrow : k0_cond3 (rows' c (grid0.coords t) (tbl m 1)) = 1#1 ∨ k0_cond2 (rows c (grid0.coords t) (tbl m 1)) = 1#1 := by
    exact (hF (tileOf (grid0.coords t))).imp (fun h => (congrArg k0_cond3 (rows'_eq c (grid0.coords t) (tbl m 1))).trans h)
      fun h => (congrArg k0_cond2 (rows_eq c (grid0.coords t) (tbl m 1))).trans h
  iapply (run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1)
    (copy0 m hO c t) (copy1 m hO c t)
    (by by_cases h : Anew (grid0.coords t) (here c (grid0.coords t) (tbl m 0)) (prev c (grid0.coords t) (tbl m 0))
        · rw [if_pos h]; rfl
        · rw [if_neg h]; exact (hcopy h).1)
    (by by_cases h : Anew (grid0.coords t) (here c (grid0.coords t) (tbl m 0)) (prev c (grid0.coords t) (tbl m 0))
        · rw [if_pos h]; rfl
        · rw [if_neg h]; exact (hcopy h).2)
    hrow Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr
      swap
      · isplitl [HS0]; · iexact HS0
        iexact HS1
      ipureintro
      intro t' h
      obtain rfl : t' = t := Fin.ext (by omega)
      exact ⟨rfl, rfl⟩
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body at a grid point is the body on that tile's buffers. -/
theorem defs₀_row :
    defs₀ (F := F) .tc (cfgM m hO).body ((cfgM m hO).bodyArgs t ((cfgM m hO).slots t)) = bodyAt0 (adm m hO) t := by
  unfold defs₀; rw [Defs.onTc_tc]

include hF in
/-- The body meets what the pipeline asks of it at every tile. -/
theorem body_obligation : BodyObligation (dats (F := F) m hO 0 c) (defs₀ (F := F)) Variants.none () Set.univ := fun t => by
  rw [bigSep_W0, bigSep_W0, defs₀_row m hO]
  have i5 : idle0 (tbl m) 5 (((pcfg0 (F := F)).gridAt (tbl m)).coords t) = false := not_idle m hF _
  simp only
  rw [i5]
  exact triple_restated (sound_body m hO hF c t) rfl .rfl fun _ => .rfl

/-! ## The run and the frame -/

include hO hF

set_option backward.isDefEq.respectTransparency.types false in
/-- The program runs to its end, with every array as the proof data say and all counters at zero. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop(held m hO c 0 ∗ (∃ r, prngReg c r) ∗ Pipeline.ΦT pre0 (tbl m) c)
      rw [PhiA0_eq]
      unfold held
      iintro ⟨⟨⟨⟨%d0, HS0⟩, ⟨%d1, HS1⟩⟩, Hg⟩, HT⟩
      isplitl [HS0 HS1]
      · iexists d0; iexists d1
        isplitr
        swap
        · isplitl [HS0]; · iexact HS0
          iexact HS1
        ipureintro
        intro t h
        omega
      isplitl [Hg]; · iexact Hg
      iexact HT)
    (hout := fun c => by
      show iprop(held m hO c _ ∗ (∃ r, prngReg c r) ∗ Pipeline.ΦT pre0 (tbl m) c) ⊢ Pipeline.ΦA spec0 c
      rw [PhiA0_eq]
      unfold held
      iintro ⟨⟨%d0, %d1, %hd, HS0, HS1⟩, Hg, -⟩
      isplitl [HS0 HS1]
      · isplitl [HS0]
        · iexists _; iexact HS0
        iexists _; iexact HS1
      iexact Hg)

/-- The run without the counters. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- Every argument ends as it was. -/
theorem unchanged : θ_run defs (onTc (τ := τ) (main (F := F))) ⟨m, fun _ => 0, ρ⟩ (fun r => Kept m r.2.mem) :=
  frame_of m ρ hO (dats m hO) (A_eq m hO) (run_main m ρ hO hF)

/-- The frame: every argument ends as it was and every counter at zero. -/
theorem frame : θ_run defs (onTc (τ := τ) (main (F := F))) ⟨m, fun _ => 0, ρ⟩ (fun r => Kept m r.2.mem
      ∧ r.2.sem = fun _ => 0) :=
  θ_run_and (unchanged m ρ hO hF) ((θ_run defs _ _).mono (fun _ h => h.2) (run_main_quiescent m ρ hO hF))

end Cert.Kernel9.Experts

end
-- ==== Proof.E9Pre.lean ====
/- Layer 1's experts: the tables a run may be launched on. -/
module

public import proofs.«01_k».proof.Proof.Expert
public import proofs.«01_k».proof.Proof.E9Frame

@[expose] public section

set_option maxRecDepth 16384

noncomputable section

namespace Cert.Kernel9.Experts

open Cert.Kernel9 Cert.Kernel9.Gen Idealize.ShloMosaic Idealize.ShloMosaic.TcCoe Idealize.SL.Sem

variable {F : FTy → Type} [FloatOps F] (m : (ℓ : Loc nD τ sig) → Buf (Elt F) ℓ)

/-- Where each name is one of the 32 experts, every block lies inside its array. -/
theorem inside (h : ∀ n : Fin 288, (tbl m 0 (ix1 n) : BitVec 32).toNat < 32) : Ok m := by
  have b (i : grid0.Coords) : (Scalar.addi 32#32 (tbl m 0 (ix1 (tileOf i)) : BitVec 32)).toNat < 128 :=
    lt_of_eq_of_lt (Expert.base_add 32 (by decide) _ (h (tileOf i))) (Nat.lt_of_lt_of_le (Nat.add_lt_add_left (h (tileOf i)) 32) (by decide))
  refine ⟨fun i => ⟨fun a => ?_, .inl rfl⟩, fun i => ⟨fun a => ?_, .inl rfl⟩, fun i => ⟨fun a => ?_, .inl rfl⟩, fun i => ⟨fun a => ?_, .inl rfl⟩⟩
  · have e := congrFun (map1_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (1 + 1) * 1 ≤ 4)
    | ⟨1, _⟩ => exact n
    | ⟨2, _⟩ => exact (by decide : (0 + 1) * 4096 ≤ 4096)
    | ⟨3, _⟩ => exact (by decide : (0 + 1) * 512 ≤ 512)
  · have e := congrFun (map2_eq (tbl m) i) a
    have n : ((Scalar.addi 32#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 512 ≤ 512)
  · have e := congrFun (map3_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (1 + 1) * 1 ≤ 4)
    | ⟨1, _⟩ => exact n
    | ⟨2, _⟩ => exact (by decide : (0 + 1) * 256 ≤ 256)
    | ⟨3, _⟩ => exact (by decide : (0 + 1) * 4096 ≤ 4096)
  · have e := congrFun (map4_eq (tbl m) i) a
    have n : ((Scalar.addi 32#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 4096 ≤ 4096)

/-- A count that is not negative is zero or positive, as the call tests it. -/
theorem zero_or_more (w : BitVec 32) (h : w.toNat < 2 ^ 31) : k0_cond3 w = 1#1 ∨ k0_cond2 w = 1#1 := by
  by_cases z : w = 0#32
  · exact .inl ((Tables.as_bool (w == 0#32)).mpr (beq_iff_eq.mpr z))
  · exact .inr ((Tables.as_bool (BitVec.slt 0#32 w)).mpr ((StableHlo.Predicate.ofBool_eq_one_iff _).mp ((Tables.sgt_zero w h).mpr z)))

/-- Where no count is negative, every tile's result is written. -/
theorem written (h : ∀ n : Fin 288, (tbl m 1 (ix1 n) : BitVec 32).toNat < 2 ^ 31) : Full m := fun n => zero_or_more _ (h n)

/-- What the arguments say of the tables. -/
theorem of_words (h : ∀ n : Fin 288, (m ((0 : Dev nD).tc.loc main_arg0) (ix1 n) : BitVec 32).toNat < 32
      ∧ (m ((0 : Dev nD).tc.loc main_arg1) (ix1 n) : BitVec 32).toNat < 2 ^ 31) :
    (∀ n : Fin 288, (tbl m 0 (ix1 n) : BitVec 32).toNat < 32) ∧ Ok m ∧ Full m := by
  have t0 : (tbl m 0 : S288.Idx → BitVec 32) = m ((0 : Dev nD).tc.loc main_arg0) := V_kept m 0 main_arg0 (by decide) (by decide)
  have t1 : (tbl m 1 : S288.Idx → BitVec 32) = m ((0 : Dev nD).tc.loc main_arg1) := V_kept m 0 main_arg1 (by decide) (by decide)
  have h0 (n : Fin 288) : (tbl m 0 (ix1 n) : BitVec 32).toNat < 32 := lt_of_eq_of_lt (congrArg BitVec.toNat (congrFun t0 (ix1 n))) (h n).1
  have h1 (n : Fin 288) : (tbl m 1 (ix1 n) : BitVec 32).toNat < 2 ^ 31 := lt_of_eq_of_lt (congrArg BitVec.toNat (congrFun t1 (ix1 n))) (h n).2
  exact ⟨h0, inside m h0, written m h1⟩

end Cert.Kernel9.Experts

end
-- ==== Proof.E9Value.lean ====
/- Layer 1's experts: what the call leaves in its result. -/
module

public import proofs.«01_k».proof.Proof.Expert
public import proofs.«01_k».proof.Proof.E9Pre
public import proofs.«01_k».proof.Proof.E8Value

@[expose] public section

set_option maxRecDepth 16384

noncomputable section

namespace Cert.Kernel9.Experts

open Cert.Kernel9 Cert.Kernel9.Gen Idealize.ShloMosaic Idealize.ShloMosaic.TcCoe Idealize.SL.Sem

/-- A tile, entry by entry: zero where it has no rows, else the expert's output. -/
theorem tile_apply (r : BitVec 32) (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) :
    tile r x0 w0 x2 w1 x4 (ix2 a d) = if r = 0#32 then (0 : EReal) else
      Expert.expert (fun k => x0 (ix2 a k)) (fun k f => w0 (ix2 k f)) (fun f => x2 (ix3 0 0 f)) (fun f => w1 (ix2 f d)) (x4 (ix3 0 0 d)) :=
  Cert.Kernel8.Experts.tile_apply r x0 w0 x2 w1 x4 a d

variable (m : (ℓ : Loc nD τ sig) → Buf (Elt Ideal) ℓ)

/-- The expert a table names is one of the 32. -/
def Named : Prop := ∀ n : Fin 288, (tbl m 0 (ix1 n) : BitVec 32).toNat < 32

/-- The reshaped gate-and-up biases, read off their argument. -/
theorem bias_gu (c : Dev nD) (n : Fin 128) (l : Fin 4) (e : Fin 32) (h : n.val = l.val * 32 + e.val) (f : Fin 512) :
    V m c main_v0 (ix3 n 0 f) = m (c.tc.loc main_arg4) (ix3 l e f) := by
  have : V m c main_v0 = shapeCast S128x1x512 (m (c.tc.loc main_arg4)) shapeCasts_S4x32x512_S128x1x512 := by
    unfold V hostOps0
    after_results
    try rfl
  rw [this]
  refine Idealize.ShloMosaic.shapeCast_apply _ _ _ _ ?_
  show (S4x32x512.rowMajor (ix3 l e f)).val = (S128x1x512.rowMajor (ix3 n 0 f)).val
  rw [Shape.rowMajor_val_three, Shape.rowMajor_val_three]
  show (l.val * 32 + e.val) * 512 + f.val = (n.val * 1 + 0) * 512 + f.val
  omega

/-- The reshaped down biases, read off their argument. -/
theorem bias_dn (c : Dev nD) (n : Fin 128) (l : Fin 4) (e : Fin 32) (h : n.val = l.val * 32 + e.val) (d : Fin 4096) :
    V m c main_v1 (ix3 n 0 d) = m (c.tc.loc main_arg6) (ix3 l e d) := by
  have : V m c main_v1 = shapeCast S128x1x4096 (m (c.tc.loc main_arg6)) shapeCasts_S4x32x4096_S128x1x4096 := by
    unfold V hostOps0
    after_results
    try rfl
  rw [this]
  refine Idealize.ShloMosaic.shapeCast_apply _ _ _ _ ?_
  show (S4x32x4096.rowMajor (ix3 l e d)).val = (S128x1x4096.rowMajor (ix3 n 0 d)).val
  rw [Shape.rowMajor_val_three, Shape.rowMajor_val_three]
  show (l.val * 32 + e.val) * 4096 + d.val = (n.val * 1 + 0) * 4096 + d.val
  omega

/-- The result's window at tile `t` names the `t`-th block of rows. -/
theorem index5 (hO : Ok m) (t : Fin (cfgM m hO).N) : ((pcfg0 (F := Ideal)).win (adm m hO) 5).index t (0 : Fin 2) = t.val ∧ ((pcfg0 (F := Ideal)).win (adm m hO) 5).index t (1 : Fin 2) = 0 :=
  (by decide +kernel : ∀ t : Fin grid0.N, cc0_transform_5 (grid0.coords t) 0 = t.val ∧ cc0_transform_5 (grid0.coords t) 1 = 0) t
/-- The rows' window names the same block. -/
theorem index0 (hO : Ok m) (t : Fin (cfgM m hO).N) : ((pcfg0 (F := Ideal)).win (adm m hO) 0).index t (0 : Fin 2) = t.val ∧ ((pcfg0 (F := Ideal)).win (adm m hO) 0).index t (1 : Fin 2) = 0 :=
  (by decide +kernel : ∀ t : Fin grid0.N, cc0_transform_0 (grid0.coords t) 0 = t.val ∧ cc0_transform_0 (grid0.coords t) 1 = 0) t

/-- The tiles fill the result. -/
theorem covers5 (hO : Ok m) : ((cfgM m hO).win 5).Covers := by
  refine ⟨(by decide : ∀ a : Fin 2, 0 < (![256, 4096] : Fin 2 → ℕ) a), fun β => ?_⟩
  have n0 : ((cfgM m hO).win 5).nblk (0 : Fin 2) = 288 := by unfold Pipeline.Window.nblk; show (73728 + 256 - 1) / 256 = 288; rfl
  have n1 : ((cfgM m hO).win 5).nblk (1 : Fin 2) = 1 := by unfold Pipeline.Window.nblk; show (4096 + 4096 - 1) / 4096 = 1; rfl
  have h0 : (β (0 : Fin 2)).val < 288 := lt_of_lt_of_eq (β (0 : Fin 2)).isLt n0
  have h1 : (β (1 : Fin 2)).val < 1 := lt_of_lt_of_eq (β (1 : Fin 2)).isLt n1
  refine ⟨⟨(β (0 : Fin 2)).val, h0⟩, flush0_5 (adm m hO) _, fun a => ⟨?_, .inl rfl⟩⟩
  obtain ⟨i0, i1⟩ := index5 m hO ⟨(β (0 : Fin 2)).val, h0⟩
  change Fin 2 at a
  match a with
  | ⟨0, _⟩ => exact i0
  | ⟨1, _⟩ => exact i1.trans (by show 0 = (β (1 : Fin 2)).val; omega)

/-- The words of a tile, read off the packed rows. -/
theorem words_apply (hO : Ok m) (c : Dev nD) (t : Fin (cfgM m hO).N) (a : Fin 256) (r : Fin 73728) (h : r.val = t.val * 256 + a.val) (k : Fin 2048) :
    iblk m hO c 0 t (ix2 a k) = m (c.tc.loc main_arg2) (ix2 r k) := by
  obtain ⟨i0, i1⟩ := index0 m hO t
  blk_ext! [iblk, V, h]
  · exact congrArg (· * 256 + a.val) i0
  · exact (congrArg (· * 2048 + k.val) i1).trans (by omega)

/-- The word a tile's expert is named by, as a number. -/
abbrev nameAt (t : Fin grid0.N) : ℕ := (tbl m 0 (ix1 (tileOf (grid0.coords t))) : BitVec 32).toNat

/-- The gate-and-up copy of a tile holds its expert's weights. -/
theorem gu_apply (hO : Ok m) (c : Dev nD) (t : Fin (cfgM m hO).N) (e : Fin 32) (h : e.val = nameAt m t) (k : Fin 4096) (f : Fin 512) :
    copy0 m hO c t (ix2 k f) = m (c.tc.loc main_arg3) (ix4 1 e k f) := by
  have i (a : Fin 4) : ((pcfg0 (F := Ideal)).win (adm m hO) 1).index t a = (![1, nameAt m t, 0, 0] : Fin 4 → ℕ) a :=
    congrFun (map1_eq (tbl m) (grid0.coords t)) a
  unfold copy0
  pointwise [k0_pay1]
  blk_ext! [iblk, V]
  · exact congrArg (· * 1 + 0) (i 0)
  · exact (i 1).trans (by show nameAt m t = _; omega)
  · exact (congrArg (· * 4096 + k.val) (i 2)).trans (by show 0 * 4096 + k.val = k.val; omega)
  · exact (congrArg (· * 512 + f.val) (i 3)).trans (by show 0 * 512 + f.val = f.val; omega)

/-- The down copy of a tile holds its expert's weights. -/
theorem dn_apply (hO : Ok m) (c : Dev nD) (t : Fin (cfgM m hO).N) (e : Fin 32) (h : e.val = nameAt m t) (f : Fin 256) (d : Fin 4096) :
    copy1 m hO c t (ix2 f d) = m (c.tc.loc main_arg5) (ix4 1 e f d) := by
  have i (a : Fin 4) : ((pcfg0 (F := Ideal)).win (adm m hO) 3).index t a = (![1, nameAt m t, 0, 0] : Fin 4 → ℕ) a :=
    congrFun (map3_eq (tbl m) (grid0.coords t)) a
  unfold copy1
  pointwise [k0_pay2]
  blk_ext! [iblk, V]
  · exact congrArg (· * 1 + 0) (i 0)
  · exact (i 1).trans (by show nameAt m t = _; omega)
  · exact (congrArg (· * 256 + f.val) (i 2)).trans (by show 0 * 256 + f.val = f.val; omega)
  · exact (congrArg (· * 4096 + d.val) (i 3)).trans (by show 0 * 4096 + d.val = d.val; omega)

/-- The gate-and-up bias of a tile is its expert's. -/
theorem gub_apply (hO : Ok m) (c : Dev nD) (t : Fin (cfgM m hO).N) (e : Fin 32) (h : e.val = nameAt m t) (f : Fin 512) :
    iblk m hO c 2 t (ix3 0 0 f) = m (c.tc.loc main_arg4) (ix3 1 e f) := by
  have i (a : Fin 3) : ((pcfg0 (F := Ideal)).win (adm m hO) 2).index t a = (![32 + nameAt m t, 0, 0] : Fin 3 → ℕ) a := by
    refine (congrFun (map2_eq (tbl m) (grid0.coords t)) a).trans (congrArg (fun n : ℕ => (![n, 0, 0] : Fin 3 → ℕ) a) ?_)
    exact Expert.base_add 32 (by decide) _ (show nameAt m t < 32 by omega)
  have j : iblk m hO c 2 t (ix3 0 0 f) = V m c main_v0 (ix3 ⟨32 + e.val, by omega⟩ 0 f) := by
    refine congrArg (V m c main_v0) (show ((spec0 2).arr.view.slice (((pcfg0 (F := Ideal)).win (adm m hO) 2).rect t)).emb (ix3 0 0 f) = ix3 ⟨32 + e.val, by omega⟩ 0 f from ?_)
    refine funext fun a => Fin.ext ?_
    change Fin 3 at a
    match a with
    | ⟨0, _⟩ => exact Eq.trans (by blk_simp; rfl) ((i 0).trans (show 32 + nameAt m t = 32 + e.val by omega))
    | ⟨1, _⟩ => exact Eq.trans (by blk_simp; rfl) (i 1)
    | ⟨2, _⟩ => exact Eq.trans (by blk_simp) ((congrArg (· * 512 + f.val) (i 2)).trans (by show 0 * 512 + f.val = f.val; omega))
  exact j.trans (bias_gu m c _ 1 e rfl f)

/-- The down bias of a tile is its expert's. -/
theorem dnb_apply (hO : Ok m) (c : Dev nD) (t : Fin (cfgM m hO).N) (e : Fin 32) (h : e.val = nameAt m t) (d : Fin 4096) :
    iblk m hO c 4 t (ix3 0 0 d) = m (c.tc.loc main_arg6) (ix3 1 e d) := by
  have i (a : Fin 3) : ((pcfg0 (F := Ideal)).win (adm m hO) 4).index t a = (![32 + nameAt m t, 0, 0] : Fin 3 → ℕ) a := by
    refine (congrFun (map4_eq (tbl m) (grid0.coords t)) a).trans (congrArg (fun n : ℕ => (![n, 0, 0] : Fin 3 → ℕ) a) ?_)
    exact Expert.base_add 32 (by decide) _ (show nameAt m t < 32 by omega)
  have j : iblk m hO c 4 t (ix3 0 0 d) = V m c main_v1 (ix3 ⟨32 + e.val, by omega⟩ 0 d) := by
    refine congrArg (V m c main_v1) (show ((spec0 4).arr.view.slice (((pcfg0 (F := Ideal)).win (adm m hO) 4).rect t)).emb (ix3 0 0 d) = ix3 ⟨32 + e.val, by omega⟩ 0 d from ?_)
    refine funext fun a => Fin.ext ?_
    change Fin 3 at a
    match a with
    | ⟨0, _⟩ => exact Eq.trans (by blk_simp; rfl) ((i 0).trans (show 32 + nameAt m t = 32 + e.val by omega))
    | ⟨1, _⟩ => exact Eq.trans (by blk_simp; rfl) (i 1)
    | ⟨2, _⟩ => exact Eq.trans (by blk_simp) ((congrArg (· * 4096 + d.val) (i 2)).trans (by show 0 * 4096 + d.val = d.val; omega))
  exact j.trans (bias_dn m c _ 1 e rfl d)

/-- The experts' outputs, out of the arguments the call finds. -/
abbrev outputs (c : Dev nD) : Fin 73728 → Fin 4096 → EReal :=
  Expert.result (N := 288) (M := 73728) rfl 1 (m (c.tc.loc main_arg0)) (m (c.tc.loc main_arg1)) (m (c.tc.loc main_arg2)) (m (c.tc.loc main_arg3)) (m (c.tc.loc main_arg4)) (m (c.tc.loc main_arg5)) (m (c.tc.loc main_arg6))

/-- A row of a tile, as the arguments have it. -/
theorem row_eq (hO : Ok m) (hN : Named m) (c : Dev nD) (t : Fin (cfgM m hO).N) (a : Fin 256) (r : Fin 73728) (h : r.val = t.val * 256 + a.val) (d : Fin 4096) :
    (if rows' c (grid0.coords t) (tbl m 1) = 0#32 then (0 : EReal) else
      Expert.expert (fun k => iblk m hO c 0 t (ix2 a k)) (fun k f => copy0 m hO c t (ix2 k f)) (fun f => iblk m hO c 2 t (ix3 0 0 f))
        (fun f => copy1 m hO c t (ix2 f d)) (iblk m hO c 4 t (ix3 0 0 d)))
    = outputs m c r d := by
  have hn : tileOf (grid0.coords t) = Expert.tileOfRow (N := 288) rfl r := Fin.ext (by rw [tile_val t]; show t.val = r.val / 256; omega)
  have t0 : (tbl m 0 : S288.Idx → BitVec 32) = m (c.tc.loc main_arg0) := by
    obtain rfl : c = 0 := Subsingleton.elim _ _
    exact V_kept m 0 main_arg0 (by decide) (by decide)
  have t1 : (tbl m 1 : S288.Idx → BitVec 32) = m (c.tc.loc main_arg1) := by
    obtain rfl : c = 0 := Subsingleton.elim _ _
    exact V_kept m 0 main_arg1 (by decide) (by decide)
  have w1 : rows' c (grid0.coords t) (tbl m 1) = m (c.tc.loc main_arg1) (ix1 (Expert.tileOfRow (N := 288) rfl r)) :=
    (rows'_eq c (grid0.coords t) _).trans ((congrFun t1 _).trans (by rw [hn]))
  have w0 : (tbl m 0 (ix1 (tileOf (grid0.coords t))) : BitVec 32) = m (c.tc.loc main_arg0) (ix1 (Expert.tileOfRow (N := 288) rfl r)) :=
    (congrFun t0 _).trans (by rw [hn])
  have he : (Expert.pick (m (c.tc.loc main_arg0) (ix1 (Expert.tileOfRow (N := 288) rfl r)))).val = nameAt m t := by
    show BitVec.toNat _ % 32 = BitVec.toNat _
    rw [← w0]
    exact Nat.mod_eq_of_lt (hN _)
  unfold outputs Expert.result
  rw [w1]
  refine if_congr Iff.rfl rfl ?_
  congr 1
  · exact funext fun k => words_apply m hO c t a r h k
  · exact funext fun k => funext fun f => gu_apply m hO c t _ he k f
  · exact funext fun f => gub_apply m hO c t _ he f
  · exact funext fun f => dn_apply m hO c t _ he f d
  · exact dnb_apply m hO c t _ he d

/-- After the run, the result array is the experts' outputs row by row. -/
theorem final (hO : Ok m) (hN : Named m) (c : Dev nD) :
    (dats m hO 0 c).arrAt 5 (cfgM m hO).N = fun i : S73728x4096.Idx => outputs m c (i 0) (i 1) := by
  refine (dats m hO 0 c).arrAt_eq_of_covers 5 _ (covers5 m hO) fun t hf y => ?_
  blk_simp
  rw [after0_5]
  change S256x4096.Idx at y
  idx_vars y
  unfold outAt
  refine (tile_apply _ _ _ _ _ _ y0 y1).trans ?_
  obtain ⟨i0, i1⟩ := index5 m hO t
  have r0 : (((spec0 5).arr.view.slice (((pcfg0 (F := Ideal)).win (adm m hO) 5).rect t)).emb (ix2 y0 y1) (0 : Fin 2)).val = t.val * 256 + y0.val := by
    refine Eq.trans ?_ (congrArg (· * 256 + y0.val) i0)
    blk_simp
  have r1 : ((spec0 5).arr.view.slice (((pcfg0 (F := Ideal)).win (adm m hO) 5).rect t)).emb (ix2 y0 y1) (1 : Fin 2) = y1 := by
    refine Fin.ext ?_
    refine Eq.trans ?_ ((congrArg (· * 4096 + y1.val) i1).trans (by show 0 * 4096 + y1.val = y1.val; omega))
    blk_simp
  exact (row_eq m hO hN c t y0 _ r0 y1).trans (congrArg (fun z => outputs m c _ z) r1.symm)

/-- The call runs, leaves the experts' outputs in its result, and leaves its arguments as they were. -/
theorem value (ρ : Dev nD → PrngReg) (hO : Ok m) (hF : Full m) (hN : Named m) : θ_run defs (onTc (τ := τ) (main (F := Ideal))) ⟨m, fun _ => 0, ρ⟩ (fun r => ∀ c : Dev nD,
      r.2.mem ((c.tc : Thread nD τ).loc main_v2) = (fun i : S73728x4096.Idx => outputs m c (i 0) (i 1))
      ∧ Kept m r.2.mem) :=
  (θ_run defs _ _).mono (fun _ h c => ⟨((h.1 c).1 5).trans (final m hO hN c), h.2⟩) (θ_run_and (run_main m ρ hO hF) (unchanged m ρ hO hF))

end Cert.Kernel9.Experts

end
-- ==== Proof.E9Ref.lean ====
/- Layer 1's experts: the plain formula, entry by entry. -/
module

public import proofs.«01_k».proof.Proof.Expert
public import proofs.«01_k».proof.Proof.E8Ref
public import proofs.«01_k».proof.Proof.Gen.Reference9Ideal.Read

@[expose] public section

set_option maxRecDepth 16384

noncomputable section

namespace Cert.Reference9Ideal.Experts

open Idealize.ShloMosaic Idealize.ShloMosaic.TcCoe Idealize.SL.Sem
open Cert.Reference9Ideal Cert.Reference9Ideal.Gen Cert.Reference9Ideal.Read

variable (x0 x1 : S288.Idx → BitVec 32) (x2 : S73728x2048.Idx → BitVec 32) (x3 : S4x32x4096x512.Idx → EReal) (x4 : S4x32x512.Idx → EReal)
  (x5 : S4x32x256x4096.Idx → EReal) (x6 : S4x32x4096.Idx → EReal)

/-- The unpacked rows: the first numbers of the words, then the second. -/
theorem ref_rows_lo (r : Fin 73728) (k : Fin 2048) :
    val_main_v6 (F := Ideal) x2 (ix2 r (Fin.castLE (show 2048 ≤ 4096 by decide) k)) = Expert.lo (x2 (ix2 r k)) :=
  Cert.Reference8Ideal.Experts.ref_rows_lo x2 r k

theorem ref_rows_hi (r : Fin 73728) (k : Fin 2048) :
    val_main_v6 (F := Ideal) x2 (ix2 r (Fin.natAdd 2048 k)) = Expert.hi (x2 (ix2 r k)) :=
  Cert.Reference8Ideal.Experts.ref_rows_hi x2 r k

/-- The gate-and-up features of a row under an expert. -/
theorem ref_feature (e : Fin 32) (r : Fin 73728) (f : Fin 512) :
    val_main_v33 (F := Ideal) x2 x3 x4 (ix3 e r f) = Expert.feature (fun k => x2 (ix2 r k)) (fun k => x3 (ix4 1 e k f)) (x4 (ix3 1 e f)) := by
  pointwise [val_main_v33, val_main_v32, val_main_v31, val_main_v30, val_main_v29, val_main_v28, val_main_v27, val_main_v26, val_main_v25]
  unfold Expert.feature
  refine congrArg (· + x4 (ix3 1 e f)) ?_
  refine (Fin.sum_univ_add (a := 2048) (b := 2048) fun k : Fin 4096 => x3 (ix4 1 e k f) * val_main_v6 (F := Ideal) x2 (ix2 r k)).trans ?_
  refine congrArg₂ (· + ·) (Finset.sum_congr rfl fun k _ => ?_) (Finset.sum_congr rfl fun k _ => ?_)
  · exact (mul_comm _ _).trans (congrArg (· * _) (ref_rows_lo x2 r k))
  · exact (mul_comm _ _).trans (congrArg (· * _) (ref_rows_hi x2 r k))

/-- The activations. -/
theorem ref_act (e : Fin 32) (r : Fin 73728) (f : Fin 256) :
    val_main_v50 (F := Ideal) x2 x3 x4 (ix3 e r f) = Expert.act (val_main_v33 (F := Ideal) x2 x3 x4 (ix3 e r (Fin.castLE (show 256 ≤ 512 by decide) f)))
      (val_main_v33 (F := Ideal) x2 x3 x4 (ix3 e r (Fin.natAdd 256 f))) := by
  pointwise [val_main_v50, val_main_v49, val_main_v48, val_main_cst_9, val_main_v47, val_main_v46, val_main_v45, val_main_cst_8, val_main_v44, val_main_v43, val_main_cst_7,
    val_main_v42, val_main_v41, val_main_v40, val_main_v39, val_main_cst_6, val_main_v38, val_main_v37, val_main_v36, val_main_v35, val_main_cst_3, val_main_v34, val_main_call1_v0, val_main_cst_4, val_main_call1_v1, val_main_call1_v2, val_main_call1_v3, val_main_cst_5, val_main_call1_v4]
  rfl

/-- An expert's output on a row. -/
theorem ref_out (e : Fin 32) (r : Fin 73728) (d : Fin 4096) :
    val_main_v58 (F := Ideal) x2 x3 x4 x5 x6 (ix3 e r d) = (∑ f : Fin 256, val_main_v50 (F := Ideal) x2 x3 x4 (ix3 e r f) * x5 (ix4 1 e f d)) + x6 (ix3 1 e d) := by
  pointwise [val_main_v58, val_main_v57, val_main_v56, val_main_v55, val_main_v54, val_main_v53, val_main_v52, val_main_v51]

/-- The gate of an expert on a row. -/
theorem ref_gate (r : Fin 73728) (e : Fin 32) :
    val_main_v24 (F := Ideal) x0 x1 (ix2 r e) = if x0 (ix1 (Expert.tileOfRow (N := 288) rfl r)) = BitVec.ofNat 32 e.val ∧ IntOp.cmpi .sgt (x1 (ix1 (Expert.tileOfRow (N := 288) rfl r))) 0#32 = 1#1 then 1 else 0 :=
  Cert.Reference8Ideal.Experts.ref_gate x0 x1 r e

/-- The gated sum over the experts. -/
theorem ref_sum (r : Fin 73728) (d : Fin 4096) :
    val_main_v60 (F := Ideal) x0 x1 x2 x3 x4 x5 x6 (ix2 r d) = ∑ e : Fin 32, val_main_v24 (F := Ideal) x0 x1 (ix2 r e) * val_main_v58 (F := Ideal) x2 x3 x4 x5 x6 (ix3 e r d) := by
  pointwise [val_main_v60, val_main_v59]

/-- The plain formula's result, given tables of names and counts. -/
theorem ref_final (h : ∀ n : Fin 288, (x0 (ix1 n)).toNat < 32 ∧ (x1 (ix1 n)).toNat < 2 ^ 31) (r : Fin 73728) (d : Fin 4096) :
    val_main_v60 (F := Ideal) x0 x1 x2 x3 x4 x5 x6 (ix2 r d) = Expert.result (N := 288) (M := 73728) rfl 1 x0 x1 x2 x3 x4 x5 x6 r d := by
  obtain ⟨h0, h1⟩ := h (Expert.tileOfRow (N := 288) rfl r)
  have named (e : Fin 32) := Expert.named _ e h0
  rw [ref_sum]
  unfold Expert.result
  by_cases z : x1 (ix1 (Expert.tileOfRow (N := 288) rfl r)) = 0#32
  · rw [if_pos z]
    refine Finset.sum_eq_zero fun e _ => ?_
    rw [ref_gate, if_neg (fun k => (Tables.sgt_zero _ h1).mp k.2 z), zero_mul]
  · rw [if_neg z, Finset.sum_eq_single (Expert.pick (x0 (ix1 (Expert.tileOfRow (N := 288) rfl r))))]
    · rw [ref_gate, if_pos ⟨(named _).mpr rfl, (Tables.sgt_zero _ h1).mpr z⟩, one_mul, ref_out]
      unfold Expert.expert
      refine congrArg (· + _) (Finset.sum_congr rfl fun f _ => ?_)
      rw [ref_act, ref_feature, ref_feature]
    · intro e _ he
      rw [ref_gate, if_neg (fun k => he ((named e).mp k.1)), zero_mul]
    · exact fun k => absurd (Finset.mem_univ _) k

end Cert.Reference9Ideal.Experts

end
-- ==== Proof.E10Same.lean ====
/- The idealized program of layer 2's experts is the program itself. -/
module

public import proofs.«01_k».proof.Proof.Gen.Kernel10
public import proofs.«01_k».proof.Proof.Gen.Kernel10Ideal

@[expose] public section

set_option maxRecDepth 16384

noncomputable section

namespace Cert.Kernel10Ideal.Experts

open Idealize.ShloMosaic Idealize.ShloMosaic.TcCoe Idealize.SL.Sem

variable {F : FTy → Type} [FloatOps F]

set_option maxHeartbeats 1000000 in
/-- The two programs' bodies are one. -/
theorem bodies : Cert.Kernel10.defs₀ (F := F) = Cert.Kernel10Ideal.defs₀ := by
  refine congrArg Defs.onTc (funext fun l => funext fun a => ?_)
  match l, a with
  | 0, (t, s) => rfl

set_option maxHeartbeats 1000000 in
/-- What a run of the program does, a run of the idealized program does. -/
theorem transfer (s) (Q : _ → Prop) (h : θ_run Cert.Kernel10.defs (onTc (τ := Cert.Kernel10.τ) (Cert.Kernel10.main (F := F))) s Q) :
    θ_run Cert.Kernel10Ideal.defs (onTc (τ := Cert.Kernel10Ideal.τ) (Cert.Kernel10Ideal.main (F := F))) s Q := by
  rw [← show Cert.Kernel10.defs (F := F) = Cert.Kernel10Ideal.defs from congrArg (Pipeline.defs (Cert.Kernel10.pcfgs (F := F))) bodies]
  exact h

end Cert.Kernel10Ideal.Experts

end
-- ==== Proof.E10Kit.lean ====
module

public import proofs.«01_k».proof.Proof.Gen.Kernel10.Launch
public import proofs.«01_k».proof.Proof.Gen.Kernel10.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel10.Experts

open Cert.Kernel10 Cert.Kernel10.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host part -/

/-- What each buffer holds when the call begins. -/
abbrev V (c : Dev nD) (b : Ref sig .tc) : Buf (Elt F) ((c : Thread nD τ).loc b) := StableHlo.after hostOps0 (fun b => m (c, b)) b

/-- The reshapes on the host make no buffer of their own. -/
theorem hostOps0_fresh : (hostOps0 : List (HloOp τ sig (Elt F))).Forall fun op => op.fresh = ∅ := by
  simp only [List.Forall]; repeat' constructor

/-- The host part of the program leads up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is found by the call as it was at launch. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The two tables, as the call finds them. -/
def tbl : pre0.Contents (Elt F) := fun j => V m (0 : Dev nD) (pre0.ref j)
/-- They are those of the only device. -/
theorem V_pre (c : Dev nD) (j : Fin 2) : V m c (pre0.ref j) = tbl m j := by
  obtain rfl : c = 0 := Subsingleton.elim _ _; rfl
/-- Every block the tables ask for lies inside its array. -/
abbrev Ok : Prop := ok0 (F := F) (tbl m)
/-- The tables as ones the pipeline may run on, -/
abbrev adm (hO : Ok m) : (pcfg0 (F := F)).Adm := ⟨tbl m, hO⟩
/-- and the pipeline on them. -/
abbrev cfgM (hO : Ok m) : Pipeline.Cfg sig Λ₀ := cfg0 (adm m hO)

/-- The tables as the body is handed them. -/
abbrev tbM0_0 : Memref sig .tc .smem S288 .i32 := Memref.whole main_arg0
abbrev htbM0_0 : tbM0_0.IsWhole := Memref.isWhole_whole _
abbrev tbM0_1 : Memref sig .tc .smem S288 .i32 := Memref.whole main_arg1
abbrev htbM0_1 : tbM0_1.IsWhole := Memref.isWhole_whole _

/-- A table's contents, -/
abbrev TbBuf0 (c : Dev nD) {S : Shape} {e : EltTy} (M : Memref sig .tc .smem S e) : Type := Buf (Elt F) (M.view.loc (c : Thread nD τ))
/-- and half of the right to read it. -/
abbrev tbPt0 (c : Dev nD) {S : Shape} {e : EltTy} (M : Memref sig .tc .smem S e) (f : TbBuf0 (F := F) c M) : sProp 𝕄 :=
  M.view.loc (c : Thread nD τ) ↦{fullShare.right} f

/-- What the body holds of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The arguments -/

/-- Every argument ends as it was. -/
abbrev Kept (mem : (ℓ : Loc nD τ sig) → Buf (Elt F) ℓ) : Prop := ∀ c : Dev nD,
      mem (c.tc.loc main_arg0) = m (c.tc.loc main_arg0)
      ∧ mem (c.tc.loc main_arg1) = m (c.tc.loc main_arg1)
      ∧ mem (c.tc.loc main_arg2) = m (c.tc.loc main_arg2)
      ∧ mem (c.tc.loc main_arg3) = m (c.tc.loc main_arg3)
      ∧ mem (c.tc.loc main_arg4) = m (c.tc.loc main_arg4)
      ∧ mem (c.tc.loc main_arg5) = m (c.tc.loc main_arg5)
      ∧ mem (c.tc.loc main_arg6) = m (c.tc.loc main_arg6)

/-- A run that leaves the arrays as the proof data say leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => Kept m r.2.mem) :=
  (θ_run defs _ _).mono (fun _ h c => ⟨((h c).2 _ (by decide : main_arg0 ∈ Pipeline.restRefs sig spec0)).trans (V_kept m c _ (by decide) (by decide)),
      ((h c).2 _ (by decide : main_arg1 ∈ Pipeline.restRefs sig spec0)).trans (V_kept m c _ (by decide) (by decide)),
      ((h c).1 0).trans (((dats 0 c).arrAt_in 0 rfl _).trans ((hA c 0).trans (V_kept m c main_arg2 (by decide) (by decide)))),
      ((h c).1 1).trans (((dats 0 c).arrAt_in 1 rfl _).trans ((hA c 1).trans (V_kept m c main_arg3 (by decide) (by decide)))),
      ((h c).2 _ (by decide : main_arg4 ∈ Pipeline.restRefs sig spec0)).trans (V_kept m c _ (by decide) (by decide)),
      ((h c).1 3).trans (((dats 0 c).arrAt_in 3 rfl _).trans ((hA c 3).trans (V_kept m c main_arg5 (by decide) (by decide)))),
      ((h c).2 _ (by decide : main_arg6 ∈ Pipeline.restRefs sig spec0)).trans (V_kept m c _ (by decide) (by decide))⟩) h

/-! ## The buffers -/

/-- The two copies of the weights. -/
abbrev scM0_0 : Memref sig .tc .vmem S4096x512 .bf16 := Memref.whole cc0_scratch0
abbrev scM0_1 : Memref sig .tc .vmem S256x4096 .bf16 := Memref.whole cc0_scratch1

/-- What the call owns beside the windows: the copies and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel10.Experts

end
-- ==== Proof.E10Run.lean ====
module

public import proofs.«01_k».proof.Proof.Known
public import proofs.«01_k».proof.Proof.E10Kit
public import proofs.«01_k».proof.Proof.E8Run
public import Idealize.ShloMosaic.Lib.VecWindow
public import Idealize.ShloMosaic.Lib.Pipeline.ValueKit

@[expose] public section

set_option maxRecDepth 16384

noncomputable section

namespace Cert.Kernel10.Experts

open Cert.Known Cert.Kernel10 Cert.Kernel10.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one tile of tokens computes -/

/-- The expert number the body reads for its own tile. -/
def here (c : Dev nD) (i : grid0.Coords) (xt0 : TbBuf0 (F := F) c tbM0_0) : BitVec 32 :=
  View.readAt (Elt F) tbM0_0.view (Rect.unit (s := S288) (k0_off1 i) S1.size (k0_off1_inb i)).toLoadRect xt0
    (Shape.Idx.first (numel1_S1 ▸ Nat.one_pos))
/-- The expert number the body reads for the tile before. -/
def prev (c : Dev nD) (i : grid0.Coords) (xt0 : TbBuf0 (F := F) c tbM0_0) : BitVec 32 :=
  View.readAt (Elt F) tbM0_0.view (Rect.unit (s := S288) (k0_off2 i) S1.size (k0_off2_inb i)).toLoadRect xt0
    (Shape.Idx.first (numel1_S1 ▸ Nat.one_pos))
/-- The number of valid rows of the tile, as the first guard reads it. -/
def rows (c : Dev nD) (i : grid0.Coords) (xt1 : TbBuf0 (F := F) c tbM0_1) : BitVec 32 :=
  View.readAt (Elt F) tbM0_1.view (Rect.unit (s := S288) (k0_off3 i) S1.size (k0_off3_inb i)).toLoadRect xt1
    (Shape.Idx.first (numel1_S1 ▸ Nat.one_pos))
/-- The number of valid rows of the tile, as the second guard reads it. -/
def rows' (c : Dev nD) (i : grid0.Coords) (xt1 : TbBuf0 (F := F) c tbM0_1) : BitVec 32 :=
  View.readAt (Elt F) tbM0_1.view (Rect.unit (s := S288) (k0_off4 i) S1.size (k0_off4_inb i)).toLoadRect xt1
    (Shape.Idx.first (numel1_S1 ▸ Nat.one_pos))

/-- The body copies the weights anew: at the first tile, and where the expert is not that of the tile before. -/
abbrev Anew (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two halves of the copies and of the bias a tile is worked out of. -/
abbrev upper : Rect S4096x512 := Rect.unit ![0, 0] S2048x512.size inb_S4096x512_S2048x512_0_0
abbrev lower : Rect S4096x512 := Rect.unit ![2048, 0] S2048x512.size inb_S4096x512_S2048x512_2048_0
abbrev left : Rect S256x4096 := Rect.unit ![0, 0] S256x2048.size inb_S256x4096_S256x2048_0_0
abbrev right : Rect S256x4096 := Rect.unit ![0, 2048] S256x2048.size inb_S256x4096_S256x2048_0_2048

/-- What the body stores for a tile that has rows: the left half of the columns, then the right half, out of the
    tile's words `x0`, the two copied weights `w0`, `w1` and the two biases `x2`, `x4`. -/
def halves (x0 : Vec F S256x2048 .i32) (w0 : Vec F S4096x512 .bf16) (x2 : Vec F S1x1x512 .f32)
    (w1 : Vec F S256x4096 .bf16) (x4 : Vec F S1x1x4096 .f32) : List (View.Piece (Elt F) S256x4096 .bf16) :=
  [⟨Rect.unit (s := S256x4096) ![0, 2048] S256x2048.size inb_S256x4096_S256x2048_0_2048,
      k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048))⟩,
   ⟨Rect.unit (s := S256x4096) ![0, 0] S256x2048.size inb_S256x4096_S256x2048_0_0,
      k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0))⟩]

/-- The two halves fill the tile. -/
theorem halves_cover (x0 : Vec F S256x2048 .i32) (w0 : Vec F S4096x512 .bf16) (x2 : Vec F S1x1x512 .f32)
    (w1 : Vec F S256x4096 .bf16) (x4 : Vec F S1x1x4096 .f32) (y : S256x4096.Idx) :
    ∃ pc ∈ halves x0 w0 x2 w1 x4, y ∈ pc.1.set :=
  View.cover_of_tiledL (halves x0 w0 x2 w1 x4) S256x2048.size (by sl_kernel_rfl) y

/-- The tile the body leaves: zeros where the tile has no rows, else the two halves. -/
def tile (r : BitVec 32) (x0 : Vec F S256x2048 .i32) (w0 : Vec F S4096x512 .bf16) (x2 : Vec F S1x1x512 .f32)
    (w1 : Vec F S256x4096 .bf16) (x4 : Vec F S1x1x4096 .f32) : Vec F S256x4096 .bf16 :=
  if k0_cond3 r = 1#1 then k0_pay5 (F := F) else View.canon (halves x0 w0 x2 w1 x4)

set_option maxHeartbeats 1000000 in
/-- The body is the one of the call it is shared with. -/
theorem bodies : Cert.Kernel8.defs₀ (F := F) = defs₀ := by
  refine congrArg Defs.onTc (funext fun l => funext fun a => ?_)
  match l, a with
  | 0, (t, s) => rfl

set_option maxHeartbeats 2000000 in
/-- One tile's body, on any buffers: the inputs stay, the two copies hold the tile's expert's weights if they are made
    anew and stay otherwise, and the output buffer ends at the tile. -/
theorem run (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x512 .f32) (harg5 : arg5.IsWhole) (arg6 : Memref sig .tc .vmem S1x1x256x4096 .f32) (harg6 : arg6.IsWhole) (arg7 : Memref sig .tc .vmem S1x1x4096 .f32) (harg7 : arg7.IsWhole) (arg8 : Memref sig .tc .vmem S256x4096 .bf16) (harg8 : arg8.IsWhole) (arg9 : Memref sig .tc .vmem S4096x512 .bf16) (harg9 : arg9.IsWhole) (arg10 : Memref sig .tc .vmem S256x4096 .bf16) (harg10 : arg10.IsWhole)
    (x0 : Vec F S256x2048 .i32) (x1 : Vec F S1x1x4096x512 .f32) (x2 : Vec F S1x1x512 .f32) (x3 : Vec F S1x1x256x4096 .f32) (x4 : Vec F S1x1x4096 .f32) (s0 : Vec F S4096x512 .bf16) (s1 : Vec F S256x4096 .bf16)
    (xt0 : TbBuf0 (F := F) c tbM0_0) (xt1 : TbBuf0 (F := F) c tbM0_1)
    (w0 : Vec F S4096x512 .bf16) (w1 : Vec F S256x4096 .bf16)
    (hw0 : (if Anew i (here c i xt0) (prev c i xt0) then k0_pay1 x1 else s0) = w0)
    (hw1 : (if Anew i (here c i xt0) (prev c i xt0) then k0_pay2 x3 else s1) = w1)
    (hr : k0_cond3 (rows' c i xt1) = 1#1 ∨ k0_cond2 (rows c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile (rows' c i xt1) x0 w0 x2 w1 x4) ∗ owns (c : Thread nD τ) arg9 fullShare w0 ∗ owns (c : Thread nD τ) arg10 fullShare w1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  have h := Cert.Kernel8.Experts.run c i arg3 harg3 arg4 harg4 arg5 harg5 arg6 harg6 arg7 harg7 arg8 harg8 arg9 harg9 arg10 harg10 x0 x1 x2 x3 x4 s0 s1 xt0 xt1 w0 w1 hw0 hw1 hr E K
  rw [bodies] at h
  exact h

end Cert.Kernel10.Experts

end
-- ==== Proof.E10Words.lean ====
module

public import proofs.«01_k».proof.Proof.E10Run
public import proofs.«01_k».proof.Proof.Tables

@[expose] public section

set_option maxRecDepth 16384

noncomputable section

namespace Cert.Kernel10.Experts

open Cert.Kernel10 Cert.Kernel10.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## The words of the two tables -/

/-- The tile a grid point works on. -/
abbrev tileOf (i : grid0.Coords) : Fin 288 := i 0

/-- The tile before, the first tile's being itself. -/
def before (n : Fin 288) : Fin 288 := ⟨n.val - 1, by omega⟩

theorem here_eq (c : Dev nD) (i : grid0.Coords) (x : TbBuf0 (F := F) c tbM0_0) : here c i x = x (ix1 (tileOf i)) :=
  congrArg x (funext fun a => Fin.ext (by fin_cases a; exact Tables.cast_eq (N := 288) (by decide) (i 0)))
theorem prev_eq (c : Dev nD) (i : grid0.Coords) (x : TbBuf0 (F := F) c tbM0_0) : prev c i x = x (ix1 (before (tileOf i))) :=
  congrArg x (funext fun a => Fin.ext (by fin_cases a; exact Tables.cast_pred (N := 288) (by decide) (i 0)))
theorem rows_eq (c : Dev nD) (i : grid0.Coords) (x : TbBuf0 (F := F) c tbM0_1) : rows c i x = x (ix1 (tileOf i)) :=
  congrArg x (funext fun a => Fin.ext (by fin_cases a; exact Tables.cast_eq (N := 288) (by decide) (i 0)))
theorem rows'_eq (c : Dev nD) (i : grid0.Coords) (x : TbBuf0 (F := F) c tbM0_1) : rows' c i x = x (ix1 (tileOf i)) :=
  congrArg x (funext fun a => Fin.ext (by fin_cases a; exact Tables.cast_eq (N := 288) (by decide) (i 0)))

/-- A table's word at a tile, as the index maps read it. -/
theorem at_eq (pf : pre0.Contents (Elt F)) (i : grid0.Coords) :
    pf.at 0 (Rect.unit (s := S288) (k0_off1 i) S1.size (k0_off1_inb i)) numel1_S1 = pf 0 (ix1 (tileOf i)) := by
  refine congrArg (pf 0) (funext fun a => Fin.ext ?_)
  fin_cases a
  exact Tables.cast_eq (N := 288) (by decide) (i 0)

/-- The four maps that follow the expert name the tile's expert's blocks. -/
theorem map1_eq (pf : pre0.Contents (Elt F)) (i : grid0.Coords) :
    cc0_transform_1 k0_off1_inb numel1_S1 pf i = ![2, (pf 0 (ix1 (tileOf i)) : BitVec 32).toNat, 0, 0] := by
  exact congrArg (fun w : BitVec 32 => (![2, w.toNat, 0, 0] : Fin 4 → ℕ)) (at_eq pf i)
theorem map3_eq (pf : pre0.Contents (Elt F)) (i : grid0.Coords) :
    cc0_transform_3 k0_off1_inb numel1_S1 pf i = ![2, (pf 0 (ix1 (tileOf i)) : BitVec 32).toNat, 0, 0] := by
  exact congrArg (fun w : BitVec 32 => (![2, w.toNat, 0, 0] : Fin 4 → ℕ)) (at_eq pf i)
theorem map2_eq (pf : pre0.Contents (Elt F)) (i : grid0.Coords) :
    cc0_transform_2 k0_off1_inb numel1_S1 pf i
      = ![(Scalar.addi 64#32 (pf 0 (ix1 (tileOf i)) : BitVec 32)).toNat, 0, 0] := by
  exact congrArg (fun w : BitVec 32 => (![(Scalar.addi 64#32 w).toNat, 0, 0] : Fin 3 → ℕ)) (at_eq pf i)
theorem map4_eq (pf : pre0.Contents (Elt F)) (i : grid0.Coords) :
    cc0_transform_4 k0_off1_inb numel1_S1 pf i
      = ![(Scalar.addi 64#32 (pf 0 (ix1 (tileOf i)) : BitVec 32)).toNat, 0, 0] := by
  exact congrArg (fun w : BitVec 32 => (![(Scalar.addi 64#32 w).toNat, 0, 0] : Fin 3 → ℕ)) (at_eq pf i)

/-- Where the weights are not copied anew the tile is not the first and its expert is the one of the tile before. -/
theorem not_anew {i : grid0.Coords} {a b : BitVec 32} (h : ¬ Anew i a b) : (i 0).val ≠ 0 ∧ a = b := by
  have h' := Tables.both_false (BitVec.ofNat 32 (i 0).val == 0#32) (a != b) h
  refine ⟨fun h0 => ?_, ?_⟩
  · rw [h0] at h'; exact absurd h'.1 (by decide)
  · have := h'.2
    simpa using this

/-- The tables say no tile has a negative number of rows. -/
abbrev Full : Prop := ∀ n : Fin 288, k0_cond3 (tbl m 1 (ix1 n) : BitVec 32) = 1#1 ∨ k0_cond2 (tbl m 1 (ix1 n) : BitVec 32) = 1#1

/-- Then every tile is written. -/
theorem not_idle (hF : Full m) (i : grid0.Coords) : idle0 (tbl m) 5 i = false := by
  have e : ∀ (off : Fin 1 → ℕ), off 0 = (i 0).val → ((tbl m).atD 1 off : BitVec 32) = tbl m 1 (ix1 (tileOf i)) := by
    intro off h
    have hb : ∀ a : Fin (pre0.ref 1).ty.shape.rank, off a + 1 ≤ (pre0.ref 1).ty.shape.size a := by
      intro a; fin_cases a
      show off 0 + 1 ≤ 288
      have := (i 0).isLt
      have hlt : (i 0).val < 288 := this
      omega
    refine (dif_pos hb).trans ?_
    refine congrArg (tbl m 1) (funext fun a => Fin.ext ?_)
    fin_cases a
    exact h
  show (!(k0_cond2 ((tbl m).atD 1 (k0_off3 i)) == 1#1) && !(k0_cond3 ((tbl m).atD 1 (k0_off4 i)) == 1#1)) = false
  rw [e _ (Tables.cast_eq (N := 288) (by decide) (i 0)), e _ (Tables.cast_eq (N := 288) (by decide) (i 0))]
  rcases hF (i 0) with h | h <;> rw [h] <;> simp

end Cert.Kernel10.Experts

end
-- ==== Proof.E10Frame.lean ====
module

public import proofs.«01_k».proof.Proof.E10Words
public import Idealize.ShloMosaic.Lib.Claim
public import Idealize.ShloMosaic.Lib.Pipeline.Kit

@[expose] public section

set_option maxRecDepth 16384

noncomputable section

namespace Cert.Kernel10.Experts

open Cert.Kernel10 Cert.Kernel10.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back after every tile. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body on the buffers of tile `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tile of a grid point is its number. -/
theorem tile_val (t : Fin grid0.N) : (tileOf (grid0.coords t)).val = t.val :=
  (by decide +kernel : ∀ t : Fin grid0.N, (tileOf (grid0.coords t)).val = t.val) t

variable (hO : Ok m) (hF : Full m) (c : Dev nD) (t : Fin (cfgM m hO).N)

/-! ## The contents of the buffers, tile by tile -/

/-- The gate-and-up weights of a tile's expert, as the copy holds them. -/
def copy0 : Vec F S4096x512 .bf16 := k0_pay1 (iblk m hO c 1 t)
/-- The down weights of a tile's expert, as the copy holds them. -/
def copy1 : Vec F S256x4096 .bf16 := k0_pay2 (iblk m hO c 3 t)
/-- The tile of the result that the body leaves. -/
def outAt : Vec F S256x4096 .bf16 :=
  tile (rows' c (grid0.coords t) (tbl m 1)) (iblk m hO c 0 t) (copy0 m hO c t) (iblk m hO c 2 t) (copy1 m hO c t) (iblk m hO c 4 t)

/-- Between two tiles the copies hold the weights of the tile just done. -/
def held (n : ℕ) : sProp 𝕄 :=
  iprop(∃ s0 : Vec F S4096x512 .bf16, ∃ s1 : Vec F S256x4096 .bf16,
    ⌜∀ t : Fin (cfgM m hO).N, t.val + 1 = n → s0 = copy0 m hO c t ∧ s1 = copy1 m hO c t⌝
      ∗ owns (c : Thread nD τ) scM0_0 fullShare s0 ∗ owns (c : Thread nD τ) scM0_1 fullShare s1)

/-- The proof data: every input buffer keeps its block, the output buffer ends at the tile, the copies are tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ n := iprop(held m hO c n.val ∗ (∃ r, prngReg c r) ∗ Pipeline.ΦT pre0 (tbl m) c)
  q _ := fullShare
  owed _ := 0

/-- The arrays are those the call finds. -/
theorem A_eq (w : Fin (cfgM m hO).W) : (dats m hO 0 c).A w = V m c (Pipeline.arrRef spec0 w) := by
  dsimp only [dats]

/-- The output buffer ends at the tile. -/

theorem after0_5 : (dats m hO 0 c).after 5 t = outAt m hO c t := by dsimp only [dats]; try rfl

/-- Each input's buffer holds its block at every point, before the body and after it. -/
theorem input (w : Fin (cfgM m hO).W) (h : w.val < 5) : (∀ d, (dats m hO 0 c).before w t d = iblk m hO c w t) ∧ (dats m hO 0 c).after w t = iblk m hO c w t := by
  change Fin 6 at w
  match w, h with
  | ⟨0, _⟩, _ | ⟨1, _⟩, _ | ⟨2, _⟩, _ | ⟨3, _⟩, _ | ⟨4, _⟩, _ =>
    exact ⟨fun d => ((dats m hO 0 c).before_in_eq_fetched _ rfl (fun _ => rfl) (fun _ _ _ => rfl) (fun _ => rfl) t d).trans rfl, rfl⟩

/-- Two tiles of one expert have one gate-and-up block and one down block. -/
theorem same_block (t' : Fin (cfgM m hO).N)
    (h : (tbl m 0 (ix1 (tileOf (grid0.coords t))) : BitVec 32) = tbl m 0 (ix1 (tileOf (grid0.coords t')))) :
    copy0 m hO c t = copy0 m hO c t' ∧ copy1 m hO c t = copy1 m hO c t' := by
  have i1 : ((cfgM m hO).win 1).index t = ((cfgM m hO).win 1).index t' := by
    show cc0_transform_1 k0_off1_inb numel1_S1 (tbl m) (grid0.coords t) = cc0_transform_1 k0_off1_inb numel1_S1 (tbl m) (grid0.coords t')
    rw [map1_eq, map1_eq, h]
  have i3 : ((cfgM m hO).win 3).index t = ((cfgM m hO).win 3).index t' := by
    show cc0_transform_3 k0_off1_inb numel1_S1 (tbl m) (grid0.coords t) = cc0_transform_3 k0_off1_inb numel1_S1 (tbl m) (grid0.coords t')
    rw [map3_eq, map3_eq, h]
  have e1 : iblk m hO c 1 t = iblk m hO c 1 t' := (dats m hO 0 c).fetched_congr 1 i1 rfl (iblk m hO c 1 t)
  have e3 : iblk m hO c 3 t = iblk m hO c 3 t' := (dats m hO 0 c).fetched_congr 3 i3 rfl (iblk m hO c 3 t)
  unfold copy0 copy1
  exact ⟨congrArg k0_pay1 e1, congrArg k0_pay2 e3⟩

/-! ## The body obligation, at a generic point -/

/-- What the body finds at a tile, -/
def bodyPre : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

include hF in
set_option maxHeartbeats 800000 in
/-- The body at any tile: its inputs are their blocks and its copies those of the tile before, so it ends with the tile
    written and with its own expert's copies. -/
theorem sound_body :
    bodyPre m hO c t ⊢ wp frame (wpE (defs₀ (F := F)) Variants.none c none) Set.univ (bodyAt0 (adm m hO) t) (fun _ => bodyPost m hO c t) := by
  unfold bodyPre bodyPost bodyAt0
  obtain ⟨b0, a0⟩ := input m hO c t 0 (show (0 : ℕ) < 5 by decide)
  obtain ⟨b1, a1⟩ := input m hO c t 1 (show (1 : ℕ) < 5 by decide)
  obtain ⟨b2, a2⟩ := input m hO c t 2 (show (2 : ℕ) < 5 by decide)
  obtain ⟨b3, a3⟩ := input m hO c t 3 (show (3 : ℕ) < 5 by decide)
  obtain ⟨b4, a4⟩ := input m hO c t 4 (show (4 : ℕ) < 5 by decide)
  simp only [b0, b1, b2, b3, b4]
  rw [show (dats m hO 0 c).owesAt () t.succ = (dats m hO 0 c).owesAt () t.castSucc from rfl,
    a0, a1, a2, a3, a4, after0_5]
  rw [show (dats m hO 0 c).Φ t.succ = iprop(held m hO c (t.val + 1) ∗ (∃ r, prngReg c r) ∗ Pipeline.ΦT pre0 (tbl m) c) from rfl,
    show (dats m hO 0 c).Φ t.castSucc = iprop(held m hO c t.val ∗ (∃ r, prngReg c r) ∗ Pipeline.ΦT pre0 (tbl m) c) from rfl, PhiT0_eq]
  unfold held outAt
  iintro ⟨⟨⟨%s0, %s1, %hs, HS0, HS1⟩, Hg, ⟨HT0, HT1⟩⟩, Ho, ⟨%d0, H0⟩, ⟨%d1, H1⟩, ⟨%d2, H2⟩, ⟨%d3, H3⟩, ⟨%d4, H4⟩, ⟨%d5, H5⟩⟩
  have hcopy : ¬ Anew (grid0.coords t) (here c (grid0.coords t) (tbl m 0)) (prev c (grid0.coords t) (tbl m 0)) →
      s0 = copy0 m hO c t ∧ s1 = copy1 m hO c t := by
    intro hn
    obtain ⟨h0, hab⟩ := not_anew hn
    have ht : (tileOf (grid0.coords t)).val = t.val := tile_val t
    have h0' : t.val ≠ 0 := fun h => h0 (ht.trans h)
    have hlt : t.val < (cfgM m hO).N := t.isLt
    let t' : Fin (cfgM m hO).N := ⟨t.val - 1, by omega⟩
    have ht' : (tileOf (grid0.coords t')).val = t.val - 1 := tile_val t'
    have hb : before (tileOf (grid0.coords t)) = tileOf (grid0.coords t') := Fin.ext (by
      show (tileOf (grid0.coords t)).val - 1 = _; rw [ht, ht'])
    have hab' := (here_eq c (grid0.coords t) (tbl m 0)).symm.trans (hab.trans (prev_eq c (grid0.coords t) (tbl m 0)))
    rw [hb] at hab'
    obtain ⟨e0, e1⟩ := same_block m hO c t t' hab'
    obtain ⟨q0, q1⟩ := hs t' (by show t.val - 1 + 1 = t.val; omega)
    exact ⟨q0.trans e0.symm, q1.trans e1.symm⟩
  have hrow : k0_cond3 (rows' c (grid0.coords t) (tbl m 1)) = 1#1 ∨ k0_cond2 (rows c (grid0.coords t) (tbl m 1)) = 1#1 := by
    exact (hF (tileOf (grid0.coords t))).imp (fun h => (congrArg k0_cond3 (rows'_eq c (grid0.coords t) (tbl m 1))).trans h)
      fun h => (congrArg k0_cond2 (rows_eq c (grid0.coords t) (tbl m 1))).trans h
  iapply (run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1)
    (copy0 m hO c t) (copy1 m hO c t)
    (by by_cases h : Anew (grid0.coords t) (here c (grid0.coords t) (tbl m 0)) (prev c (grid0.coords t) (tbl m 0))
        · rw [if_pos h]; rfl
        · rw [if_neg h]; exact (hcopy h).1)
    (by by_cases h : Anew (grid0.coords t) (here c (grid0.coords t) (tbl m 0)) (prev c (grid0.coords t) (tbl m 0))
        · rw [if_pos h]; rfl
        · rw [if_neg h]; exact (hcopy h).2)
    hrow Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr
      swap
      · isplitl [HS0]; · iexact HS0
        iexact HS1
      ipureintro
      intro t' h
      obtain rfl : t' = t := Fin.ext (by omega)
      exact ⟨rfl, rfl⟩
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body at a grid point is the body on that tile's buffers. -/
theorem defs₀_row :
    defs₀ (F := F) .tc (cfgM m hO).body ((cfgM m hO).bodyArgs t ((cfgM m hO).slots t)) = bodyAt0 (adm m hO) t := by
  unfold defs₀; rw [Defs.onTc_tc]

include hF in
/-- The body meets what the pipeline asks of it at every tile. -/
theorem body_obligation : BodyObligation (dats (F := F) m hO 0 c) (defs₀ (F := F)) Variants.none () Set.univ := fun t => by
  rw [bigSep_W0, bigSep_W0, defs₀_row m hO]
  have i5 : idle0 (tbl m) 5 (((pcfg0 (F := F)).gridAt (tbl m)).coords t) = false := not_idle m hF _
  simp only
  rw [i5]
  exact triple_restated (sound_body m hO hF c t) rfl .rfl fun _ => .rfl

/-! ## The run and the frame -/

include hO hF

set_option backward.isDefEq.respectTransparency.types false in
/-- The program runs to its end, with every array as the proof data say and all counters at zero. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop(held m hO c 0 ∗ (∃ r, prngReg c r) ∗ Pipeline.ΦT pre0 (tbl m) c)
      rw [PhiA0_eq]
      unfold held
      iintro ⟨⟨⟨⟨%d0, HS0⟩, ⟨%d1, HS1⟩⟩, Hg⟩, HT⟩
      isplitl [HS0 HS1]
      · iexists d0; iexists d1
        isplitr
        swap
        · isplitl [HS0]; · iexact HS0
          iexact HS1
        ipureintro
        intro t h
        omega
      isplitl [Hg]; · iexact Hg
      iexact HT)
    (hout := fun c => by
      show iprop(held m hO c _ ∗ (∃ r, prngReg c r) ∗ Pipeline.ΦT pre0 (tbl m) c) ⊢ Pipeline.ΦA spec0 c
      rw [PhiA0_eq]
      unfold held
      iintro ⟨⟨%d0, %d1, %hd, HS0, HS1⟩, Hg, -⟩
      isplitl [HS0 HS1]
      · isplitl [HS0]
        · iexists _; iexact HS0
        iexists _; iexact HS1
      iexact Hg)

/-- The run without the counters. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- Every argument ends as it was. -/
theorem unchanged : θ_run defs (onTc (τ := τ) (main (F := F))) ⟨m, fun _ => 0, ρ⟩ (fun r => Kept m r.2.mem) :=
  frame_of m ρ hO (dats m hO) (A_eq m hO) (run_main m ρ hO hF)

/-- The frame: every argument ends as it was and every counter at zero. -/
theorem frame : θ_run defs (onTc (τ := τ) (main (F := F))) ⟨m, fun _ => 0, ρ⟩ (fun r => Kept m r.2.mem
      ∧ r.2.sem = fun _ => 0) :=
  θ_run_and (unchanged m ρ hO hF) ((θ_run defs _ _).mono (fun _ h => h.2) (run_main_quiescent m ρ hO hF))

end Cert.Kernel10.Experts

end
-- ==== Proof.E10Pre.lean ====
/- Layer 2's experts: the tables a run may be launched on. -/
module

public import proofs.«01_k».proof.Proof.Expert
public import proofs.«01_k».proof.Proof.E10Frame

@[expose] public section

set_option maxRecDepth 16384

noncomputable section

namespace Cert.Kernel10.Experts

open Cert.Kernel10 Cert.Kernel10.Gen Idealize.ShloMosaic Idealize.ShloMosaic.TcCoe Idealize.SL.Sem

variable {F : FTy → Type} [FloatOps F] (m : (ℓ : Loc nD τ sig) → Buf (Elt F) ℓ)

/-- Where each name is one of the 32 experts, every block lies inside its array. -/
theorem inside (h : ∀ n : Fin 288, (tbl m 0 (ix1 n) : BitVec 32).toNat < 32) : Ok m := by
  have b (i : grid0.Coords) : (Scalar.addi 64#32 (tbl m 0 (ix1 (tileOf i)) : BitVec 32)).toNat < 128 :=
    lt_of_eq_of_lt (Expert.base_add 64 (by decide) _ (h (tileOf i))) (Nat.lt_of_lt_of_le (Nat.add_lt_add_left (h (tileOf i)) 64) (by decide))
  refine ⟨fun i => ⟨fun a => ?_, .inl rfl⟩, fun i => ⟨fun a => ?_, .inl rfl⟩, fun i => ⟨fun a => ?_, .inl rfl⟩, fun i => ⟨fun a => ?_, .inl rfl⟩⟩
  · have e := congrFun (map1_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (2 + 1) * 1 ≤ 4)
    | ⟨1, _⟩ => exact n
    | ⟨2, _⟩ => exact (by decide : (0 + 1) * 4096 ≤ 4096)
    | ⟨3, _⟩ => exact (by decide : (0 + 1) * 512 ≤ 512)
  · have e := congrFun (map2_eq (tbl m) i) a
    have n : ((Scalar.addi 64#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 512 ≤ 512)
  · have e := congrFun (map3_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (2 + 1) * 1 ≤ 4)
    | ⟨1, _⟩ => exact n
    | ⟨2, _⟩ => exact (by decide : (0 + 1) * 256 ≤ 256)
    | ⟨3, _⟩ => exact (by decide : (0 + 1) * 4096 ≤ 4096)
  · have e := congrFun (map4_eq (tbl m) i) a
    have n : ((Scalar.addi 64#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 4096 ≤ 4096)

/-- A count that is not negative is zero or positive, as the call tests it. -/
theorem zero_or_more (w : BitVec 32) (h : w.toNat < 2 ^ 31) : k0_cond3 w = 1#1 ∨ k0_cond2 w = 1#1 := by
  by_cases z : w = 0#32
  · exact .inl ((Tables.as_bool (w == 0#32)).mpr (beq_iff_eq.mpr z))
  · exact .inr ((Tables.as_bool (BitVec.slt 0#32 w)).mpr ((StableHlo.Predicate.ofBool_eq_one_iff _).mp ((Tables.sgt_zero w h).mpr z)))

/-- Where no count is negative, every tile's result is written. -/
theorem written (h : ∀ n : Fin 288, (tbl m 1 (ix1 n) : BitVec 32).toNat < 2 ^ 31) : Full m := fun n => zero_or_more _ (h n)

/-- What the arguments say of the tables. -/
theorem of_words (h : ∀ n : Fin 288, (m ((0 : Dev nD).tc.loc main_arg0) (ix1 n) : BitVec 32).toNat < 32
      ∧ (m ((0 : Dev nD).tc.loc main_arg1) (ix1 n) : BitVec 32).toNat < 2 ^ 31) :
    (∀ n : Fin 288, (tbl m 0 (ix1 n) : BitVec 32).toNat < 32) ∧ Ok m ∧ Full m := by
  have t0 : (tbl m 0 : S288.Idx → BitVec 32) = m ((0 : Dev nD).tc.loc main_arg0) := V_kept m 0 main_arg0 (by decide) (by decide)
  have t1 : (tbl m 1 : S288.Idx → BitVec 32) = m ((0 : Dev nD).tc.loc main_arg1) := V_kept m 0 main_arg1 (by decide) (by decide)
  have h0 (n : Fin 288) : (tbl m 0 (ix1 n) : BitVec 32).toNat < 32 := lt_of_eq_of_lt (congrArg BitVec.toNat (congrFun t0 (ix1 n))) (h n).1
  have h1 (n : Fin 288) : (tbl m 1 (ix1 n) : BitVec 32).toNat < 2 ^ 31 := lt_of_eq_of_lt (congrArg BitVec.toNat (congrFun t1 (ix1 n))) (h n).2
  exact ⟨h0, inside m h0, written m h1⟩

end Cert.Kernel10.Experts

end
-- ==== Proof.E10Value.lean ====
/- Layer 2's experts: what the call leaves in its result. -/
module

public import proofs.«01_k».proof.Proof.Expert
public import proofs.«01_k».proof.Proof.E10Pre
public import proofs.«01_k».proof.Proof.E8Value

@[expose] public section

set_option maxRecDepth 16384

noncomputable section

namespace Cert.Kernel10.Experts

open Cert.Kernel10 Cert.Kernel10.Gen Idealize.ShloMosaic Idealize.ShloMosaic.TcCoe Idealize.SL.Sem

/-- A tile, entry by entry: zero where it has no rows, else the expert's output. -/
theorem tile_apply (r : BitVec 32) (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) :
    tile r x0 w0 x2 w1 x4 (ix2 a d) = if r = 0#32 then (0 : EReal) else
      Expert.expert (fun k => x0 (ix2 a k)) (fun k f => w0 (ix2 k f)) (fun f => x2 (ix3 0 0 f)) (fun f => w1 (ix2 f d)) (x4 (ix3 0 0 d)) :=
  Cert.Kernel8.Experts.tile_apply r x0 w0 x2 w1 x4 a d

variable (m : (ℓ : Loc nD τ sig) → Buf (Elt Ideal) ℓ)

/-- The expert a table names is one of the 32. -/
def Named : Prop := ∀ n : Fin 288, (tbl m 0 (ix1 n) : BitVec 32).toNat < 32

/-- The reshaped gate-and-up biases, read off their argument. -/
theorem bias_gu (c : Dev nD) (n : Fin 128) (l : Fin 4) (e : Fin 32) (h : n.val = l.val * 32 + e.val) (f : Fin 512) :
    V m c main_v0 (ix3 n 0 f) = m (c.tc.loc main_arg4) (ix3 l e f) := by
  have : V m c main_v0 = shapeCast S128x1x512 (m (c.tc.loc main_arg4)) shapeCasts_S4x32x512_S128x1x512 := by
    unfold V hostOps0
    after_results
    try rfl
  rw [this]
  refine Idealize.ShloMosaic.shapeCast_apply _ _ _ _ ?_
  show (S4x32x512.rowMajor (ix3 l e f)).val = (S128x1x512.rowMajor (ix3 n 0 f)).val
  rw [Shape.rowMajor_val_three, Shape.rowMajor_val_three]
  show (l.val * 32 + e.val) * 512 + f.val = (n.val * 1 + 0) * 512 + f.val
  omega

/-- The reshaped down biases, read off their argument. -/
theorem bias_dn (c : Dev nD) (n : Fin 128) (l : Fin 4) (e : Fin 32) (h : n.val = l.val * 32 + e.val) (d : Fin 4096) :
    V m c main_v1 (ix3 n 0 d) = m (c.tc.loc main_arg6) (ix3 l e d) := by
  have : V m c main_v1 = shapeCast S128x1x4096 (m (c.tc.loc main_arg6)) shapeCasts_S4x32x4096_S128x1x4096 := by
    unfold V hostOps0
    after_results
    try rfl
  rw [this]
  refine Idealize.ShloMosaic.shapeCast_apply _ _ _ _ ?_
  show (S4x32x4096.rowMajor (ix3 l e d)).val = (S128x1x4096.rowMajor (ix3 n 0 d)).val
  rw [Shape.rowMajor_val_three, Shape.rowMajor_val_three]
  show (l.val * 32 + e.val) * 4096 + d.val = (n.val * 1 + 0) * 4096 + d.val
  omega

/-- The result's window at tile `t` names the `t`-th block of rows. -/
theorem index5 (hO : Ok m) (t : Fin (cfgM m hO).N) : ((pcfg0 (F := Ideal)).win (adm m hO) 5).index t (0 : Fin 2) = t.val ∧ ((pcfg0 (F := Ideal)).win (adm m hO) 5).index t (1 : Fin 2) = 0 :=
  (by decide +kernel : ∀ t : Fin grid0.N, cc0_transform_5 (grid0.coords t) 0 = t.val ∧ cc0_transform_5 (grid0.coords t) 1 = 0) t
/-- The rows' window names the same block. -/
theorem index0 (hO : Ok m) (t : Fin (cfgM m hO).N) : ((pcfg0 (F := Ideal)).win (adm m hO) 0).index t (0 : Fin 2) = t.val ∧ ((pcfg0 (F := Ideal)).win (adm m hO) 0).index t (1 : Fin 2) = 0 :=
  (by decide +kernel : ∀ t : Fin grid0.N, cc0_transform_0 (grid0.coords t) 0 = t.val ∧ cc0_transform_0 (grid0.coords t) 1 = 0) t

/-- The tiles fill the result. -/
theorem covers5 (hO : Ok m) : ((cfgM m hO).win 5).Covers := by
  refine ⟨(by decide : ∀ a : Fin 2, 0 < (![256, 4096] : Fin 2 → ℕ) a), fun β => ?_⟩
  have n0 : ((cfgM m hO).win 5).nblk (0 : Fin 2) = 288 := by unfold Pipeline.Window.nblk; show (73728 + 256 - 1) / 256 = 288; rfl
  have n1 : ((cfgM m hO).win 5).nblk (1 : Fin 2) = 1 := by unfold Pipeline.Window.nblk; show (4096 + 4096 - 1) / 4096 = 1; rfl
  have h0 : (β (0 : Fin 2)).val < 288 := lt_of_lt_of_eq (β (0 : Fin 2)).isLt n0
  have h1 : (β (1 : Fin 2)).val < 1 := lt_of_lt_of_eq (β (1 : Fin 2)).isLt n1
  refine ⟨⟨(β (0 : Fin 2)).val, h0⟩, flush0_5 (adm m hO) _, fun a => ⟨?_, .inl rfl⟩⟩
  obtain ⟨i0, i1⟩ := index5 m hO ⟨(β (0 : Fin 2)).val, h0⟩
  change Fin 2 at a
  match a with
  | ⟨0, _⟩ => exact i0
  | ⟨1, _⟩ => exact i1.trans (by show 0 = (β (1 : Fin 2)).val; omega)

/-- The words of a tile, read off the packed rows. -/
theorem words_apply (hO : Ok m) (c : Dev nD) (t : Fin (cfgM m hO).N) (a : Fin 256) (r : Fin 73728) (h : r.val = t.val * 256 + a.val) (k : Fin 2048) :
    iblk m hO c 0 t (ix2 a k) = m (c.tc.loc main_arg2) (ix2 r k) := by
  obtain ⟨i0, i1⟩ := index0 m hO t
  blk_ext! [iblk, V, h]
  · exact congrArg (· * 256 + a.val) i0
  · exact (congrArg (· * 2048 + k.val) i1).trans (by omega)

/-- The word a tile's expert is named by, as a number. -/
abbrev nameAt (t : Fin grid0.N) : ℕ := (tbl m 0 (ix1 (tileOf (grid0.coords t))) : BitVec 32).toNat

/-- The gate-and-up copy of a tile holds its expert's weights. -/
theorem gu_apply (hO : Ok m) (c : Dev nD) (t : Fin (cfgM m hO).N) (e : Fin 32) (h : e.val = nameAt m t) (k : Fin 4096) (f : Fin 512) :
    copy0 m hO c t (ix2 k f) = m (c.tc.loc main_arg3) (ix4 2 e k f) := by
  have i (a : Fin 4) : ((pcfg0 (F := Ideal)).win (adm m hO) 1).index t a = (![2, nameAt m t, 0, 0] : Fin 4 → ℕ) a :=
    congrFun (map1_eq (tbl m) (grid0.coords t)) a
  unfold copy0
  pointwise [k0_pay1]
  blk_ext! [iblk, V]
  · exact congrArg (· * 1 + 0) (i 0)
  · exact (i 1).trans (by show nameAt m t = _; omega)
  · exact (congrArg (· * 4096 + k.val) (i 2)).trans (by show 0 * 4096 + k.val = k.val; omega)
  · exact (congrArg (· * 512 + f.val) (i 3)).trans (by show 0 * 512 + f.val = f.val; omega)

/-- The down copy of a tile holds its expert's weights. -/
theorem dn_apply (hO : Ok m) (c : Dev nD) (t : Fin (cfgM m hO).N) (e : Fin 32) (h : e.val = nameAt m t) (f : Fin 256) (d : Fin 4096) :
    copy1 m hO c t (ix2 f d) = m (c.tc.loc main_arg5) (ix4 2 e f d) := by
  have i (a : Fin 4) : ((pcfg0 (F := Ideal)).win (adm m hO) 3).index t a = (![2, nameAt m t, 0, 0] : Fin 4 → ℕ) a :=
    congrFun (map3_eq (tbl m) (grid0.coords t)) a
  unfold copy1
  pointwise [k0_pay2]
  blk_ext! [iblk, V]
  · exact congrArg (· * 1 + 0) (i 0)
  · exact (i 1).trans (by show nameAt m t = _; omega)
  · exact (congrArg (· * 256 + f.val) (i 2)).trans (by show 0 * 256 + f.val = f.val; omega)
  · exact (congrArg (· * 4096 + d.val) (i 3)).trans (by show 0 * 4096 + d.val = d.val; omega)

/-- The gate-and-up bias of a tile is its expert's. -/
theorem gub_apply (hO : Ok m) (c : Dev nD) (t : Fin (cfgM m hO).N) (e : Fin 32) (h : e.val = nameAt m t) (f : Fin 512) :
    iblk m hO c 2 t (ix3 0 0 f) = m (c.tc.loc main_arg4) (ix3 2 e f) := by
  have i (a : Fin 3) : ((pcfg0 (F := Ideal)).win (adm m hO) 2).index t a = (![64 + nameAt m t, 0, 0] : Fin 3 → ℕ) a := by
    refine (congrFun (map2_eq (tbl m) (grid0.coords t)) a).trans (congrArg (fun n : ℕ => (![n, 0, 0] : Fin 3 → ℕ) a) ?_)
    exact Expert.base_add 64 (by decide) _ (show nameAt m t < 32 by omega)
  have j : iblk m hO c 2 t (ix3 0 0 f) = V m c main_v0 (ix3 ⟨64 + e.val, by omega⟩ 0 f) := by
    refine congrArg (V m c main_v0) (show ((spec0 2).arr.view.slice (((pcfg0 (F := Ideal)).win (adm m hO) 2).rect t)).emb (ix3 0 0 f) = ix3 ⟨64 + e.val, by omega⟩ 0 f from ?_)
    refine funext fun a => Fin.ext ?_
    change Fin 3 at a
    match a with
    | ⟨0, _⟩ => exact Eq.trans (by blk_simp; rfl) ((i 0).trans (show 64 + nameAt m t = 64 + e.val by omega))
    | ⟨1, _⟩ => exact Eq.trans (by blk_simp; rfl) (i 1)
    | ⟨2, _⟩ => exact Eq.trans (by blk_simp) ((congrArg (· * 512 + f.val) (i 2)).trans (by show 0 * 512 + f.val = f.val; omega))
  exact j.trans (bias_gu m c _ 2 e rfl f)

/-- The down bias of a tile is its expert's. -/
theorem dnb_apply (hO : Ok m) (c : Dev nD) (t : Fin (cfgM m hO).N) (e : Fin 32) (h : e.val = nameAt m t) (d : Fin 4096) :
    iblk m hO c 4 t (ix3 0 0 d) = m (c.tc.loc main_arg6) (ix3 2 e d) := by
  have i (a : Fin 3) : ((pcfg0 (F := Ideal)).win (adm m hO) 4).index t a = (![64 + nameAt m t, 0, 0] : Fin 3 → ℕ) a := by
    refine (congrFun (map4_eq (tbl m) (grid0.coords t)) a).trans (congrArg (fun n : ℕ => (![n, 0, 0] : Fin 3 → ℕ) a) ?_)
    exact Expert.base_add 64 (by decide) _ (show nameAt m t < 32 by omega)
  have j : iblk m hO c 4 t (ix3 0 0 d) = V m c main_v1 (ix3 ⟨64 + e.val, by omega⟩ 0 d) := by
    refine congrArg (V m c main_v1) (show ((spec0 4).arr.view.slice (((pcfg0 (F := Ideal)).win (adm m hO) 4).rect t)).emb (ix3 0 0 d) = ix3 ⟨64 + e.val, by omega⟩ 0 d from ?_)
    refine funext fun a => Fin.ext ?_
    change Fin 3 at a
    match a with
    | ⟨0, _⟩ => exact Eq.trans (by blk_simp; rfl) ((i 0).trans (show 64 + nameAt m t = 64 + e.val by omega))
    | ⟨1, _⟩ => exact Eq.trans (by blk_simp; rfl) (i 1)
    | ⟨2, _⟩ => exact Eq.trans (by blk_simp) ((congrArg (· * 4096 + d.val) (i 2)).trans (by show 0 * 4096 + d.val = d.val; omega))
  exact j.trans (bias_dn m c _ 2 e rfl d)

/-- The experts' outputs, out of the arguments the call finds. -/
abbrev outputs (c : Dev nD) : Fin 73728 → Fin 4096 → EReal :=
  Expert.result (N := 288) (M := 73728) rfl 2 (m (c.tc.loc main_arg0)) (m (c.tc.loc main_arg1)) (m (c.tc.loc main_arg2)) (m (c.tc.loc main_arg3)) (m (c.tc.loc main_arg4)) (m (c.tc.loc main_arg5)) (m (c.tc.loc main_arg6))

/-- A row of a tile, as the arguments have it. -/
theorem row_eq (hO : Ok m) (hN : Named m) (c : Dev nD) (t : Fin (cfgM m hO).N) (a : Fin 256) (r : Fin 73728) (h : r.val = t.val * 256 + a.val) (d : Fin 4096) :
    (if rows' c (grid0.coords t) (tbl m 1) = 0#32 then (0 : EReal) else
      Expert.expert (fun k => iblk m hO c 0 t (ix2 a k)) (fun k f => copy0 m hO c t (ix2 k f)) (fun f => iblk m hO c 2 t (ix3 0 0 f))
        (fun f => copy1 m hO c t (ix2 f d)) (iblk m hO c 4 t (ix3 0 0 d)))
    = outputs m c r d := by
  have hn : tileOf (grid0.coords t) = Expert.tileOfRow (N := 288) rfl r := Fin.ext (by rw [tile_val t]; show t.val = r.val / 256; omega)
  have t0 : (tbl m 0 : S288.Idx → BitVec 32) = m (c.tc.loc main_arg0) := by
    obtain rfl : c = 0 := Subsingleton.elim _ _
    exact V_kept m 0 main_arg0 (by decide) (by decide)
  have t1 : (tbl m 1 : S288.Idx → BitVec 32) = m (c.tc.loc main_arg1) := by
    obtain rfl : c = 0 := Subsingleton.elim _ _
    exact V_kept m 0 main_arg1 (by decide) (by decide)
  have w1 : rows' c (grid0.coords t) (tbl m 1) = m (c.tc.loc main_arg1) (ix1 (Expert.tileOfRow (N := 288) rfl r)) :=
    (rows'_eq c (grid0.coords t) _).trans ((congrFun t1 _).trans (by rw [hn]))
  have w0 : (tbl m 0 (ix1 (tileOf (grid0.coords t))) : BitVec 32) = m (c.tc.loc main_arg0) (ix1 (Expert.tileOfRow (N := 288) rfl r)) :=
    (congrFun t0 _).trans (by rw [hn])
  have he : (Expert.pick (m (c.tc.loc main_arg0) (ix1 (Expert.tileOfRow (N := 288) rfl r)))).val = nameAt m t := by
    show BitVec.toNat _ % 32 = BitVec.toNat _
    rw [← w0]
    exact Nat.mod_eq_of_lt (hN _)
  unfold outputs Expert.result
  rw [w1]
  refine if_congr Iff.rfl rfl ?_
  congr 1
  · exact funext fun k => words_apply m hO c t a r h k
  · exact funext fun k => funext fun f => gu_apply m hO c t _ he k f
  · exact funext fun f => gub_apply m hO c t _ he f
  · exact funext fun f => dn_apply m hO c t _ he f d
  · exact dnb_apply m hO c t _ he d

/-- After the run, the result array is the experts' outputs row by row. -/
theorem final (hO : Ok m) (hN : Named m) (c : Dev nD) :
    (dats m hO 0 c).arrAt 5 (cfgM m hO).N = fun i : S73728x4096.Idx => outputs m c (i 0) (i 1) := by
  refine (dats m hO 0 c).arrAt_eq_of_covers 5 _ (covers5 m hO) fun t hf y => ?_
  blk_simp
  rw [after0_5]
  change S256x4096.Idx at y
  idx_vars y
  unfold outAt
  refine (tile_apply _ _ _ _ _ _ y0 y1).trans ?_
  obtain ⟨i0, i1⟩ := index5 m hO t
  have r0 : (((spec0 5).arr.view.slice (((pcfg0 (F := Ideal)).win (adm m hO) 5).rect t)).emb (ix2 y0 y1) (0 : Fin 2)).val = t.val * 256 + y0.val := by
    refine Eq.trans ?_ (congrArg (· * 256 + y0.val) i0)
    blk_simp
  have r1 : ((spec0 5).arr.view.slice (((pcfg0 (F := Ideal)).win (adm m hO) 5).rect t)).emb (ix2 y0 y1) (1 : Fin 2) = y1 := by
    refine Fin.ext ?_
    refine Eq.trans ?_ ((congrArg (· * 4096 + y1.val) i1).trans (by show 0 * 4096 + y1.val = y1.val; omega))
    blk_simp
  exact (row_eq m hO hN c t y0 _ r0 y1).trans (congrArg (fun z => outputs m c _ z) r1.symm)

/-- The call runs, leaves the experts' outputs in its result, and leaves its arguments as they were. -/
theorem value (ρ : Dev nD → PrngReg) (hO : Ok m) (hF : Full m) (hN : Named m) : θ_run defs (onTc (τ := τ) (main (F := Ideal))) ⟨m, fun _ => 0, ρ⟩ (fun r => ∀ c : Dev nD,
      r.2.mem ((c.tc : Thread nD τ).loc main_v2) = (fun i : S73728x4096.Idx => outputs m c (i 0) (i 1))
      ∧ Kept m r.2.mem) :=
  (θ_run defs _ _).mono (fun _ h c => ⟨((h.1 c).1 5).trans (final m hO hN c), h.2⟩) (θ_run_and (run_main m ρ hO hF) (unchanged m ρ hO hF))

end Cert.Kernel10.Experts

end
-- ==== Proof.E10Ref.lean ====
/- Layer 2's experts: the plain formula, entry by entry. -/
module

public import proofs.«01_k».proof.Proof.Expert
public import proofs.«01_k».proof.Proof.E8Ref
public import proofs.«01_k».proof.Proof.Gen.Reference10Ideal.Read

@[expose] public section

set_option maxRecDepth 16384

noncomputable section

namespace Cert.Reference10Ideal.Experts

open Idealize.ShloMosaic Idealize.ShloMosaic.TcCoe Idealize.SL.Sem
open Cert.Reference10Ideal Cert.Reference10Ideal.Gen Cert.Reference10Ideal.Read

variable (x0 x1 : S288.Idx → BitVec 32) (x2 : S73728x2048.Idx → BitVec 32) (x3 : S4x32x4096x512.Idx → EReal) (x4 : S4x32x512.Idx → EReal)
  (x5 : S4x32x256x4096.Idx → EReal) (x6 : S4x32x4096.Idx → EReal)

/-- The unpacked rows: the first numbers of the words, then the second. -/
theorem ref_rows_lo (r : Fin 73728) (k : Fin 2048) :
    val_main_v6 (F := Ideal) x2 (ix2 r (Fin.castLE (show 2048 ≤ 4096 by decide) k)) = Expert.lo (x2 (ix2 r k)) :=
  Cert.Reference8Ideal.Experts.ref_rows_lo x2 r k

theorem ref_rows_hi (r : Fin 73728) (k : Fin 2048) :
    val_main_v6 (F := Ideal) x2 (ix2 r (Fin.natAdd 2048 k)) = Expert.hi (x2 (ix2 r k)) :=
  Cert.Reference8Ideal.Experts.ref_rows_hi x2 r k

/-- The gate-and-up features of a row under an expert. -/
theorem ref_feature (e : Fin 32) (r : Fin 73728) (f : Fin 512) :
    val_main_v33 (F := Ideal) x2 x3 x4 (ix3 e r f) = Expert.feature (fun k => x2 (ix2 r k)) (fun k => x3 (ix4 2 e k f)) (x4 (ix3 2 e f)) := by
  pointwise [val_main_v33, val_main_v32, val_main_v31, val_main_v30, val_main_v29, val_main_v28, val_main_v27, val_main_v26, val_main_v25]
  unfold Expert.feature
  refine congrArg (· + x4 (ix3 2 e f)) ?_
  refine (Fin.sum_univ_add (a := 2048) (b := 2048) fun k : Fin 4096 => x3 (ix4 2 e k f) * val_main_v6 (F := Ideal) x2 (ix2 r k)).trans ?_
  refine congrArg₂ (· + ·) (Finset.sum_congr rfl fun k _ => ?_) (Finset.sum_congr rfl fun k _ => ?_)
  · exact (mul_comm _ _).trans (congrArg (· * _) (ref_rows_lo x2 r k))
  · exact (mul_comm _ _).trans (congrArg (· * _) (ref_rows_hi x2 r k))

/-- The activations. -/
theorem ref_act (e : Fin 32) (r : Fin 73728) (f : Fin 256) :
    val_main_v50 (F := Ideal) x2 x3 x4 (ix3 e r f) = Expert.act (val_main_v33 (F := Ideal) x2 x3 x4 (ix3 e r (Fin.castLE (show 256 ≤ 512 by decide) f)))
      (val_main_v33 (F := Ideal) x2 x3 x4 (ix3 e r (Fin.natAdd 256 f))) := by
  pointwise [val_main_v50, val_main_v49, val_main_v48, val_main_cst_9, val_main_v47, val_main_v46, val_main_v45, val_main_cst_8, val_main_v44, val_main_v43, val_main_cst_7,
    val_main_v42, val_main_v41, val_main_v40, val_main_v39, val_main_cst_6, val_main_v38, val_main_v37, val_main_v36, val_main_v35, val_main_cst_3, val_main_v34, val_main_call1_v0, val_main_cst_4, val_main_call1_v1, val_main_call1_v2, val_main_call1_v3, val_main_cst_5, val_main_call1_v4]
  rfl

/-- An expert's output on a row. -/
theorem ref_out (e : Fin 32) (r : Fin 73728) (d : Fin 4096) :
    val_main_v58 (F := Ideal) x2 x3 x4 x5 x6 (ix3 e r d) = (∑ f : Fin 256, val_main_v50 (F := Ideal) x2 x3 x4 (ix3 e r f) * x5 (ix4 2 e f d)) + x6 (ix3 2 e d) := by
  pointwise [val_main_v58, val_main_v57, val_main_v56, val_main_v55, val_main_v54, val_main_v53, val_main_v52, val_main_v51]

/-- The gate of an expert on a row. -/
theorem ref_gate (r : Fin 73728) (e : Fin 32) :
    val_main_v24 (F := Ideal) x0 x1 (ix2 r e) = if x0 (ix1 (Expert.tileOfRow (N := 288) rfl r)) = BitVec.ofNat 32 e.val ∧ IntOp.cmpi .sgt (x1 (ix1 (Expert.tileOfRow (N := 288) rfl r))) 0#32 = 1#1 then 1 else 0 :=
  Cert.Reference8Ideal.Experts.ref_gate x0 x1 r e

/-- The gated sum over the experts. -/
theorem ref_sum (r : Fin 73728) (d : Fin 4096) :
    val_main_v60 (F := Ideal) x0 x1 x2 x3 x4 x5 x6 (ix2 r d) = ∑ e : Fin 32, val_main_v24 (F := Ideal) x0 x1 (ix2 r e) * val_main_v58 (F := Ideal) x2 x3 x4 x5 x6 (ix3 e r d) := by
  pointwise [val_main_v60, val_main_v59]

/-- The plain formula's result, given tables of names and counts. -/
theorem ref_final (h : ∀ n : Fin 288, (x0 (ix1 n)).toNat < 32 ∧ (x1 (ix1 n)).toNat < 2 ^ 31) (r : Fin 73728) (d : Fin 4096) :
    val_main_v60 (F := Ideal) x0 x1 x2 x3 x4 x5 x6 (ix2 r d) = Expert.result (N := 288) (M := 73728) rfl 2 x0 x1 x2 x3 x4 x5 x6 r d := by
  obtain ⟨h0, h1⟩ := h (Expert.tileOfRow (N := 288) rfl r)
  have named (e : Fin 32) := Expert.named _ e h0
  rw [ref_sum]
  unfold Expert.result
  by_cases z : x1 (ix1 (Expert.tileOfRow (N := 288) rfl r)) = 0#32
  · rw [if_pos z]
    refine Finset.sum_eq_zero fun e _ => ?_
    rw [ref_gate, if_neg (fun k => (Tables.sgt_zero _ h1).mp k.2 z), zero_mul]
  · rw [if_neg z, Finset.sum_eq_single (Expert.pick (x0 (ix1 (Expert.tileOfRow (N := 288) rfl r))))]
    · rw [ref_gate, if_pos ⟨(named _).mpr rfl, (Tables.sgt_zero _ h1).mpr z⟩, one_mul, ref_out]
      unfold Expert.expert
      refine congrArg (· + _) (Finset.sum_congr rfl fun f _ => ?_)
      rw [ref_act, ref_feature, ref_feature]
    · intro e _ he
      rw [ref_gate, if_neg (fun k => he ((named e).mp k.1)), zero_mul]
    · exact fun k => absurd (Finset.mem_univ _) k

end Cert.Reference10Ideal.Experts

end
-- ==== Proof.E11Same.lean ====
/- The idealized program of layer 3's experts is the program itself. -/
module

public import proofs.«01_k».proof.Proof.Gen.Kernel11
public import proofs.«01_k».proof.Proof.Gen.Kernel11Ideal

@[expose] public section

set_option maxRecDepth 16384

noncomputable section

namespace Cert.Kernel11Ideal.Experts

open Idealize.ShloMosaic Idealize.ShloMosaic.TcCoe Idealize.SL.Sem

variable {F : FTy → Type} [FloatOps F]

set_option maxHeartbeats 1000000 in
/-- The two programs' bodies are one. -/
theorem bodies : Cert.Kernel11.defs₀ (F := F) = Cert.Kernel11Ideal.defs₀ := by
  refine congrArg Defs.onTc (funext fun l => funext fun a => ?_)
  match l, a with
  | 0, (t, s) => rfl

set_option maxHeartbeats 1000000 in
/-- What a run of the program does, a run of the idealized program does. -/
theorem transfer (s) (Q : _ → Prop) (h : θ_run Cert.Kernel11.defs (onTc (τ := Cert.Kernel11.τ) (Cert.Kernel11.main (F := F))) s Q) :
    θ_run Cert.Kernel11Ideal.defs (onTc (τ := Cert.Kernel11Ideal.τ) (Cert.Kernel11Ideal.main (F := F))) s Q := by
  rw [← show Cert.Kernel11.defs (F := F) = Cert.Kernel11Ideal.defs from congrArg (Pipeline.defs (Cert.Kernel11.pcfgs (F := F))) bodies]
  exact h

end Cert.Kernel11Ideal.Experts

end
-- ==== Proof.E11Kit.lean ====
module

public import proofs.«01_k».proof.Proof.Gen.Kernel11.Launch
public import proofs.«01_k».proof.Proof.Gen.Kernel11.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel11.Experts

open Cert.Kernel11 Cert.Kernel11.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host part -/

/-- What each buffer holds when the call begins. -/
abbrev V (c : Dev nD) (b : Ref sig .tc) : Buf (Elt F) ((c : Thread nD τ).loc b) := StableHlo.after hostOps0 (fun b => m (c, b)) b

/-- The reshapes on the host make no buffer of their own. -/
theorem hostOps0_fresh : (hostOps0 : List (HloOp τ sig (Elt F))).Forall fun op => op.fresh = ∅ := by
  simp only [List.Forall]; repeat' constructor

/-- The host part of the program leads up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is found by the call as it was at launch. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The two tables, as the call finds them. -/
def tbl : pre0.Contents (Elt F) := fun j => V m (0 : Dev nD) (pre0.ref j)
/-- They are those of the only device. -/
theorem V_pre (c : Dev nD) (j : Fin 2) : V m c (pre0.ref j) = tbl m j := by
  obtain rfl : c = 0 := Subsingleton.elim _ _; rfl
/-- Every block the tables ask for lies inside its array. -/
abbrev Ok : Prop := ok0 (F := F) (tbl m)
/-- The tables as ones the pipeline may run on, -/
abbrev adm (hO : Ok m) : (pcfg0 (F := F)).Adm := ⟨tbl m, hO⟩
/-- and the pipeline on them. -/
abbrev cfgM (hO : Ok m) : Pipeline.Cfg sig Λ₀ := cfg0 (adm m hO)

/-- The tables as the body is handed them. -/
abbrev tbM0_0 : Memref sig .tc .smem S288 .i32 := Memref.whole main_arg0
abbrev htbM0_0 : tbM0_0.IsWhole := Memref.isWhole_whole _
abbrev tbM0_1 : Memref sig .tc .smem S288 .i32 := Memref.whole main_arg1
abbrev htbM0_1 : tbM0_1.IsWhole := Memref.isWhole_whole _

/-- A table's contents, -/
abbrev TbBuf0 (c : Dev nD) {S : Shape} {e : EltTy} (M : Memref sig .tc .smem S e) : Type := Buf (Elt F) (M.view.loc (c : Thread nD τ))
/-- and half of the right to read it. -/
abbrev tbPt0 (c : Dev nD) {S : Shape} {e : EltTy} (M : Memref sig .tc .smem S e) (f : TbBuf0 (F := F) c M) : sProp 𝕄 :=
  M.view.loc (c : Thread nD τ) ↦{fullShare.right} f

/-- What the body holds of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The arguments -/

/-- Every argument ends as it was. -/
abbrev Kept (mem : (ℓ : Loc nD τ sig) → Buf (Elt F) ℓ) : Prop := ∀ c : Dev nD,
      mem (c.tc.loc main_arg0) = m (c.tc.loc main_arg0)
      ∧ mem (c.tc.loc main_arg1) = m (c.tc.loc main_arg1)
      ∧ mem (c.tc.loc main_arg2) = m (c.tc.loc main_arg2)
      ∧ mem (c.tc.loc main_arg3) = m (c.tc.loc main_arg3)
      ∧ mem (c.tc.loc main_arg4) = m (c.tc.loc main_arg4)
      ∧ mem (c.tc.loc main_arg5) = m (c.tc.loc main_arg5)
      ∧ mem (c.tc.loc main_arg6) = m (c.tc.loc main_arg6)

/-- A run that leaves the arrays as the proof data say leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => Kept m r.2.mem) :=
  (θ_run defs _ _).mono (fun _ h c => ⟨((h c).2 _ (by decide : main_arg0 ∈ Pipeline.restRefs sig spec0)).trans (V_kept m c _ (by decide) (by decide)),
      ((h c).2 _ (by decide : main_arg1 ∈ Pipeline.restRefs sig spec0)).trans (V_kept m c _ (by decide) (by decide)),
      ((h c).1 0).trans (((dats 0 c).arrAt_in 0 rfl _).trans ((hA c 0).trans (V_kept m c main_arg2 (by decide) (by decide)))),
      ((h c).1 1).trans (((dats 0 c).arrAt_in 1 rfl _).trans ((hA c 1).trans (V_kept m c main_arg3 (by decide) (by decide)))),
      ((h c).2 _ (by decide : main_arg4 ∈ Pipeline.restRefs sig spec0)).trans (V_kept m c _ (by decide) (by decide)),
      ((h c).1 3).trans (((dats 0 c).arrAt_in 3 rfl _).trans ((hA c 3).trans (V_kept m c main_arg5 (by decide) (by decide)))),
      ((h c).2 _ (by decide : main_arg6 ∈ Pipeline.restRefs sig spec0)).trans (V_kept m c _ (by decide) (by decide))⟩) h

/-! ## The buffers -/

/-- The two copies of the weights. -/
abbrev scM0_0 : Memref sig .tc .vmem S4096x512 .bf16 := Memref.whole cc0_scratch0
abbrev scM0_1 : Memref sig .tc .vmem S256x4096 .bf16 := Memref.whole cc0_scratch1

/-- What the call owns beside the windows: the copies and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel11.Experts

end
-- ==== Proof.E11Run.lean ====
module

public import proofs.«01_k».proof.Proof.Known
public import proofs.«01_k».proof.Proof.E11Kit
public import proofs.«01_k».proof.Proof.E8Run
public import Idealize.ShloMosaic.Lib.VecWindow
public import Idealize.ShloMosaic.Lib.Pipeline.ValueKit

@[expose] public section

set_option maxRecDepth 16384

noncomputable section

namespace Cert.Kernel11.Experts

open Cert.Known Cert.Kernel11 Cert.Kernel11.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one tile of tokens computes -/

/-- The expert number the body reads for its own tile. -/
def here (c : Dev nD) (i : grid0.Coords) (xt0 : TbBuf0 (F := F) c tbM0_0) : BitVec 32 :=
  View.readAt (Elt F) tbM0_0.view (Rect.unit (s := S288) (k0_off1 i) S1.size (k0_off1_inb i)).toLoadRect xt0
    (Shape.Idx.first (numel1_S1 ▸ Nat.one_pos))
/-- The expert number the body reads for the tile before. -/
def prev (c : Dev nD) (i : grid0.Coords) (xt0 : TbBuf0 (F := F) c tbM0_0) : BitVec 32 :=
  View.readAt (Elt F) tbM0_0.view (Rect.unit (s := S288) (k0_off2 i) S1.size (k0_off2_inb i)).toLoadRect xt0
    (Shape.Idx.first (numel1_S1 ▸ Nat.one_pos))
/-- The number of valid rows of the tile, as the first guard reads it. -/
def rows (c : Dev nD) (i : grid0.Coords) (xt1 : TbBuf0 (F := F) c tbM0_1) : BitVec 32 :=
  View.readAt (Elt F) tbM0_1.view (Rect.unit (s := S288) (k0_off3 i) S1.size (k0_off3_inb i)).toLoadRect xt1
    (Shape.Idx.first (numel1_S1 ▸ Nat.one_pos))
/-- The number of valid rows of the tile, as the second guard reads it. -/
def rows' (c : Dev nD) (i : grid0.Coords) (xt1 : TbBuf0 (F := F) c tbM0_1) : BitVec 32 :=
  View.readAt (Elt F) tbM0_1.view (Rect.unit (s := S288) (k0_off4 i) S1.size (k0_off4_inb i)).toLoadRect xt1
    (Shape.Idx.first (numel1_S1 ▸ Nat.one_pos))

/-- The body copies the weights anew: at the first tile, and where the expert is not that of the tile before. -/
abbrev Anew (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two halves of the copies and of the bias a tile is worked out of. -/
abbrev upper : Rect S4096x512 := Rect.unit ![0, 0] S2048x512.size inb_S4096x512_S2048x512_0_0
abbrev lower : Rect S4096x512 := Rect.unit ![2048, 0] S2048x512.size inb_S4096x512_S2048x512_2048_0
abbrev left : Rect S256x4096 := Rect.unit ![0, 0] S256x2048.size inb_S256x4096_S256x2048_0_0
abbrev right : Rect S256x4096 := Rect.unit ![0, 2048] S256x2048.size inb_S256x4096_S256x2048_0_2048

/-- What the body stores for a tile that has rows: the left half of the columns, then the right half, out of the
    tile's words `x0`, the two copied weights `w0`, `w1` and the two biases `x2`, `x4`. -/
def halves (x0 : Vec F S256x2048 .i32) (w0 : Vec F S4096x512 .bf16) (x2 : Vec F S1x1x512 .f32)
    (w1 : Vec F S256x4096 .bf16) (x4 : Vec F S1x1x4096 .f32) : List (View.Piece (Elt F) S256x4096 .bf16) :=
  [⟨Rect.unit (s := S256x4096) ![0, 2048] S256x2048.size inb_S256x4096_S256x2048_0_2048,
      k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048))⟩,
   ⟨Rect.unit (s := S256x4096) ![0, 0] S256x2048.size inb_S256x4096_S256x2048_0_0,
      k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0))⟩]

/-- The two halves fill the tile. -/
theorem halves_cover (x0 : Vec F S256x2048 .i32) (w0 : Vec F S4096x512 .bf16) (x2 : Vec F S1x1x512 .f32)
    (w1 : Vec F S256x4096 .bf16) (x4 : Vec F S1x1x4096 .f32) (y : S256x4096.Idx) :
    ∃ pc ∈ halves x0 w0 x2 w1 x4, y ∈ pc.1.set :=
  View.cover_of_tiledL (halves x0 w0 x2 w1 x4) S256x2048.size (by sl_kernel_rfl) y

/-- The tile the body leaves: zeros where the tile has no rows, else the two halves. -/
def tile (r : BitVec 32) (x0 : Vec F S256x2048 .i32) (w0 : Vec F S4096x512 .bf16) (x2 : Vec F S1x1x512 .f32)
    (w1 : Vec F S256x4096 .bf16) (x4 : Vec F S1x1x4096 .f32) : Vec F S256x4096 .bf16 :=
  if k0_cond3 r = 1#1 then k0_pay5 (F := F) else View.canon (halves x0 w0 x2 w1 x4)

set_option maxHeartbeats 1000000 in
/-- The body is the one of the call it is shared with. -/
theorem bodies : Cert.Kernel8.defs₀ (F := F) = defs₀ := by
  refine congrArg Defs.onTc (funext fun l => funext fun a => ?_)
  match l, a with
  | 0, (t, s) => rfl

set_option maxHeartbeats 2000000 in
/-- One tile's body, on any buffers: the inputs stay, the two copies hold the tile's expert's weights if they are made
    anew and stay otherwise, and the output buffer ends at the tile. -/
theorem run (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x512 .f32) (harg5 : arg5.IsWhole) (arg6 : Memref sig .tc .vmem S1x1x256x4096 .f32) (harg6 : arg6.IsWhole) (arg7 : Memref sig .tc .vmem S1x1x4096 .f32) (harg7 : arg7.IsWhole) (arg8 : Memref sig .tc .vmem S256x4096 .bf16) (harg8 : arg8.IsWhole) (arg9 : Memref sig .tc .vmem S4096x512 .bf16) (harg9 : arg9.IsWhole) (arg10 : Memref sig .tc .vmem S256x4096 .bf16) (harg10 : arg10.IsWhole)
    (x0 : Vec F S256x2048 .i32) (x1 : Vec F S1x1x4096x512 .f32) (x2 : Vec F S1x1x512 .f32) (x3 : Vec F S1x1x256x4096 .f32) (x4 : Vec F S1x1x4096 .f32) (s0 : Vec F S4096x512 .bf16) (s1 : Vec F S256x4096 .bf16)
    (xt0 : TbBuf0 (F := F) c tbM0_0) (xt1 : TbBuf0 (F := F) c tbM0_1)
    (w0 : Vec F S4096x512 .bf16) (w1 : Vec F S256x4096 .bf16)
    (hw0 : (if Anew i (here c i xt0) (prev c i xt0) then k0_pay1 x1 else s0) = w0)
    (hw1 : (if Anew i (here c i xt0) (prev c i xt0) then k0_pay2 x3 else s1) = w1)
    (hr : k0_cond3 (rows' c i xt1) = 1#1 ∨ k0_cond2 (rows c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile (rows' c i xt1) x0 w0 x2 w1 x4) ∗ owns (c : Thread nD τ) arg9 fullShare w0 ∗ owns (c : Thread nD τ) arg10 fullShare w1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  have h := Cert.Kernel8.Experts.run c i arg3 harg3 arg4 harg4 arg5 harg5 arg6 harg6 arg7 harg7 arg8 harg8 arg9 harg9 arg10 harg10 x0 x1 x2 x3 x4 s0 s1 xt0 xt1 w0 w1 hw0 hw1 hr E K
  rw [bodies] at h
  exact h

end Cert.Kernel11.Experts

end
-- ==== Proof.E11Words.lean ====
module

public import proofs.«01_k».proof.Proof.E11Run
public import proofs.«01_k».proof.Proof.Tables

@[expose] public section

set_option maxRecDepth 16384

noncomputable section

namespace Cert.Kernel11.Experts

open Cert.Kernel11 Cert.Kernel11.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## The words of the two tables -/

/-- The tile a grid point works on. -/
abbrev tileOf (i : grid0.Coords) : Fin 288 := i 0

/-- The tile before, the first tile's being itself. -/
def before (n : Fin 288) : Fin 288 := ⟨n.val - 1, by omega⟩

theorem here_eq (c : Dev nD) (i : grid0.Coords) (x : TbBuf0 (F := F) c tbM0_0) : here c i x = x (ix1 (tileOf i)) :=
  congrArg x (funext fun a => Fin.ext (by fin_cases a; exact Tables.cast_eq (N := 288) (by decide) (i 0)))
theorem prev_eq (c : Dev nD) (i : grid0.Coords) (x : TbBuf0 (F := F) c tbM0_0) : prev c i x = x (ix1 (before (tileOf i))) :=
  congrArg x (funext fun a => Fin.ext (by fin_cases a; exact Tables.cast_pred (N := 288) (by decide) (i 0)))
theorem rows_eq (c : Dev nD) (i : grid0.Coords) (x : TbBuf0 (F := F) c tbM0_1) : rows c i x = x (ix1 (tileOf i)) :=
  congrArg x (funext fun a => Fin.ext (by fin_cases a; exact Tables.cast_eq (N := 288) (by decide) (i 0)))
theorem rows'_eq (c : Dev nD) (i : grid0.Coords) (x : TbBuf0 (F := F) c tbM0_1) : rows' c i x = x (ix1 (tileOf i)) :=
  congrArg x (funext fun a => Fin.ext (by fin_cases a; exact Tables.cast_eq (N := 288) (by decide) (i 0)))

/-- A table's word at a tile, as the index maps read it. -/
theorem at_eq (pf : pre0.Contents (Elt F)) (i : grid0.Coords) :
    pf.at 0 (Rect.unit (s := S288) (k0_off1 i) S1.size (k0_off1_inb i)) numel1_S1 = pf 0 (ix1 (tileOf i)) := by
  refine congrArg (pf 0) (funext fun a => Fin.ext ?_)
  fin_cases a
  exact Tables.cast_eq (N := 288) (by decide) (i 0)

/-- The four maps that follow the expert name the tile's expert's blocks. -/
theorem map1_eq (pf : pre0.Contents (Elt F)) (i : grid0.Coords) :
    cc0_transform_1 k0_off1_inb numel1_S1 pf i = ![3, (pf 0 (ix1 (tileOf i)) : BitVec 32).toNat, 0, 0] := by
  exact congrArg (fun w : BitVec 32 => (![3, w.toNat, 0, 0] : Fin 4 → ℕ)) (at_eq pf i)
theorem map3_eq (pf : pre0.Contents (Elt F)) (i : grid0.Coords) :
    cc0_transform_3 k0_off1_inb numel1_S1 pf i = ![3, (pf 0 (ix1 (tileOf i)) : BitVec 32).toNat, 0, 0] := by
  exact congrArg (fun w : BitVec 32 => (![3, w.toNat, 0, 0] : Fin 4 → ℕ)) (at_eq pf i)
theorem map2_eq (pf : pre0.Contents (Elt F)) (i : grid0.Coords) :
    cc0_transform_2 k0_off1_inb numel1_S1 pf i
      = ![(Scalar.addi 96#32 (pf 0 (ix1 (tileOf i)) : BitVec 32)).toNat, 0, 0] := by
  exact congrArg (fun w : BitVec 32 => (![(Scalar.addi 96#32 w).toNat, 0, 0] : Fin 3 → ℕ)) (at_eq pf i)
theorem map4_eq (pf : pre0.Contents (Elt F)) (i : grid0.Coords) :
    cc0_transform_4 k0_off1_inb numel1_S1 pf i
      = ![(Scalar.addi 96#32 (pf 0 (ix1 (tileOf i)) : BitVec 32)).toNat, 0, 0] := by
  exact congrArg (fun w : BitVec 32 => (![(Scalar.addi 96#32 w).toNat, 0, 0] : Fin 3 → ℕ)) (at_eq pf i)

/-- Where the weights are not copied anew the tile is not the first and its expert is the one of the tile before. -/
theorem not_anew {i : grid0.Coords} {a b : BitVec 32} (h : ¬ Anew i a b) : (i 0).val ≠ 0 ∧ a = b := by
  have h' := Tables.both_false (BitVec.ofNat 32 (i 0).val == 0#32) (a != b) h
  refine ⟨fun h0 => ?_, ?_⟩
  · rw [h0] at h'; exact absurd h'.1 (by decide)
  · have := h'.2
    simpa using this

/-- The tables say no tile has a negative number of rows. -/
abbrev Full : Prop := ∀ n : Fin 288, k0_cond3 (tbl m 1 (ix1 n) : BitVec 32) = 1#1 ∨ k0_cond2 (tbl m 1 (ix1 n) : BitVec 32) = 1#1

/-- Then every tile is written. -/
theorem not_idle (hF : Full m) (i : grid0.Coords) : idle0 (tbl m) 5 i = false := by
  have e : ∀ (off : Fin 1 → ℕ), off 0 = (i 0).val → ((tbl m).atD 1 off : BitVec 32) = tbl m 1 (ix1 (tileOf i)) := by
    intro off h
    have hb : ∀ a : Fin (pre0.ref 1).ty.shape.rank, off a + 1 ≤ (pre0.ref 1).ty.shape.size a := by
      intro a; fin_cases a
      show off 0 + 1 ≤ 288
      have := (i 0).isLt
      have hlt : (i 0).val < 288 := this
      omega
    refine (dif_pos hb).trans ?_
    refine congrArg (tbl m 1) (funext fun a => Fin.ext ?_)
    fin_cases a
    exact h
  show (!(k0_cond2 ((tbl m).atD 1 (k0_off3 i)) == 1#1) && !(k0_cond3 ((tbl m).atD 1 (k0_off4 i)) == 1#1)) = false
  rw [e _ (Tables.cast_eq (N := 288) (by decide) (i 0)), e _ (Tables.cast_eq (N := 288) (by decide) (i 0))]
  rcases hF (i 0) with h | h <;> rw [h] <;> simp

end Cert.Kernel11.Experts

end
-- ==== Proof.E11Frame.lean ====
module

public import proofs.«01_k».proof.Proof.E11Words
public import Idealize.ShloMosaic.Lib.Claim
public import Idealize.ShloMosaic.Lib.Pipeline.Kit

@[expose] public section

set_option maxRecDepth 16384

noncomputable section

namespace Cert.Kernel11.Experts

open Cert.Kernel11 Cert.Kernel11.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back after every tile. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body on the buffers of tile `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tile of a grid point is its number. -/
theorem tile_val (t : Fin grid0.N) : (tileOf (grid0.coords t)).val = t.val :=
  (by decide +kernel : ∀ t : Fin grid0.N, (tileOf (grid0.coords t)).val = t.val) t

variable (hO : Ok m) (hF : Full m) (c : Dev nD) (t : Fin (cfgM m hO).N)

/-! ## The contents of the buffers, tile by tile -/

/-- The gate-and-up weights of a tile's expert, as the copy holds them. -/
def copy0 : Vec F S4096x512 .bf16 := k0_pay1 (iblk m hO c 1 t)
/-- The down weights of a tile's expert, as the copy holds them. -/
def copy1 : Vec F S256x4096 .bf16 := k0_pay2 (iblk m hO c 3 t)
/-- The tile of the result that the body leaves. -/
def outAt : Vec F S256x4096 .bf16 :=
  tile (rows' c (grid0.coords t) (tbl m 1)) (iblk m hO c 0 t) (copy0 m hO c t) (iblk m hO c 2 t) (copy1 m hO c t) (iblk m hO c 4 t)

/-- Between two tiles the copies hold the weights of the tile just done. -/
def held (n : ℕ) : sProp 𝕄 :=
  iprop(∃ s0 : Vec F S4096x512 .bf16, ∃ s1 : Vec F S256x4096 .bf16,
    ⌜∀ t : Fin (cfgM m hO).N, t.val + 1 = n → s0 = copy0 m hO c t ∧ s1 = copy1 m hO c t⌝
      ∗ owns (c : Thread nD τ) scM0_0 fullShare s0 ∗ owns (c : Thread nD τ) scM0_1 fullShare s1)

/-- The proof data: every input buffer keeps its block, the output buffer ends at the tile, the copies are tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ n := iprop(held m hO c n.val ∗ (∃ r, prngReg c r) ∗ Pipeline.ΦT pre0 (tbl m) c)
  q _ := fullShare
  owed _ := 0

/-- The arrays are those the call finds. -/
theorem A_eq (w : Fin (cfgM m hO).W) : (dats m hO 0 c).A w = V m c (Pipeline.arrRef spec0 w) := by
  dsimp only [dats]

/-- The output buffer ends at the tile. -/

theorem after0_5 : (dats m hO 0 c).after 5 t = outAt m hO c t := by dsimp only [dats]; try rfl

/-- Each input's buffer holds its block at every point, before the body and after it. -/
theorem input (w : Fin (cfgM m hO).W) (h : w.val < 5) : (∀ d, (dats m hO 0 c).before w t d = iblk m hO c w t) ∧ (dats m hO 0 c).after w t = iblk m hO c w t := by
  change Fin 6 at w
  match w, h with
  | ⟨0, _⟩, _ | ⟨1, _⟩, _ | ⟨2, _⟩, _ | ⟨3, _⟩, _ | ⟨4, _⟩, _ =>
    exact ⟨fun d => ((dats m hO 0 c).before_in_eq_fetched _ rfl (fun _ => rfl) (fun _ _ _ => rfl) (fun _ => rfl) t d).trans rfl, rfl⟩

/-- Two tiles of one expert have one gate-and-up block and one down block. -/
theorem same_block (t' : Fin (cfgM m hO).N)
    (h : (tbl m 0 (ix1 (tileOf (grid0.coords t))) : BitVec 32) = tbl m 0 (ix1 (tileOf (grid0.coords t')))) :
    copy0 m hO c t = copy0 m hO c t' ∧ copy1 m hO c t = copy1 m hO c t' := by
  have i1 : ((cfgM m hO).win 1).index t = ((cfgM m hO).win 1).index t' := by
    show cc0_transform_1 k0_off1_inb numel1_S1 (tbl m) (grid0.coords t) = cc0_transform_1 k0_off1_inb numel1_S1 (tbl m) (grid0.coords t')
    rw [map1_eq, map1_eq, h]
  have i3 : ((cfgM m hO).win 3).index t = ((cfgM m hO).win 3).index t' := by
    show cc0_transform_3 k0_off1_inb numel1_S1 (tbl m) (grid0.coords t) = cc0_transform_3 k0_off1_inb numel1_S1 (tbl m) (grid0.coords t')
    rw [map3_eq, map3_eq, h]
  have e1 : iblk m hO c 1 t = iblk m hO c 1 t' := (dats m hO 0 c).fetched_congr 1 i1 rfl (iblk m hO c 1 t)
  have e3 : iblk m hO c 3 t = iblk m hO c 3 t' := (dats m hO 0 c).fetched_congr 3 i3 rfl (iblk m hO c 3 t)
  unfold copy0 copy1
  exact ⟨congrArg k0_pay1 e1, congrArg k0_pay2 e3⟩

/-! ## The body obligation, at a generic point -/

/-- What the body finds at a tile, -/
def bodyPre : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

include hF in
set_option maxHeartbeats 800000 in
/-- The body at any tile: its inputs are their blocks and its copies those of the tile before, so it ends with the tile
    written and with its own expert's copies. -/
theorem sound_body :
    bodyPre m hO c t ⊢ wp frame (wpE (defs₀ (F := F)) Variants.none c none) Set.univ (bodyAt0 (adm m hO) t) (fun _ => bodyPost m hO c t) := by
  unfold bodyPre bodyPost bodyAt0
  obtain ⟨b0, a0⟩ := input m hO c t 0 (show (0 : ℕ) < 5 by decide)
  obtain ⟨b1, a1⟩ := input m hO c t 1 (show (1 : ℕ) < 5 by decide)
  obtain ⟨b2, a2⟩ := input m hO c t 2 (show (2 : ℕ) < 5 by decide)
  obtain ⟨b3, a3⟩ := input m hO c t 3 (show (3 : ℕ) < 5 by decide)
  obtain ⟨b4, a4⟩ := input m hO c t 4 (show (4 : ℕ) < 5 by decide)
  simp only [b0, b1, b2, b3, b4]
  rw [show (dats m hO 0 c).owesAt () t.succ = (dats m hO 0 c).owesAt () t.castSucc from rfl,
    a0, a1, a2, a3, a4, after0_5]
  rw [show (dats m hO 0 c).Φ t.succ = iprop(held m hO c (t.val + 1) ∗ (∃ r, prngReg c r) ∗ Pipeline.ΦT pre0 (tbl m) c) from rfl,
    show (dats m hO 0 c).Φ t.castSucc = iprop(held m hO c t.val ∗ (∃ r, prngReg c r) ∗ Pipeline.ΦT pre0 (tbl m) c) from rfl, PhiT0_eq]
  unfold held outAt
  iintro ⟨⟨⟨%s0, %s1, %hs, HS0, HS1⟩, Hg, ⟨HT0, HT1⟩⟩, Ho, ⟨%d0, H0⟩, ⟨%d1, H1⟩, ⟨%d2, H2⟩, ⟨%d3, H3⟩, ⟨%d4, H4⟩, ⟨%d5, H5⟩⟩
  have hcopy : ¬ Anew (grid0.coords t) (here c (grid0.coords t) (tbl m 0)) (prev c (grid0.coords t) (tbl m 0)) →
      s0 = copy0 m hO c t ∧ s1 = copy1 m hO c t := by
    intro hn
    obtain ⟨h0, hab⟩ := not_anew hn
    have ht : (tileOf (grid0.coords t)).val = t.val := tile_val t
    have h0' : t.val ≠ 0 := fun h => h0 (ht.trans h)
    have hlt : t.val < (cfgM m hO).N := t.isLt
    let t' : Fin (cfgM m hO).N := ⟨t.val - 1, by omega⟩
    have ht' : (tileOf (grid0.coords t')).val = t.val - 1 := tile_val t'
    have hb : before (tileOf (grid0.coords t)) = tileOf (grid0.coords t') := Fin.ext (by
      show (tileOf (grid0.coords t)).val - 1 = _; rw [ht, ht'])
    have hab' := (here_eq c (grid0.coords t) (tbl m 0)).symm.trans (hab.trans (prev_eq c (grid0.coords t) (tbl m 0)))
    rw [hb] at hab'
    obtain ⟨e0, e1⟩ := same_block m hO c t t' hab'
    obtain ⟨q0, q1⟩ := hs t' (by show t.val - 1 + 1 = t.val; omega)
    exact ⟨q0.trans e0.symm, q1.trans e1.symm⟩
  have hrow : k0_cond3 (rows' c (grid0.coords t) (tbl m 1)) = 1#1 ∨ k0_cond2 (rows c (grid0.coords t) (tbl m 1)) = 1#1 := by
    exact (hF (tileOf (grid0.coords t))).imp (fun h => (congrArg k0_cond3 (rows'_eq c (grid0.coords t) (tbl m 1))).trans h)
      fun h => (congrArg k0_cond2 (rows_eq c (grid0.coords t) (tbl m 1))).trans h
  iapply (run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1)
    (copy0 m hO c t) (copy1 m hO c t)
    (by by_cases h : Anew (grid0.coords t) (here c (grid0.coords t) (tbl m 0)) (prev c (grid0.coords t) (tbl m 0))
        · rw [if_pos h]; rfl
        · rw [if_neg h]; exact (hcopy h).1)
    (by by_cases h : Anew (grid0.coords t) (here c (grid0.coords t) (tbl m 0)) (prev c (grid0.coords t) (tbl m 0))
        · rw [if_pos h]; rfl
        · rw [if_neg h]; exact (hcopy h).2)
    hrow Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr
      swap
      · isplitl [HS0]; · iexact HS0
        iexact HS1
      ipureintro
      intro t' h
      obtain rfl : t' = t := Fin.ext (by omega)
      exact ⟨rfl, rfl⟩
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body at a grid point is the body on that tile's buffers. -/
theorem defs₀_row :
    defs₀ (F := F) .tc (cfgM m hO).body ((cfgM m hO).bodyArgs t ((cfgM m hO).slots t)) = bodyAt0 (adm m hO) t := by
  unfold defs₀; rw [Defs.onTc_tc]

include hF in
/-- The body meets what the pipeline asks of it at every tile. -/
theorem body_obligation : BodyObligation (dats (F := F) m hO 0 c) (defs₀ (F := F)) Variants.none () Set.univ := fun t => by
  rw [bigSep_W0, bigSep_W0, defs₀_row m hO]
  have i5 : idle0 (tbl m) 5 (((pcfg0 (F := F)).gridAt (tbl m)).coords t) = false := not_idle m hF _
  simp only
  rw [i5]
  exact triple_restated (sound_body m hO hF c t) rfl .rfl fun _ => .rfl

/-! ## The run and the frame -/

include hO hF

set_option backward.isDefEq.respectTransparency.types false in
/-- The program runs to its end, with every array as the proof data say and all counters at zero. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop(held m hO c 0 ∗ (∃ r, prngReg c r) ∗ Pipeline.ΦT pre0 (tbl m) c)
      rw [PhiA0_eq]
      unfold held
      iintro ⟨⟨⟨⟨%d0, HS0⟩, ⟨%d1, HS1⟩⟩, Hg⟩, HT⟩
      isplitl [HS0 HS1]
      · iexists d0; iexists d1
        isplitr
        swap
        · isplitl [HS0]; · iexact HS0
          iexact HS1
        ipureintro
        intro t h
        omega
      isplitl [Hg]; · iexact Hg
      iexact HT)
    (hout := fun c => by
      show iprop(held m hO c _ ∗ (∃ r, prngReg c r) ∗ Pipeline.ΦT pre0 (tbl m) c) ⊢ Pipeline.ΦA spec0 c
      rw [PhiA0_eq]
      unfold held
      iintro ⟨⟨%d0, %d1, %hd, HS0, HS1⟩, Hg, -⟩
      isplitl [HS0 HS1]
      · isplitl [HS0]
        · iexists _; iexact HS0
        iexists _; iexact HS1
      iexact Hg)

/-- The run without the counters. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- Every argument ends as it was. -/
theorem unchanged : θ_run defs (onTc (τ := τ) (main (F := F))) ⟨m, fun _ => 0, ρ⟩ (fun r => Kept m r.2.mem) :=
  frame_of m ρ hO (dats m hO) (A_eq m hO) (run_main m ρ hO hF)

/-- The frame: every argument ends as it was and every counter at zero. -/
theorem frame : θ_run defs (onTc (τ := τ) (main (F := F))) ⟨m, fun _ => 0, ρ⟩ (fun r => Kept m r.2.mem
      ∧ r.2.sem = fun _ => 0) :=
  θ_run_and (unchanged m ρ hO hF) ((θ_run defs _ _).mono (fun _ h => h.2) (run_main_quiescent m ρ hO hF))

end Cert.Kernel11.Experts

end
-- ==== Proof.E11Pre.lean ====
/- Layer 3's experts: the tables a run may be launched on. -/
module

public import proofs.«01_k».proof.Proof.Expert
public import proofs.«01_k».proof.Proof.E11Frame

@[expose] public section

set_option maxRecDepth 16384

noncomputable section

namespace Cert.Kernel11.Experts

open Cert.Kernel11 Cert.Kernel11.Gen Idealize.ShloMosaic Idealize.ShloMosaic.TcCoe Idealize.SL.Sem

variable {F : FTy → Type} [FloatOps F] (m : (ℓ : Loc nD τ sig) → Buf (Elt F) ℓ)

/-- Where each name is one of the 32 experts, every block lies inside its array. -/
theorem inside (h : ∀ n : Fin 288, (tbl m 0 (ix1 n) : BitVec 32).toNat < 32) : Ok m := by
  have b (i : grid0.Coords) : (Scalar.addi 96#32 (tbl m 0 (ix1 (tileOf i)) : BitVec 32)).toNat < 128 :=
    lt_of_eq_of_lt (Expert.base_add 96 (by decide) _ (h (tileOf i))) (Nat.lt_of_lt_of_le (Nat.add_lt_add_left (h (tileOf i)) 96) (by decide))
  refine ⟨fun i => ⟨fun a => ?_, .inl rfl⟩, fun i => ⟨fun a => ?_, .inl rfl⟩, fun i => ⟨fun a => ?_, .inl rfl⟩, fun i => ⟨fun a => ?_, .inl rfl⟩⟩
  · have e := congrFun (map1_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (3 + 1) * 1 ≤ 4)
    | ⟨1, _⟩ => exact n
    | ⟨2, _⟩ => exact (by decide : (0 + 1) * 4096 ≤ 4096)
    | ⟨3, _⟩ => exact (by decide : (0 + 1) * 512 ≤ 512)
  · have e := congrFun (map2_eq (tbl m) i) a
    have n : ((Scalar.addi 96#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 512 ≤ 512)
  · have e := congrFun (map3_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (3 + 1) * 1 ≤ 4)
    | ⟨1, _⟩ => exact n
    | ⟨2, _⟩ => exact (by decide : (0 + 1) * 256 ≤ 256)
    | ⟨3, _⟩ => exact (by decide : (0 + 1) * 4096 ≤ 4096)
  · have e := congrFun (map4_eq (tbl m) i) a
    have n : ((Scalar.addi 96#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 4096 ≤ 4096)

/-- A count that is not negative is zero or positive, as the call tests it. -/
theorem zero_or_more (w : BitVec 32) (h : w.toNat < 2 ^ 31) : k0_cond3 w = 1#1 ∨ k0_cond2 w = 1#1 := by
  by_cases z : w = 0#32
  · exact .inl ((Tables.as_bool (w == 0#32)).mpr (beq_iff_eq.mpr z))
  · exact .inr ((Tables.as_bool (BitVec.slt 0#32 w)).mpr ((StableHlo.Predicate.ofBool_eq_one_iff _).mp ((Tables.sgt_zero w h).mpr z)))

/-- Where no count is negative, every tile's result is written. -/
theorem written (h : ∀ n : Fin 288, (tbl m 1 (ix1 n) : BitVec 32).toNat < 2 ^ 31) : Full m := fun n => zero_or_more _ (h n)

/-- What the arguments say of the tables. -/
theorem of_words (h : ∀ n : Fin 288, (m ((0 : Dev nD).tc.loc main_arg0) (ix1 n) : BitVec 32).toNat < 32
      ∧ (m ((0 : Dev nD).tc.loc main_arg1) (ix1 n) : BitVec 32).toNat < 2 ^ 31) :
    (∀ n : Fin 288, (tbl m 0 (ix1 n) : BitVec 32).toNat < 32) ∧ Ok m ∧ Full m := by
  have t0 : (tbl m 0 : S288.Idx → BitVec 32) = m ((0 : Dev nD).tc.loc main_arg0) := V_kept m 0 main_arg0 (by decide) (by decide)
  have t1 : (tbl m 1 : S288.Idx → BitVec 32) = m ((0 : Dev nD).tc.loc main_arg1) := V_kept m 0 main_arg1 (by decide) (by decide)
  have h0 (n : Fin 288) : (tbl m 0 (ix1 n) : BitVec 32).toNat < 32 := lt_of_eq_of_lt (congrArg BitVec.toNat (congrFun t0 (ix1 n))) (h n).1
  have h1 (n : Fin 288) : (tbl m 1 (ix1 n) : BitVec 32).toNat < 2 ^ 31 := lt_of_eq_of_lt (congrArg BitVec.toNat (congrFun t1 (ix1 n))) (h n).2
  exact ⟨h0, inside m h0, written m h1⟩

end Cert.Kernel11.Experts

end
-- ==== Proof.E11Value.lean ====
/- Layer 3's experts: what the call leaves in its result. -/
module

public import proofs.«01_k».proof.Proof.Expert
public import proofs.«01_k».proof.Proof.E11Pre
public import proofs.«01_k».proof.Proof.E8Value

@[expose] public section

set_option maxRecDepth 16384

noncomputable section

namespace Cert.Kernel11.Experts

open Cert.Kernel11 Cert.Kernel11.Gen Idealize.ShloMosaic Idealize.ShloMosaic.TcCoe Idealize.SL.Sem

/-- A tile, entry by entry: zero where it has no rows, else the expert's output. -/
theorem tile_apply (r : BitVec 32) (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) :
    tile r x0 w0 x2 w1 x4 (ix2 a d) = if r = 0#32 then (0 : EReal) else
      Expert.expert (fun k => x0 (ix2 a k)) (fun k f => w0 (ix2 k f)) (fun f => x2 (ix3 0 0 f)) (fun f => w1 (ix2 f d)) (x4 (ix3 0 0 d)) :=
  Cert.Kernel8.Experts.tile_apply r x0 w0 x2 w1 x4 a d

variable (m : (ℓ : Loc nD τ sig) → Buf (Elt Ideal) ℓ)

/-- The expert a table names is one of the 32. -/
def Named : Prop := ∀ n : Fin 288, (tbl m 0 (ix1 n) : BitVec 32).toNat < 32

/-- The reshaped gate-and-up biases, read off their argument. -/
theorem bias_gu (c : Dev nD) (n : Fin 128) (l : Fin 4) (e : Fin 32) (h : n.val = l.val * 32 + e.val) (f : Fin 512) :
    V m c main_v0 (ix3 n 0 f) = m (c.tc.loc main_arg4) (ix3 l e f) := by
  have : V m c main_v0 = shapeCast S128x1x512 (m (c.tc.loc main_arg4)) shapeCasts_S4x32x512_S128x1x512 := by
    unfold V hostOps0
    after_results
    try rfl
  rw [this]
  refine Idealize.ShloMosaic.shapeCast_apply _ _ _ _ ?_
  show (S4x32x512.rowMajor (ix3 l e f)).val = (S128x1x512.rowMajor (ix3 n 0 f)).val
  rw [Shape.rowMajor_val_three, Shape.rowMajor_val_three]
  show (l.val * 32 + e.val) * 512 + f.val = (n.val * 1 + 0) * 512 + f.val
  omega

/-- The reshaped down biases, read off their argument. -/
theorem bias_dn (c : Dev nD) (n : Fin 128) (l : Fin 4) (e : Fin 32) (h : n.val = l.val * 32 + e.val) (d : Fin 4096) :
    V m c main_v1 (ix3 n 0 d) = m (c.tc.loc main_arg6) (ix3 l e d) := by
  have : V m c main_v1 = shapeCast S128x1x4096 (m (c.tc.loc main_arg6)) shapeCasts_S4x32x4096_S128x1x4096 := by
    unfold V hostOps0
    after_results
    try rfl
  rw [this]
  refine Idealize.ShloMosaic.shapeCast_apply _ _ _ _ ?_
  show (S4x32x4096.rowMajor (ix3 l e d)).val = (S128x1x4096.rowMajor (ix3 n 0 d)).val
  rw [Shape.rowMajor_val_three, Shape.rowMajor_val_three]
  show (l.val * 32 + e.val) * 4096 + d.val = (n.val * 1 + 0) * 4096 + d.val
  omega

/-- The result's window at tile `t` names the `t`-th block of rows. -/
theorem index5 (hO : Ok m) (t : Fin (cfgM m hO).N) : ((pcfg0 (F := Ideal)).win (adm m hO) 5).index t (0 : Fin 2) = t.val ∧ ((pcfg0 (F := Ideal)).win (adm m hO) 5).index t (1 : Fin 2) = 0 :=
  (by decide +kernel : ∀ t : Fin grid0.N, cc0_transform_5 (grid0.coords t) 0 = t.val ∧ cc0_transform_5 (grid0.coords t) 1 = 0) t
/-- The rows' window names the same block. -/
theorem index0 (hO : Ok m) (t : Fin (cfgM m hO).N) : ((pcfg0 (F := Ideal)).win (adm m hO) 0).index t (0 : Fin 2) = t.val ∧ ((pcfg0 (F := Ideal)).win (adm m hO) 0).index t (1 : Fin 2) = 0 :=
  (by decide +kernel : ∀ t : Fin grid0.N, cc0_transform_0 (grid0.coords t) 0 = t.val ∧ cc0_transform_0 (grid0.coords t) 1 = 0) t

/-- The tiles fill the result. -/
theorem covers5 (hO : Ok m) : ((cfgM m hO).win 5).Covers := by
  refine ⟨(by decide : ∀ a : Fin 2, 0 < (![256, 4096] : Fin 2 → ℕ) a), fun β => ?_⟩
  have n0 : ((cfgM m hO).win 5).nblk (0 : Fin 2) = 288 := by unfold Pipeline.Window.nblk; show (73728 + 256 - 1) / 256 = 288; rfl
  have n1 : ((cfgM m hO).win 5).nblk (1 : Fin 2) = 1 := by unfold Pipeline.Window.nblk; show (4096 + 4096 - 1) / 4096 = 1; rfl
  have h0 : (β (0 : Fin 2)).val < 288 := lt_of_lt_of_eq (β (0 : Fin 2)).isLt n0
  have h1 : (β (1 : Fin 2)).val < 1 := lt_of_lt_of_eq (β (1 : Fin 2)).isLt n1
  refine ⟨⟨(β (0 : Fin 2)).val, h0⟩, flush0_5 (adm m hO) _, fun a => ⟨?_, .inl rfl⟩⟩
  obtain ⟨i0, i1⟩ := index5 m hO ⟨(β (0 : Fin 2)).val, h0⟩
  change Fin 2 at a
  match a with
  | ⟨0, _⟩ => exact i0
  | ⟨1, _⟩ => exact i1.trans (by show 0 = (β (1 : Fin 2)).val; omega)

/-- The words of a tile, read off the packed rows. -/
theorem words_apply (hO : Ok m) (c : Dev nD) (t : Fin (cfgM m hO).N) (a : Fin 256) (r : Fin 73728) (h : r.val = t.val * 256 + a.val) (k : Fin 2048) :
    iblk m hO c 0 t (ix2 a k) = m (c.tc.loc main_arg2) (ix2 r k) := by
  obtain ⟨i0, i1⟩ := index0 m hO t
  blk_ext! [iblk, V, h]
  · exact congrArg (· * 256 + a.val) i0
  · exact (congrArg (· * 2048 + k.val) i1).trans (by omega)

/-- The word a tile's expert is named by, as a number. -/
abbrev nameAt (t : Fin grid0.N) : ℕ := (tbl m 0 (ix1 (tileOf (grid0.coords t))) : BitVec 32).toNat

/-- The gate-and-up copy of a tile holds its expert's weights. -/
theorem gu_apply (hO : Ok m) (c : Dev nD) (t : Fin (cfgM m hO).N) (e : Fin 32) (h : e.val = nameAt m t) (k : Fin 4096) (f : Fin 512) :
    copy0 m hO c t (ix2 k f) = m (c.tc.loc main_arg3) (ix4 3 e k f) := by
  have i (a : Fin 4) : ((pcfg0 (F := Ideal)).win (adm m hO) 1).index t a = (![3, nameAt m t, 0, 0] : Fin 4 → ℕ) a :=
    congrFun (map1_eq (tbl m) (grid0.coords t)) a
  unfold copy0
  pointwise [k0_pay1]
  blk_ext! [iblk, V]
  · exact congrArg (· * 1 + 0) (i 0)
  · exact (i 1).trans (by show nameAt m t = _; omega)
  · exact (congrArg (· * 4096 + k.val) (i 2)).trans (by show 0 * 4096 + k.val = k.val; omega)
  · exact (congrArg (· * 512 + f.val) (i 3)).trans (by show 0 * 512 + f.val = f.val; omega)

/-- The down copy of a tile holds its expert's weights. -/
theorem dn_apply (hO : Ok m) (c : Dev nD) (t : Fin (cfgM m hO).N) (e : Fin 32) (h : e.val = nameAt m t) (f : Fin 256) (d : Fin 4096) :
    copy1 m hO c t (ix2 f d) = m (c.tc.loc main_arg5) (ix4 3 e f d) := by
  have i (a : Fin 4) : ((pcfg0 (F := Ideal)).win (adm m hO) 3).index t a = (![3, nameAt m t, 0, 0] : Fin 4 → ℕ) a :=
    congrFun (map3_eq (tbl m) (grid0.coords t)) a
  unfold copy1
  pointwise [k0_pay2]
  blk_ext! [iblk, V]
  · exact congrArg (· * 1 + 0) (i 0)
  · exact (i 1).trans (by show nameAt m t = _; omega)
  · exact (congrArg (· * 256 + f.val) (i 2)).trans (by show 0 * 256 + f.val = f.val; omega)
  · exact (congrArg (· * 4096 + d.val) (i 3)).trans (by show 0 * 4096 + d.val = d.val; omega)

/-- The gate-and-up bias of a tile is its expert's. -/
theorem gub_apply (hO : Ok m) (c : Dev nD) (t : Fin (cfgM m hO).N) (e : Fin 32) (h : e.val = nameAt m t) (f : Fin 512) :
    iblk m hO c 2 t (ix3 0 0 f) = m (c.tc.loc main_arg4) (ix3 3 e f) := by
  have i (a : Fin 3) : ((pcfg0 (F := Ideal)).win (adm m hO) 2).index t a = (![96 + nameAt m t, 0, 0] : Fin 3 → ℕ) a := by
    refine (congrFun (map2_eq (tbl m) (grid0.coords t)) a).trans (congrArg (fun n : ℕ => (![n, 0, 0] : Fin 3 → ℕ) a) ?_)
    exact Expert.base_add 96 (by decide) _ (show nameAt m t < 32 by omega)
  have j : iblk m hO c 2 t (ix3 0 0 f) = V m c main_v0 (ix3 ⟨96 + e.val, by omega⟩ 0 f) := by
    refine congrArg (V m c main_v0) (show ((spec0 2).arr.view.slice (((pcfg0 (F := Ideal)).win (adm m hO) 2).rect t)).emb (ix3 0 0 f) = ix3 ⟨96 + e.val, by omega⟩ 0 f from ?_)
    refine funext fun a => Fin.ext ?_
    change Fin 3 at a
    match a with
    | ⟨0, _⟩ => exact Eq.trans (by blk_simp; rfl) ((i 0).trans (show 96 + nameAt m t = 96 + e.val by omega))
    | ⟨1, _⟩ => exact Eq.trans (by blk_simp; rfl) (i 1)
    | ⟨2, _⟩ => exact Eq.trans (by blk_simp) ((congrArg (· * 512 + f.val) (i 2)).trans (by show 0 * 512 + f.val = f.val; omega))
  exact j.trans (bias_gu m c _ 3 e rfl f)

/-- The down bias of a tile is its expert's. -/
theorem dnb_apply (hO : Ok m) (c : Dev nD) (t : Fin (cfgM m hO).N) (e : Fin 32) (h : e.val = nameAt m t) (d : Fin 4096) :
    iblk m hO c 4 t (ix3 0 0 d) = m (c.tc.loc main_arg6) (ix3 3 e d) := by
  have i (a : Fin 3) : ((pcfg0 (F := Ideal)).win (adm m hO) 4).index t a = (![96 + nameAt m t, 0, 0] : Fin 3 → ℕ) a := by
    refine (congrFun (map4_eq (tbl m) (grid0.coords t)) a).trans (congrArg (fun n : ℕ => (![n, 0, 0] : Fin 3 → ℕ) a) ?_)
    exact Expert.base_add 96 (by decide) _ (show nameAt m t < 32 by omega)
  have j : iblk m hO c 4 t (ix3 0 0 d) = V m c main_v1 (ix3 ⟨96 + e.val, by omega⟩ 0 d) := by
    refine congrArg (V m c main_v1) (show ((spec0 4).arr.view.slice (((pcfg0 (F := Ideal)).win (adm m hO) 4).rect t)).emb (ix3 0 0 d) = ix3 ⟨96 + e.val, by omega⟩ 0 d from ?_)
    refine funext fun a => Fin.ext ?_
    change Fin 3 at a
    match a with
    | ⟨0, _⟩ => exact Eq.trans (by blk_simp; rfl) ((i 0).trans (show 96 + nameAt m t = 96 + e.val by omega))
    | ⟨1, _⟩ => exact Eq.trans (by blk_simp; rfl) (i 1)
    | ⟨2, _⟩ => exact Eq.trans (by blk_simp) ((congrArg (· * 4096 + d.val) (i 2)).trans (by show 0 * 4096 + d.val = d.val; omega))
  exact j.trans (bias_dn m c _ 3 e rfl d)

/-- The experts' outputs, out of the arguments the call finds. -/
abbrev outputs (c : Dev nD) : Fin 73728 → Fin 4096 → EReal :=
  Expert.result (N := 288) (M := 73728) rfl 3 (m (c.tc.loc main_arg0)) (m (c.tc.loc main_arg1)) (m (c.tc.loc main_arg2)) (m (c.tc.loc main_arg3)) (m (c.tc.loc main_arg4)) (m (c.tc.loc main_arg5)) (m (c.tc.loc main_arg6))

/-- A row of a tile, as the arguments have it. -/
theorem row_eq (hO : Ok m) (hN : Named m) (c : Dev nD) (t : Fin (cfgM m hO).N) (a : Fin 256) (r : Fin 73728) (h : r.val = t.val * 256 + a.val) (d : Fin 4096) :
    (if rows' c (grid0.coords t) (tbl m 1) = 0#32 then (0 : EReal) else
      Expert.expert (fun k => iblk m hO c 0 t (ix2 a k)) (fun k f => copy0 m hO c t (ix2 k f)) (fun f => iblk m hO c 2 t (ix3 0 0 f))
        (fun f => copy1 m hO c t (ix2 f d)) (iblk m hO c 4 t (ix3 0 0 d)))
    = outputs m c r d := by
  have hn : tileOf (grid0.coords t) = Expert.tileOfRow (N := 288) rfl r := Fin.ext (by rw [tile_val t]; show t.val = r.val / 256; omega)
  have t0 : (tbl m 0 : S288.Idx → BitVec 32) = m (c.tc.loc main_arg0) := by
    obtain rfl : c = 0 := Subsingleton.elim _ _
    exact V_kept m 0 main_arg0 (by decide) (by decide)
  have t1 : (tbl m 1 : S288.Idx → BitVec 32) = m (c.tc.loc main_arg1) := by
    obtain rfl : c = 0 := Subsingleton.elim _ _
    exact V_kept m 0 main_arg1 (by decide) (by decide)
  have w1 : rows' c (grid0.coords t) (tbl m 1) = m (c.tc.loc main_arg1) (ix1 (Expert.tileOfRow (N := 288) rfl r)) :=
    (rows'_eq c (grid0.coords t) _).trans ((congrFun t1 _).trans (by rw [hn]))
  have w0 : (tbl m 0 (ix1 (tileOf (grid0.coords t))) : BitVec 32) = m (c.tc.loc main_arg0) (ix1 (Expert.tileOfRow (N := 288) rfl r)) :=
    (congrFun t0 _).trans (by rw [hn])
  have he : (Expert.pick (m (c.tc.loc main_arg0) (ix1 (Expert.tileOfRow (N := 288) rfl r)))).val = nameAt m t := by
    show BitVec.toNat _ % 32 = BitVec.toNat _
    rw [← w0]
    exact Nat.mod_eq_of_lt (hN _)
  unfold outputs Expert.result
  rw [w1]
  refine if_congr Iff.rfl rfl ?_
  congr 1
  · exact funext fun k => words_apply m hO c t a r h k
  · exact funext fun k => funext fun f => gu_apply m hO c t _ he k f
  · exact funext fun f => gub_apply m hO c t _ he f
  · exact funext fun f => dn_apply m hO c t _ he f d
  · exact dnb_apply m hO c t _ he d

/-- After the run, the result array is the experts' outputs row by row. -/
theorem final (hO : Ok m) (hN : Named m) (c : Dev nD) :
    (dats m hO 0 c).arrAt 5 (cfgM m hO).N = fun i : S73728x4096.Idx => outputs m c (i 0) (i 1) := by
  refine (dats m hO 0 c).arrAt_eq_of_covers 5 _ (covers5 m hO) fun t hf y => ?_
  blk_simp
  rw [after0_5]
  change S256x4096.Idx at y
  idx_vars y
  unfold outAt
  refine (tile_apply _ _ _ _ _ _ y0 y1).trans ?_
  obtain ⟨i0, i1⟩ := index5 m hO t
  have r0 : (((spec0 5).arr.view.slice (((pcfg0 (F := Ideal)).win (adm m hO) 5).rect t)).emb (ix2 y0 y1) (0 : Fin 2)).val = t.val * 256 + y0.val := by
    refine Eq.trans ?_ (congrArg (· * 256 + y0.val) i0)
    blk_simp
  have r1 : ((spec0 5).arr.view.slice (((pcfg0 (F := Ideal)).win (adm m hO) 5).rect t)).emb (ix2 y0 y1) (1 : Fin 2) = y1 := by
    refine Fin.ext ?_
    refine Eq.trans ?_ ((congrArg (· * 4096 + y1.val) i1).trans (by show 0 * 4096 + y1.val = y1.val; omega))
    blk_simp
  exact (row_eq m hO hN c t y0 _ r0 y1).trans (congrArg (fun z => outputs m c _ z) r1.symm)

/-- The call runs, leaves the experts' outputs in its result, and leaves its arguments as they were. -/
theorem value (ρ : Dev nD → PrngReg) (hO : Ok m) (hF : Full m) (hN : Named m) : θ_run defs (onTc (τ := τ) (main (F := Ideal))) ⟨m, fun _ => 0, ρ⟩ (fun r => ∀ c : Dev nD,
      r.2.mem ((c.tc : Thread nD τ).loc main_v2) = (fun i : S73728x4096.Idx => outputs m c (i 0) (i 1))
      ∧ Kept m r.2.mem) :=
  (θ_run defs _ _).mono (fun _ h c => ⟨((h.1 c).1 5).trans (final m hO hN c), h.2⟩) (θ_run_and (run_main m ρ hO hF) (unchanged m ρ hO hF))

end Cert.Kernel11.Experts

end
-- ==== Proof.E11Ref.lean ====
/- Layer 3's experts: the plain formula, entry by entry. -/
module

public import proofs.«01_k».proof.Proof.Expert
public import proofs.«01_k».proof.Proof.E8Ref
public import proofs.«01_k».proof.Proof.Gen.Reference11Ideal.Read

@[expose] public section

set_option maxRecDepth 16384

noncomputable section

namespace Cert.Reference11Ideal.Experts

open Idealize.ShloMosaic Idealize.ShloMosaic.TcCoe Idealize.SL.Sem
open Cert.Reference11Ideal Cert.Reference11Ideal.Gen Cert.Reference11Ideal.Read

variable (x0 x1 : S288.Idx → BitVec 32) (x2 : S73728x2048.Idx → BitVec 32) (x3 : S4x32x4096x512.Idx → EReal) (x4 : S4x32x512.Idx → EReal)
  (x5 : S4x32x256x4096.Idx → EReal) (x6 : S4x32x4096.Idx → EReal)

/-- The unpacked rows: the first numbers of the words, then the second. -/
theorem ref_rows_lo (r : Fin 73728) (k : Fin 2048) :
    val_main_v6 (F := Ideal) x2 (ix2 r (Fin.castLE (show 2048 ≤ 4096 by decide) k)) = Expert.lo (x2 (ix2 r k)) :=
  Cert.Reference8Ideal.Experts.ref_rows_lo x2 r k

theorem ref_rows_hi (r : Fin 73728) (k : Fin 2048) :
    val_main_v6 (F := Ideal) x2 (ix2 r (Fin.natAdd 2048 k)) = Expert.hi (x2 (ix2 r k)) :=
  Cert.Reference8Ideal.Experts.ref_rows_hi x2 r k

/-- The gate-and-up features of a row under an expert. -/
theorem ref_feature (e : Fin 32) (r : Fin 73728) (f : Fin 512) :
    val_main_v33 (F := Ideal) x2 x3 x4 (ix3 e r f) = Expert.feature (fun k => x2 (ix2 r k)) (fun k => x3 (ix4 3 e k f)) (x4 (ix3 3 e f)) := by
  pointwise [val_main_v33, val_main_v32, val_main_v31, val_main_v30, val_main_v29, val_main_v28, val_main_v27, val_main_v26, val_main_v25]
  unfold Expert.feature
  refine congrArg (· + x4 (ix3 3 e f)) ?_
  refine (Fin.sum_univ_add (a := 2048) (b := 2048) fun k : Fin 4096 => x3 (ix4 3 e k f) * val_main_v6 (F := Ideal) x2 (ix2 r k)).trans ?_
  refine congrArg₂ (· + ·) (Finset.sum_congr rfl fun k _ => ?_) (Finset.sum_congr rfl fun k _ => ?_)
  · exact (mul_comm _ _).trans (congrArg (· * _) (ref_rows_lo x2 r k))
  · exact (mul_comm _ _).trans (congrArg (· * _) (ref_rows_hi x2 r k))

/-- The activations. -/
theorem ref_act (e : Fin 32) (r : Fin 73728) (f : Fin 256) :
    val_main_v50 (F := Ideal) x2 x3 x4 (ix3 e r f) = Expert.act (val_main_v33 (F := Ideal) x2 x3 x4 (ix3 e r (Fin.castLE (show 256 ≤ 512 by decide) f)))
      (val_main_v33 (F := Ideal) x2 x3 x4 (ix3 e r (Fin.natAdd 256 f))) := by
  pointwise [val_main_v50, val_main_v49, val_main_v48, val_main_cst_9, val_main_v47, val_main_v46, val_main_v45, val_main_cst_8, val_main_v44, val_main_v43, val_main_cst_7,
    val_main_v42, val_main_v41, val_main_v40, val_main_v39, val_main_cst_6, val_main_v38, val_main_v37, val_main_v36, val_main_v35, val_main_cst_3, val_main_v34, val_main_call1_v0, val_main_cst_4, val_main_call1_v1, val_main_call1_v2, val_main_call1_v3, val_main_cst_5, val_main_call1_v4]
  rfl

/-- An expert's output on a row. -/
theorem ref_out (e : Fin 32) (r : Fin 73728) (d : Fin 4096) :
    val_main_v58 (F := Ideal) x2 x3 x4 x5 x6 (ix3 e r d) = (∑ f : Fin 256, val_main_v50 (F := Ideal) x2 x3 x4 (ix3 e r f) * x5 (ix4 3 e f d)) + x6 (ix3 3 e d) := by
  pointwise [val_main_v58, val_main_v57, val_main_v56, val_main_v55, val_main_v54, val_main_v53, val_main_v52, val_main_v51]

/-- The gate of an expert on a row. -/
theorem ref_gate (r : Fin 73728) (e : Fin 32) :
    val_main_v24 (F := Ideal) x0 x1 (ix2 r e) = if x0 (ix1 (Expert.tileOfRow (N := 288) rfl r)) = BitVec.ofNat 32 e.val ∧ IntOp.cmpi .sgt (x1 (ix1 (Expert.tileOfRow (N := 288) rfl r))) 0#32 = 1#1 then 1 else 0 :=
  Cert.Reference8Ideal.Experts.ref_gate x0 x1 r e

/-- The gated sum over the experts. -/
theorem ref_sum (r : Fin 73728) (d : Fin 4096) :
    val_main_v60 (F := Ideal) x0 x1 x2 x3 x4 x5 x6 (ix2 r d) = ∑ e : Fin 32, val_main_v24 (F := Ideal) x0 x1 (ix2 r e) * val_main_v58 (F := Ideal) x2 x3 x4 x5 x6 (ix3 e r d) := by
  pointwise [val_main_v60, val_main_v59]

/-- The plain formula's result, given tables of names and counts. -/
theorem ref_final (h : ∀ n : Fin 288, (x0 (ix1 n)).toNat < 32 ∧ (x1 (ix1 n)).toNat < 2 ^ 31) (r : Fin 73728) (d : Fin 4096) :
    val_main_v60 (F := Ideal) x0 x1 x2 x3 x4 x5 x6 (ix2 r d) = Expert.result (N := 288) (M := 73728) rfl 3 x0 x1 x2 x3 x4 x5 x6 r d := by
  obtain ⟨h0, h1⟩ := h (Expert.tileOfRow (N := 288) rfl r)
  have named (e : Fin 32) := Expert.named _ e h0
  rw [ref_sum]
  unfold Expert.result
  by_cases z : x1 (ix1 (Expert.tileOfRow (N := 288) rfl r)) = 0#32
  · rw [if_pos z]
    refine Finset.sum_eq_zero fun e _ => ?_
    rw [ref_gate, if_neg (fun k => (Tables.sgt_zero _ h1).mp k.2 z), zero_mul]
  · rw [if_neg z, Finset.sum_eq_single (Expert.pick (x0 (ix1 (Expert.tileOfRow (N := 288) rfl r))))]
    · rw [ref_gate, if_pos ⟨(named _).mpr rfl, (Tables.sgt_zero _ h1).mpr z⟩, one_mul, ref_out]
      unfold Expert.expert
      refine congrArg (· + _) (Finset.sum_congr rfl fun f _ => ?_)
      rw [ref_act, ref_feature, ref_feature]
    · intro e _ he
      rw [ref_gate, if_neg (fun k => he ((named e).mp k.1)), zero_mul]
    · exact fun k => absurd (Finset.mem_univ _) k

end Cert.Reference11Ideal.Experts

end
-- ==== Proof.E14Same.lean ====
/- The idealized program of layer 0's experts is the program itself. -/
module

public import proofs.«01_k».proof.Proof.Gen.Kernel14
public import proofs.«01_k».proof.Proof.Gen.Kernel14Ideal

@[expose] public section

set_option maxRecDepth 16384

noncomputable section

namespace Cert.Kernel14Ideal.Experts

open Idealize.ShloMosaic Idealize.ShloMosaic.TcCoe Idealize.SL.Sem

variable {F : FTy → Type} [FloatOps F]

set_option maxHeartbeats 1000000 in
/-- The two programs' bodies are one. -/
theorem bodies : Cert.Kernel14.defs₀ (F := F) = Cert.Kernel14Ideal.defs₀ := by
  refine congrArg Defs.onTc (funext fun l => funext fun a => ?_)
  match l, a with
  | 0, (t, s) => rfl

set_option maxHeartbeats 1000000 in
/-- What a run of the program does, a run of the idealized program does. -/
theorem transfer (s) (Q : _ → Prop) (h : θ_run Cert.Kernel14.defs (onTc (τ := Cert.Kernel14.τ) (Cert.Kernel14.main (F := F))) s Q) :
    θ_run Cert.Kernel14Ideal.defs (onTc (τ := Cert.Kernel14Ideal.τ) (Cert.Kernel14Ideal.main (F := F))) s Q := by
  rw [← show Cert.Kernel14.defs (F := F) = Cert.Kernel14Ideal.defs from congrArg (Pipeline.defs (Cert.Kernel14.pcfgs (F := F))) bodies]
  exact h

end Cert.Kernel14Ideal.Experts

end
-- ==== Proof.E14Kit.lean ====
module

public import proofs.«01_k».proof.Proof.Gen.Kernel14.Launch
public import proofs.«01_k».proof.Proof.Gen.Kernel14.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel14.Experts

open Cert.Kernel14 Cert.Kernel14.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host part -/

/-- What each buffer holds when the call begins. -/
abbrev V (c : Dev nD) (b : Ref sig .tc) : Buf (Elt F) ((c : Thread nD τ).loc b) := StableHlo.after hostOps0 (fun b => m (c, b)) b

/-- The reshapes on the host make no buffer of their own. -/
theorem hostOps0_fresh : (hostOps0 : List (HloOp τ sig (Elt F))).Forall fun op => op.fresh = ∅ := by
  simp only [List.Forall]; repeat' constructor

/-- The host part of the program leads up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is found by the call as it was at launch. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The two tables, as the call finds them. -/
def tbl : pre0.Contents (Elt F) := fun j => V m (0 : Dev nD) (pre0.ref j)
/-- They are those of the only device. -/
theorem V_pre (c : Dev nD) (j : Fin 2) : V m c (pre0.ref j) = tbl m j := by
  obtain rfl : c = 0 := Subsingleton.elim _ _; rfl
/-- Every block the tables ask for lies inside its array. -/
abbrev Ok : Prop := ok0 (F := F) (tbl m)
/-- The tables as ones the pipeline may run on, -/
abbrev adm (hO : Ok m) : (pcfg0 (F := F)).Adm := ⟨tbl m, hO⟩
/-- and the pipeline on them. -/
abbrev cfgM (hO : Ok m) : Pipeline.Cfg sig Λ₀ := cfg0 (adm m hO)

/-- The tables as the body is handed them. -/
abbrev tbM0_0 : Memref sig .tc .smem S48 .i32 := Memref.whole main_arg0
abbrev htbM0_0 : tbM0_0.IsWhole := Memref.isWhole_whole _
abbrev tbM0_1 : Memref sig .tc .smem S48 .i32 := Memref.whole main_arg1
abbrev htbM0_1 : tbM0_1.IsWhole := Memref.isWhole_whole _

/-- A table's contents, -/
abbrev TbBuf0 (c : Dev nD) {S : Shape} {e : EltTy} (M : Memref sig .tc .smem S e) : Type := Buf (Elt F) (M.view.loc (c : Thread nD τ))
/-- and half of the right to read it. -/
abbrev tbPt0 (c : Dev nD) {S : Shape} {e : EltTy} (M : Memref sig .tc .smem S e) (f : TbBuf0 (F := F) c M) : sProp 𝕄 :=
  M.view.loc (c : Thread nD τ) ↦{fullShare.right} f

/-- What the body holds of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The arguments -/

/-- Every argument ends as it was. -/
abbrev Kept (mem : (ℓ : Loc nD τ sig) → Buf (Elt F) ℓ) : Prop := ∀ c : Dev nD,
      mem (c.tc.loc main_arg0) = m (c.tc.loc main_arg0)
      ∧ mem (c.tc.loc main_arg1) = m (c.tc.loc main_arg1)
      ∧ mem (c.tc.loc main_arg2) = m (c.tc.loc main_arg2)
      ∧ mem (c.tc.loc main_arg3) = m (c.tc.loc main_arg3)
      ∧ mem (c.tc.loc main_arg4) = m (c.tc.loc main_arg4)
      ∧ mem (c.tc.loc main_arg5) = m (c.tc.loc main_arg5)
      ∧ mem (c.tc.loc main_arg6) = m (c.tc.loc main_arg6)

/-- A run that leaves the arrays as the proof data say leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => Kept m r.2.mem) :=
  (θ_run defs _ _).mono (fun _ h c => ⟨((h c).2 _ (by decide : main_arg0 ∈ Pipeline.restRefs sig spec0)).trans (V_kept m c _ (by decide) (by decide)),
      ((h c).2 _ (by decide : main_arg1 ∈ Pipeline.restRefs sig spec0)).trans (V_kept m c _ (by decide) (by decide)),
      ((h c).1 0).trans (((dats 0 c).arrAt_in 0 rfl _).trans ((hA c 0).trans (V_kept m c main_arg2 (by decide) (by decide)))),
      ((h c).1 1).trans (((dats 0 c).arrAt_in 1 rfl _).trans ((hA c 1).trans (V_kept m c main_arg3 (by decide) (by decide)))),
      ((h c).2 _ (by decide : main_arg4 ∈ Pipeline.restRefs sig spec0)).trans (V_kept m c _ (by decide) (by decide)),
      ((h c).1 3).trans (((dats 0 c).arrAt_in 3 rfl _).trans ((hA c 3).trans (V_kept m c main_arg5 (by decide) (by decide)))),
      ((h c).2 _ (by decide : main_arg6 ∈ Pipeline.restRefs sig spec0)).trans (V_kept m c _ (by decide) (by decide))⟩) h

/-! ## The buffers -/

/-- The two copies of the weights. -/
abbrev scM0_0 : Memref sig .tc .vmem S4096x512 .bf16 := Memref.whole cc0_scratch0
abbrev scM0_1 : Memref sig .tc .vmem S256x4096 .bf16 := Memref.whole cc0_scratch1

/-- What the call owns beside the windows: the copies and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel14.Experts

end
-- ==== Proof.E14Run.lean ====
module

public import proofs.«01_k».proof.Proof.Known
public import proofs.«01_k».proof.Proof.E14Kit
public import Idealize.ShloMosaic.Lib.VecWindow
public import Idealize.ShloMosaic.Lib.Pipeline.ValueKit

@[expose] public section

set_option maxRecDepth 16384

noncomputable section

namespace Cert.Kernel14.Experts

open Cert.Known Cert.Kernel14 Cert.Kernel14.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one tile of tokens computes -/

/-- The expert number the body reads for its own tile. -/
def here (c : Dev nD) (i : grid0.Coords) (xt0 : TbBuf0 (F := F) c tbM0_0) : BitVec 32 :=
  View.readAt (Elt F) tbM0_0.view (Rect.unit (s := S48) (k0_off1 i) S1.size (k0_off1_inb i)).toLoadRect xt0
    (Shape.Idx.first (numel1_S1 ▸ Nat.one_pos))
/-- The expert number the body reads for the tile before. -/
def prev (c : Dev nD) (i : grid0.Coords) (xt0 : TbBuf0 (F := F) c tbM0_0) : BitVec 32 :=
  View.readAt (Elt F) tbM0_0.view (Rect.unit (s := S48) (k0_off2 i) S1.size (k0_off2_inb i)).toLoadRect xt0
    (Shape.Idx.first (numel1_S1 ▸ Nat.one_pos))
/-- The number of valid rows of the tile, as the first guard reads it. -/
def rows (c : Dev nD) (i : grid0.Coords) (xt1 : TbBuf0 (F := F) c tbM0_1) : BitVec 32 :=
  View.readAt (Elt F) tbM0_1.view (Rect.unit (s := S48) (k0_off3 i) S1.size (k0_off3_inb i)).toLoadRect xt1
    (Shape.Idx.first (numel1_S1 ▸ Nat.one_pos))
/-- The number of valid rows of the tile, as the second guard reads it. -/
def rows' (c : Dev nD) (i : grid0.Coords) (xt1 : TbBuf0 (F := F) c tbM0_1) : BitVec 32 :=
  View.readAt (Elt F) tbM0_1.view (Rect.unit (s := S48) (k0_off4 i) S1.size (k0_off4_inb i)).toLoadRect xt1
    (Shape.Idx.first (numel1_S1 ▸ Nat.one_pos))

/-- The body copies the weights anew: at the first tile, and where the expert is not that of the tile before. -/
abbrev Anew (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two halves of the copies and of the bias a tile is worked out of. -/
abbrev upper : Rect S4096x512 := Rect.unit ![0, 0] S2048x512.size inb_S4096x512_S2048x512_0_0
abbrev lower : Rect S4096x512 := Rect.unit ![2048, 0] S2048x512.size inb_S4096x512_S2048x512_2048_0
abbrev left : Rect S256x4096 := Rect.unit ![0, 0] S256x2048.size inb_S256x4096_S256x2048_0_0
abbrev right : Rect S256x4096 := Rect.unit ![0, 2048] S256x2048.size inb_S256x4096_S256x2048_0_2048

/-- What the body stores for a tile that has rows: the left half of the columns, then the right half, out of the
    tile's words `x0`, the two copied weights `w0`, `w1` and the two biases `x2`, `x4`. -/
def halves (x0 : Vec F S256x2048 .i32) (w0 : Vec F S4096x512 .bf16) (x2 : Vec F S1x1x512 .f32)
    (w1 : Vec F S256x4096 .bf16) (x4 : Vec F S1x1x4096 .f32) : List (View.Piece (Elt F) S256x4096 .bf16) :=
  [⟨Rect.unit (s := S256x4096) ![0, 2048] S256x2048.size inb_S256x4096_S256x2048_0_2048,
      k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048))⟩,
   ⟨Rect.unit (s := S256x4096) ![0, 0] S256x2048.size inb_S256x4096_S256x2048_0_0,
      k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0))⟩]

/-- The two halves fill the tile. -/
theorem halves_cover (x0 : Vec F S256x2048 .i32) (w0 : Vec F S4096x512 .bf16) (x2 : Vec F S1x1x512 .f32)
    (w1 : Vec F S256x4096 .bf16) (x4 : Vec F S1x1x4096 .f32) (y : S256x4096.Idx) :
    ∃ pc ∈ halves x0 w0 x2 w1 x4, y ∈ pc.1.set :=
  View.cover_of_tiledL (halves x0 w0 x2 w1 x4) S256x2048.size (by sl_kernel_rfl) y

/-- The tile the body leaves: zeros where the tile has no rows, else the two halves. -/
def tile (r : BitVec 32) (x0 : Vec F S256x2048 .i32) (w0 : Vec F S4096x512 .bf16) (x2 : Vec F S1x1x512 .f32)
    (w1 : Vec F S256x4096 .bf16) (x4 : Vec F S1x1x4096 .f32) : Vec F S256x4096 .bf16 :=
  if k0_cond3 r = 1#1 then k0_pay5 (F := F) else View.canon (halves x0 w0 x2 w1 x4)

set_option maxHeartbeats 2000000 in
/-- One tile's body, on any buffers: the inputs stay, the two copies hold the tile's expert's weights if they are made
    anew and stay otherwise, and the output buffer ends at the tile. -/
theorem run (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x512 .f32) (harg5 : arg5.IsWhole) (arg6 : Memref sig .tc .vmem S1x1x256x4096 .f32) (harg6 : arg6.IsWhole) (arg7 : Memref sig .tc .vmem S1x1x4096 .f32) (harg7 : arg7.IsWhole) (arg8 : Memref sig .tc .vmem S256x4096 .bf16) (harg8 : arg8.IsWhole) (arg9 : Memref sig .tc .vmem S4096x512 .bf16) (harg9 : arg9.IsWhole) (arg10 : Memref sig .tc .vmem S256x4096 .bf16) (harg10 : arg10.IsWhole)
    (x0 : Vec F S256x2048 .i32) (x1 : Vec F S1x1x4096x512 .f32) (x2 : Vec F S1x1x512 .f32) (x3 : Vec F S1x1x256x4096 .f32) (x4 : Vec F S1x1x4096 .f32) (s0 : Vec F S4096x512 .bf16) (s1 : Vec F S256x4096 .bf16)
    (xt0 : TbBuf0 (F := F) c tbM0_0) (xt1 : TbBuf0 (F := F) c tbM0_1)
    (w0 : Vec F S4096x512 .bf16) (w1 : Vec F S256x4096 .bf16)
    (hw0 : (if Anew i (here c i xt0) (prev c i xt0) then k0_pay1 x1 else s0) = w0)
    (hw1 : (if Anew i (here c i xt0) (prev c i xt0) then k0_pay2 x3 else s1) = w1)
    (hr : k0_cond3 (rows' c i xt1) = 1#1 ∨ k0_cond2 (rows c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile (rows' c i xt1) x0 w0 x2 w1 x4) ∗ owns (c : Thread nD τ) arg9 fullShare w0 ∗ owns (c : Thread nD τ) arg10 fullShare w1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  have e0 : arg9.view.read (Elt F) (if hc : Anew i (here c i xt0) (prev c i xt0) then
      arg9.view.writes (Elt F) fs0 [⟨Rect.unit ![0, 0] ![4096, 512] inb_S4096x512_S4096x512_0_0, k0_pay1 (run.sl.v21 c arg4 harg4 x1)⟩]
      else fs0) = w0 := by
    refine (read_guarded arg9.view _ fs0 inb_S4096x512_S4096x512_0_0 _).trans ?_
    rw [hfs0, show run.sl.v21 c arg4 harg4 x1 = x1 from readAt_known harg4 x1 _]
    exact hw0
  have e1 : arg10.view.read (Elt F) (if hc : Anew i (here c i xt0) (prev c i xt0) then
      arg10.view.writes (Elt F) fs1 [⟨Rect.unit ![0, 0] ![256, 4096] inb_S256x4096_S256x4096_0_0, k0_pay2 (run.sl.v27 c arg6 harg6 x3)⟩]
      else fs1) = w1 := by
    refine (read_guarded arg10.view _ fs1 inb_S256x4096_S256x4096_0_0 _).trans ?_
    rw [hfs1, show run.sl.v27 c arg6 harg6 x3 = x3 from readAt_known harg6 x3 _]
    exact hw1
  have e29 : run.sl.v29 c i arg4 harg4 arg9 x1 xt0 fs0 = View.ld w0 upper :=
    readAt_part arg9.view _ w0 e0 _
  have e32 : run.sl.v32 c i arg4 harg4 arg9 x1 xt0 fs0 = View.ld w0 lower :=
    readAt_part arg9.view _ w0 e0 _
  have e55 : run.sl.v55 c i arg6 harg6 arg10 x3 xt0 fs1 = View.ld w1 left :=
    readAt_part arg10.view _ w1 e1 _
  have e61 : run.sl.v61 c i arg6 harg6 arg10 x3 xt0 fs1 = View.ld w1 right :=
    readAt_part arg10.view _ w1 e1 _
  have e3 : run.sl.r_3 c i arg3 harg3 arg4 harg4 arg5 harg5 arg9 x0 x1 x2 xt0 fs0
      = k0_pay6 x0 (View.ld w0 upper)
          (View.ld w0 lower) x2 := by
    unfold run.sl.r_3
    rw [e29, e32, readAt_known harg3 x0, readAt_known harg5 x2]
  have e4 : run.sl.r_4 c i arg3 harg3 arg4 harg4 arg5 harg5 arg6 harg6 arg9 arg10 x0 x1 x2 x3 xt0 fs0 fs1
      = k0_pay7 x0 (View.ld w0 upper)
          (View.ld w0 lower) x2
          (View.ld w1 left) := by
    unfold run.sl.r_4
    rw [e29, e32, e55, readAt_known harg3 x0, readAt_known harg5 x2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    unfold tile
    rw [show run.sl.r_5 c i xt1 = rows' c i xt1 from rfl, show run.sl.r_2 c i xt1 = rows c i xt1 from rfl]
    by_cases h3 : k0_cond3 (rows' c i xt1) = 1#1
    · rw [if_pos h3, dif_pos h3]
      exact View.read_writes_full arg8.view _ _ _ _
    · rw [if_neg h3, dif_neg h3]
      have h2 : k0_cond2 (rows c i xt1) = 1#1 := hr.resolve_left h3
      rw [dif_pos h2, e3, e4, e61,
        readAt_part arg7.view _ x4 (harg7.read_unread x4) (Rect.unit (s := S1x1x4096) ![0, 0, 2048] S1x1x2048.size inb_S1x1x4096_S1x1x2048_0_0_2048),
        readAt_part arg7.view _ x4 (harg7.read_unread x4) (Rect.unit (s := S1x1x4096) ![0, 0, 0] S1x1x2048.size inb_S1x1x4096_S1x1x2048_0_0_0)]
      exact View.read_writes_eq_canon _ _ _ (halves_cover x0 w0 x2 w1 x4)
  isplitl [HS0]
  · iexists _; isplitr
    swap; · iexact HS0
    ipureintro; exact e0
  isplitl [HS1]
  · iexists _; isplitr
    swap; · iexact HS1
    ipureintro; exact e1
  isplitl [HT0]; · iexact HT0
  iexact HT1

end Cert.Kernel14.Experts

end
-- ==== Proof.E14Words.lean ====
module

public import proofs.«01_k».proof.Proof.E14Run
public import proofs.«01_k».proof.Proof.Tables

@[expose] public section

set_option maxRecDepth 16384

noncomputable section

namespace Cert.Kernel14.Experts

open Cert.Kernel14 Cert.Kernel14.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## The words of the two tables -/

/-- The tile a grid point works on. -/
abbrev tileOf (i : grid0.Coords) : Fin 48 := i 0

/-- The tile before, the first tile's being itself. -/
def before (n : Fin 48) : Fin 48 := ⟨n.val - 1, by omega⟩

theorem here_eq (c : Dev nD) (i : grid0.Coords) (x : TbBuf0 (F := F) c tbM0_0) : here c i x = x (ix1 (tileOf i)) :=
  congrArg x (funext fun a => Fin.ext (by fin_cases a; exact Tables.cast_eq (N := 48) (by decide) (i 0)))
theorem prev_eq (c : Dev nD) (i : grid0.Coords) (x : TbBuf0 (F := F) c tbM0_0) : prev c i x = x (ix1 (before (tileOf i))) :=
  congrArg x (funext fun a => Fin.ext (by fin_cases a; exact Tables.cast_pred (N := 48) (by decide) (i 0)))
theorem rows_eq (c : Dev nD) (i : grid0.Coords) (x : TbBuf0 (F := F) c tbM0_1) : rows c i x = x (ix1 (tileOf i)) :=
  congrArg x (funext fun a => Fin.ext (by fin_cases a; exact Tables.cast_eq (N := 48) (by decide) (i 0)))
theorem rows'_eq (c : Dev nD) (i : grid0.Coords) (x : TbBuf0 (F := F) c tbM0_1) : rows' c i x = x (ix1 (tileOf i)) :=
  congrArg x (funext fun a => Fin.ext (by fin_cases a; exact Tables.cast_eq (N := 48) (by decide) (i 0)))

/-- A table's word at a tile, as the index maps read it. -/
theorem at_eq (pf : pre0.Contents (Elt F)) (i : grid0.Coords) :
    pf.at 0 (Rect.unit (s := S48) (k0_off1 i) S1.size (k0_off1_inb i)) numel1_S1 = pf 0 (ix1 (tileOf i)) := by
  refine congrArg (pf 0) (funext fun a => Fin.ext ?_)
  fin_cases a
  exact Tables.cast_eq (N := 48) (by decide) (i 0)

/-- The four maps that follow the expert name the tile's expert's blocks. -/
theorem map1_eq (pf : pre0.Contents (Elt F)) (i : grid0.Coords) :
    cc0_transform_1 k0_off1_inb numel1_S1 pf i = ![0, (pf 0 (ix1 (tileOf i)) : BitVec 32).toNat, 0, 0] := by
  exact congrArg (fun w : BitVec 32 => (![0, w.toNat, 0, 0] : Fin 4 → ℕ)) (at_eq pf i)
theorem map3_eq (pf : pre0.Contents (Elt F)) (i : grid0.Coords) :
    cc0_transform_3 k0_off1_inb numel1_S1 pf i = ![0, (pf 0 (ix1 (tileOf i)) : BitVec 32).toNat, 0, 0] := by
  exact congrArg (fun w : BitVec 32 => (![0, w.toNat, 0, 0] : Fin 4 → ℕ)) (at_eq pf i)
theorem map2_eq (pf : pre0.Contents (Elt F)) (i : grid0.Coords) :
    cc0_transform_2 k0_off1_inb numel1_S1 pf i
      = ![(Scalar.addi 0#32 (pf 0 (ix1 (tileOf i)) : BitVec 32)).toNat, 0, 0] := by
  exact congrArg (fun w : BitVec 32 => (![(Scalar.addi 0#32 w).toNat, 0, 0] : Fin 3 → ℕ)) (at_eq pf i)
theorem map4_eq (pf : pre0.Contents (Elt F)) (i : grid0.Coords) :
    cc0_transform_4 k0_off1_inb numel1_S1 pf i
      = ![(Scalar.addi 0#32 (pf 0 (ix1 (tileOf i)) : BitVec 32)).toNat, 0, 0] := by
  exact congrArg (fun w : BitVec 32 => (![(Scalar.addi 0#32 w).toNat, 0, 0] : Fin 3 → ℕ)) (at_eq pf i)

/-- Where the weights are not copied anew the tile is not the first and its expert is the one of the tile before. -/
theorem not_anew {i : grid0.Coords} {a b : BitVec 32} (h : ¬ Anew i a b) : (i 0).val ≠ 0 ∧ a = b := by
  have h' := Tables.both_false (BitVec.ofNat 32 (i 0).val == 0#32) (a != b) h
  refine ⟨fun h0 => ?_, ?_⟩
  · rw [h0] at h'; exact absurd h'.1 (by decide)
  · have := h'.2
    simpa using this

/-- The tables say no tile has a negative number of rows. -/
abbrev Full : Prop := ∀ n : Fin 48, k0_cond3 (tbl m 1 (ix1 n) : BitVec 32) = 1#1 ∨ k0_cond2 (tbl m 1 (ix1 n) : BitVec 32) = 1#1

/-- Then every tile is written. -/
theorem not_idle (hF : Full m) (i : grid0.Coords) : idle0 (tbl m) 5 i = false := by
  have e : ∀ (off : Fin 1 → ℕ), off 0 = (i 0).val → ((tbl m).atD 1 off : BitVec 32) = tbl m 1 (ix1 (tileOf i)) := by
    intro off h
    have hb : ∀ a : Fin (pre0.ref 1).ty.shape.rank, off a + 1 ≤ (pre0.ref 1).ty.shape.size a := by
      intro a; fin_cases a
      show off 0 + 1 ≤ 48
      have := (i 0).isLt
      have hlt : (i 0).val < 48 := this
      omega
    refine (dif_pos hb).trans ?_
    refine congrArg (tbl m 1) (funext fun a => Fin.ext ?_)
    fin_cases a
    exact h
  show (!(k0_cond2 ((tbl m).atD 1 (k0_off3 i)) == 1#1) && !(k0_cond3 ((tbl m).atD 1 (k0_off4 i)) == 1#1)) = false
  rw [e _ (Tables.cast_eq (N := 48) (by decide) (i 0)), e _ (Tables.cast_eq (N := 48) (by decide) (i 0))]
  rcases hF (i 0) with h | h <;> rw [h] <;> simp

end Cert.Kernel14.Experts

end
-- ==== Proof.E14Frame.lean ====
module

public import proofs.«01_k».proof.Proof.E14Words
public import Idealize.ShloMosaic.Lib.Claim
public import Idealize.ShloMosaic.Lib.Pipeline.Kit

@[expose] public section

set_option maxRecDepth 16384

noncomputable section

namespace Cert.Kernel14.Experts

open Cert.Kernel14 Cert.Kernel14.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back after every tile. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body on the buffers of tile `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tile of a grid point is its number. -/
theorem tile_val (t : Fin grid0.N) : (tileOf (grid0.coords t)).val = t.val :=
  (by decide +kernel : ∀ t : Fin grid0.N, (tileOf (grid0.coords t)).val = t.val) t

variable (hO : Ok m) (hF : Full m) (c : Dev nD) (t : Fin (cfgM m hO).N)

/-! ## The contents of the buffers, tile by tile -/

/-- The gate-and-up weights of a tile's expert, as the copy holds them. -/
def copy0 : Vec F S4096x512 .bf16 := k0_pay1 (iblk m hO c 1 t)
/-- The down weights of a tile's expert, as the copy holds them. -/
def copy1 : Vec F S256x4096 .bf16 := k0_pay2 (iblk m hO c 3 t)
/-- The tile of the result that the body leaves. -/
def outAt : Vec F S256x4096 .bf16 :=
  tile (rows' c (grid0.coords t) (tbl m 1)) (iblk m hO c 0 t) (copy0 m hO c t) (iblk m hO c 2 t) (copy1 m hO c t) (iblk m hO c 4 t)

/-- Between two tiles the copies hold the weights of the tile just done. -/
def held (n : ℕ) : sProp 𝕄 :=
  iprop(∃ s0 : Vec F S4096x512 .bf16, ∃ s1 : Vec F S256x4096 .bf16,
    ⌜∀ t : Fin (cfgM m hO).N, t.val + 1 = n → s0 = copy0 m hO c t ∧ s1 = copy1 m hO c t⌝
      ∗ owns (c : Thread nD τ) scM0_0 fullShare s0 ∗ owns (c : Thread nD τ) scM0_1 fullShare s1)

/-- The proof data: every input buffer keeps its block, the output buffer ends at the tile, the copies are tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ n := iprop(held m hO c n.val ∗ (∃ r, prngReg c r) ∗ Pipeline.ΦT pre0 (tbl m) c)
  q _ := fullShare
  owed _ := 0

/-- The arrays are those the call finds. -/
theorem A_eq (w : Fin (cfgM m hO).W) : (dats m hO 0 c).A w = V m c (Pipeline.arrRef spec0 w) := by
  dsimp only [dats]

/-- The output buffer ends at the tile. -/

theorem after0_5 : (dats m hO 0 c).after 5 t = outAt m hO c t := by dsimp only [dats]; try rfl

/-- Each input's buffer holds its block at every point, before the body and after it. -/
theorem input (w : Fin (cfgM m hO).W) (h : w.val < 5) : (∀ d, (dats m hO 0 c).before w t d = iblk m hO c w t) ∧ (dats m hO 0 c).after w t = iblk m hO c w t := by
  change Fin 6 at w
  match w, h with
  | ⟨0, _⟩, _ | ⟨1, _⟩, _ | ⟨2, _⟩, _ | ⟨3, _⟩, _ | ⟨4, _⟩, _ =>
    exact ⟨fun d => ((dats m hO 0 c).before_in_eq_fetched _ rfl (fun _ => rfl) (fun _ _ _ => rfl) (fun _ => rfl) t d).trans rfl, rfl⟩

/-- Two tiles of one expert have one gate-and-up block and one down block. -/
theorem same_block (t' : Fin (cfgM m hO).N)
    (h : (tbl m 0 (ix1 (tileOf (grid0.coords t))) : BitVec 32) = tbl m 0 (ix1 (tileOf (grid0.coords t')))) :
    copy0 m hO c t = copy0 m hO c t' ∧ copy1 m hO c t = copy1 m hO c t' := by
  have i1 : ((cfgM m hO).win 1).index t = ((cfgM m hO).win 1).index t' := by
    show cc0_transform_1 k0_off1_inb numel1_S1 (tbl m) (grid0.coords t) = cc0_transform_1 k0_off1_inb numel1_S1 (tbl m) (grid0.coords t')
    rw [map1_eq, map1_eq, h]
  have i3 : ((cfgM m hO).win 3).index t = ((cfgM m hO).win 3).index t' := by
    show cc0_transform_3 k0_off1_inb numel1_S1 (tbl m) (grid0.coords t) = cc0_transform_3 k0_off1_inb numel1_S1 (tbl m) (grid0.coords t')
    rw [map3_eq, map3_eq, h]
  have e1 : iblk m hO c 1 t = iblk m hO c 1 t' := (dats m hO 0 c).fetched_congr 1 i1 rfl (iblk m hO c 1 t)
  have e3 : iblk m hO c 3 t = iblk m hO c 3 t' := (dats m hO 0 c).fetched_congr 3 i3 rfl (iblk m hO c 3 t)
  unfold copy0 copy1
  exact ⟨congrArg k0_pay1 e1, congrArg k0_pay2 e3⟩

/-! ## The body obligation, at a generic point -/

/-- What the body finds at a tile, -/
def bodyPre : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

include hF in
set_option maxHeartbeats 800000 in
/-- The body at any tile: its inputs are their blocks and its copies those of the tile before, so it ends with the tile
    written and with its own expert's copies. -/
theorem sound_body :
    bodyPre m hO c t ⊢ wp frame (wpE (defs₀ (F := F)) Variants.none c none) Set.univ (bodyAt0 (adm m hO) t) (fun _ => bodyPost m hO c t) := by
  unfold bodyPre bodyPost bodyAt0
  obtain ⟨b0, a0⟩ := input m hO c t 0 (show (0 : ℕ) < 5 by decide)
  obtain ⟨b1, a1⟩ := input m hO c t 1 (show (1 : ℕ) < 5 by decide)
  obtain ⟨b2, a2⟩ := input m hO c t 2 (show (2 : ℕ) < 5 by decide)
  obtain ⟨b3, a3⟩ := input m hO c t 3 (show (3 : ℕ) < 5 by decide)
  obtain ⟨b4, a4⟩ := input m hO c t 4 (show (4 : ℕ) < 5 by decide)
  simp only [b0, b1, b2, b3, b4]
  rw [show (dats m hO 0 c).owesAt () t.succ = (dats m hO 0 c).owesAt () t.castSucc from rfl,
    a0, a1, a2, a3, a4, after0_5]
  rw [show (dats m hO 0 c).Φ t.succ = iprop(held m hO c (t.val + 1) ∗ (∃ r, prngReg c r) ∗ Pipeline.ΦT pre0 (tbl m) c) from rfl,
    show (dats m hO 0 c).Φ t.castSucc = iprop(held m hO c t.val ∗ (∃ r, prngReg c r) ∗ Pipeline.ΦT pre0 (tbl m) c) from rfl, PhiT0_eq]
  unfold held outAt
  iintro ⟨⟨⟨%s0, %s1, %hs, HS0, HS1⟩, Hg, ⟨HT0, HT1⟩⟩, Ho, ⟨%d0, H0⟩, ⟨%d1, H1⟩, ⟨%d2, H2⟩, ⟨%d3, H3⟩, ⟨%d4, H4⟩, ⟨%d5, H5⟩⟩
  have hcopy : ¬ Anew (grid0.coords t) (here c (grid0.coords t) (tbl m 0)) (prev c (grid0.coords t) (tbl m 0)) →
      s0 = copy0 m hO c t ∧ s1 = copy1 m hO c t := by
    intro hn
    obtain ⟨h0, hab⟩ := not_anew hn
    have ht : (tileOf (grid0.coords t)).val = t.val := tile_val t
    have h0' : t.val ≠ 0 := fun h => h0 (ht.trans h)
    have hlt : t.val < (cfgM m hO).N := t.isLt
    let t' : Fin (cfgM m hO).N := ⟨t.val - 1, by omega⟩
    have ht' : (tileOf (grid0.coords t')).val = t.val - 1 := tile_val t'
    have hb : before (tileOf (grid0.coords t)) = tileOf (grid0.coords t') := Fin.ext (by
      show (tileOf (grid0.coords t)).val - 1 = _; rw [ht, ht'])
    have hab' := (here_eq c (grid0.coords t) (tbl m 0)).symm.trans (hab.trans (prev_eq c (grid0.coords t) (tbl m 0)))
    rw [hb] at hab'
    obtain ⟨e0, e1⟩ := same_block m hO c t t' hab'
    obtain ⟨q0, q1⟩ := hs t' (by show t.val - 1 + 1 = t.val; omega)
    exact ⟨q0.trans e0.symm, q1.trans e1.symm⟩
  have hrow : k0_cond3 (rows' c (grid0.coords t) (tbl m 1)) = 1#1 ∨ k0_cond2 (rows c (grid0.coords t) (tbl m 1)) = 1#1 := by
    exact (hF (tileOf (grid0.coords t))).imp (fun h => (congrArg k0_cond3 (rows'_eq c (grid0.coords t) (tbl m 1))).trans h)
      fun h => (congrArg k0_cond2 (rows_eq c (grid0.coords t) (tbl m 1))).trans h
  iapply (run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1)
    (copy0 m hO c t) (copy1 m hO c t)
    (by by_cases h : Anew (grid0.coords t) (here c (grid0.coords t) (tbl m 0)) (prev c (grid0.coords t) (tbl m 0))
        · rw [if_pos h]; rfl
        · rw [if_neg h]; exact (hcopy h).1)
    (by by_cases h : Anew (grid0.coords t) (here c (grid0.coords t) (tbl m 0)) (prev c (grid0.coords t) (tbl m 0))
        · rw [if_pos h]; rfl
        · rw [if_neg h]; exact (hcopy h).2)
    hrow Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr
      swap
      · isplitl [HS0]; · iexact HS0
        iexact HS1
      ipureintro
      intro t' h
      obtain rfl : t' = t := Fin.ext (by omega)
      exact ⟨rfl, rfl⟩
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body at a grid point is the body on that tile's buffers. -/
theorem defs₀_row :
    defs₀ (F := F) .tc (cfgM m hO).body ((cfgM m hO).bodyArgs t ((cfgM m hO).slots t)) = bodyAt0 (adm m hO) t := by
  unfold defs₀; rw [Defs.onTc_tc]

include hF in
/-- The body meets what the pipeline asks of it at every tile. -/
theorem body_obligation : BodyObligation (dats (F := F) m hO 0 c) (defs₀ (F := F)) Variants.none () Set.univ := fun t => by
  rw [bigSep_W0, bigSep_W0, defs₀_row m hO]
  have i5 : idle0 (tbl m) 5 (((pcfg0 (F := F)).gridAt (tbl m)).coords t) = false := not_idle m hF _
  simp only
  rw [i5]
  exact triple_restated (sound_body m hO hF c t) rfl .rfl fun _ => .rfl

/-! ## The run and the frame -/

include hO hF

set_option backward.isDefEq.respectTransparency.types false in
/-- The program runs to its end, with every array as the proof data say and all counters at zero. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop(held m hO c 0 ∗ (∃ r, prngReg c r) ∗ Pipeline.ΦT pre0 (tbl m) c)
      rw [PhiA0_eq]
      unfold held
      iintro ⟨⟨⟨⟨%d0, HS0⟩, ⟨%d1, HS1⟩⟩, Hg⟩, HT⟩
      isplitl [HS0 HS1]
      · iexists d0; iexists d1
        isplitr
        swap
        · isplitl [HS0]; · iexact HS0
          iexact HS1
        ipureintro
        intro t h
        omega
      isplitl [Hg]; · iexact Hg
      iexact HT)
    (hout := fun c => by
      show iprop(held m hO c _ ∗ (∃ r, prngReg c r) ∗ Pipeline.ΦT pre0 (tbl m) c) ⊢ Pipeline.ΦA spec0 c
      rw [PhiA0_eq]
      unfold held
      iintro ⟨⟨%d0, %d1, %hd, HS0, HS1⟩, Hg, -⟩
      isplitl [HS0 HS1]
      · isplitl [HS0]
        · iexists _; iexact HS0
        iexists _; iexact HS1
      iexact Hg)

/-- The run without the counters. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- Every argument ends as it was. -/
theorem unchanged : θ_run defs (onTc (τ := τ) (main (F := F))) ⟨m, fun _ => 0, ρ⟩ (fun r => Kept m r.2.mem) :=
  frame_of m ρ hO (dats m hO) (A_eq m hO) (run_main m ρ hO hF)

/-- The frame: every argument ends as it was and every counter at zero. -/
theorem frame : θ_run defs (onTc (τ := τ) (main (F := F))) ⟨m, fun _ => 0, ρ⟩ (fun r => Kept m r.2.mem
      ∧ r.2.sem = fun _ => 0) :=
  θ_run_and (unchanged m ρ hO hF) ((θ_run defs _ _).mono (fun _ h => h.2) (run_main_quiescent m ρ hO hF))

end Cert.Kernel14.Experts

end
-- ==== Proof.E14Pre.lean ====
/- Layer 0's experts: the tables a run may be launched on. -/
module

public import proofs.«01_k».proof.Proof.Expert
public import proofs.«01_k».proof.Proof.E14Frame

@[expose] public section

set_option maxRecDepth 16384

noncomputable section

namespace Cert.Kernel14.Experts

open Cert.Kernel14 Cert.Kernel14.Gen Idealize.ShloMosaic Idealize.ShloMosaic.TcCoe Idealize.SL.Sem

variable {F : FTy → Type} [FloatOps F] (m : (ℓ : Loc nD τ sig) → Buf (Elt F) ℓ)

/-- Where each name is one of the 32 experts, every block lies inside its array. -/
theorem inside (h : ∀ n : Fin 48, (tbl m 0 (ix1 n) : BitVec 32).toNat < 32) : Ok m := by
  have b (i : grid0.Coords) : (Scalar.addi 0#32 (tbl m 0 (ix1 (tileOf i)) : BitVec 32)).toNat < 128 :=
    lt_of_eq_of_lt (Expert.base_add 0 (by decide) _ (h (tileOf i))) (Nat.lt_of_lt_of_le (Nat.add_lt_add_left (h (tileOf i)) 0) (by decide))
  refine ⟨fun i => ⟨fun a => ?_, .inl rfl⟩, fun i => ⟨fun a => ?_, .inl rfl⟩, fun i => ⟨fun a => ?_, .inl rfl⟩, fun i => ⟨fun a => ?_, .inl rfl⟩⟩
  · have e := congrFun (map1_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (0 + 1) * 1 ≤ 4)
    | ⟨1, _⟩ => exact n
    | ⟨2, _⟩ => exact (by decide : (0 + 1) * 4096 ≤ 4096)
    | ⟨3, _⟩ => exact (by decide : (0 + 1) * 512 ≤ 512)
  · have e := congrFun (map2_eq (tbl m) i) a
    have n : ((Scalar.addi 0#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 512 ≤ 512)
  · have e := congrFun (map3_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (0 + 1) * 1 ≤ 4)
    | ⟨1, _⟩ => exact n
    | ⟨2, _⟩ => exact (by decide : (0 + 1) * 256 ≤ 256)
    | ⟨3, _⟩ => exact (by decide : (0 + 1) * 4096 ≤ 4096)
  · have e := congrFun (map4_eq (tbl m) i) a
    have n : ((Scalar.addi 0#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 4096 ≤ 4096)

/-- A count that is not negative is zero or positive, as the call tests it. -/
theorem zero_or_more (w : BitVec 32) (h : w.toNat < 2 ^ 31) : k0_cond3 w = 1#1 ∨ k0_cond2 w = 1#1 := by
  by_cases z : w = 0#32
  · exact .inl ((Tables.as_bool (w == 0#32)).mpr (beq_iff_eq.mpr z))
  · exact .inr ((Tables.as_bool (BitVec.slt 0#32 w)).mpr ((StableHlo.Predicate.ofBool_eq_one_iff _).mp ((Tables.sgt_zero w h).mpr z)))

/-- Where no count is negative, every tile's result is written. -/
theorem written (h : ∀ n : Fin 48, (tbl m 1 (ix1 n) : BitVec 32).toNat < 2 ^ 31) : Full m := fun n => zero_or_more _ (h n)

/-- What the arguments say of the tables. -/
theorem of_words (h : ∀ n : Fin 48, (m ((0 : Dev nD).tc.loc main_arg0) (ix1 n) : BitVec 32).toNat < 32
      ∧ (m ((0 : Dev nD).tc.loc main_arg1) (ix1 n) : BitVec 32).toNat < 2 ^ 31) :
    (∀ n : Fin 48, (tbl m 0 (ix1 n) : BitVec 32).toNat < 32) ∧ Ok m ∧ Full m := by
  have t0 : (tbl m 0 : S48.Idx → BitVec 32) = m ((0 : Dev nD).tc.loc main_arg0) := V_kept m 0 main_arg0 (by decide) (by decide)
  have t1 : (tbl m 1 : S48.Idx → BitVec 32) = m ((0 : Dev nD).tc.loc main_arg1) := V_kept m 0 main_arg1 (by decide) (by decide)
  have h0 (n : Fin 48) : (tbl m 0 (ix1 n) : BitVec 32).toNat < 32 := lt_of_eq_of_lt (congrArg BitVec.toNat (congrFun t0 (ix1 n))) (h n).1
  have h1 (n : Fin 48) : (tbl m 1 (ix1 n) : BitVec 32).toNat < 2 ^ 31 := lt_of_eq_of_lt (congrArg BitVec.toNat (congrFun t1 (ix1 n))) (h n).2
  exact ⟨h0, inside m h0, written m h1⟩

end Cert.Kernel14.Experts

end
-- ==== Proof.E14Value.lean ====
/- Layer 0's experts: what the call leaves in its result. -/
module

public import proofs.«01_k».proof.Proof.Expert
public import proofs.«01_k».proof.Proof.E14Pre
public import proofs.«01_k».proof.Proof.E8Value

@[expose] public section

set_option maxRecDepth 16384

noncomputable section

namespace Cert.Kernel14.Experts

open Cert.Kernel14 Cert.Kernel14.Gen Idealize.ShloMosaic Idealize.ShloMosaic.TcCoe Idealize.SL.Sem

/-- A tile, entry by entry: zero where it has no rows, else the expert's output. -/
theorem tile_apply (r : BitVec 32) (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) :
    tile r x0 w0 x2 w1 x4 (ix2 a d) = if r = 0#32 then (0 : EReal) else
      Expert.expert (fun k => x0 (ix2 a k)) (fun k f => w0 (ix2 k f)) (fun f => x2 (ix3 0 0 f)) (fun f => w1 (ix2 f d)) (x4 (ix3 0 0 d)) :=
  Cert.Kernel8.Experts.tile_apply r x0 w0 x2 w1 x4 a d

variable (m : (ℓ : Loc nD τ sig) → Buf (Elt Ideal) ℓ)

/-- The expert a table names is one of the 32. -/
def Named : Prop := ∀ n : Fin 48, (tbl m 0 (ix1 n) : BitVec 32).toNat < 32

/-- The reshaped gate-and-up biases, read off their argument. -/
theorem bias_gu (c : Dev nD) (n : Fin 128) (l : Fin 4) (e : Fin 32) (h : n.val = l.val * 32 + e.val) (f : Fin 512) :
    V m c main_v0 (ix3 n 0 f) = m (c.tc.loc main_arg4) (ix3 l e f) := by
  have : V m c main_v0 = shapeCast S128x1x512 (m (c.tc.loc main_arg4)) shapeCasts_S4x32x512_S128x1x512 := by
    unfold V hostOps0
    after_results
    try rfl
  rw [this]
  refine Idealize.ShloMosaic.shapeCast_apply _ _ _ _ ?_
  show (S4x32x512.rowMajor (ix3 l e f)).val = (S128x1x512.rowMajor (ix3 n 0 f)).val
  rw [Shape.rowMajor_val_three, Shape.rowMajor_val_three]
  show (l.val * 32 + e.val) * 512 + f.val = (n.val * 1 + 0) * 512 + f.val
  omega

/-- The reshaped down biases, read off their argument. -/
theorem bias_dn (c : Dev nD) (n : Fin 128) (l : Fin 4) (e : Fin 32) (h : n.val = l.val * 32 + e.val) (d : Fin 4096) :
    V m c main_v1 (ix3 n 0 d) = m (c.tc.loc main_arg6) (ix3 l e d) := by
  have : V m c main_v1 = shapeCast S128x1x4096 (m (c.tc.loc main_arg6)) shapeCasts_S4x32x4096_S128x1x4096 := by
    unfold V hostOps0
    after_results
    try rfl
  rw [this]
  refine Idealize.ShloMosaic.shapeCast_apply _ _ _ _ ?_
  show (S4x32x4096.rowMajor (ix3 l e d)).val = (S128x1x4096.rowMajor (ix3 n 0 d)).val
  rw [Shape.rowMajor_val_three, Shape.rowMajor_val_three]
  show (l.val * 32 + e.val) * 4096 + d.val = (n.val * 1 + 0) * 4096 + d.val
  omega

/-- The result's window at tile `t` names the `t`-th block of rows. -/
theorem index5 (hO : Ok m) (t : Fin (cfgM m hO).N) : ((pcfg0 (F := Ideal)).win (adm m hO) 5).index t (0 : Fin 2) = t.val ∧ ((pcfg0 (F := Ideal)).win (adm m hO) 5).index t (1 : Fin 2) = 0 :=
  (by decide +kernel : ∀ t : Fin grid0.N, cc0_transform_5 (grid0.coords t) 0 = t.val ∧ cc0_transform_5 (grid0.coords t) 1 = 0) t
/-- The rows' window names the same block. -/
theorem index0 (hO : Ok m) (t : Fin (cfgM m hO).N) : ((pcfg0 (F := Ideal)).win (adm m hO) 0).index t (0 : Fin 2) = t.val ∧ ((pcfg0 (F := Ideal)).win (adm m hO) 0).index t (1 : Fin 2) = 0 :=
  (by decide +kernel : ∀ t : Fin grid0.N, cc0_transform_0 (grid0.coords t) 0 = t.val ∧ cc0_transform_0 (grid0.coords t) 1 = 0) t

/-- The tiles fill the result. -/
theorem covers5 (hO : Ok m) : ((cfgM m hO).win 5).Covers := by
  refine ⟨(by decide : ∀ a : Fin 2, 0 < (![256, 4096] : Fin 2 → ℕ) a), fun β => ?_⟩
  have n0 : ((cfgM m hO).win 5).nblk (0 : Fin 2) = 48 := by unfold Pipeline.Window.nblk; show (12288 + 256 - 1) / 256 = 48; rfl
  have n1 : ((cfgM m hO).win 5).nblk (1 : Fin 2) = 1 := by unfold Pipeline.Window.nblk; show (4096 + 4096 - 1) / 4096 = 1; rfl
  have h0 : (β (0 : Fin 2)).val < 48 := lt_of_lt_of_eq (β (0 : Fin 2)).isLt n0
  have h1 : (β (1 : Fin 2)).val < 1 := lt_of_lt_of_eq (β (1 : Fin 2)).isLt n1
  refine ⟨⟨(β (0 : Fin 2)).val, h0⟩, flush0_5 (adm m hO) _, fun a => ⟨?_, .inl rfl⟩⟩
  obtain ⟨i0, i1⟩ := index5 m hO ⟨(β (0 : Fin 2)).val, h0⟩
  change Fin 2 at a
  match a with
  | ⟨0, _⟩ => exact i0
  | ⟨1, _⟩ => exact i1.trans (by show 0 = (β (1 : Fin 2)).val; omega)

/-- The words of a tile, read off the packed rows. -/
theorem words_apply (hO : Ok m) (c : Dev nD) (t : Fin (cfgM m hO).N) (a : Fin 256) (r : Fin 12288) (h : r.val = t.val * 256 + a.val) (k : Fin 2048) :
    iblk m hO c 0 t (ix2 a k) = m (c.tc.loc main_arg2) (ix2 r k) := by
  obtain ⟨i0, i1⟩ := index0 m hO t
  blk_ext! [iblk, V, h]
  · exact congrArg (· * 256 + a.val) i0
  · exact (congrArg (· * 2048 + k.val) i1).trans (by omega)

/-- The word a tile's expert is named by, as a number. -/
abbrev nameAt (t : Fin grid0.N) : ℕ := (tbl m 0 (ix1 (tileOf (grid0.coords t))) : BitVec 32).toNat

/-- The gate-and-up copy of a tile holds its expert's weights. -/
theorem gu_apply (hO : Ok m) (c : Dev nD) (t : Fin (cfgM m hO).N) (e : Fin 32) (h : e.val = nameAt m t) (k : Fin 4096) (f : Fin 512) :
    copy0 m hO c t (ix2 k f) = m (c.tc.loc main_arg3) (ix4 0 e k f) := by
  have i (a : Fin 4) : ((pcfg0 (F := Ideal)).win (adm m hO) 1).index t a = (![0, nameAt m t, 0, 0] : Fin 4 → ℕ) a :=
    congrFun (map1_eq (tbl m) (grid0.coords t)) a
  unfold copy0
  pointwise [k0_pay1]
  blk_ext! [iblk, V]
  · exact congrArg (· * 1 + 0) (i 0)
  · exact (i 1).trans (by show nameAt m t = _; omega)
  · exact (congrArg (· * 4096 + k.val) (i 2)).trans (by show 0 * 4096 + k.val = k.val; omega)
  · exact (congrArg (· * 512 + f.val) (i 3)).trans (by show 0 * 512 + f.val = f.val; omega)

/-- The down copy of a tile holds its expert's weights. -/
theorem dn_apply (hO : Ok m) (c : Dev nD) (t : Fin (cfgM m hO).N) (e : Fin 32) (h : e.val = nameAt m t) (f : Fin 256) (d : Fin 4096) :
    copy1 m hO c t (ix2 f d) = m (c.tc.loc main_arg5) (ix4 0 e f d) := by
  have i (a : Fin 4) : ((pcfg0 (F := Ideal)).win (adm m hO) 3).index t a = (![0, nameAt m t, 0, 0] : Fin 4 → ℕ) a :=
    congrFun (map3_eq (tbl m) (grid0.coords t)) a
  unfold copy1
  pointwise [k0_pay2]
  blk_ext! [iblk, V]
  · exact congrArg (· * 1 + 0) (i 0)
  · exact (i 1).trans (by show nameAt m t = _; omega)
  · exact (congrArg (· * 256 + f.val) (i 2)).trans (by show 0 * 256 + f.val = f.val; omega)
  · exact (congrArg (· * 4096 + d.val) (i 3)).trans (by show 0 * 4096 + d.val = d.val; omega)

/-- The gate-and-up bias of a tile is its expert's. -/
theorem gub_apply (hO : Ok m) (c : Dev nD) (t : Fin (cfgM m hO).N) (e : Fin 32) (h : e.val = nameAt m t) (f : Fin 512) :
    iblk m hO c 2 t (ix3 0 0 f) = m (c.tc.loc main_arg4) (ix3 0 e f) := by
  have i (a : Fin 3) : ((pcfg0 (F := Ideal)).win (adm m hO) 2).index t a = (![0 + nameAt m t, 0, 0] : Fin 3 → ℕ) a := by
    refine (congrFun (map2_eq (tbl m) (grid0.coords t)) a).trans (congrArg (fun n : ℕ => (![n, 0, 0] : Fin 3 → ℕ) a) ?_)
    exact Expert.base_add 0 (by decide) _ (show nameAt m t < 32 by omega)
  have j : iblk m hO c 2 t (ix3 0 0 f) = V m c main_v0 (ix3 ⟨0 + e.val, by omega⟩ 0 f) := by
    refine congrArg (V m c main_v0) (show ((spec0 2).arr.view.slice (((pcfg0 (F := Ideal)).win (adm m hO) 2).rect t)).emb (ix3 0 0 f) = ix3 ⟨0 + e.val, by omega⟩ 0 f from ?_)
    refine funext fun a => Fin.ext ?_
    change Fin 3 at a
    match a with
    | ⟨0, _⟩ => exact Eq.trans (by blk_simp; rfl) ((i 0).trans (show 0 + nameAt m t = 0 + e.val by omega))
    | ⟨1, _⟩ => exact Eq.trans (by blk_simp; rfl) (i 1)
    | ⟨2, _⟩ => exact Eq.trans (by blk_simp) ((congrArg (· * 512 + f.val) (i 2)).trans (by show 0 * 512 + f.val = f.val; omega))
  exact j.trans (bias_gu m c _ 0 e rfl f)

/-- The down bias of a tile is its expert's. -/
theorem dnb_apply (hO : Ok m) (c : Dev nD) (t : Fin (cfgM m hO).N) (e : Fin 32) (h : e.val = nameAt m t) (d : Fin 4096) :
    iblk m hO c 4 t (ix3 0 0 d) = m (c.tc.loc main_arg6) (ix3 0 e d) := by
  have i (a : Fin 3) : ((pcfg0 (F := Ideal)).win (adm m hO) 4).index t a = (![0 + nameAt m t, 0, 0] : Fin 3 → ℕ) a := by
    refine (congrFun (map4_eq (tbl m) (grid0.coords t)) a).trans (congrArg (fun n : ℕ => (![n, 0, 0] : Fin 3 → ℕ) a) ?_)
    exact Expert.base_add 0 (by decide) _ (show nameAt m t < 32 by omega)
  have j : iblk m hO c 4 t (ix3 0 0 d) = V m c main_v1 (ix3 ⟨0 + e.val, by omega⟩ 0 d) := by
    refine congrArg (V m c main_v1) (show ((spec0 4).arr.view.slice (((pcfg0 (F := Ideal)).win (adm m hO) 4).rect t)).emb (ix3 0 0 d) = ix3 ⟨0 + e.val, by omega⟩ 0 d from ?_)
    refine funext fun a => Fin.ext ?_
    change Fin 3 at a
    match a with
    | ⟨0, _⟩ => exact Eq.trans (by blk_simp; rfl) ((i 0).trans (show 0 + nameAt m t = 0 + e.val by omega))
    | ⟨1, _⟩ => exact Eq.trans (by blk_simp; rfl) (i 1)
    | ⟨2, _⟩ => exact Eq.trans (by blk_simp) ((congrArg (· * 4096 + d.val) (i 2)).trans (by show 0 * 4096 + d.val = d.val; omega))
  exact j.trans (bias_dn m c _ 0 e rfl d)

/-- The experts' outputs, out of the arguments the call finds. -/
abbrev outputs (c : Dev nD) : Fin 12288 → Fin 4096 → EReal :=
  Expert.result (N := 48) (M := 12288) rfl 0 (m (c.tc.loc main_arg0)) (m (c.tc.loc main_arg1)) (m (c.tc.loc main_arg2)) (m (c.tc.loc main_arg3)) (m (c.tc.loc main_arg4)) (m (c.tc.loc main_arg5)) (m (c.tc.loc main_arg6))

/-- A row of a tile, as the arguments have it. -/
theorem row_eq (hO : Ok m) (hN : Named m) (c : Dev nD) (t : Fin (cfgM m hO).N) (a : Fin 256) (r : Fin 12288) (h : r.val = t.val * 256 + a.val) (d : Fin 4096) :
    (if rows' c (grid0.coords t) (tbl m 1) = 0#32 then (0 : EReal) else
      Expert.expert (fun k => iblk m hO c 0 t (ix2 a k)) (fun k f => copy0 m hO c t (ix2 k f)) (fun f => iblk m hO c 2 t (ix3 0 0 f))
        (fun f => copy1 m hO c t (ix2 f d)) (iblk m hO c 4 t (ix3 0 0 d)))
    = outputs m c r d := by
  have hn : tileOf (grid0.coords t) = Expert.tileOfRow (N := 48) rfl r := Fin.ext (by rw [tile_val t]; show t.val = r.val / 256; omega)
  have t0 : (tbl m 0 : S48.Idx → BitVec 32) = m (c.tc.loc main_arg0) := by
    obtain rfl : c = 0 := Subsingleton.elim _ _
    exact V_kept m 0 main_arg0 (by decide) (by decide)
  have t1 : (tbl m 1 : S48.Idx → BitVec 32) = m (c.tc.loc main_arg1) := by
    obtain rfl : c = 0 := Subsingleton.elim _ _
    exact V_kept m 0 main_arg1 (by decide) (by decide)
  have w1 : rows' c (grid0.coords t) (tbl m 1) = m (c.tc.loc main_arg1) (ix1 (Expert.tileOfRow (N := 48) rfl r)) :=
    (rows'_eq c (grid0.coords t) _).trans ((congrFun t1 _).trans (by rw [hn]))
  have w0 : (tbl m 0 (ix1 (tileOf (grid0.coords t))) : BitVec 32) = m (c.tc.loc main_arg0) (ix1 (Expert.tileOfRow (N := 48) rfl r)) :=
    (congrFun t0 _).trans (by rw [hn])
  have he : (Expert.pick (m (c.tc.loc main_arg0) (ix1 (Expert.tileOfRow (N := 48) rfl r)))).val = nameAt m t := by
    show BitVec.toNat _ % 32 = BitVec.toNat _
    rw [← w0]
    exact Nat.mod_eq_of_lt (hN _)
  unfold outputs Expert.result
  rw [w1]
  refine if_congr Iff.rfl rfl ?_
  congr 1
  · exact funext fun k => words_apply m hO c t a r h k
  · exact funext fun k => funext fun f => gu_apply m hO c t _ he k f
  · exact funext fun f => gub_apply m hO c t _ he f
  · exact funext fun f => dn_apply m hO c t _ he f d
  · exact dnb_apply m hO c t _ he d

/-- After the run, the result array is the experts' outputs row by row. -/
theorem final (hO : Ok m) (hN : Named m) (c : Dev nD) :
    (dats m hO 0 c).arrAt 5 (cfgM m hO).N = fun i : S12288x4096.Idx => outputs m c (i 0) (i 1) := by
  refine (dats m hO 0 c).arrAt_eq_of_covers 5 _ (covers5 m hO) fun t hf y => ?_
  blk_simp
  rw [after0_5]
  change S256x4096.Idx at y
  idx_vars y
  unfold outAt
  refine (tile_apply _ _ _ _ _ _ y0 y1).trans ?_
  obtain ⟨i0, i1⟩ := index5 m hO t
  have r0 : (((spec0 5).arr.view.slice (((pcfg0 (F := Ideal)).win (adm m hO) 5).rect t)).emb (ix2 y0 y1) (0 : Fin 2)).val = t.val * 256 + y0.val := by
    refine Eq.trans ?_ (congrArg (· * 256 + y0.val) i0)
    blk_simp
  have r1 : ((spec0 5).arr.view.slice (((pcfg0 (F := Ideal)).win (adm m hO) 5).rect t)).emb (ix2 y0 y1) (1 : Fin 2) = y1 := by
    refine Fin.ext ?_
    refine Eq.trans ?_ ((congrArg (· * 4096 + y1.val) i1).trans (by show 0 * 4096 + y1.val = y1.val; omega))
    blk_simp
  exact (row_eq m hO hN c t y0 _ r0 y1).trans (congrArg (fun z => outputs m c _ z) r1.symm)

/-- The call runs, leaves the experts' outputs in its result, and leaves its arguments as they were. -/
theorem value (ρ : Dev nD → PrngReg) (hO : Ok m) (hF : Full m) (hN : Named m) : θ_run defs (onTc (τ := τ) (main (F := Ideal))) ⟨m, fun _ => 0, ρ⟩ (fun r => ∀ c : Dev nD,
      r.2.mem ((c.tc : Thread nD τ).loc main_v2) = (fun i : S12288x4096.Idx => outputs m c (i 0) (i 1))
      ∧ Kept m r.2.mem) :=
  (θ_run defs _ _).mono (fun _ h c => ⟨((h.1 c).1 5).trans (final m hO hN c), h.2⟩) (θ_run_and (run_main m ρ hO hF) (unchanged m ρ hO hF))

end Cert.Kernel14.Experts

end
-- ==== Proof.E14Ref.lean ====
/- Layer 0's experts: the plain formula, entry by entry. -/
module

public import proofs.«01_k».proof.Proof.Expert
public import proofs.«01_k».proof.Proof.Tables
public import proofs.«01_k».proof.Proof.Gen.Reference14Ideal.Read

@[expose] public section

set_option maxRecDepth 16384

noncomputable section

namespace Cert.Reference14Ideal.Experts

open Idealize.ShloMosaic Idealize.ShloMosaic.TcCoe Idealize.SL.Sem
open Cert.Reference14Ideal Cert.Reference14Ideal.Gen Cert.Reference14Ideal.Read

variable (x0 x1 : S48.Idx → BitVec 32) (x2 : S12288x2048.Idx → BitVec 32) (x3 : S4x32x4096x512.Idx → EReal) (x4 : S4x32x512.Idx → EReal)
  (x5 : S4x32x256x4096.Idx → EReal) (x6 : S4x32x4096.Idx → EReal)

/-- The unpacked rows: the first numbers of the words, then the second. -/
theorem ref_rows_lo (r : Fin 12288) (k : Fin 2048) :
    val_main_v6 (F := Ideal) x2 (ix2 r (Fin.castLE (show 2048 ≤ 4096 by decide) k)) = Expert.lo (x2 (ix2 r k)) := by
  pointwise [val_main_v6, val_main_v5, val_main_v4, val_main_v3, val_main_c_0, val_main_v2, val_main_v1, val_main_v0, val_main_c]
  exact dif_pos k.isLt

theorem ref_rows_hi (r : Fin 12288) (k : Fin 2048) :
    val_main_v6 (F := Ideal) x2 (ix2 r (Fin.natAdd 2048 k)) = Expert.hi (x2 (ix2 r k)) := by
  pointwise [val_main_v6, val_main_v5, val_main_v4, val_main_v3, val_main_c_0, val_main_v2, val_main_v1, val_main_v0, val_main_c]
  rw [dif_neg (by show ¬ 2048 + k.val < 2048; omega)]
  have e : (⟨(Fin.natAdd 2048 k : Fin 4096).val - 2048, by have := k.isLt; show 2048 + k.val - 2048 < 2048; omega⟩ : Fin 2048) = k := Fin.ext (by show 2048 + k.val - 2048 = k.val; omega)
  exact congrArg (fun k => Expert.hi (x2 (ix2 r k))) e

/-- The gate-and-up features of a row under an expert. -/
theorem ref_feature (e : Fin 32) (r : Fin 12288) (f : Fin 512) :
    val_main_v33 (F := Ideal) x2 x3 x4 (ix3 e r f) = Expert.feature (fun k => x2 (ix2 r k)) (fun k => x3 (ix4 0 e k f)) (x4 (ix3 0 e f)) := by
  pointwise [val_main_v33, val_main_v32, val_main_v31, val_main_v30, val_main_v29, val_main_v28, val_main_v27, val_main_v26, val_main_v25]
  unfold Expert.feature
  refine congrArg (· + x4 (ix3 0 e f)) ?_
  refine (Fin.sum_univ_add (a := 2048) (b := 2048) fun k : Fin 4096 => x3 (ix4 0 e k f) * val_main_v6 (F := Ideal) x2 (ix2 r k)).trans ?_
  refine congrArg₂ (· + ·) (Finset.sum_congr rfl fun k _ => ?_) (Finset.sum_congr rfl fun k _ => ?_)
  · exact (mul_comm _ _).trans (congrArg (· * _) (ref_rows_lo x2 r k))
  · exact (mul_comm _ _).trans (congrArg (· * _) (ref_rows_hi x2 r k))

/-- The activations. -/
theorem ref_act (e : Fin 32) (r : Fin 12288) (f : Fin 256) :
    val_main_v50 (F := Ideal) x2 x3 x4 (ix3 e r f) = Expert.act (val_main_v33 (F := Ideal) x2 x3 x4 (ix3 e r (Fin.castLE (show 256 ≤ 512 by decide) f)))
      (val_main_v33 (F := Ideal) x2 x3 x4 (ix3 e r (Fin.natAdd 256 f))) := by
  pointwise [val_main_v50, val_main_v49, val_main_v48, val_main_cst_9, val_main_v47, val_main_v46, val_main_v45, val_main_cst_8, val_main_v44, val_main_v43, val_main_cst_7,
    val_main_v42, val_main_v41, val_main_v40, val_main_v39, val_main_cst_6, val_main_v38, val_main_v37, val_main_v36, val_main_v35, val_main_cst_3, val_main_v34, val_main_call1_v0, val_main_cst_4, val_main_call1_v1, val_main_call1_v2, val_main_call1_v3, val_main_cst_5, val_main_call1_v4]
  rfl

/-- An expert's output on a row. -/
theorem ref_out (e : Fin 32) (r : Fin 12288) (d : Fin 4096) :
    val_main_v58 (F := Ideal) x2 x3 x4 x5 x6 (ix3 e r d) = (∑ f : Fin 256, val_main_v50 (F := Ideal) x2 x3 x4 (ix3 e r f) * x5 (ix4 0 e f d)) + x6 (ix3 0 e d) := by
  pointwise [val_main_v58, val_main_v57, val_main_v56, val_main_v55, val_main_v54, val_main_v53, val_main_v52, val_main_v51]

/-- The gate of an expert on a row. -/
theorem ref_gate (r : Fin 12288) (e : Fin 32) :
    val_main_v24 (F := Ideal) x0 x1 (ix2 r e) = if x0 (ix1 (Expert.tileOfRow (N := 48) rfl r)) = BitVec.ofNat 32 e.val ∧ IntOp.cmpi .sgt (x1 (ix1 (Expert.tileOfRow (N := 48) rfl r))) 0#32 = 1#1 then 1 else 0 := by
  pointwise [val_main_v24, val_main_v23, val_main_v22, val_main_v21, val_main_v20, val_main_v19, val_main_c_1, val_main_v18, val_main_v17, val_main_v16, val_main_v15,
    val_main_v14, val_main_v13, val_main_v12, val_main_v11, val_main_v10, val_main_v9, val_main_v8, val_main_v7, val_main_call0_v0, val_main_call0_v1, val_main_cst, val_main_cst_2]
  refine (?_ : _ = _).trans (if_congr (IntOp.andi_eq_one.trans (and_congr_left' StableHlo.Predicate.cmpi_eq_iff)) rfl rfl)
  rfl

/-- The gated sum over the experts. -/
theorem ref_sum (r : Fin 12288) (d : Fin 4096) :
    val_main_v60 (F := Ideal) x0 x1 x2 x3 x4 x5 x6 (ix2 r d) = ∑ e : Fin 32, val_main_v24 (F := Ideal) x0 x1 (ix2 r e) * val_main_v58 (F := Ideal) x2 x3 x4 x5 x6 (ix3 e r d) := by
  pointwise [val_main_v60, val_main_v59]

/-- The plain formula's result, given tables of names and counts. -/
theorem ref_final (h : ∀ n : Fin 48, (x0 (ix1 n)).toNat < 32 ∧ (x1 (ix1 n)).toNat < 2 ^ 31) (r : Fin 12288) (d : Fin 4096) :
    val_main_v60 (F := Ideal) x0 x1 x2 x3 x4 x5 x6 (ix2 r d) = Expert.result (N := 48) (M := 12288) rfl 0 x0 x1 x2 x3 x4 x5 x6 r d := by
  obtain ⟨h0, h1⟩ := h (Expert.tileOfRow (N := 48) rfl r)
  have named (e : Fin 32) := Expert.named _ e h0
  rw [ref_sum]
  unfold Expert.result
  by_cases z : x1 (ix1 (Expert.tileOfRow (N := 48) rfl r)) = 0#32
  · rw [if_pos z]
    refine Finset.sum_eq_zero fun e _ => ?_
    rw [ref_gate, if_neg (fun k => (Tables.sgt_zero _ h1).mp k.2 z), zero_mul]
  · rw [if_neg z, Finset.sum_eq_single (Expert.pick (x0 (ix1 (Expert.tileOfRow (N := 48) rfl r))))]
    · rw [ref_gate, if_pos ⟨(named _).mpr rfl, (Tables.sgt_zero _ h1).mpr z⟩, one_mul, ref_out]
      unfold Expert.expert
      refine congrArg (· + _) (Finset.sum_congr rfl fun f _ => ?_)
      rw [ref_act, ref_feature, ref_feature]
    · intro e _ he
      rw [ref_gate, if_neg (fun k => he ((named e).mp k.1)), zero_mul]
    · exact fun k => absurd (Finset.mem_univ _) k

end Cert.Reference14Ideal.Experts

end
-- ==== Proof.ContextTables.lean ====
/- What the precondition says of the two tables over the context rows. -/
module

public import proofs.«01_k».proof.Proof.Gen.Pre_context_tables
public import Idealize.ShloMosaic.Lib.ReduceAll
public import Idealize.ShloMosaic.Lib.Pointwise

@[expose] public section

namespace Cert.ContextTables

open Idealize.ShloMosaic Cert.Pre_context_tables

/-- Where the precondition holds, each word of the first table names one of the 32 experts and each word of the second is not negative. -/
theorem words {F : FTy → Type} [FloatOps F] [Facts] (x0 x1 : IVec S48 32) (x2 : IVec S12288x2048 32) (x3 : FVec F S4x32x4096x512 .f32) (x4 : FVec F S4x32x512 .f32)
    (x5 : FVec F S4x32x256x4096 .f32) (x6 : FVec F S4x32x4096 .f32) (h : fn x0 x1 x2 x3 x4 x5 x6 = fun _ => 1#1) (n : Fin 48) :
    (x0 (ix1 n)).toNat < 32 ∧ (x1 (ix1 n)).toNat < 2 ^ 31 := by
  have one : Subsingleton S_.Idx := ⟨fun a b => funext fun i => i.elim0⟩
  have e := congrFun h (fun a => a.elim0)
  unfold fn at e
  have k := Host.reduce_andi_all _ _ _ _ _ e (ix1 n)
  obtain ⟨k01, k2⟩ := IntOp.andi_eq_one.1 k
  obtain ⟨k0, k1⟩ := IntOp.andi_eq_one.1 k01
  have a0 : (0#32).toInt ≤ (x0 (ix1 n)).toInt := IntOp.cmpi_sge.1 k0
  have a1 : (x0 (ix1 n)).toInt < (32#32).toInt := IntOp.cmpi_slt.1 k1
  have a2 : (0#32).toInt ≤ (x1 (ix1 n)).toInt := IntOp.cmpi_sge.1 k2
  have l0 := (x0 (ix1 n)).isLt
  have l1 := (x1 (ix1 n)).isLt
  have z : (0#32).toInt = 0 := by decide
  have z32 : (32#32).toInt = 32 := by decide
  rw [z, BitVec.toInt_eq_toNat_cond] at a0 a2
  rw [z32, BitVec.toInt_eq_toNat_cond] at a1
  constructor
  · split at a0 <;> omega
  · split at a2 <;> omega

end Cert.ContextTables

end
-- ==== Proof.E15Same.lean ====
/- The idealized program of layer 1's experts is the program itself. -/
module

public import proofs.«01_k».proof.Proof.Gen.Kernel15
public import proofs.«01_k».proof.Proof.Gen.Kernel15Ideal

@[expose] public section

set_option maxRecDepth 16384

noncomputable section

namespace Cert.Kernel15Ideal.Experts

open Idealize.ShloMosaic Idealize.ShloMosaic.TcCoe Idealize.SL.Sem

variable {F : FTy → Type} [FloatOps F]

set_option maxHeartbeats 1000000 in
/-- The two programs' bodies are one. -/
theorem bodies : Cert.Kernel15.defs₀ (F := F) = Cert.Kernel15Ideal.defs₀ := by
  refine congrArg Defs.onTc (funext fun l => funext fun a => ?_)
  match l, a with
  | 0, (t, s) => rfl

set_option maxHeartbeats 1000000 in
/-- What a run of the program does, a run of the idealized program does. -/
theorem transfer (s) (Q : _ → Prop) (h : θ_run Cert.Kernel15.defs (onTc (τ := Cert.Kernel15.τ) (Cert.Kernel15.main (F := F))) s Q) :
    θ_run Cert.Kernel15Ideal.defs (onTc (τ := Cert.Kernel15Ideal.τ) (Cert.Kernel15Ideal.main (F := F))) s Q := by
  rw [← show Cert.Kernel15.defs (F := F) = Cert.Kernel15Ideal.defs from congrArg (Pipeline.defs (Cert.Kernel15.pcfgs (F := F))) bodies]
  exact h

end Cert.Kernel15Ideal.Experts

end
-- ==== Proof.E15Kit.lean ====
module

public import proofs.«01_k».proof.Proof.Gen.Kernel15.Launch
public import proofs.«01_k».proof.Proof.Gen.Kernel15.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel15.Experts

open Cert.Kernel15 Cert.Kernel15.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host part -/

/-- What each buffer holds when the call begins. -/
abbrev V (c : Dev nD) (b : Ref sig .tc) : Buf (Elt F) ((c : Thread nD τ).loc b) := StableHlo.after hostOps0 (fun b => m (c, b)) b

/-- The reshapes on the host make no buffer of their own. -/
theorem hostOps0_fresh : (hostOps0 : List (HloOp τ sig (Elt F))).Forall fun op => op.fresh = ∅ := by
  simp only [List.Forall]; repeat' constructor

/-- The host part of the program leads up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is found by the call as it was at launch. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The two tables, as the call finds them. -/
def tbl : pre0.Contents (Elt F) := fun j => V m (0 : Dev nD) (pre0.ref j)
/-- They are those of the only device. -/
theorem V_pre (c : Dev nD) (j : Fin 2) : V m c (pre0.ref j) = tbl m j := by
  obtain rfl : c = 0 := Subsingleton.elim _ _; rfl
/-- Every block the tables ask for lies inside its array. -/
abbrev Ok : Prop := ok0 (F := F) (tbl m)
/-- The tables as ones the pipeline may run on, -/
abbrev adm (hO : Ok m) : (pcfg0 (F := F)).Adm := ⟨tbl m, hO⟩
/-- and the pipeline on them. -/
abbrev cfgM (hO : Ok m) : Pipeline.Cfg sig Λ₀ := cfg0 (adm m hO)

/-- The tables as the body is handed them. -/
abbrev tbM0_0 : Memref sig .tc .smem S48 .i32 := Memref.whole main_arg0
abbrev htbM0_0 : tbM0_0.IsWhole := Memref.isWhole_whole _
abbrev tbM0_1 : Memref sig .tc .smem S48 .i32 := Memref.whole main_arg1
abbrev htbM0_1 : tbM0_1.IsWhole := Memref.isWhole_whole _

/-- A table's contents, -/
abbrev TbBuf0 (c : Dev nD) {S : Shape} {e : EltTy} (M : Memref sig .tc .smem S e) : Type := Buf (Elt F) (M.view.loc (c : Thread nD τ))
/-- and half of the right to read it. -/
abbrev tbPt0 (c : Dev nD) {S : Shape} {e : EltTy} (M : Memref sig .tc .smem S e) (f : TbBuf0 (F := F) c M) : sProp 𝕄 :=
  M.view.loc (c : Thread nD τ) ↦{fullShare.right} f

/-- What the body holds of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The arguments -/

/-- Every argument ends as it was. -/
abbrev Kept (mem : (ℓ : Loc nD τ sig) → Buf (Elt F) ℓ) : Prop := ∀ c : Dev nD,
      mem (c.tc.loc main_arg0) = m (c.tc.loc main_arg0)
      ∧ mem (c.tc.loc main_arg1) = m (c.tc.loc main_arg1)
      ∧ mem (c.tc.loc main_arg2) = m (c.tc.loc main_arg2)
      ∧ mem (c.tc.loc main_arg3) = m (c.tc.loc main_arg3)
      ∧ mem (c.tc.loc main_arg4) = m (c.tc.loc main_arg4)
      ∧ mem (c.tc.loc main_arg5) = m (c.tc.loc main_arg5)
      ∧ mem (c.tc.loc main_arg6) = m (c.tc.loc main_arg6)

/-- A run that leaves the arrays as the proof data say leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => Kept m r.2.mem) :=
  (θ_run defs _ _).mono (fun _ h c => ⟨((h c).2 _ (by decide : main_arg0 ∈ Pipeline.restRefs sig spec0)).trans (V_kept m c _ (by decide) (by decide)),
      ((h c).2 _ (by decide : main_arg1 ∈ Pipeline.restRefs sig spec0)).trans (V_kept m c _ (by decide) (by decide)),
      ((h c).1 0).trans (((dats 0 c).arrAt_in 0 rfl _).trans ((hA c 0).trans (V_kept m c main_arg2 (by decide) (by decide)))),
      ((h c).1 1).trans (((dats 0 c).arrAt_in 1 rfl _).trans ((hA c 1).trans (V_kept m c main_arg3 (by decide) (by decide)))),
      ((h c).2 _ (by decide : main_arg4 ∈ Pipeline.restRefs sig spec0)).trans (V_kept m c _ (by decide) (by decide)),
      ((h c).1 3).trans (((dats 0 c).arrAt_in 3 rfl _).trans ((hA c 3).trans (V_kept m c main_arg5 (by decide) (by decide)))),
      ((h c).2 _ (by decide : main_arg6 ∈ Pipeline.restRefs sig spec0)).trans (V_kept m c _ (by decide) (by decide))⟩) h

/-! ## The buffers -/

/-- The two copies of the weights. -/
abbrev scM0_0 : Memref sig .tc .vmem S4096x512 .bf16 := Memref.whole cc0_scratch0
abbrev scM0_1 : Memref sig .tc .vmem S256x4096 .bf16 := Memref.whole cc0_scratch1

/-- What the call owns beside the windows: the copies and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel15.Experts

end
-- ==== Proof.E15Run.lean ====
module

public import proofs.«01_k».proof.Proof.Known
public import proofs.«01_k».proof.Proof.E15Kit
public import proofs.«01_k».proof.Proof.E14Run
public import Idealize.ShloMosaic.Lib.VecWindow
public import Idealize.ShloMosaic.Lib.Pipeline.ValueKit

@[expose] public section

set_option maxRecDepth 16384

noncomputable section

namespace Cert.Kernel15.Experts

open Cert.Known Cert.Kernel15 Cert.Kernel15.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one tile of tokens computes -/

/-- The expert number the body reads for its own tile. -/
def here (c : Dev nD) (i : grid0.Coords) (xt0 : TbBuf0 (F := F) c tbM0_0) : BitVec 32 :=
  View.readAt (Elt F) tbM0_0.view (Rect.unit (s := S48) (k0_off1 i) S1.size (k0_off1_inb i)).toLoadRect xt0
    (Shape.Idx.first (numel1_S1 ▸ Nat.one_pos))
/-- The expert number the body reads for the tile before. -/
def prev (c : Dev nD) (i : grid0.Coords) (xt0 : TbBuf0 (F := F) c tbM0_0) : BitVec 32 :=
  View.readAt (Elt F) tbM0_0.view (Rect.unit (s := S48) (k0_off2 i) S1.size (k0_off2_inb i)).toLoadRect xt0
    (Shape.Idx.first (numel1_S1 ▸ Nat.one_pos))
/-- The number of valid rows of the tile, as the first guard reads it. -/
def rows (c : Dev nD) (i : grid0.Coords) (xt1 : TbBuf0 (F := F) c tbM0_1) : BitVec 32 :=
  View.readAt (Elt F) tbM0_1.view (Rect.unit (s := S48) (k0_off3 i) S1.size (k0_off3_inb i)).toLoadRect xt1
    (Shape.Idx.first (numel1_S1 ▸ Nat.one_pos))
/-- The number of valid rows of the tile, as the second guard reads it. -/
def rows' (c : Dev nD) (i : grid0.Coords) (xt1 : TbBuf0 (F := F) c tbM0_1) : BitVec 32 :=
  View.readAt (Elt F) tbM0_1.view (Rect.unit (s := S48) (k0_off4 i) S1.size (k0_off4_inb i)).toLoadRect xt1
    (Shape.Idx.first (numel1_S1 ▸ Nat.one_pos))

/-- The body copies the weights anew: at the first tile, and where the expert is not that of the tile before. -/
abbrev Anew (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two halves of the copies and of the bias a tile is worked out of. -/
abbrev upper : Rect S4096x512 := Rect.unit ![0, 0] S2048x512.size inb_S4096x512_S2048x512_0_0
abbrev lower : Rect S4096x512 := Rect.unit ![2048, 0] S2048x512.size inb_S4096x512_S2048x512_2048_0
abbrev left : Rect S256x4096 := Rect.unit ![0, 0] S256x2048.size inb_S256x4096_S256x2048_0_0
abbrev right : Rect S256x4096 := Rect.unit ![0, 2048] S256x2048.size inb_S256x4096_S256x2048_0_2048

/-- What the body stores for a tile that has rows: the left half of the columns, then the right half, out of the
    tile's words `x0`, the two copied weights `w0`, `w1` and the two biases `x2`, `x4`. -/
def halves (x0 : Vec F S256x2048 .i32) (w0 : Vec F S4096x512 .bf16) (x2 : Vec F S1x1x512 .f32)
    (w1 : Vec F S256x4096 .bf16) (x4 : Vec F S1x1x4096 .f32) : List (View.Piece (Elt F) S256x4096 .bf16) :=
  [⟨Rect.unit (s := S256x4096) ![0, 2048] S256x2048.size inb_S256x4096_S256x2048_0_2048,
      k0_pay4 (k0_pay6 x0 (View.ld w0 upper)
          (View.ld w0 lower) x2)
        (View.ld w1 right)
        (View.ld x4 (Rect.unit (s := S1x1x4096) ![0, 0, 2048] S1x1x2048.size inb_S1x1x4096_S1x1x2048_0_0_2048))⟩,
   ⟨Rect.unit (s := S256x4096) ![0, 0] S256x2048.size inb_S256x4096_S256x2048_0_0,
      k0_pay3 (k0_pay7 x0 (View.ld w0 upper)
          (View.ld w0 lower) x2
          (View.ld w1 left))
        (View.ld x4 (Rect.unit (s := S1x1x4096) ![0, 0, 0] S1x1x2048.size inb_S1x1x4096_S1x1x2048_0_0_0))⟩]

/-- The two halves fill the tile. -/
theorem halves_cover (x0 : Vec F S256x2048 .i32) (w0 : Vec F S4096x512 .bf16) (x2 : Vec F S1x1x512 .f32)
    (w1 : Vec F S256x4096 .bf16) (x4 : Vec F S1x1x4096 .f32) (y : S256x4096.Idx) :
    ∃ pc ∈ halves x0 w0 x2 w1 x4, y ∈ pc.1.set :=
  View.cover_of_tiledL (halves x0 w0 x2 w1 x4) S256x2048.size (by sl_kernel_rfl) y

/-- The tile the body leaves: zeros where the tile has no rows, else the two halves. -/
def tile (r : BitVec 32) (x0 : Vec F S256x2048 .i32) (w0 : Vec F S4096x512 .bf16) (x2 : Vec F S1x1x512 .f32)
    (w1 : Vec F S256x4096 .bf16) (x4 : Vec F S1x1x4096 .f32) : Vec F S256x4096 .bf16 :=
  if k0_cond3 r = 1#1 then k0_pay5 (F := F) else View.canon (halves x0 w0 x2 w1 x4)

set_option maxHeartbeats 1000000 in
/-- The body is the one of the call it is shared with. -/
theorem bodies : Cert.Kernel14.defs₀ (F := F) = defs₀ := by
  refine congrArg Defs.onTc (funext fun l => funext fun a => ?_)
  match l, a with
  | 0, (t, s) => rfl

set_option maxHeartbeats 2000000 in
/-- One tile's body, on any buffers: the inputs stay, the two copies hold the tile's expert's weights if they are made
    anew and stay otherwise, and the output buffer ends at the tile. -/
theorem run (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x512 .f32) (harg5 : arg5.IsWhole) (arg6 : Memref sig .tc .vmem S1x1x256x4096 .f32) (harg6 : arg6.IsWhole) (arg7 : Memref sig .tc .vmem S1x1x4096 .f32) (harg7 : arg7.IsWhole) (arg8 : Memref sig .tc .vmem S256x4096 .bf16) (harg8 : arg8.IsWhole) (arg9 : Memref sig .tc .vmem S4096x512 .bf16) (harg9 : arg9.IsWhole) (arg10 : Memref sig .tc .vmem S256x4096 .bf16) (harg10 : arg10.IsWhole)
    (x0 : Vec F S256x2048 .i32) (x1 : Vec F S1x1x4096x512 .f32) (x2 : Vec F S1x1x512 .f32) (x3 : Vec F S1x1x256x4096 .f32) (x4 : Vec F S1x1x4096 .f32) (s0 : Vec F S4096x512 .bf16) (s1 : Vec F S256x4096 .bf16)
    (xt0 : TbBuf0 (F := F) c tbM0_0) (xt1 : TbBuf0 (F := F) c tbM0_1)
    (w0 : Vec F S4096x512 .bf16) (w1 : Vec F S256x4096 .bf16)
    (hw0 : (if Anew i (here c i xt0) (prev c i xt0) then k0_pay1 x1 else s0) = w0)
    (hw1 : (if Anew i (here c i xt0) (prev c i xt0) then k0_pay2 x3 else s1) = w1)
    (hr : k0_cond3 (rows' c i xt1) = 1#1 ∨ k0_cond2 (rows c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile (rows' c i xt1) x0 w0 x2 w1 x4) ∗ owns (c : Thread nD τ) arg9 fullShare w0 ∗ owns (c : Thread nD τ) arg10 fullShare w1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  have h := Cert.Kernel14.Experts.run c i arg3 harg3 arg4 harg4 arg5 harg5 arg6 harg6 arg7 harg7 arg8 harg8 arg9 harg9 arg10 harg10 x0 x1 x2 x3 x4 s0 s1 xt0 xt1 w0 w1 hw0 hw1 hr E K
  rw [bodies] at h
  exact h

end Cert.Kernel15.Experts

end
-- ==== Proof.E15Words.lean ====
module

public import proofs.«01_k».proof.Proof.E15Run
public import proofs.«01_k».proof.Proof.Tables

@[expose] public section

set_option maxRecDepth 16384

noncomputable section

namespace Cert.Kernel15.Experts

open Cert.Kernel15 Cert.Kernel15.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## The words of the two tables -/

/-- The tile a grid point works on. -/
abbrev tileOf (i : grid0.Coords) : Fin 48 := i 0

/-- The tile before, the first tile's being itself. -/
def before (n : Fin 48) : Fin 48 := ⟨n.val - 1, by omega⟩

theorem here_eq (c : Dev nD) (i : grid0.Coords) (x : TbBuf0 (F := F) c tbM0_0) : here c i x = x (ix1 (tileOf i)) :=
  congrArg x (funext fun a => Fin.ext (by fin_cases a; exact Tables.cast_eq (N := 48) (by decide) (i 0)))
theorem prev_eq (c : Dev nD) (i : grid0.Coords) (x : TbBuf0 (F := F) c tbM0_0) : prev c i x = x (ix1 (before (tileOf i))) :=
  congrArg x (funext fun a => Fin.ext (by fin_cases a; exact Tables.cast_pred (N := 48) (by decide) (i 0)))
theorem rows_eq (c : Dev nD) (i : grid0.Coords) (x : TbBuf0 (F := F) c tbM0_1) : rows c i x = x (ix1 (tileOf i)) :=
  congrArg x (funext fun a => Fin.ext (by fin_cases a; exact Tables.cast_eq (N := 48) (by decide) (i 0)))
theorem rows'_eq (c : Dev nD) (i : grid0.Coords) (x : TbBuf0 (F := F) c tbM0_1) : rows' c i x = x (ix1 (tileOf i)) :=
  congrArg x (funext fun a => Fin.ext (by fin_cases a; exact Tables.cast_eq (N := 48) (by decide) (i 0)))

/-- A table's word at a tile, as the index maps read it. -/
theorem at_eq (pf : pre0.Contents (Elt F)) (i : grid0.Coords) :
    pf.at 0 (Rect.unit (s := S48) (k0_off1 i) S1.size (k0_off1_inb i)) numel1_S1 = pf 0 (ix1 (tileOf i)) := by
  refine congrArg (pf 0) (funext fun a => Fin.ext ?_)
  fin_cases a
  exact Tables.cast_eq (N := 48) (by decide) (i 0)

/-- The four maps that follow the expert name the tile's expert's blocks. -/
theorem map1_eq (pf : pre0.Contents (Elt F)) (i : grid0.Coords) :
    cc0_transform_1 k0_off1_inb numel1_S1 pf i = ![1, (pf 0 (ix1 (tileOf i)) : BitVec 32).toNat, 0, 0] := by
  exact congrArg (fun w : BitVec 32 => (![1, w.toNat, 0, 0] : Fin 4 → ℕ)) (at_eq pf i)
theorem map3_eq (pf : pre0.Contents (Elt F)) (i : grid0.Coords) :
    cc0_transform_3 k0_off1_inb numel1_S1 pf i = ![1, (pf 0 (ix1 (tileOf i)) : BitVec 32).toNat, 0, 0] := by
  exact congrArg (fun w : BitVec 32 => (![1, w.toNat, 0, 0] : Fin 4 → ℕ)) (at_eq pf i)
theorem map2_eq (pf : pre0.Contents (Elt F)) (i : grid0.Coords) :
    cc0_transform_2 k0_off1_inb numel1_S1 pf i
      = ![(Scalar.addi 32#32 (pf 0 (ix1 (tileOf i)) : BitVec 32)).toNat, 0, 0] := by
  exact congrArg (fun w : BitVec 32 => (![(Scalar.addi 32#32 w).toNat, 0, 0] : Fin 3 → ℕ)) (at_eq pf i)
theorem map4_eq (pf : pre0.Contents (Elt F)) (i : grid0.Coords) :
    cc0_transform_4 k0_off1_inb numel1_S1 pf i
      = ![(Scalar.addi 32#32 (pf 0 (ix1 (tileOf i)) : BitVec 32)).toNat, 0, 0] := by
  exact congrArg (fun w : BitVec 32 => (![(Scalar.addi 32#32 w).toNat, 0, 0] : Fin 3 → ℕ)) (at_eq pf i)

/-- Where the weights are not copied anew the tile is not the first and its expert is the one of the tile before. -/
theorem not_anew {i : grid0.Coords} {a b : BitVec 32} (h : ¬ Anew i a b) : (i 0).val ≠ 0 ∧ a = b := by
  have h' := Tables.both_false (BitVec.ofNat 32 (i 0).val == 0#32) (a != b) h
  refine ⟨fun h0 => ?_, ?_⟩
  · rw [h0] at h'; exact absurd h'.1 (by decide)
  · have := h'.2
    simpa using this

/-- The tables say no tile has a negative number of rows. -/
abbrev Full : Prop := ∀ n : Fin 48, k0_cond3 (tbl m 1 (ix1 n) : BitVec 32) = 1#1 ∨ k0_cond2 (tbl m 1 (ix1 n) : BitVec 32) = 1#1

/-- Then every tile is written. -/
theorem not_idle (hF : Full m) (i : grid0.Coords) : idle0 (tbl m) 5 i = false := by
  have e : ∀ (off : Fin 1 → ℕ), off 0 = (i 0).val → ((tbl m).atD 1 off : BitVec 32) = tbl m 1 (ix1 (tileOf i)) := by
    intro off h
    have hb : ∀ a : Fin (pre0.ref 1).ty.shape.rank, off a + 1 ≤ (pre0.ref 1).ty.shape.size a := by
      intro a; fin_cases a
      show off 0 + 1 ≤ 48
      have := (i 0).isLt
      have hlt : (i 0).val < 48 := this
      omega
    refine (dif_pos hb).trans ?_
    refine congrArg (tbl m 1) (funext fun a => Fin.ext ?_)
    fin_cases a
    exact h
  show (!(k0_cond2 ((tbl m).atD 1 (k0_off3 i)) == 1#1) && !(k0_cond3 ((tbl m).atD 1 (k0_off4 i)) == 1#1)) = false
  rw [e _ (Tables.cast_eq (N := 48) (by decide) (i 0)), e _ (Tables.cast_eq (N := 48) (by decide) (i 0))]
  rcases hF (i 0) with h | h <;> rw [h] <;> simp

end Cert.Kernel15.Experts

end
-- ==== Proof.E15Frame.lean ====
module

public import proofs.«01_k».proof.Proof.E15Words
public import Idealize.ShloMosaic.Lib.Claim
public import Idealize.ShloMosaic.Lib.Pipeline.Kit

@[expose] public section

set_option maxRecDepth 16384

noncomputable section

namespace Cert.Kernel15.Experts

open Cert.Kernel15 Cert.Kernel15.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back after every tile. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body on the buffers of tile `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tile of a grid point is its number. -/
theorem tile_val (t : Fin grid0.N) : (tileOf (grid0.coords t)).val = t.val :=
  (by decide +kernel : ∀ t : Fin grid0.N, (tileOf (grid0.coords t)).val = t.val) t

variable (hO : Ok m) (hF : Full m) (c : Dev nD) (t : Fin (cfgM m hO).N)

/-! ## The contents of the buffers, tile by tile -/

/-- The gate-and-up weights of a tile's expert, as the copy holds them. -/
def copy0 : Vec F S4096x512 .bf16 := k0_pay1 (iblk m hO c 1 t)
/-- The down weights of a tile's expert, as the copy holds them. -/
def copy1 : Vec F S256x4096 .bf16 := k0_pay2 (iblk m hO c 3 t)
/-- The tile of the result that the body leaves. -/
def outAt : Vec F S256x4096 .bf16 :=
  tile (rows' c (grid0.coords t) (tbl m 1)) (iblk m hO c 0 t) (copy0 m hO c t) (iblk m hO c 2 t) (copy1 m hO c t) (iblk m hO c 4 t)

/-- Between two tiles the copies hold the weights of the tile just done. -/
def held (n : ℕ) : sProp 𝕄 :=
  iprop(∃ s0 : Vec F S4096x512 .bf16, ∃ s1 : Vec F S256x4096 .bf16,
    ⌜∀ t : Fin (cfgM m hO).N, t.val + 1 = n → s0 = copy0 m hO c t ∧ s1 = copy1 m hO c t⌝
      ∗ owns (c : Thread nD τ) scM0_0 fullShare s0 ∗ owns (c : Thread nD τ) scM0_1 fullShare s1)

/-- The proof data: every input buffer keeps its block, the output buffer ends at the tile, the copies are tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ n := iprop(held m hO c n.val ∗ (∃ r, prngReg c r) ∗ Pipeline.ΦT pre0 (tbl m) c)
  q _ := fullShare
  owed _ := 0

/-- The arrays are those the call finds. -/
theorem A_eq (w : Fin (cfgM m hO).W) : (dats m hO 0 c).A w = V m c (Pipeline.arrRef spec0 w) := by
  dsimp only [dats]

/-- The output buffer ends at the tile. -/

theorem after0_5 : (dats m hO 0 c).after 5 t = outAt m hO c t := by dsimp only [dats]; try rfl

/-- Each input's buffer holds its block at every point, before the body and after it. -/
theorem input (w : Fin (cfgM m hO).W) (h : w.val < 5) : (∀ d, (dats m hO 0 c).before w t d = iblk m hO c w t) ∧ (dats m hO 0 c).after w t = iblk m hO c w t := by
  change Fin 6 at w
  match w, h with
  | ⟨0, _⟩, _ | ⟨1, _⟩, _ | ⟨2, _⟩, _ | ⟨3, _⟩, _ | ⟨4, _⟩, _ =>
    exact ⟨fun d => ((dats m hO 0 c).before_in_eq_fetched _ rfl (fun _ => rfl) (fun _ _ _ => rfl) (fun _ => rfl) t d).trans rfl, rfl⟩

/-- Two tiles of one expert have one gate-and-up block and one down block. -/
theorem same_block (t' : Fin (cfgM m hO).N)
    (h : (tbl m 0 (ix1 (tileOf (grid0.coords t))) : BitVec 32) = tbl m 0 (ix1 (tileOf (grid0.coords t')))) :
    copy0 m hO c t = copy0 m hO c t' ∧ copy1 m hO c t = copy1 m hO c t' := by
  have i1 : ((cfgM m hO).win 1).index t = ((cfgM m hO).win 1).index t' := by
    show cc0_transform_1 k0_off1_inb numel1_S1 (tbl m) (grid0.coords t) = cc0_transform_1 k0_off1_inb numel1_S1 (tbl m) (grid0.coords t')
    rw [map1_eq, map1_eq, h]
  have i3 : ((cfgM m hO).win 3).index t = ((cfgM m hO).win 3).index t' := by
    show cc0_transform_3 k0_off1_inb numel1_S1 (tbl m) (grid0.coords t) = cc0_transform_3 k0_off1_inb numel1_S1 (tbl m) (grid0.coords t')
    rw [map3_eq, map3_eq, h]
  have e1 : iblk m hO c 1 t = iblk m hO c 1 t' := (dats m hO 0 c).fetched_congr 1 i1 rfl (iblk m hO c 1 t)
  have e3 : iblk m hO c 3 t = iblk m hO c 3 t' := (dats m hO 0 c).fetched_congr 3 i3 rfl (iblk m hO c 3 t)
  unfold copy0 copy1
  exact ⟨congrArg k0_pay1 e1, congrArg k0_pay2 e3⟩

/-! ## The body obligation, at a generic point -/

/-- What the body finds at a tile, -/
def bodyPre : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

include hF in
set_option maxHeartbeats 800000 in
/-- The body at any tile: its inputs are their blocks and its copies those of the tile before, so it ends with the tile
    written and with its own expert's copies. -/
theorem sound_body :
    bodyPre m hO c t ⊢ wp frame (wpE (defs₀ (F := F)) Variants.none c none) Set.univ (bodyAt0 (adm m hO) t) (fun _ => bodyPost m hO c t) := by
  unfold bodyPre bodyPost bodyAt0
  obtain ⟨b0, a0⟩ := input m hO c t 0 (show (0 : ℕ) < 5 by decide)
  obtain ⟨b1, a1⟩ := input m hO c t 1 (show (1 : ℕ) < 5 by decide)
  obtain ⟨b2, a2⟩ := input m hO c t 2 (show (2 : ℕ) < 5 by decide)
  obtain ⟨b3, a3⟩ := input m hO c t 3 (show (3 : ℕ) < 5 by decide)
  obtain ⟨b4, a4⟩ := input m hO c t 4 (show (4 : ℕ) < 5 by decide)
  simp only [b0, b1, b2, b3, b4]
  rw [show (dats m hO 0 c).owesAt () t.succ = (dats m hO 0 c).owesAt () t.castSucc from rfl,
    a0, a1, a2, a3, a4, after0_5]
  rw [show (dats m hO 0 c).Φ t.succ = iprop(held m hO c (t.val + 1) ∗ (∃ r, prngReg c r) ∗ Pipeline.ΦT pre0 (tbl m) c) from rfl,
    show (dats m hO 0 c).Φ t.castSucc = iprop(held m hO c t.val ∗ (∃ r, prngReg c r) ∗ Pipeline.ΦT pre0 (tbl m) c) from rfl, PhiT0_eq]
  unfold held outAt
  iintro ⟨⟨⟨%s0, %s1, %hs, HS0, HS1⟩, Hg, ⟨HT0, HT1⟩⟩, Ho, ⟨%d0, H0⟩, ⟨%d1, H1⟩, ⟨%d2, H2⟩, ⟨%d3, H3⟩, ⟨%d4, H4⟩, ⟨%d5, H5⟩⟩
  have hcopy : ¬ Anew (grid0.coords t) (here c (grid0.coords t) (tbl m 0)) (prev c (grid0.coords t) (tbl m 0)) →
      s0 = copy0 m hO c t ∧ s1 = copy1 m hO c t := by
    intro hn
    obtain ⟨h0, hab⟩ := not_anew hn
    have ht : (tileOf (grid0.coords t)).val = t.val := tile_val t
    have h0' : t.val ≠ 0 := fun h => h0 (ht.trans h)
    have hlt : t.val < (cfgM m hO).N := t.isLt
    let t' : Fin (cfgM m hO).N := ⟨t.val - 1, by omega⟩
    have ht' : (tileOf (grid0.coords t')).val = t.val - 1 := tile_val t'
    have hb : before (tileOf (grid0.coords t)) = tileOf (grid0.coords t') := Fin.ext (by
      show (tileOf (grid0.coords t)).val - 1 = _; rw [ht, ht'])
    have hab' := (here_eq c (grid0.coords t) (tbl m 0)).symm.trans (hab.trans (prev_eq c (grid0.coords t) (tbl m 0)))
    rw [hb] at hab'
    obtain ⟨e0, e1⟩ := same_block m hO c t t' hab'
    obtain ⟨q0, q1⟩ := hs t' (by show t.val - 1 + 1 = t.val; omega)
    exact ⟨q0.trans e0.symm, q1.trans e1.symm⟩
  have hrow : k0_cond3 (rows' c (grid0.coords t) (tbl m 1)) = 1#1 ∨ k0_cond2 (rows c (grid0.coords t) (tbl m 1)) = 1#1 := by
    exact (hF (tileOf (grid0.coords t))).imp (fun h => (congrArg k0_cond3 (rows'_eq c (grid0.coords t) (tbl m 1))).trans h)
      fun h => (congrArg k0_cond2 (rows_eq c (grid0.coords t) (tbl m 1))).trans h
  iapply (run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1)
    (copy0 m hO c t) (copy1 m hO c t)
    (by by_cases h : Anew (grid0.coords t) (here c (grid0.coords t) (tbl m 0)) (prev c (grid0.coords t) (tbl m 0))
        · rw [if_pos h]; rfl
        · rw [if_neg h]; exact (hcopy h).1)
    (by by_cases h : Anew (grid0.coords t) (here c (grid0.coords t) (tbl m 0)) (prev c (grid0.coords t) (tbl m 0))
        · rw [if_pos h]; rfl
        · rw [if_neg h]; exact (hcopy h).2)
    hrow Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists _; iexists _
      isplitr
      swap
      · isplitl [HS0]; · iexact HS0
        iexact HS1
      ipureintro
      intro t' h
      obtain rfl : t' = t := Fin.ext (by omega)
      exact ⟨rfl, rfl⟩
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body at a grid point is the body on that tile's buffers. -/
theorem defs₀_row :
    defs₀ (F := F) .tc (cfgM m hO).body ((cfgM m hO).bodyArgs t ((cfgM m hO).slots t)) = bodyAt0 (adm m hO) t := by
  unfold defs₀; rw [Defs.onTc_tc]

include hF in
/-- The body meets what the pipeline asks of it at every tile. -/
theorem body_obligation : BodyObligation (dats (F := F) m hO 0 c) (defs₀ (F := F)) Variants.none () Set.univ := fun t => by
  rw [bigSep_W0, bigSep_W0, defs₀_row m hO]
  have i5 : idle0 (tbl m) 5 (((pcfg0 (F := F)).gridAt (tbl m)).coords t) = false := not_idle m hF _
  simp only
  rw [i5]
  exact triple_restated (sound_body m hO hF c t) rfl .rfl fun _ => .rfl

/-! ## The run and the frame -/

include hO hF

set_option backward.isDefEq.respectTransparency.types false in
/-- The program runs to its end, with every array as the proof data say and all counters at zero. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop(held m hO c 0 ∗ (∃ r, prngReg c r) ∗ Pipeline.ΦT pre0 (tbl m) c)
      rw [PhiA0_eq]
      unfold held
      iintro ⟨⟨⟨⟨%d0, HS0⟩, ⟨%d1, HS1⟩⟩, Hg⟩, HT⟩
      isplitl [HS0 HS1]
      · iexists d0; iexists d1
        isplitr
        swap
        · isplitl [HS0]; · iexact HS0
          iexact HS1
        ipureintro
        intro t h
        omega
      isplitl [Hg]; · iexact Hg
      iexact HT)
    (hout := fun c => by
      show iprop(held m hO c _ ∗ (∃ r, prngReg c r) ∗ Pipeline.ΦT pre0 (tbl m) c) ⊢ Pipeline.ΦA spec0 c
      rw [PhiA0_eq]
      unfold held
      iintro ⟨⟨%d0, %d1, %hd, HS0, HS1⟩, Hg, -⟩
      isplitl [HS0 HS1]
      · isplitl [HS0]
        · iexists _; iexact HS0
        iexists _; iexact HS1
      iexact Hg)

/-- The run without the counters. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- Every argument ends as it was. -/
theorem unchanged : θ_run defs (onTc (τ := τ) (main (F := F))) ⟨m, fun _ => 0, ρ⟩ (fun r => Kept m r.2.mem) :=
  frame_of m ρ hO (dats m hO) (A_eq m hO) (run_main m ρ hO hF)

/-- The frame: every argument ends as it was and every counter at zero. -/
theorem frame : θ_run defs (onTc (τ := τ) (main (F := F))) ⟨m, fun _ => 0, ρ⟩ (fun r => Kept m r.2.mem
      ∧ r.2.sem = fun _ => 0) :=
  θ_run_and (unchanged m ρ hO hF) ((θ_run defs _ _).mono (fun _ h => h.2) (run_main_quiescent m ρ hO hF))

end Cert.Kernel15.Experts

end
-- ==== Proof.E15Pre.lean ====
/- Layer 1's experts: the tables a run may be launched on. -/
module

public import proofs.«01_k».proof.Proof.Expert
public import proofs.«01_k».proof.Proof.E15Frame

@[expose] public section

set_option maxRecDepth 16384

noncomputable section

namespace Cert.Kernel15.Experts

open Cert.Kernel15 Cert.Kernel15.Gen Idealize.ShloMosaic Idealize.ShloMosaic.TcCoe Idealize.SL.Sem

variable {F : FTy → Type} [FloatOps F] (m : (ℓ : Loc nD τ sig) → Buf (Elt F) ℓ)

/-- Where each name is one of the 32 experts, every block lies inside its array. -/
theorem inside (h : ∀ n : Fin 48, (tbl m 0 (ix1 n) : BitVec 32).toNat < 32) : Ok m := by
  have b (i : grid0.Coords) : (Scalar.addi 32#32 (tbl m 0 (ix1 (tileOf i)) : BitVec 32)).toNat < 128 :=
    lt_of_eq_of_lt (Expert.base_add 32 (by decide) _ (h (tileOf i))) (Nat.lt_of_lt_of_le (Nat.add_lt_add_left (h (tileOf i)) 32) (by decide))
  refine ⟨fun i => ⟨fun a => ?_, .inl rfl⟩, fun i => ⟨fun a => ?_, .inl rfl⟩, fun i => ⟨fun a => ?_, .inl rfl⟩, fun i => ⟨fun a => ?_, .inl rfl⟩⟩
  · have e := congrFun (map1_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (1 + 1) * 1 ≤ 4)
    | ⟨1, _⟩ => exact n
    | ⟨2, _⟩ => exact (by decide : (0 + 1) * 4096 ≤ 4096)
    | ⟨3, _⟩ => exact (by decide : (0 + 1) * 512 ≤ 512)
  · have e := congrFun (map2_eq (tbl m) i) a
    have n : ((Scalar.addi 32#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 512 ≤ 512)
  · have e := congrFun (map3_eq (tbl m) i) a
    have n : ((tbl m 0 (ix1 (tileOf i)) : BitVec 32).toNat + 1) * 1 ≤ 32 := by have := h (tileOf i); omega
    rw [e]
    change Fin 4 at a
    match a with
    | ⟨0, _⟩ => exact (by decide : (1 + 1) * 1 ≤ 4)
    | ⟨1, _⟩ => exact n
    | ⟨2, _⟩ => exact (by decide : (0 + 1) * 256 ≤ 256)
    | ⟨3, _⟩ => exact (by decide : (0 + 1) * 4096 ≤ 4096)
  · have e := congrFun (map4_eq (tbl m) i) a
    have n : ((Scalar.addi 32#32 (tbl m 0 (ix1 (tileOf i)) : BitVec 32)).toNat + 1) * 1 ≤ 128 := by have := b i; omega
    rw [e]
    change Fin 3 at a
    match a with
    | ⟨0, _⟩ => exact n
    | ⟨1, _⟩ => exact (by decide : (0 + 1) * 1 ≤ 1)
    | ⟨2, _⟩ => exact (by decide : (0 + 1) * 4096 ≤ 4096)

/-- A count that is not negative is zero or positive, as the call tests it. -/
theorem zero_or_more (w : BitVec 32) (h : w.toNat < 2 ^ 31) : k0_cond3 w = 1#1 ∨ k0_cond2 w = 1#1 := by
  by_cases z : w = 0#32
  · exact .inl ((Tables.as_bool (w == 0#32)).mpr (beq_iff_eq.mpr z))
  · exact .inr ((Tables.as_bool (BitVec.slt 0#32 w)).mpr ((StableHlo.Predicate.ofBool_eq_one_iff _).mp ((Tables.sgt_zero w h).mpr z)))

/-- Where no count is negative, every tile's result is written. -/
theorem written (h : ∀ n : Fin 48, (tbl m 1 (ix1 n) : BitVec 32).toNat < 2 ^ 31) : Full m := fun n => zero_or_more _ (h n)

/-- What the arguments say of the tables. -/
theorem of_words (h : ∀ n : Fin 48, (m ((0 : Dev nD).tc.loc main_arg0) (ix1 n) : BitVec 32).toNat < 32
      ∧ (m ((0 : Dev nD).tc.loc main_arg1) (ix1 n) : BitVec 32).toNat < 2 ^ 31) :
    (∀ n : Fin 48, (tbl m 0 (ix1 n) : BitVec 32).toNat < 32) ∧ Ok m ∧ Full m := by
  have t0 : (tbl m 0 : S48.Idx → BitVec 32) = m ((0 : Dev nD).tc.loc main_arg0) := V_kept m 0 main_arg0 (by decide) (by decide)
  have t1 : (tbl m 1 : S48.Idx → BitVec 32) = m ((0 : Dev nD).tc.loc main_arg1) := V_kept m 0 main_arg1 (by decide) (by decide)
  have h0 (n : Fin 48) : (tbl m 0 (ix1 n) : BitVec 32).toNat < 32 := lt_of_eq_of_lt (congrArg BitVec.toNat (congrFun t0 (ix1 n))) (h n).1
  have h1 (n : Fin 48) : (tbl m 1 (ix1 n) : BitVec 32).toNat < 2 ^ 31 := lt_of_eq_of_lt (congrArg BitVec.toNat (congrFun t1 (ix1 n))) (h n).2
  exact ⟨h0, inside m h0, written m h1⟩

end Cert.Kernel15.Experts

end
-- ==== Proof.E15Value.lean ====
/- Layer 1's experts: what the call leaves in its result. -/
module

public import proofs.«01_k».proof.Proof.Expert
public import proofs.«01_k».proof.Proof.E15Pre
public import proofs.«01_k».proof.Proof.E8Value

@[expose] public section

set_option maxRecDepth 16384

noncomputable section

namespace Cert.Kernel15.Experts

open Cert.Kernel15 Cert.Kernel15.Gen Idealize.ShloMosaic Idealize.ShloMosaic.TcCoe Idealize.SL.Sem

/-- A tile, entry by entry: zero where it has no rows, else the expert's output. -/
theorem tile_apply (r : BitVec 32) (x0 : Vec Ideal S256x2048 .i32) (w0 : Vec Ideal S4096x512 .bf16) (x2 : Vec Ideal S1x1x512 .f32)
    (w1 : Vec Ideal S256x4096 .bf16) (x4 : Vec Ideal S1x1x4096 .f32) (a : Fin 256) (d : Fin 4096) :
    tile r x0 w0 x2 w1 x4 (ix2 a d) = if r = 0#32 then (0 : EReal) else
      Expert.expert (fun k => x0 (ix2 a k)) (fun k f => w0 (ix2 k f)) (fun f => x2 (ix3 0 0 f)) (fun f => w1 (ix2 f d)) (x4 (ix3 0 0 d)) :=
  Cert.Kernel8.Experts.tile_apply r x0 w0 x2 w1 x4 a d

variable (m : (ℓ : Loc nD τ sig) → Buf (Elt Ideal) ℓ)

/-- The expert a table names is one of the 32. -/
def Named : Prop := ∀ n : Fin 48, (tbl m 0 (ix1 n) : BitVec 32).toNat < 32

/-- The reshaped gate-and-up biases, read off their argument. -/
theorem bias_gu (c : Dev nD) (n : Fin 128) (l : Fin 4) (e : Fin 32) (h : n.val = l.val * 32 + e.val) (f : Fin 512) :
    V m c main_v0 (ix3 n 0 f) = m (c.tc.loc main_arg4) (ix3 l e f) := by
  have : V m c main_v0 = shapeCast S128x1x512 (m (c.tc.loc main_arg4)) shapeCasts_S4x32x512_S128x1x512 := by
    unfold V hostOps0
    after_results
    try rfl
  rw [this]
  refine Idealize.ShloMosaic.shapeCast_apply _ _ _ _ ?_
  show (S4x32x512.rowMajor (ix3 l e f)).val = (S128x1x512.rowMajor (ix3 n 0 f)).val
  rw [Shape.rowMajor_val_three, Shape.rowMajor_val_three]
  show (l.val * 32 + e.val) * 512 + f.val = (n.val * 1 + 0) * 512 + f.val
  omega

/-- The reshaped down biases, read off their argument. -/
theorem bias_dn (c : Dev nD) (n : Fin 128) (l : Fin 4) (e : Fin 32) (h : n.val = l.val * 32 + e.val) (d : Fin 4096) :
    V m c main_v1 (ix3 n 0 d) = m (c.tc.loc main_arg6) (ix3 l e d) := by
  have : V m c main_v1 = shapeCast S128x1x4096 (m (c.tc.loc main_arg6)) shapeCasts_S4x32x4096_S128x1x4096 := by
    unfold V hostOps0
    after_results
    try rfl
  rw [this]
  refine Idealize.ShloMosaic.shapeCast_apply _ _ _ _ ?_
  show (S4x32x4096.rowMajor (ix3 l e d)).val = (S128x1x4096.rowMajor (ix3 n 0 d)).val
  rw [Shape.rowMajor_val_three, Shape.rowMajor_val_three]
  show (l.val * 32 + e.val) * 4096 + d.val = (n.val * 1 + 0) * 4096 + d.val
  omega

/-- The result's window at tile `t` names the `t`-th block of rows. -/
theorem index5 (hO : Ok m) (t : Fin (cfgM m hO).N) : ((pcfg0 (F := Ideal)).win (adm m hO) 5).index t (0 : Fin 2) = t.val ∧ ((pcfg0 (F := Ideal)).win (adm m hO) 5).index t (1 : Fin 2) = 0 :=
  (by decide +kernel : ∀ t : Fin grid0.N, cc0_transform_5 (grid0.coords t) 0 = t.val ∧ cc0_transform_5 (grid0.coords t) 1 = 0) t
/-- The rows' window names the same block. -/
theorem index0 (hO : Ok m) (t : Fin (cfgM m hO).N) : ((pcfg0 (F := Ideal)).win (adm m hO) 0).index t (0 : Fin 2) = t.val ∧ ((pcfg0 (F := Ideal)).win (adm m hO) 0).index t (1 : Fin 2) = 0 :=
  (by decide +kernel : ∀ t : Fin grid0.N, cc0_transform_0 (grid0.coords t) 0 = t.val ∧ cc0_transform_0 (grid0.coords t) 1 = 0) t

/-- The tiles fill the result. -/
theorem covers5 (hO : Ok m) : ((cfgM m hO).win 5).Covers := by
  refine ⟨(by decide : ∀ a : Fin 2, 0 < (![256, 4096] : Fin 2 → ℕ) a), fun β => ?_⟩
  have n0 : ((cfgM m hO).win 5).nblk (0 : Fin 2) = 48 := by unfold Pipeline.Window.nblk; show (12288 + 256 - 1) / 256 = 48; rfl
  have n1 : ((cfgM m hO).win 5).nblk (1 : Fin 2) = 1 := by unfold Pipeline.Window.nblk; show (4096 + 4096 - 1) / 4096 = 1; rfl
  have h0 : (β (0 : Fin 2)).val < 48 := lt_of_lt_of_eq (β (0 : Fin 2)).isLt n0
  have h1 : (β (1 : Fin 2)).val < 1 := lt_of_lt_of_eq (β (1 : Fin 2)).isLt n1
  refine ⟨⟨(β (0 : Fin 2)).val, h0⟩, flush0_5 (adm m hO) _, fun a => ⟨?_, .inl rfl⟩⟩
  obtain ⟨i0, i1⟩ := index5 m hO ⟨(β (0 : Fin 2)).val, h0⟩
  change Fin 2 at a
  match a with
  | ⟨0, _⟩ => exact i0
  | ⟨1, _⟩ => exact i1.trans (by show 0 = (β (1 : Fin 2)).val; omega)

/-- The words of a tile, read off the packed rows. -/
theorem words_apply (hO : Ok m) (c : Dev nD) (t : Fin (cfgM m hO).N) (a : Fin 256) (r : Fin 12288) (h : r.val = t.val * 256 + a.val) (k : Fin 2048) :
    iblk m hO c 0 t (ix2 a k) = m (c.tc.loc main_arg2) (ix2 r k) := by
  obtain ⟨i0, i1⟩ := index0 m hO t
  blk_ext! [iblk, V, h]
  · exact congrArg (· * 256 + a.val) i0
  · exact (congrArg (· * 2048 + k.val) i1).trans (by omega)

/-- The word a tile's expert is named by, as a number. -/
abbrev nameAt (t : Fin grid0.N) : ℕ := (tbl m 0 (ix1 (tileOf (grid0.coords t))) : BitVec 32).toNat

/-- The gate-and-up copy of a tile holds its expert's weights. -/
theorem gu_apply (hO : Ok m) (c : Dev nD) (t : Fin (cfgM m hO).N) (e : Fin 32) (h : e.val = nameAt m t) (k : Fin 4096) (f : Fin 512) :
    copy0 m hO c t (ix2 k f) = m (c.tc.loc main_arg3) (ix4 1 e k f) := by
  have i (a : Fin 4) : ((pcfg0 (F := Ideal)).win (adm m hO) 1).index t a = (![1, nameAt m t, 0, 0] : Fin 4 → ℕ) a :=
    congrFun (map1_eq (tbl m) (grid0.coords t)) a
  unfold copy0
  pointwise [k0_pay1]
  blk_ext! [iblk, V]
  · exact congrArg (· * 1 + 0) (i 0)
  · exact (i 1).trans (by show nameAt m t = _; omega)
  · exact (congrArg (· * 4096 + k.val) (i 2)).trans (by show 0 * 4096 + k.val = k.val; omega)
  · exact (congrArg (· * 512 + f.val) (i 3)).trans (by show 0 * 512 + f.val = f.val; omega)

/-- The down copy of a tile holds its expert's weights. -/
theorem dn_apply (hO : Ok m) (c : Dev nD) (t : Fin (cfgM m hO).N) (e : Fin 32) (h : e.val = nameAt m t) (f : Fin 256) (d : Fin 4096) :
    copy1 m hO c t (ix2 f d) = m (c.tc.loc main_arg5) (ix4 1 e f d) := by
  have i (a : Fin 4) : ((pcfg0 (F := Ideal)).win (adm m hO) 3).index t a = (![1, nameAt m t, 0, 0] : Fin 4 → ℕ) a :=
    congrFun (map3_eq (tbl m) (grid0.coords t)) a
  unfold copy1
  pointwise [k0_pay2]
  blk_ext! [iblk, V]
  · exact congrArg (· * 1 + 0) (i 0)
  · exact (i 1).trans (by show nameAt m t = _; omega)
  · exact (congrArg (· * 256 + f.val) (i 2)).trans (by show 0 * 256 + f.val = f.val; omega)
  · exact (congrArg (· * 4096 + d.val) (i 3)).trans (by show 0 * 4096 + d.val = d.val; omega)

/-- The gate-and-up bias of a tile is its expert's. -/
theorem gub_apply (hO : Ok m) (c : Dev nD) (t : Fin (cfgM m hO).N) (e : Fin 32) (h : e.val = nameAt m t) (f : Fin 512) :
    iblk m hO c 2 t (ix3 0 0 f) = m (c.tc.loc main_arg4) (ix3 1 e f) := by
  have i (a : Fin 3) : ((pcfg0 (F := Ideal)).win (adm m hO) 2).index t a = (![32 + nameAt m t, 0, 0] : Fin 3 → ℕ) a := by
    refine (congrFun (map2_eq (tbl m) (grid0.coords t)) a).trans (congrArg (fun n : ℕ => (![n, 0, 0] : Fin 3 → ℕ) a) ?_)
    exact Expert.base_add 32 (by decide) _ (show nameAt m t < 32 by omega)
  have j : iblk m hO c 2 t (ix3 0 0 f) = V m c main_v0 (ix3 ⟨32 + e.val, by omega⟩ 0 f) := by
    refine congrArg (V m c main_v0) (show ((spec0 2).arr.view.slice (((pcfg0 (F := Ideal)).win (adm m hO) 2).rect t)).emb (ix3 0 0 f) = ix3 ⟨32 + e.val, by omega⟩ 0 f from ?_)
    refine funext fun a => Fin.ext ?_
    change Fin 3 at a
    match a with
    | ⟨0, _⟩ => exact Eq.trans (by blk_simp; rfl) ((i 0).trans (show 32 + nameAt m t = 32 + e.val by omega))
    | ⟨1, _⟩ => exact Eq.trans (by blk_simp; rfl) (i 1)
    | ⟨2, _⟩ => exact Eq.trans (by blk_simp) ((congrArg (· * 512 + f.val) (i 2)).trans (by show 0 * 512 + f.val = f.val; omega))
  exact j.trans (bias_gu m c _ 1 e rfl f)

/-- The down bias of a tile is its expert's. -/
theorem dnb_apply (hO : Ok m) (c : Dev nD) (t : Fin (cfgM m hO).N) (e : Fin 32) (h : e.val = nameAt m t) (d : Fin 4096) :
    iblk m hO c 4 t (ix3 0 0 d) = m (c.tc.loc main_arg6) (ix3 1 e d) := by
  have i (a : Fin 3) : ((pcfg0 (F := Ideal)).win (adm m hO) 4).index t a = (![32 + nameAt m t, 0, 0] : Fin 3 → ℕ) a := by
    refine (congrFun (map4_eq (tbl m) (grid0.coords t)) a).trans (congrArg (fun n : ℕ => (![n, 0, 0] : Fin 3 → ℕ) a) ?_)
    exact Expert.base_add 32 (by decide) _ (show nameAt m t < 32 by omega)
  have j : iblk m hO c 4 t (ix3 0 0 d) = V m c main_v1 (ix3 ⟨32 + e.val, by omega⟩ 0 d) := by
    refine congrArg (V m c main_v1) (show ((spec0 4).arr.view.slice (((pcfg0 (F := Ideal)).win (adm m hO) 4).rect t)).emb (ix3 0 0 d) = ix3 ⟨32 + e.val, by omega⟩ 0 d from ?_)
    refine funext fun a => Fin.ext ?_
    change Fin 3 at a
    match a with
    | ⟨0, _⟩ => exact Eq.trans (by blk_simp; rfl) ((i 0).trans (show 32 + nameAt m t = 32 + e.val by omega))
    | ⟨1, _⟩ => exact Eq.trans (by blk_simp; rfl) (i 1)
    | ⟨2, _⟩ => exact Eq.trans (by blk_simp) ((congrArg (· * 4096 + d.val) (i 2)).trans (by show 0 * 4096 + d.val = d.val; omega))
  exact j.trans (bias_dn m c _ 1 e rfl d)

/-- The experts' outputs, out of the arguments the call finds. -/
abbrev outputs (c : Dev nD) : Fin 12288 → Fin 4096 → EReal :=
  Expert.result (N := 48) (M := 12288) rfl 1 (m (c.tc.loc main_arg0)) (m (c.tc.loc main_arg1)) (m (c.tc.loc main_arg2)) (m (c.tc.loc main_arg3)) (m (c.tc.loc main_arg4)) (m (c.tc.loc main_arg5)) (m (c.tc.loc main_arg6))

/-- A row of a tile, as the arguments have it. -/
theorem row_eq (hO : Ok m) (hN : Named m) (c : Dev nD) (t : Fin (cfgM m hO).N) (a : Fin 256) (r : Fin 12288) (h : r.val = t.val * 256 + a.val) (d : Fin 4096) :
    (if rows' c (grid0.coords t) (tbl m 1) = 0#32 then (0 : EReal) else
      Expert.expert (fun k => iblk m hO c 0 t (ix2 a k)) (fun k f => copy0 m hO c t (ix2 k f)) (fun f => iblk m hO c 2 t (ix3 0 0 f))
        (fun f => copy1 m hO c t (ix2 f d)) (iblk m hO c 4 t (ix3 0 0 d)))
    = outputs m c r d := by
  have hn : tileOf (grid0.coords t) = Expert.tileOfRow (N := 48) rfl r := Fin.ext (by rw [tile_val t]; show t.val = r.val / 256; omega)
  have t0 : (tbl m 0 : S48.Idx → BitVec 32) = m (c.tc.loc main_arg0) := by
    obtain rfl : c = 0 := Subsingleton.elim _ _
    exact V_kept m 0 main_arg0 (by decide) (by decide)
  have t1 : (tbl m 1 : S48.Idx → BitVec 32) = m (c.tc.loc main_arg1) := by
    obtain rfl : c = 0 := Subsingleton.elim _ _
    exact V_kept m 0 main_arg1 (by decide) (by decide)
  have w1 : rows' c (grid0.coords t) (tbl m 1) = m (c.tc.loc main_arg1) (ix1 (Expert.tileOfRow (N := 48) rfl r)) :=
    (rows'_eq c (grid0.coords t) _).trans ((congrFun t1 _).trans (by rw [hn]))
  have w0 : (tbl m 0 (ix1 (tileOf (grid0.coords t))) : BitVec 32) = m (c.tc.loc main_arg0) (ix1 (Expert.tileOfRow (N := 48) rfl r)) :=
    (congrFun t0 _).trans (by rw [hn])
  have he : (Expert.pick (m (c.tc.loc main_arg0) (ix1 (Expert.tileOfRow (N := 48) rfl r)))).val = nameAt m t := by
    show BitVec.toNat _ % 32 = BitVec.toNat _
    rw [← w0]
    exact Nat.mod_eq_of_lt (hN _)
  unfold outputs Expert.result
  rw [w1]
  refine if_congr Iff.rfl rfl ?_
  congr 1
  · exact funext fun k => words_apply m hO c t a r h k
  · exact funext fun k => funext fun f => gu_apply m hO c t _ he k f
  · exact funext fun f => gub_apply m hO c t _ he f
  · exact funext fun f => dn_apply m hO c t _ he f d
  · exact dnb_apply m hO c t _ he d

/-- After the run, the result array is the experts' outputs row by row. -/
theorem final (hO : Ok m) (hN : Named m) (c : Dev nD) :
    (dats m hO 0 c).arrAt 5 (cfgM m hO).N = fun i : S12288x4096.Idx => outputs m c (i 0) (i 1) := by
  refine (dats m hO 0 c).arrAt_eq_of_covers 5 _ (covers5 m hO) fun t hf y => ?_
  blk_simp
  rw [after0_5]
  change S256x4096.Idx at y
  idx_vars y
  unfold outAt
  refine (tile_apply _ _ _ _ _ _ y0 y1).trans ?_
  obtain ⟨i0, i1⟩ := index5 m hO t
  have r0 : (((spec0 5).arr.view.slice (((pcfg0 (F := Ideal)).win (adm m hO) 5).rect t)).emb (ix2 y0 y1) (0 : Fin 2)).val = t.val * 256 + y0.val := by
    refine Eq.trans ?_ (congrArg (· * 256 + y0.val) i0)
    blk_simp
  have r1 : ((spec0 5).arr.view.slice (((pcfg0 (F := Ideal)).win (adm m hO) 5).rect t)).emb (ix2 y0 y1) (1 : Fin 2) = y1 := by
    refine Fin.ext ?_
    refine Eq.trans ?_ ((congrArg (· * 4096 + y1.val) i1).trans (by show 0 * 4096 + y1.val = y1.val; omega))
    blk_simp
  exact (row_eq m hO hN c t y0 _ r0 y1).trans (congrArg (fun z => outputs m c _ z) r1.symm)

/-- The call runs, leaves the experts' outputs in its result, and leaves its arguments as they were. -/
theorem value (ρ : Dev nD → PrngReg) (hO : Ok m) (hF : Full m) (hN : Named m) : θ_run defs (onTc (τ := τ) (main (F := Ideal))) ⟨m, fun _ => 0, ρ⟩ (fun r => ∀ c : Dev nD,
      r.2.mem ((c.tc : Thread nD τ).loc main_v2) = (fun i : S12288x4096.Idx => outputs m c (i 0) (i 1))
      ∧ Kept m r.2.mem) :=
  (θ_run defs _ _).mono (fun _ h c => ⟨((h.1 c).1 5).trans (final m hO hN c), h.2⟩) (θ_run_and (run_main m ρ hO hF) (unchanged m ρ hO hF))

end Cert.Kernel15.Experts

end
-- ==== Proof.E15Ref.lean ====
/- Layer 1's experts: the plain formula, entry by entry. -/
module

public import proofs.«01_k».proof.Proof.Expert
public import proofs.«01_k».proof.Proof.E14Ref
public import proofs.«01_k».proof.Proof.Gen.Reference15Ideal.Read

@[expose] public section

set_option maxRecDepth 16384

noncomputable section

namespace Cert.Reference15Ideal.Experts

open Idealize.ShloMosaic Idealize.ShloMosaic.TcCoe Idealize.SL.Sem
open Cert.Reference15Ideal Cert.Reference15Ideal.Gen Cert.Reference15Ideal.Read

variable (x0 x1 : S48.Idx → BitVec 32) (x2 : S12288x2048.Idx → BitVec 32) (x3 : S4x32x4096x512.Idx → EReal) (x4 : S4x32x512.Idx → EReal)
  (x5 : S4x32x256x4096.Idx → EReal) (x6 : S4x32x4096.Idx → EReal)

/-- The unpacked rows: the first numbers of the words, then the second. -/
theorem ref_rows_lo (r : Fin 12288) (k : Fin 2048) :
    val_main_v6 (F := Ideal) x2 (ix2 r (Fin.castLE (show 2048 ≤ 4096 by decide) k)) = Expert.lo (x2 (ix2 r k)) :=
  Cert.Reference14Ideal.Experts.ref_rows_lo x2 r k

theorem ref_rows_hi (r : Fin 12288) (k : Fin 2048) :
    val_main_v6 (F := Ideal) x2 (ix2 r (Fin.natAdd 2048 k)) = Expert.hi (x2 (ix2 r k)) :=
  Cert.Reference14Ideal.Experts.ref_rows_hi x2 r k

/-- The gate-and-up features of a row under an expert. -/
theorem ref_feature (e : Fin 32) (r : Fin 12288) (f : Fin 512) :
    val_main_v33 (F := Ideal) x2 x3 x4 (ix3 e r f) = Expert.feature (fun k => x2 (ix2 r k)) (fun k => x3 (ix4 1 e k f)) (x4 (ix3 1 e f)) := by
  pointwise [val_main_v33, val_main_v32, val_main_v31, val_main_v30, val_main_v29, val_main_v28, val_main_v27, val_main_v26, val_main_v25]
  unfold Expert.feature
  refine congrArg (· + x4 (ix3 1 e f)) ?_
  refine (Fin.sum_univ_add (a := 2048) (b := 2048) fun k : Fin 4096 => x3 (ix4 1 e k f) * val_main_v6 (F := Ideal) x2 (ix2 r k)).trans ?_
  refine congrArg₂ (· + ·) (Finset.sum_congr rfl fun k _ => ?_) (Finset.sum_congr rfl fun k _ => ?_)
  · exact (mul_comm _ _).trans (congrArg (· * _) (ref_rows_lo x2 r k))
  · exact (mul_comm _ _).trans (congrArg (· * _) (ref_rows_hi x2 r k))

/-- The activations. -/
theorem ref_act (e : Fin 32) (r : Fin 12288) (f : Fin 256) :
    val_main_v50 (F := Ideal) x2 x3 x4 (ix3 e r f) = Expert.act (val_main_v33 (F := Ideal) x2 x3 x4 (ix3 e r (Fin.castLE (show 256 ≤ 512 by decide) f)))
      (val_main_v33 (F := Ideal) x2 x3 x4 (ix3 e r (Fin.natAdd 256 f))) := by
  pointwise [val_main_v50, val_main_v49, val_main_v48, val_main_cst_9, val_main_v47, val_main_v46, val_main_v45, val_main_cst_8, val_main_v44, val_main_v43, val_main_cst_7,
    val_main_v42, val_main_v41, val_main_v40, val_main_v39, val_main_cst_6, val_main_v38, val_main_v37, val_main_v36, val_main_v35, val_main_cst_3, val_main_v34, val_main_call1_v0, val_main_cst_4, val_main_call1_v1, val_main_call1_v2, val_main_call1_v3, val_main_cst_5, val_main_call1_v4]
  rfl

/-- An expert's output on a row. -/
theorem ref_out (e : Fin 32) (r : Fin 12288) (d : Fin 4096) :
    val_main_v58 (F := Ideal) x2 x3 x4 x5 x6 (ix3 e r d) = (∑ f : Fin 256, val_main_v50 (F := Ideal) x2 x3 x4 (ix3 e r f) * x5 (ix4 1 e f d)) + x6 (ix3 1 e d) := by
  pointwise [val_main_v58, val_main_v57, val_main_v56, val_main_v55, val_main_v54, val_main_v53, val_main_v52, val_main_v51]

/-- The gate of an expert on a row. -/
theorem ref_gate (r : Fin 12288) (e : Fin 32) :
    val_main_v24 (F := Ideal) x0 x1 (ix2 r e) = if x0 (ix1 (Expert.tileOfRow (N := 48) rfl r)) = BitVec.ofNat 32 e.val ∧ IntOp.cmpi .sgt (x1 (ix1 (Expert.tileOfRow (N := 48) rfl r))) 0#32 = 1#1 then 1 else 0 :=
  Cert.Reference14Ideal.Experts.ref_gate x0 x1 r e

/-- The gated sum over the experts. -/
theorem ref_sum (r : Fin 12288) (d : Fin 4096) :
    val_main_v60 (F := Ideal) x0 x1 x2 x3 x4 x5 x6 (ix2 r d) = ∑ e : Fin 32, val_main_v24 (F := Ideal) x0 x1 (ix2 r e) * val_main_v58 (F := Ideal) x2 x3 x4 x5 x6 (ix3 e r d) := by
  pointwise [val_main_v60, val_main_v59]

/-- The plain formula's result, given tables of names and counts. -/
theorem ref_final (h : ∀ n : Fin 48, (x0 (ix1 n)).toNat < 32 ∧ (x1 (ix1 n)).toNat < 2 ^ 31) (r : Fin 12288) (d : Fin 4096) :
    val_main_v60 (F := Ideal) x0 x1 x2 x3 x4 x5 x6 (ix2 r d) = Expert.result (N := 48) (M := 12288) rfl 1 x0 x1 x2 x3 x4 x5 x6 r d := by
  obtain ⟨h0, h1⟩ := h (Expert.tileOfRow (N := 48) rfl r)
  have named (e : Fin 32) := Expert.named _ e h0
  rw [ref_sum]
  unfold Expert.result
  by_cases z : x1 (ix1 (Expert.tileOfRow (N := 48) rfl r)) = 0#32
  · rw [if_pos z]
    refine Finset.sum_eq_zero fun e _ => ?_
    rw [ref_gate, if_neg (fun k => (Tables.sgt_zero _ h1).mp k.2 z), zero_mul]
  · rw [if_neg z, Finset.sum_eq_single (Expert.pick (x0 (ix1 (Expert.tileOfRow (N := 48) rfl r))))]
    · rw [ref_gate, if_pos ⟨(named _).mpr rfl, (Tables.sgt_zero _ h1).mpr z⟩, one_mul, ref_out]
      unfold Expert.expert
      refine congrArg (· + _) (Finset.sum_congr rfl fun f _ => ?_)
      rw [ref_act, ref_feature, ref_feature]
    · intro e _ he
      rw [ref_gate, if_neg (fun k => he ((named e).mp k.1)), zero_mul]
    · exact fun k => absurd (Finset.mem_univ _) k

end Cert.Reference15Ideal.Experts

end
-- ==== Proof.lean ====
/- The certificate of the calls. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Ref
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.GqaRef
public import proofs.«01_k».proof.Proof.Out0
public import proofs.«01_k».proof.Proof.Out1
public import proofs.«01_k».proof.Proof.Out2
public import proofs.«01_k».proof.Proof.Out3
public import proofs.«01_k».proof.Proof.Glu
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import proofs.«01_k».proof.Proof.Qkv
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Read
public import proofs.«01_k».proof.Proof.GqaQkv
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Read
public import proofs.«01_k».proof.Proof.OutCtx0
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Read
public import proofs.«01_k».proof.Proof.OutCtx1
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Read
public import proofs.«01_k».proof.Proof.QkvCtx
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Read
public import proofs.«01_k».proof.Proof.GqaQkvCtx
public import proofs.«01_k».proof.Proof.E8Same
public import proofs.«01_k».proof.Proof.E8Value
public import proofs.«01_k».proof.Proof.E8Ref
public import proofs.«01_k».proof.Proof.E9Same
public import proofs.«01_k».proof.Proof.E9Value
public import proofs.«01_k».proof.Proof.E9Ref
public import proofs.«01_k».proof.Proof.E10Same
public import proofs.«01_k».proof.Proof.E10Value
public import proofs.«01_k».proof.Proof.E10Ref
public import proofs.«01_k».proof.Proof.E11Same
public import proofs.«01_k».proof.Proof.E11Value
public import proofs.«01_k».proof.Proof.E11Ref
public import proofs.«01_k».proof.Proof.E14Same
public import proofs.«01_k».proof.Proof.E14Value
public import proofs.«01_k».proof.Proof.E14Ref
public import proofs.«01_k».proof.Proof.ContextTables
public import proofs.«01_k».proof.Proof.E15Same
public import proofs.«01_k».proof.Proof.E15Value
public import proofs.«01_k».proof.Proof.E15Ref
public import Idealize.ShloMosaic.Adequacy
public import Idealize.ShloMosaic.Init
public import Idealize.ShloMosaic.Lib.Quiescent
public import proofs.«01_k».proof.Proof.Gen.ReferenceIdeal

@[expose] public section

noncomputable section

namespace Cert.Proof

open Idealize.ShloMosaic Idealize.SL.Sem Cert.Kernel

/-- The frame of the reference: it ends with its arguments unchanged and every counter at zero. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized call and the reference leave the same array. -/
theorem algebraic_k : Cert.algebraic_KernelIdeal_ReferenceIdeal := fun m ρ m' ρ' _ hag =>
  ⟨fun c i => Cert.Attn.attnOut (m (c.tc.loc Cert.KernelIdeal.main_arg0)) (m (c.tc.loc Cert.KernelIdeal.main_arg1))
      (m (c.tc.loc Cert.KernelIdeal.main_arg2)) (m (c.tc.loc Cert.KernelIdeal.main_arg3)) (i 0) (i 1) (i 2),
    (θ_run _ _ _).mono (fun _ h c => ⟨(h c).1.trans (Cert.Attn.final m c), (h c).2⟩) (Cert.KernelIdeal.Value.run_blocks m ρ),
    (θ_run _ _ _).mono (fun _ h c => ⟨(h c).1.trans (by
      rw [Cert.ReferenceIdeal.Read.val_main_v72_eq, (hag c).1, (hag c).2.1, (hag c).2.2.1, (hag c).2.2.2]
      funext i
      change Cert.ReferenceIdeal.S4x4096x4096.Idx at i
      idx_vars i
      exact Cert.Attn.ref_final _ _ _ _ i0 i1 i2), (h c).2⟩) (Cert.ReferenceIdeal.Value.run (F := Ideal) m' ρ')⟩

/-- The frame of the reference of the grouped-query attention: it ends with its arguments unchanged and every counter at zero. -/
theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The idealized call of the grouped-query attention and its reference leave the same array. -/
theorem algebraic_k2 : Cert.algebraic_Kernel2Ideal_Reference2Ideal := fun m ρ m' ρ' _ hag =>
  ⟨fun c i => Cert.Gqa.attnOut (m (c.tc.loc Cert.Kernel2Ideal.main_arg0)) (m (c.tc.loc Cert.Kernel2Ideal.main_arg1)) (i 0) (i 1) (i 2),
    (θ_run _ _ _).mono (fun _ h c => ⟨(h c).1.trans (Cert.Gqa.final m c), (h c).2⟩) (Cert.Kernel2Ideal.Value.run_blocks m ρ),
    (θ_run _ _ _).mono (fun _ h c => ⟨(h c).1.trans (by
      rw [Cert.Reference2Ideal.Read.val_main_v35_eq, (hag c).1, (hag c).2]
      funext i
      change Cert.Reference2Ideal.S4x4096x4096.Idx at i
      idx_vars i
      exact Cert.Gqa.ref_final _ _ i0 i1 i2), (h c).2⟩) (Cert.Reference2Ideal.Value.run (F := Ideal) m' ρ')⟩

/-- The frame of the reference of the first layer's output projection: it ends with its arguments unchanged and every counter at zero. -/
theorem frame_r3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The idealized call of the first layer's output projection and its reference leave the same array. -/
theorem algebraic_k3 : Cert.algebraic_Kernel3Ideal_Reference3Ideal := fun m ρ m' ρ' _ hag =>
  ⟨fun c i => Cert.Linear.residual 0 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (i 0) (i 1) (i 2),
    (θ_run _ _ _).mono (fun _ h c => ⟨(h c).1.trans (Cert.Out0.final m c), (h c).2⟩) (Cert.Kernel3Ideal.Value.run_blocks m ρ),
    (θ_run _ _ _).mono (fun _ h c => ⟨(h c).1.trans (by
      rw [Cert.Reference3Ideal.Read.val_main_v11_eq, (hag c).1, (hag c).2.1, (hag c).2.2.1, (hag c).2.2.2.1, (hag c).2.2.2.2]
      funext i
      change Cert.Reference3Ideal.S4x4096x4096.Idx at i
      idx_vars i
      exact Cert.Out0.ref_final _ _ _ _ _ i0 i1 i2), (h c).2⟩) (Cert.Reference3Ideal.Value.run (F := Ideal) m' ρ')⟩

/-- The frame of the reference of the second layer's output projection: it ends with its arguments unchanged and every counter at zero. -/
theorem frame_r4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The idealized call of the second layer's output projection and its reference leave the same array. -/
theorem algebraic_k4 : Cert.algebraic_Kernel4Ideal_Reference4Ideal := fun m ρ m' ρ' _ hag =>
  ⟨fun c i => Cert.Linear.residual 1 (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)) (i 0) (i 1) (i 2),
    (θ_run _ _ _).mono (fun _ h c => ⟨(h c).1.trans (Cert.Out1.final m c), (h c).2⟩) (Cert.Kernel4Ideal.Value.run_blocks m ρ),
    (θ_run _ _ _).mono (fun _ h c => ⟨(h c).1.trans (by
      rw [Cert.Reference4Ideal.Read.val_main_v11_eq, (hag c).1, (hag c).2.1, (hag c).2.2.1, (hag c).2.2.2.1, (hag c).2.2.2.2]
      funext i
      change Cert.Reference4Ideal.S4x4096x4096.Idx at i
      idx_vars i
      exact Cert.Out1.ref_final _ _ _ _ _ i0 i1 i2), (h c).2⟩) (Cert.Reference4Ideal.Value.run (F := Ideal) m' ρ')⟩

/-- The frame of the reference of the third layer's output projection: it ends with its arguments unchanged and every counter at zero. -/
theorem frame_r5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The idealized call of the third layer's output projection and its reference leave the same array. -/
theorem algebraic_k5 : Cert.algebraic_Kernel5Ideal_Reference5Ideal := fun m ρ m' ρ' _ hag =>
  ⟨fun c i => Cert.Linear.residual 2 (m (c.tc.loc Cert.Kernel5Ideal.main_arg0)) (m (c.tc.loc Cert.Kernel5Ideal.main_arg1)) (m (c.tc.loc Cert.Kernel5Ideal.main_arg2)) (m (c.tc.loc Cert.Kernel5Ideal.main_arg3)) (m (c.tc.loc Cert.Kernel5Ideal.main_arg4)) (i 0) (i 1) (i 2),
    (θ_run _ _ _).mono (fun _ h c => ⟨(h c).1.trans (Cert.Out2.final m c), (h c).2⟩) (Cert.Kernel5Ideal.Value.run_blocks m ρ),
    (θ_run _ _ _).mono (fun _ h c => ⟨(h c).1.trans (by
      rw [Cert.Reference5Ideal.Read.val_main_v11_eq, (hag c).1, (hag c).2.1, (hag c).2.2.1, (hag c).2.2.2.1, (hag c).2.2.2.2]
      funext i
      change Cert.Reference5Ideal.S4x4096x4096.Idx at i
      idx_vars i
      exact Cert.Out2.ref_final _ _ _ _ _ i0 i1 i2), (h c).2⟩) (Cert.Reference5Ideal.Value.run (F := Ideal) m' ρ')⟩

/-- The frame of the reference of the fourth layer's output projection: it ends with its arguments unchanged and every counter at zero. -/
theorem frame_r6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The idealized call of the fourth layer's output projection and its reference leave the same array. -/
theorem algebraic_k6 : Cert.algebraic_Kernel6Ideal_Reference6Ideal := fun m ρ m' ρ' _ hag =>
  ⟨fun c i => Cert.Linear.residual 3 (m (c.tc.loc Cert.Kernel6Ideal.main_arg0)) (m (c.tc.loc Cert.Kernel6Ideal.main_arg1)) (m (c.tc.loc Cert.Kernel6Ideal.main_arg2)) (m (c.tc.loc Cert.Kernel6Ideal.main_arg3)) (m (c.tc.loc Cert.Kernel6Ideal.main_arg4)) (i 0) (i 1) (i 2),
    (θ_run _ _ _).mono (fun _ h c => ⟨(h c).1.trans (Cert.Out3.final m c), (h c).2⟩) (Cert.Kernel6Ideal.Value.run_blocks m ρ),
    (θ_run _ _ _).mono (fun _ h c => ⟨(h c).1.trans (by
      rw [Cert.Reference6Ideal.Read.val_main_v11_eq, (hag c).1, (hag c).2.1, (hag c).2.2.1, (hag c).2.2.2.1, (hag c).2.2.2.2]
      funext i
      change Cert.Reference6Ideal.S4x4096x4096.Idx at i
      idx_vars i
      exact Cert.Out3.ref_final _ _ _ _ _ i0 i1 i2), (h c).2⟩) (Cert.Reference6Ideal.Value.run (F := Ideal) m' ρ')⟩

/-- The frame of the reference of the gated projection: it ends with its arguments unchanged and every counter at zero. -/
theorem frame_r7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The idealized call of the gated projection and its reference leave the same array. -/
theorem algebraic_k7 : Cert.algebraic_Kernel7Ideal_Reference7Ideal := fun m ρ m' ρ' _ hag =>
  ⟨fun c i => Cert.Linear.gated (m (c.tc.loc Cert.Kernel7Ideal.main_arg0)) (m (c.tc.loc Cert.Kernel7Ideal.main_arg1)) (m (c.tc.loc Cert.Kernel7Ideal.main_arg2)) (i 0) (i 1),
    (θ_run _ _ _).mono (fun _ h c => ⟨(h c).1.trans (Cert.Glu.final m c), (h c).2⟩) (Cert.Kernel7Ideal.Value.run_blocks m ρ),
    (θ_run _ _ _).mono (fun _ h c => ⟨(h c).1.trans (by
      rw [Cert.Reference7Ideal.Read.val_main_v15_eq, (hag c).1, (hag c).2.1, (hag c).2.2]
      funext i
      change Cert.Reference7Ideal.S16384x4096.Idx at i
      idx_vars i
      exact Cert.Glu.ref_final _ _ _ i0 i1), (h c).2⟩) (Cert.Reference7Ideal.Value.run (F := Ideal) m' ρ')⟩

/-- The frame of the reference of the projection to the differential attention's queries, keys and values: it ends with its arguments unchanged and every counter at zero. -/
theorem frame_r12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

/-- The idealized call of the projection to the differential attention's queries, keys and values and its reference leave the same array. -/
theorem algebraic_k12 : Cert.algebraic_Kernel12Ideal_Reference12Ideal := fun m ρ m' ρ' _ hag =>
  ⟨fun c i => Cert.Rope.qkv (n := 12288) (by decide) 4096 8192 id id (m (c.tc.loc Cert.Kernel12Ideal.main_arg0)) (m (c.tc.loc Cert.Kernel12Ideal.main_arg1)) (m (c.tc.loc Cert.Kernel12Ideal.main_arg2)) (m (c.tc.loc Cert.Kernel12Ideal.main_arg3)) (i 0) (i 1),
    (θ_run _ _ _).mono (fun _ h c => ⟨(h c).1.trans (Cert.Qkv.final m c), (h c).2⟩) (Cert.Kernel12Ideal.Value.run_blocks m ρ),
    (θ_run _ _ _).mono (fun _ h c => ⟨(h c).1.trans (by
      rw [Cert.Reference12Ideal.Read.val_main_v73_eq, (hag c).1, (hag c).2.1, (hag c).2.2.1, (hag c).2.2.2]
      funext i
      change Cert.Reference12Ideal.S16384x12288.Idx at i
      idx_vars i
      exact Cert.Qkv.ref_final _ _ _ _ i0 i1), (h c).2⟩) (Cert.Reference12Ideal.Value.run (F := Ideal) m' ρ')⟩

/-- The frame of the reference of the projection to the grouped-query attention's queries, keys and values: it ends with its arguments unchanged and every counter at zero. -/
theorem frame_r13 : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- The idealized call of the projection to the grouped-query attention's queries, keys and values and its reference leave the same array. -/
theorem algebraic_k13 : Cert.algebraic_Kernel13Ideal_Reference13Ideal := fun m ρ m' ρ' _ hag =>
  ⟨fun c i => Cert.GqaQkv.out (m (c.tc.loc Cert.Kernel13Ideal.main_arg0)) (m (c.tc.loc Cert.Kernel13Ideal.main_arg1)) (m (c.tc.loc Cert.Kernel13Ideal.main_arg2)) (m (c.tc.loc Cert.Kernel13Ideal.main_arg3)) (m (c.tc.loc Cert.Kernel13Ideal.main_arg4)) (m (c.tc.loc Cert.Kernel13Ideal.main_arg5)) (i 0) (i 1),
    (θ_run _ _ _).mono (fun _ h c => ⟨(h c).1.trans (Cert.GqaQkv.final m c), (h c).2⟩) (Cert.Kernel13Ideal.Value.run_blocks m ρ),
    (θ_run _ _ _).mono (fun _ h c => ⟨(h c).1.trans (by
      rw [Cert.Reference13Ideal.Read.val_main_v99_eq, (hag c).1, (hag c).2.1, (hag c).2.2.1, (hag c).2.2.2.1, (hag c).2.2.2.2.1, (hag c).2.2.2.2.2]
      funext i
      change Cert.Reference13Ideal.S16384x6144.Idx at i
      idx_vars i
      exact Cert.GqaQkv.ref_final _ _ _ _ _ _ i0 i1), (h c).2⟩) (Cert.Reference13Ideal.Value.run (F := Ideal) m' ρ')⟩

/-- The frame of the reference of the first layer's output projection over the context rows: it ends with its arguments unchanged and every counter at zero. -/
theorem frame_r16 : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

/-- The idealized call of the first layer's output projection over the context rows and its reference leave the same array. -/
theorem algebraic_k16 : Cert.algebraic_Kernel16Ideal_Reference16Ideal := fun m ρ m' ρ' _ hag =>
  ⟨fun c i => Cert.Linear.residualCtx 0 (m (c.tc.loc Cert.Kernel16Ideal.main_arg0)) (m (c.tc.loc Cert.Kernel16Ideal.main_arg1)) (m (c.tc.loc Cert.Kernel16Ideal.main_arg2)) (m (c.tc.loc Cert.Kernel16Ideal.main_arg3)) (m (c.tc.loc Cert.Kernel16Ideal.main_arg4)) (i 0) (i 1) (i 2),
    (θ_run _ _ _).mono (fun _ h c => ⟨(h c).1.trans (Cert.OutCtx0.final m c), (h c).2⟩) (Cert.Kernel16Ideal.Value.run_blocks m ρ),
    (θ_run _ _ _).mono (fun _ h c => ⟨(h c).1.trans (by
      rw [Cert.Reference16Ideal.Read.val_main_v12_eq, (hag c).1, (hag c).2.1, (hag c).2.2.1, (hag c).2.2.2.1, (hag c).2.2.2.2]
      funext i
      change Cert.Reference16Ideal.S4x256x4096.Idx at i
      idx_vars i
      exact Cert.OutCtx0.ref_final _ _ _ _ _ i0 i1 i2), (h c).2⟩) (Cert.Reference16Ideal.Value.run (F := Ideal) m' ρ')⟩

/-- The frame of the reference of the second layer's output projection over the context rows: it ends with its arguments unchanged and every counter at zero. -/
theorem frame_r17 : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

/-- The idealized call of the second layer's output projection over the context rows and its reference leave the same array. -/
theorem algebraic_k17 : Cert.algebraic_Kernel17Ideal_Reference17Ideal := fun m ρ m' ρ' _ hag =>
  ⟨fun c i => Cert.Linear.residualCtx 1 (m (c.tc.loc Cert.Kernel17Ideal.main_arg0)) (m (c.tc.loc Cert.Kernel17Ideal.main_arg1)) (m (c.tc.loc Cert.Kernel17Ideal.main_arg2)) (m (c.tc.loc Cert.Kernel17Ideal.main_arg3)) (m (c.tc.loc Cert.Kernel17Ideal.main_arg4)) (i 0) (i 1) (i 2),
    (θ_run _ _ _).mono (fun _ h c => ⟨(h c).1.trans (Cert.OutCtx1.final m c), (h c).2⟩) (Cert.Kernel17Ideal.Value.run_blocks m ρ),
    (θ_run _ _ _).mono (fun _ h c => ⟨(h c).1.trans (by
      rw [Cert.Reference17Ideal.Read.val_main_v12_eq, (hag c).1, (hag c).2.1, (hag c).2.2.1, (hag c).2.2.2.1, (hag c).2.2.2.2]
      funext i
      change Cert.Reference17Ideal.S4x256x4096.Idx at i
      idx_vars i
      exact Cert.OutCtx1.ref_final _ _ _ _ _ i0 i1 i2), (h c).2⟩) (Cert.Reference17Ideal.Value.run (F := Ideal) m' ρ')⟩

/-- The frame of the reference of the context rows' projection to the differential attention's queries, keys and values: it ends with its arguments unchanged and every counter at zero. -/
theorem frame_r18 : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

/-- The idealized call of the context rows' projection to the differential attention's queries, keys and values and its reference leave the same array. -/
theorem algebraic_k18 : Cert.algebraic_Kernel18Ideal_Reference18Ideal := fun m ρ m' ρ' _ hag =>
  ⟨fun c i => Cert.QkvCtx.out (m (c.tc.loc Cert.Kernel18Ideal.main_arg0)) (m (c.tc.loc Cert.Kernel18Ideal.main_arg1)) (m (c.tc.loc Cert.Kernel18Ideal.main_arg2)) (m (c.tc.loc Cert.Kernel18Ideal.main_arg3)) (i 0) (i 1),
    (θ_run _ _ _).mono (fun _ h c => ⟨(h c).1.trans (Cert.QkvCtx.final m c), (h c).2⟩) (Cert.Kernel18Ideal.Value.run_blocks m ρ),
    (θ_run _ _ _).mono (fun _ h c => ⟨(h c).1.trans (by
      rw [Cert.Reference18Ideal.Read.val_main_v8_eq, (hag c).1, (hag c).2.1]
      funext i
      change Cert.Reference18Ideal.S1024x12288.Idx at i
      idx_vars i
      exact Cert.QkvCtx.ref_final _ _ _ _ i0 i1), (h c).2⟩) (Cert.Reference18Ideal.Value.run (F := Ideal) m' ρ')⟩

/-- The frame of the reference of the context rows' projection to the grouped-query attention's queries, keys and values: it ends with its arguments unchanged and every counter at zero. -/
theorem frame_r19 : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

/-- The idealized call of the context rows' projection to the grouped-query attention's queries, keys and values and its reference leave the same array. -/
theorem algebraic_k19 : Cert.algebraic_Kernel19Ideal_Reference19Ideal := fun m ρ m' ρ' _ hag =>
  ⟨fun c i => Cert.GqaQkvCtx.out (m (c.tc.loc Cert.Kernel19Ideal.main_arg0)) (m (c.tc.loc Cert.Kernel19Ideal.main_arg1)) (m (c.tc.loc Cert.Kernel19Ideal.main_arg2)) (m (c.tc.loc Cert.Kernel19Ideal.main_arg3)) (m (c.tc.loc Cert.Kernel19Ideal.main_arg4)) (m (c.tc.loc Cert.Kernel19Ideal.main_arg5)) (i 0) (i 1),
    (θ_run _ _ _).mono (fun _ h c => ⟨(h c).1.trans (Cert.GqaQkvCtx.final m c), (h c).2⟩) (Cert.Kernel19Ideal.Value.run_blocks m ρ),
    (θ_run _ _ _).mono (fun _ h c => ⟨(h c).1.trans (by
      rw [Cert.Reference19Ideal.Read.val_main_v39_eq, (hag c).1, (hag c).2.1, (hag c).2.2.2.2.1, (hag c).2.2.2.2.2]
      funext i
      change Cert.Reference19Ideal.S1024x6144.Idx at i
      idx_vars i
      exact Cert.GqaQkvCtx.ref_final _ _ _ _ _ _ i0 i1), (h c).2⟩) (Cert.Reference19Ideal.Value.run (F := Ideal) m' ρ')⟩

/-- The frame of the call of the first layer's experts, under the precondition on its tables: it ends with its arguments unchanged and every counter at zero. -/
theorem frame_k8 : Cert.quiescent_Kernel8 := fun m ρ hp =>
  have q := Cert.Kernel8.Experts.of_words m fun n => Cert.Tables.words _ _ _ _ _ _ _ (hp 0) n
  Cert.Kernel8.Experts.frame m ρ q.2.1 q.2.2

/-- The frame of the idealized call of the first layer's experts, under the precondition on its tables: it ends with its arguments unchanged and every counter at zero. -/
theorem frame_k8i : Cert.quiescent_Kernel8Ideal := fun m ρ hp =>
  have q := Cert.Kernel8.Experts.of_words m fun n => Cert.Tables.words _ _ _ _ _ _ _ (hp 0) n
  Cert.Kernel8Ideal.Experts.transfer _ _ (Cert.Kernel8.Experts.frame m ρ q.2.1 q.2.2)

/-- The frame of the reference of the first layer's experts: it ends with its arguments unchanged and every counter at zero. -/
theorem frame_r8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The idealized call of the first layer's experts and its reference leave the same array, under the precondition on the tables. -/
theorem algebraic_k8 : Cert.algebraic_Kernel8Ideal_Reference8Ideal := fun m ρ m' ρ' hp hag =>
  have hw := fun (c : Dev Cert.Kernel8Ideal.nD) n => Cert.Tables.words _ _ _ _ _ _ _ (hp c) n
  have q := Cert.Kernel8.Experts.of_words m (hw 0)
  ⟨fun c (i : Cert.Kernel8Ideal.S73728x4096.Idx) => Cert.Expert.result rfl 0 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (i 0) (i 1),
    (θ_run _ _ _).mono (fun _ h c => ⟨(h c).1, (h c).2 c⟩) (Cert.Kernel8Ideal.Experts.transfer _ _ (Cert.Kernel8.Experts.value m ρ q.2.1 q.2.2 q.1)),
    (θ_run _ _ _).mono (fun _ h c => ⟨(h c).1.trans (by
      rw [Cert.Reference8Ideal.Read.val_main_v60_eq, (hag c).1, (hag c).2.1, (hag c).2.2.1, (hag c).2.2.2.1, (hag c).2.2.2.2.1, (hag c).2.2.2.2.2.1, (hag c).2.2.2.2.2.2]
      funext i
      change Cert.Reference8Ideal.S73728x4096.Idx at i
      idx_vars i
      exact Cert.Reference8Ideal.Experts.ref_final _ _ _ _ _ _ _ (hw c) i0 i1), (h c).2⟩) (Cert.Reference8Ideal.Value.run (F := Ideal) m' ρ')⟩

/-- The frame of the call of the second layer's experts, under the precondition on its tables: it ends with its arguments unchanged and every counter at zero. -/
theorem frame_k9 : Cert.quiescent_Kernel9 := fun m ρ hp =>
  have q := Cert.Kernel9.Experts.of_words m fun n => Cert.Tables.words _ _ _ _ _ _ _ (hp 0) n
  Cert.Kernel9.Experts.frame m ρ q.2.1 q.2.2

/-- The frame of the idealized call of the second layer's experts, under the precondition on its tables: it ends with its arguments unchanged and every counter at zero. -/
theorem frame_k9i : Cert.quiescent_Kernel9Ideal := fun m ρ hp =>
  have q := Cert.Kernel9.Experts.of_words m fun n => Cert.Tables.words _ _ _ _ _ _ _ (hp 0) n
  Cert.Kernel9Ideal.Experts.transfer _ _ (Cert.Kernel9.Experts.frame m ρ q.2.1 q.2.2)

/-- The frame of the reference of the second layer's experts: it ends with its arguments unchanged and every counter at zero. -/
theorem frame_r9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The idealized call of the second layer's experts and its reference leave the same array, under the precondition on the tables. -/
theorem algebraic_k9 : Cert.algebraic_Kernel9Ideal_Reference9Ideal := fun m ρ m' ρ' hp hag =>
  have hw := fun (c : Dev Cert.Kernel9Ideal.nD) n => Cert.Tables.words _ _ _ _ _ _ _ (hp c) n
  have q := Cert.Kernel9.Experts.of_words m (hw 0)
  ⟨fun c (i : Cert.Kernel9Ideal.S73728x4096.Idx) => Cert.Expert.result rfl 1 (m (c.tc.loc Cert.Kernel9Ideal.main_arg0)) (m (c.tc.loc Cert.Kernel9Ideal.main_arg1)) (m (c.tc.loc Cert.Kernel9Ideal.main_arg2)) (m (c.tc.loc Cert.Kernel9Ideal.main_arg3)) (m (c.tc.loc Cert.Kernel9Ideal.main_arg4)) (m (c.tc.loc Cert.Kernel9Ideal.main_arg5)) (m (c.tc.loc Cert.Kernel9Ideal.main_arg6)) (i 0) (i 1),
    (θ_run _ _ _).mono (fun _ h c => ⟨(h c).1, (h c).2 c⟩) (Cert.Kernel9Ideal.Experts.transfer _ _ (Cert.Kernel9.Experts.value m ρ q.2.1 q.2.2 q.1)),
    (θ_run _ _ _).mono (fun _ h c => ⟨(h c).1.trans (by
      rw [Cert.Reference9Ideal.Read.val_main_v60_eq, (hag c).1, (hag c).2.1, (hag c).2.2.1, (hag c).2.2.2.1, (hag c).2.2.2.2.1, (hag c).2.2.2.2.2.1, (hag c).2.2.2.2.2.2]
      funext i
      change Cert.Reference9Ideal.S73728x4096.Idx at i
      idx_vars i
      exact Cert.Reference9Ideal.Experts.ref_final _ _ _ _ _ _ _ (hw c) i0 i1), (h c).2⟩) (Cert.Reference9Ideal.Value.run (F := Ideal) m' ρ')⟩

/-- The frame of the call of the third layer's experts, under the precondition on its tables: it ends with its arguments unchanged and every counter at zero. -/
theorem frame_k10 : Cert.quiescent_Kernel10 := fun m ρ hp =>
  have q := Cert.Kernel10.Experts.of_words m fun n => Cert.Tables.words _ _ _ _ _ _ _ (hp 0) n
  Cert.Kernel10.Experts.frame m ρ q.2.1 q.2.2

/-- The frame of the idealized call of the third layer's experts, under the precondition on its tables: it ends with its arguments unchanged and every counter at zero. -/
theorem frame_k10i : Cert.quiescent_Kernel10Ideal := fun m ρ hp =>
  have q := Cert.Kernel10.Experts.of_words m fun n => Cert.Tables.words _ _ _ _ _ _ _ (hp 0) n
  Cert.Kernel10Ideal.Experts.transfer _ _ (Cert.Kernel10.Experts.frame m ρ q.2.1 q.2.2)

/-- The frame of the reference of the third layer's experts: it ends with its arguments unchanged and every counter at zero. -/
theorem frame_r10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The idealized call of the third layer's experts and its reference leave the same array, under the precondition on the tables. -/
theorem algebraic_k10 : Cert.algebraic_Kernel10Ideal_Reference10Ideal := fun m ρ m' ρ' hp hag =>
  have hw := fun (c : Dev Cert.Kernel10Ideal.nD) n => Cert.Tables.words _ _ _ _ _ _ _ (hp c) n
  have q := Cert.Kernel10.Experts.of_words m (hw 0)
  ⟨fun c (i : Cert.Kernel10Ideal.S73728x4096.Idx) => Cert.Expert.result rfl 2 (m (c.tc.loc Cert.Kernel10Ideal.main_arg0)) (m (c.tc.loc Cert.Kernel10Ideal.main_arg1)) (m (c.tc.loc Cert.Kernel10Ideal.main_arg2)) (m (c.tc.loc Cert.Kernel10Ideal.main_arg3)) (m (c.tc.loc Cert.Kernel10Ideal.main_arg4)) (m (c.tc.loc Cert.Kernel10Ideal.main_arg5)) (m (c.tc.loc Cert.Kernel10Ideal.main_arg6)) (i 0) (i 1),
    (θ_run _ _ _).mono (fun _ h c => ⟨(h c).1, (h c).2 c⟩) (Cert.Kernel10Ideal.Experts.transfer _ _ (Cert.Kernel10.Experts.value m ρ q.2.1 q.2.2 q.1)),
    (θ_run _ _ _).mono (fun _ h c => ⟨(h c).1.trans (by
      rw [Cert.Reference10Ideal.Read.val_main_v60_eq, (hag c).1, (hag c).2.1, (hag c).2.2.1, (hag c).2.2.2.1, (hag c).2.2.2.2.1, (hag c).2.2.2.2.2.1, (hag c).2.2.2.2.2.2]
      funext i
      change Cert.Reference10Ideal.S73728x4096.Idx at i
      idx_vars i
      exact Cert.Reference10Ideal.Experts.ref_final _ _ _ _ _ _ _ (hw c) i0 i1), (h c).2⟩) (Cert.Reference10Ideal.Value.run (F := Ideal) m' ρ')⟩

/-- The frame of the call of the fourth layer's experts, under the precondition on its tables: it ends with its arguments unchanged and every counter at zero. -/
theorem frame_k11 : Cert.quiescent_Kernel11 := fun m ρ hp =>
  have q := Cert.Kernel11.Experts.of_words m fun n => Cert.Tables.words _ _ _ _ _ _ _ (hp 0) n
  Cert.Kernel11.Experts.frame m ρ q.2.1 q.2.2

/-- The frame of the idealized call of the fourth layer's experts, under the precondition on its tables: it ends with its arguments unchanged and every counter at zero. -/
theorem frame_k11i : Cert.quiescent_Kernel11Ideal := fun m ρ hp =>
  have q := Cert.Kernel11.Experts.of_words m fun n => Cert.Tables.words _ _ _ _ _ _ _ (hp 0) n
  Cert.Kernel11Ideal.Experts.transfer _ _ (Cert.Kernel11.Experts.frame m ρ q.2.1 q.2.2)

/-- The frame of the reference of the fourth layer's experts: it ends with its arguments unchanged and every counter at zero. -/
theorem frame_r11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The idealized call of the fourth layer's experts and its reference leave the same array, under the precondition on the tables. -/
theorem algebraic_k11 : Cert.algebraic_Kernel11Ideal_Reference11Ideal := fun m ρ m' ρ' hp hag =>
  have hw := fun (c : Dev Cert.Kernel11Ideal.nD) n => Cert.Tables.words _ _ _ _ _ _ _ (hp c) n
  have q := Cert.Kernel11.Experts.of_words m (hw 0)
  ⟨fun c (i : Cert.Kernel11Ideal.S73728x4096.Idx) => Cert.Expert.result rfl 3 (m (c.tc.loc Cert.Kernel11Ideal.main_arg0)) (m (c.tc.loc Cert.Kernel11Ideal.main_arg1)) (m (c.tc.loc Cert.Kernel11Ideal.main_arg2)) (m (c.tc.loc Cert.Kernel11Ideal.main_arg3)) (m (c.tc.loc Cert.Kernel11Ideal.main_arg4)) (m (c.tc.loc Cert.Kernel11Ideal.main_arg5)) (m (c.tc.loc Cert.Kernel11Ideal.main_arg6)) (i 0) (i 1),
    (θ_run _ _ _).mono (fun _ h c => ⟨(h c).1, (h c).2 c⟩) (Cert.Kernel11Ideal.Experts.transfer _ _ (Cert.Kernel11.Experts.value m ρ q.2.1 q.2.2 q.1)),
    (θ_run _ _ _).mono (fun _ h c => ⟨(h c).1.trans (by
      rw [Cert.Reference11Ideal.Read.val_main_v60_eq, (hag c).1, (hag c).2.1, (hag c).2.2.1, (hag c).2.2.2.1, (hag c).2.2.2.2.1, (hag c).2.2.2.2.2.1, (hag c).2.2.2.2.2.2]
      funext i
      change Cert.Reference11Ideal.S73728x4096.Idx at i
      idx_vars i
      exact Cert.Reference11Ideal.Experts.ref_final _ _ _ _ _ _ _ (hw c) i0 i1), (h c).2⟩) (Cert.Reference11Ideal.Value.run (F := Ideal) m' ρ')⟩

/-- The frame of the call of the first layer's experts over the context rows, under the precondition on its tables: it ends with its arguments unchanged and every counter at zero. -/
theorem frame_k14 : Cert.quiescent_Kernel14 := fun m ρ hp =>
  have q := Cert.Kernel14.Experts.of_words m fun n => Cert.ContextTables.words _ _ _ _ _ _ _ (hp 0) n
  Cert.Kernel14.Experts.frame m ρ q.2.1 q.2.2

/-- The frame of the idealized call of the first layer's experts over the context rows, under the precondition on its tables: it ends with its arguments unchanged and every counter at zero. -/
theorem frame_k14i : Cert.quiescent_Kernel14Ideal := fun m ρ hp =>
  have q := Cert.Kernel14.Experts.of_words m fun n => Cert.ContextTables.words _ _ _ _ _ _ _ (hp 0) n
  Cert.Kernel14Ideal.Experts.transfer _ _ (Cert.Kernel14.Experts.frame m ρ q.2.1 q.2.2)

/-- The frame of the reference of the first layer's experts over the context rows: it ends with its arguments unchanged and every counter at zero. -/
theorem frame_r14 : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- The idealized call of the first layer's experts over the context rows and its reference leave the same array, under the precondition on the tables. -/
theorem algebraic_k14 : Cert.algebraic_Kernel14Ideal_Reference14Ideal := fun m ρ m' ρ' hp hag =>
  have hw := fun (c : Dev Cert.Kernel14Ideal.nD) n => Cert.ContextTables.words _ _ _ _ _ _ _ (hp c) n
  have q := Cert.Kernel14.Experts.of_words m (hw 0)
  ⟨fun c (i : Cert.Kernel14Ideal.S12288x4096.Idx) => Cert.Expert.result rfl 0 (m (c.tc.loc Cert.Kernel14Ideal.main_arg0)) (m (c.tc.loc Cert.Kernel14Ideal.main_arg1)) (m (c.tc.loc Cert.Kernel14Ideal.main_arg2)) (m (c.tc.loc Cert.Kernel14Ideal.main_arg3)) (m (c.tc.loc Cert.Kernel14Ideal.main_arg4)) (m (c.tc.loc Cert.Kernel14Ideal.main_arg5)) (m (c.tc.loc Cert.Kernel14Ideal.main_arg6)) (i 0) (i 1),
    (θ_run _ _ _).mono (fun _ h c => ⟨(h c).1, (h c).2 c⟩) (Cert.Kernel14Ideal.Experts.transfer _ _ (Cert.Kernel14.Experts.value m ρ q.2.1 q.2.2 q.1)),
    (θ_run _ _ _).mono (fun _ h c => ⟨(h c).1.trans (by
      rw [Cert.Reference14Ideal.Read.val_main_v60_eq, (hag c).1, (hag c).2.1, (hag c).2.2.1, (hag c).2.2.2.1, (hag c).2.2.2.2.1, (hag c).2.2.2.2.2.1, (hag c).2.2.2.2.2.2]
      funext i
      change Cert.Reference14Ideal.S12288x4096.Idx at i
      idx_vars i
      exact Cert.Reference14Ideal.Experts.ref_final _ _ _ _ _ _ _ (hw c) i0 i1), (h c).2⟩) (Cert.Reference14Ideal.Value.run (F := Ideal) m' ρ')⟩

/-- The frame of the call of the second layer's experts over the context rows, under the precondition on its tables: it ends with its arguments unchanged and every counter at zero. -/
theorem frame_k15 : Cert.quiescent_Kernel15 := fun m ρ hp =>
  have q := Cert.Kernel15.Experts.of_words m fun n => Cert.ContextTables.words _ _ _ _ _ _ _ (hp 0) n
  Cert.Kernel15.Experts.frame m ρ q.2.1 q.2.2

/-- The frame of the idealized call of the second layer's experts over the context rows, under the precondition on its tables: it ends with its arguments unchanged and every counter at zero. -/
theorem frame_k15i : Cert.quiescent_Kernel15Ideal := fun m ρ hp =>
  have q := Cert.Kernel15.Experts.of_words m fun n => Cert.ContextTables.words _ _ _ _ _ _ _ (hp 0) n
  Cert.Kernel15Ideal.Experts.transfer _ _ (Cert.Kernel15.Experts.frame m ρ q.2.1 q.2.2)

/-- The frame of the reference of the second layer's experts over the context rows: it ends with its arguments unchanged and every counter at zero. -/
theorem frame_r15 : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

/-- The idealized call of the second layer's experts over the context rows and its reference leave the same array, under the precondition on the tables. -/
theorem algebraic_k15 : Cert.algebraic_Kernel15Ideal_Reference15Ideal := fun m ρ m' ρ' hp hag =>
  have hw := fun (c : Dev Cert.Kernel15Ideal.nD) n => Cert.ContextTables.words _ _ _ _ _ _ _ (hp c) n
  have q := Cert.Kernel15.Experts.of_words m (hw 0)
  ⟨fun c (i : Cert.Kernel15Ideal.S12288x4096.Idx) => Cert.Expert.result rfl 1 (m (c.tc.loc Cert.Kernel15Ideal.main_arg0)) (m (c.tc.loc Cert.Kernel15Ideal.main_arg1)) (m (c.tc.loc Cert.Kernel15Ideal.main_arg2)) (m (c.tc.loc Cert.Kernel15Ideal.main_arg3)) (m (c.tc.loc Cert.Kernel15Ideal.main_arg4)) (m (c.tc.loc Cert.Kernel15Ideal.main_arg5)) (m (c.tc.loc Cert.Kernel15Ideal.main_arg6)) (i 0) (i 1),
    (θ_run _ _ _).mono (fun _ h c => ⟨(h c).1, (h c).2 c⟩) (Cert.Kernel15Ideal.Experts.transfer _ _ (Cert.Kernel15.Experts.value m ρ q.2.1 q.2.2 q.1)),
    (θ_run _ _ _).mono (fun _ h c => ⟨(h c).1.trans (by
      rw [Cert.Reference15Ideal.Read.val_main_v60_eq, (hag c).1, (hag c).2.1, (hag c).2.2.1, (hag c).2.2.2.1, (hag c).2.2.2.2.1, (hag c).2.2.2.2.2.1, (hag c).2.2.2.2.2.2]
      funext i
      change Cert.Reference15Ideal.S12288x4096.Idx at i
      idx_vars i
      exact Cert.Reference15Ideal.Experts.ref_final _ _ _ _ _ _ _ (hw c) i0 i1), (h c).2⟩) (Cert.Reference15Ideal.Value.run (F := Ideal) m' ρ')⟩

/-- The certificate: the frames, the idealizations' ledgers and the values of the calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_tables.Gen.facts,
  Cert.Pre_context_tables.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  frame_k8, frame_k8i, frame_r8,
  frame_k9, frame_k9i, frame_r9,
  frame_k10, frame_k10i, frame_r10,
  frame_k11, frame_k11i, frame_r11,
  fun m ρ _ => Cert.Kernel12.Gen.frame m ρ, fun m ρ _ => Cert.Kernel12Ideal.Gen.frame m ρ, frame_r12,
  fun m ρ _ => Cert.Kernel13.Gen.frame m ρ, fun m ρ _ => Cert.Kernel13Ideal.Gen.frame m ρ, frame_r13,
  frame_k14, frame_k14i, frame_r14,
  frame_k15, frame_k15i, frame_r15,
  fun m ρ _ => Cert.Kernel16.Gen.frame m ρ, fun m ρ _ => Cert.Kernel16Ideal.Gen.frame m ρ, frame_r16,
  fun m ρ _ => Cert.Kernel17.Gen.frame m ρ, fun m ρ _ => Cert.Kernel17Ideal.Gen.frame m ρ, frame_r17,
  fun m ρ _ => Cert.Kernel18.Gen.frame m ρ, fun m ρ _ => Cert.Kernel18Ideal.Gen.frame m ρ, frame_r18,
  fun m ρ _ => Cert.Kernel19.Gen.frame m ρ, fun m ρ _ => Cert.Kernel19Ideal.Gen.frame m ρ, frame_r19,
  trivial, algebraic_k,
  trivial, algebraic_k2,
  trivial, algebraic_k3,
  trivial, algebraic_k4,
  trivial, algebraic_k5,
  trivial, algebraic_k6,
  trivial, algebraic_k7,
  trivial, algebraic_k8,
  trivial, algebraic_k9,
  trivial, algebraic_k10,
  trivial, algebraic_k11,
  trivial, algebraic_k12,
  trivial, algebraic_k13,
  trivial, algebraic_k14,
  trivial, algebraic_k15,
  trivial, algebraic_k16,
  trivial, algebraic_k17,
  trivial, algebraic_k18,
  trivial, algebraic_k19⟩

end Cert.Proof

end
